-- ==== Defs.lean ====
def Pre_Lb (m : (ℓ : Loc Cert.Lb.nD Cert.Lb.τ Cert.Lb.sig) → Buf (Elt Bits) ℓ) : Prop :=
  True

def Pre_LbIdeal (m : (ℓ : Loc Cert.LbIdeal.nD Cert.LbIdeal.τ Cert.LbIdeal.sig) → Buf (Elt Ideal) ℓ) : Prop :=
  True

def Pre_LbIdeal_lb_finite [hPre_lb_finite : Cert.Pre_lb_finite.Facts] (m : (ℓ : Loc Cert.LbIdeal.nD Cert.LbIdeal.τ Cert.LbIdeal.sig) → Buf (Elt Ideal) ℓ) : Prop :=
  ∀ c : Dev Cert.LbIdeal.nD,
    (Cert.Pre_lb_finite.fn (F := Ideal) (m ((c.tc : Thread Cert.LbIdeal.nD Cert.LbIdeal.τ).loc Cert.LbIdeal.main_arg0)) (m ((c.tc : Thread Cert.LbIdeal.nD Cert.LbIdeal.τ).loc Cert.LbIdeal.main_arg1))) = (fun _ => 1#1)

def Pre_LbRefIdeal (m : (ℓ : Loc Cert.LbRefIdeal.nD Cert.LbRefIdeal.τ Cert.LbRefIdeal.sig) → Buf (Elt Ideal) ℓ) : Prop :=
  True

def Pre_LbRefIdeal_lb_finite [hPre_lb_finite : Cert.Pre_lb_finite.Facts] (m : (ℓ : Loc Cert.LbRefIdeal.nD Cert.LbRefIdeal.τ Cert.LbRefIdeal.sig) → Buf (Elt Ideal) ℓ) : Prop :=
  ∀ c : Dev Cert.LbRefIdeal.nD,
    (Cert.Pre_lb_finite.fn (F := Ideal) (m ((c.tc : Thread Cert.LbRefIdeal.nD Cert.LbRefIdeal.τ).loc Cert.LbRefIdeal.main_arg0)) (m ((c.tc : Thread Cert.LbRefIdeal.nD Cert.LbRefIdeal.τ).loc Cert.LbRefIdeal.main_arg1))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))).1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))).2.1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))).2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_dact_finite [hPre_dact_finite : Cert.Pre_dact_finite.Facts] (m : (ℓ : Loc Cert.DactIdeal.nD Cert.DactIdeal.τ Cert.DactIdeal.sig) → Buf (Elt Ideal) ℓ) : Prop :=
  ∀ c : Dev Cert.DactIdeal.nD,
    (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).1 = (fun _ => 1#1)
    ∧ (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.1 = (fun _ => 1#1)
    ∧ (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.2.1 = (fun _ => 1#1)
    ∧ (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.2.2 = (fun _ => 1#1)

def Pre_DactRefIdeal (m : (ℓ : Loc Cert.DactRefIdeal.nD Cert.DactRefIdeal.τ Cert.DactRefIdeal.sig) → Buf (Elt Ideal) ℓ) : Prop :=
  True

def Pre_DactRefIdeal_dact_finite [hPre_dact_finite : Cert.Pre_dact_finite.Facts] (m : (ℓ : Loc Cert.DactRefIdeal.nD Cert.DactRefIdeal.τ Cert.DactRefIdeal.sig) → Buf (Elt Ideal) ℓ) : Prop :=
  ∀ c : Dev Cert.DactRefIdeal.nD,
    (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).1 = (fun _ => 1#1)
    ∧ (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.1 = (fun _ => 1#1)
    ∧ (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.2.1 = (fun _ => 1#1)
    ∧ (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.2.2 = (fun _ => 1#1)

def Pre_Dmerge (m : (ℓ : Loc Cert.Dmerge.nD Cert.Dmerge.τ Cert.Dmerge.sig) → Buf (Elt Bits) ℓ) : Prop :=
  True

def Pre_DmergeIdeal (m : (ℓ : Loc Cert.DmergeIdeal.nD Cert.DmergeIdeal.τ Cert.DmergeIdeal.sig) → Buf (Elt Ideal) ℓ) : Prop :=
  True

def Pre_DmergeRefIdeal (m : (ℓ : Loc Cert.DmergeRefIdeal.nD Cert.DmergeRefIdeal.τ Cert.DmergeRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Afwd (m : (ℓ : Loc Cert.Afwd.nD Cert.Afwd.τ Cert.Afwd.sig) → Buf (Elt Bits) ℓ) : Prop :=
  True

def Pre_AfwdIdeal (m : (ℓ : Loc Cert.AfwdIdeal.nD Cert.AfwdIdeal.τ Cert.AfwdIdeal.sig) → Buf (Elt Ideal) ℓ) : Prop :=
  True

def Pre_AfwdIdeal_afwd_finite [hPre_afwd_finite : Cert.Pre_afwd_finite.Facts] (m : (ℓ : Loc Cert.AfwdIdeal.nD Cert.AfwdIdeal.τ Cert.AfwdIdeal.sig) → Buf (Elt Ideal) ℓ) : Prop :=
  ∀ c : Dev Cert.AfwdIdeal.nD,
    (Cert.Pre_afwd_finite.fn (F := Ideal) (m ((c.tc : Thread Cert.AfwdIdeal.nD Cert.AfwdIdeal.τ).loc Cert.AfwdIdeal.main_arg0)) (m ((c.tc : Thread Cert.AfwdIdeal.nD Cert.AfwdIdeal.τ).loc Cert.AfwdIdeal.main_arg1)) (m ((c.tc : Thread Cert.AfwdIdeal.nD Cert.AfwdIdeal.τ).loc Cert.AfwdIdeal.main_arg2))).1 = (fun _ => 1#1)
    ∧ (Cert.Pre_afwd_finite.fn (F := Ideal) (m ((c.tc : Thread Cert.AfwdIdeal.nD Cert.AfwdIdeal.τ).loc Cert.AfwdIdeal.main_arg0)) (m ((c.tc : Thread Cert.AfwdIdeal.nD Cert.AfwdIdeal.τ).loc Cert.AfwdIdeal.main_arg1)) (m ((c.tc : Thread Cert.AfwdIdeal.nD Cert.AfwdIdeal.τ).loc Cert.AfwdIdeal.main_arg2))).2.1 = (fun _ => 1#1)
    ∧ (Cert.Pre_afwd_finite.fn (F := Ideal) (m ((c.tc : Thread Cert.AfwdIdeal.nD Cert.AfwdIdeal.τ).loc Cert.AfwdIdeal.main_arg0)) (m ((c.tc : Thread Cert.AfwdIdeal.nD Cert.AfwdIdeal.τ).loc Cert.AfwdIdeal.main_arg1)) (m ((c.tc : Thread Cert.AfwdIdeal.nD Cert.AfwdIdeal.τ).loc Cert.AfwdIdeal.main_arg2))).2.2 = (fun _ => 1#1)

def Pre_AfwdRefIdeal (m : (ℓ : Loc Cert.AfwdRefIdeal.nD Cert.AfwdRefIdeal.τ Cert.AfwdRefIdeal.sig) → Buf (Elt Ideal) ℓ) : Prop :=
  True

def Pre_AfwdRefIdeal_afwd_finite [hPre_afwd_finite : Cert.Pre_afwd_finite.Facts] (m : (ℓ : Loc Cert.AfwdRefIdeal.nD Cert.AfwdRefIdeal.τ Cert.AfwdRefIdeal.sig) → Buf (Elt Ideal) ℓ) : Prop :=
  ∀ c : Dev Cert.AfwdRefIdeal.nD,
    (Cert.Pre_afwd_finite.fn (F := Ideal) (m ((c.tc : Thread Cert.AfwdRefIdeal.nD Cert.AfwdRefIdeal.τ).loc Cert.AfwdRefIdeal.main_arg0)) (m ((c.tc : Thread Cert.AfwdRefIdeal.nD Cert.AfwdRefIdeal.τ).loc Cert.AfwdRefIdeal.main_arg1)) (m ((c.tc : Thread Cert.AfwdRefIdeal.nD Cert.AfwdRefIdeal.τ).loc Cert.AfwdRefIdeal.main_arg2))).1 = (fun _ => 1#1)
    ∧ (Cert.Pre_afwd_finite.fn (F := Ideal) (m ((c.tc : Thread Cert.AfwdRefIdeal.nD Cert.AfwdRefIdeal.τ).loc Cert.AfwdRefIdeal.main_arg0)) (m ((c.tc : Thread Cert.AfwdRefIdeal.nD Cert.AfwdRefIdeal.τ).loc Cert.AfwdRefIdeal.main_arg1)) (m ((c.tc : Thread Cert.AfwdRefIdeal.nD Cert.AfwdRefIdeal.τ).loc Cert.AfwdRefIdeal.main_arg2))).2.1 = (fun _ => 1#1)
    ∧ (Cert.Pre_afwd_finite.fn (F := Ideal) (m ((c.tc : Thread Cert.AfwdRefIdeal.nD Cert.AfwdRefIdeal.τ).loc Cert.AfwdRefIdeal.main_arg0)) (m ((c.tc : Thread Cert.AfwdRefIdeal.nD Cert.AfwdRefIdeal.τ).loc Cert.AfwdRefIdeal.main_arg1)) (m ((c.tc : Thread Cert.AfwdRefIdeal.nD Cert.AfwdRefIdeal.τ).loc Cert.AfwdRefIdeal.main_arg2))).2.2 = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaRefIdeal (m : (ℓ : Loc Cert.MlaRefIdeal.nD Cert.MlaRefIdeal.τ Cert.MlaRefIdeal.sig) → Buf (Elt Ideal) ℓ) : Prop :=
  True

def Pre_Hg (m : (ℓ : Loc Cert.Hg.nD Cert.Hg.τ Cert.Hg.sig) → Buf (Elt Bits) ℓ) : Prop :=
  True

def Pre_HgIdeal (m : (ℓ : Loc Cert.HgIdeal.nD Cert.HgIdeal.τ Cert.HgIdeal.sig) → Buf (Elt Ideal) ℓ) : Prop :=
  True

def Pre_HgRefIdeal (m : (ℓ : Loc Cert.HgRefIdeal.nD Cert.HgRefIdeal.τ Cert.HgRefIdeal.sig) → Buf (Elt Ideal) ℓ) : Prop :=
  True

def Pre_Nfwd (m : (ℓ : Loc Cert.Nfwd.nD Cert.Nfwd.τ Cert.Nfwd.sig) → Buf (Elt Bits) ℓ) : Prop :=
  True

def Pre_NfwdIdeal (m : (ℓ : Loc Cert.NfwdIdeal.nD Cert.NfwdIdeal.τ Cert.NfwdIdeal.sig) → Buf (Elt Ideal) ℓ) : Prop :=
  True

def Pre_NfwdRefIdeal (m : (ℓ : Loc Cert.NfwdRefIdeal.nD Cert.NfwdRefIdeal.τ Cert.NfwdRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Lbf (m : (ℓ : Loc Cert.Lbf.nD Cert.Lbf.τ Cert.Lbf.sig) → Buf (Elt Bits) ℓ) : Prop :=
  True

def Pre_LbfIdeal (m : (ℓ : Loc Cert.LbfIdeal.nD Cert.LbfIdeal.τ Cert.LbfIdeal.sig) → Buf (Elt Ideal) ℓ) : Prop :=
  True

def Pre_LbfIdeal_lbf_finite [hPre_lbf_finite : Cert.Pre_lbf_finite.Facts] (m : (ℓ : Loc Cert.LbfIdeal.nD Cert.LbfIdeal.τ Cert.LbfIdeal.sig) → Buf (Elt Ideal) ℓ) : Prop :=
  ∀ c : Dev Cert.LbfIdeal.nD,
    (Cert.Pre_lbf_finite.fn (F := Ideal) (m ((c.tc : Thread Cert.LbfIdeal.nD Cert.LbfIdeal.τ).loc Cert.LbfIdeal.main_arg0))) = (fun _ => 1#1)

def Pre_LbfRefIdeal (m : (ℓ : Loc Cert.LbfRefIdeal.nD Cert.LbfRefIdeal.τ Cert.LbfRefIdeal.sig) → Buf (Elt Ideal) ℓ) : Prop :=
  True

def Pre_LbfRefIdeal_lbf_finite [hPre_lbf_finite : Cert.Pre_lbf_finite.Facts] (m : (ℓ : Loc Cert.LbfRefIdeal.nD Cert.LbfRefIdeal.τ Cert.LbfRefIdeal.sig) → Buf (Elt Ideal) ℓ) : Prop :=
  ∀ c : Dev Cert.LbfRefIdeal.nD,
    (Cert.Pre_lbf_finite.fn (F := Ideal) (m ((c.tc : Thread Cert.LbfRefIdeal.nD Cert.LbfRefIdeal.τ).loc Cert.LbfRefIdeal.main_arg0))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Dxn (m : (ℓ : Loc Cert.Dxn.nD Cert.Dxn.τ Cert.Dxn.sig) → Buf (Elt Bits) ℓ) : Prop :=
  True

def Pre_DxnIdeal (m : (ℓ : Loc Cert.DxnIdeal.nD Cert.DxnIdeal.τ Cert.DxnIdeal.sig) → Buf (Elt Ideal) ℓ) : Prop :=
  True

def Pre_DxnRefIdeal (m : (ℓ : Loc Cert.DxnRefIdeal.nD Cert.DxnRefIdeal.τ Cert.DxnRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Asmall (m : (ℓ : Loc Cert.Asmall.nD Cert.Asmall.τ Cert.Asmall.sig) → Buf (Elt Bits) ℓ) : Prop :=
  True

def Pre_AsmallIdeal (m : (ℓ : Loc Cert.AsmallIdeal.nD Cert.AsmallIdeal.τ Cert.AsmallIdeal.sig) → Buf (Elt Ideal) ℓ) : Prop :=
  True

def Pre_AsmallRefIdeal (m : (ℓ : Loc Cert.AsmallRefIdeal.nD Cert.AsmallRefIdeal.τ Cert.AsmallRefIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontRefIdeal (m : (ℓ : Loc Cert.FrontRefIdeal.nD Cert.FrontRefIdeal.τ Cert.FrontRefIdeal.sig) → Buf (Elt Ideal) ℓ) : Prop :=
  True

def quiescent_Lb [hLb : Cert.Lb.Facts] : Prop :=
  ∀ (m : (ℓ : Loc Cert.Lb.nD Cert.Lb.τ Cert.Lb.sig) → Buf (Elt Bits) ℓ) (g : Dev Cert.Lb.nD → PrngReg), Pre_Lb m →
    θ_run (Cert.Lb.defs (F := Bits)) (onTc (τ := Cert.Lb.τ) (Cert.Lb.main (F := Bits))) ⟨m, fun _ => 0, g⟩ (fun r => (∀ c : Dev Cert.Lb.nD,
      r.2.mem ((c.tc : Thread Cert.Lb.nD Cert.Lb.τ).loc Cert.Lb.main_arg0) = m ((c.tc : Thread Cert.Lb.nD Cert.Lb.τ).loc Cert.Lb.main_arg0)
      ∧ r.2.mem ((c.tc : Thread Cert.Lb.nD Cert.Lb.τ).loc Cert.Lb.main_arg1) = m ((c.tc : Thread Cert.Lb.nD Cert.Lb.τ).loc Cert.Lb.main_arg1))
      ∧ r.2.sem = fun _ => 0)

def quiescent_LbIdeal [hLbIdeal : Cert.LbIdeal.Facts] : Prop :=
  ∀ (m : (ℓ : Loc Cert.LbIdeal.nD Cert.LbIdeal.τ Cert.LbIdeal.sig) → Buf (Elt Ideal) ℓ) (g : Dev Cert.LbIdeal.nD → PrngReg), Pre_LbIdeal m →
    θ_run (Cert.LbIdeal.defs (F := Ideal)) (onTc (τ := Cert.LbIdeal.τ) (Cert.LbIdeal.main (F := Ideal))) ⟨m, fun _ => 0, g⟩ (fun r => (∀ c : Dev Cert.LbIdeal.nD,
      r.2.mem ((c.tc : Thread Cert.LbIdeal.nD Cert.LbIdeal.τ).loc Cert.LbIdeal.main_arg0) = m ((c.tc : Thread Cert.LbIdeal.nD Cert.LbIdeal.τ).loc Cert.LbIdeal.main_arg0)
      ∧ r.2.mem ((c.tc : Thread Cert.LbIdeal.nD Cert.LbIdeal.τ).loc Cert.LbIdeal.main_arg1) = m ((c.tc : Thread Cert.LbIdeal.nD Cert.LbIdeal.τ).loc Cert.LbIdeal.main_arg1))
      ∧ r.2.sem = fun _ => 0)

def quiescent_LbIdeal_pre_lb_finite [hLbIdeal : Cert.LbIdeal.Facts] [hPre_lb_finite : Cert.Pre_lb_finite.Facts] : Prop :=
  ∀ (m : (ℓ : Loc Cert.LbIdeal.nD Cert.LbIdeal.τ Cert.LbIdeal.sig) → Buf (Elt Ideal) ℓ) (g : Dev Cert.LbIdeal.nD → PrngReg), Pre_LbIdeal_lb_finite m →
    θ_run (Cert.LbIdeal.defs (F := Ideal)) (onTc (τ := Cert.LbIdeal.τ) (Cert.LbIdeal.main (F := Ideal))) ⟨m, fun _ => 0, g⟩ (fun r => (∀ c : Dev Cert.LbIdeal.nD,
      r.2.mem ((c.tc : Thread Cert.LbIdeal.nD Cert.LbIdeal.τ).loc Cert.LbIdeal.main_arg0) = m ((c.tc : Thread Cert.LbIdeal.nD Cert.LbIdeal.τ).loc Cert.LbIdeal.main_arg0)
      ∧ r.2.mem ((c.tc : Thread Cert.LbIdeal.nD Cert.LbIdeal.τ).loc Cert.LbIdeal.main_arg1) = m ((c.tc : Thread Cert.LbIdeal.nD Cert.LbIdeal.τ).loc Cert.LbIdeal.main_arg1))
      ∧ r.2.sem = fun _ => 0)

def quiescent_LbRefIdeal [hLbRefIdeal : Cert.LbRefIdeal.Facts] : Prop :=
  ∀ (m : (ℓ : Loc Cert.LbRefIdeal.nD Cert.LbRefIdeal.τ Cert.LbRefIdeal.sig) → Buf (Elt Ideal) ℓ) (g : Dev Cert.LbRefIdeal.nD → PrngReg), Pre_LbRefIdeal m →
    θ_run (Cert.LbRefIdeal.defs (F := Ideal)) (onTc (τ := Cert.LbRefIdeal.τ) (Cert.LbRefIdeal.main (F := Ideal))) ⟨m, fun _ => 0, g⟩ (fun r => (∀ c : Dev Cert.LbRefIdeal.nD,
      r.2.mem ((c.tc : Thread Cert.LbRefIdeal.nD Cert.LbRefIdeal.τ).loc Cert.LbRefIdeal.main_arg0) = m ((c.tc : Thread Cert.LbRefIdeal.nD Cert.LbRefIdeal.τ).loc Cert.LbRefIdeal.main_arg0)
      ∧ r.2.mem ((c.tc : Thread Cert.LbRefIdeal.nD Cert.LbRefIdeal.τ).loc Cert.LbRefIdeal.main_arg1) = m ((c.tc : Thread Cert.LbRefIdeal.nD Cert.LbRefIdeal.τ).loc Cert.LbRefIdeal.main_arg1))
      ∧ r.2.sem = fun _ => 0)

def quiescent_LbRefIdeal_pre_lb_finite [hLbRefIdeal : Cert.LbRefIdeal.Facts] [hPre_lb_finite : Cert.Pre_lb_finite.Facts] : Prop :=
  ∀ (m : (ℓ : Loc Cert.LbRefIdeal.nD Cert.LbRefIdeal.τ Cert.LbRefIdeal.sig) → Buf (Elt Ideal) ℓ) (g : Dev Cert.LbRefIdeal.nD → PrngReg), Pre_LbRefIdeal_lb_finite m →
    θ_run (Cert.LbRefIdeal.defs (F := Ideal)) (onTc (τ := Cert.LbRefIdeal.τ) (Cert.LbRefIdeal.main (F := Ideal))) ⟨m, fun _ => 0, g⟩ (fun r => (∀ c : Dev Cert.LbRefIdeal.nD,
      r.2.mem ((c.tc : Thread Cert.LbRefIdeal.nD Cert.LbRefIdeal.τ).loc Cert.LbRefIdeal.main_arg0) = m ((c.tc : Thread Cert.LbRefIdeal.nD Cert.LbRefIdeal.τ).loc Cert.LbRefIdeal.main_arg0)
      ∧ r.2.mem ((c.tc : Thread Cert.LbRefIdeal.nD Cert.LbRefIdeal.τ).loc Cert.LbRefIdeal.main_arg1) = m ((c.tc : Thread Cert.LbRefIdeal.nD Cert.LbRefIdeal.τ).loc Cert.LbRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactIdeal_pre_dact_finite [hDactIdeal : Cert.DactIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg), Pre_DactIdeal_dact_finite m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_DactRefIdeal_pre_dact_finite [hDactRefIdeal : Cert.DactRefIdeal.Facts] [hPre_dact_finite : Cert.Pre_dact_finite.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal_dact_finite m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_Dmerge [hDmerge : Cert.Dmerge.Facts] : Prop :=
  ∀ (m : (ℓ : Loc Cert.Dmerge.nD Cert.Dmerge.τ Cert.Dmerge.sig) → Buf (Elt Bits) ℓ) (g : Dev Cert.Dmerge.nD → PrngReg), Pre_Dmerge m →
    θ_run (Cert.Dmerge.defs (F := Bits)) (onTc (τ := Cert.Dmerge.τ) (Cert.Dmerge.main (F := Bits))) ⟨m, fun _ => 0, g⟩ (fun r => (∀ c : Dev Cert.Dmerge.nD,
      r.2.mem ((c.tc : Thread Cert.Dmerge.nD Cert.Dmerge.τ).loc Cert.Dmerge.main_arg0) = m ((c.tc : Thread Cert.Dmerge.nD Cert.Dmerge.τ).loc Cert.Dmerge.main_arg0)
      ∧ r.2.mem ((c.tc : Thread Cert.Dmerge.nD Cert.Dmerge.τ).loc Cert.Dmerge.main_arg1) = m ((c.tc : Thread Cert.Dmerge.nD Cert.Dmerge.τ).loc Cert.Dmerge.main_arg1)
      ∧ r.2.mem ((c.tc : Thread Cert.Dmerge.nD Cert.Dmerge.τ).loc Cert.Dmerge.main_arg2) = m ((c.tc : Thread Cert.Dmerge.nD Cert.Dmerge.τ).loc Cert.Dmerge.main_arg2)
      ∧ r.2.mem ((c.tc : Thread Cert.Dmerge.nD Cert.Dmerge.τ).loc Cert.Dmerge.main_arg3) = m ((c.tc : Thread Cert.Dmerge.nD Cert.Dmerge.τ).loc Cert.Dmerge.main_arg3)
      ∧ r.2.mem ((c.tc : Thread Cert.Dmerge.nD Cert.Dmerge.τ).loc Cert.Dmerge.main_arg4) = m ((c.tc : Thread Cert.Dmerge.nD Cert.Dmerge.τ).loc Cert.Dmerge.main_arg4)
      ∧ r.2.mem ((c.tc : Thread Cert.Dmerge.nD Cert.Dmerge.τ).loc Cert.Dmerge.main_arg5) = m ((c.tc : Thread Cert.Dmerge.nD Cert.Dmerge.τ).loc Cert.Dmerge.main_arg5))
      ∧ r.2.sem = fun _ => 0)

def quiescent_DmergeIdeal [hDmergeIdeal : Cert.DmergeIdeal.Facts] : Prop :=
  ∀ (m : (ℓ : Loc Cert.DmergeIdeal.nD Cert.DmergeIdeal.τ Cert.DmergeIdeal.sig) → Buf (Elt Ideal) ℓ) (g : Dev Cert.DmergeIdeal.nD → PrngReg), Pre_DmergeIdeal m →
    θ_run (Cert.DmergeIdeal.defs (F := Ideal)) (onTc (τ := Cert.DmergeIdeal.τ) (Cert.DmergeIdeal.main (F := Ideal))) ⟨m, fun _ => 0, g⟩ (fun r => (∀ c : Dev Cert.DmergeIdeal.nD,
      r.2.mem ((c.tc : Thread Cert.DmergeIdeal.nD Cert.DmergeIdeal.τ).loc Cert.DmergeIdeal.main_arg0) = m ((c.tc : Thread Cert.DmergeIdeal.nD Cert.DmergeIdeal.τ).loc Cert.DmergeIdeal.main_arg0)
      ∧ r.2.mem ((c.tc : Thread Cert.DmergeIdeal.nD Cert.DmergeIdeal.τ).loc Cert.DmergeIdeal.main_arg1) = m ((c.tc : Thread Cert.DmergeIdeal.nD Cert.DmergeIdeal.τ).loc Cert.DmergeIdeal.main_arg1)
      ∧ r.2.mem ((c.tc : Thread Cert.DmergeIdeal.nD Cert.DmergeIdeal.τ).loc Cert.DmergeIdeal.main_arg2) = m ((c.tc : Thread Cert.DmergeIdeal.nD Cert.DmergeIdeal.τ).loc Cert.DmergeIdeal.main_arg2)
      ∧ r.2.mem ((c.tc : Thread Cert.DmergeIdeal.nD Cert.DmergeIdeal.τ).loc Cert.DmergeIdeal.main_arg3) = m ((c.tc : Thread Cert.DmergeIdeal.nD Cert.DmergeIdeal.τ).loc Cert.DmergeIdeal.main_arg3)
      ∧ r.2.mem ((c.tc : Thread Cert.DmergeIdeal.nD Cert.DmergeIdeal.τ).loc Cert.DmergeIdeal.main_arg4) = m ((c.tc : Thread Cert.DmergeIdeal.nD Cert.DmergeIdeal.τ).loc Cert.DmergeIdeal.main_arg4)
      ∧ r.2.mem ((c.tc : Thread Cert.DmergeIdeal.nD Cert.DmergeIdeal.τ).loc Cert.DmergeIdeal.main_arg5) = m ((c.tc : Thread Cert.DmergeIdeal.nD Cert.DmergeIdeal.τ).loc Cert.DmergeIdeal.main_arg5))
      ∧ r.2.sem = fun _ => 0)

def quiescent_DmergeRefIdeal [hDmergeRefIdeal : Cert.DmergeRefIdeal.Facts] : Prop :=
  ∀ (m : (ℓ : Loc Cert.DmergeRefIdeal.nD Cert.DmergeRefIdeal.τ Cert.DmergeRefIdeal.sig) → Buf (Elt Ideal) ℓ) (g : Dev Cert.DmergeRefIdeal.nD → PrngReg), Pre_DmergeRefIdeal m →
    θ_run (Cert.DmergeRefIdeal.defs (F := Ideal)) (onTc (τ := Cert.DmergeRefIdeal.τ) (Cert.DmergeRefIdeal.main (F := Ideal))) ⟨m, fun _ => 0, g⟩ (fun r => (∀ c : Dev Cert.DmergeRefIdeal.nD,
      r.2.mem ((c.tc : Thread Cert.DmergeRefIdeal.nD Cert.DmergeRefIdeal.τ).loc Cert.DmergeRefIdeal.main_arg0) = m ((c.tc : Thread Cert.DmergeRefIdeal.nD Cert.DmergeRefIdeal.τ).loc Cert.DmergeRefIdeal.main_arg0)
      ∧ r.2.mem ((c.tc : Thread Cert.DmergeRefIdeal.nD Cert.DmergeRefIdeal.τ).loc Cert.DmergeRefIdeal.main_arg1) = m ((c.tc : Thread Cert.DmergeRefIdeal.nD Cert.DmergeRefIdeal.τ).loc Cert.DmergeRefIdeal.main_arg1)
      ∧ r.2.mem ((c.tc : Thread Cert.DmergeRefIdeal.nD Cert.DmergeRefIdeal.τ).loc Cert.DmergeRefIdeal.main_arg2) = m ((c.tc : Thread Cert.DmergeRefIdeal.nD Cert.DmergeRefIdeal.τ).loc Cert.DmergeRefIdeal.main_arg2)
      ∧ r.2.mem ((c.tc : Thread Cert.DmergeRefIdeal.nD Cert.DmergeRefIdeal.τ).loc Cert.DmergeRefIdeal.main_arg3) = m ((c.tc : Thread Cert.DmergeRefIdeal.nD Cert.DmergeRefIdeal.τ).loc Cert.DmergeRefIdeal.main_arg3)
      ∧ r.2.mem ((c.tc : Thread Cert.DmergeRefIdeal.nD Cert.DmergeRefIdeal.τ).loc Cert.DmergeRefIdeal.main_arg4) = m ((c.tc : Thread Cert.DmergeRefIdeal.nD Cert.DmergeRefIdeal.τ).loc Cert.DmergeRefIdeal.main_arg4)
      ∧ r.2.mem ((c.tc : Thread Cert.DmergeRefIdeal.nD Cert.DmergeRefIdeal.τ).loc Cert.DmergeRefIdeal.main_arg5) = m ((c.tc : Thread Cert.DmergeRefIdeal.nD Cert.DmergeRefIdeal.τ).loc Cert.DmergeRefIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Afwd [hAfwd : Cert.Afwd.Facts] : Prop :=
  ∀ (m : (ℓ : Loc Cert.Afwd.nD Cert.Afwd.τ Cert.Afwd.sig) → Buf (Elt Bits) ℓ) (g : Dev Cert.Afwd.nD → PrngReg), Pre_Afwd m →
    θ_run (Cert.Afwd.defs (F := Bits)) (onTc (τ := Cert.Afwd.τ) (Cert.Afwd.main (F := Bits))) ⟨m, fun _ => 0, g⟩ (fun r => (∀ c : Dev Cert.Afwd.nD,
      r.2.mem ((c.tc : Thread Cert.Afwd.nD Cert.Afwd.τ).loc Cert.Afwd.main_arg0) = m ((c.tc : Thread Cert.Afwd.nD Cert.Afwd.τ).loc Cert.Afwd.main_arg0)
      ∧ r.2.mem ((c.tc : Thread Cert.Afwd.nD Cert.Afwd.τ).loc Cert.Afwd.main_arg1) = m ((c.tc : Thread Cert.Afwd.nD Cert.Afwd.τ).loc Cert.Afwd.main_arg1)
      ∧ r.2.mem ((c.tc : Thread Cert.Afwd.nD Cert.Afwd.τ).loc Cert.Afwd.main_arg2) = m ((c.tc : Thread Cert.Afwd.nD Cert.Afwd.τ).loc Cert.Afwd.main_arg2))
      ∧ r.2.sem = fun _ => 0)

def quiescent_AfwdIdeal [hAfwdIdeal : Cert.AfwdIdeal.Facts] : Prop :=
  ∀ (m : (ℓ : Loc Cert.AfwdIdeal.nD Cert.AfwdIdeal.τ Cert.AfwdIdeal.sig) → Buf (Elt Ideal) ℓ) (g : Dev Cert.AfwdIdeal.nD → PrngReg), Pre_AfwdIdeal m →
    θ_run (Cert.AfwdIdeal.defs (F := Ideal)) (onTc (τ := Cert.AfwdIdeal.τ) (Cert.AfwdIdeal.main (F := Ideal))) ⟨m, fun _ => 0, g⟩ (fun r => (∀ c : Dev Cert.AfwdIdeal.nD,
      r.2.mem ((c.tc : Thread Cert.AfwdIdeal.nD Cert.AfwdIdeal.τ).loc Cert.AfwdIdeal.main_arg0) = m ((c.tc : Thread Cert.AfwdIdeal.nD Cert.AfwdIdeal.τ).loc Cert.AfwdIdeal.main_arg0)
      ∧ r.2.mem ((c.tc : Thread Cert.AfwdIdeal.nD Cert.AfwdIdeal.τ).loc Cert.AfwdIdeal.main_arg1) = m ((c.tc : Thread Cert.AfwdIdeal.nD Cert.AfwdIdeal.τ).loc Cert.AfwdIdeal.main_arg1)
      ∧ r.2.mem ((c.tc : Thread Cert.AfwdIdeal.nD Cert.AfwdIdeal.τ).loc Cert.AfwdIdeal.main_arg2) = m ((c.tc : Thread Cert.AfwdIdeal.nD Cert.AfwdIdeal.τ).loc Cert.AfwdIdeal.main_arg2))
      ∧ r.2.sem = fun _ => 0)

def quiescent_AfwdIdeal_pre_afwd_finite [hAfwdIdeal : Cert.AfwdIdeal.Facts] [hPre_afwd_finite : Cert.Pre_afwd_finite.Facts] : Prop :=
  ∀ (m : (ℓ : Loc Cert.AfwdIdeal.nD Cert.AfwdIdeal.τ Cert.AfwdIdeal.sig) → Buf (Elt Ideal) ℓ) (g : Dev Cert.AfwdIdeal.nD → PrngReg), Pre_AfwdIdeal_afwd_finite m →
    θ_run (Cert.AfwdIdeal.defs (F := Ideal)) (onTc (τ := Cert.AfwdIdeal.τ) (Cert.AfwdIdeal.main (F := Ideal))) ⟨m, fun _ => 0, g⟩ (fun r => (∀ c : Dev Cert.AfwdIdeal.nD,
      r.2.mem ((c.tc : Thread Cert.AfwdIdeal.nD Cert.AfwdIdeal.τ).loc Cert.AfwdIdeal.main_arg0) = m ((c.tc : Thread Cert.AfwdIdeal.nD Cert.AfwdIdeal.τ).loc Cert.AfwdIdeal.main_arg0)
      ∧ r.2.mem ((c.tc : Thread Cert.AfwdIdeal.nD Cert.AfwdIdeal.τ).loc Cert.AfwdIdeal.main_arg1) = m ((c.tc : Thread Cert.AfwdIdeal.nD Cert.AfwdIdeal.τ).loc Cert.AfwdIdeal.main_arg1)
      ∧ r.2.mem ((c.tc : Thread Cert.AfwdIdeal.nD Cert.AfwdIdeal.τ).loc Cert.AfwdIdeal.main_arg2) = m ((c.tc : Thread Cert.AfwdIdeal.nD Cert.AfwdIdeal.τ).loc Cert.AfwdIdeal.main_arg2))
      ∧ r.2.sem = fun _ => 0)

def quiescent_AfwdRefIdeal [hAfwdRefIdeal : Cert.AfwdRefIdeal.Facts] : Prop :=
  ∀ (m : (ℓ : Loc Cert.AfwdRefIdeal.nD Cert.AfwdRefIdeal.τ Cert.AfwdRefIdeal.sig) → Buf (Elt Ideal) ℓ) (g : Dev Cert.AfwdRefIdeal.nD → PrngReg), Pre_AfwdRefIdeal m →
    θ_run (Cert.AfwdRefIdeal.defs (F := Ideal)) (onTc (τ := Cert.AfwdRefIdeal.τ) (Cert.AfwdRefIdeal.main (F := Ideal))) ⟨m, fun _ => 0, g⟩ (fun r => (∀ c : Dev Cert.AfwdRefIdeal.nD,
      r.2.mem ((c.tc : Thread Cert.AfwdRefIdeal.nD Cert.AfwdRefIdeal.τ).loc Cert.AfwdRefIdeal.main_arg0) = m ((c.tc : Thread Cert.AfwdRefIdeal.nD Cert.AfwdRefIdeal.τ).loc Cert.AfwdRefIdeal.main_arg0)
      ∧ r.2.mem ((c.tc : Thread Cert.AfwdRefIdeal.nD Cert.AfwdRefIdeal.τ).loc Cert.AfwdRefIdeal.main_arg1) = m ((c.tc : Thread Cert.AfwdRefIdeal.nD Cert.AfwdRefIdeal.τ).loc Cert.AfwdRefIdeal.main_arg1)
      ∧ r.2.mem ((c.tc : Thread Cert.AfwdRefIdeal.nD Cert.AfwdRefIdeal.τ).loc Cert.AfwdRefIdeal.main_arg2) = m ((c.tc : Thread Cert.AfwdRefIdeal.nD Cert.AfwdRefIdeal.τ).loc Cert.AfwdRefIdeal.main_arg2))
      ∧ r.2.sem = fun _ => 0)

def quiescent_AfwdRefIdeal_pre_afwd_finite [hAfwdRefIdeal : Cert.AfwdRefIdeal.Facts] [hPre_afwd_finite : Cert.Pre_afwd_finite.Facts] : Prop :=
  ∀ (m : (ℓ : Loc Cert.AfwdRefIdeal.nD Cert.AfwdRefIdeal.τ Cert.AfwdRefIdeal.sig) → Buf (Elt Ideal) ℓ) (g : Dev Cert.AfwdRefIdeal.nD → PrngReg), Pre_AfwdRefIdeal_afwd_finite m →
    θ_run (Cert.AfwdRefIdeal.defs (F := Ideal)) (onTc (τ := Cert.AfwdRefIdeal.τ) (Cert.AfwdRefIdeal.main (F := Ideal))) ⟨m, fun _ => 0, g⟩ (fun r => (∀ c : Dev Cert.AfwdRefIdeal.nD,
      r.2.mem ((c.tc : Thread Cert.AfwdRefIdeal.nD Cert.AfwdRefIdeal.τ).loc Cert.AfwdRefIdeal.main_arg0) = m ((c.tc : Thread Cert.AfwdRefIdeal.nD Cert.AfwdRefIdeal.τ).loc Cert.AfwdRefIdeal.main_arg0)
      ∧ r.2.mem ((c.tc : Thread Cert.AfwdRefIdeal.nD Cert.AfwdRefIdeal.τ).loc Cert.AfwdRefIdeal.main_arg1) = m ((c.tc : Thread Cert.AfwdRefIdeal.nD Cert.AfwdRefIdeal.τ).loc Cert.AfwdRefIdeal.main_arg1)
      ∧ r.2.mem ((c.tc : Thread Cert.AfwdRefIdeal.nD Cert.AfwdRefIdeal.τ).loc Cert.AfwdRefIdeal.main_arg2) = m ((c.tc : Thread Cert.AfwdRefIdeal.nD Cert.AfwdRefIdeal.τ).loc Cert.AfwdRefIdeal.main_arg2))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6)
      ∧ r.2.mem ((c.tc : Thread Cert.Mla.nD Cert.Mla.τ).loc Cert.Mla.main_arg7) = m ((c.tc : Thread Cert.Mla.nD Cert.Mla.τ).loc Cert.Mla.main_arg7)
      ∧ r.2.mem ((c.tc : Thread Cert.Mla.nD Cert.Mla.τ).loc Cert.Mla.main_arg8) = m ((c.tc : Thread Cert.Mla.nD Cert.Mla.τ).loc Cert.Mla.main_arg8)
      ∧ r.2.mem ((c.tc : Thread Cert.Mla.nD Cert.Mla.τ).loc Cert.Mla.main_arg9) = m ((c.tc : Thread Cert.Mla.nD Cert.Mla.τ).loc Cert.Mla.main_arg9))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
      ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8)
      ∧ r.2.mem ((c.tc : Thread Cert.MlaRefIdeal.nD Cert.MlaRefIdeal.τ).loc Cert.MlaRefIdeal.main_arg9) = m ((c.tc : Thread Cert.MlaRefIdeal.nD Cert.MlaRefIdeal.τ).loc Cert.MlaRefIdeal.main_arg9))
      ∧ r.2.sem = fun _ => 0)

def quiescent_Hg [hHg : Cert.Hg.Facts] : Prop :=
  ∀ (m : (ℓ : Loc Cert.Hg.nD Cert.Hg.τ Cert.Hg.sig) → Buf (Elt Bits) ℓ) (g : Dev Cert.Hg.nD → PrngReg), Pre_Hg m →
    θ_run (Cert.Hg.defs (F := Bits)) (onTc (τ := Cert.Hg.τ) (Cert.Hg.main (F := Bits))) ⟨m, fun _ => 0, g⟩ (fun r => (∀ c : Dev Cert.Hg.nD,
      r.2.mem ((c.tc : Thread Cert.Hg.nD Cert.Hg.τ).loc Cert.Hg.main_arg0) = m ((c.tc : Thread Cert.Hg.nD Cert.Hg.τ).loc Cert.Hg.main_arg0)
      ∧ r.2.mem ((c.tc : Thread Cert.Hg.nD Cert.Hg.τ).loc Cert.Hg.main_arg1) = m ((c.tc : Thread Cert.Hg.nD Cert.Hg.τ).loc Cert.Hg.main_arg1)
      ∧ r.2.mem ((c.tc : Thread Cert.Hg.nD Cert.Hg.τ).loc Cert.Hg.main_arg2) = m ((c.tc : Thread Cert.Hg.nD Cert.Hg.τ).loc Cert.Hg.main_arg2)
      ∧ r.2.mem ((c.tc : Thread Cert.Hg.nD Cert.Hg.τ).loc Cert.Hg.main_arg3) = m ((c.tc : Thread Cert.Hg.nD Cert.Hg.τ).loc Cert.Hg.main_arg3)
      ∧ r.2.mem ((c.tc : Thread Cert.Hg.nD Cert.Hg.τ).loc Cert.Hg.main_arg4) = m ((c.tc : Thread Cert.Hg.nD Cert.Hg.τ).loc Cert.Hg.main_arg4)
      ∧ r.2.mem ((c.tc : Thread Cert.Hg.nD Cert.Hg.τ).loc Cert.Hg.main_arg5) = m ((c.tc : Thread Cert.Hg.nD Cert.Hg.τ).loc Cert.Hg.main_arg5)
      ∧ r.2.mem ((c.tc : Thread Cert.Hg.nD Cert.Hg.τ).loc Cert.Hg.main_arg6) = m ((c.tc : Thread Cert.Hg.nD Cert.Hg.τ).loc Cert.Hg.main_arg6))
      ∧ r.2.sem = fun _ => 0)

def quiescent_HgIdeal [hHgIdeal : Cert.HgIdeal.Facts] : Prop :=
  ∀ (m : (ℓ : Loc Cert.HgIdeal.nD Cert.HgIdeal.τ Cert.HgIdeal.sig) → Buf (Elt Ideal) ℓ) (g : Dev Cert.HgIdeal.nD → PrngReg), Pre_HgIdeal m →
    θ_run (Cert.HgIdeal.defs (F := Ideal)) (onTc (τ := Cert.HgIdeal.τ) (Cert.HgIdeal.main (F := Ideal))) ⟨m, fun _ => 0, g⟩ (fun r => (∀ c : Dev Cert.HgIdeal.nD,
      r.2.mem ((c.tc : Thread Cert.HgIdeal.nD Cert.HgIdeal.τ).loc Cert.HgIdeal.main_arg0) = m ((c.tc : Thread Cert.HgIdeal.nD Cert.HgIdeal.τ).loc Cert.HgIdeal.main_arg0)
      ∧ r.2.mem ((c.tc : Thread Cert.HgIdeal.nD Cert.HgIdeal.τ).loc Cert.HgIdeal.main_arg1) = m ((c.tc : Thread Cert.HgIdeal.nD Cert.HgIdeal.τ).loc Cert.HgIdeal.main_arg1)
      ∧ r.2.mem ((c.tc : Thread Cert.HgIdeal.nD Cert.HgIdeal.τ).loc Cert.HgIdeal.main_arg2) = m ((c.tc : Thread Cert.HgIdeal.nD Cert.HgIdeal.τ).loc Cert.HgIdeal.main_arg2)
      ∧ r.2.mem ((c.tc : Thread Cert.HgIdeal.nD Cert.HgIdeal.τ).loc Cert.HgIdeal.main_arg3) = m ((c.tc : Thread Cert.HgIdeal.nD Cert.HgIdeal.τ).loc Cert.HgIdeal.main_arg3)
      ∧ r.2.mem ((c.tc : Thread Cert.HgIdeal.nD Cert.HgIdeal.τ).loc Cert.HgIdeal.main_arg4) = m ((c.tc : Thread Cert.HgIdeal.nD Cert.HgIdeal.τ).loc Cert.HgIdeal.main_arg4)
      ∧ r.2.mem ((c.tc : Thread Cert.HgIdeal.nD Cert.HgIdeal.τ).loc Cert.HgIdeal.main_arg5) = m ((c.tc : Thread Cert.HgIdeal.nD Cert.HgIdeal.τ).loc Cert.HgIdeal.main_arg5)
      ∧ r.2.mem ((c.tc : Thread Cert.HgIdeal.nD Cert.HgIdeal.τ).loc Cert.HgIdeal.main_arg6) = m ((c.tc : Thread Cert.HgIdeal.nD Cert.HgIdeal.τ).loc Cert.HgIdeal.main_arg6))
      ∧ r.2.sem = fun _ => 0)

def quiescent_HgRefIdeal [hHgRefIdeal : Cert.HgRefIdeal.Facts] : Prop :=
  ∀ (m : (ℓ : Loc Cert.HgRefIdeal.nD Cert.HgRefIdeal.τ Cert.HgRefIdeal.sig) → Buf (Elt Ideal) ℓ) (g : Dev Cert.HgRefIdeal.nD → PrngReg), Pre_HgRefIdeal m →
    θ_run (Cert.HgRefIdeal.defs (F := Ideal)) (onTc (τ := Cert.HgRefIdeal.τ) (Cert.HgRefIdeal.main (F := Ideal))) ⟨m, fun _ => 0, g⟩ (fun r => (∀ c : Dev Cert.HgRefIdeal.nD,
      r.2.mem ((c.tc : Thread Cert.HgRefIdeal.nD Cert.HgRefIdeal.τ).loc Cert.HgRefIdeal.main_arg0) = m ((c.tc : Thread Cert.HgRefIdeal.nD Cert.HgRefIdeal.τ).loc Cert.HgRefIdeal.main_arg0)
      ∧ r.2.mem ((c.tc : Thread Cert.HgRefIdeal.nD Cert.HgRefIdeal.τ).loc Cert.HgRefIdeal.main_arg1) = m ((c.tc : Thread Cert.HgRefIdeal.nD Cert.HgRefIdeal.τ).loc Cert.HgRefIdeal.main_arg1)
      ∧ r.2.mem ((c.tc : Thread Cert.HgRefIdeal.nD Cert.HgRefIdeal.τ).loc Cert.HgRefIdeal.main_arg2) = m ((c.tc : Thread Cert.HgRefIdeal.nD Cert.HgRefIdeal.τ).loc Cert.HgRefIdeal.main_arg2)
      ∧ r.2.mem ((c.tc : Thread Cert.HgRefIdeal.nD Cert.HgRefIdeal.τ).loc Cert.HgRefIdeal.main_arg3) = m ((c.tc : Thread Cert.HgRefIdeal.nD Cert.HgRefIdeal.τ).loc Cert.HgRefIdeal.main_arg3)
      ∧ r.2.mem ((c.tc : Thread Cert.HgRefIdeal.nD Cert.HgRefIdeal.τ).loc Cert.HgRefIdeal.main_arg4) = m ((c.tc : Thread Cert.HgRefIdeal.nD Cert.HgRefIdeal.τ).loc Cert.HgRefIdeal.main_arg4)
      ∧ r.2.mem ((c.tc : Thread Cert.HgRefIdeal.nD Cert.HgRefIdeal.τ).loc Cert.HgRefIdeal.main_arg5) = m ((c.tc : Thread Cert.HgRefIdeal.nD Cert.HgRefIdeal.τ).loc Cert.HgRefIdeal.main_arg5)
      ∧ r.2.mem ((c.tc : Thread Cert.HgRefIdeal.nD Cert.HgRefIdeal.τ).loc Cert.HgRefIdeal.main_arg6) = m ((c.tc : Thread Cert.HgRefIdeal.nD Cert.HgRefIdeal.τ).loc Cert.HgRefIdeal.main_arg6))
      ∧ r.2.sem = fun _ => 0)

def quiescent_Nfwd [hNfwd : Cert.Nfwd.Facts] : Prop :=
  ∀ (m : (ℓ : Loc Cert.Nfwd.nD Cert.Nfwd.τ Cert.Nfwd.sig) → Buf (Elt Bits) ℓ) (g : Dev Cert.Nfwd.nD → PrngReg), Pre_Nfwd m →
    θ_run (Cert.Nfwd.defs (F := Bits)) (onTc (τ := Cert.Nfwd.τ) (Cert.Nfwd.main (F := Bits))) ⟨m, fun _ => 0, g⟩ (fun r => (∀ c : Dev Cert.Nfwd.nD,
      r.2.mem ((c.tc : Thread Cert.Nfwd.nD Cert.Nfwd.τ).loc Cert.Nfwd.main_arg0) = m ((c.tc : Thread Cert.Nfwd.nD Cert.Nfwd.τ).loc Cert.Nfwd.main_arg0)
      ∧ r.2.mem ((c.tc : Thread Cert.Nfwd.nD Cert.Nfwd.τ).loc Cert.Nfwd.main_arg1) = m ((c.tc : Thread Cert.Nfwd.nD Cert.Nfwd.τ).loc Cert.Nfwd.main_arg1))
      ∧ r.2.sem = fun _ => 0)

def quiescent_NfwdIdeal [hNfwdIdeal : Cert.NfwdIdeal.Facts] : Prop :=
  ∀ (m : (ℓ : Loc Cert.NfwdIdeal.nD Cert.NfwdIdeal.τ Cert.NfwdIdeal.sig) → Buf (Elt Ideal) ℓ) (g : Dev Cert.NfwdIdeal.nD → PrngReg), Pre_NfwdIdeal m →
    θ_run (Cert.NfwdIdeal.defs (F := Ideal)) (onTc (τ := Cert.NfwdIdeal.τ) (Cert.NfwdIdeal.main (F := Ideal))) ⟨m, fun _ => 0, g⟩ (fun r => (∀ c : Dev Cert.NfwdIdeal.nD,
      r.2.mem ((c.tc : Thread Cert.NfwdIdeal.nD Cert.NfwdIdeal.τ).loc Cert.NfwdIdeal.main_arg0) = m ((c.tc : Thread Cert.NfwdIdeal.nD Cert.NfwdIdeal.τ).loc Cert.NfwdIdeal.main_arg0)
      ∧ r.2.mem ((c.tc : Thread Cert.NfwdIdeal.nD Cert.NfwdIdeal.τ).loc Cert.NfwdIdeal.main_arg1) = m ((c.tc : Thread Cert.NfwdIdeal.nD Cert.NfwdIdeal.τ).loc Cert.NfwdIdeal.main_arg1))
      ∧ r.2.sem = fun _ => 0)

def quiescent_NfwdRefIdeal [hNfwdRefIdeal : Cert.NfwdRefIdeal.Facts] : Prop :=
  ∀ (m : (ℓ : Loc Cert.NfwdRefIdeal.nD Cert.NfwdRefIdeal.τ Cert.NfwdRefIdeal.sig) → Buf (Elt Ideal) ℓ) (g : Dev Cert.NfwdRefIdeal.nD → PrngReg), Pre_NfwdRefIdeal m →
    θ_run (Cert.NfwdRefIdeal.defs (F := Ideal)) (onTc (τ := Cert.NfwdRefIdeal.τ) (Cert.NfwdRefIdeal.main (F := Ideal))) ⟨m, fun _ => 0, g⟩ (fun r => (∀ c : Dev Cert.NfwdRefIdeal.nD,
      r.2.mem ((c.tc : Thread Cert.NfwdRefIdeal.nD Cert.NfwdRefIdeal.τ).loc Cert.NfwdRefIdeal.main_arg0) = m ((c.tc : Thread Cert.NfwdRefIdeal.nD Cert.NfwdRefIdeal.τ).loc Cert.NfwdRefIdeal.main_arg0)
      ∧ r.2.mem ((c.tc : Thread Cert.NfwdRefIdeal.nD Cert.NfwdRefIdeal.τ).loc Cert.NfwdRefIdeal.main_arg1) = m ((c.tc : Thread Cert.NfwdRefIdeal.nD Cert.NfwdRefIdeal.τ).loc Cert.NfwdRefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Lbf [hLbf : Cert.Lbf.Facts] : Prop :=
  ∀ (m : (ℓ : Loc Cert.Lbf.nD Cert.Lbf.τ Cert.Lbf.sig) → Buf (Elt Bits) ℓ) (g : Dev Cert.Lbf.nD → PrngReg), Pre_Lbf m →
    θ_run (Cert.Lbf.defs (F := Bits)) (onTc (τ := Cert.Lbf.τ) (Cert.Lbf.main (F := Bits))) ⟨m, fun _ => 0, g⟩ (fun r => (∀ c : Dev Cert.Lbf.nD,
      r.2.mem ((c.tc : Thread Cert.Lbf.nD Cert.Lbf.τ).loc Cert.Lbf.main_arg0) = m ((c.tc : Thread Cert.Lbf.nD Cert.Lbf.τ).loc Cert.Lbf.main_arg0))
      ∧ r.2.sem = fun _ => 0)

def quiescent_LbfIdeal [hLbfIdeal : Cert.LbfIdeal.Facts] : Prop :=
  ∀ (m : (ℓ : Loc Cert.LbfIdeal.nD Cert.LbfIdeal.τ Cert.LbfIdeal.sig) → Buf (Elt Ideal) ℓ) (g : Dev Cert.LbfIdeal.nD → PrngReg), Pre_LbfIdeal m →
    θ_run (Cert.LbfIdeal.defs (F := Ideal)) (onTc (τ := Cert.LbfIdeal.τ) (Cert.LbfIdeal.main (F := Ideal))) ⟨m, fun _ => 0, g⟩ (fun r => (∀ c : Dev Cert.LbfIdeal.nD,
      r.2.mem ((c.tc : Thread Cert.LbfIdeal.nD Cert.LbfIdeal.τ).loc Cert.LbfIdeal.main_arg0) = m ((c.tc : Thread Cert.LbfIdeal.nD Cert.LbfIdeal.τ).loc Cert.LbfIdeal.main_arg0))
      ∧ r.2.sem = fun _ => 0)

def quiescent_LbfIdeal_pre_lbf_finite [hLbfIdeal : Cert.LbfIdeal.Facts] [hPre_lbf_finite : Cert.Pre_lbf_finite.Facts] : Prop :=
  ∀ (m : (ℓ : Loc Cert.LbfIdeal.nD Cert.LbfIdeal.τ Cert.LbfIdeal.sig) → Buf (Elt Ideal) ℓ) (g : Dev Cert.LbfIdeal.nD → PrngReg), Pre_LbfIdeal_lbf_finite m →
    θ_run (Cert.LbfIdeal.defs (F := Ideal)) (onTc (τ := Cert.LbfIdeal.τ) (Cert.LbfIdeal.main (F := Ideal))) ⟨m, fun _ => 0, g⟩ (fun r => (∀ c : Dev Cert.LbfIdeal.nD,
      r.2.mem ((c.tc : Thread Cert.LbfIdeal.nD Cert.LbfIdeal.τ).loc Cert.LbfIdeal.main_arg0) = m ((c.tc : Thread Cert.LbfIdeal.nD Cert.LbfIdeal.τ).loc Cert.LbfIdeal.main_arg0))
      ∧ r.2.sem = fun _ => 0)

def quiescent_LbfRefIdeal [hLbfRefIdeal : Cert.LbfRefIdeal.Facts] : Prop :=
  ∀ (m : (ℓ : Loc Cert.LbfRefIdeal.nD Cert.LbfRefIdeal.τ Cert.LbfRefIdeal.sig) → Buf (Elt Ideal) ℓ) (g : Dev Cert.LbfRefIdeal.nD → PrngReg), Pre_LbfRefIdeal m →
    θ_run (Cert.LbfRefIdeal.defs (F := Ideal)) (onTc (τ := Cert.LbfRefIdeal.τ) (Cert.LbfRefIdeal.main (F := Ideal))) ⟨m, fun _ => 0, g⟩ (fun r => (∀ c : Dev Cert.LbfRefIdeal.nD,
      r.2.mem ((c.tc : Thread Cert.LbfRefIdeal.nD Cert.LbfRefIdeal.τ).loc Cert.LbfRefIdeal.main_arg0) = m ((c.tc : Thread Cert.LbfRefIdeal.nD Cert.LbfRefIdeal.τ).loc Cert.LbfRefIdeal.main_arg0))
      ∧ r.2.sem = fun _ => 0)

def quiescent_LbfRefIdeal_pre_lbf_finite [hLbfRefIdeal : Cert.LbfRefIdeal.Facts] [hPre_lbf_finite : Cert.Pre_lbf_finite.Facts] : Prop :=
  ∀ (m : (ℓ : Loc Cert.LbfRefIdeal.nD Cert.LbfRefIdeal.τ Cert.LbfRefIdeal.sig) → Buf (Elt Ideal) ℓ) (g : Dev Cert.LbfRefIdeal.nD → PrngReg), Pre_LbfRefIdeal_lbf_finite m →
    θ_run (Cert.LbfRefIdeal.defs (F := Ideal)) (onTc (τ := Cert.LbfRefIdeal.τ) (Cert.LbfRefIdeal.main (F := Ideal))) ⟨m, fun _ => 0, g⟩ (fun r => (∀ c : Dev Cert.LbfRefIdeal.nD,
      r.2.mem ((c.tc : Thread Cert.LbfRefIdeal.nD Cert.LbfRefIdeal.τ).loc Cert.LbfRefIdeal.main_arg0) = m ((c.tc : Thread Cert.LbfRefIdeal.nD Cert.LbfRefIdeal.τ).loc Cert.LbfRefIdeal.main_arg0))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Dxn [hDxn : Cert.Dxn.Facts] : Prop :=
  ∀ (m : (ℓ : Loc Cert.Dxn.nD Cert.Dxn.τ Cert.Dxn.sig) → Buf (Elt Bits) ℓ) (g : Dev Cert.Dxn.nD → PrngReg), Pre_Dxn m →
    θ_run (Cert.Dxn.defs (F := Bits)) (onTc (τ := Cert.Dxn.τ) (Cert.Dxn.main (F := Bits))) ⟨m, fun _ => 0, g⟩ (fun r => (∀ c : Dev Cert.Dxn.nD,
      r.2.mem ((c.tc : Thread Cert.Dxn.nD Cert.Dxn.τ).loc Cert.Dxn.main_arg0) = m ((c.tc : Thread Cert.Dxn.nD Cert.Dxn.τ).loc Cert.Dxn.main_arg0)
      ∧ r.2.mem ((c.tc : Thread Cert.Dxn.nD Cert.Dxn.τ).loc Cert.Dxn.main_arg1) = m ((c.tc : Thread Cert.Dxn.nD Cert.Dxn.τ).loc Cert.Dxn.main_arg1)
      ∧ r.2.mem ((c.tc : Thread Cert.Dxn.nD Cert.Dxn.τ).loc Cert.Dxn.main_arg2) = m ((c.tc : Thread Cert.Dxn.nD Cert.Dxn.τ).loc Cert.Dxn.main_arg2))
      ∧ r.2.sem = fun _ => 0)

def quiescent_DxnIdeal [hDxnIdeal : Cert.DxnIdeal.Facts] : Prop :=
  ∀ (m : (ℓ : Loc Cert.DxnIdeal.nD Cert.DxnIdeal.τ Cert.DxnIdeal.sig) → Buf (Elt Ideal) ℓ) (g : Dev Cert.DxnIdeal.nD → PrngReg), Pre_DxnIdeal m →
    θ_run (Cert.DxnIdeal.defs (F := Ideal)) (onTc (τ := Cert.DxnIdeal.τ) (Cert.DxnIdeal.main (F := Ideal))) ⟨m, fun _ => 0, g⟩ (fun r => (∀ c : Dev Cert.DxnIdeal.nD,
      r.2.mem ((c.tc : Thread Cert.DxnIdeal.nD Cert.DxnIdeal.τ).loc Cert.DxnIdeal.main_arg0) = m ((c.tc : Thread Cert.DxnIdeal.nD Cert.DxnIdeal.τ).loc Cert.DxnIdeal.main_arg0)
      ∧ r.2.mem ((c.tc : Thread Cert.DxnIdeal.nD Cert.DxnIdeal.τ).loc Cert.DxnIdeal.main_arg1) = m ((c.tc : Thread Cert.DxnIdeal.nD Cert.DxnIdeal.τ).loc Cert.DxnIdeal.main_arg1)
      ∧ r.2.mem ((c.tc : Thread Cert.DxnIdeal.nD Cert.DxnIdeal.τ).loc Cert.DxnIdeal.main_arg2) = m ((c.tc : Thread Cert.DxnIdeal.nD Cert.DxnIdeal.τ).loc Cert.DxnIdeal.main_arg2))
      ∧ r.2.sem = fun _ => 0)

def quiescent_DxnRefIdeal [hDxnRefIdeal : Cert.DxnRefIdeal.Facts] : Prop :=
  ∀ (m : (ℓ : Loc Cert.DxnRefIdeal.nD Cert.DxnRefIdeal.τ Cert.DxnRefIdeal.sig) → Buf (Elt Ideal) ℓ) (g : Dev Cert.DxnRefIdeal.nD → PrngReg), Pre_DxnRefIdeal m →
    θ_run (Cert.DxnRefIdeal.defs (F := Ideal)) (onTc (τ := Cert.DxnRefIdeal.τ) (Cert.DxnRefIdeal.main (F := Ideal))) ⟨m, fun _ => 0, g⟩ (fun r => (∀ c : Dev Cert.DxnRefIdeal.nD,
      r.2.mem ((c.tc : Thread Cert.DxnRefIdeal.nD Cert.DxnRefIdeal.τ).loc Cert.DxnRefIdeal.main_arg0) = m ((c.tc : Thread Cert.DxnRefIdeal.nD Cert.DxnRefIdeal.τ).loc Cert.DxnRefIdeal.main_arg0)
      ∧ r.2.mem ((c.tc : Thread Cert.DxnRefIdeal.nD Cert.DxnRefIdeal.τ).loc Cert.DxnRefIdeal.main_arg1) = m ((c.tc : Thread Cert.DxnRefIdeal.nD Cert.DxnRefIdeal.τ).loc Cert.DxnRefIdeal.main_arg1)
      ∧ r.2.mem ((c.tc : Thread Cert.DxnRefIdeal.nD Cert.DxnRefIdeal.τ).loc Cert.DxnRefIdeal.main_arg2) = m ((c.tc : Thread Cert.DxnRefIdeal.nD Cert.DxnRefIdeal.τ).loc Cert.DxnRefIdeal.main_arg2))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Asmall [hAsmall : Cert.Asmall.Facts] : Prop :=
  ∀ (m : (ℓ : Loc Cert.Asmall.nD Cert.Asmall.τ Cert.Asmall.sig) → Buf (Elt Bits) ℓ) (g : Dev Cert.Asmall.nD → PrngReg), Pre_Asmall m →
    θ_run (Cert.Asmall.defs (F := Bits)) (onTc (τ := Cert.Asmall.τ) (Cert.Asmall.main (F := Bits))) ⟨m, fun _ => 0, g⟩ (fun r => (∀ c : Dev Cert.Asmall.nD,
      r.2.mem ((c.tc : Thread Cert.Asmall.nD Cert.Asmall.τ).loc Cert.Asmall.main_arg0) = m ((c.tc : Thread Cert.Asmall.nD Cert.Asmall.τ).loc Cert.Asmall.main_arg0)
      ∧ r.2.mem ((c.tc : Thread Cert.Asmall.nD Cert.Asmall.τ).loc Cert.Asmall.main_arg1) = m ((c.tc : Thread Cert.Asmall.nD Cert.Asmall.τ).loc Cert.Asmall.main_arg1)
      ∧ r.2.mem ((c.tc : Thread Cert.Asmall.nD Cert.Asmall.τ).loc Cert.Asmall.main_arg2) = m ((c.tc : Thread Cert.Asmall.nD Cert.Asmall.τ).loc Cert.Asmall.main_arg2)
      ∧ r.2.mem ((c.tc : Thread Cert.Asmall.nD Cert.Asmall.τ).loc Cert.Asmall.main_arg3) = m ((c.tc : Thread Cert.Asmall.nD Cert.Asmall.τ).loc Cert.Asmall.main_arg3))
      ∧ r.2.sem = fun _ => 0)

def quiescent_AsmallIdeal [hAsmallIdeal : Cert.AsmallIdeal.Facts] : Prop :=
  ∀ (m : (ℓ : Loc Cert.AsmallIdeal.nD Cert.AsmallIdeal.τ Cert.AsmallIdeal.sig) → Buf (Elt Ideal) ℓ) (g : Dev Cert.AsmallIdeal.nD → PrngReg), Pre_AsmallIdeal m →
    θ_run (Cert.AsmallIdeal.defs (F := Ideal)) (onTc (τ := Cert.AsmallIdeal.τ) (Cert.AsmallIdeal.main (F := Ideal))) ⟨m, fun _ => 0, g⟩ (fun r => (∀ c : Dev Cert.AsmallIdeal.nD,
      r.2.mem ((c.tc : Thread Cert.AsmallIdeal.nD Cert.AsmallIdeal.τ).loc Cert.AsmallIdeal.main_arg0) = m ((c.tc : Thread Cert.AsmallIdeal.nD Cert.AsmallIdeal.τ).loc Cert.AsmallIdeal.main_arg0)
      ∧ r.2.mem ((c.tc : Thread Cert.AsmallIdeal.nD Cert.AsmallIdeal.τ).loc Cert.AsmallIdeal.main_arg1) = m ((c.tc : Thread Cert.AsmallIdeal.nD Cert.AsmallIdeal.τ).loc Cert.AsmallIdeal.main_arg1)
      ∧ r.2.mem ((c.tc : Thread Cert.AsmallIdeal.nD Cert.AsmallIdeal.τ).loc Cert.AsmallIdeal.main_arg2) = m ((c.tc : Thread Cert.AsmallIdeal.nD Cert.AsmallIdeal.τ).loc Cert.AsmallIdeal.main_arg2)
      ∧ r.2.mem ((c.tc : Thread Cert.AsmallIdeal.nD Cert.AsmallIdeal.τ).loc Cert.AsmallIdeal.main_arg3) = m ((c.tc : Thread Cert.AsmallIdeal.nD Cert.AsmallIdeal.τ).loc Cert.AsmallIdeal.main_arg3))
      ∧ r.2.sem = fun _ => 0)

def quiescent_AsmallRefIdeal [hAsmallRefIdeal : Cert.AsmallRefIdeal.Facts] : Prop :=
  ∀ (m : (ℓ : Loc Cert.AsmallRefIdeal.nD Cert.AsmallRefIdeal.τ Cert.AsmallRefIdeal.sig) → Buf (Elt Ideal) ℓ) (g : Dev Cert.AsmallRefIdeal.nD → PrngReg), Pre_AsmallRefIdeal m →
    θ_run (Cert.AsmallRefIdeal.defs (F := Ideal)) (onTc (τ := Cert.AsmallRefIdeal.τ) (Cert.AsmallRefIdeal.main (F := Ideal))) ⟨m, fun _ => 0, g⟩ (fun r => (∀ c : Dev Cert.AsmallRefIdeal.nD,
      r.2.mem ((c.tc : Thread Cert.AsmallRefIdeal.nD Cert.AsmallRefIdeal.τ).loc Cert.AsmallRefIdeal.main_arg0) = m ((c.tc : Thread Cert.AsmallRefIdeal.nD Cert.AsmallRefIdeal.τ).loc Cert.AsmallRefIdeal.main_arg0)
      ∧ r.2.mem ((c.tc : Thread Cert.AsmallRefIdeal.nD Cert.AsmallRefIdeal.τ).loc Cert.AsmallRefIdeal.main_arg1) = m ((c.tc : Thread Cert.AsmallRefIdeal.nD Cert.AsmallRefIdeal.τ).loc Cert.AsmallRefIdeal.main_arg1)
      ∧ r.2.mem ((c.tc : Thread Cert.AsmallRefIdeal.nD Cert.AsmallRefIdeal.τ).loc Cert.AsmallRefIdeal.main_arg2) = m ((c.tc : Thread Cert.AsmallRefIdeal.nD Cert.AsmallRefIdeal.τ).loc Cert.AsmallRefIdeal.main_arg2)
      ∧ r.2.mem ((c.tc : Thread Cert.AsmallRefIdeal.nD Cert.AsmallRefIdeal.τ).loc Cert.AsmallRefIdeal.main_arg3) = m ((c.tc : Thread Cert.AsmallRefIdeal.nD Cert.AsmallRefIdeal.τ).loc Cert.AsmallRefIdeal.main_arg3))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5)
      ∧ r.2.mem ((c.tc : Thread Cert.FrontRefIdeal.nD Cert.FrontRefIdeal.τ).loc Cert.FrontRefIdeal.main_arg6) = m ((c.tc : Thread Cert.FrontRefIdeal.nD Cert.FrontRefIdeal.τ).loc Cert.FrontRefIdeal.main_arg6))
      ∧ r.2.sem = fun _ => 0)

def preserves_Lb_LbIdeal : Prop :=
  True

def algebraic_LbIdeal_LbRefIdeal_pre_lb_finite [hLbIdeal : Cert.LbIdeal.Facts] [hLbRefIdeal : Cert.LbRefIdeal.Facts] [hPre_lb_finite : Cert.Pre_lb_finite.Facts] : Prop :=
  ∀ (m : (ℓ : Loc Cert.LbIdeal.nD Cert.LbIdeal.τ Cert.LbIdeal.sig) → Buf (Elt Ideal) ℓ) (g : Dev Cert.LbIdeal.nD → PrngReg)
    (m' : (ℓ : Loc Cert.LbRefIdeal.nD Cert.LbRefIdeal.τ Cert.LbRefIdeal.sig) → Buf (Elt Ideal) ℓ) (g' : Dev Cert.LbRefIdeal.nD → PrngReg), Pre_LbIdeal_lb_finite m →
    (∀ c : Dev Cert.LbIdeal.nD,
      m' ((c.tc : Thread Cert.LbRefIdeal.nD Cert.LbRefIdeal.τ).loc Cert.LbRefIdeal.main_arg0) = m ((c.tc : Thread Cert.LbIdeal.nD Cert.LbIdeal.τ).loc Cert.LbIdeal.main_arg0)
      ∧ m' ((c.tc : Thread Cert.LbRefIdeal.nD Cert.LbRefIdeal.τ).loc Cert.LbRefIdeal.main_arg1) = m ((c.tc : Thread Cert.LbIdeal.nD Cert.LbIdeal.τ).loc Cert.LbIdeal.main_arg1)) →
    ∃ (v0 : (c : Dev Cert.LbIdeal.nD) → Buf (Elt Ideal) ((c.tc : Thread Cert.LbIdeal.nD Cert.LbIdeal.τ).loc Cert.LbIdeal.main_v0)),
      θ_run (Cert.LbIdeal.defs (F := Ideal)) (onTc (τ := Cert.LbIdeal.τ) (Cert.LbIdeal.main (F := Ideal))) ⟨m, fun _ => 0, g⟩ (fun r => ∀ c : Dev Cert.LbIdeal.nD,
          r.2.mem ((c.tc : Thread Cert.LbIdeal.nD Cert.LbIdeal.τ).loc Cert.LbIdeal.main_v0) = v0 c
          ∧ r.2.mem ((c.tc : Thread Cert.LbIdeal.nD Cert.LbIdeal.τ).loc Cert.LbIdeal.main_arg0) = m ((c.tc : Thread Cert.LbIdeal.nD Cert.LbIdeal.τ).loc Cert.LbIdeal.main_arg0)
          ∧ r.2.mem ((c.tc : Thread Cert.LbIdeal.nD Cert.LbIdeal.τ).loc Cert.LbIdeal.main_arg1) = m ((c.tc : Thread Cert.LbIdeal.nD Cert.LbIdeal.τ).loc Cert.LbIdeal.main_arg1))
      ∧ θ_run (Cert.LbRefIdeal.defs (F := Ideal)) (onTc (τ := Cert.LbRefIdeal.τ) (Cert.LbRefIdeal.main (F := Ideal))) ⟨m', fun _ => 0, g'⟩ (fun r => ∀ c : Dev Cert.LbRefIdeal.nD,
          r.2.mem ((c.tc : Thread Cert.LbRefIdeal.nD Cert.LbRefIdeal.τ).loc Cert.LbRefIdeal.main_v50) = v0 c
          ∧ r.2.mem ((c.tc : Thread Cert.LbRefIdeal.nD Cert.LbRefIdeal.τ).loc Cert.LbRefIdeal.main_arg0) = m' ((c.tc : Thread Cert.LbRefIdeal.nD Cert.LbRefIdeal.τ).loc Cert.LbRefIdeal.main_arg0)
          ∧ r.2.mem ((c.tc : Thread Cert.LbRefIdeal.nD Cert.LbRefIdeal.τ).loc Cert.LbRefIdeal.main_arg1) = m' ((c.tc : Thread Cert.LbRefIdeal.nD Cert.LbRefIdeal.τ).loc Cert.LbRefIdeal.main_arg1))

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v3_0)) (v1 : (c : Dev Cert.NormIdeal.nD) → Buf (Elt Ideal) ((c.tc : Thread Cert.NormIdeal.nD Cert.NormIdeal.τ).loc Cert.NormIdeal.main_v3_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3_0) = v0 c
          ∧ r.2.mem ((c.tc : Thread Cert.NormIdeal.nD Cert.NormIdeal.τ).loc Cert.NormIdeal.main_v3_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v35) = v0 c
          ∧ r.2.mem ((c.tc : Thread Cert.NormRefIdeal.nD Cert.NormRefIdeal.τ).loc Cert.NormRefIdeal.main_v17) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v5_0)) (v1 : (c : Dev Cert.LossIdeal.nD) → Buf (Elt Ideal) ((c.tc : Thread Cert.LossIdeal.nD Cert.LossIdeal.τ).loc Cert.LossIdeal.main_v5_1)) (v2 : (c : Dev Cert.LossIdeal.nD) → Buf (Elt Ideal) ((c.tc : Thread Cert.LossIdeal.nD Cert.LossIdeal.τ).loc Cert.LossIdeal.main_v5_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5_0) = v0 c
          ∧ r.2.mem ((c.tc : Thread Cert.LossIdeal.nD Cert.LossIdeal.τ).loc Cert.LossIdeal.main_v5_1) = v1 c
          ∧ r.2.mem ((c.tc : Thread Cert.LossIdeal.nD Cert.LossIdeal.τ).loc Cert.LossIdeal.main_v5_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v54) = v1 c
          ∧ r.2.mem ((c.tc : Thread Cert.LossRefIdeal.nD Cert.LossRefIdeal.τ).loc Cert.LossRefIdeal.main_v55) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Dact_DactIdeal : Prop :=
  True

def algebraic_DactIdeal_DactRefIdeal_pre_dact_finite [hDactIdeal : Cert.DactIdeal.Facts] [hDactRefIdeal : Cert.DactRefIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal_dact_finite m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v7_0)) (v1 : (c : Dev Cert.DactIdeal.nD) → Buf (Elt Ideal) ((c.tc : Thread Cert.DactIdeal.nD Cert.DactIdeal.τ).loc Cert.DactIdeal.main_v7_1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v7_0) = v0 c
          ∧ r.2.mem ((c.tc : Thread Cert.DactIdeal.nD Cert.DactIdeal.τ).loc Cert.DactIdeal.main_v7_1) = v1 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v12) = v0 c
          ∧ r.2.mem ((c.tc : Thread Cert.DactRefIdeal.nD Cert.DactRefIdeal.τ).loc Cert.DactRefIdeal.main_v14) = v1 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3))

def preserves_Dmerge_DmergeIdeal : Prop :=
  True

def algebraic_DmergeIdeal_DmergeRefIdeal [hDmergeIdeal : Cert.DmergeIdeal.Facts] [hDmergeRefIdeal : Cert.DmergeRefIdeal.Facts] : Prop :=
  ∀ (m : (ℓ : Loc Cert.DmergeIdeal.nD Cert.DmergeIdeal.τ Cert.DmergeIdeal.sig) → Buf (Elt Ideal) ℓ) (g : Dev Cert.DmergeIdeal.nD → PrngReg)
    (m' : (ℓ : Loc Cert.DmergeRefIdeal.nD Cert.DmergeRefIdeal.τ Cert.DmergeRefIdeal.sig) → Buf (Elt Ideal) ℓ) (g' : Dev Cert.DmergeRefIdeal.nD → PrngReg), Pre_DmergeIdeal m →
    (∀ c : Dev Cert.DmergeIdeal.nD,
      m' ((c.tc : Thread Cert.DmergeRefIdeal.nD Cert.DmergeRefIdeal.τ).loc Cert.DmergeRefIdeal.main_arg0) = m ((c.tc : Thread Cert.DmergeIdeal.nD Cert.DmergeIdeal.τ).loc Cert.DmergeIdeal.main_arg0)
      ∧ m' ((c.tc : Thread Cert.DmergeRefIdeal.nD Cert.DmergeRefIdeal.τ).loc Cert.DmergeRefIdeal.main_arg1) = m ((c.tc : Thread Cert.DmergeIdeal.nD Cert.DmergeIdeal.τ).loc Cert.DmergeIdeal.main_arg1)
      ∧ m' ((c.tc : Thread Cert.DmergeRefIdeal.nD Cert.DmergeRefIdeal.τ).loc Cert.DmergeRefIdeal.main_arg2) = m ((c.tc : Thread Cert.DmergeIdeal.nD Cert.DmergeIdeal.τ).loc Cert.DmergeIdeal.main_arg2)
      ∧ m' ((c.tc : Thread Cert.DmergeRefIdeal.nD Cert.DmergeRefIdeal.τ).loc Cert.DmergeRefIdeal.main_arg3) = m ((c.tc : Thread Cert.DmergeIdeal.nD Cert.DmergeIdeal.τ).loc Cert.DmergeIdeal.main_arg3)
      ∧ m' ((c.tc : Thread Cert.DmergeRefIdeal.nD Cert.DmergeRefIdeal.τ).loc Cert.DmergeRefIdeal.main_arg4) = m ((c.tc : Thread Cert.DmergeIdeal.nD Cert.DmergeIdeal.τ).loc Cert.DmergeIdeal.main_arg4)
      ∧ m' ((c.tc : Thread Cert.DmergeRefIdeal.nD Cert.DmergeRefIdeal.τ).loc Cert.DmergeRefIdeal.main_arg5) = m ((c.tc : Thread Cert.DmergeIdeal.nD Cert.DmergeIdeal.τ).loc Cert.DmergeIdeal.main_arg5)) →
    ∃ (v0 : (c : Dev Cert.DmergeIdeal.nD) → Buf (Elt Ideal) ((c.tc : Thread Cert.DmergeIdeal.nD Cert.DmergeIdeal.τ).loc Cert.DmergeIdeal.main_v10_0)) (v1 : (c : Dev Cert.DmergeIdeal.nD) → Buf (Elt Ideal) ((c.tc : Thread Cert.DmergeIdeal.nD Cert.DmergeIdeal.τ).loc Cert.DmergeIdeal.main_v10_1)) (v2 : (c : Dev Cert.DmergeIdeal.nD) → Buf (Elt Ideal) ((c.tc : Thread Cert.DmergeIdeal.nD Cert.DmergeIdeal.τ).loc Cert.DmergeIdeal.main_v10_2)) (v3 : (c : Dev Cert.DmergeIdeal.nD) → Buf (Elt Ideal) ((c.tc : Thread Cert.DmergeIdeal.nD Cert.DmergeIdeal.τ).loc Cert.DmergeIdeal.main_v10_3)),
      θ_run (Cert.DmergeIdeal.defs (F := Ideal)) (onTc (τ := Cert.DmergeIdeal.τ) (Cert.DmergeIdeal.main (F := Ideal))) ⟨m, fun _ => 0, g⟩ (fun r => ∀ c : Dev Cert.DmergeIdeal.nD,
          r.2.mem ((c.tc : Thread Cert.DmergeIdeal.nD Cert.DmergeIdeal.τ).loc Cert.DmergeIdeal.main_v10_0) = v0 c
          ∧ r.2.mem ((c.tc : Thread Cert.DmergeIdeal.nD Cert.DmergeIdeal.τ).loc Cert.DmergeIdeal.main_v10_1) = v1 c
          ∧ r.2.mem ((c.tc : Thread Cert.DmergeIdeal.nD Cert.DmergeIdeal.τ).loc Cert.DmergeIdeal.main_v10_2) = v2 c
          ∧ r.2.mem ((c.tc : Thread Cert.DmergeIdeal.nD Cert.DmergeIdeal.τ).loc Cert.DmergeIdeal.main_v10_3) = v3 c
          ∧ r.2.mem ((c.tc : Thread Cert.DmergeIdeal.nD Cert.DmergeIdeal.τ).loc Cert.DmergeIdeal.main_arg0) = m ((c.tc : Thread Cert.DmergeIdeal.nD Cert.DmergeIdeal.τ).loc Cert.DmergeIdeal.main_arg0)
          ∧ r.2.mem ((c.tc : Thread Cert.DmergeIdeal.nD Cert.DmergeIdeal.τ).loc Cert.DmergeIdeal.main_arg1) = m ((c.tc : Thread Cert.DmergeIdeal.nD Cert.DmergeIdeal.τ).loc Cert.DmergeIdeal.main_arg1)
          ∧ r.2.mem ((c.tc : Thread Cert.DmergeIdeal.nD Cert.DmergeIdeal.τ).loc Cert.DmergeIdeal.main_arg2) = m ((c.tc : Thread Cert.DmergeIdeal.nD Cert.DmergeIdeal.τ).loc Cert.DmergeIdeal.main_arg2)
          ∧ r.2.mem ((c.tc : Thread Cert.DmergeIdeal.nD Cert.DmergeIdeal.τ).loc Cert.DmergeIdeal.main_arg3) = m ((c.tc : Thread Cert.DmergeIdeal.nD Cert.DmergeIdeal.τ).loc Cert.DmergeIdeal.main_arg3)
          ∧ r.2.mem ((c.tc : Thread Cert.DmergeIdeal.nD Cert.DmergeIdeal.τ).loc Cert.DmergeIdeal.main_arg4) = m ((c.tc : Thread Cert.DmergeIdeal.nD Cert.DmergeIdeal.τ).loc Cert.DmergeIdeal.main_arg4)
          ∧ r.2.mem ((c.tc : Thread Cert.DmergeIdeal.nD Cert.DmergeIdeal.τ).loc Cert.DmergeIdeal.main_arg5) = m ((c.tc : Thread Cert.DmergeIdeal.nD Cert.DmergeIdeal.τ).loc Cert.DmergeIdeal.main_arg5))
      ∧ θ_run (Cert.DmergeRefIdeal.defs (F := Ideal)) (onTc (τ := Cert.DmergeRefIdeal.τ) (Cert.DmergeRefIdeal.main (F := Ideal))) ⟨m', fun _ => 0, g'⟩ (fun r => ∀ c : Dev Cert.DmergeRefIdeal.nD,
          r.2.mem ((c.tc : Thread Cert.DmergeRefIdeal.nD Cert.DmergeRefIdeal.τ).loc Cert.DmergeRefIdeal.main_v30) = v0 c
          ∧ r.2.mem ((c.tc : Thread Cert.DmergeRefIdeal.nD Cert.DmergeRefIdeal.τ).loc Cert.DmergeRefIdeal.main_v32) = v1 c
          ∧ r.2.mem ((c.tc : Thread Cert.DmergeRefIdeal.nD Cert.DmergeRefIdeal.τ).loc Cert.DmergeRefIdeal.main_v34) = v2 c
          ∧ r.2.mem ((c.tc : Thread Cert.DmergeRefIdeal.nD Cert.DmergeRefIdeal.τ).loc Cert.DmergeRefIdeal.main_v36) = v3 c
          ∧ r.2.mem ((c.tc : Thread Cert.DmergeRefIdeal.nD Cert.DmergeRefIdeal.τ).loc Cert.DmergeRefIdeal.main_arg0) = m' ((c.tc : Thread Cert.DmergeRefIdeal.nD Cert.DmergeRefIdeal.τ).loc Cert.DmergeRefIdeal.main_arg0)
          ∧ r.2.mem ((c.tc : Thread Cert.DmergeRefIdeal.nD Cert.DmergeRefIdeal.τ).loc Cert.DmergeRefIdeal.main_arg1) = m' ((c.tc : Thread Cert.DmergeRefIdeal.nD Cert.DmergeRefIdeal.τ).loc Cert.DmergeRefIdeal.main_arg1)
          ∧ r.2.mem ((c.tc : Thread Cert.DmergeRefIdeal.nD Cert.DmergeRefIdeal.τ).loc Cert.DmergeRefIdeal.main_arg2) = m' ((c.tc : Thread Cert.DmergeRefIdeal.nD Cert.DmergeRefIdeal.τ).loc Cert.DmergeRefIdeal.main_arg2)
          ∧ r.2.mem ((c.tc : Thread Cert.DmergeRefIdeal.nD Cert.DmergeRefIdeal.τ).loc Cert.DmergeRefIdeal.main_arg3) = m' ((c.tc : Thread Cert.DmergeRefIdeal.nD Cert.DmergeRefIdeal.τ).loc Cert.DmergeRefIdeal.main_arg3)
          ∧ r.2.mem ((c.tc : Thread Cert.DmergeRefIdeal.nD Cert.DmergeRefIdeal.τ).loc Cert.DmergeRefIdeal.main_arg4) = m' ((c.tc : Thread Cert.DmergeRefIdeal.nD Cert.DmergeRefIdeal.τ).loc Cert.DmergeRefIdeal.main_arg4)
          ∧ r.2.mem ((c.tc : Thread Cert.DmergeRefIdeal.nD Cert.DmergeRefIdeal.τ).loc Cert.DmergeRefIdeal.main_arg5) = m' ((c.tc : Thread Cert.DmergeRefIdeal.nD Cert.DmergeRefIdeal.τ).loc Cert.DmergeRefIdeal.main_arg5))

def preserves_Attn_AttnIdeal : Prop :=
  IdealRules.named_const.Statement Cert.AttnIdeal.κ "c2" .f32 0x3E16C740#32 (((Real.sqrt 96)⁻¹ * (Real.log 2)⁻¹ : ℝ) : EReal)
  ∧ IdealRules.named_const.Statement Cert.AttnIdeal.κ "scale" .f32 0x3DD105EC#32 (((Real.sqrt 96)⁻¹ : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v44_0)) (v1 : (c : Dev Cert.AttnIdeal.nD) → Buf (Elt Ideal) ((c.tc : Thread Cert.AttnIdeal.nD Cert.AttnIdeal.τ).loc Cert.AttnIdeal.main_v44_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v44_0) = v0 c
          ∧ r.2.mem ((c.tc : Thread Cert.AttnIdeal.nD Cert.AttnIdeal.τ).loc Cert.AttnIdeal.main_v44_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v64) = v0 c
          ∧ r.2.mem ((c.tc : Thread Cert.AttnRefIdeal.nD Cert.AttnRefIdeal.τ).loc Cert.AttnRefIdeal.main_v69) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Afwd_AfwdIdeal : Prop :=
  IdealRules.named_const.Statement Cert.AfwdIdeal.κ "mask" .f32 0xF149F2CA#32 ⊥
  ∧ IdealRules.named_const.Statement Cert.AfwdIdeal.κ "c2" .f32 0x3E16C740#32 (((Real.sqrt 96)⁻¹ * (Real.log 2)⁻¹ : ℝ) : EReal)
  ∧ IdealRules.named_const.Statement Cert.AfwdIdeal.κ "log2e" .f32 0x3FB8AA3B#32 (((Real.log 2)⁻¹ : ℝ) : EReal)

def algebraic_AfwdIdeal_AfwdRefIdeal_pre_afwd_finite [hAfwdIdeal : Cert.AfwdIdeal.Facts] [hAfwdRefIdeal : Cert.AfwdRefIdeal.Facts] [hPre_afwd_finite : Cert.Pre_afwd_finite.Facts] : Prop :=
  ∀ (m : (ℓ : Loc Cert.AfwdIdeal.nD Cert.AfwdIdeal.τ Cert.AfwdIdeal.sig) → Buf (Elt Ideal) ℓ) (g : Dev Cert.AfwdIdeal.nD → PrngReg)
    (m' : (ℓ : Loc Cert.AfwdRefIdeal.nD Cert.AfwdRefIdeal.τ Cert.AfwdRefIdeal.sig) → Buf (Elt Ideal) ℓ) (g' : Dev Cert.AfwdRefIdeal.nD → PrngReg), Pre_AfwdIdeal_afwd_finite m →
    (∀ c : Dev Cert.AfwdIdeal.nD,
      m' ((c.tc : Thread Cert.AfwdRefIdeal.nD Cert.AfwdRefIdeal.τ).loc Cert.AfwdRefIdeal.main_arg0) = m ((c.tc : Thread Cert.AfwdIdeal.nD Cert.AfwdIdeal.τ).loc Cert.AfwdIdeal.main_arg0)
      ∧ m' ((c.tc : Thread Cert.AfwdRefIdeal.nD Cert.AfwdRefIdeal.τ).loc Cert.AfwdRefIdeal.main_arg1) = m ((c.tc : Thread Cert.AfwdIdeal.nD Cert.AfwdIdeal.τ).loc Cert.AfwdIdeal.main_arg1)
      ∧ m' ((c.tc : Thread Cert.AfwdRefIdeal.nD Cert.AfwdRefIdeal.τ).loc Cert.AfwdRefIdeal.main_arg2) = m ((c.tc : Thread Cert.AfwdIdeal.nD Cert.AfwdIdeal.τ).loc Cert.AfwdIdeal.main_arg2)) →
    ∃ (v0 : (c : Dev Cert.AfwdIdeal.nD) → Buf (Elt Ideal) ((c.tc : Thread Cert.AfwdIdeal.nD Cert.AfwdIdeal.τ).loc Cert.AfwdIdeal.main_v12_0)) (v1 : (c : Dev Cert.AfwdIdeal.nD) → Buf (Elt Ideal) ((c.tc : Thread Cert.AfwdIdeal.nD Cert.AfwdIdeal.τ).loc Cert.AfwdIdeal.main_v12_1)),
      θ_run (Cert.AfwdIdeal.defs (F := Ideal)) (onTc (τ := Cert.AfwdIdeal.τ) (Cert.AfwdIdeal.main (F := Ideal))) ⟨m, fun _ => 0, g⟩ (fun r => ∀ c : Dev Cert.AfwdIdeal.nD,
          r.2.mem ((c.tc : Thread Cert.AfwdIdeal.nD Cert.AfwdIdeal.τ).loc Cert.AfwdIdeal.main_v12_0) = v0 c
          ∧ r.2.mem ((c.tc : Thread Cert.AfwdIdeal.nD Cert.AfwdIdeal.τ).loc Cert.AfwdIdeal.main_v12_1) = v1 c
          ∧ r.2.mem ((c.tc : Thread Cert.AfwdIdeal.nD Cert.AfwdIdeal.τ).loc Cert.AfwdIdeal.main_arg0) = m ((c.tc : Thread Cert.AfwdIdeal.nD Cert.AfwdIdeal.τ).loc Cert.AfwdIdeal.main_arg0)
          ∧ r.2.mem ((c.tc : Thread Cert.AfwdIdeal.nD Cert.AfwdIdeal.τ).loc Cert.AfwdIdeal.main_arg1) = m ((c.tc : Thread Cert.AfwdIdeal.nD Cert.AfwdIdeal.τ).loc Cert.AfwdIdeal.main_arg1)
          ∧ r.2.mem ((c.tc : Thread Cert.AfwdIdeal.nD Cert.AfwdIdeal.τ).loc Cert.AfwdIdeal.main_arg2) = m ((c.tc : Thread Cert.AfwdIdeal.nD Cert.AfwdIdeal.τ).loc Cert.AfwdIdeal.main_arg2))
      ∧ θ_run (Cert.AfwdRefIdeal.defs (F := Ideal)) (onTc (τ := Cert.AfwdRefIdeal.τ) (Cert.AfwdRefIdeal.main (F := Ideal))) ⟨m', fun _ => 0, g'⟩ (fun r => ∀ c : Dev Cert.AfwdRefIdeal.nD,
          r.2.mem ((c.tc : Thread Cert.AfwdRefIdeal.nD Cert.AfwdRefIdeal.τ).loc Cert.AfwdRefIdeal.main_v53) = v0 c
          ∧ r.2.mem ((c.tc : Thread Cert.AfwdRefIdeal.nD Cert.AfwdRefIdeal.τ).loc Cert.AfwdRefIdeal.main_v54) = v1 c
          ∧ r.2.mem ((c.tc : Thread Cert.AfwdRefIdeal.nD Cert.AfwdRefIdeal.τ).loc Cert.AfwdRefIdeal.main_arg0) = m' ((c.tc : Thread Cert.AfwdRefIdeal.nD Cert.AfwdRefIdeal.τ).loc Cert.AfwdRefIdeal.main_arg0)
          ∧ r.2.mem ((c.tc : Thread Cert.AfwdRefIdeal.nD Cert.AfwdRefIdeal.τ).loc Cert.AfwdRefIdeal.main_arg1) = m' ((c.tc : Thread Cert.AfwdRefIdeal.nD Cert.AfwdRefIdeal.τ).loc Cert.AfwdRefIdeal.main_arg1)
          ∧ r.2.mem ((c.tc : Thread Cert.AfwdRefIdeal.nD Cert.AfwdRefIdeal.τ).loc Cert.AfwdRefIdeal.main_arg2) = m' ((c.tc : Thread Cert.AfwdRefIdeal.nD Cert.AfwdRefIdeal.τ).loc Cert.AfwdRefIdeal.main_arg2))

def preserves_Mla_MlaIdeal : Prop :=
  IdealRules.named_const.Statement Cert.MlaIdeal.κ "scale" .f32 0x3DD105EC#32 (((Real.sqrt 96)⁻¹ : ℝ) : EReal)

def preserves_Hg_HgIdeal : Prop :=
  IdealRules.named_const.Statement Cert.HgIdeal.κ "hgscale" .f32 0x3DB504F3#32 (((Real.sqrt 128)⁻¹ : ℝ) : EReal)

def preserves_Nfwd_NfwdIdeal : Prop :=
  True

def algebraic_NfwdIdeal_NfwdRefIdeal [hNfwdIdeal : Cert.NfwdIdeal.Facts] [hNfwdRefIdeal : Cert.NfwdRefIdeal.Facts] : Prop :=
  ∀ (m : (ℓ : Loc Cert.NfwdIdeal.nD Cert.NfwdIdeal.τ Cert.NfwdIdeal.sig) → Buf (Elt Ideal) ℓ) (g : Dev Cert.NfwdIdeal.nD → PrngReg)
    (m' : (ℓ : Loc Cert.NfwdRefIdeal.nD Cert.NfwdRefIdeal.τ Cert.NfwdRefIdeal.sig) → Buf (Elt Ideal) ℓ) (g' : Dev Cert.NfwdRefIdeal.nD → PrngReg), Pre_NfwdIdeal m →
    (∀ c : Dev Cert.NfwdIdeal.nD,
      m' ((c.tc : Thread Cert.NfwdRefIdeal.nD Cert.NfwdRefIdeal.τ).loc Cert.NfwdRefIdeal.main_arg0) = m ((c.tc : Thread Cert.NfwdIdeal.nD Cert.NfwdIdeal.τ).loc Cert.NfwdIdeal.main_arg0)
      ∧ m' ((c.tc : Thread Cert.NfwdRefIdeal.nD Cert.NfwdRefIdeal.τ).loc Cert.NfwdRefIdeal.main_arg1) = m ((c.tc : Thread Cert.NfwdIdeal.nD Cert.NfwdIdeal.τ).loc Cert.NfwdIdeal.main_arg1)) →
    ∃ (v0 : (c : Dev Cert.NfwdIdeal.nD) → Buf (Elt Ideal) ((c.tc : Thread Cert.NfwdIdeal.nD Cert.NfwdIdeal.τ).loc Cert.NfwdIdeal.main_v1)),
      θ_run (Cert.NfwdIdeal.defs (F := Ideal)) (onTc (τ := Cert.NfwdIdeal.τ) (Cert.NfwdIdeal.main (F := Ideal))) ⟨m, fun _ => 0, g⟩ (fun r => ∀ c : Dev Cert.NfwdIdeal.nD,
          r.2.mem ((c.tc : Thread Cert.NfwdIdeal.nD Cert.NfwdIdeal.τ).loc Cert.NfwdIdeal.main_v1) = v0 c
          ∧ r.2.mem ((c.tc : Thread Cert.NfwdIdeal.nD Cert.NfwdIdeal.τ).loc Cert.NfwdIdeal.main_arg0) = m ((c.tc : Thread Cert.NfwdIdeal.nD Cert.NfwdIdeal.τ).loc Cert.NfwdIdeal.main_arg0)
          ∧ r.2.mem ((c.tc : Thread Cert.NfwdIdeal.nD Cert.NfwdIdeal.τ).loc Cert.NfwdIdeal.main_arg1) = m ((c.tc : Thread Cert.NfwdIdeal.nD Cert.NfwdIdeal.τ).loc Cert.NfwdIdeal.main_arg1))
      ∧ θ_run (Cert.NfwdRefIdeal.defs (F := Ideal)) (onTc (τ := Cert.NfwdRefIdeal.τ) (Cert.NfwdRefIdeal.main (F := Ideal))) ⟨m', fun _ => 0, g'⟩ (fun r => ∀ c : Dev Cert.NfwdRefIdeal.nD,
          r.2.mem ((c.tc : Thread Cert.NfwdRefIdeal.nD Cert.NfwdRefIdeal.τ).loc Cert.NfwdRefIdeal.main_v13) = v0 c
          ∧ r.2.mem ((c.tc : Thread Cert.NfwdRefIdeal.nD Cert.NfwdRefIdeal.τ).loc Cert.NfwdRefIdeal.main_arg0) = m' ((c.tc : Thread Cert.NfwdRefIdeal.nD Cert.NfwdRefIdeal.τ).loc Cert.NfwdRefIdeal.main_arg0)
          ∧ r.2.mem ((c.tc : Thread Cert.NfwdRefIdeal.nD Cert.NfwdRefIdeal.τ).loc Cert.NfwdRefIdeal.main_arg1) = m' ((c.tc : Thread Cert.NfwdRefIdeal.nD Cert.NfwdRefIdeal.τ).loc Cert.NfwdRefIdeal.main_arg1))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)) →
    ∃ (v0 : (c : Dev Cert.ActIdeal.nD) → Buf (Elt Ideal) ((c.tc : Thread Cert.ActIdeal.nD Cert.ActIdeal.τ).loc Cert.ActIdeal.main_v3_0)) (v1 : (c : Dev Cert.ActIdeal.nD) → Buf (Elt Ideal) ((c.tc : Thread Cert.ActIdeal.nD Cert.ActIdeal.τ).loc Cert.ActIdeal.main_v3_1)) (v2 : (c : Dev Cert.ActIdeal.nD) → Buf (Elt Ideal) ((c.tc : Thread Cert.ActIdeal.nD Cert.ActIdeal.τ).loc Cert.ActIdeal.main_v3_2)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v3_0) = v0 c
          ∧ r.2.mem ((c.tc : Thread Cert.ActIdeal.nD Cert.ActIdeal.τ).loc Cert.ActIdeal.main_v3_1) = v1 c
          ∧ r.2.mem ((c.tc : Thread Cert.ActIdeal.nD Cert.ActIdeal.τ).loc Cert.ActIdeal.main_v3_2) = v2 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v4) = v0 c
          ∧ r.2.mem ((c.tc : Thread Cert.ActRefIdeal.nD Cert.ActRefIdeal.τ).loc Cert.ActRefIdeal.main_v5) = v1 c
          ∧ r.2.mem ((c.tc : Thread Cert.ActRefIdeal.nD Cert.ActRefIdeal.τ).loc Cert.ActRefIdeal.main_v8) = v2 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_v18) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Lbf_LbfIdeal : Prop :=
  True

def algebraic_LbfIdeal_LbfRefIdeal_pre_lbf_finite [hLbfIdeal : Cert.LbfIdeal.Facts] [hLbfRefIdeal : Cert.LbfRefIdeal.Facts] [hPre_lbf_finite : Cert.Pre_lbf_finite.Facts] : Prop :=
  ∀ (m : (ℓ : Loc Cert.LbfIdeal.nD Cert.LbfIdeal.τ Cert.LbfIdeal.sig) → Buf (Elt Ideal) ℓ) (g : Dev Cert.LbfIdeal.nD → PrngReg)
    (m' : (ℓ : Loc Cert.LbfRefIdeal.nD Cert.LbfRefIdeal.τ Cert.LbfRefIdeal.sig) → Buf (Elt Ideal) ℓ) (g' : Dev Cert.LbfRefIdeal.nD → PrngReg), Pre_LbfIdeal_lbf_finite m →
    (∀ c : Dev Cert.LbfIdeal.nD,
      m' ((c.tc : Thread Cert.LbfRefIdeal.nD Cert.LbfRefIdeal.τ).loc Cert.LbfRefIdeal.main_arg0) = m ((c.tc : Thread Cert.LbfIdeal.nD Cert.LbfIdeal.τ).loc Cert.LbfIdeal.main_arg0)) →
    ∃ (v0 : (c : Dev Cert.LbfIdeal.nD) → Buf (Elt Ideal) ((c.tc : Thread Cert.LbfIdeal.nD Cert.LbfIdeal.τ).loc Cert.LbfIdeal.main_v0)),
      θ_run (Cert.LbfIdeal.defs (F := Ideal)) (onTc (τ := Cert.LbfIdeal.τ) (Cert.LbfIdeal.main (F := Ideal))) ⟨m, fun _ => 0, g⟩ (fun r => ∀ c : Dev Cert.LbfIdeal.nD,
          r.2.mem ((c.tc : Thread Cert.LbfIdeal.nD Cert.LbfIdeal.τ).loc Cert.LbfIdeal.main_v0) = v0 c
          ∧ r.2.mem ((c.tc : Thread Cert.LbfIdeal.nD Cert.LbfIdeal.τ).loc Cert.LbfIdeal.main_arg0) = m ((c.tc : Thread Cert.LbfIdeal.nD Cert.LbfIdeal.τ).loc Cert.LbfIdeal.main_arg0))
      ∧ θ_run (Cert.LbfRefIdeal.defs (F := Ideal)) (onTc (τ := Cert.LbfRefIdeal.τ) (Cert.LbfRefIdeal.main (F := Ideal))) ⟨m', fun _ => 0, g'⟩ (fun r => ∀ c : Dev Cert.LbfRefIdeal.nD,
          r.2.mem ((c.tc : Thread Cert.LbfRefIdeal.nD Cert.LbfRefIdeal.τ).loc Cert.LbfRefIdeal.main_v14) = v0 c
          ∧ r.2.mem ((c.tc : Thread Cert.LbfRefIdeal.nD Cert.LbfRefIdeal.τ).loc Cert.LbfRefIdeal.main_arg0) = m' ((c.tc : Thread Cert.LbfRefIdeal.nD Cert.LbfRefIdeal.τ).loc Cert.LbfRefIdeal.main_arg0))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v15_0)) (v1 : (c : Dev Cert.MergeIdeal.nD) → Buf (Elt Ideal) ((c.tc : Thread Cert.MergeIdeal.nD Cert.MergeIdeal.τ).loc Cert.MergeIdeal.main_v15_1)) (v2 : (c : Dev Cert.MergeIdeal.nD) → Buf (Elt Ideal) ((c.tc : Thread Cert.MergeIdeal.nD Cert.MergeIdeal.τ).loc Cert.MergeIdeal.main_v15_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v15_0) = v0 c
          ∧ r.2.mem ((c.tc : Thread Cert.MergeIdeal.nD Cert.MergeIdeal.τ).loc Cert.MergeIdeal.main_v15_1) = v1 c
          ∧ r.2.mem ((c.tc : Thread Cert.MergeIdeal.nD Cert.MergeIdeal.τ).loc Cert.MergeIdeal.main_v15_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_v22) = v1 c
          ∧ r.2.mem ((c.tc : Thread Cert.MergeRefIdeal.nD Cert.MergeRefIdeal.τ).loc Cert.MergeRefIdeal.main_v23) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v4_0)) (v1 : (c : Dev Cert.OutIdeal.nD) → Buf (Elt Ideal) ((c.tc : Thread Cert.OutIdeal.nD Cert.OutIdeal.τ).loc Cert.OutIdeal.main_v4_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4_0) = v0 c
          ∧ r.2.mem ((c.tc : Thread Cert.OutIdeal.nD Cert.OutIdeal.τ).loc Cert.OutIdeal.main_v4_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_v16) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Dxn_DxnIdeal : Prop :=
  True

def algebraic_DxnIdeal_DxnRefIdeal [hDxnIdeal : Cert.DxnIdeal.Facts] [hDxnRefIdeal : Cert.DxnRefIdeal.Facts] : Prop :=
  ∀ (m : (ℓ : Loc Cert.DxnIdeal.nD Cert.DxnIdeal.τ Cert.DxnIdeal.sig) → Buf (Elt Ideal) ℓ) (g : Dev Cert.DxnIdeal.nD → PrngReg)
    (m' : (ℓ : Loc Cert.DxnRefIdeal.nD Cert.DxnRefIdeal.τ Cert.DxnRefIdeal.sig) → Buf (Elt Ideal) ℓ) (g' : Dev Cert.DxnRefIdeal.nD → PrngReg), Pre_DxnIdeal m →
    (∀ c : Dev Cert.DxnIdeal.nD,
      m' ((c.tc : Thread Cert.DxnRefIdeal.nD Cert.DxnRefIdeal.τ).loc Cert.DxnRefIdeal.main_arg0) = m ((c.tc : Thread Cert.DxnIdeal.nD Cert.DxnIdeal.τ).loc Cert.DxnIdeal.main_arg0)
      ∧ m' ((c.tc : Thread Cert.DxnRefIdeal.nD Cert.DxnRefIdeal.τ).loc Cert.DxnRefIdeal.main_arg1) = m ((c.tc : Thread Cert.DxnIdeal.nD Cert.DxnIdeal.τ).loc Cert.DxnIdeal.main_arg1)
      ∧ m' ((c.tc : Thread Cert.DxnRefIdeal.nD Cert.DxnRefIdeal.τ).loc Cert.DxnRefIdeal.main_arg2) = m ((c.tc : Thread Cert.DxnIdeal.nD Cert.DxnIdeal.τ).loc Cert.DxnIdeal.main_arg2)) →
    ∃ (v0 : (c : Dev Cert.DxnIdeal.nD) → Buf (Elt Ideal) ((c.tc : Thread Cert.DxnIdeal.nD Cert.DxnIdeal.τ).loc Cert.DxnIdeal.main_v8)),
      θ_run (Cert.DxnIdeal.defs (F := Ideal)) (onTc (τ := Cert.DxnIdeal.τ) (Cert.DxnIdeal.main (F := Ideal))) ⟨m, fun _ => 0, g⟩ (fun r => ∀ c : Dev Cert.DxnIdeal.nD,
          r.2.mem ((c.tc : Thread Cert.DxnIdeal.nD Cert.DxnIdeal.τ).loc Cert.DxnIdeal.main_v8) = v0 c
          ∧ r.2.mem ((c.tc : Thread Cert.DxnIdeal.nD Cert.DxnIdeal.τ).loc Cert.DxnIdeal.main_arg0) = m ((c.tc : Thread Cert.DxnIdeal.nD Cert.DxnIdeal.τ).loc Cert.DxnIdeal.main_arg0)
          ∧ r.2.mem ((c.tc : Thread Cert.DxnIdeal.nD Cert.DxnIdeal.τ).loc Cert.DxnIdeal.main_arg1) = m ((c.tc : Thread Cert.DxnIdeal.nD Cert.DxnIdeal.τ).loc Cert.DxnIdeal.main_arg1)
          ∧ r.2.mem ((c.tc : Thread Cert.DxnIdeal.nD Cert.DxnIdeal.τ).loc Cert.DxnIdeal.main_arg2) = m ((c.tc : Thread Cert.DxnIdeal.nD Cert.DxnIdeal.τ).loc Cert.DxnIdeal.main_arg2))
      ∧ θ_run (Cert.DxnRefIdeal.defs (F := Ideal)) (onTc (τ := Cert.DxnRefIdeal.τ) (Cert.DxnRefIdeal.main (F := Ideal))) ⟨m', fun _ => 0, g'⟩ (fun r => ∀ c : Dev Cert.DxnRefIdeal.nD,
          r.2.mem ((c.tc : Thread Cert.DxnRefIdeal.nD Cert.DxnRefIdeal.τ).loc Cert.DxnRefIdeal.main_v6) = v0 c
          ∧ r.2.mem ((c.tc : Thread Cert.DxnRefIdeal.nD Cert.DxnRefIdeal.τ).loc Cert.DxnRefIdeal.main_arg0) = m' ((c.tc : Thread Cert.DxnRefIdeal.nD Cert.DxnRefIdeal.τ).loc Cert.DxnRefIdeal.main_arg0)
          ∧ r.2.mem ((c.tc : Thread Cert.DxnRefIdeal.nD Cert.DxnRefIdeal.τ).loc Cert.DxnRefIdeal.main_arg1) = m' ((c.tc : Thread Cert.DxnRefIdeal.nD Cert.DxnRefIdeal.τ).loc Cert.DxnRefIdeal.main_arg1)
          ∧ r.2.mem ((c.tc : Thread Cert.DxnRefIdeal.nD Cert.DxnRefIdeal.τ).loc Cert.DxnRefIdeal.main_arg2) = m' ((c.tc : Thread Cert.DxnRefIdeal.nD Cert.DxnRefIdeal.τ).loc Cert.DxnRefIdeal.main_arg2))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v1_0)) (v1 : (c : Dev Cert.AdamIdeal.nD) → Buf (Elt Ideal) ((c.tc : Thread Cert.AdamIdeal.nD Cert.AdamIdeal.τ).loc Cert.AdamIdeal.main_v1_1)) (v2 : (c : Dev Cert.AdamIdeal.nD) → Buf (Elt Ideal) ((c.tc : Thread Cert.AdamIdeal.nD Cert.AdamIdeal.τ).loc Cert.AdamIdeal.main_v1_2)) (v3 : (c : Dev Cert.AdamIdeal.nD) → Buf (Elt Ideal) ((c.tc : Thread Cert.AdamIdeal.nD Cert.AdamIdeal.τ).loc Cert.AdamIdeal.main_v1_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v1_0) = v0 c
          ∧ r.2.mem ((c.tc : Thread Cert.AdamIdeal.nD Cert.AdamIdeal.τ).loc Cert.AdamIdeal.main_v1_1) = v1 c
          ∧ r.2.mem ((c.tc : Thread Cert.AdamIdeal.nD Cert.AdamIdeal.τ).loc Cert.AdamIdeal.main_v1_2) = v2 c
          ∧ r.2.mem ((c.tc : Thread Cert.AdamIdeal.nD Cert.AdamIdeal.τ).loc Cert.AdamIdeal.main_v1_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v0) = v0 c
          ∧ r.2.mem ((c.tc : Thread Cert.AdamRefIdeal.nD Cert.AdamRefIdeal.τ).loc Cert.AdamRefIdeal.main_v24) = v1 c
          ∧ r.2.mem ((c.tc : Thread Cert.AdamRefIdeal.nD Cert.AdamRefIdeal.τ).loc Cert.AdamRefIdeal.main_v5) = v2 c
          ∧ r.2.mem ((c.tc : Thread Cert.AdamRefIdeal.nD Cert.AdamRefIdeal.τ).loc Cert.AdamRefIdeal.main_v11) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Asmall_AsmallIdeal : Prop :=
  True

def algebraic_AsmallIdeal_AsmallRefIdeal [hAsmallIdeal : Cert.AsmallIdeal.Facts] [hAsmallRefIdeal : Cert.AsmallRefIdeal.Facts] : Prop :=
  ∀ (m : (ℓ : Loc Cert.AsmallIdeal.nD Cert.AsmallIdeal.τ Cert.AsmallIdeal.sig) → Buf (Elt Ideal) ℓ) (g : Dev Cert.AsmallIdeal.nD → PrngReg)
    (m' : (ℓ : Loc Cert.AsmallRefIdeal.nD Cert.AsmallRefIdeal.τ Cert.AsmallRefIdeal.sig) → Buf (Elt Ideal) ℓ) (g' : Dev Cert.AsmallRefIdeal.nD → PrngReg), Pre_AsmallIdeal m →
    (∀ c : Dev Cert.AsmallIdeal.nD,
      m' ((c.tc : Thread Cert.AsmallRefIdeal.nD Cert.AsmallRefIdeal.τ).loc Cert.AsmallRefIdeal.main_arg0) = m ((c.tc : Thread Cert.AsmallIdeal.nD Cert.AsmallIdeal.τ).loc Cert.AsmallIdeal.main_arg0)
      ∧ m' ((c.tc : Thread Cert.AsmallRefIdeal.nD Cert.AsmallRefIdeal.τ).loc Cert.AsmallRefIdeal.main_arg1) = m ((c.tc : Thread Cert.AsmallIdeal.nD Cert.AsmallIdeal.τ).loc Cert.AsmallIdeal.main_arg1)
      ∧ m' ((c.tc : Thread Cert.AsmallRefIdeal.nD Cert.AsmallRefIdeal.τ).loc Cert.AsmallRefIdeal.main_arg2) = m ((c.tc : Thread Cert.AsmallIdeal.nD Cert.AsmallIdeal.τ).loc Cert.AsmallIdeal.main_arg2)
      ∧ m' ((c.tc : Thread Cert.AsmallRefIdeal.nD Cert.AsmallRefIdeal.τ).loc Cert.AsmallRefIdeal.main_arg3) = m ((c.tc : Thread Cert.AsmallIdeal.nD Cert.AsmallIdeal.τ).loc Cert.AsmallIdeal.main_arg3)) →
    ∃ (v0 : (c : Dev Cert.AsmallIdeal.nD) → Buf (Elt Ideal) ((c.tc : Thread Cert.AsmallIdeal.nD Cert.AsmallIdeal.τ).loc Cert.AsmallIdeal.main_v0_0)) (v1 : (c : Dev Cert.AsmallIdeal.nD) → Buf (Elt Ideal) ((c.tc : Thread Cert.AsmallIdeal.nD Cert.AsmallIdeal.τ).loc Cert.AsmallIdeal.main_v0_1)) (v2 : (c : Dev Cert.AsmallIdeal.nD) → Buf (Elt Ideal) ((c.tc : Thread Cert.AsmallIdeal.nD Cert.AsmallIdeal.τ).loc Cert.AsmallIdeal.main_v0_2)),
      θ_run (Cert.AsmallIdeal.defs (F := Ideal)) (onTc (τ := Cert.AsmallIdeal.τ) (Cert.AsmallIdeal.main (F := Ideal))) ⟨m, fun _ => 0, g⟩ (fun r => ∀ c : Dev Cert.AsmallIdeal.nD,
          r.2.mem ((c.tc : Thread Cert.AsmallIdeal.nD Cert.AsmallIdeal.τ).loc Cert.AsmallIdeal.main_v0_0) = v0 c
          ∧ r.2.mem ((c.tc : Thread Cert.AsmallIdeal.nD Cert.AsmallIdeal.τ).loc Cert.AsmallIdeal.main_v0_1) = v1 c
          ∧ r.2.mem ((c.tc : Thread Cert.AsmallIdeal.nD Cert.AsmallIdeal.τ).loc Cert.AsmallIdeal.main_v0_2) = v2 c
          ∧ r.2.mem ((c.tc : Thread Cert.AsmallIdeal.nD Cert.AsmallIdeal.τ).loc Cert.AsmallIdeal.main_arg0) = m ((c.tc : Thread Cert.AsmallIdeal.nD Cert.AsmallIdeal.τ).loc Cert.AsmallIdeal.main_arg0)
          ∧ r.2.mem ((c.tc : Thread Cert.AsmallIdeal.nD Cert.AsmallIdeal.τ).loc Cert.AsmallIdeal.main_arg1) = m ((c.tc : Thread Cert.AsmallIdeal.nD Cert.AsmallIdeal.τ).loc Cert.AsmallIdeal.main_arg1)
          ∧ r.2.mem ((c.tc : Thread Cert.AsmallIdeal.nD Cert.AsmallIdeal.τ).loc Cert.AsmallIdeal.main_arg2) = m ((c.tc : Thread Cert.AsmallIdeal.nD Cert.AsmallIdeal.τ).loc Cert.AsmallIdeal.main_arg2)
          ∧ r.2.mem ((c.tc : Thread Cert.AsmallIdeal.nD Cert.AsmallIdeal.τ).loc Cert.AsmallIdeal.main_arg3) = m ((c.tc : Thread Cert.AsmallIdeal.nD Cert.AsmallIdeal.τ).loc Cert.AsmallIdeal.main_arg3))
      ∧ θ_run (Cert.AsmallRefIdeal.defs (F := Ideal)) (onTc (τ := Cert.AsmallRefIdeal.τ) (Cert.AsmallRefIdeal.main (F := Ideal))) ⟨m', fun _ => 0, g'⟩ (fun r => ∀ c : Dev Cert.AsmallRefIdeal.nD,
          r.2.mem ((c.tc : Thread Cert.AsmallRefIdeal.nD Cert.AsmallRefIdeal.τ).loc Cert.AsmallRefIdeal.main_v23) = v0 c
          ∧ r.2.mem ((c.tc : Thread Cert.AsmallRefIdeal.nD Cert.AsmallRefIdeal.τ).loc Cert.AsmallRefIdeal.main_v4) = v1 c
          ∧ r.2.mem ((c.tc : Thread Cert.AsmallRefIdeal.nD Cert.AsmallRefIdeal.τ).loc Cert.AsmallRefIdeal.main_v10) = v2 c
          ∧ r.2.mem ((c.tc : Thread Cert.AsmallRefIdeal.nD Cert.AsmallRefIdeal.τ).loc Cert.AsmallRefIdeal.main_arg0) = m' ((c.tc : Thread Cert.AsmallRefIdeal.nD Cert.AsmallRefIdeal.τ).loc Cert.AsmallRefIdeal.main_arg0)
          ∧ r.2.mem ((c.tc : Thread Cert.AsmallRefIdeal.nD Cert.AsmallRefIdeal.τ).loc Cert.AsmallRefIdeal.main_arg1) = m' ((c.tc : Thread Cert.AsmallRefIdeal.nD Cert.AsmallRefIdeal.τ).loc Cert.AsmallRefIdeal.main_arg1)
          ∧ r.2.mem ((c.tc : Thread Cert.AsmallRefIdeal.nD Cert.AsmallRefIdeal.τ).loc Cert.AsmallRefIdeal.main_arg2) = m' ((c.tc : Thread Cert.AsmallRefIdeal.nD Cert.AsmallRefIdeal.τ).loc Cert.AsmallRefIdeal.main_arg2)
          ∧ r.2.mem ((c.tc : Thread Cert.AsmallRefIdeal.nD Cert.AsmallRefIdeal.τ).loc Cert.AsmallRefIdeal.main_arg3) = m' ((c.tc : Thread Cert.AsmallRefIdeal.nD Cert.AsmallRefIdeal.τ).loc Cert.AsmallRefIdeal.main_arg3))

def preserves_Front_FrontIdeal : Prop :=
  True

def Claim : Prop :=
  ∃ (hLb : Cert.Lb.Facts) (hLbIdeal : Cert.LbIdeal.Facts) (hLbRefIdeal : Cert.LbRefIdeal.Facts) (hNorm : Cert.Norm.Facts) (hNormIdeal : Cert.NormIdeal.Facts) (hNormRefIdeal : Cert.NormRefIdeal.Facts) (hLoss : Cert.Loss.Facts) (hLossIdeal : Cert.LossIdeal.Facts) (hLossRefIdeal : Cert.LossRefIdeal.Facts) (hDact : Cert.Dact.Facts) (hDactIdeal : Cert.DactIdeal.Facts) (hDactRefIdeal : Cert.DactRefIdeal.Facts) (hDmerge : Cert.Dmerge.Facts) (hDmergeIdeal : Cert.DmergeIdeal.Facts) (hDmergeRefIdeal : Cert.DmergeRefIdeal.Facts) (hAttn : Cert.Attn.Facts) (hAttnIdeal : Cert.AttnIdeal.Facts) (hAttnRefIdeal : Cert.AttnRefIdeal.Facts) (hAfwd : Cert.Afwd.Facts) (hAfwdIdeal : Cert.AfwdIdeal.Facts) (hAfwdRefIdeal : Cert.AfwdRefIdeal.Facts) (hMla : Cert.Mla.Facts) (hMlaIdeal : Cert.MlaIdeal.Facts) (hMlaRefIdeal : Cert.MlaRefIdeal.Facts) (hHg : Cert.Hg.Facts) (hHgIdeal : Cert.HgIdeal.Facts) (hHgRefIdeal : Cert.HgRefIdeal.Facts) (hNfwd : Cert.Nfwd.Facts) (hNfwdIdeal : Cert.NfwdIdeal.Facts) (hNfwdRefIdeal : Cert.NfwdRefIdeal.Facts) (hAct : Cert.Act.Facts) (hActIdeal : Cert.ActIdeal.Facts) (hActRefIdeal : Cert.ActRefIdeal.Facts) (hDown : Cert.Down.Facts) (hDownIdeal : Cert.DownIdeal.Facts) (hDownRefIdeal : Cert.DownRefIdeal.Facts) (hLbf : Cert.Lbf.Facts) (hLbfIdeal : Cert.LbfIdeal.Facts) (hLbfRefIdeal : Cert.LbfRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hDxn : Cert.Dxn.Facts) (hDxnIdeal : Cert.DxnIdeal.Facts) (hDxnRefIdeal : Cert.DxnRefIdeal.Facts) (hSum : Cert.Sum.Facts) (hSumIdeal : Cert.SumIdeal.Facts) (hSumRefIdeal : Cert.SumRefIdeal.Facts) (hAdam : Cert.Adam.Facts) (hAdamIdeal : Cert.AdamIdeal.Facts) (hAdamRefIdeal : Cert.AdamRefIdeal.Facts) (hAsmall : Cert.Asmall.Facts) (hAsmallIdeal : Cert.AsmallIdeal.Facts) (hAsmallRefIdeal : Cert.AsmallRefIdeal.Facts) (hFront : Cert.Front.Facts) (hFrontIdeal : Cert.FrontIdeal.Facts) (hFrontRefIdeal : Cert.FrontRefIdeal.Facts) (hPre_lb_finite : Cert.Pre_lb_finite.Facts) (hPre_norm_finite : Cert.Pre_norm_finite.Facts) (hPre_loss_finite : Cert.Pre_loss_finite.Facts) (hPre_dact_finite : Cert.Pre_dact_finite.Facts) (hPre_attn_finite : Cert.Pre_attn_finite.Facts) (hPre_afwd_finite : Cert.Pre_afwd_finite.Facts) (hPre_lbf_finite : Cert.Pre_lbf_finite.Facts),
    quiescent_Lb (hLb := hLb)
    ∧ quiescent_LbIdeal (hLbIdeal := hLbIdeal)
    ∧ quiescent_LbIdeal_pre_lb_finite (hLbIdeal := hLbIdeal) (hPre_lb_finite := hPre_lb_finite)
    ∧ quiescent_LbRefIdeal (hLbRefIdeal := hLbRefIdeal)
    ∧ quiescent_LbRefIdeal_pre_lb_finite (hLbRefIdeal := hLbRefIdeal) (hPre_lb_finite := hPre_lb_finite)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Dact (hDact := hDact)
    ∧ quiescent_DactIdeal (hDactIdeal := hDactIdeal)
    ∧ quiescent_DactIdeal_pre_dact_finite (hDactIdeal := hDactIdeal) (hPre_dact_finite := hPre_dact_finite)
    ∧ quiescent_DactRefIdeal (hDactRefIdeal := hDactRefIdeal)
    ∧ quiescent_DactRefIdeal_pre_dact_finite (hDactRefIdeal := hDactRefIdeal) (hPre_dact_finite := hPre_dact_finite)
    ∧ quiescent_Dmerge (hDmerge := hDmerge)
    ∧ quiescent_DmergeIdeal (hDmergeIdeal := hDmergeIdeal)
    ∧ quiescent_DmergeRefIdeal (hDmergeRefIdeal := hDmergeRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Afwd (hAfwd := hAfwd)
    ∧ quiescent_AfwdIdeal (hAfwdIdeal := hAfwdIdeal)
    ∧ quiescent_AfwdIdeal_pre_afwd_finite (hAfwdIdeal := hAfwdIdeal) (hPre_afwd_finite := hPre_afwd_finite)
    ∧ quiescent_AfwdRefIdeal (hAfwdRefIdeal := hAfwdRefIdeal)
    ∧ quiescent_AfwdRefIdeal_pre_afwd_finite (hAfwdRefIdeal := hAfwdRefIdeal) (hPre_afwd_finite := hPre_afwd_finite)
    ∧ quiescent_Mla (hMla := hMla)
    ∧ quiescent_MlaIdeal (hMlaIdeal := hMlaIdeal)
    ∧ quiescent_MlaRefIdeal (hMlaRefIdeal := hMlaRefIdeal)
    ∧ quiescent_Hg (hHg := hHg)
    ∧ quiescent_HgIdeal (hHgIdeal := hHgIdeal)
    ∧ quiescent_HgRefIdeal (hHgRefIdeal := hHgRefIdeal)
    ∧ quiescent_Nfwd (hNfwd := hNfwd)
    ∧ quiescent_NfwdIdeal (hNfwdIdeal := hNfwdIdeal)
    ∧ quiescent_NfwdRefIdeal (hNfwdRefIdeal := hNfwdRefIdeal)
    ∧ quiescent_Act (hAct := hAct)
    ∧ quiescent_ActIdeal (hActIdeal := hActIdeal)
    ∧ quiescent_ActRefIdeal (hActRefIdeal := hActRefIdeal)
    ∧ quiescent_Down (hDown := hDown)
    ∧ quiescent_DownIdeal (hDownIdeal := hDownIdeal)
    ∧ quiescent_DownRefIdeal (hDownRefIdeal := hDownRefIdeal)
    ∧ quiescent_Lbf (hLbf := hLbf)
    ∧ quiescent_LbfIdeal (hLbfIdeal := hLbfIdeal)
    ∧ quiescent_LbfIdeal_pre_lbf_finite (hLbfIdeal := hLbfIdeal) (hPre_lbf_finite := hPre_lbf_finite)
    ∧ quiescent_LbfRefIdeal (hLbfRefIdeal := hLbfRefIdeal)
    ∧ quiescent_LbfRefIdeal_pre_lbf_finite (hLbfRefIdeal := hLbfRefIdeal) (hPre_lbf_finite := hPre_lbf_finite)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Dxn (hDxn := hDxn)
    ∧ quiescent_DxnIdeal (hDxnIdeal := hDxnIdeal)
    ∧ quiescent_DxnRefIdeal (hDxnRefIdeal := hDxnRefIdeal)
    ∧ quiescent_Sum (hSum := hSum)
    ∧ quiescent_SumIdeal (hSumIdeal := hSumIdeal)
    ∧ quiescent_SumRefIdeal (hSumRefIdeal := hSumRefIdeal)
    ∧ quiescent_Adam (hAdam := hAdam)
    ∧ quiescent_AdamIdeal (hAdamIdeal := hAdamIdeal)
    ∧ quiescent_AdamRefIdeal (hAdamRefIdeal := hAdamRefIdeal)
    ∧ quiescent_Asmall (hAsmall := hAsmall)
    ∧ quiescent_AsmallIdeal (hAsmallIdeal := hAsmallIdeal)
    ∧ quiescent_AsmallRefIdeal (hAsmallRefIdeal := hAsmallRefIdeal)
    ∧ quiescent_Front (hFront := hFront)
    ∧ quiescent_FrontIdeal (hFrontIdeal := hFrontIdeal)
    ∧ quiescent_FrontRefIdeal (hFrontRefIdeal := hFrontRefIdeal)
    ∧ preserves_Lb_LbIdeal
    ∧ algebraic_LbIdeal_LbRefIdeal_pre_lb_finite (hLbIdeal := hLbIdeal) (hLbRefIdeal := hLbRefIdeal) (hPre_lb_finite := hPre_lb_finite)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Dact_DactIdeal
    ∧ algebraic_DactIdeal_DactRefIdeal_pre_dact_finite (hDactIdeal := hDactIdeal) (hDactRefIdeal := hDactRefIdeal) (hPre_dact_finite := hPre_dact_finite)
    ∧ preserves_Dmerge_DmergeIdeal
    ∧ algebraic_DmergeIdeal_DmergeRefIdeal (hDmergeIdeal := hDmergeIdeal) (hDmergeRefIdeal := hDmergeRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Afwd_AfwdIdeal
    ∧ algebraic_AfwdIdeal_AfwdRefIdeal_pre_afwd_finite (hAfwdIdeal := hAfwdIdeal) (hAfwdRefIdeal := hAfwdRefIdeal) (hPre_afwd_finite := hPre_afwd_finite)
    ∧ preserves_Mla_MlaIdeal
    ∧ preserves_Hg_HgIdeal
    ∧ preserves_Nfwd_NfwdIdeal
    ∧ algebraic_NfwdIdeal_NfwdRefIdeal (hNfwdIdeal := hNfwdIdeal) (hNfwdRefIdeal := hNfwdRefIdeal)
    ∧ preserves_Act_ActIdeal
    ∧ algebraic_ActIdeal_ActRefIdeal (hActIdeal := hActIdeal) (hActRefIdeal := hActRefIdeal)
    ∧ preserves_Down_DownIdeal
    ∧ algebraic_DownIdeal_DownRefIdeal (hDownIdeal := hDownIdeal) (hDownRefIdeal := hDownRefIdeal)
    ∧ preserves_Lbf_LbfIdeal
    ∧ algebraic_LbfIdeal_LbfRefIdeal_pre_lbf_finite (hLbfIdeal := hLbfIdeal) (hLbfRefIdeal := hLbfRefIdeal) (hPre_lbf_finite := hPre_lbf_finite)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Dxn_DxnIdeal
    ∧ algebraic_DxnIdeal_DxnRefIdeal (hDxnIdeal := hDxnIdeal) (hDxnRefIdeal := hDxnRefIdeal)
    ∧ preserves_Sum_SumIdeal
    ∧ algebraic_SumIdeal_SumRefIdeal (hSumIdeal := hSumIdeal) (hSumRefIdeal := hSumRefIdeal)
    ∧ preserves_Adam_AdamIdeal
    ∧ algebraic_AdamIdeal_AdamRefIdeal (hAdamIdeal := hAdamIdeal) (hAdamRefIdeal := hAdamRefIdeal)
    ∧ preserves_Asmall_AsmallIdeal
    ∧ algebraic_AsmallIdeal_AsmallRefIdeal (hAsmallIdeal := hAsmallIdeal) (hAsmallRefIdeal := hAsmallRefIdeal)
    ∧ preserves_Front_FrontIdeal
-- ==== Pre_afwd_finite.lean ====
abbrev S8208x8x96 : Shape := ⟨3, ![8208, 8, 96]⟩
abbrev S8208x8x64 : Shape := ⟨3, ![8208, 8, 64]⟩
abbrev S_ : Shape := ⟨0, ![]⟩

class Facts : Prop where
  bcast_S_S8208x8x96 : S_.BroadcastsInDim S8208x8x96 (![] : Fin 0 → Fin S8208x8x96.rank)
  bcast_S_S8208x8x64 : S_.BroadcastsInDim S8208x8x64 (![] : Fin 0 → Fin S8208x8x64.rank)

variable [Facts]

def fn {F : FTy → Type} [FloatOps F] (main_arg0 : FVec F S8208x8x96 .f32) (main_arg1 : FVec F S8208x8x96 .f32) (main_arg2 : FVec F S8208x8x64 .f32) : IVec S8208x8x96 1 × IVec S8208x8x96 1 × IVec S8208x8x64 1 :=
  let main_v0 : FVec F S8208x8x96 .f32 := Host.absf main_arg0
  let main_cst : FVec F S_ .f32 := constant S_ .f32 0x7F800000#32
  let main_v1 : FVec F S8208x8x96 .f32 := broadcastInDim S8208x8x96 ![] bcast_S_S8208x8x96 main_cst
  let main_v2 : IVec S8208x8x96 1 := cmpf .olt main_v0 main_v1
  let main_v3 : FVec F S8208x8x96 .f32 := Host.absf main_arg1
  let main_cst_0 : FVec F S_ .f32 := constant S_ .f32 0x7F800000#32
  let main_v4 : FVec F S8208x8x96 .f32 := broadcastInDim S8208x8x96 ![] bcast_S_S8208x8x96 main_cst_0
  let main_v5 : IVec S8208x8x96 1 := cmpf .olt main_v3 main_v4
  let main_v6 : FVec F S8208x8x64 .f32 := Host.absf main_arg2
  let main_cst_1 : FVec F S_ .f32 := constant S_ .f32 0x7F800000#32
  let main_v7 : FVec F S8208x8x64 .f32 := broadcastInDim S8208x8x64 ![] bcast_S_S8208x8x64 main_cst_1
  let main_v8 : IVec S8208x8x64 1 := cmpf .olt main_v6 main_v7
  (main_v2, main_v5, main_v8)
-- ==== Pre_attn_finite.lean ====
abbrev S8208x8x96 : Shape := ⟨3, ![8208, 8, 96]⟩
abbrev S8208x8x64 : Shape := ⟨3, ![8208, 8, 64]⟩
abbrev S_ : Shape := ⟨0, ![]⟩

class Facts : Prop where
  bcast_S_S8208x8x96 : S_.BroadcastsInDim S8208x8x96 (![] : Fin 0 → Fin S8208x8x96.rank)
  bcast_S_S8208x8x64 : S_.BroadcastsInDim S8208x8x64 (![] : Fin 0 → Fin S8208x8x64.rank)

variable [Facts]

def fn {F : FTy → Type} [FloatOps F] (main_arg0 : FVec F S8208x8x96 .f32) (main_arg1 : FVec F S8208x8x96 .f32) (main_arg2 : FVec F S8208x8x64 .f32) (main_arg3 : FVec F S8208x8x64 .f32) : IVec S8208x8x96 1 × IVec S8208x8x96 1 × IVec S8208x8x64 1 × IVec S8208x8x64 1 :=
  let main_v0 : FVec F S8208x8x96 .f32 := Host.absf main_arg0
  let main_cst : FVec F S_ .f32 := constant S_ .f32 0x7F800000#32
  let main_v1 : FVec F S8208x8x96 .f32 := broadcastInDim S8208x8x96 ![] bcast_S_S8208x8x96 main_cst
  let main_v2 : IVec S8208x8x96 1 := cmpf .olt main_v0 main_v1
  let main_v3 : FVec F S8208x8x96 .f32 := Host.absf main_arg1
  let main_cst_0 : FVec F S_ .f32 := constant S_ .f32 0x7F800000#32
  let main_v4 : FVec F S8208x8x96 .f32 := broadcastInDim S8208x8x96 ![] bcast_S_S8208x8x96 main_cst_0
  let main_v5 : IVec S8208x8x96 1 := cmpf .olt main_v3 main_v4
  let main_v6 : FVec F S8208x8x64 .f32 := Host.absf main_arg2
  let main_cst_1 : FVec F S_ .f32 := constant S_ .f32 0x7F800000#32
  let main_v7 : FVec F S8208x8x64 .f32 := broadcastInDim S8208x8x64 ![] bcast_S_S8208x8x64 main_cst_1
  let main_v8 : IVec S8208x8x64 1 := cmpf .olt main_v6 main_v7
  let main_v9 : FVec F S8208x8x64 .f32 := Host.absf main_arg3
  let main_cst_2 : FVec F S_ .f32 := constant S_ .f32 0x7F800000#32
  let main_v10 : FVec F S8208x8x64 .f32 := broadcastInDim S8208x8x64 ![] bcast_S_S8208x8x64 main_cst_2
  let main_v11 : IVec S8208x8x64 1 := cmpf .olt main_v9 main_v10
  (main_v2, main_v5, main_v8, main_v11)
-- ==== Pre_dact_finite.lean ====
abbrev S8208x2816 : Shape := ⟨2, ![8208, 2816]⟩
abbrev S2816x1024 : Shape := ⟨2, ![2816, 1024]⟩
abbrev S8208x1024 : Shape := ⟨2, ![8208, 1024]⟩
abbrev S_ : Shape := ⟨0, ![]⟩

class Facts : Prop where
  bcast_S_S8208x2816 : S_.BroadcastsInDim S8208x2816 (![] : Fin 0 → Fin S8208x2816.rank)
  bcast_S_S2816x1024 : S_.BroadcastsInDim S2816x1024 (![] : Fin 0 → Fin S2816x1024.rank)
  bcast_S_S8208x1024 : S_.BroadcastsInDim S8208x1024 (![] : Fin 0 → Fin S8208x1024.rank)

variable [Facts]

def fn {F : FTy → Type} [FloatOps F] (main_arg0 : FVec F S8208x2816 .f32) (main_arg1 : FVec F S8208x2816 .f32) (main_arg2 : FVec F S2816x1024 .f32) (main_arg3 : FVec F S8208x1024 .f32) : IVec S8208x2816 1 × IVec S8208x2816 1 × IVec S2816x1024 1 × IVec S8208x1024 1 :=
  let main_v0 : FVec F S8208x2816 .f32 := Host.absf main_arg0
  let main_cst : FVec F S_ .f32 := constant S_ .f32 0x7F800000#32
  let main_v1 : FVec F S8208x2816 .f32 := broadcastInDim S8208x2816 ![] bcast_S_S8208x2816 main_cst
  let main_v2 : IVec S8208x2816 1 := cmpf .olt main_v0 main_v1
  let main_v3 : FVec F S8208x2816 .f32 := Host.absf main_arg1
  let main_cst_0 : FVec F S_ .f32 := constant S_ .f32 0x7F800000#32
  let main_v4 : FVec F S8208x2816 .f32 := broadcastInDim S8208x2816 ![] bcast_S_S8208x2816 main_cst_0
  let main_v5 : IVec S8208x2816 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S8208x1024 .f32 := Host.absf main_arg3
  let main_cst_2 : FVec F S_ .f32 := constant S_ .f32 0x7F800000#32
  let main_v10 : FVec F S8208x1024 .f32 := broadcastInDim S8208x1024 ![] bcast_S_S8208x1024 main_cst_2
  let main_v11 : IVec S8208x1024 1 := cmpf .olt main_v9 main_v10
  (main_v2, main_v5, main_v8, main_v11)
-- ==== Pre_lb_finite.lean ====
abbrev S4x512 : Shape := ⟨2, ![4, 512]⟩
abbrev S_ : Shape := ⟨0, ![]⟩

class Facts : Prop where
  bcast_S_S4x512 : S_.BroadcastsInDim S4x512 (![] : Fin 0 → Fin S4x512.rank)

variable [Facts]

def fn {F : FTy → Type} [FloatOps F] (main_arg0 : FVec F S4x512 .f32) (main_arg1 : FVec F S4x512 .f32) : IVec S4x512 1 :=
  let main_v0 : FVec F S4x512 .f32 := Host.absf main_arg0
  let main_cst : FVec F S_ .f32 := constant S_ .f32 0x7F800000#32
  let main_v1 : FVec F S4x512 .f32 := broadcastInDim S4x512 ![] bcast_S_S4x512 main_cst
  let main_v2 : IVec S4x512 1 := cmpf .olt main_v0 main_v1
  let main_v3 : FVec F S4x512 .f32 := Host.absf main_arg1
  let main_cst_0 : FVec F S_ .f32 := constant S_ .f32 0x7F800000#32
  let main_v4 : FVec F S4x512 .f32 := broadcastInDim S4x512 ![] bcast_S_S4x512 main_cst_0
  let main_v5 : IVec S4x512 1 := cmpf .olt main_v3 main_v4
  let main_v6 : IVec S4x512 1 := andi main_v2 main_v5
  main_v6
-- ==== Pre_lbf_finite.lean ====
abbrev S4x512 : Shape := ⟨2, ![4, 512]⟩
abbrev S_ : Shape := ⟨0, ![]⟩

class Facts : Prop where
  bcast_S_S4x512 : S_.BroadcastsInDim S4x512 (![] : Fin 0 → Fin S4x512.rank)

variable [Facts]

def fn {F : FTy → Type} [FloatOps F] (main_arg0 : FVec F S4x512 .f32) : IVec S4x512 1 :=
  let main_v0 : FVec F S4x512 .f32 := Host.absf main_arg0
  let main_cst : FVec F S_ .f32 := constant S_ .f32 0x7F800000#32
  let main_v1 : FVec F S4x512 .f32 := broadcastInDim S4x512 ![] bcast_S_S4x512 main_cst
  let main_v2 : IVec S4x512 1 := cmpf .olt main_v0 main_v1
  main_v2
-- ==== Pre_loss_finite.lean ====
abbrev S8208x1024 : Shape := ⟨2, ![8208, 1024]⟩
abbrev S1024 : Shape := ⟨1, ![1024]⟩
abbrev S8192x1024 : Shape := ⟨2, ![8192, 1024]⟩
abbrev S_ : Shape := ⟨0, ![]⟩

class Facts : Prop where
  bcast_S_S8208x1024 : S_.BroadcastsInDim S8208x1024 (![] : Fin 0 → Fin S8208x1024.rank)
  bcast_S_S1024 : S_.BroadcastsInDim S1024 (![] : Fin 0 → Fin S1024.rank)
  bcast_S_S8192x1024 : S_.BroadcastsInDim S8192x1024 (![] : Fin 0 → Fin S8192x1024.rank)

variable [Facts]

def fn {F : FTy → Type} [FloatOps F] (main_arg0 : FVec F S8208x1024 .f32) (main_arg1 : FVec F S1024 .f32) (main_arg2 : FVec F S8192x1024 .f32) : IVec S8208x1024 1 × IVec S1024 1 × IVec S8192x1024 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_norm_finite.lean ====
abbrev S8208x1024 : Shape := ⟨2, ![8208, 1024]⟩
abbrev S1x1024 : Shape := ⟨2, ![1, 1024]⟩
abbrev S_ : Shape := ⟨0, ![]⟩

class Facts : Prop where
  bcast_S_S8208x1024 : S_.BroadcastsInDim S8208x1024 (![] : Fin 0 → Fin S8208x1024.rank)
  bcast_S_S1x1024 : S_.BroadcastsInDim S1x1024 (![] : Fin 0 → Fin S1x1024.rank)

variable [Facts]

def fn {F : FTy → Type} [FloatOps F] (main_arg0 : FVec F S8208x1024 .f32) (main_arg1 : FVec F S1x1024 .f32) (main_arg2 : FVec F S8208x1024 .f32) (main_arg3 : FVec F S8208x1024 .f32) : IVec S8208x1024 1 × IVec S1x1024 1 × IVec S8208x1024 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S8208x1024 .f32 := Host.absf main_arg2
  let main_cst_1 : FVec F S_ .f32 := constant S_ .f32 0x7F800000#32
  let main_v7 : FVec F S8208x1024 .f32 := broadcastInDim S8208x1024 ![] bcast_S_S8208x1024 main_cst_1
  let main_v8 : IVec S8208x1024 1 := cmpf .olt main_v6 main_v7
  (main_v2, main_v5, main_v8)
-- ==== Lb.lean ====
abbrev S4x512 : Shape := ⟨2, ![4, 512]⟩
abbrev S512 : Shape := ⟨1, ![512]⟩
abbrev S1x512 : Shape := ⟨2, ![1, 512]⟩

abbrev nBuf : Space → Nat
  | .hbm => 3
  | .vmem => 3
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== LbRefIdeal.lean ====
abbrev S4x512 : Shape := ⟨2, ![4, 512]⟩
abbrev S_ : Shape := ⟨0, ![]⟩
abbrev S512 : Shape := ⟨1, ![512]⟩
abbrev S1x512 : Shape := ⟨2, ![1, 512]⟩

abbrev nBuf : Space → Nat
  | .hbm => 71
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S_, .f32⟩
  | .hbm, ⟨3, _⟩ => ⟨S512, .f32⟩
  | .hbm, ⟨4, _⟩ => ⟨S1x512, .f32⟩
  | .hbm, ⟨5, _⟩ => ⟨S4x512, .f32⟩
  | .hbm, ⟨6, _⟩ => ⟨S4x512, .i1⟩
  | .hbm, ⟨7, _⟩ => ⟨S4x512, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .i1⟩
  | .hbm, ⟨16, _⟩ => ⟨S_, .f32⟩
  | .hbm, ⟨17, _⟩ => ⟨S512, .f32⟩
  | .hbm, ⟨18, _⟩ => ⟨S512, .i1⟩
  | .hbm, ⟨19, _⟩ => ⟨S_, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S4x512, .f32⟩
  | .hbm, ⟨29, _⟩ => ⟨S4x512, .f32⟩
  | .hbm, ⟨30, _⟩ => ⟨S4x512, .f32⟩
  | .hbm, ⟨31, _⟩ => ⟨S_, .f32⟩
  | .hbm, ⟨32, _⟩ => ⟨S512, .f32⟩
  | .hbm, ⟨33, _⟩ => ⟨S1x512, .f32⟩
  | .hbm, ⟨34, _⟩ => ⟨S4x512, .f32⟩
  | .hbm, ⟨35, _⟩ => ⟨S4x512, .f32⟩
  | .hbm, ⟨36, _⟩ => ⟨S1x512, .f32⟩
  | .hbm, ⟨37, _⟩ => ⟨S_, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S_, .f32⟩
  | .hbm, ⟨42, _⟩ => ⟨S4x512, .f32⟩
  | .hbm, ⟨43, _⟩ => ⟨S1x512, .f32⟩
  | .hbm, ⟨44, _⟩ => ⟨S4x512, .f32⟩
  | .hbm, ⟨45, _⟩ => ⟨S4x512, .f32⟩
  | .hbm, ⟨46, _⟩ => ⟨S4x512, .f32⟩
  | .hbm, ⟨47, _⟩ => ⟨S4x512, .f32⟩
  | .hbm, ⟨48, _⟩ => ⟨S_, .f32⟩
  | .hbm, ⟨49, _⟩ => ⟨S512, .f32⟩
  | .hbm, ⟨50, _⟩ => ⟨S1x512, .f32⟩
  | .hbm, ⟨51, _⟩ => ⟨S_, .f32⟩
  | .hbm, ⟨52, _⟩ => ⟨S4x512, .f32⟩
  | .hbm, ⟨53, _⟩ => ⟨S_, .f32⟩
  | .hbm, ⟨54, _⟩ => ⟨S_, .f32⟩
  | .hbm, ⟨55, _⟩ => ⟨S4x512, .f32⟩
  | .hbm, ⟨56, _⟩ => ⟨S4x512, .f32⟩
  | .hbm, ⟨57, _⟩ => ⟨S4x512, .f32⟩
  | .hbm, ⟨58, _⟩ => ⟨S4x512, .f32⟩
  | .hbm, ⟨59, _⟩ => ⟨S4x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S1x512, .f32⟩
  | .hbm, ⟨64, _⟩ => ⟨S4x512, .f32⟩
  | .hbm, ⟨65, _⟩ => ⟨S4x512, .f32⟩
  | .hbm, ⟨66, _⟩ => ⟨S_, .f32⟩
  | .hbm, ⟨67, _⟩ => ⟨S512, .f32⟩
  | .hbm, ⟨68, _⟩ => ⟨S4x512, .f32⟩
  | .hbm, ⟨69, _⟩ => ⟨S4x512, .f32⟩
  | .hbm, ⟨70, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_call1_call0_cst : Ref sig .tc := ⟨.hbm, 53, rfl⟩
abbrev main_call1_call0_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Norm.lean ====
abbrev S8208x1024 : Shape := ⟨2, ![8208, 1024]⟩
abbrev S1x1024 : Shape := ⟨2, ![1, 1024]⟩
abbrev S_ : Shape := ⟨0, ![]⟩
abbrev S8448x1024 : Shape := ⟨2, ![8448, 1024]⟩
abbrev S768x1024 : Shape := ⟨2, ![768, 1024]⟩
abbrev S768 : Shape := ⟨1, ![768]⟩
abbrev S768x1 : Shape := ⟨2, ![768, 1]⟩
abbrev S1024 : Shape := ⟨1, ![1024]⟩

abbrev nBuf : Space → Nat
  | .hbm => 15
  | .vmem => 10
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S8208x1024, .f32⟩
  | .hbm, ⟨3, _⟩ => ⟨S8208x1024, .f32⟩
  | .hbm, ⟨4, _⟩ => ⟨S_, .i32⟩
  | .hbm, ⟨5, _⟩ => ⟨S_, .f32⟩
  | .hbm, ⟨6, _⟩ => ⟨S8448x1024, .f32⟩
  | .hbm, ⟨7, _⟩ => ⟨S_, .i32⟩
  | .hbm, ⟨8, _⟩ => ⟨S_, .f32⟩
  | .hbm, ⟨9, _⟩ => ⟨S8448x1024, .f32⟩
  | .hbm, ⟨10, _⟩ => ⟨S_, .i32⟩
  | .hbm, ⟨11, _⟩ => ⟨S_, .f32⟩
  | .hbm, ⟨12, _⟩ => ⟨S8448x1024, .f32⟩
  | .hbm, ⟨13, _⟩ => ⟨S8448x1024, .f32⟩
  | .hbm, ⟨14, _⟩ => ⟨S1x1024, .f32⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .f32⟩
  | .local _ .vmem, ⟨9, _⟩ => ⟨S1x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormRefIdeal.lean ====
abbrev S8208x1024 : Shape := ⟨2, ![8208, 1024]⟩
abbrev S1x1024 : Shape := ⟨2, ![1, 1024]⟩
abbrev S_ : Shape := ⟨0, ![]⟩
abbrev S8208 : Shape := ⟨1, ![8208]⟩
abbrev S8208x1 : Shape := ⟨2, ![8208, 1]⟩
abbrev S1024 : Shape := ⟨1, ![1024]⟩
abbrev S8448x1024 : Shape := ⟨2, ![8448, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S8208x1024, .f32⟩
  | .hbm, ⟨3, _⟩ => ⟨S8208x1024, .f32⟩
  | .hbm, ⟨4, _⟩ => ⟨S8208x1024, .f32⟩
  | .hbm, ⟨5, _⟩ => ⟨S_, .f32⟩
  | .hbm, ⟨6, _⟩ => ⟨S8208, .f32⟩
  | .hbm, ⟨7, _⟩ => ⟨S8208x1, .f32⟩
  | .hbm, ⟨8, _⟩ => ⟨S_, .f32⟩
  | .hbm, ⟨9, _⟩ => ⟨S8208x1, .f32⟩
  | .hbm, ⟨10, _⟩ => ⟨S8208x1, .f32⟩
  | .hbm, ⟨11, _⟩ => ⟨S_, .f32⟩
  | .hbm, ⟨12, _⟩ => ⟨S8208x1, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S_, .f32⟩
  | .hbm, ⟨17, _⟩ => ⟨S8208x1, .f32⟩
  | .hbm, ⟨18, _⟩ => ⟨S8208x1, .f32⟩
  | .hbm, ⟨19, _⟩ => ⟨S8208x1024, .f32⟩
  | .hbm, ⟨20, _⟩ => ⟨S8208x1024, .f32⟩
  | .hbm, ⟨21, _⟩ => ⟨S8208x1024, .f32⟩
  | .hbm, ⟨22, _⟩ => ⟨S8208x1024, .f32⟩
  | .hbm, ⟨23, _⟩ => ⟨S8208x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8208x1024, .f32⟩
  | .hbm, ⟨28, _⟩ => ⟨S8208x1024, .f32⟩
  | .hbm, ⟨29, _⟩ => ⟨S8208x1024, .f32⟩
  | .hbm, ⟨30, _⟩ => ⟨S_, .f32⟩
  | .hbm, ⟨31, _⟩ => ⟨S8208, .f32⟩
  | .hbm, ⟨32, _⟩ => ⟨S8208x1, .f32⟩
  | .hbm, ⟨33, _⟩ => ⟨S8208x1024, .f32⟩
  | .hbm, ⟨34, _⟩ => ⟨S8208x1024, .f32⟩
  | .hbm, ⟨35, _⟩ => ⟨S8208x1024, .f32⟩
  | .hbm, ⟨36, _⟩ => ⟨S8208x1, .f32⟩
  | .hbm, ⟨37, _⟩ => ⟨S_, .f32⟩
  | .hbm, ⟨38, _⟩ => ⟨S8208x1, .f32⟩
  | .hbm, ⟨39, _⟩ => ⟨S8208x1, .f32⟩
  | .hbm, ⟨40, _⟩ => ⟨S_, .f32⟩
  | .hbm, ⟨41, _⟩ => ⟨S8208, .f32⟩
  | .hbm, ⟨42, _⟩ => ⟨S8208x1024, .f32⟩
  | .hbm, ⟨43, _⟩ => ⟨S8208x1024, .f32⟩
  | .hbm, ⟨44, _⟩ => ⟨S8208x1024, .f32⟩
  | .hbm, ⟨45, _⟩ => ⟨S8208x1024, .f32⟩
  | .hbm, ⟨46, _⟩ => ⟨S8208x1024, .f32⟩
  | .hbm, ⟨47, _⟩ => ⟨S_, .i32⟩
  | .hbm, ⟨48, _⟩ => ⟨S_, .f32⟩
  | .hbm, ⟨49, _⟩ => ⟨S8448x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_call0_v0 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Loss.lean ====
abbrev S8208x1024 : Shape := ⟨2, ![8208, 1024]⟩
abbrev S1024 : Shape := ⟨1, ![1024]⟩
abbrev S8192x1024 : Shape := ⟨2, ![8192, 1024]⟩
abbrev S_ : Shape := ⟨0, ![]⟩
abbrev S240x1024 : Shape := ⟨2, ![240, 1024]⟩
abbrev S16x1024 : Shape := ⟨2, ![16, 1024]⟩
abbrev S8448x1024 : Shape := ⟨2, ![8448, 1024]⟩
abbrev S1x1024 : Shape := ⟨2, ![1, 1024]⟩
abbrev S1x1 : Shape := ⟨2, ![1, 1]⟩
abbrev S768x1024 : Shape := ⟨2, ![768, 1024]⟩
abbrev S768 : Shape := ⟨1, ![768]⟩
abbrev S768x1 : Shape := ⟨2, ![768, 1]⟩
abbrev S1 : Shape := ⟨1, ![1]⟩

abbrev nBuf : Space → Nat
  | .hbm => 13
  | .vmem => 9
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S240x1024, .f32⟩
  | .hbm, ⟨5, _⟩ => ⟨S_, .f32⟩
  | .hbm, ⟨6, _⟩ => ⟨S16x1024, .f32⟩
  | .hbm, ⟨7, _⟩ => ⟨S8448x1024, .f32⟩
  | .hbm, ⟨8, _⟩ => ⟨S8448x1024, .f32⟩
  | .hbm, ⟨9, _⟩ => ⟨S1x1024, .f32⟩
  | .hbm, ⟨10, _⟩ => ⟨S8448x1024, .f32⟩
  | .hbm, ⟨11, _⟩ => ⟨S1x1024, .f32⟩
  | .hbm, ⟨12, _⟩ => ⟨S1x1, .f32⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S1x1024, .f32⟩
  | .local _ .vmem, ⟨8, _⟩ => ⟨S1x1, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8208x1024 : Shape := ⟨2, ![8208, 1024]⟩
abbrev S1024 : Shape := ⟨1, ![1024]⟩
abbrev S8192x1024 : Shape := ⟨2, ![8192, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8192 : Shape := ⟨1, ![8192]⟩
abbrev S8448x1024 : Shape := ⟨2, ![8448, 1024]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S8192x1024, .f32⟩
  | .hbm, ⟨3, _⟩ => ⟨S8208x1024, .f32⟩
  | .hbm, ⟨4, _⟩ => ⟨S_, .f32⟩
  | .hbm, ⟨5, _⟩ => ⟨S8208, .f32⟩
  | .hbm, ⟨6, _⟩ => ⟨S8208x1, .f32⟩
  | .hbm, ⟨7, _⟩ => ⟨S_, .f32⟩
  | .hbm, ⟨8, _⟩ => ⟨S8208x1, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S8208x1, .f32⟩
  | .hbm, ⟨14, _⟩ => ⟨S8208x1, .f32⟩
  | .hbm, ⟨15, _⟩ => ⟨S_, .f32⟩
  | .hbm, ⟨16, _⟩ => ⟨S8208x1, .f32⟩
  | .hbm, ⟨17, _⟩ => ⟨S8208x1, .f32⟩
  | .hbm, ⟨18, _⟩ => ⟨S8208x1024, .f32⟩
  | .hbm, ⟨19, _⟩ => ⟨S8208x1024, .f32⟩
  | .hbm, ⟨20, _⟩ => ⟨S1x1024, .f32⟩
  | .hbm, ⟨21, _⟩ => ⟨S8208x1024, .f32⟩
  | .hbm, ⟨22, _⟩ => ⟨S8208x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8208x1024, .f32⟩
  | .hbm, ⟨49, _⟩ => ⟨S8208x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8208x1024, .f32⟩
  | .hbm, ⟨54, _⟩ => ⟨S8208x1024, .f32⟩
  | .hbm, ⟨55, _⟩ => ⟨S_, .f32⟩
  | .hbm, ⟨56, _⟩ => ⟨S1024, .f32⟩
  | .hbm, ⟨57, _⟩ => ⟨S8208x1024, .f32⟩
  | .hbm, ⟨58, _⟩ => ⟨S_, .f32⟩
  | .hbm, ⟨59, _⟩ => ⟨S8208, .f32⟩
  | .hbm, ⟨60, _⟩ => ⟨S8208x1, .f32⟩
  | .hbm, ⟨61, _⟩ => ⟨S8208x1024, .f32⟩
  | .hbm, ⟨62, _⟩ => ⟨S8208x1024, .f32⟩
  | .hbm, ⟨63, _⟩ => ⟨S8208x1, .f32⟩
  | .hbm, ⟨64, _⟩ => ⟨S_, .f32⟩
  | .hbm, ⟨65, _⟩ => ⟨S8208x1, .f32⟩
  | .hbm, ⟨66, _⟩ => ⟨S8208x1, .f32⟩
  | .hbm, ⟨67, _⟩ => ⟨S_, .f32⟩
  | .hbm, ⟨68, _⟩ => ⟨S8208, .f32⟩
  | .hbm, ⟨69, _⟩ => ⟨S8208x1024, .f32⟩
  | .hbm, ⟨70, _⟩ => ⟨S8208x1024, .f32⟩
  | .hbm, ⟨71, _⟩ => ⟨S8208x1024, .f32⟩
  | .hbm, ⟨72, _⟩ => ⟨S8208x1024, .f32⟩
  | .hbm, ⟨73, _⟩ => ⟨S8208x1024, .f32⟩
  | .hbm, ⟨74, _⟩ => ⟨S_, .i32⟩
  | .hbm, ⟨75, _⟩ => ⟨S_, .f32⟩
  | .hbm, ⟨76, _⟩ => ⟨S8448x1024, .f32⟩
  | .hbm, ⟨77, _⟩ => ⟨S1x1024, .f32⟩
  | .hbm, ⟨78, _⟩ => ⟨S1x1, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c : Ref sig .tc := ⟨.hbm, 74, rfl⟩
abbrev main_call0_v0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Dact.lean ====
abbrev S8208x2816 : Shape := ⟨2, ![8208, 2816]⟩
abbrev S2816x1024 : Shape := ⟨2, ![2816, 1024]⟩
abbrev S8208x1024 : Shape := ⟨2, ![8208, 1024]⟩
abbrev S_ : Shape := ⟨0, ![]⟩
abbrev S8448x1024 : Shape := ⟨2, ![8448, 1024]⟩
abbrev S8448x2816 : Shape := ⟨2, ![8448, 2816]⟩
abbrev S1024x2816 : Shape := ⟨2, ![1024, 2816]⟩
abbrev S768x1024 : Shape := ⟨2, ![768, 1024]⟩
abbrev S1024x1408 : Shape := ⟨2, ![1024, 1408]⟩
abbrev S768x1408 : Shape := ⟨2, ![768, 1408]⟩

abbrev nBuf : Space → Nat
  | .hbm => 19
  | .vmem => 12
  | .smem => 0
  | _ => 0

abbrev bufTy : (tb : Table) → Fin (tcTables nBuf tb) → BufTy
  | .hbm, ⟨0, _⟩ => ⟨S8208x2816, .f32⟩
  | .hbm, ⟨1, _⟩ => ⟨S8208x2816, .f32⟩
  | .hbm, ⟨2, _⟩ => ⟨S2816x1024, .f32⟩
  | .hbm, ⟨3, _⟩ => ⟨S8208x1024, .f32⟩
  | .hbm, ⟨4, _⟩ => ⟨S_, .i32⟩
  | .hbm, ⟨5, _⟩ => ⟨S_, .f32⟩
  | .hbm, ⟨6, _⟩ => ⟨S8448x1024, .f32⟩
  | .hbm, ⟨7, _⟩ => ⟨S_, .i32⟩
  | .hbm, ⟨8, _⟩ => ⟨S_, .f32⟩
  | .hbm, ⟨9, _⟩ => ⟨S8448x2816, .f32⟩
  | .hbm, ⟨10, _⟩ => ⟨S8448x2816, .bf16⟩
  | .hbm, ⟨11, _⟩ => ⟨S_, .i32⟩
  | .hbm, ⟨12, _⟩ => ⟨S_, .f32⟩
  | .hbm, ⟨13, _⟩ => ⟨S8448x2816, .f32⟩
  | .hbm, ⟨14, _⟩ => ⟨S8448x2816, .bf16⟩
  | .hbm, ⟨15, _⟩ => ⟨S2816x1024, .bf16⟩
  | .hbm, ⟨16, _⟩ => ⟨S1024x2816, .bf16⟩
  | .hbm, ⟨17, _⟩ => ⟨S8448x2816, .bf16⟩
  | .hbm, ⟨18, _⟩ => ⟨S8448x2816, .bf16⟩
  | .local _ .vmem, ⟨0, _⟩ => ⟨S768x1024, .f32⟩
  | .local _ .vmem, ⟨1, _⟩ => ⟨S768x1024, .f32⟩
  | .local _ .vmem, ⟨2, _⟩ => ⟨S1024x1408, .bf16⟩
  | .local _ .vmem, ⟨3, _⟩ => ⟨S1024x1408, .bf16⟩
  | .local _ .vmem, ⟨4, _⟩ => ⟨S768x1408, .bf16⟩
  | .local _ .vmem, ⟨5, _⟩ => ⟨S768x1408, .bf16⟩
  | .local _ .vmem, ⟨6, _⟩ => ⟨S768x1408, .bf16⟩
  | .local _ .vmem, ⟨7, _⟩ => ⟨S768x1408, .bf16⟩
  | .local _ .vmem, ⟨8, _⟩ => ⟨S768x1408, .bf16⟩
  | .local _ .vmem, ⟨9, _⟩ => ⟨S768x1408, .bf16⟩
  | .local _ .vmem, ⟨10, _⟩ => ⟨S768x1408, .bf16⟩
  | .local _ .vmem, ⟨11, _⟩ => ⟨S768x1408, .bf16⟩
  | _, _ => ⟨S8208x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DactRefIdeal.lean ====
abbrev S8208x2816 : Shape := ⟨2, ![8208, 2816]⟩
abbrev S2816x1024 : Shape := ⟨2, ![2816, 1024]⟩
abbrev S8208x1024 : Shape := ⟨2, ![8208, 1024]⟩
abbrev S_ : Shape := ⟨0, ![]⟩
abbrev S8448x2816 : Shape := ⟨2, ![8448, 2816]⟩

abbrev nBuf : Space → Nat
  | .hbm => 40
  | .vmem => 0
  | .smem => 0
  | _ => 0

abbrev bufTy : (tb : Table) → Fin (tcTables nBuf tb) → BufTy
  | .hbm, ⟨0, _⟩ => ⟨S8208x2816, .f32⟩
  | .hbm, ⟨1, _⟩ => ⟨S8208x2816, .f32⟩
  | .hbm, ⟨2, _⟩ => ⟨S2816x1024, .f32⟩
  | .hbm, ⟨3, _⟩ => ⟨S8208x1024, .f32⟩
  | .hbm, ⟨4, _⟩ => ⟨S8208x2816, .f32⟩
  | .hbm, ⟨5, _⟩ => ⟨S8208x2816, .f32⟩
  | .hbm, ⟨6, _⟩ => ⟨S_, .f32⟩
  | .hbm, ⟨7, _⟩ => ⟨S8208x2816, .f32⟩
  | .hbm, ⟨8, _⟩ => ⟨S8208x2816, .f32⟩
  | .hbm, ⟨9, _⟩ => ⟨S_, .f32⟩
  | .hbm, ⟨10, _⟩ => ⟨S8208x2816, .f32⟩
  | .hbm, ⟨11, _⟩ => ⟨S8208x2816, .f32⟩
  | .hbm, ⟨12, _⟩ => ⟨S_, .f32⟩
  | .hbm, ⟨13, _⟩ => ⟨S8208x2816, .f32⟩
  | .hbm, ⟨14, _⟩ => ⟨S8208x2816, .f32⟩
  | .hbm, ⟨15, _⟩ => ⟨S8208x2816, .f32⟩
  | .hbm, ⟨16, _⟩ => ⟨S8208x2816, .f32⟩
  | .hbm, ⟨17, _⟩ => ⟨S8208x2816, .f32⟩
  | .hbm, ⟨18, _⟩ => ⟨S8208x1024, .f32⟩
  | .hbm, ⟨19, _⟩ => ⟨S_, .f32⟩
  | .hbm, ⟨20, _⟩ => ⟨S8208x1024, .f32⟩
  | .hbm, ⟨21, _⟩ => ⟨S8208x1024, .f32⟩
  | .hbm, ⟨22, _⟩ => ⟨S_, .f32⟩
  | .hbm, ⟨23, _⟩ => ⟨S8208x1024, .f32⟩
  | .hbm, ⟨24, _⟩ => ⟨S8208x1024, .f32⟩
  | .hbm, ⟨25, _⟩ => ⟨S8208x2816, .f32⟩
  | .hbm, ⟨26, _⟩ => ⟨S8208x2816, .f32⟩
  | .hbm, ⟨27, _⟩ => ⟨S8208x2816, .f32⟩
  | .hbm, ⟨28, _⟩ => ⟨S8208x2816, .f32⟩
  | .hbm, ⟨29, _⟩ => ⟨S8208x2816, .f32⟩
  | .hbm, ⟨30, _⟩ => ⟨S8208x2816, .f32⟩
  | .hbm, ⟨31, _⟩ => ⟨S8208x2816, .f32⟩
  | .hbm, ⟨32, _⟩ => ⟨S_, .i32⟩
  | .hbm, ⟨33, _⟩ => ⟨S_, .f32⟩
  | .hbm, ⟨34, _⟩ => ⟨S8448x2816, .f32⟩
  | .hbm, ⟨35, _⟩ => ⟨S8448x2816, .bf16⟩
  | .hbm, ⟨36, _⟩ => ⟨S_, .i32⟩
  | .hbm, ⟨37, _⟩ => ⟨S_, .f32⟩
  | .hbm, ⟨38, _⟩ => ⟨S8448x2816, .f32⟩
  | .hbm, ⟨39, _⟩ => ⟨S8448x2816, .bf16⟩
  | _, _ => ⟨S8208x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_c : Ref sig .tc := ⟨.hbm, 32, rfl⟩
abbrev main_call2_v0 : Ref sig .tc := ⟨.hbm, 33, rfl⟩
abbrev main_v11 : Ref sig .tc := ⟨.hbm, 34, rfl⟩
abbrev main_v12 : Ref sig .tc := ⟨.hbm, 35, rfl⟩
abbrev main_c_1 : Ref sig .tc := ⟨.hbm, 36, rfl⟩
abbrev main_call3_v0 : Ref sig .tc := ⟨.hbm, 37, rfl⟩
abbrev main_v13 : Ref sig .tc := ⟨.hbm, 38, rfl⟩
abbrev main_v14 : Ref sig .tc := ⟨.hbm, 39, rfl⟩

abbrev nD : Nat := 1
abbrev τ : Topo := Topo.v7x

variable {F : FTy → Type} [FloatOps F]
-- ==== Dmerge.lean ====
abbrev S8208x1024 : Shape := ⟨2, ![8208, 1024]⟩
abbrev S1024x1024 : Shape := ⟨2, ![1024, 1024]⟩
abbrev S_ : Shape := ⟨0, ![]⟩
abbrev S8448x1024 : Shape := ⟨2, ![8448, 1024]⟩
abbrev S8208x2048 : Shape := ⟨2, ![8208, 2048]⟩
abbrev S8448x2048 : Shape := ⟨2, ![8448, 2048]⟩
abbrev S768x1024 : Shape := ⟨2, ![768, 1024]⟩
abbrev S1024x512 : Shape := ⟨2, ![1024, 512]⟩
abbrev S768x512 : Shape := ⟨2, ![768, 512]⟩

abbrev nBuf : Space → Nat
  | .hbm => 28
  | .vmem => 20
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x1024, .f32⟩
  | .hbm, ⟨3, _⟩ => ⟨S8208x1024, .f32⟩
  | .hbm, ⟨4, _⟩ => ⟨S1024x1024, .f32⟩
  | .hbm, ⟨5, _⟩ => ⟨S8208x1024, .f32⟩
  | .hbm, ⟨6, _⟩ => ⟨S_, .i32⟩
  | .hbm, ⟨7, _⟩ => ⟨S_, .f32⟩
  | .hbm, ⟨8, _⟩ => ⟨S8448x1024, .f32⟩
  | .hbm, ⟨9, _⟩ => ⟨S_, .i32⟩
  | .hbm, ⟨10, _⟩ => ⟨S_, .f32⟩
  | .hbm, ⟨11, _⟩ => ⟨S8448x1024, .f32⟩
  | .hbm, ⟨12, _⟩ => ⟨S8448x1024, .bf16⟩
  | .hbm, ⟨13, _⟩ => ⟨S_, .i32⟩
  | .hbm, ⟨14, _⟩ => ⟨S_, .f32⟩
  | .hbm, ⟨15, _⟩ => ⟨S8448x1024, .f32⟩
  | .hbm, ⟨16, _⟩ => ⟨S8448x1024, .bf16⟩
  | .hbm, ⟨17, _⟩ => ⟨S8208x2048, .f32⟩
  | .hbm, ⟨18, _⟩ => ⟨S_, .i32⟩
  | .hbm, ⟨19, _⟩ => ⟨S_, .f32⟩
  | .hbm, ⟨20, _⟩ => ⟨S8448x2048, .f32⟩
  | .hbm, ⟨21, _⟩ => ⟨S8448x2048, .bf16⟩
  | .hbm, ⟨22, _⟩ => ⟨S1024x1024, .bf16⟩
  | .hbm, ⟨23, _⟩ => ⟨S1024x1024, .bf16⟩
  | .hbm, ⟨24, _⟩ => ⟨S8448x1024, .bf16⟩
  | .hbm, ⟨25, _⟩ => ⟨S8448x1024, .bf16⟩
  | .hbm, ⟨26, _⟩ => ⟨S8448x1024, .bf16⟩
  | .hbm, ⟨27, _⟩ => ⟨S8448x1024, .bf16⟩
  | .local _ .vmem, ⟨0, _⟩ => ⟨S768x1024, .f32⟩
  | .local _ .vmem, ⟨1, _⟩ => ⟨S768x1024, .f32⟩
  | .local _ .vmem, ⟨2, _⟩ => ⟨S1024x512, .bf16⟩
  | .local _ .vmem, ⟨3, _⟩ => ⟨S1024x512, .bf16⟩
  | .local _ .vmem, ⟨4, _⟩ => ⟨S768x512, .bf16⟩
  | .local _ .vmem, ⟨5, _⟩ => ⟨S768x512, .bf16⟩
  | .local _ .vmem, ⟨6, _⟩ => ⟨S768x512, .bf16⟩
  | .local _ .vmem, ⟨7, _⟩ => ⟨S768x512, .bf16⟩
  | .local _ .vmem, ⟨8, _⟩ => ⟨S768x512, .bf16⟩
  | .local _ .vmem, ⟨9, _⟩ => ⟨S768x512, .bf16⟩
  | .local _ .vmem, ⟨10, _⟩ => ⟨S768x512, .bf16⟩
  | .local _ .vmem, ⟨11, _⟩ => ⟨S768x512, .bf16⟩
  | .local _ .vmem, ⟨12, _⟩ => ⟨S768x512, .bf16⟩
  | .local _ .vmem, ⟨13, _⟩ => ⟨S768x512, .bf16⟩
  | .local _ .vmem, ⟨14, _⟩ => ⟨S768x512, .bf16⟩
  | .local _ .vmem, ⟨15, _⟩ => ⟨S768x512, .bf16⟩
  | .local _ .vmem, ⟨16, _⟩ => ⟨S768x512, .bf16⟩
  | .local _ .vmem, ⟨17, _⟩ => ⟨S768x512, .bf16⟩
  | .local _ .vmem, ⟨18, _⟩ => ⟨S768x512, .bf16⟩
  | .local _ .vmem, ⟨19, _⟩ => ⟨S768x512, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_c_1 : Ref sig .tc := ⟨.hbm, 13, rfl⟩
abbrev main_call2_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_2 : Ref sig .tc := ⟨.hbm, 18, rfl⟩
abbrev main_call3_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v10_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S768x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S768x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== DmergeRefIdeal.lean ====
abbrev S8208x1024 : Shape := ⟨2, ![8208, 1024]⟩
abbrev S1024x1024 : Shape := ⟨2, ![1024, 1024]⟩
abbrev S_ : Shape := ⟨0, ![]⟩
abbrev S8448x1024 : Shape := ⟨2, ![8448, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x1024, .f32⟩
  | .hbm, ⟨3, _⟩ => ⟨S8208x1024, .f32⟩
  | .hbm, ⟨4, _⟩ => ⟨S1024x1024, .f32⟩
  | .hbm, ⟨5, _⟩ => ⟨S8208x1024, .f32⟩
  | .hbm, ⟨6, _⟩ => ⟨S8208x1024, .f32⟩
  | .hbm, ⟨7, _⟩ => ⟨S8208x1024, .f32⟩
  | .hbm, ⟨8, _⟩ => ⟨S_, .f32⟩
  | .hbm, ⟨9, _⟩ => ⟨S8208x1024, .f32⟩
  | .hbm, ⟨10, _⟩ => ⟨S8208x1024, .f32⟩
  | .hbm, ⟨11, _⟩ => ⟨S_, .f32⟩
  | .hbm, ⟨12, _⟩ => ⟨S8208x1024, .f32⟩
  | .hbm, ⟨13, _⟩ => ⟨S8208x1024, .f32⟩
  | .hbm, ⟨14, _⟩ => ⟨S_, .f32⟩
  | .hbm, ⟨15, _⟩ => ⟨S8208x1024, .f32⟩
  | .hbm, ⟨16, _⟩ => ⟨S8208x1024, .f32⟩
  | .hbm, ⟨17, _⟩ => ⟨S8208x1024, .f32⟩
  | .hbm, ⟨18, _⟩ => ⟨S8208x1024, .f32⟩
  | .hbm, ⟨19, _⟩ => ⟨S8208x1024, .f32⟩
  | .hbm, ⟨20, _⟩ => ⟨S8208x1024, .f32⟩
  | .hbm, ⟨21, _⟩ => ⟨S_, .f32⟩
  | .hbm, ⟨22, _⟩ => ⟨S8208x1024, .f32⟩
  | .hbm, ⟨23, _⟩ => ⟨S8208x1024, .f32⟩
  | .hbm, ⟨24, _⟩ => ⟨S_, .f32⟩
  | .hbm, ⟨25, _⟩ => ⟨S8208x1024, .f32⟩
  | .hbm, ⟨26, _⟩ => ⟨S8208x1024, .f32⟩
  | .hbm, ⟨27, _⟩ => ⟨S_, .f32⟩
  | .hbm, ⟨28, _⟩ => ⟨S8208x1024, .f32⟩
  | .hbm, ⟨29, _⟩ => ⟨S8208x1024, .f32⟩
  | .hbm, ⟨30, _⟩ => ⟨S8208x1024, .f32⟩
  | .hbm, ⟨31, _⟩ => ⟨S8208x1024, .f32⟩
  | .hbm, ⟨32, _⟩ => ⟨S8208x1024, .f32⟩
  | .hbm, ⟨33, _⟩ => ⟨S8208x1024, .f32⟩
  | .hbm, ⟨34, _⟩ => ⟨S8208x1024, .f32⟩
  | .hbm, ⟨35, _⟩ => ⟨S8208x1024, .f32⟩
  | .hbm, ⟨36, _⟩ => ⟨S8208x1024, .f32⟩
  | .hbm, ⟨37, _⟩ => ⟨S8208x1024, .f32⟩
  | .hbm, ⟨38, _⟩ => ⟨S8208x1024, .f32⟩
  | .hbm, ⟨39, _⟩ => ⟨S8208x1024, .f32⟩
  | .hbm, ⟨40, _⟩ => ⟨S8208x1024, .f32⟩
  | .hbm, ⟨41, _⟩ => ⟨S_, .i32⟩
  | .hbm, ⟨42, _⟩ => ⟨S_, .f32⟩
  | .hbm, ⟨43, _⟩ => ⟨S8448x1024, .f32⟩
  | .hbm, ⟨44, _⟩ => ⟨S8448x1024, .bf16⟩
  | .hbm, ⟨45, _⟩ => ⟨S_, .i32⟩
  | .hbm, ⟨46, _⟩ => ⟨S_, .f32⟩
  | .hbm, ⟨47, _⟩ => ⟨S8448x1024, .f32⟩
  | .hbm, ⟨48, _⟩ => ⟨S8448x1024, .bf16⟩
  | .hbm, ⟨49, _⟩ => ⟨S_, .i32⟩
  | .hbm, ⟨50, _⟩ => ⟨S_, .f32⟩
  | .hbm, ⟨51, _⟩ => ⟨S8448x1024, .f32⟩
  | .hbm, ⟨52, _⟩ => ⟨S8448x1024, .bf16⟩
  | .hbm, ⟨53, _⟩ => ⟨S_, .i32⟩
  | .hbm, ⟨54, _⟩ => ⟨S_, .f32⟩
  | .hbm, ⟨55, _⟩ => ⟨S8448x1024, .f32⟩
  | .hbm, ⟨56, _⟩ => ⟨S8448x1024, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_call0_v0 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_call1_v0 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_call2_v0 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_call3_v0 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Attn.lean ====
abbrev S8208x8x96 : Shape := ⟨3, ![8208, 8, 96]⟩
abbrev S8208x8x64 : Shape := ⟨3, ![8208, 8, 64]⟩
abbrev S8208 : Shape := ⟨1, ![8208]⟩
abbrev S_ : Shape := ⟨0, ![]⟩
abbrev S8x8208x8208 : Shape := ⟨3, ![8, 8208, 8208]⟩
abbrev S1x8208 : Shape := ⟨2, ![1, 8208]⟩
abbrev S8208x1 : Shape := ⟨2, ![8208, 1]⟩
abbrev S8208x8208 : Shape := ⟨2, ![8208, 8208]⟩
abbrev S8x8208 : Shape := ⟨2, ![8, 8208]⟩
abbrev S8x8208x1 : Shape := ⟨3, ![8, 8208, 1]⟩
abbrev S8x64x8208 : Shape := ⟨3, ![8, 64, 8208]⟩
abbrev S8448x8x128 : Shape := ⟨3, ![8448, 8, 128]⟩
abbrev S8448x1024 : Shape := ⟨2, ![8448, 1024]⟩
abbrev S8448x8x256 : Shape := ⟨3, ![8448, 8, 256]⟩
abbrev S8448x2048 : Shape := ⟨2, ![8448, 2048]⟩
abbrev S8x8448 : Shape := ⟨2, ![8, 8448]⟩
abbrev S8x11x1x768 : Shape := ⟨4, ![8, 11, 1, 768]⟩
abbrev S8448x128 : Shape := ⟨2, ![8448, 128]⟩
abbrev S768x128 : Shape := ⟨2, ![768, 128]⟩
abbrev S1x11x1x768 : Shape := ⟨4, ![1, 11, 1, 768]⟩
abbrev S768x256 : Shape := ⟨2, ![768, 256]⟩
abbrev S11x1x768 : Shape := ⟨3, ![11, 1, 768]⟩
abbrev S768 : Shape := ⟨1, ![768]⟩
abbrev S768x1 : Shape := ⟨2, ![768, 1]⟩
abbrev S128x768 : Shape := ⟨2, ![128, 768]⟩
abbrev S1x768 : Shape := ⟨2, ![1, 768]⟩
abbrev S1x1x768 : Shape := ⟨3, ![1, 1, 768]⟩
abbrev S768x768 : Shape := ⟨2, ![768, 768]⟩
abbrev S1x1x1x768 : Shape := ⟨4, ![1, 1, 1, 768]⟩

abbrev nBuf : Space → Nat
  | .hbm => 71
  | .vmem => 17
  | .smem => 0
  | _ => 0

abbrev bufTy : (tb : Table) → Fin (tcTables nBuf tb) → BufTy
  | .hbm, ⟨0, _⟩ => ⟨S8208x8x96, .f32⟩
  | .hbm, ⟨1, _⟩ => ⟨S8208x8x96, .f32⟩
  | .hbm, ⟨2, _⟩ => ⟨S8208x8x64, .f32⟩
  | .hbm, ⟨3, _⟩ => ⟨S8208x8x64, .f32⟩
  | .hbm, ⟨4, _⟩ => ⟨S8208, .i32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8208x8x96, .f32⟩
  | .hbm, ⟨10, _⟩ => ⟨S8208x8x96, .f32⟩
  | .hbm, ⟨11, _⟩ => ⟨S8x8208x8208, .f32⟩
  | .hbm, ⟨12, _⟩ => ⟨S1x8208, .i32⟩
  | .hbm, ⟨13, _⟩ => ⟨S8208x1, .i32⟩
  | .hbm, ⟨14, _⟩ => ⟨S8208x8208, .i32⟩
  | .hbm, ⟨15, _⟩ => ⟨S8208x8208, .i32⟩
  | .hbm, ⟨16, _⟩ => ⟨S8208x8208, .i1⟩
  | .hbm, ⟨17, _⟩ => ⟨S_, .f32⟩
  | .hbm, ⟨18, _⟩ => ⟨S_, .f32⟩
  | .hbm, ⟨19, _⟩ => ⟨S8x8208x8208, .i1⟩
  | .hbm, ⟨20, _⟩ => ⟨S8x8208x8208, .f32⟩
  | .hbm, ⟨21, _⟩ => ⟨S8x8208x8208, .f32⟩
  | .hbm, ⟨22, _⟩ => ⟨S_, .f32⟩
  | .hbm, ⟨23, _⟩ => ⟨S8x8208, .f32⟩
  | .hbm, ⟨24, _⟩ => ⟨S8x8208x1, .f32⟩
  | .hbm, ⟨25, _⟩ => ⟨S8x8208x8208, .f32⟩
  | .hbm, ⟨26, _⟩ => ⟨S8x8208x8208, .f32⟩
  | .hbm, ⟨27, _⟩ => ⟨S8x8208x8208, .f32⟩
  | .hbm, ⟨28, _⟩ => ⟨S_, .f32⟩
  | .hbm, ⟨29, _⟩ => ⟨S8x8208, .f32⟩
  | .hbm, ⟨30, _⟩ => ⟨S8x8208x1, .f32⟩
  | .hbm, ⟨31, _⟩ => ⟨S8x8208x8208, .f32⟩
  | .hbm, ⟨32, _⟩ => ⟨S8x8208x8208, .f32⟩
  | .hbm, ⟨33, _⟩ => ⟨S8x64x8208, .f32⟩
  | .hbm, ⟨34, _⟩ => ⟨S8208x8x64, .f32⟩
  | .hbm, ⟨35, _⟩ => ⟨S8x8208, .f32⟩
  | .hbm, ⟨36, _⟩ => ⟨S8x8208, .f32⟩
  | .hbm, ⟨37, _⟩ => ⟨S_, .f32⟩
  | .hbm, ⟨38, _⟩ => ⟨S_, .f32⟩
  | .hbm, ⟨39, _⟩ => ⟨S8x8208, .f32⟩
  | .hbm, ⟨40, _⟩ => ⟨S8x8208, .f32⟩
  | .hbm, ⟨41, _⟩ => ⟨S_, .i32⟩
  | .hbm, ⟨42, _⟩ => ⟨S_, .f32⟩
  | .hbm, ⟨43, _⟩ => ⟨S8448x8x128, .f32⟩
  | .hbm, ⟨44, _⟩ => ⟨S8448x1024, .f32⟩
  | .hbm, ⟨45, _⟩ => ⟨S8448x1024, .bf16⟩
  | .hbm, ⟨46, _⟩ => ⟨S_, .i32⟩
  | .hbm, ⟨47, _⟩ => ⟨S_, .f32⟩
  | .hbm, ⟨48, _⟩ => ⟨S8448x8x128, .f32⟩
  | .hbm, ⟨49, _⟩ => ⟨S_, .i32⟩
  | .hbm, ⟨50, _⟩ => ⟨S_, .f32⟩
  | .hbm, ⟨51, _⟩ => ⟨S8448x8x128, .f32⟩
  | .hbm, ⟨52, _⟩ => ⟨S8448x8x256, .f32⟩
  | .hbm, ⟨53, _⟩ => ⟨S8448x2048, .f32⟩
  | .hbm, ⟨54, _⟩ => ⟨S8448x2048, .bf16⟩
  | .hbm, ⟨55, _⟩ => ⟨S_, .i32⟩
  | .hbm, ⟨56, _⟩ => ⟨S_, .f32⟩
  | .hbm, ⟨57, _⟩ => ⟨S8448x8x128, .f32⟩
  | .hbm, ⟨58, _⟩ => ⟨S8448x1024, .f32⟩
  | .hbm, ⟨59, _⟩ => ⟨S8448x1024, .bf16⟩
  | .hbm, ⟨60, _⟩ => ⟨S_, .i32⟩
  | .hbm, ⟨61, _⟩ => ⟨S_, .f32⟩
  | .hbm, ⟨62, _⟩ => ⟨S8448x8x128, .f32⟩
  | .hbm, ⟨63, _⟩ => ⟨S8448x1024, .f32⟩
  | .hbm, ⟨64, _⟩ => ⟨S8448x1024, .bf16⟩
  | .hbm, ⟨65, _⟩ => ⟨S_, .i32⟩
  | .hbm, ⟨66, _⟩ => ⟨S_, .f32⟩
  | .hbm, ⟨67, _⟩ => ⟨S8x8448, .f32⟩
  | .hbm, ⟨68, _⟩ => ⟨S8x11x1x768, .f32⟩
  | .hbm, ⟨69, _⟩ => ⟨S8448x1024, .f32⟩
  | .hbm, ⟨70, _⟩ => ⟨S8448x2048, .bf16⟩
  | .local _ .vmem, ⟨0, _⟩ => ⟨S8448x128, .bf16⟩
  | .local _ .vmem, ⟨1, _⟩ => ⟨S8448x128, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S768x128, .bf16⟩
  | .local _ .vmem, ⟨7, _⟩ => ⟨S768x128, .bf16⟩
  | .local _ .vmem, ⟨8, _⟩ => ⟨S768x128, .bf16⟩
  | .local _ .vmem, ⟨9, _⟩ => ⟨S768x128, .bf16⟩
  | .local _ .vmem, ⟨10, _⟩ => ⟨S1x11x1x768, .f32⟩
  | .local _ .vmem, ⟨11, _⟩ => ⟨S1x11x1x768, .f32⟩
  | .local _ .vmem, ⟨12, _⟩ => ⟨S8448x128, .f32⟩
  | .local _ .vmem, ⟨13, _⟩ => ⟨S8448x128, .f32⟩
  | .local _ .vmem, ⟨14, _⟩ => ⟨S768x256, .bf16⟩
  | .local _ .vmem, ⟨15, _⟩ => ⟨S768x256, .bf16⟩
  | .local _ .vmem, ⟨16, _⟩ => ⟨S11x1x768, .f32⟩
  | _, _ => ⟨S8208x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_call1_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_call2_v0 : Ref sig .tc := ⟨.hbm, 47, rfl⟩
abbrev main_v31 : Ref sig .tc := ⟨.hbm, 48, rfl⟩
abbrev main_c_6 : Ref sig .tc := ⟨.hbm, 49, rfl⟩
abbrev main_call3_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_call4_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_call5_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_call6_v0 : Ref sig .tc := ⟨.hbm, 66, rfl⟩
abbrev main_v42 : Ref sig .tc := ⟨.hbm, 67, rfl⟩
abbrev main_v43 : Ref sig .tc := ⟨.hbm, 68, rfl⟩
abbrev main_v44_0 : Ref sig .tc := ⟨.hbm, 69, rfl⟩
abbrev main_v44_1 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 11], ![false, false]⟩

def k0_mult1 (i : grid0.Coords) : BitVec 32 :=
  let arg1 : BitVec 32 := BitVec.ofNat 32 (i 1).val
  let c768_i32_5 : BitVec 32 := 768#32
  let v13 : BitVec 32 := Scalar.muli arg1 c768_i32_5
  v13
def k0_off1 (i : grid0.Coords) : Fin 2 → Nat :=
  let arg1 : BitVec 32 := BitVec.ofNat 32 (i 1).val
  let c768_i32_5 : BitVec 32 := 768#32
  let v13 : BitVec 32 := Scalar.muli arg1 c768_i32_5
  let v14 : BitVec 32 := v13
  let v15 : Index := Scalar.indexCast v14
  let c0_6 : Index := 0#32
  ![v15.toNat, 0]
def k0_off2 (i : grid0.Coords) : Fin 4 → Nat :=
  let c0_10 : Index := 0#32
  let arg1 : BitVec 32 := BitVec.ofNat 32 (i 1).val
  let v24 : Index := Scalar.indexCast arg1
  let c0_11 : Index := 0#32
  let c0_12 : Index := 0#32
  ![0, v24.toNat, 0, 0]
def k0_off3 (i : grid0.Coords) : Fin 3 → Nat :=
  let arg1 : BitVec 32 := BitVec.ofNat 32 (i 1).val
  let v43 : Index := Scalar.indexCast arg1
  let c0_17 : Index := 0#32
  let c0_18 : Index := 0#32
  ![v43.toNat, 0, 0]
@[reducible] def k0_t1_loop (i : grid0.Coords) : Scf.Loop 32 :=
  let arg1 : BitVec 32 := BitVec.ofNat 32 (i 1).val
  let c1_i32 : BitVec 32 := 1#32
  let v59 : BitVec 32 := Scalar.addi arg1 c1_i32
  let c11_i32 : BitVec 32 := 11#32
  let v60 : BitVec 32 := Scalar.subi c11_i32 v59
  let c1_i32_23 : BitVec 32 := 1#32
  let v62 : BitVec 32 := Scalar.divsi v60 c1_i32_23
  let v63 : BitVec 32 := Scalar.muli v62 c1_i32_23
  let v64 : BitVec 32 := Scalar.addi v59 v63
  let c1_i32_24 : BitVec 32 := 1#32
  ⟨v59, v64, c1_i32_24⟩
def k0_mult2 (i : grid0.Coords) (k0_t1 : Fin (k0_t1_loop i).trips) : BitVec 32 :=
  let arg1 : BitVec 32 := BitVec.ofNat 32 (i 1).val
  let c1_i32 : BitVec 32 := 1#32
  let v59 : BitVec 32 := Scalar.addi arg1 c1_i32
  let c1_i32_24 : BitVec 32 := 1#32
  let arg11 : BitVec 32 := Scf.iv v59 c1_i32_24 k0_t1
  let c768_i32_29 : BitVec 32 := 768#32
  let v72 : BitVec 32 := Scalar.muli arg11 c768_i32_29
  v72
def k0_off4 (i : grid0.Coords) (k0_t1 : Fin (k0_t1_loop i).trips) : Fin 2 → Nat :=
  let arg1 : BitVec 32 := BitVec.ofNat 32 (i 1).val
  let c1_i32 : BitVec 32 := 1#32
  let v59 : BitVec 32 := Scalar.addi arg1 c1_i32
  let c1_i32_24 : BitVec 32 := 1#32
  let arg11 : BitVec 32 := Scf.iv v59 c1_i32_24 k0_t1
  let c768_i32_29 : BitVec 32 := 768#32
  let v72 : BitVec 32 := Scalar.muli arg11 c768_i32_29
  let v73 : BitVec 32 := v72
  let v74 : Index := Scalar.indexCast v73
  let c0_30 : Index := 0#32
  ![v74.toNat, 0]
def k0_off5 (i : grid0.Coords) (k0_t1 : Fin (k0_t1_loop i).trips) : Fin 4 → Nat :=
  let c0_34 : Index := 0#32
  let arg1 : BitVec 32 := BitVec.ofNat 32 (i 1).val
  let c1_i32 : BitVec 32 := 1#32
  let v59 : BitVec 32 := Scalar.addi arg1 c1_i32
  let c1_i32_24 : BitVec 32 := 1#32
  let arg11 : BitVec 32 := Scf.iv v59 c1_i32_24 k0_t1
  let v83 : Index := Scalar.indexCast arg11
  let c0_35 : Index := 0#32
  let c0_36 : Index := 0#32
  ![0, v83.toNat, 0, 0]
def k0_off6 (i : grid0.Coords) (k0_t1 : Fin (k0_t1_loop i).trips) : Fin 3 → Nat :=
  let arg1 : BitVec 32 := BitVec.ofNat 32 (i 1).val
  let c1_i32 : BitVec 32 := 1#32
  let v59 : BitVec 32 := Scalar.addi arg1 c1_i32
  let c1_i32_24 : BitVec 32 := 1#32
  let arg11 : BitVec 32 := Scf.iv v59 c1_i32_24 k0_t1
  let v93 : Index := Scalar.indexCast arg11
  let c0_39 : Index := 0#32
  let c0_40 : Index := 0#32
  ![v93.toNat, 0, 0]
@[reducible] def k0_t2_loop (i : grid0.Coords) : Scf.Loop 32 :=
  let arg1 : BitVec 32 := BitVec.ofNat 32 (i 1).val
  let c1_i32 : BitVec 32 := 1#32
  let v59 : BitVec 32 := Scalar.addi arg1 c1_i32
  let c11_i32 : BitVec 32 := 11#32
  let v60 : BitVec 32 := Scalar.subi c11_i32 v59
  let c1_i32_23 : BitVec 32 := 1#32
  let v62 : BitVec 32 := Scalar.divsi v60 c1_i32_23
  let v63 : BitVec 32 := Scalar.muli v62 c1_i32_23
  let v64 : BitVec 32 := Scalar.addi v59 v63
  let v61 : BitVec 32 := Scalar.addi v59 v60
  let c1_i32_25 : BitVec 32 := 1#32
  ⟨v64, v61, c1_i32_25⟩
def k0_mult3 (i : grid0.Coords) (k0_t2 : Fin (k0_t2_loop i).trips) : BitVec 32 :=
  let arg1 : BitVec 32 := BitVec.ofNat 32 (i 1).val
  let c1_i32 : BitVec 32 := 1#32
  let v59 : BitVec 32 := Scalar.addi arg1 c1_i32
  let c11_i32 : BitVec 32 := 11#32
  let v60 : BitVec 32 := Scalar.subi c11_i32 v59
  let c1_i32_23 : BitVec 32 := 1#32
  let v62 : BitVec 32 := Scalar.divsi v60 c1_i32_23
  let v63 : BitVec 32 := Scalar.muli v62 c1_i32_23
  let v64 : BitVec 32 := Scalar.addi v59 v63
  let c1_i32_25 : BitVec 32 := 1#32
  let arg11 : BitVec 32 := Scf.iv v64 c1_i32_25 k0_t2
  let c768_i32_29 : BitVec 32 := 768#32
  let v72 : BitVec 32 := Scalar.muli arg11 c768_i32_29
  v72
def k0_off7 (i : grid0.Coords) (k0_t2 : Fin (k0_t2_loop i).trips) : Fin 2 → Nat :=
  let arg1 : BitVec 32 := BitVec.ofNat 32 (i 1).val
  let c1_i32 : BitVec 32 := 1#32
  let v59 : BitVec 32 := Scalar.addi arg1 c1_i32
  let c11_i32 : BitVec 32 := 11#32
  let v60 : BitVec 32 := Scalar.subi c11_i32 v59
  let c1_i32_23 : BitVec 32 := 1#32
  let v62 : BitVec 32 := Scalar.divsi v60 c1_i32_23
  let v63 : BitVec 32 := Scalar.muli v62 c1_i32_23
  let v64 : BitVec 32 := Scalar.addi v59 v63
  let c1_i32_25 : BitVec 32 := 1#32
  let arg11 : BitVec 32 := Scf.iv v64 c1_i32_25 k0_t2
  let c768_i32_29 : BitVec 32 := 768#32
  let v72 : BitVec 32 := Scalar.muli arg11 c768_i32_29
  let v73 : BitVec 32 := v72
  let v74 : Index := Scalar.indexCast v73
  let c0_30 : Index := 0#32
  ![v74.toNat, 0]
def k0_off8 (i : grid0.Coords) (k0_t2 : Fin (k0_t2_loop i).trips) : Fin 4 → Nat :=
  let c0_34 : Index := 0#32
  let arg1 : BitVec 32 := BitVec.ofNat 32 (i 1).val
  let c1_i32 : BitVec 32 := 1#32
  let v59 : BitVec 32 := Scalar.addi arg1 c1_i32
  let c11_i32 : BitVec 32 := 11#32
  let v60 : BitVec 32 := Scalar.subi c11_i32 v59
  let c1_i32_23 : BitVec 32 := 1#32
  let v62 : BitVec 32 := Scalar.divsi v60 c1_i32_23
  let v63 : BitVec 32 := Scalar.muli v62 c1_i32_23
  let v64 : BitVec 32 := Scalar.addi v59 v63
  let c1_i32_25 : BitVec 32 := 1#32
  let arg11 : BitVec 32 := Scf.iv v64 c1_i32_25 k0_t2
  let v83 : Index := Scalar.indexCast arg11
  let c0_35 : Index := 0#32
  let c0_36 : Index := 0#32
  ![0, v83.toNat, 0, 0]
def k0_off9 (i : grid0.Coords) (k0_t2 : Fin (k0_t2_loop i).trips) : Fin 3 → Nat :=
  let arg1 : BitVec 32 := BitVec.ofNat 32 (i 1).val
  let c1_i32 : BitVec 32 := 1#32
  let v59 : BitVec 32 := Scalar.addi arg1 c1_i32
  let c11_i32 : BitVec 32 := 11#32
  let v60 : BitVec 32 := Scalar.subi c11_i32 v59
  let c1_i32_23 : BitVec 32 := 1#32
  let v62 : BitVec 32 := Scalar.divsi v60 c1_i32_23
  let v63 : BitVec 32 := Scalar.muli v62 c1_i32_23
  let v64 : BitVec 32 := Scalar.addi v59 v63
  let c1_i32_25 : BitVec 32 := 1#32
  let arg11 : BitVec 32 := Scf.iv v64 c1_i32_25 k0_t2
  let v93 : Index := Scalar.indexCast arg11
  let c0_39 : Index := 0#32
  let c0_40 : Index := 0#32
  ![v93.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8448x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x11x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8448x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S768x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnIdeal.lean ====
variable {F : FTy → Type} [FloatOps F] [Named F]
def κ : String → Option EReal := fun
  | "c2" => some (((Real.sqrt 96)⁻¹ * (Real.log 2)⁻¹ : ℝ) : EReal)
  | "scale" => some (((Real.sqrt 96)⁻¹ : ℝ) : EReal)
  | _ => none
-- ==== AttnRefIdeal.lean ====
abbrev S8208x8x96 : Shape := ⟨3, ![8208, 8, 96]⟩
abbrev S8208x8x64 : Shape := ⟨3, ![8208, 8, 64]⟩
abbrev S_ : Shape := ⟨0, ![]⟩
abbrev S8208 : Shape := ⟨1, ![8208]⟩
abbrev S8x8208x8208 : Shape := ⟨3, ![8, 8208, 8208]⟩
abbrev S1x8208 : Shape := ⟨2, ![1, 8208]⟩
abbrev S8208x1 : Shape := ⟨2, ![8208, 1]⟩
abbrev S8208x8208 : Shape := ⟨2, ![8208, 8208]⟩
abbrev S8x8208 : Shape := ⟨2, ![8, 8208]⟩
abbrev S8x8208x1 : Shape := ⟨3, ![8, 8208, 1]⟩
abbrev S8x64x8208 : Shape := ⟨3, ![8, 64, 8208]⟩
abbrev S8x8208x96 : Shape := ⟨3, ![8, 8208, 96]⟩
abbrev S8448x8x128 : Shape := ⟨3, ![8448, 8, 128]⟩
abbrev S8448x1024 : Shape := ⟨2, ![8448, 1024]⟩
abbrev S8448x8x256 : Shape := ⟨3, ![8448, 8, 256]⟩
abbrev S8448x2048 : Shape := ⟨2, ![8448, 2048]⟩

abbrev nBuf : Space → Nat
  | .hbm => 102
  | .vmem => 0
  | .smem => 0
  | _ => 0

abbrev bufTy : (tb : Table) → Fin (tcTables nBuf tb) → BufTy
  | .hbm, ⟨0, _⟩ => ⟨S8208x8x96, .f32⟩
  | .hbm, ⟨1, _⟩ => ⟨S8208x8x96, .f32⟩
  | .hbm, ⟨2, _⟩ => ⟨S8208x8x64, .f32⟩
  | .hbm, ⟨3, _⟩ => ⟨S8208x8x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8208x8x96, .f32⟩
  | .hbm, ⟨9, _⟩ => ⟨S8208x8x96, .f32⟩
  | .hbm, ⟨10, _⟩ => ⟨S8208, .i32⟩
  | .hbm, ⟨11, _⟩ => ⟨S8x8208x8208, .f32⟩
  | .hbm, ⟨12, _⟩ => ⟨S1x8208, .i32⟩
  | .hbm, ⟨13, _⟩ => ⟨S8208x1, .i32⟩
  | .hbm, ⟨14, _⟩ => ⟨S8208x8208, .i32⟩
  | .hbm, ⟨15, _⟩ => ⟨S8208x8208, .i32⟩
  | .hbm, ⟨16, _⟩ => ⟨S8208x8208, .i1⟩
  | .hbm, ⟨17, _⟩ => ⟨S_, .f32⟩
  | .hbm, ⟨18, _⟩ => ⟨S_, .f32⟩
  | .hbm, ⟨19, _⟩ => ⟨S8x8208x8208, .i1⟩
  | .hbm, ⟨20, _⟩ => ⟨S8x8208x8208, .f32⟩
  | .hbm, ⟨21, _⟩ => ⟨S8x8208x8208, .f32⟩
  | .hbm, ⟨22, _⟩ => ⟨S_, .f32⟩
  | .hbm, ⟨23, _⟩ => ⟨S8x8208x8208, .f32⟩
  | .hbm, ⟨24, _⟩ => ⟨S_, .f32⟩
  | .hbm, ⟨25, _⟩ => ⟨S8x8208, .f32⟩
  | .hbm, ⟨26, _⟩ => ⟨S8x8208x1, .f32⟩
  | .hbm, ⟨27, _⟩ => ⟨S8x8208x8208, .f32⟩
  | .hbm, ⟨28, _⟩ => ⟨S8x8208x8208, .i1⟩
  | .hbm, ⟨29, _⟩ => ⟨S8x8208x8208, .f32⟩
  | .hbm, ⟨30, _⟩ => ⟨S_, .f32⟩
  | .hbm, ⟨31, _⟩ => ⟨S8x8208, .f32⟩
  | .hbm, ⟨32, _⟩ => ⟨S_, .f32⟩
  | .hbm, ⟨33, _⟩ => ⟨S8x8208, .f32⟩
  | .hbm, ⟨34, _⟩ => ⟨S8x8208, .f32⟩
  | .hbm, ⟨35, _⟩ => ⟨S_, .f32⟩
  | .hbm, ⟨36, _⟩ => ⟨S8x8208, .f32⟩
  | .hbm, ⟨37, _⟩ => ⟨S8x8208, .i1⟩
  | .hbm, ⟨38, _⟩ => ⟨S_, .f32⟩
  | .hbm, ⟨39, _⟩ => ⟨S8x8208, .f32⟩
  | .hbm, ⟨40, _⟩ => ⟨S8x8208, .i1⟩
  | .hbm, ⟨41, _⟩ => ⟨S_, .f32⟩
  | .hbm, ⟨42, _⟩ => ⟨S8x8208, .f32⟩
  | .hbm, ⟨43, _⟩ => ⟨S_, .f32⟩
  | .hbm, ⟨44, _⟩ => ⟨S8x8208, .f32⟩
  | .hbm, ⟨45, _⟩ => ⟨S_, .f32⟩
  | .hbm, ⟨46, _⟩ => ⟨S8x8208, .f32⟩
  | .hbm, ⟨47, _⟩ => ⟨S8x8208, .f32⟩
  | .hbm, ⟨48, _⟩ => ⟨S8x8208, .f32⟩
  | .hbm, ⟨49, _⟩ => ⟨S8x8208x1, .f32⟩
  | .hbm, ⟨50, _⟩ => ⟨S8x8208x8208, .f32⟩
  | .hbm, ⟨51, _⟩ => ⟨S8x8208x8208, .f32⟩
  | .hbm, ⟨52, _⟩ => ⟨S8x8208x8208, .f32⟩
  | .hbm, ⟨53, _⟩ => ⟨S_, .f32⟩
  | .hbm, ⟨54, _⟩ => ⟨S8x8208, .f32⟩
  | .hbm, ⟨55, _⟩ => ⟨S8x8208x1, .f32⟩
  | .hbm, ⟨56, _⟩ => ⟨S8x8208x8208, .f32⟩
  | .hbm, ⟨57, _⟩ => ⟨S8x8208x8208, .f32⟩
  | .hbm, ⟨58, _⟩ => ⟨S8x8208x1, .f32⟩
  | .hbm, ⟨59, _⟩ => ⟨S_, .f32⟩
  | .hbm, ⟨60, _⟩ => ⟨S8x8208x1, .f32⟩
  | .hbm, ⟨61, _⟩ => ⟨S8x8208x1, .f32⟩
  | .hbm, ⟨62, _⟩ => ⟨S8x64x8208, .f32⟩
  | .hbm, ⟨63, _⟩ => ⟨S8208x8x64, .f32⟩
  | .hbm, ⟨64, _⟩ => ⟨S8x64x8208, .f32⟩
  | .hbm, ⟨65, _⟩ => ⟨S8x8208x8208, .f32⟩
  | .hbm, ⟨66, _⟩ => ⟨S8x64x8208, .f32⟩
  | .hbm, ⟨67, _⟩ => ⟨S8208x8x64, .f32⟩
  | .hbm, ⟨68, _⟩ => ⟨S8x8208x8208, .f32⟩
  | .hbm, ⟨69, _⟩ => ⟨S8x8208x8208, .f32⟩
  | .hbm, ⟨70, _⟩ => ⟨S8x8208x8208, .f32⟩
  | .hbm, ⟨71, _⟩ => ⟨S_, .f32⟩
  | .hbm, ⟨72, _⟩ => ⟨S8x8208, .f32⟩
  | .hbm, ⟨73, _⟩ => ⟨S8x8208x1, .f32⟩
  | .hbm, ⟨74, _⟩ => ⟨S8x8208x1, .f32⟩
  | .hbm, ⟨75, _⟩ => ⟨S8x8208x8208, .f32⟩
  | .hbm, ⟨76, _⟩ => ⟨S8x8208x8208, .f32⟩
  | .hbm, ⟨77, _⟩ => ⟨S_, .f32⟩
  | .hbm, ⟨78, _⟩ => ⟨S8x8208, .f32⟩
  | .hbm, ⟨79, _⟩ => ⟨S8x8208x8208, .f32⟩
  | .hbm, ⟨80, _⟩ => ⟨S8x8208x8208, .f32⟩
  | .hbm, ⟨81, _⟩ => ⟨S8x8208x8208, .f32⟩
  | .hbm, ⟨82, _⟩ => ⟨S_, .f32⟩
  | .hbm, ⟨83, _⟩ => ⟨S8x8208x8208, .f32⟩
  | .hbm, ⟨84, _⟩ => ⟨S8x8208x8208, .f32⟩
  | .hbm, ⟨85, _⟩ => ⟨S8x8208x96, .f32⟩
  | .hbm, ⟨86, _⟩ => ⟨S8208x8x96, .f32⟩
  | .hbm, ⟨87, _⟩ => ⟨S8x8208x96, .f32⟩
  | .hbm, ⟨88, _⟩ => ⟨S8208x8x96, .f32⟩
  | .hbm, ⟨89, _⟩ => ⟨S_, .i32⟩
  | .hbm, ⟨90, _⟩ => ⟨S_, .f32⟩
  | .hbm, ⟨91, _⟩ => ⟨S8448x8x128, .f32⟩
  | .hbm, ⟨92, _⟩ => ⟨S8448x1024, .f32⟩
  | .hbm, ⟨93, _⟩ => ⟨S_, .i32⟩
  | .hbm, ⟨94, _⟩ => ⟨S_, .f32⟩
  | .hbm, ⟨95, _⟩ => ⟨S8448x8x128, .f32⟩
  | .hbm, ⟨96, _⟩ => ⟨S_, .i32⟩
  | .hbm, ⟨97, _⟩ => ⟨S_, .f32⟩
  | .hbm, ⟨98, _⟩ => ⟨S8448x8x128, .f32⟩
  | .hbm, ⟨99, _⟩ => ⟨S8448x8x256, .f32⟩
  | .hbm, ⟨100, _⟩ => ⟨S8448x2048, .f32⟩
  | .hbm, ⟨101, _⟩ => ⟨S8448x2048, .bf16⟩
  | _, _ => ⟨S8208x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_call0_v0 : Ref sig .tc := ⟨.hbm, 18, rfl⟩
abbrev main_v11_1 : Ref sig .tc := ⟨.hbm, 19, rfl⟩
abbrev main_call0_v2 : Ref sig .tc := ⟨.hbm, 20, rfl⟩
abbrev main_v11_0 : Ref sig .tc := ⟨.hbm, 21, rfl⟩
abbrev main_call0_cst : Ref sig .tc := ⟨.hbm, 22, rfl⟩
abbrev main_v11_2 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_cst_9 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_11 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call1_cst : Ref sig .tc := ⟨.hbm, 82, rfl⟩
abbrev main_call1_v0 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c : Ref sig .tc := ⟨.hbm, 89, rfl⟩
abbrev main_call2_v0 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_call3_v0 : Ref sig .tc := ⟨.hbm, 94, rfl⟩
abbrev main_v65 : Ref sig .tc := ⟨.hbm, 95, rfl⟩
abbrev main_c_15 : Ref sig .tc := ⟨.hbm, 96, rfl⟩
abbrev main_call4_v0 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩

abbrev nD : Nat := 1
abbrev τ : Topo := Topo.v7x

variable {F : FTy → Type} [FloatOps F]
-- ==== Afwd.lean ====
abbrev S8208x8x96 : Shape := ⟨3, ![8208, 8, 96]⟩
abbrev S8208x8x64 : Shape := ⟨3, ![8208, 8, 64]⟩
abbrev S_ : Shape := ⟨0, ![]⟩
abbrev S8448x8x128 : Shape := ⟨3, ![8448, 8, 128]⟩
abbrev S8448x1024 : Shape := ⟨2, ![8448, 1024]⟩
abbrev S8448x8x256 : Shape := ⟨3, ![8448, 8, 256]⟩
abbrev S8448x2048 : Shape := ⟨2, ![8448, 2048]⟩
abbrev S11x768x8x128 : Shape := ⟨4, ![11, 768, 8, 128]⟩
abbrev S8x11x128x768 : Shape := ⟨4, ![8, 11, 128, 768]⟩
abbrev S8x11x1x768 : Shape := ⟨4, ![8, 11, 1, 768]⟩
abbrev S768x128 : Shape := ⟨2, ![768, 128]⟩
abbrev S8448x128 : Shape := ⟨2, ![8448, 128]⟩
abbrev S1x11x128x768 : Shape := ⟨4, ![1, 11, 128, 768]⟩
abbrev S1x1x1x768 : Shape := ⟨4, ![1, 1, 1, 768]⟩
abbrev S1x768 : Shape := ⟨2, ![1, 768]⟩
abbrev S128x768 : Shape := ⟨2, ![128, 768]⟩
abbrev S768x768 : Shape := ⟨2, ![768, 768]⟩
abbrev S768 : Shape := ⟨1, ![768]⟩
abbrev S1x1x128x768 : Shape := ⟨4, ![1, 1, 128, 768]⟩
abbrev S768x1 : Shape := ⟨2, ![768, 1]⟩

abbrev nBuf : Space → Nat
  | .hbm => 25
  | .vmem => 10
  | .smem => 0
  | _ => 0

abbrev bufTy : (tb : Table) → Fin (tcTables nBuf tb) → BufTy
  | .hbm, ⟨0, _⟩ => ⟨S8208x8x96, .f32⟩
  | .hbm, ⟨1, _⟩ => ⟨S8208x8x96, .f32⟩
  | .hbm, ⟨2, _⟩ => ⟨S8208x8x64, .f32⟩
  | .hbm, ⟨3, _⟩ => ⟨S_, .i32⟩
  | .hbm, ⟨4, _⟩ => ⟨S_, .f32⟩
  | .hbm, ⟨5, _⟩ => ⟨S8448x8x128, .f32⟩
  | .hbm, ⟨6, _⟩ => ⟨S8448x1024, .f32⟩
  | .hbm, ⟨7, _⟩ => ⟨S8448x1024, .bf16⟩
  | .hbm, ⟨8, _⟩ => ⟨S_, .i32⟩
  | .hbm, ⟨9, _⟩ => ⟨S_, .f32⟩
  | .hbm, ⟨10, _⟩ => ⟨S8448x8x128, .f32⟩
  | .hbm, ⟨11, _⟩ => ⟨S_, .i32⟩
  | .hbm, ⟨12, _⟩ => ⟨S_, .f32⟩
  | .hbm, ⟨13, _⟩ => ⟨S8448x8x128, .f32⟩
  | .hbm, ⟨14, _⟩ => ⟨S8448x8x256, .f32⟩
  | .hbm, ⟨15, _⟩ => ⟨S8448x2048, .f32⟩
  | .hbm, ⟨16, _⟩ => ⟨S8448x2048, .bf16⟩
  | .hbm, ⟨17, _⟩ => ⟨S_, .i32⟩
  | .hbm, ⟨18, _⟩ => ⟨S_, .f32⟩
  | .hbm, ⟨19, _⟩ => ⟨S8448x8x128, .f32⟩
  | .hbm, ⟨20, _⟩ => ⟨S8448x8x128, .bf16⟩
  | .hbm, ⟨21, _⟩ => ⟨S11x768x8x128, .bf16⟩
  | .hbm, ⟨22, _⟩ => ⟨S8x11x128x768, .bf16⟩
  | .hbm, ⟨23, _⟩ => ⟨S8448x1024, .bf16⟩
  | .hbm, ⟨24, _⟩ => ⟨S8x11x1x768, .f32⟩
  | .local _ .vmem, ⟨0, _⟩ => ⟨S768x128, .bf16⟩
  | .local _ .vmem, ⟨1, _⟩ => ⟨S768x128, .bf16⟩
  | .local _ .vmem, ⟨2, _⟩ => ⟨S8448x128, .bf16⟩
  | .local _ .vmem, ⟨3, _⟩ => ⟨S8448x128, .bf16⟩
  | .local _ .vmem, ⟨4, _⟩ => ⟨S1x11x128x768, .bf16⟩
  | .local _ .vmem, ⟨5, _⟩ => ⟨S1x11x128x768, .bf16⟩
  | .local _ .vmem, ⟨6, _⟩ => ⟨S768x128, .bf16⟩
  | .local _ .vmem, ⟨7, _⟩ => ⟨S768x128, .bf16⟩
  | .local _ .vmem, ⟨8, _⟩ => ⟨S1x1x1x768, .f32⟩
  | .local _ .vmem, ⟨9, _⟩ => ⟨S1x1x1x768, .f32⟩
  | _, _ => ⟨S8208x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_call3_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

@[reducible] def k0_t1_loop (i : grid0.Coords) : Scf.Loop 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_3 : BitVec 32 := 1#32
  ⟨c0_i32, v13, c1_i32_3⟩
def k0_mult1 (i : grid0.Coords) (k0_t1 : Fin (k0_t1_loop i).trips) : BitVec 32 :=
  let c0_i32 : BitVec 32 := 0#32
  let c1_i32_3 : BitVec 32 := 1#32
  let arg7 : BitVec 32 := Scf.iv c0_i32 c1_i32_3 k0_t1
  let c768_i32_26 : BitVec 32 := 768#32
  let v69 : BitVec 32 := Scalar.muli arg7 c768_i32_26
  v69
def k0_off1 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c768_i32_26 : BitVec 32 := 768#32
  let v69 : BitVec 32 := Scalar.muli arg7 c768_i32_26
  let v70 : BitVec 32 := v69
  let v71 : Index := Scalar.indexCast v70
  let c0_27 : Index := 0#32
  ![v71.toNat, 0]
def k0_off2 (i : grid0.Coords) (k0_t1 : Fin (k0_t1_loop i).trips) : Fin 4 → Nat :=
  let c0_33 : Index := 0#32
  let c0_i32 : BitVec 32 := 0#32
  let c1_i32_3 : BitVec 32 := 1#32
  let arg7 : BitVec 32 := Scf.iv c0_i32 c1_i32_3 k0_t1
  let v93 : Index := Scalar.indexCast arg7
  let c0_34 : Index := 0#32
  let c0_35 : Index := 0#32
  ![0, v93.toNat, 0, 0]
@[reducible] def k0_t2_loop (i : grid0.Coords) : Scf.Loop 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let v10 : BitVec 32 := Scalar.addi c0_i32 v9
  let c1_i32_4 : BitVec 32 := 1#32
  ⟨v13, v10, c1_i32_4⟩
def k0_mult2 (i : grid0.Coords) (k0_t2 : Fin (k0_t2_loop i).trips) : BitVec 32 :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_4 : BitVec 32 := 1#32
  let arg7 : BitVec 32 := Scf.iv v13 c1_i32_4 k0_t2
  let c768_i32_26 : BitVec 32 := 768#32
  let v69 : BitVec 32 := Scalar.muli arg7 c768_i32_26
  v69
def k0_off3 (i : grid0.Coords) (k0_t2 : Fin (k0_t2_loop i).trips) : Fin 2 → Nat :=
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_4 : BitVec 32 := 1#32
  let arg7 : BitVec 32 := Scf.iv v13 c1_i32_4 k0_t2
  let c768_i32_26 : BitVec 32 := 768#32
  let v69 : BitVec 32 := Scalar.muli arg7 c768_i32_26
  let v70 : BitVec 32 := v69
  let v71 : Index := Scalar.indexCast v70
  let c0_27 : Index := 0#32
  ![v71.toNat, 0]
def k0_off4 (i : grid0.Coords) (k0_t2 : Fin (k0_t2_loop i).trips) : Fin 4 → Nat :=
  let c0_33 : Index := 0#32
  let c0_i32 : BitVec 32 := 0#32
  let arg1 : BitVec 32 := BitVec.ofNat 32 (i 1).val
  let v9 : BitVec 32 := Scalar.subi arg1 c0_i32
  let c1_i32 : BitVec 32 := 1#32
  let v11 : BitVec 32 := Scalar.divsi v9 c1_i32
  let v12 : BitVec 32 := Scalar.muli v11 c1_i32
  let v13 : BitVec 32 := Scalar.addi c0_i32 v12
  let c1_i32_4 : BitVec 32 := 1#32
  let arg7 : BitVec 32 := Scf.iv v13 c1_i32_4 k0_t2
  let v93 : Index := Scalar.indexCast arg7
  let c0_34 : Index := 0#32
  let c0_35 : Index := 0#32
  ![0, v93.toNat, 0, 0]
def k0_mult3 (i : grid0.Coords) : BitVec 32 :=
  let arg1 : BitVec 32 := BitVec.ofNat 32 (i 1).val
  let c768_i32_5 : BitVec 32 := 768#32
  let v16 : BitVec 32 := Scalar.muli arg1 c768_i32_5
  v16
def k0_off5 (i : grid0.Coords) : Fin 2 → Nat :=
  let arg1 : BitVec 32 := BitVec.ofNat 32 (i 1).val
  let c768_i32_5 : BitVec 32 := 768#32
  let v16 : BitVec 32 := Scalar.muli arg1 c768_i32_5
  let v17 : BitVec 32 := v16
  let v18 : Index := Scalar.indexCast v17
  let c0_6 : Index := 0#32
  ![v18.toNat, 0]
def k0_off6 (i : grid0.Coords) : Fin 4 → Nat :=
  let c0_14 : Index := 0#32
  let arg1 : BitVec 32 := BitVec.ofNat 32 (i 1).val
  let v49 : Index := Scalar.indexCast arg1
  let c0_15 : Index := 0#32
  let c0_16 : Index := 0#32
  ![0, v49.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S768x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x11x128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AfwdIdeal.lean ====
variable {F : FTy → Type} [FloatOps F] [Named F]
def κ : String → Option EReal := fun
  | "c2" => some (((Real.sqrt 96)⁻¹ * (Real.log 2)⁻¹ : ℝ) : EReal)
  | "log2e" => some (((Real.log 2)⁻¹ : ℝ) : EReal)
  | "mask" => some ⊥
  | _ => none
-- ==== AfwdRefIdeal.lean ====
abbrev S8208x8x96 : Shape := ⟨3, ![8208, 8, 96]⟩
abbrev S8208x8x64 : Shape := ⟨3, ![8208, 8, 64]⟩
abbrev S_ : Shape := ⟨0, ![]⟩
abbrev S8448x8x96 : Shape := ⟨3, ![8448, 8, 96]⟩
abbrev S8448x8x64 : Shape := ⟨3, ![8448, 8, 64]⟩
abbrev S8448 : Shape := ⟨1, ![8448]⟩
abbrev S8x8448x8448 : Shape := ⟨3, ![8, 8448, 8448]⟩
abbrev S1x8448 : Shape := ⟨2, ![1, 8448]⟩
abbrev S8448x1 : Shape := ⟨2, ![8448, 1]⟩
abbrev S8448x8448 : Shape := ⟨2, ![8448, 8448]⟩
abbrev S8x8448 : Shape := ⟨2, ![8, 8448]⟩
abbrev S8x8448x1 : Shape := ⟨3, ![8, 8448, 1]⟩
abbrev S8x64x8448 : Shape := ⟨3, ![8, 64, 8448]⟩
abbrev S8448x8x128 : Shape := ⟨3, ![8448, 8, 128]⟩
abbrev S8448x1024 : Shape := ⟨2, ![8448, 1024]⟩
abbrev S8x11x1x768 : Shape := ⟨4, ![8, 11, 1, 768]⟩

abbrev nBuf : Space → Nat
  | .hbm => 84
  | .vmem => 0
  | .smem => 0
  | _ => 0

abbrev bufTy : (tb : Table) → Fin (tcTables nBuf tb) → BufTy
  | .hbm, ⟨0, _⟩ => ⟨S8208x8x96, .f32⟩
  | .hbm, ⟨1, _⟩ => ⟨S8208x8x96, .f32⟩
  | .hbm, ⟨2, _⟩ => ⟨S8208x8x64, .f32⟩
  | .hbm, ⟨3, _⟩ => ⟨S_, .i32⟩
  | .hbm, ⟨4, _⟩ => ⟨S_, .f32⟩
  | .hbm, ⟨5, _⟩ => ⟨S8448x8x96, .f32⟩
  | .hbm, ⟨6, _⟩ => ⟨S_, .i32⟩
  | .hbm, ⟨7, _⟩ => ⟨S_, .f32⟩
  | .hbm, ⟨8, _⟩ => ⟨S8448x8x96, .f32⟩
  | .hbm, ⟨9, _⟩ => ⟨S_, .i32⟩
  | .hbm, ⟨10, _⟩ => ⟨S_, .f32⟩
  | .hbm, ⟨11, _⟩ => ⟨S8448x8x64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8448x8x96, .f32⟩
  | .hbm, ⟨17, _⟩ => ⟨S8448x8x96, .f32⟩
  | .hbm, ⟨18, _⟩ => ⟨S8448, .i32⟩
  | .hbm, ⟨19, _⟩ => ⟨S8x8448x8448, .f32⟩
  | .hbm, ⟨20, _⟩ => ⟨S1x8448, .i32⟩
  | .hbm, ⟨21, _⟩ => ⟨S8448x1, .i32⟩
  | .hbm, ⟨22, _⟩ => ⟨S8448x8448, .i32⟩
  | .hbm, ⟨23, _⟩ => ⟨S8448x8448, .i32⟩
  | .hbm, ⟨24, _⟩ => ⟨S8448x8448, .i1⟩
  | .hbm, ⟨25, _⟩ => ⟨S_, .f32⟩
  | .hbm, ⟨26, _⟩ => ⟨S_, .f32⟩
  | .hbm, ⟨27, _⟩ => ⟨S8x8448x8448, .i1⟩
  | .hbm, ⟨28, _⟩ => ⟨S8x8448x8448, .f32⟩
  | .hbm, ⟨29, _⟩ => ⟨S8x8448x8448, .f32⟩
  | .hbm, ⟨30, _⟩ => ⟨S_, .f32⟩
  | .hbm, ⟨31, _⟩ => ⟨S8x8448, .f32⟩
  | .hbm, ⟨32, _⟩ => ⟨S_, .f32⟩
  | .hbm, ⟨33, _⟩ => ⟨S8x8448, .f32⟩
  | .hbm, ⟨34, _⟩ => ⟨S8x8448, .f32⟩
  | .hbm, ⟨35, _⟩ => ⟨S8x8448x1, .f32⟩
  | .hbm, ⟨36, _⟩ => ⟨S8x8448x8448, .f32⟩
  | .hbm, ⟨37, _⟩ => ⟨S8x8448x8448, .f32⟩
  | .hbm, ⟨38, _⟩ => ⟨S8x8448x8448, .f32⟩
  | .hbm, ⟨39, _⟩ => ⟨S_, .f32⟩
  | .hbm, ⟨40, _⟩ => ⟨S8x8448, .f32⟩
  | .hbm, ⟨41, _⟩ => ⟨S8x8448x1, .f32⟩
  | .hbm, ⟨42, _⟩ => ⟨S8x8448x8448, .f32⟩
  | .hbm, ⟨43, _⟩ => ⟨S8x8448x8448, .f32⟩
  | .hbm, ⟨44, _⟩ => ⟨S8x64x8448, .f32⟩
  | .hbm, ⟨45, _⟩ => ⟨S8448x8x64, .f32⟩
  | .hbm, ⟨46, _⟩ => ⟨S8448, .i32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8448x8x96, .f32⟩
  | .hbm, ⟨52, _⟩ => ⟨S8448x8x96, .f32⟩
  | .hbm, ⟨53, _⟩ => ⟨S8x8448x8448, .f32⟩
  | .hbm, ⟨54, _⟩ => ⟨S1x8448, .i32⟩
  | .hbm, ⟨55, _⟩ => ⟨S8448x1, .i32⟩
  | .hbm, ⟨56, _⟩ => ⟨S8448x8448, .i32⟩
  | .hbm, ⟨57, _⟩ => ⟨S8448x8448, .i32⟩
  | .hbm, ⟨58, _⟩ => ⟨S8448x8448, .i1⟩
  | .hbm, ⟨59, _⟩ => ⟨S_, .f32⟩
  | .hbm, ⟨60, _⟩ => ⟨S_, .f32⟩
  | .hbm, ⟨61, _⟩ => ⟨S8x8448x8448, .i1⟩
  | .hbm, ⟨62, _⟩ => ⟨S8x8448x8448, .f32⟩
  | .hbm, ⟨63, _⟩ => ⟨S8x8448x8448, .f32⟩
  | .hbm, ⟨64, _⟩ => ⟨S_, .f32⟩
  | .hbm, ⟨65, _⟩ => ⟨S8x8448, .f32⟩
  | .hbm, ⟨66, _⟩ => ⟨S8x8448x1, .f32⟩
  | .hbm, ⟨67, _⟩ => ⟨S8x8448x8448, .f32⟩
  | .hbm, ⟨68, _⟩ => ⟨S8x8448x8448, .f32⟩
  | .hbm, ⟨69, _⟩ => ⟨S8x8448x8448, .f32⟩
  | .hbm, ⟨70, _⟩ => ⟨S_, .f32⟩
  | .hbm, ⟨71, _⟩ => ⟨S8x8448, .f32⟩
  | .hbm, ⟨72, _⟩ => ⟨S8x8448, .f32⟩
  | .hbm, ⟨73, _⟩ => ⟨S8x8448, .f32⟩
  | .hbm, ⟨74, _⟩ => ⟨S_, .f32⟩
  | .hbm, ⟨75, _⟩ => ⟨S_, .f32⟩
  | .hbm, ⟨76, _⟩ => ⟨S8x8448, .f32⟩
  | .hbm, ⟨77, _⟩ => ⟨S8x8448, .f32⟩
  | .hbm, ⟨78, _⟩ => ⟨S_, .i32⟩
  | .hbm, ⟨79, _⟩ => ⟨S_, .f32⟩
  | .hbm, ⟨80, _⟩ => ⟨S8448x8x128, .f32⟩
  | .hbm, ⟨81, _⟩ => ⟨S8448x1024, .f32⟩
  | .hbm, ⟨82, _⟩ => ⟨S8448x1024, .bf16⟩
  | .hbm, ⟨83, _⟩ => ⟨S8x11x1x768, .f32⟩
  | _, _ => ⟨S8208x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_c_1 : Ref sig .tc := ⟨.hbm, 9, rfl⟩
abbrev main_call2_v0 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_call3_v0 : Ref sig .tc := ⟨.hbm, 26, rfl⟩
abbrev main_call3_v1 : Ref sig .tc := ⟨.hbm, 27, rfl⟩
abbrev main_call3_v2 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_13 : Ref sig .tc := ⟨.hbm, 78, rfl⟩
abbrev main_call5_v0 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩

abbrev nD : Nat := 1
abbrev τ : Topo := Topo.v7x

variable {F : FTy → Type} [FloatOps F]
-- ==== Mla.lean ====
abbrev S8208x384 : Shape := ⟨2, ![8208, 384]⟩
abbrev S8208x256 : Shape := ⟨2, ![8208, 256]⟩
abbrev S8208x32 : Shape := ⟨2, ![8208, 32]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S8208x8x96 : Shape := ⟨3, ![8208, 8, 96]⟩
abbrev S8208x8x64 : Shape := ⟨3, ![8208, 8, 64]⟩
abbrev S_ : Shape := ⟨0, ![]⟩
abbrev S8208x64 : Shape := ⟨2, ![8208, 64]⟩
abbrev S8208x16 : Shape := ⟨2, ![8208, 16]⟩
abbrev S8208x128 : Shape := ⟨2, ![8208, 128]⟩
abbrev S8208x1024 : Shape := ⟨2, ![8208, 1024]⟩
abbrev S8448x1024 : Shape := ⟨2, ![8448, 1024]⟩
abbrev S1x384 : Shape := ⟨2, ![1, 384]⟩
abbrev S1x256 : Shape := ⟨2, ![1, 256]⟩
abbrev S16 : Shape := ⟨1, ![16]⟩
abbrev S8448 : Shape := ⟨1, ![8448]⟩
abbrev S8448x1 : Shape := ⟨2, ![8448, 1]⟩
abbrev S1x16 : Shape := ⟨2, ![1, 16]⟩
abbrev S8448x16 : Shape := ⟨2, ![8448, 16]⟩
abbrev S8448x64 : Shape := ⟨2, ![8448, 64]⟩
abbrev S8448x32 : Shape := ⟨2, ![8448, 32]⟩
abbrev S8448x128 : Shape := ⟨2, ![8448, 128]⟩
abbrev S384x8x96 : Shape := ⟨3, ![384, 8, 96]⟩
abbrev S384x8x64 : Shape := ⟨3, ![384, 8, 64]⟩
abbrev S384x8x32 : Shape := ⟨3, ![384, 8, 32]⟩
abbrev S384x8x128 : Shape := ⟨3, ![384, 8, 128]⟩
abbrev S384x1024 : Shape := ⟨2, ![384, 1024]⟩
abbrev S384x8x16 : Shape := ⟨3, ![384, 8, 16]⟩
abbrev S384x2048 : Shape := ⟨2, ![384, 2048]⟩
abbrev S256x8x128 : Shape := ⟨3, ![256, 8, 128]⟩
abbrev S256x8x64 : Shape := ⟨3, ![256, 8, 64]⟩
abbrev S256x8x256 : Shape := ⟨3, ![256, 8, 256]⟩
abbrev S256x2048 : Shape := ⟨2, ![256, 2048]⟩
abbrev S8448x384 : Shape := ⟨2, ![8448, 384]⟩
abbrev S8448x256 : Shape := ⟨2, ![8448, 256]⟩
abbrev S8448x2048 : Shape := ⟨2, ![8448, 2048]⟩
abbrev S8x11x128x768 : Shape := ⟨4, ![8, 11, 128, 768]⟩
abbrev S768x1024 : Shape := ⟨2, ![768, 1024]⟩
abbrev S768x128 : Shape := ⟨2, ![768, 128]⟩
abbrev S768x384 : Shape := ⟨2, ![768, 384]⟩
abbrev S768x256 : Shape := ⟨2, ![768, 256]⟩
abbrev S768x2048 : Shape := ⟨2, ![768, 2048]⟩
abbrev S8x1x128x768 : Shape := ⟨4, ![8, 1, 128, 768]⟩
abbrev S768 : Shape := ⟨1, ![768]⟩
abbrev S768x1 : Shape := ⟨2, ![768, 1]⟩
abbrev S128x768 : Shape := ⟨2, ![128, 768]⟩
abbrev S1x1x128x768 : Shape := ⟨4, ![1, 1, 128, 768]⟩
abbrev S8448x8x128 : Shape := ⟨3, ![8448, 8, 128]⟩
abbrev S8448x8x256 : Shape := ⟨3, ![8448, 8, 256]⟩
abbrev S2048x384 : Shape := ⟨2, ![2048, 384]⟩
abbrev S2048x256 : Shape := ⟨2, ![2048, 256]⟩

abbrev nBuf : Space → Nat
  | .hbm => 132
  | .vmem => 48
  | .smem => 0
  | _ => 0

abbrev hbmTy0_0 (i : Nat) : BufTy := match i % 128 with
  | 0 => ⟨S8208x384, .f32⟩
  | 1 => ⟨S8208x256, .f32⟩
  | 2 => ⟨S8208x32, .f32⟩
  | 3 => ⟨S384, .f32⟩
  | 4 => ⟨S256, .f32⟩
  | 5 => ⟨S384x768, .f32⟩
  | 6 => ⟨S256x1024, .f32⟩
  | 7 => ⟨S8208x8x96, .f32⟩
  | 8 => ⟨S8208x8x96, .f32⟩
  | 9 => ⟨S8208x8x64, .f32⟩
  | 10 => ⟨S_, .f32⟩
  | 11 => ⟨S8208x64, .f32⟩
  | 12 => ⟨S_, .f32⟩
  | 13 => ⟨S8208x32, .f32⟩
  | 14 => ⟨S_, .f32⟩
  | 15 => ⟨S8208x64, .f32⟩
  | 16 => ⟨S8208x16, .f32⟩
  | 17 => ⟨S8208x16, .f32⟩
  | 18 => ⟨S8208x32, .f32⟩
  | 19 => ⟨S_, .f32⟩
  | 20 => ⟨S8208x32, .f32⟩
  | 21 => ⟨S_, .f32⟩
  | 22 => ⟨S8208x128, .f32⟩
  | 23 => ⟨S8208x1024, .f32⟩
  | 24 => ⟨S_, .i32⟩
  | 25 => ⟨S_, .f32⟩
  | 26 => ⟨S8448x1024, .f32⟩
  | 27 => ⟨S1x384, .f32⟩
  | 28 => ⟨S1x256, .f32⟩
  | 29 => ⟨S16, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S8448, .f32⟩
  | 38 => ⟨S8448x1, .f32⟩
  | 39 => ⟨S1x16, .f32⟩
  | 40 => ⟨S8448x16, .f32⟩
  | 41 => ⟨S8448x16, .f32⟩
  | 42 => ⟨S8448x16, .f32⟩
  | 43 => ⟨S8448x16, .f32⟩
  | 44 => ⟨S8448x16, .f32⟩
  | 45 => ⟨S_, .f32⟩
  | 46 => ⟨S8448x64, .f32⟩
  | 47 => ⟨S_, .f32⟩
  | 48 => ⟨S8448x64, .f32⟩
  | 49 => ⟨S_, .f32⟩
  | 50 => ⟨S8448x32, .f32⟩
  | 51 => ⟨S8448x128, .f32⟩
  | 52 => ⟨S8448x128, .f32⟩
  | 53 => ⟨S8448x16, .f32⟩
  | 54 => ⟨S8448x128, .f32⟩
  | 55 => ⟨S384x768, .bf16⟩
  | 56 => ⟨S384x8x96, .bf16⟩
  | 57 => ⟨S384x8x64, .bf16⟩
  | 58 => ⟨S384x8x32, .bf16⟩
  | 59 => ⟨S_, .bf16⟩
  | 60 => ⟨S384x8x32, .bf16⟩
  | 61 => ⟨S384x8x128, .bf16⟩
  | 62 => ⟨S384x1024, .bf16⟩
  | 63 => ⟨S_, .bf16⟩
  | 64 => ⟨S384x8x64, .bf16⟩
  | 65 => ⟨S384x8x16, .bf16⟩
  | 66 => ⟨S384x8x16, .bf16⟩
  | 67 => ⟨S384x8x32, .bf16⟩
  | 68 => ⟨S_, .bf16⟩
  | 69 => ⟨S384x8x32, .bf16⟩
  | 70 => ⟨S384x8x128, .bf16⟩
  | 71 => ⟨S384x1024, .bf16⟩
  | 72 => ⟨S384x2048, .bf16⟩
  | 73 => ⟨S256x1024, .bf16⟩
  | 74 => ⟨S256x8x128, .bf16⟩
  | 75 => ⟨S256x8x64, .bf16⟩
  | 76 => ⟨S256x8x64, .bf16⟩
  | 77 => ⟨S_, .bf16⟩
  | 78 => ⟨S256x8x64, .bf16⟩
  | 79 => ⟨S256x8x256, .bf16⟩
  | 80 => ⟨S256x2048, .bf16⟩
  | 81 => ⟨S8448x384, .bf16⟩
  | 82 => ⟨S8448x256, .bf16⟩
  | 83 => ⟨S8448x1024, .bf16⟩
  | 84 => ⟨S8448x2048, .bf16⟩
  | 85 => ⟨S8x11x128x768, .bf16⟩
  | 86 => ⟨S_, .i32⟩
  | 87 => ⟨S_, .f32⟩
  | 88 => ⟨S8448x8x128, .f32⟩
  | 89 => ⟨S8448x1024, .f32⟩
  | 90 => ⟨S_, .i32⟩
  | 91 => ⟨S_, .f32⟩
  | 92 => ⟨S8448x8x128, .f32⟩
  | 93 => ⟨S_, .i32⟩
  | 94 => ⟨S_, .f32⟩
  | 95 => ⟨S8448x8x128, .f32⟩
  | 96 => ⟨S8448x8x256, .f32⟩
  | 97 => ⟨S8448x2048, .f32⟩
  | 98 => ⟨S8448x2048, .bf16⟩
  | 99 => ⟨S2048x384, .bf16⟩
  | 100 => ⟨S2048x256, .bf16⟩
  | 101 => ⟨S8448x1024, .bf16⟩
  | 102 => ⟨S384x2048, .f32⟩
  | 103 => ⟨S256x2048, .f32⟩
  | 104 => ⟨S1x384, .f32⟩
  | 105 => ⟨S1x256, .f32⟩
  | 106 => ⟨S8208x32, .bf16⟩
  | 107 => ⟨S8208x32, .bf16⟩
  | 108 => ⟨S8208x16, .bf16⟩
  | 109 => ⟨S8208x16, .bf16⟩
  | 110 => ⟨S8208x32, .bf16⟩
  | 111 => ⟨S8208x32, .bf16⟩
  | 112 => ⟨S8208x384, .bf16⟩
  | 113 => ⟨S8208x256, .bf16⟩
  | 114 => ⟨S384x1024, .f32⟩
  | 115 => ⟨S384x8x128, .f32⟩
  | 116 => ⟨S384x1024, .f32⟩
  | 117 => ⟨S384x8x128, .f32⟩
  | 118 => ⟨S384x8x32, .f32⟩
  | 119 => ⟨S384x8x32, .f32⟩
  | 120 => ⟨S384x8x16, .f32⟩
  | 121 => ⟨S384x8x16, .f32⟩
  | 122 => ⟨S384x8x32, .f32⟩
  | 123 => ⟨S384x8x32, .f32⟩
  | 124 => ⟨S384x8x64, .f32⟩
  | 125 => ⟨S384x8x96, .f32⟩
  | 126 => ⟨S384x768, .f32⟩
  | 127 => ⟨S256x8x256, .f32⟩
  | _ => ⟨S8208x384, .f32⟩

abbrev hbmTy0_1 (i : Nat) : BufTy := match i % 128 with
  | 0 => ⟨S256x8x64, .f32⟩
  | 1 => ⟨S256x8x64, .f32⟩
  | 2 => ⟨S256x8x128, .f32⟩
  | 3 => ⟨S256x1024, .f32⟩
  | _ => ⟨S8208x384, .f32⟩

abbrev hbmTy (i : Nat) : BufTy := match i / 128 with
  | 0 => hbmTy0_0 i
  | 1 => hbmTy0_1 i
  | _ => ⟨S8208x384, .f32⟩

abbrev bufTy : (tb : Table) → Fin (tcTables nBuf tb) → BufTy
  | .hbm, ⟨i, _⟩ => hbmTy i
  | .local _ .vmem, ⟨0, _⟩ => ⟨S768x1024, .f32⟩
  | .local _ .vmem, ⟨1, _⟩ => ⟨S768x1024, .f32⟩
  | .local _ .vmem, ⟨2, _⟩ => ⟨S1x384, .f32⟩
  | .local _ .vmem, ⟨3, _⟩ => ⟨S1x256, .f32⟩
  | .local _ .vmem, ⟨4, _⟩ => ⟨S768x128, .f32⟩
  | .local _ .vmem, ⟨5, _⟩ => ⟨S768x128, .f32⟩
  | .local _ .vmem, ⟨6, _⟩ => ⟨S768x128, .f32⟩
  | .local _ .vmem, ⟨7, _⟩ => ⟨S768x128, .f32⟩
  | .local _ .vmem, ⟨8, _⟩ => ⟨S768x128, .f32⟩
  | .local _ .vmem, ⟨9, _⟩ => ⟨S768x128, .f32⟩
  | .local _ .vmem, ⟨10, _⟩ => ⟨S384x2048, .bf16⟩
  | .local _ .vmem, ⟨11, _⟩ => ⟨S256x2048, .bf16⟩
  | .local _ .vmem, ⟨12, _⟩ => ⟨S768x384, .bf16⟩
  | .local _ .vmem, ⟨13, _⟩ => ⟨S768x384, .bf16⟩
  | .local _ .vmem, ⟨14, _⟩ => ⟨S768x256, .bf16⟩
  | .local _ .vmem, ⟨15, _⟩ => ⟨S768x256, .bf16⟩
  | .local _ .vmem, ⟨16, _⟩ => ⟨S768x1024, .bf16⟩
  | .local _ .vmem, ⟨17, _⟩ => ⟨S768x1024, .bf16⟩
  | .local _ .vmem, ⟨18, _⟩ => ⟨S768x2048, .bf16⟩
  | .local _ .vmem, ⟨19, _⟩ => ⟨S768x2048, .bf16⟩
  | .local _ .vmem, ⟨20, _⟩ => ⟨S8x1x128x768, .bf16⟩
  | .local _ .vmem, ⟨21, _⟩ => ⟨S8x1x128x768, .bf16⟩
  | .local _ .vmem, ⟨22, _⟩ => ⟨S768x1024, .f32⟩
  | .local _ .vmem, ⟨23, _⟩ => ⟨S768x1024, .f32⟩
  | .local _ .vmem, ⟨24, _⟩ => ⟨S1x384, .f32⟩
  | .local _ .vmem, ⟨25, _⟩ => ⟨S1x256, .f32⟩
  | .local _ .vmem, ⟨26, _⟩ => ⟨S768x128, .f32⟩
  | .local _ .vmem, ⟨27, _⟩ => ⟨S768x128, .f32⟩
  | .local _ .vmem, ⟨28, _⟩ => ⟨S768x128, .f32⟩
  | .local _ .vmem, ⟨29, _⟩ => ⟨S768x128, .f32⟩
  | .local _ .vmem, ⟨30, _⟩ => ⟨S768x128, .f32⟩
  | .local _ .vmem, ⟨31, _⟩ => ⟨S768x128, .f32⟩
  | .local _ .vmem, ⟨32, _⟩ => ⟨S768x384, .bf16⟩
  | .local _ .vmem, ⟨33, _⟩ => ⟨S768x384, .bf16⟩
  | .local _ .vmem, ⟨34, _⟩ => ⟨S768x256, .bf16⟩
  | .local _ .vmem, ⟨35, _⟩ => ⟨S768x256, .bf16⟩
  | .local _ .vmem, ⟨36, _⟩ => ⟨S768x1024, .f32⟩
  | .local _ .vmem, ⟨37, _⟩ => ⟨S768x1024, .f32⟩
  | .local _ .vmem, ⟨38, _⟩ => ⟨S768x2048, .bf16⟩
  | .local _ .vmem, ⟨39, _⟩ => ⟨S768x2048, .bf16⟩
  | .local _ .vmem, ⟨40, _⟩ => ⟨S2048x384, .bf16⟩
  | .local _ .vmem, ⟨41, _⟩ => ⟨S2048x256, .bf16⟩
  | .local _ .vmem, ⟨42, _⟩ => ⟨S768x1024, .bf16⟩
  | .local _ .vmem, ⟨43, _⟩ => ⟨S768x1024, .bf16⟩
  | .local _ .vmem, ⟨44, _⟩ => ⟨S384x2048, .f32⟩
  | .local _ .vmem, ⟨45, _⟩ => ⟨S256x2048, .f32⟩
  | .local _ .vmem, ⟨46, _⟩ => ⟨S1x384, .f32⟩
  | .local _ .vmem, ⟨47, _⟩ => ⟨S1x256, .f32⟩
  | _, _ => ⟨S8208x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_cst_3 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_call0_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_cst_8 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_12 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55_0 : Ref sig .tc := ⟨.hbm, 81, rfl⟩
abbrev main_v55_1 : Ref sig .tc := ⟨.hbm, 82, rfl⟩
abbrev main_v55_2 : Ref sig .tc := ⟨.hbm, 83, rfl⟩
abbrev main_v55_3 : Ref sig .tc := ⟨.hbm, 84, rfl⟩
abbrev main_v55_4 : Ref sig .tc := ⟨.hbm, 85, rfl⟩
abbrev main_c_13 : Ref sig .tc := ⟨.hbm, 86, rfl⟩
abbrev main_call1_v0 : Ref sig .tc := ⟨.hbm, 87, rfl⟩
abbrev main_v56 : Ref sig .tc := ⟨.hbm, 88, rfl⟩
abbrev main_v57 : Ref sig .tc := ⟨.hbm, 89, rfl⟩
abbrev main_c_14 : Ref sig .tc := ⟨.hbm, 90, rfl⟩
abbrev main_call2_v0 : Ref sig .tc := ⟨.hbm, 91, rfl⟩
abbrev main_v58 : Ref sig .tc := ⟨.hbm, 92, rfl⟩
abbrev main_c_15 : Ref sig .tc := ⟨.hbm, 93, rfl⟩
abbrev main_call3_v0 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65_0 : Ref sig .tc := ⟨.hbm, 101, rfl⟩
abbrev main_v65_1 : Ref sig .tc := ⟨.hbm, 102, rfl⟩
abbrev main_v65_2 : Ref sig .tc := ⟨.hbm, 103, rfl⟩
abbrev main_v65_3 : Ref sig .tc := ⟨.hbm, 104, rfl⟩
abbrev main_v65_4 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc1_stg9_0 : Ref sig .tc := ⟨.vmem, 38, rfl⟩
abbrev cc1_stg9_1 : Ref sig .tc := ⟨.vmem, 39, rfl⟩
abbrev cc1_stg10_0 : Ref sig .tc := ⟨.vmem, 40, rfl⟩
abbrev cc1_stg11_0 : Ref sig .tc := ⟨.vmem, 41, rfl⟩
abbrev cc1_stg12_0 : Ref sig .tc := ⟨.vmem, 42, rfl⟩
abbrev cc1_stg12_1 : Ref sig .tc := ⟨.vmem, 43, rfl⟩
abbrev cc1_stg13_0 : Ref sig .tc := ⟨.vmem, 44, rfl⟩
abbrev cc1_stg14_0 : Ref sig .tc := ⟨.vmem, 45, rfl⟩
abbrev cc1_stg15_0 : Ref sig .tc := ⟨.vmem, 46, rfl⟩
abbrev cc1_stg16_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc1_sem0_0 : DmaSem sig := 22
abbrev cc1_sem0_1 : DmaSem sig := 23
abbrev cc1_sem1_0 : DmaSem sig := 24
abbrev cc1_sem2_0 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem7_1 : DmaSem sig := 35
abbrev cc1_sem8_0 : DmaSem sig := 36
abbrev cc1_sem8_1 : DmaSem sig := 37
abbrev cc1_sem9_0 : DmaSem sig := 38
abbrev cc1_sem9_1 : DmaSem sig := 39
abbrev cc1_sem10_0 : DmaSem sig := 40
abbrev cc1_sem11_0 : DmaSem sig := 41
abbrev cc1_sem12_0 : DmaSem sig := 42
abbrev cc1_sem12_1 : DmaSem sig := 43
abbrev cc1_sem13_0 : DmaSem sig := 44
abbrev cc1_sem14_0 : DmaSem sig := 45
abbrev cc1_sem15_0 : DmaSem sig := 46
abbrev cc1_sem16_0 : DmaSem sig := 47

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S768x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S768x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S768x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1x128x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S768x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S768x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S768x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S768x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S768x384 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S768x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S768x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S768x2048 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S2048x384 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S2048x256 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S768x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S384x2048 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S256x2048 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x384 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]
-- ==== MlaIdeal.lean ====
variable {F : FTy → Type} [FloatOps F] [Named F]
def κ : String → Option EReal := fun
  | "scale" => some (((Real.sqrt 96)⁻¹ : ℝ) : EReal)
  | _ => none
-- ==== MlaRefIdeal.lean ====
abbrev S8208x384 : Shape := ⟨2, ![8208, 384]⟩
abbrev S8208x256 : Shape := ⟨2, ![8208, 256]⟩
abbrev S8208x32 : Shape := ⟨2, ![8208, 32]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S8208x8x96 : Shape := ⟨3, ![8208, 8, 96]⟩
abbrev S8208x8x64 : Shape := ⟨3, ![8208, 8, 64]⟩
abbrev S8208 : Shape := ⟨1, ![8208]⟩
abbrev S_ : Shape := ⟨0, ![]⟩
abbrev S8208x1 : Shape := ⟨2, ![8208, 1]⟩
abbrev S1x384 : Shape := ⟨2, ![1, 384]⟩
abbrev S8208x768 : Shape := ⟨2, ![8208, 768]⟩
abbrev S8208x8x32 : Shape := ⟨3, ![8208, 8, 32]⟩
abbrev S16 : Shape := ⟨1, ![16]⟩
abbrev S1x16 : Shape := ⟨2, ![1, 16]⟩
abbrev S8208x16 : Shape := ⟨2, ![8208, 16]⟩
abbrev S8208x1x16 : Shape := ⟨3, ![8208, 1, 16]⟩
abbrev S8208x8x16 : Shape := ⟨3, ![8208, 8, 16]⟩
abbrev S1x256 : Shape := ⟨2, ![1, 256]⟩
abbrev S8208x1024 : Shape := ⟨2, ![8208, 1024]⟩
abbrev S8208x8x128 : Shape := ⟨3, ![8208, 8, 128]⟩
abbrev S8208x1x32 : Shape := ⟨3, ![8208, 1, 32]⟩
abbrev S1024x256 : Shape := ⟨2, ![1024, 256]⟩
abbrev S768x384 : Shape := ⟨2, ![768, 384]⟩

abbrev nBuf : Space → Nat
  | .hbm => 241
  | .vmem => 0
  | .smem => 0
  | _ => 0

abbrev hbmTy0_0 (i : Nat) : BufTy := match i % 128 with
  | 0 => ⟨S8208x384, .f32⟩
  | 1 => ⟨S8208x256, .f32⟩
  | 2 => ⟨S8208x32, .f32⟩
  | 3 => ⟨S384, .f32⟩
  | 4 => ⟨S256, .f32⟩
  | 5 => ⟨S384x768, .f32⟩
  | 6 => ⟨S256x1024, .f32⟩
  | 7 => ⟨S8208x8x96, .f32⟩
  | 8 => ⟨S8208x8x96, .f32⟩
  | 9 => ⟨S8208x8x64, .f32⟩
  | 10 => ⟨S8208, .i32⟩
  | 11 => ⟨S8208x384, .f32⟩
  | 12 => ⟨S_, .f32⟩
  | 13 => ⟨S8208, .f32⟩
  | 14 => ⟨S8208x1, .f32⟩
  | 15 => ⟨S_, .f32⟩
  | 16 => ⟨S8208x1, .f32⟩
  | 17 => ⟨S8208x1, .f32⟩
  | 18 => ⟨S_, .f32⟩
  | 19 => ⟨S8208x1, .f32⟩
  | 20 => ⟨S8208x1, .f32⟩
  | 21 => ⟨S8208x1, .f32⟩
  | 22 => ⟨S8208x1, .f32⟩
  | 23 => ⟨S_, .f32⟩
  | 24 => ⟨S8208x1, .f32⟩
  | 25 => ⟨S8208x1, .f32⟩
  | 26 => ⟨S8208x384, .f32⟩
  | 27 => ⟨S8208x384, .f32⟩
  | 28 => ⟨S1x384, .f32⟩
  | 29 => ⟨S8208x384, .f32⟩
  | 30 => ⟨S8208x384, .f32⟩
  | 31 => ⟨S8208x768, .f32⟩
  | 32 => ⟨S8208x8x96, .f32⟩
  | 33 => ⟨S8208x8x64, .f32⟩
  | 34 => ⟨S8208x8x32, .f32⟩
  | 35 => ⟨S16, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S8208, .f32⟩
  | 44 => ⟨S8208x1, .f32⟩
  | 45 => ⟨S1x16, .f32⟩
  | 46 => ⟨S8208x16, .f32⟩
  | 47 => ⟨S8208x16, .f32⟩
  | 48 => ⟨S8208x16, .f32⟩
  | 49 => ⟨S8208x16, .f32⟩
  | 50 => ⟨S8208x1x16, .f32⟩
  | 51 => ⟨S8208x16, .f32⟩
  | 52 => ⟨S8208x1x16, .f32⟩
  | 53 => ⟨S8208x8x16, .f32⟩
  | 54 => ⟨S8208x8x16, .f32⟩
  | 55 => ⟨S8208x8x16, .f32⟩
  | 56 => ⟨S8208x8x16, .f32⟩
  | 57 => ⟨S8208x8x16, .f32⟩
  | 58 => ⟨S8208x8x16, .f32⟩
  | 59 => ⟨S8208x8x16, .f32⟩
  | 60 => ⟨S8208x8x16, .f32⟩
  | 61 => ⟨S8208x8x16, .f32⟩
  | 62 => ⟨S8208x8x16, .f32⟩
  | 63 => ⟨S8208x8x16, .f32⟩
  | 64 => ⟨S8208x8x16, .f32⟩
  | 65 => ⟨S8208x8x32, .f32⟩
  | 66 => ⟨S8208x8x96, .f32⟩
  | 67 => ⟨S8208x256, .f32⟩
  | 68 => ⟨S_, .f32⟩
  | 69 => ⟨S8208, .f32⟩
  | 70 => ⟨S8208x1, .f32⟩
  | 71 => ⟨S_, .f32⟩
  | 72 => ⟨S8208x1, .f32⟩
  | 73 => ⟨S8208x1, .f32⟩
  | 74 => ⟨S_, .f32⟩
  | 75 => ⟨S8208x1, .f32⟩
  | 76 => ⟨S8208x1, .f32⟩
  | 77 => ⟨S8208x1, .f32⟩
  | 78 => ⟨S8208x1, .f32⟩
  | 79 => ⟨S_, .f32⟩
  | 80 => ⟨S8208x1, .f32⟩
  | 81 => ⟨S8208x1, .f32⟩
  | 82 => ⟨S8208x256, .f32⟩
  | 83 => ⟨S8208x256, .f32⟩
  | 84 => ⟨S1x256, .f32⟩
  | 85 => ⟨S8208x256, .f32⟩
  | 86 => ⟨S8208x256, .f32⟩
  | 87 => ⟨S8208x1024, .f32⟩
  | 88 => ⟨S8208x8x128, .f32⟩
  | 89 => ⟨S8208x8x64, .f32⟩
  | 90 => ⟨S8208x1x32, .f32⟩
  | 91 => ⟨S16, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S8208, .f32⟩
  | 100 => ⟨S8208x1, .f32⟩
  | 101 => ⟨S1x16, .f32⟩
  | 102 => ⟨S8208x16, .f32⟩
  | 103 => ⟨S8208x16, .f32⟩
  | 104 => ⟨S8208x16, .f32⟩
  | 105 => ⟨S8208x16, .f32⟩
  | 106 => ⟨S8208x1x16, .f32⟩
  | 107 => ⟨S8208x16, .f32⟩
  | 108 => ⟨S8208x1x16, .f32⟩
  | 109 => ⟨S8208x1x16, .f32⟩
  | 110 => ⟨S8208x1x16, .f32⟩
  | 111 => ⟨S8208x1x16, .f32⟩
  | 112 => ⟨S8208x1x16, .f32⟩
  | 113 => ⟨S8208x1x16, .f32⟩
  | 114 => ⟨S8208x1x16, .f32⟩
  | 115 => ⟨S8208x1x16, .f32⟩
  | 116 => ⟨S8208x1x16, .f32⟩
  | 117 => ⟨S8208x1x32, .f32⟩
  | 118 => ⟨S8208x8x64, .f32⟩
  | 119 => ⟨S8208x8x32, .f32⟩
  | 120 => ⟨S8208x8x96, .f32⟩
  | 121 => ⟨S_, .f32⟩
  | 122 => ⟨S_, .f32⟩
  | 123 => ⟨S8208x8x96, .f32⟩
  | 124 => ⟨S8208x8x96, .f32⟩
  | 125 => ⟨S8208x8x96, .f32⟩
  | 126 => ⟨S8208x8x96, .f32⟩
  | 127 => ⟨S8208x8x64, .f32⟩
  | _ => ⟨S8208x384, .f32⟩

abbrev hbmTy0_1 (i : Nat) : BufTy := match i % 128 with
  | 0 => ⟨S8208x8x32, .f32⟩
  | 1 => ⟨S_, .f32⟩
  | 2 => ⟨S8208x32, .f32⟩
  | 3 => ⟨S8208x1x32, .f32⟩
  | 4 => ⟨S_, .f32⟩
  | 5 => ⟨S8208x8x128, .f32⟩
  | 6 => ⟨S8208x1x16, .f32⟩
  | 7 => ⟨S8208x1x16, .f32⟩
  | 8 => ⟨S8208x1x16, .f32⟩
  | 9 => ⟨S8208x1x16, .f32⟩
  | 10 => ⟨S8208x1x16, .f32⟩
  | 11 => ⟨S8208x1x16, .f32⟩
  | 12 => ⟨S8208x1x16, .f32⟩
  | 13 => ⟨S8208x1x16, .f32⟩
  | 14 => ⟨S8208x1x16, .f32⟩
  | 15 => ⟨S_, .f32⟩
  | 16 => ⟨S8208x1x32, .f32⟩
  | 17 => ⟨S_, .f32⟩
  | 18 => ⟨S8208x1x32, .f32⟩
  | 19 => ⟨S8208x1x32, .f32⟩
  | 20 => ⟨S_, .f32⟩
  | 21 => ⟨S8208x32, .f32⟩
  | 22 => ⟨S_, .f32⟩
  | 23 => ⟨S8208x8x128, .f32⟩
  | 24 => ⟨S8208x8x128, .f32⟩
  | 25 => ⟨S8208x1024, .f32⟩
  | 26 => ⟨S1024x256, .f32⟩
  | 27 => ⟨S256x1024, .f32⟩
  | 28 => ⟨S8208x256, .f32⟩
  | 29 => ⟨S8208x256, .f32⟩
  | 30 => ⟨S_, .f32⟩
  | 31 => ⟨S256, .f32⟩
  | 32 => ⟨S1x256, .f32⟩
  | 33 => ⟨S8208x256, .f32⟩
  | 34 => ⟨S8208x256, .f32⟩
  | 35 => ⟨S_, .f32⟩
  | 36 => ⟨S256, .f32⟩
  | 37 => ⟨S8208x256, .f32⟩
  | 38 => ⟨S_, .f32⟩
  | 39 => ⟨S8208, .f32⟩
  | 40 => ⟨S8208x1, .f32⟩
  | 41 => ⟨S8208x256, .f32⟩
  | 42 => ⟨S8208x256, .f32⟩
  | 43 => ⟨S8208x1, .f32⟩
  | 44 => ⟨S_, .f32⟩
  | 45 => ⟨S8208x1, .f32⟩
  | 46 => ⟨S8208x1, .f32⟩
  | 47 => ⟨S_, .f32⟩
  | 48 => ⟨S8208, .f32⟩
  | 49 => ⟨S8208x256, .f32⟩
  | 50 => ⟨S8208x256, .f32⟩
  | 51 => ⟨S8208x256, .f32⟩
  | 52 => ⟨S8208x256, .f32⟩
  | 53 => ⟨S8208x256, .f32⟩
  | 54 => ⟨S8208x8x64, .f32⟩
  | 55 => ⟨S8208x8x32, .f32⟩
  | 56 => ⟨S8208x8x16, .f32⟩
  | 57 => ⟨S8208x8x16, .f32⟩
  | 58 => ⟨S8208x8x16, .f32⟩
  | 59 => ⟨S8208x8x16, .f32⟩
  | 60 => ⟨S8208x8x16, .f32⟩
  | 61 => ⟨S8208x8x16, .f32⟩
  | 62 => ⟨S8208x8x16, .f32⟩
  | 63 => ⟨S8208x8x16, .f32⟩
  | 64 => ⟨S8208x8x16, .f32⟩
  | 65 => ⟨S8208x8x16, .f32⟩
  | 66 => ⟨S8208x8x16, .f32⟩
  | 67 => ⟨S8208x8x16, .f32⟩
  | 68 => ⟨S8208x8x16, .f32⟩
  | 69 => ⟨S_, .f32⟩
  | 70 => ⟨S8208x8x32, .f32⟩
  | 71 => ⟨S_, .f32⟩
  | 72 => ⟨S8208x8x32, .f32⟩
  | 73 => ⟨S8208x8x32, .f32⟩
  | 74 => ⟨S_, .f32⟩
  | 75 => ⟨S8208x8x96, .f32⟩
  | 76 => ⟨S_, .f32⟩
  | 77 => ⟨S8208x8x96, .f32⟩
  | 78 => ⟨S8208x8x96, .f32⟩
  | 79 => ⟨S8208x768, .f32⟩
  | 80 => ⟨S768x384, .f32⟩
  | 81 => ⟨S384x768, .f32⟩
  | 82 => ⟨S8208x384, .f32⟩
  | 83 => ⟨S8208x384, .f32⟩
  | 84 => ⟨S_, .f32⟩
  | 85 => ⟨S384, .f32⟩
  | 86 => ⟨S1x384, .f32⟩
  | 87 => ⟨S8208x384, .f32⟩
  | 88 => ⟨S8208x384, .f32⟩
  | 89 => ⟨S_, .f32⟩
  | 90 => ⟨S384, .f32⟩
  | 91 => ⟨S8208x384, .f32⟩
  | 92 => ⟨S_, .f32⟩
  | 93 => ⟨S8208, .f32⟩
  | 94 => ⟨S8208x1, .f32⟩
  | 95 => ⟨S8208x384, .f32⟩
  | 96 => ⟨S8208x384, .f32⟩
  | 97 => ⟨S8208x1, .f32⟩
  | 98 => ⟨S_, .f32⟩
  | 99 => ⟨S8208x1, .f32⟩
  | 100 => ⟨S8208x1, .f32⟩
  | 101 => ⟨S_, .f32⟩
  | 102 => ⟨S8208, .f32⟩
  | 103 => ⟨S8208x384, .f32⟩
  | 104 => ⟨S8208x384, .f32⟩
  | 105 => ⟨S8208x384, .f32⟩
  | 106 => ⟨S8208x384, .f32⟩
  | 107 => ⟨S8208x384, .f32⟩
  | 108 => ⟨S8208x384, .bf16⟩
  | 109 => ⟨S8208x256, .bf16⟩
  | 110 => ⟨S8208x32, .bf16⟩
  | 111 => ⟨S1x384, .f32⟩
  | 112 => ⟨S1x256, .f32⟩
  | _ => ⟨S8208x384, .f32⟩

abbrev hbmTy (i : Nat) : BufTy := match i / 128 with
  | 0 => hbmTy0_0 i
  | 1 => hbmTy0_1 i
  | _ => ⟨S8208x384, .f32⟩

abbrev bufTy : (tb : Table) → Fin (tcTables nBuf tb) → BufTy
  | .hbm, ⟨i, _⟩ => hbmTy i
  | _, _ => ⟨S8208x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_9 : Ref sig .tc := ⟨.hbm, 93, rfl⟩
abbrev main_v73 : Ref sig .tc := ⟨.hbm, 94, rfl⟩
abbrev main_v74 : Ref sig .tc := ⟨.hbm, 95, rfl⟩
abbrev main_cst_10 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_11 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_cst_12 : Ref sig .tc := ⟨.hbm, 129, rfl⟩
abbrev main_v106 : Ref sig .tc := ⟨.hbm, 130, rfl⟩
abbrev main_v107 : Ref sig .tc := ⟨.hbm, 131, rfl⟩
abbrev main_cst_13 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_14 : Ref sig .tc := ⟨.hbm, 143, rfl⟩
abbrev main_v118 : Ref sig .tc := ⟨.hbm, 144, rfl⟩
abbrev main_cst_15 : Ref sig .tc := ⟨.hbm, 145, rfl⟩
abbrev main_v119 : Ref sig .tc := ⟨.hbm, 146, rfl⟩
abbrev main_v120 : Ref sig .tc := ⟨.hbm, 147, rfl⟩
abbrev main_cst_16 : Ref sig .tc := ⟨.hbm, 148, rfl⟩
abbrev main_v121 : Ref sig .tc := ⟨.hbm, 149, rfl⟩
abbrev main_cst_17 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_18 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_cst_19 : Ref sig .tc := ⟨.hbm, 163, rfl⟩
abbrev main_v133 : Ref sig .tc := ⟨.hbm, 164, rfl⟩
abbrev main_v134 : Ref sig .tc := ⟨.hbm, 165, rfl⟩
abbrev main_cst_20 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_cst_21 : Ref sig .tc := ⟨.hbm, 172, rfl⟩
abbrev main_v140 : Ref sig .tc := ⟨.hbm, 173, rfl⟩
abbrev main_v141 : Ref sig .tc := ⟨.hbm, 174, rfl⟩
abbrev main_cst_22 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_cst_23 : Ref sig .tc := ⟨.hbm, 197, rfl⟩
abbrev main_v163 : Ref sig .tc := ⟨.hbm, 198, rfl⟩
abbrev main_cst_24 : Ref sig .tc := ⟨.hbm, 199, rfl⟩
abbrev main_v164 : Ref sig .tc := ⟨.hbm, 200, rfl⟩
abbrev main_v165 : Ref sig .tc := ⟨.hbm, 201, rfl⟩
abbrev main_cst_25 : Ref sig .tc := ⟨.hbm, 202, rfl⟩
abbrev main_v166 : Ref sig .tc := ⟨.hbm, 203, rfl⟩
abbrev main_cst_26 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_cst_27 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_cst_28 : Ref sig .tc := ⟨.hbm, 217, rfl⟩
abbrev main_v178 : Ref sig .tc := ⟨.hbm, 218, rfl⟩
abbrev main_v179 : Ref sig .tc := ⟨.hbm, 219, rfl⟩
abbrev main_cst_29 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_cst_30 : Ref sig .tc := ⟨.hbm, 226, rfl⟩
abbrev main_v185 : Ref sig .tc := ⟨.hbm, 227, rfl⟩
abbrev main_v186 : Ref sig .tc := ⟨.hbm, 228, rfl⟩
abbrev main_cst_31 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩

abbrev nD : Nat := 1
abbrev τ : Topo := Topo.v7x

variable {F : FTy → Type} [FloatOps F]
-- ==== Hg.lean ====
abbrev S8208x512 : Shape := ⟨2, ![8208, 512]⟩
abbrev S512 : Shape := ⟨1, ![512]⟩
abbrev S128 : Shape := ⟨1, ![128]⟩
abbrev S_ : Shape := ⟨0, ![]⟩
abbrev S8448x512 : Shape := ⟨2, ![8448, 512]⟩
abbrev S8448x4x128 : Shape := ⟨3, ![8448, 4, 128]⟩
abbrev S4x128 : Shape := ⟨2, ![4, 128]⟩
abbrev S1x4x128 : Shape := ⟨3, ![1, 4, 128]⟩
abbrev S4x8448x128 : Shape := ⟨3, ![4, 8448, 128]⟩
abbrev S66 : Shape := ⟨1, ![66]⟩
abbrev S4x1x128 : Shape := ⟨3, ![4, 1, 128]⟩
abbrev S4x65x128 : Shape := ⟨3, ![4, 65, 128]⟩
abbrev S4x66x128 : Shape := ⟨3, ![4, 66, 128]⟩
abbrev S4x66x1x128 : Shape := ⟨4, ![4, 66, 1, 128]⟩
abbrev S4x1x8448x128 : Shape := ⟨4, ![4, 1, 8448, 128]⟩
abbrev S4x66x8448x128 : Shape := ⟨4, ![4, 66, 8448, 128]⟩
abbrev S8448 : Shape := ⟨1, ![8448]⟩
abbrev S1x8448 : Shape := ⟨2, ![1, 8448]⟩
abbrev S66x1 : Shape := ⟨2, ![66, 1]⟩
abbrev S66x8448 : Shape := ⟨2, ![66, 8448]⟩
abbrev S66x8448x1 : Shape := ⟨3, ![66, 8448, 1]⟩
abbrev S4x66x128x128 : Shape := ⟨4, ![4, 66, 128, 128]⟩
abbrev S8448x1024 : Shape := ⟨2, ![8448, 1024]⟩
abbrev S8448x3072 : Shape := ⟨2, ![8448, 3072]⟩
abbrev S128x1 : Shape := ⟨2, ![128, 1]⟩
abbrev S1x128 : Shape := ⟨2, ![1, 128]⟩
abbrev S128x128 : Shape := ⟨2, ![128, 128]⟩
abbrev S1x512 : Shape := ⟨2, ![1, 512]⟩
abbrev S768x128 : Shape := ⟨2, ![768, 128]⟩
abbrev S1x6x128x128 : Shape := ⟨4, ![1, 6, 128, 128]⟩
abbrev S1x1x128x128 : Shape := ⟨4, ![1, 1, 128, 128]⟩
abbrev S128x384 : Shape := ⟨2, ![128, 384]⟩
abbrev S1x128x128 : Shape := ⟨3, ![1, 128, 128]⟩
abbrev S1x1x128 : Shape := ⟨3, ![1, 1, 128]⟩
abbrev S2x64x128 : Shape := ⟨3, ![2, 64, 128]⟩
abbrev S2x1x128 : Shape := ⟨3, ![2, 1, 128]⟩
abbrev S4x32x128 : Shape := ⟨3, ![4, 32, 128]⟩
abbrev S8x16x128 : Shape := ⟨3, ![8, 16, 128]⟩
abbrev S8x1x128 : Shape := ⟨3, ![8, 1, 128]⟩
abbrev S16x8x128 : Shape := ⟨3, ![16, 8, 128]⟩
abbrev S16x1x128 : Shape := ⟨3, ![16, 1, 128]⟩
abbrev S2x128 : Shape := ⟨2, ![2, 128]⟩
abbrev S8x128 : Shape := ⟨2, ![8, 128]⟩
abbrev S16x128 : Shape := ⟨2, ![16, 128]⟩

abbrev nBuf : Space → Nat
  | .hbm => 129
  | .vmem => 29
  | .smem => 0
  | _ => 0

abbrev hbmTy0_0 (i : Nat) : BufTy := match i % 128 with
  | 0 => ⟨S8208x512, .f32⟩
  | 1 => ⟨S8208x512, .f32⟩
  | 2 => ⟨S8208x512, .f32⟩
  | 3 => ⟨S8208x512, .f32⟩
  | 4 => ⟨S512, .f32⟩
  | 5 => ⟨S128, .f32⟩
  | 6 => ⟨S8208x512, .f32⟩
  | 7 => ⟨S_, .i32⟩
  | 8 => ⟨S_, .f32⟩
  | 9 => ⟨S8448x512, .f32⟩
  | 10 => ⟨S_, .i32⟩
  | 11 => ⟨S_, .f32⟩
  | 12 => ⟨S8448x512, .f32⟩
  | 13 => ⟨S_, .i32⟩
  | 14 => ⟨S_, .f32⟩
  | 15 => ⟨S8448x512, .f32⟩
  | 16 => ⟨S_, .i32⟩
  | 17 => ⟨S_, .f32⟩
  | 18 => ⟨S8448x512, .f32⟩
  | 19 => ⟨S_, .i32⟩
  | 20 => ⟨S_, .f32⟩
  | 21 => ⟨S8448x512, .f32⟩
  | 22 => ⟨S8448x512, .f32⟩
  | 23 => ⟨S8448x512, .f32⟩
  | 24 => ⟨S_, .f32⟩
  | 25 => ⟨S8448x512, .f32⟩
  | 26 => ⟨S8448x512, .f32⟩
  | 27 => ⟨S_, .f32⟩
  | 28 => ⟨S8448x512, .f32⟩
  | 29 => ⟨S8448x512, .f32⟩
  | 30 => ⟨S8448x512, .f32⟩
  | 31 => ⟨S8448x4x128, .f32⟩
  | 32 => ⟨S8448x4x128, .f32⟩
  | 33 => ⟨S4x128, .f32⟩
  | 34 => ⟨S_, .f32⟩
  | 35 => ⟨S4x128, .f32⟩
  | 36 => ⟨S4x128, .f32⟩
  | 37 => ⟨S8448x4x128, .f32⟩
  | 38 => ⟨S8448x4x128, .f32⟩
  | 39 => ⟨S_, .f32⟩
  | 40 => ⟨S8448x4x128, .f32⟩
  | 41 => ⟨S8448x4x128, .f32⟩
  | 42 => ⟨S_, .f32⟩
  | 43 => ⟨S8448x4x128, .f32⟩
  | 44 => ⟨S8448x4x128, .f32⟩
  | 45 => ⟨S1x4x128, .f32⟩
  | 46 => ⟨S8448x4x128, .f32⟩
  | 47 => ⟨S8448x4x128, .f32⟩
  | 48 => ⟨S1x4x128, .f32⟩
  | 49 => ⟨S8448x4x128, .f32⟩
  | 50 => ⟨S8448x4x128, .f32⟩
  | 51 => ⟨S_, .f32⟩
  | 52 => ⟨S8448x4x128, .f32⟩
  | 53 => ⟨S8448x4x128, .f32⟩
  | 54 => ⟨S8448x4x128, .f32⟩
  | 55 => ⟨S_, .f32⟩
  | 56 => ⟨S4x128, .f32⟩
  | 57 => ⟨S4x128, .f32⟩
  | 58 => ⟨S8448x4x128, .f32⟩
  | 59 => ⟨S8448x4x128, .f32⟩
  | 60 => ⟨S8448x4x128, .f32⟩
  | 61 => ⟨S_, .f32⟩
  | 62 => ⟨S8448x4x128, .f32⟩
  | 63 => ⟨S8448x4x128, .f32⟩
  | 64 => ⟨S_, .f32⟩
  | 65 => ⟨S8448x4x128, .f32⟩
  | 66 => ⟨S8448x4x128, .f32⟩
  | 67 => ⟨S1x4x128, .f32⟩
  | 68 => ⟨S8448x4x128, .f32⟩
  | 69 => ⟨S8448x4x128, .f32⟩
  | 70 => ⟨S8448x4x128, .f32⟩
  | 71 => ⟨S4x8448x128, .f32⟩
  | 72 => ⟨S4x8448x128, .f32⟩
  | 73 => ⟨S4x8448x128, .f32⟩
  | 74 => ⟨S4x8448x128, .f32⟩
  | 75 => ⟨S_, .f32⟩
  | 76 => ⟨S_, .f32⟩
  | 77 => ⟨S4x8448x128, .f32⟩
  | 78 => ⟨S66, .i32⟩
  | 79 => ⟨S_, .i32⟩
  | 80 => ⟨S66, .i32⟩
  | 81 => ⟨S66, .i32⟩
  | 82 => ⟨S_, .f32⟩
  | 83 => ⟨S4x1x128, .f32⟩
  | 84 => ⟨S4x65x128, .f32⟩
  | 85 => ⟨S4x66x128, .f32⟩
  | 86 => ⟨S4x66x1x128, .f32⟩
  | 87 => ⟨S4x1x8448x128, .f32⟩
  | 88 => ⟨S4x66x8448x128, .f32⟩
  | 89 => ⟨S4x66x8448x128, .f32⟩
  | 90 => ⟨S4x66x8448x128, .f32⟩
  | 91 => ⟨S8448, .i32⟩
  | 92 => ⟨S1x8448, .i32⟩
  | 93 => ⟨S66x1, .i32⟩
  | 94 => ⟨S66x8448, .i32⟩
  | 95 => ⟨S66x8448, .i32⟩
  | 96 => ⟨S66x8448, .i1⟩
  | 97 => ⟨S66x8448x1, .i1⟩
  | 98 => ⟨S_, .f32⟩
  | 99 => ⟨S_, .f32⟩
  | 100 => ⟨S4x66x8448x128, .i1⟩
  | 101 => ⟨S4x66x8448x128, .f32⟩
  | 102 => ⟨S4x66x8448x128, .f32⟩
  | 103 => ⟨S4x66x8448x128, .f32⟩
  | 104 => ⟨S4x1x8448x128, .f32⟩
  | 105 => ⟨S4x66x8448x128, .f32⟩
  | 106 => ⟨S4x66x8448x128, .f32⟩
  | 107 => ⟨S4x66x128x128, .f32⟩
  | 108 => ⟨S_, .f32⟩
  | 109 => ⟨S8448x1024, .f32⟩
  | 110 => ⟨S8448x3072, .f32⟩
  | 111 => ⟨S128, .i32⟩
  | 112 => ⟨S128x1, .i32⟩
  | 113 => ⟨S128, .i32⟩
  | 114 => ⟨S1x128, .i32⟩
  | 115 => ⟨S128x128, .i32⟩
  | 116 => ⟨S128x128, .i32⟩
  | 117 => ⟨S128x128, .i1⟩
  | 118 => ⟨S128x128, .bf16⟩
  | 119 => ⟨S128x128, .bf16⟩
  | 120 => ⟨S1x512, .f32⟩
  | 121 => ⟨S1x128, .f32⟩
  | 122 => ⟨S8448x512, .bf16⟩
  | 123 => ⟨S8448x512, .bf16⟩
  | 124 => ⟨S8448x512, .bf16⟩
  | 125 => ⟨S8448x512, .bf16⟩
  | 126 => ⟨S8448x512, .bf16⟩
  | 127 => ⟨S1x512, .f32⟩
  | _ => ⟨S8208x512, .f32⟩

abbrev hbmTy0_1 (i : Nat) : BufTy := match i % 128 with
  | 0 => ⟨S1x128, .f32⟩
  | _ => ⟨S8208x512, .f32⟩

abbrev hbmTy (i : Nat) : BufTy := match i / 128 with
  | 0 => hbmTy0_0 i
  | 1 => hbmTy0_1 i
  | _ => ⟨S8208x512, .f32⟩

abbrev bufTy : (tb : Table) → Fin (tcTables nBuf tb) → BufTy
  | .hbm, ⟨i, _⟩ => hbmTy i
  | .local _ .vmem, ⟨0, _⟩ => ⟨S768x128, .f32⟩
  | .local _ .vmem, ⟨1, _⟩ => ⟨S768x128, .f32⟩
  | .local _ .vmem, ⟨2, _⟩ => ⟨S768x128, .f32⟩
  | .local _ .vmem, ⟨3, _⟩ => ⟨S768x128, .f32⟩
  | .local _ .vmem, ⟨4, _⟩ => ⟨S768x128, .f32⟩
  | .local _ .vmem, ⟨5, _⟩ => ⟨S768x128, .f32⟩
  | .local _ .vmem, ⟨6, _⟩ => ⟨S768x128, .f32⟩
  | .local _ .vmem, ⟨7, _⟩ => ⟨S768x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x128, .bf16⟩
  | .local _ .vmem, ⟨12, _⟩ => ⟨S128x128, .bf16⟩
  | .local _ .vmem, ⟨13, _⟩ => ⟨S1x6x128x128, .f32⟩
  | .local _ .vmem, ⟨14, _⟩ => ⟨S1x6x128x128, .f32⟩
  | .local _ .vmem, ⟨15, _⟩ => ⟨S768x128, .bf16⟩
  | .local _ .vmem, ⟨16, _⟩ => ⟨S768x128, .bf16⟩
  | .local _ .vmem, ⟨17, _⟩ => ⟨S768x128, .bf16⟩
  | .local _ .vmem, ⟨18, _⟩ => ⟨S768x128, .bf16⟩
  | .local _ .vmem, ⟨19, _⟩ => ⟨S768x128, .bf16⟩
  | .local _ .vmem, ⟨20, _⟩ => ⟨S768x128, .bf16⟩
  | .local _ .vmem, ⟨21, _⟩ => ⟨S768x128, .bf16⟩
  | .local _ .vmem, ⟨22, _⟩ => ⟨S768x128, .bf16⟩
  | .local _ .vmem, ⟨23, _⟩ => ⟨S768x128, .bf16⟩
  | .local _ .vmem, ⟨24, _⟩ => ⟨S768x128, .bf16⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S128x128, .f32⟩
  | _, _ => ⟨S8208x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_call2_v0 : Ref sig .tc := ⟨.hbm, 14, rfl⟩
abbrev main_v2 : Ref sig .tc := ⟨.hbm, 15, rfl⟩
abbrev main_c_2 : Ref sig .tc := ⟨.hbm, 16, rfl⟩
abbrev main_call3_v0 : Ref sig .tc := ⟨.hbm, 17, rfl⟩
abbrev main_v3 : Ref sig .tc := ⟨.hbm, 18, rfl⟩
abbrev main_c_3 : Ref sig .tc := ⟨.hbm, 19, rfl⟩
abbrev main_call4_v0 : Ref sig .tc := ⟨.hbm, 20, rfl⟩
abbrev main_v4 : Ref sig .tc := ⟨.hbm, 21, rfl⟩
abbrev main_call5_v0 : Ref sig .tc := ⟨.hbm, 22, rfl⟩
abbrev main_call5_v1 : Ref sig .tc := ⟨.hbm, 23, rfl⟩
abbrev main_call5_cst : Ref sig .tc := ⟨.hbm, 24, rfl⟩
abbrev main_call5_v2 : Ref sig .tc := ⟨.hbm, 25, rfl⟩
abbrev main_call5_v3 : Ref sig .tc := ⟨.hbm, 26, rfl⟩
abbrev main_call5_cst_0 : Ref sig .tc := ⟨.hbm, 27, rfl⟩
abbrev main_call5_v4 : Ref sig .tc := ⟨.hbm, 28, rfl⟩
abbrev main_call5_v5 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_4 : Ref sig .tc := ⟨.hbm, 39, rfl⟩
abbrev main_v13 : Ref sig .tc := ⟨.hbm, 40, rfl⟩
abbrev main_v14 : Ref sig .tc := ⟨.hbm, 41, rfl⟩
abbrev main_cst_5 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_6 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_7 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_8 : Ref sig .tc := ⟨.hbm, 61, rfl⟩
abbrev main_v31 : Ref sig .tc := ⟨.hbm, 62, rfl⟩
abbrev main_v32 : Ref sig .tc := ⟨.hbm, 63, rfl⟩
abbrev main_cst_9 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_call6_call0_cst : Ref sig .tc := ⟨.hbm, 75, rfl⟩
abbrev main_call6_call0_v0 : Ref sig .tc := ⟨.hbm, 76, rfl⟩
abbrev main_v43 : Ref sig .tc := ⟨.hbm, 77, rfl⟩
abbrev main_v44 : Ref sig .tc := ⟨.hbm, 78, rfl⟩
abbrev main_c_10 : Ref sig .tc := ⟨.hbm, 79, rfl⟩
abbrev main_v45 : Ref sig .tc := ⟨.hbm, 80, rfl⟩
abbrev main_v46 : Ref sig .tc := ⟨.hbm, 81, rfl⟩
abbrev main_cst_11 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_12 : Ref sig .tc := ⟨.hbm, 98, rfl⟩
abbrev main_call7_v0 : Ref sig .tc := ⟨.hbm, 99, rfl⟩
abbrev main_call7_v1 : Ref sig .tc := ⟨.hbm, 100, rfl⟩
abbrev main_call7_v2 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_13 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82_0 : Ref sig .tc := ⟨.hbm, 123, rfl⟩
abbrev main_v82_1 : Ref sig .tc := ⟨.hbm, 124, rfl⟩
abbrev main_v82_2 : Ref sig .tc := ⟨.hbm, 125, rfl⟩
abbrev main_v82_3 : Ref sig .tc := ⟨.hbm, 126, rfl⟩
abbrev main_v82_4 : Ref sig .tc := ⟨.hbm, 127, rfl⟩
abbrev main_v82_5 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c8_i32 : BitVec 32 := 8#32
  let v1 : BitVec 32 := Scalar.addi c8_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c12_i32 : BitVec 32 := 12#32
  let v1 : BitVec 32 := Scalar.addi c12_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c16_i32 : BitVec 32 := 16#32
  let v1 : BitVec 32 := Scalar.addi c16_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c20_i32 : BitVec 32 := 20#32
  let v1 : BitVec 32 := Scalar.addi c20_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi c10_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x6x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S768x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S768x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S768x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S768x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S768x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== HgIdeal.lean ====
variable {F : FTy → Type} [FloatOps F] [Named F]
def κ : String → Option EReal := fun
  | "hgscale" => some (((Real.sqrt 128)⁻¹ : ℝ) : EReal)
  | _ => none
-- ==== HgRefIdeal.lean ====
abbrev S8208x512 : Shape := ⟨2, ![8208, 512]⟩
abbrev S512 : Shape := ⟨1, ![512]⟩
abbrev S128 : Shape := ⟨1, ![128]⟩
abbrev S_ : Shape := ⟨0, ![]⟩
abbrev S8208x4x128 : Shape := ⟨3, ![8208, 4, 128]⟩
abbrev S4x128 : Shape := ⟨2, ![4, 128]⟩
abbrev S1x4x128 : Shape := ⟨3, ![1, 4, 128]⟩
abbrev S4x8208x128 : Shape := ⟨3, ![4, 8208, 128]⟩
abbrev S8208 : Shape := ⟨1, ![8208]⟩
abbrev S8208x1 : Shape := ⟨2, ![8208, 1]⟩
abbrev S1x8208 : Shape := ⟨2, ![1, 8208]⟩
abbrev S8208x8208 : Shape := ⟨2, ![8208, 8208]⟩
abbrev S4x8208x1x128 : Shape := ⟨4, ![4, 8208, 1, 128]⟩
abbrev S4x1x8208x128 : Shape := ⟨4, ![4, 1, 8208, 128]⟩
abbrev S4x8208x8208x128 : Shape := ⟨4, ![4, 8208, 8208, 128]⟩
abbrev S8208x8208x1 : Shape := ⟨3, ![8208, 8208, 1]⟩
abbrev S4x8208x8208 : Shape := ⟨3, ![4, 8208, 8208]⟩
abbrev S8208x4 : Shape := ⟨2, ![8208, 4]⟩
abbrev S8208x4x1 : Shape := ⟨3, ![8208, 4, 1]⟩
abbrev S1x1x128 : Shape := ⟨3, ![1, 1, 128]⟩
abbrev S4x128x8208 : Shape := ⟨3, ![4, 128, 8208]⟩
abbrev S8448x512 : Shape := ⟨2, ![8448, 512]⟩
abbrev S1x512 : Shape := ⟨2, ![1, 512]⟩
abbrev S1x128 : Shape := ⟨2, ![1, 128]⟩

abbrev nBuf : Space → Nat
  | .hbm => 298
  | .vmem => 0
  | .smem => 0
  | _ => 0

abbrev hbmTy0_0 (i : Nat) : BufTy := match i % 128 with
  | 0 => ⟨S8208x512, .f32⟩
  | 1 => ⟨S8208x512, .f32⟩
  | 2 => ⟨S8208x512, .f32⟩
  | 3 => ⟨S8208x512, .f32⟩
  | 4 => ⟨S512, .f32⟩
  | 5 => ⟨S128, .f32⟩
  | 6 => ⟨S8208x512, .f32⟩
  | 7 => ⟨S8208x512, .f32⟩
  | 8 => ⟨S8208x512, .f32⟩
  | 9 => ⟨S_, .f32⟩
  | 10 => ⟨S8208x512, .f32⟩
  | 11 => ⟨S8208x512, .f32⟩
  | 12 => ⟨S_, .f32⟩
  | 13 => ⟨S8208x512, .f32⟩
  | 14 => ⟨S8208x512, .f32⟩
  | 15 => ⟨S_, .f32⟩
  | 16 => ⟨S8208x512, .f32⟩
  | 17 => ⟨S8208x512, .f32⟩
  | 18 => ⟨S8208x512, .f32⟩
  | 19 => ⟨S8208x512, .f32⟩
  | 20 => ⟨S8208x4x128, .f32⟩
  | 21 => ⟨S8208x4x128, .f32⟩
  | 22 => ⟨S4x128, .f32⟩
  | 23 => ⟨S_, .f32⟩
  | 24 => ⟨S4x128, .f32⟩
  | 25 => ⟨S4x128, .f32⟩
  | 26 => ⟨S8208x4x128, .f32⟩
  | 27 => ⟨S8208x4x128, .f32⟩
  | 28 => ⟨S_, .f32⟩
  | 29 => ⟨S8208x4x128, .f32⟩
  | 30 => ⟨S8208x4x128, .f32⟩
  | 31 => ⟨S_, .f32⟩
  | 32 => ⟨S8208x4x128, .f32⟩
  | 33 => ⟨S8208x4x128, .f32⟩
  | 34 => ⟨S_, .f32⟩
  | 35 => ⟨S8208x4x128, .f32⟩
  | 36 => ⟨S8208x4x128, .f32⟩
  | 37 => ⟨S8208x4x128, .f32⟩
  | 38 => ⟨S1x4x128, .f32⟩
  | 39 => ⟨S8208x4x128, .f32⟩
  | 40 => ⟨S8208x4x128, .f32⟩
  | 41 => ⟨S1x4x128, .f32⟩
  | 42 => ⟨S8208x4x128, .f32⟩
  | 43 => ⟨S8208x4x128, .f32⟩
  | 44 => ⟨S_, .f32⟩
  | 45 => ⟨S8208x4x128, .f32⟩
  | 46 => ⟨S8208x4x128, .f32⟩
  | 47 => ⟨S_, .f32⟩
  | 48 => ⟨S8208x4x128, .f32⟩
  | 49 => ⟨S8208x4x128, .i1⟩
  | 50 => ⟨S_, .f32⟩
  | 51 => ⟨S8208x4x128, .f32⟩
  | 52 => ⟨S8208x4x128, .i1⟩
  | 53 => ⟨S_, .f32⟩
  | 54 => ⟨S8208x4x128, .f32⟩
  | 55 => ⟨S_, .f32⟩
  | 56 => ⟨S8208x4x128, .f32⟩
  | 57 => ⟨S_, .f32⟩
  | 58 => ⟨S8208x4x128, .f32⟩
  | 59 => ⟨S8208x4x128, .f32⟩
  | 60 => ⟨S8208x4x128, .f32⟩
  | 61 => ⟨S8208x4x128, .f32⟩
  | 62 => ⟨S_, .f32⟩
  | 63 => ⟨S4x128, .f32⟩
  | 64 => ⟨S4x128, .f32⟩
  | 65 => ⟨S8208x4x128, .f32⟩
  | 66 => ⟨S8208x4x128, .f32⟩
  | 67 => ⟨S8208x4x128, .f32⟩
  | 68 => ⟨S_, .f32⟩
  | 69 => ⟨S8208x4x128, .f32⟩
  | 70 => ⟨S8208x4x128, .f32⟩
  | 71 => ⟨S_, .f32⟩
  | 72 => ⟨S8208x4x128, .f32⟩
  | 73 => ⟨S8208x4x128, .f32⟩
  | 74 => ⟨S_, .f32⟩
  | 75 => ⟨S8208x4x128, .f32⟩
  | 76 => ⟨S8208x4x128, .f32⟩
  | 77 => ⟨S8208x4x128, .f32⟩
  | 78 => ⟨S1x4x128, .f32⟩
  | 79 => ⟨S8208x4x128, .f32⟩
  | 80 => ⟨S8208x4x128, .f32⟩
  | 81 => ⟨S8208x4x128, .f32⟩
  | 82 => ⟨S4x8208x128, .f32⟩
  | 83 => ⟨S4x8208x128, .f32⟩
  | 84 => ⟨S4x8208x128, .f32⟩
  | 85 => ⟨S4x8208x128, .f32⟩
  | 86 => ⟨S_, .f32⟩
  | 87 => ⟨S_, .f32⟩
  | 88 => ⟨S_, .f32⟩
  | 89 => ⟨S_, .f32⟩
  | 90 => ⟨S8208, .i32⟩
  | 91 => ⟨S8208x1, .i32⟩
  | 92 => ⟨S8208, .i32⟩
  | 93 => ⟨S1x8208, .i32⟩
  | 94 => ⟨S8208x8208, .i32⟩
  | 95 => ⟨S8208x8208, .i32⟩
  | 96 => ⟨S8208x8208, .i1⟩
  | 97 => ⟨S_, .f32⟩
  | 98 => ⟨S_, .f32⟩
  | 99 => ⟨S4x8208x128, .f32⟩
  | 100 => ⟨S4x8208x1x128, .f32⟩
  | 101 => ⟨S4x1x8208x128, .f32⟩
  | 102 => ⟨S4x8208x8208x128, .f32⟩
  | 103 => ⟨S4x8208x8208x128, .f32⟩
  | 104 => ⟨S4x8208x8208x128, .f32⟩
  | 105 => ⟨S8208x8208x1, .i1⟩
  | 106 => ⟨S_, .f32⟩
  | 107 => ⟨S_, .f32⟩
  | 108 => ⟨S4x8208x8208x128, .i1⟩
  | 109 => ⟨S4x8208x8208x128, .f32⟩
  | 110 => ⟨S4x8208x8208x128, .f32⟩
  | 111 => ⟨S_, .f32⟩
  | 112 => ⟨S4x8208x8208x128, .f32⟩
  | 113 => ⟨S4x8208x8208x128, .f32⟩
  | 114 => ⟨S4x8208x1x128, .f32⟩
  | 115 => ⟨S4x8208x8208x128, .f32⟩
  | 116 => ⟨S4x8208x8208x128, .f32⟩
  | 117 => ⟨S4x1x8208x128, .f32⟩
  | 118 => ⟨S4x8208x8208x128, .f32⟩
  | 119 => ⟨S4x8208x8208x128, .f32⟩
  | 120 => ⟨S_, .f32⟩
  | 121 => ⟨S4x8208x8208, .f32⟩
  | 122 => ⟨S4x8208x8208, .f32⟩
  | 123 => ⟨S4x8208x8208, .f32⟩
  | 124 => ⟨S4x8208x128, .f32⟩
  | 125 => ⟨S8208x4x128, .f32⟩
  | 126 => ⟨S8208x4x128, .f32⟩
  | 127 => ⟨S_, .f32⟩
  | _ => ⟨S8208x512, .f32⟩

abbrev hbmTy0_1 (i : Nat) : BufTy := match i % 128 with
  | 0 => ⟨S8208x4, .f32⟩
  | 1 => ⟨S8208x4x1, .f32⟩
  | 2 => ⟨S_, .f32⟩
  | 3 => ⟨S8208x4x1, .f32⟩
  | 4 => ⟨S8208x4x1, .f32⟩
  | 5 => ⟨S_, .f32⟩
  | 6 => ⟨S8208x4x1, .f32⟩
  | 7 => ⟨S8208x4x1, .f32⟩
  | 8 => ⟨S8208x4x1, .f32⟩
  | 9 => ⟨S8208x4x1, .f32⟩
  | 10 => ⟨S_, .f32⟩
  | 11 => ⟨S8208x4x1, .f32⟩
  | 12 => ⟨S8208x4x1, .f32⟩
  | 13 => ⟨S8208x4x128, .f32⟩
  | 14 => ⟨S8208x4x128, .f32⟩
  | 15 => ⟨S1x1x128, .f32⟩
  | 16 => ⟨S8208x4x128, .f32⟩
  | 17 => ⟨S8208x4x128, .f32⟩
  | 18 => ⟨S8208x512, .f32⟩
  | 19 => ⟨S8208x512, .f32⟩
  | 20 => ⟨S_, .f32⟩
  | 21 => ⟨S8208x512, .f32⟩
  | 22 => ⟨S8208x512, .f32⟩
  | 23 => ⟨S_, .f32⟩
  | 24 => ⟨S8208x512, .f32⟩
  | 25 => ⟨S8208x512, .f32⟩
  | 26 => ⟨S_, .f32⟩
  | 27 => ⟨S8208x512, .f32⟩
  | 28 => ⟨S8208x512, .f32⟩
  | 29 => ⟨S8208x512, .f32⟩
  | 30 => ⟨S8208x512, .f32⟩
  | 31 => ⟨S8208x4x128, .f32⟩
  | 32 => ⟨S8208x4x128, .f32⟩
  | 33 => ⟨S8208x512, .f32⟩
  | 34 => ⟨S8208x4x128, .f32⟩
  | 35 => ⟨S8208x4x128, .f32⟩
  | 36 => ⟨S8208x4x128, .f32⟩
  | 37 => ⟨S8208x512, .f32⟩
  | 38 => ⟨S8208x512, .f32⟩
  | 39 => ⟨S8208x512, .f32⟩
  | 40 => ⟨S8208x512, .f32⟩
  | 41 => ⟨S8208x512, .f32⟩
  | 42 => ⟨S8208x4x128, .f32⟩
  | 43 => ⟨S_, .f32⟩
  | 44 => ⟨S128, .f32⟩
  | 45 => ⟨S1x1x128, .f32⟩
  | 46 => ⟨S8208x4x128, .f32⟩
  | 47 => ⟨S8208x4x128, .f32⟩
  | 48 => ⟨S_, .f32⟩
  | 49 => ⟨S128, .f32⟩
  | 50 => ⟨S8208x4x128, .f32⟩
  | 51 => ⟨S_, .f32⟩
  | 52 => ⟨S8208x4, .f32⟩
  | 53 => ⟨S8208x4x1, .f32⟩
  | 54 => ⟨S8208x4x128, .f32⟩
  | 55 => ⟨S8208x4x128, .f32⟩
  | 56 => ⟨S8208x4x1, .f32⟩
  | 57 => ⟨S_, .f32⟩
  | 58 => ⟨S8208x4x1, .f32⟩
  | 59 => ⟨S8208x4x1, .f32⟩
  | 60 => ⟨S_, .f32⟩
  | 61 => ⟨S8208x4, .f32⟩
  | 62 => ⟨S8208x4x128, .f32⟩
  | 63 => ⟨S8208x4x128, .f32⟩
  | 64 => ⟨S8208x4x128, .f32⟩
  | 65 => ⟨S8208x4x128, .f32⟩
  | 66 => ⟨S8208x4x128, .f32⟩
  | 67 => ⟨S4x8208x128, .f32⟩
  | 68 => ⟨S4x128x8208, .f32⟩
  | 69 => ⟨S4x8208x128, .f32⟩
  | 70 => ⟨S4x8208x8208, .f32⟩
  | 71 => ⟨S4x8208x8208, .f32⟩
  | 72 => ⟨S4x8208x8208, .f32⟩
  | 73 => ⟨S4x8208x8208x128, .f32⟩
  | 74 => ⟨S4x8208x8208x128, .f32⟩
  | 75 => ⟨S_, .f32⟩
  | 76 => ⟨S4x8208x128, .f32⟩
  | 77 => ⟨S4x1x8208x128, .f32⟩
  | 78 => ⟨S4x8208x8208x128, .f32⟩
  | 79 => ⟨S4x8208x8208x128, .f32⟩
  | 80 => ⟨S_, .f32⟩
  | 81 => ⟨S4x8208x128, .f32⟩
  | 82 => ⟨S4x8208x8208x128, .f32⟩
  | 83 => ⟨S4x8208x8208x128, .f32⟩
  | 84 => ⟨S4x8208x8208x128, .f32⟩
  | 85 => ⟨S_, .f32⟩
  | 86 => ⟨S4x8208x128, .f32⟩
  | 87 => ⟨S4x8208x1x128, .f32⟩
  | 88 => ⟨S_, .f32⟩
  | 89 => ⟨S4x8208x128, .f32⟩
  | 90 => ⟨S4x8208x8208x128, .f32⟩
  | 91 => ⟨S_, .f32⟩
  | 92 => ⟨S4x8208x8208x128, .f32⟩
  | 93 => ⟨S4x8208x8208x128, .f32⟩
  | 94 => ⟨S_, .f32⟩
  | 95 => ⟨S4x8208x128, .f32⟩
  | 96 => ⟨S4x8208x1x128, .f32⟩
  | 97 => ⟨S4x8208x8208x128, .f32⟩
  | 98 => ⟨S_, .f32⟩
  | 99 => ⟨S4x8208x128, .f32⟩
  | 100 => ⟨S4x1x8208x128, .f32⟩
  | 101 => ⟨S_, .f32⟩
  | 102 => ⟨S4x8208x128, .f32⟩
  | 103 => ⟨S_, .f32⟩
  | 104 => ⟨S4x8208x128, .f32⟩
  | 105 => ⟨S4x8208x128, .f32⟩
  | 106 => ⟨S_, .f32⟩
  | 107 => ⟨S_, .f32⟩
  | 108 => ⟨S4x8208x128, .f32⟩
  | 109 => ⟨S8208x4x128, .f32⟩
  | 110 => ⟨S8208x4x128, .f32⟩
  | 111 => ⟨S8208x4x128, .f32⟩
  | 112 => ⟨S8208x4x128, .f32⟩
  | 113 => ⟨S8208x512, .f32⟩
  | 114 => ⟨S8208x4x128, .f32⟩
  | 115 => ⟨S8208x4x128, .f32⟩
  | 116 => ⟨S8208x4x128, .f32⟩
  | 117 => ⟨S_, .f32⟩
  | 118 => ⟨S4x128, .f32⟩
  | 119 => ⟨S1x4x128, .f32⟩
  | 120 => ⟨S_, .f32⟩
  | 121 => ⟨S4x128, .f32⟩
  | 122 => ⟨S8208x4x128, .f32⟩
  | 123 => ⟨S8208x4x128, .f32⟩
  | 124 => ⟨S4x128, .f32⟩
  | 125 => ⟨S8208x4x128, .f32⟩
  | 126 => ⟨S8208x4x128, .f32⟩
  | 127 => ⟨S_, .f32⟩
  | _ => ⟨S8208x512, .f32⟩

abbrev hbmTy0_2 (i : Nat) : BufTy := match i % 128 with
  | 0 => ⟨S4x128, .f32⟩
  | 1 => ⟨S1x4x128, .f32⟩
  | 2 => ⟨S_, .f32⟩
  | 3 => ⟨S4x128, .f32⟩
  | 4 => ⟨S4x128, .f32⟩
  | 5 => ⟨S8208x4x128, .f32⟩
  | 6 => ⟨S8208x4x128, .f32⟩
  | 7 => ⟨S8208x4x128, .f32⟩
  | 8 => ⟨S_, .f32⟩
  | 9 => ⟨S4x128, .f32⟩
  | 10 => ⟨S1x4x128, .f32⟩
  | 11 => ⟨S_, .f32⟩
  | 12 => ⟨S4x128, .f32⟩
  | 13 => ⟨S8208x4x128, .f32⟩
  | 14 => ⟨S8208x4x128, .f32⟩
  | 15 => ⟨S4x128, .f32⟩
  | 16 => ⟨S4x128, .f32⟩
  | 17 => ⟨S512, .f32⟩
  | 18 => ⟨S8208x512, .f32⟩
  | 19 => ⟨S8208x512, .f32⟩
  | 20 => ⟨S8208x512, .f32⟩
  | 21 => ⟨S8208x512, .f32⟩
  | 22 => ⟨S8208x512, .f32⟩
  | 23 => ⟨S8208x512, .f32⟩
  | 24 => ⟨S_, .i32⟩
  | 25 => ⟨S_, .f32⟩
  | 26 => ⟨S8448x512, .f32⟩
  | 27 => ⟨S8448x512, .bf16⟩
  | 28 => ⟨S_, .i32⟩
  | 29 => ⟨S_, .f32⟩
  | 30 => ⟨S8448x512, .f32⟩
  | 31 => ⟨S8448x512, .bf16⟩
  | 32 => ⟨S_, .i32⟩
  | 33 => ⟨S_, .f32⟩
  | 34 => ⟨S8448x512, .f32⟩
  | 35 => ⟨S8448x512, .bf16⟩
  | 36 => ⟨S_, .i32⟩
  | 37 => ⟨S_, .f32⟩
  | 38 => ⟨S8448x512, .f32⟩
  | 39 => ⟨S8448x512, .bf16⟩
  | 40 => ⟨S1x512, .f32⟩
  | 41 => ⟨S1x128, .f32⟩
  | _ => ⟨S8208x512, .f32⟩

abbrev hbmTy (i : Nat) : BufTy := match i / 128 with
  | 0 => hbmTy0_0 i
  | 1 => hbmTy0_1 i
  | 2 => hbmTy0_2 i
  | _ => ⟨S8208x512, .f32⟩

abbrev bufTy : (tb : Table) → Fin (tcTables nBuf tb) → BufTy
  | .hbm, ⟨i, _⟩ => hbmTy i
  | _, _ => ⟨S8208x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v0_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v0_1 : Ref sig .tc := ⟨.hbm, 18, rfl⟩
abbrev main_v0_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_cst_4 : Ref sig .tc := ⟨.hbm, 47, rfl⟩
abbrev main_v23 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_cst_6 : Ref sig .tc := ⟨.hbm, 53, rfl⟩
abbrev main_v27 : Ref sig .tc := ⟨.hbm, 54, rfl⟩
abbrev main_cst_7 : Ref sig .tc := ⟨.hbm, 55, rfl⟩
abbrev main_v28 : Ref sig .tc := ⟨.hbm, 56, rfl⟩
abbrev main_cst_8 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_9 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_10 : Ref sig .tc := ⟨.hbm, 68, rfl⟩
abbrev main_v38 : Ref sig .tc := ⟨.hbm, 69, rfl⟩
abbrev main_v39 : Ref sig .tc := ⟨.hbm, 70, rfl⟩
abbrev main_cst_11 : Ref sig .tc := ⟨.hbm, 71, rfl⟩
abbrev main_v40 : Ref sig .tc := ⟨.hbm, 72, rfl⟩
abbrev main_v41 : Ref sig .tc := ⟨.hbm, 73, rfl⟩
abbrev main_cst_12 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_13 : Ref sig .tc := ⟨.hbm, 86, rfl⟩
abbrev main_v53 : Ref sig .tc := ⟨.hbm, 87, rfl⟩
abbrev main_cst_14 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_call1_call0_cst : Ref sig .tc := ⟨.hbm, 97, rfl⟩
abbrev main_call1_call0_v0 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_15 : Ref sig .tc := ⟨.hbm, 106, rfl⟩
abbrev main_call2_v0 : Ref sig .tc := ⟨.hbm, 107, rfl⟩
abbrev main_v69_1 : Ref sig .tc := ⟨.hbm, 108, rfl⟩
abbrev main_call2_v2 : Ref sig .tc := ⟨.hbm, 109, rfl⟩
abbrev main_v69_0 : Ref sig .tc := ⟨.hbm, 110, rfl⟩
abbrev main_call2_cst : Ref sig .tc := ⟨.hbm, 111, rfl⟩
abbrev main_v69_2 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_16 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_17 : Ref sig .tc := ⟨.hbm, 127, rfl⟩
abbrev main_v83 : Ref sig .tc := ⟨.hbm, 128, rfl⟩
abbrev main_v84 : Ref sig .tc := ⟨.hbm, 129, rfl⟩
abbrev main_cst_18 : Ref sig .tc := ⟨.hbm, 130, rfl⟩
abbrev main_v85 : Ref sig .tc := ⟨.hbm, 131, rfl⟩
abbrev main_v86 : Ref sig .tc := ⟨.hbm, 132, rfl⟩
abbrev main_cst_19 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_20 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_call3_v0 : Ref sig .tc := ⟨.hbm, 146, rfl⟩
abbrev main_call3_v1 : Ref sig .tc := ⟨.hbm, 147, rfl⟩
abbrev main_call3_cst : Ref sig .tc := ⟨.hbm, 148, rfl⟩
abbrev main_call3_v2 : Ref sig .tc := ⟨.hbm, 149, rfl⟩
abbrev main_call3_v3 : Ref sig .tc := ⟨.hbm, 150, rfl⟩
abbrev main_call3_cst_0 : Ref sig .tc := ⟨.hbm, 151, rfl⟩
abbrev main_call3_v4 : Ref sig .tc := ⟨.hbm, 152, rfl⟩
abbrev main_v98_2 : Ref sig .tc := ⟨.hbm, 153, rfl⟩
abbrev main_call3_cst_1 : Ref sig .tc := ⟨.hbm, 154, rfl⟩
abbrev main_call3_v6 : Ref sig .tc := ⟨.hbm, 155, rfl⟩
abbrev main_call3_v7 : Ref sig .tc := ⟨.hbm, 156, rfl⟩
abbrev main_v98_1 : Ref sig .tc := ⟨.hbm, 157, rfl⟩
abbrev main_v98_0 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_call4_v0 : Ref sig .tc := ⟨.hbm, 166, rfl⟩
abbrev main_call4_v1 : Ref sig .tc := ⟨.hbm, 167, rfl⟩
abbrev main_call4_v2 : Ref sig .tc := ⟨.hbm, 168, rfl⟩
abbrev main_v106 : Ref sig .tc := ⟨.hbm, 169, rfl⟩
abbrev main_v107 : Ref sig .tc := ⟨.hbm, 170, rfl⟩
abbrev main_cst_21 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_cst_22 : Ref sig .tc := ⟨.hbm, 176, rfl⟩
abbrev main_v112 : Ref sig .tc := ⟨.hbm, 177, rfl⟩
abbrev main_v113 : Ref sig .tc := ⟨.hbm, 178, rfl⟩
abbrev main_cst_23 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_cst_24 : Ref sig .tc := ⟨.hbm, 185, rfl⟩
abbrev main_v119 : Ref sig .tc := ⟨.hbm, 186, rfl⟩
abbrev main_v120 : Ref sig .tc := ⟨.hbm, 187, rfl⟩
abbrev main_cst_25 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_cst_26 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_cst_27 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_cst_28 : Ref sig .tc := ⟨.hbm, 213, rfl⟩
abbrev main_v143 : Ref sig .tc := ⟨.hbm, 214, rfl⟩
abbrev main_v144 : Ref sig .tc := ⟨.hbm, 215, rfl⟩
abbrev main_cst_29 : Ref sig .tc := ⟨.hbm, 216, rfl⟩
abbrev main_v145 : Ref sig .tc := ⟨.hbm, 217, rfl⟩
abbrev main_v146 : Ref sig .tc := ⟨.hbm, 218, rfl⟩
abbrev main_call5_cst : Ref sig .tc := ⟨.hbm, 219, rfl⟩
abbrev main_call5_v0 : Ref sig .tc := ⟨.hbm, 220, rfl⟩
abbrev main_v147 : Ref sig .tc := ⟨.hbm, 221, rfl⟩
abbrev main_cst_30 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_cst_31 : Ref sig .tc := ⟨.hbm, 226, rfl⟩
abbrev main_v151 : Ref sig .tc := ⟨.hbm, 227, rfl⟩
abbrev main_v152 : Ref sig .tc := ⟨.hbm, 228, rfl⟩
abbrev main_cst_32 : Ref sig .tc := ⟨.hbm, 229, rfl⟩
abbrev main_v153 : Ref sig .tc := ⟨.hbm, 230, rfl⟩
abbrev main_cst_33 : Ref sig .tc := ⟨.hbm, 231, rfl⟩
abbrev main_v154 : Ref sig .tc := ⟨.hbm, 232, rfl⟩
abbrev main_v155 : Ref sig .tc := ⟨.hbm, 233, rfl⟩
abbrev main_call6_call0_cst : Ref sig .tc := ⟨.hbm, 234, rfl⟩
abbrev main_call6_call0_v0 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_cst_34 : Ref sig .tc := ⟨.hbm, 245, rfl⟩
abbrev main_v165 : Ref sig .tc := ⟨.hbm, 246, rfl⟩
abbrev main_v166 : Ref sig .tc := ⟨.hbm, 247, rfl⟩
abbrev main_cst_35 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_cst_36 : Ref sig .tc := ⟨.hbm, 255, rfl⟩
abbrev main_v173 : Ref sig .tc := ⟨.hbm, 256, rfl⟩
abbrev main_v174 : Ref sig .tc := ⟨.hbm, 257, rfl⟩
abbrev main_cst_37 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_cst_38 : Ref sig .tc := ⟨.hbm, 264, rfl⟩
abbrev main_v180 : Ref sig .tc := ⟨.hbm, 265, rfl⟩
abbrev main_v181 : Ref sig .tc := ⟨.hbm, 266, rfl⟩
abbrev main_cst_39 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_call7_v0 : Ref sig .tc := ⟨.hbm, 276, rfl⟩
abbrev main_call7_v1 : Ref sig .tc := ⟨.hbm, 277, rfl⟩
abbrev main_call7_v2 : Ref sig .tc := ⟨.hbm, 278, rfl⟩
abbrev main_v190 : Ref sig .tc := ⟨.hbm, 279, rfl⟩
abbrev main_c : Ref sig .tc := ⟨.hbm, 280, rfl⟩
abbrev main_call8_v0 : Ref sig .tc := ⟨.hbm, 281, rfl⟩
abbrev main_v191 : Ref sig .tc := ⟨.hbm, 282, rfl⟩
abbrev main_v192 : Ref sig .tc := ⟨.hbm, 283, rfl⟩
abbrev main_c_40 : Ref sig .tc := ⟨.hbm, 284, rfl⟩
abbrev main_call9_v0 : Ref sig .tc := ⟨.hbm, 285, rfl⟩
abbrev main_v193 : Ref sig .tc := ⟨.hbm, 286, rfl⟩
abbrev main_v194 : Ref sig .tc := ⟨.hbm, 287, rfl⟩
abbrev main_c_41 : Ref sig .tc := ⟨.hbm, 288, rfl⟩
abbrev main_call10_v0 : Ref sig .tc := ⟨.hbm, 289, rfl⟩
abbrev main_v195 : Ref sig .tc := ⟨.hbm, 290, rfl⟩
abbrev main_v196 : Ref sig .tc := ⟨.hbm, 291, rfl⟩
abbrev main_c_42 : Ref sig .tc := ⟨.hbm, 292, rfl⟩
abbrev main_call11_v0 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩

abbrev nD : Nat := 1
abbrev τ : Topo := Topo.v7x

variable {F : FTy → Type} [FloatOps F]
-- ==== Nfwd.lean ====
abbrev S8208x1024 : Shape := ⟨2, ![8208, 1024]⟩
abbrev S1x1024 : Shape := ⟨2, ![1, 1024]⟩
abbrev S_ : Shape := ⟨0, ![]⟩
abbrev S8448x1024 : Shape := ⟨2, ![8448, 1024]⟩
abbrev S768x1024 : Shape := ⟨2, ![768, 1024]⟩
abbrev S768 : Shape := ⟨1, ![768]⟩
abbrev S768x1 : Shape := ⟨2, ![768, 1]⟩

abbrev nBuf : Space → Nat
  | .hbm => 6
  | .vmem => 5
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S_, .i32⟩
  | .hbm, ⟨3, _⟩ => ⟨S_, .f32⟩
  | .hbm, ⟨4, _⟩ => ⟨S8448x1024, .f32⟩
  | .hbm, ⟨5, _⟩ => ⟨S8448x1024, .bf16⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S768x1024, .bf16⟩
  | .local _ .vmem, ⟨4, _⟩ => ⟨S768x1024, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NfwdRefIdeal.lean ====
abbrev S8208x1024 : Shape := ⟨2, ![8208, 1024]⟩
abbrev S1x1024 : Shape := ⟨2, ![1, 1024]⟩
abbrev S_ : Shape := ⟨0, ![]⟩
abbrev S8448x1024 : Shape := ⟨2, ![8448, 1024]⟩
abbrev S8448 : Shape := ⟨1, ![8448]⟩
abbrev S8448x1 : Shape := ⟨2, ![8448, 1]⟩

abbrev nBuf : Space → Nat
  | .hbm => 21
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S_, .i32⟩
  | .hbm, ⟨3, _⟩ => ⟨S_, .f32⟩
  | .hbm, ⟨4, _⟩ => ⟨S8448x1024, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x1024, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Act.lean ====
abbrev S8208x1024 : Shape := ⟨2, ![8208, 1024]⟩
abbrev S1024x5632 : Shape := ⟨2, ![1024, 5632]⟩
abbrev S_ : Shape := ⟨0, ![]⟩
abbrev S8448x1024 : Shape := ⟨2, ![8448, 1024]⟩
abbrev S8448x2816 : Shape := ⟨2, ![8448, 2816]⟩
abbrev S768x1024 : Shape := ⟨2, ![768, 1024]⟩
abbrev S1024x1408 : Shape := ⟨2, ![1024, 1408]⟩
abbrev S768x1408 : Shape := ⟨2, ![768, 1408]⟩

abbrev nBuf : Space → Nat
  | .hbm => 10
  | .vmem => 12
  | .smem => 0
  | _ => 0

abbrev bufTy : (tb : Table) → Fin (tcTables nBuf tb) → BufTy
  | .hbm, ⟨0, _⟩ => ⟨S8208x1024, .f32⟩
  | .hbm, ⟨1, _⟩ => ⟨S1024x5632, .f32⟩
  | .hbm, ⟨2, _⟩ => ⟨S_, .i32⟩
  | .hbm, ⟨3, _⟩ => ⟨S_, .f32⟩
  | .hbm, ⟨4, _⟩ => ⟨S8448x1024, .f32⟩
  | .hbm, ⟨5, _⟩ => ⟨S8448x1024, .bf16⟩
  | .hbm, ⟨6, _⟩ => ⟨S1024x5632, .bf16⟩
  | .hbm, ⟨7, _⟩ => ⟨S8448x2816, .bf16⟩
  | .hbm, ⟨8, _⟩ => ⟨S8448x2816, .bf16⟩
  | .hbm, ⟨9, _⟩ => ⟨S8448x2816, .bf16⟩
  | .local _ .vmem, ⟨0, _⟩ => ⟨S768x1024, .bf16⟩
  | .local _ .vmem, ⟨1, _⟩ => ⟨S768x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S768x1408, .bf16⟩
  | .local _ .vmem, ⟨7, _⟩ => ⟨S768x1408, .bf16⟩
  | .local _ .vmem, ⟨8, _⟩ => ⟨S768x1408, .bf16⟩
  | .local _ .vmem, ⟨9, _⟩ => ⟨S768x1408, .bf16⟩
  | .local _ .vmem, ⟨10, _⟩ => ⟨S768x1408, .bf16⟩
  | .local _ .vmem, ⟨11, _⟩ => ⟨S768x1408, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActRefIdeal.lean ====
abbrev S8208x1024 : Shape := ⟨2, ![8208, 1024]⟩
abbrev S1024x5632 : Shape := ⟨2, ![1024, 5632]⟩
abbrev S_ : Shape := ⟨0, ![]⟩
abbrev S8448x1024 : Shape := ⟨2, ![8448, 1024]⟩
abbrev S8448x5632 : Shape := ⟨2, ![8448, 5632]⟩
abbrev S8448x2816 : Shape := ⟨2, ![8448, 2816]⟩

abbrev nBuf : Space → Nat
  | .hbm => 21
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024x5632, .f32⟩
  | .hbm, ⟨2, _⟩ => ⟨S_, .i32⟩
  | .hbm, ⟨3, _⟩ => ⟨S_, .f32⟩
  | .hbm, ⟨4, _⟩ => ⟨S8448x1024, .f32⟩
  | .hbm, ⟨5, _⟩ => ⟨S8448x5632, .f32⟩
  | .hbm, ⟨6, _⟩ => ⟨S8448x2816, .f32⟩
  | .hbm, ⟨7, _⟩ => ⟨S8448x2816, .f32⟩
  | .hbm, ⟨8, _⟩ => ⟨S8448x2816, .bf16⟩
  | .hbm, ⟨9, _⟩ => ⟨S8448x2816, .bf16⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S_, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S8448x2816, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call1_v0 : Ref sig .tc := ⟨.hbm, 10, rfl⟩
abbrev main_call1_v1 : Ref sig .tc := ⟨.hbm, 11, rfl⟩
abbrev main_call1_cst : Ref sig .tc := ⟨.hbm, 12, rfl⟩
abbrev main_call1_v2 : Ref sig .tc := ⟨.hbm, 13, rfl⟩
abbrev main_call1_v3 : Ref sig .tc := ⟨.hbm, 14, rfl⟩
abbrev main_call1_cst_0 : Ref sig .tc := ⟨.hbm, 15, rfl⟩
abbrev main_call1_v4 : Ref sig .tc := ⟨.hbm, 16, rfl⟩
abbrev main_call1_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Down.lean ====
abbrev S8208x2816 : Shape := ⟨2, ![8208, 2816]⟩
abbrev S2816x1024 : Shape := ⟨2, ![2816, 1024]⟩
abbrev S8208x1024 : Shape := ⟨2, ![8208, 1024]⟩
abbrev S1x1024 : Shape := ⟨2, ![1, 1024]⟩
abbrev S_ : Shape := ⟨0, ![]⟩
abbrev S8448x2816 : Shape := ⟨2, ![8448, 2816]⟩
abbrev S8448x1024 : Shape := ⟨2, ![8448, 1024]⟩
abbrev S768x2816 : Shape := ⟨2, ![768, 2816]⟩
abbrev S768x1024 : Shape := ⟨2, ![768, 1024]⟩
abbrev S768 : Shape := ⟨1, ![768]⟩
abbrev S768x1 : Shape := ⟨2, ![768, 1]⟩

abbrev nBuf : Space → Nat
  | .hbm => 14
  | .vmem => 10
  | .smem => 0
  | _ => 0

abbrev bufTy : (tb : Table) → Fin (tcTables nBuf tb) → BufTy
  | .hbm, ⟨0, _⟩ => ⟨S8208x2816, .f32⟩
  | .hbm, ⟨1, _⟩ => ⟨S2816x1024, .f32⟩
  | .hbm, ⟨2, _⟩ => ⟨S8208x1024, .f32⟩
  | .hbm, ⟨3, _⟩ => ⟨S1x1024, .f32⟩
  | .hbm, ⟨4, _⟩ => ⟨S_, .i32⟩
  | .hbm, ⟨5, _⟩ => ⟨S_, .f32⟩
  | .hbm, ⟨6, _⟩ => ⟨S8448x2816, .f32⟩
  | .hbm, ⟨7, _⟩ => ⟨S8448x2816, .bf16⟩
  | .hbm, ⟨8, _⟩ => ⟨S2816x1024, .bf16⟩
  | .hbm, ⟨9, _⟩ => ⟨S_, .i32⟩
  | .hbm, ⟨10, _⟩ => ⟨S_, .f32⟩
  | .hbm, ⟨11, _⟩ => ⟨S8448x1024, .f32⟩
  | .hbm, ⟨12, _⟩ => ⟨S8448x1024, .f32⟩
  | .hbm, ⟨13, _⟩ => ⟨S8448x1024, .bf16⟩
  | .local _ .vmem, ⟨0, _⟩ => ⟨S768x2816, .bf16⟩
  | .local _ .vmem, ⟨1, _⟩ => ⟨S768x2816, .bf16⟩
  | .local _ .vmem, ⟨2, _⟩ => ⟨S2816x1024, .bf16⟩
  | .local _ .vmem, ⟨3, _⟩ => ⟨S768x1024, .f32⟩
  | .local _ .vmem, ⟨4, _⟩ => ⟨S768x1024, .f32⟩
  | .local _ .vmem, ⟨5, _⟩ => ⟨S1x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .bf16⟩
  | .local _ .vmem, ⟨9, _⟩ => ⟨S768x1024, .bf16⟩
  | _, _ => ⟨S8208x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownRefIdeal.lean ====
abbrev S8208x2816 : Shape := ⟨2, ![8208, 2816]⟩
abbrev S2816x1024 : Shape := ⟨2, ![2816, 1024]⟩
abbrev S8208x1024 : Shape := ⟨2, ![8208, 1024]⟩
abbrev S1x1024 : Shape := ⟨2, ![1, 1024]⟩
abbrev S_ : Shape := ⟨0, ![]⟩
abbrev S8448x1024 : Shape := ⟨2, ![8448, 1024]⟩
abbrev S8448x2816 : Shape := ⟨2, ![8448, 2816]⟩
abbrev S8448 : Shape := ⟨1, ![8448]⟩
abbrev S8448x1 : Shape := ⟨2, ![8448, 1]⟩

abbrev nBuf : Space → Nat
  | .hbm => 31
  | .vmem => 0
  | .smem => 0
  | _ => 0

abbrev bufTy : (tb : Table) → Fin (tcTables nBuf tb) → BufTy
  | .hbm, ⟨0, _⟩ => ⟨S8208x2816, .f32⟩
  | .hbm, ⟨1, _⟩ => ⟨S2816x1024, .f32⟩
  | .hbm, ⟨2, _⟩ => ⟨S8208x1024, .f32⟩
  | .hbm, ⟨3, _⟩ => ⟨S1x1024, .f32⟩
  | .hbm, ⟨4, _⟩ => ⟨S_, .i32⟩
  | .hbm, ⟨5, _⟩ => ⟨S_, .f32⟩
  | .hbm, ⟨6, _⟩ => ⟨S8448x1024, .f32⟩
  | .hbm, ⟨7, _⟩ => ⟨S_, .i32⟩
  | .hbm, ⟨8, _⟩ => ⟨S_, .f32⟩
  | .hbm, ⟨9, _⟩ => ⟨S8448x2816, .f32⟩
  | .hbm, ⟨10, _⟩ => ⟨S8448x1024, .f32⟩
  | .hbm, ⟨11, _⟩ => ⟨S_, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S8448x1024, .f32⟩
  | .hbm, ⟨16, _⟩ => ⟨S_, .f32⟩
  | .hbm, ⟨17, _⟩ => ⟨S8448, .f32⟩
  | .hbm, ⟨18, _⟩ => ⟨S8448x1, .f32⟩
  | .hbm, ⟨19, _⟩ => ⟨S_, .f32⟩
  | .hbm, ⟨20, _⟩ => ⟨S8448x1, .f32⟩
  | .hbm, ⟨21, _⟩ => ⟨S8448x1, .f32⟩
  | .hbm, ⟨22, _⟩ => ⟨S_, .f32⟩
  | .hbm, ⟨23, _⟩ => ⟨S8448x1, .f32⟩
  | .hbm, ⟨24, _⟩ => ⟨S8448x1, .f32⟩
  | .hbm, ⟨25, _⟩ => ⟨S8448x1, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S8448x1024, .f32⟩
  | .hbm, ⟨30, _⟩ => ⟨S8448x1024, .bf16⟩
  | _, _ => ⟨S8208x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== Lbf.lean ====
abbrev S4x512 : Shape := ⟨2, ![4, 512]⟩
abbrev S512 : Shape := ⟨1, ![512]⟩
abbrev S1x512 : Shape := ⟨2, ![1, 512]⟩

abbrev nBuf : Space → Nat
  | .hbm => 2
  | .vmem => 2
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .local _ .vmem, ⟨0, _⟩ => ⟨S4x512, .f32⟩
  | .local _ .vmem, ⟨1, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LbfRefIdeal.lean ====
abbrev S4x512 : Shape := ⟨2, ![4, 512]⟩
abbrev S_ : Shape := ⟨0, ![]⟩
abbrev S512 : Shape := ⟨1, ![512]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S4x512, .f32⟩
  | .hbm, ⟨8, _⟩ => ⟨S4x512, .f32⟩
  | .hbm, ⟨9, _⟩ => ⟨S4x512, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S_, .f32⟩
  | .hbm, ⟨17, _⟩ => ⟨S4x512, .f32⟩
  | .hbm, ⟨18, _⟩ => ⟨S1x512, .f32⟩
  | .hbm, ⟨19, _⟩ => ⟨S4x512, .f32⟩
  | .hbm, ⟨20, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Merge.lean ====
abbrev S8208x512 : Shape := ⟨2, ![8208, 512]⟩
abbrev S8208x1024 : Shape := ⟨2, ![8208, 1024]⟩
abbrev S512x1024 : Shape := ⟨2, ![512, 1024]⟩
abbrev S8208x8x64 : Shape := ⟨3, ![8208, 8, 64]⟩
abbrev S_ : Shape := ⟨0, ![]⟩
abbrev S8448x8x128 : Shape := ⟨3, ![8448, 8, 128]⟩
abbrev S8448x1024 : Shape := ⟨2, ![8448, 1024]⟩
abbrev S8448x512 : Shape := ⟨2, ![8448, 512]⟩
abbrev S8208x2048 : Shape := ⟨2, ![8208, 2048]⟩
abbrev S8448x2048 : Shape := ⟨2, ![8448, 2048]⟩
abbrev S8x64x1024 : Shape := ⟨3, ![8, 64, 1024]⟩
abbrev S8x128x1024 : Shape := ⟨3, ![8, 128, 1024]⟩
abbrev S1024x1024 : Shape := ⟨2, ![1024, 1024]⟩
abbrev S768x1024 : Shape := ⟨2, ![768, 1024]⟩
abbrev S768x512 : Shape := ⟨2, ![768, 512]⟩
abbrev S1024x512 : Shape := ⟨2, ![1024, 512]⟩
abbrev S512x512 : Shape := ⟨2, ![512, 512]⟩

abbrev nBuf : Space → Nat
  | .hbm => 31
  | .vmem => 18
  | .smem => 0
  | _ => 0

abbrev bufTy : (tb : Table) → Fin (tcTables nBuf tb) → BufTy
  | .hbm, ⟨0, _⟩ => ⟨S8208x512, .f32⟩
  | .hbm, ⟨1, _⟩ => ⟨S8208x512, .f32⟩
  | .hbm, ⟨2, _⟩ => ⟨S8208x1024, .f32⟩
  | .hbm, ⟨3, _⟩ => ⟨S8208x1024, .f32⟩
  | .hbm, ⟨4, _⟩ => ⟨S512x1024, .f32⟩
  | .hbm, ⟨5, _⟩ => ⟨S512x1024, .f32⟩
  | .hbm, ⟨6, _⟩ => ⟨S8208x8x64, .f32⟩
  | .hbm, ⟨7, _⟩ => ⟨S_, .i32⟩
  | .hbm, ⟨8, _⟩ => ⟨S_, .f32⟩
  | .hbm, ⟨9, _⟩ => ⟨S8448x8x128, .f32⟩
  | .hbm, ⟨10, _⟩ => ⟨S8448x1024, .f32⟩
  | .hbm, ⟨11, _⟩ => ⟨S8448x1024, .bf16⟩
  | .hbm, ⟨12, _⟩ => ⟨S_, .i32⟩
  | .hbm, ⟨13, _⟩ => ⟨S_, .f32⟩
  | .hbm, ⟨14, _⟩ => ⟨S8448x512, .f32⟩
  | .hbm, ⟨15, _⟩ => ⟨S8448x512, .bf16⟩
  | .hbm, ⟨16, _⟩ => ⟨S8208x2048, .f32⟩
  | .hbm, ⟨17, _⟩ => ⟨S_, .i32⟩
  | .hbm, ⟨18, _⟩ => ⟨S_, .f32⟩
  | .hbm, ⟨19, _⟩ => ⟨S8448x2048, .f32⟩
  | .hbm, ⟨20, _⟩ => ⟨S8448x2048, .bf16⟩
  | .hbm, ⟨21, _⟩ => ⟨S512x1024, .bf16⟩
  | .hbm, ⟨22, _⟩ => ⟨S8x64x1024, .bf16⟩
  | .hbm, ⟨23, _⟩ => ⟨S_, .bf16⟩
  | .hbm, ⟨24, _⟩ => ⟨S8x64x1024, .bf16⟩
  | .hbm, ⟨25, _⟩ => ⟨S8x128x1024, .bf16⟩
  | .hbm, ⟨26, _⟩ => ⟨S1024x1024, .bf16⟩
  | .hbm, ⟨27, _⟩ => ⟨S512x1024, .bf16⟩
  | .hbm, ⟨28, _⟩ => ⟨S8448x1024, .bf16⟩
  | .hbm, ⟨29, _⟩ => ⟨S8448x1024, .bf16⟩
  | .hbm, ⟨30, _⟩ => ⟨S8448x1024, .bf16⟩
  | .local _ .vmem, ⟨0, _⟩ => ⟨S768x1024, .bf16⟩
  | .local _ .vmem, ⟨1, _⟩ => ⟨S768x1024, .bf16⟩
  | .local _ .vmem, ⟨2, _⟩ => ⟨S768x512, .bf16⟩
  | .local _ .vmem, ⟨3, _⟩ => ⟨S768x512, .bf16⟩
  | .local _ .vmem, ⟨4, _⟩ => ⟨S1024x512, .bf16⟩
  | .local _ .vmem, ⟨5, _⟩ => ⟨S1024x512, .bf16⟩
  | .local _ .vmem, ⟨6, _⟩ => ⟨S512x512, .bf16⟩
  | .local _ .vmem, ⟨7, _⟩ => ⟨S512x512, .bf16⟩
  | .local _ .vmem, ⟨8, _⟩ => ⟨S768x512, .bf16⟩
  | .local _ .vmem, ⟨9, _⟩ => ⟨S768x512, .bf16⟩
  | .local _ .vmem, ⟨10, _⟩ => ⟨S768x512, .bf16⟩
  | .local _ .vmem, ⟨11, _⟩ => ⟨S768x512, .bf16⟩
  | .local _ .vmem, ⟨12, _⟩ => ⟨S768x512, .bf16⟩
  | .local _ .vmem, ⟨13, _⟩ => ⟨S768x512, .bf16⟩
  | .local _ .vmem, ⟨14, _⟩ => ⟨S768x512, .bf16⟩
  | .local _ .vmem, ⟨15, _⟩ => ⟨S768x512, .bf16⟩
  | .local _ .vmem, ⟨16, _⟩ => ⟨S768x512, .bf16⟩
  | .local _ .vmem, ⟨17, _⟩ => ⟨S768x512, .bf16⟩
  | _, _ => ⟨S8208x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S768x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S8208x512 : Shape := ⟨2, ![8208, 512]⟩
abbrev S8208x1024 : Shape := ⟨2, ![8208, 1024]⟩
abbrev S512x1024 : Shape := ⟨2, ![512, 1024]⟩
abbrev S_ : Shape := ⟨0, ![]⟩
abbrev S8448x512 : Shape := ⟨2, ![8448, 512]⟩
abbrev S8448x1024 : Shape := ⟨2, ![8448, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8208x512, .f32⟩
  | .hbm, ⟨1, _⟩ => ⟨S8208x512, .f32⟩
  | .hbm, ⟨2, _⟩ => ⟨S8208x1024, .f32⟩
  | .hbm, ⟨3, _⟩ => ⟨S8208x1024, .f32⟩
  | .hbm, ⟨4, _⟩ => ⟨S512x1024, .f32⟩
  | .hbm, ⟨5, _⟩ => ⟨S512x1024, .f32⟩
  | .hbm, ⟨6, _⟩ => ⟨S_, .i32⟩
  | .hbm, ⟨7, _⟩ => ⟨S_, .f32⟩
  | .hbm, ⟨8, _⟩ => ⟨S8448x512, .f32⟩
  | .hbm, ⟨9, _⟩ => ⟨S_, .i32⟩
  | .hbm, ⟨10, _⟩ => ⟨S_, .f32⟩
  | .hbm, ⟨11, _⟩ => ⟨S8448x512, .f32⟩
  | .hbm, ⟨12, _⟩ => ⟨S_, .i32⟩
  | .hbm, ⟨13, _⟩ => ⟨S_, .f32⟩
  | .hbm, ⟨14, _⟩ => ⟨S8448x1024, .f32⟩
  | .hbm, ⟨15, _⟩ => ⟨S_, .i32⟩
  | .hbm, ⟨16, _⟩ => ⟨S_, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S_, .f32⟩
  | .hbm, ⟨23, _⟩ => ⟨S8448x1024, .f32⟩
  | .hbm, ⟨24, _⟩ => ⟨S8448x1024, .f32⟩
  | .hbm, ⟨25, _⟩ => ⟨S_, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S8448x1024, .f32⟩
  | .hbm, ⟨30, _⟩ => ⟨S8448x1024, .f32⟩
  | .hbm, ⟨31, _⟩ => ⟨S_, .f32⟩
  | .hbm, ⟨32, _⟩ => ⟨S8448x1024, .f32⟩
  | .hbm, ⟨33, _⟩ => ⟨S8448x1024, .f32⟩
  | .hbm, ⟨34, _⟩ => ⟨S_, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S8448x1024, .bf16⟩
  | .hbm, ⟨40, _⟩ => ⟨S8448x1024, .bf16⟩
  | .hbm, ⟨41, _⟩ => ⟨S8448x1024, .bf16⟩
  | _, _ => ⟨S8208x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_c_1 : Ref sig .tc := ⟨.hbm, 12, rfl⟩
abbrev main_call2_v0 : Ref sig .tc := ⟨.hbm, 13, rfl⟩
abbrev main_v2 : Ref sig .tc := ⟨.hbm, 14, rfl⟩
abbrev main_c_2 : Ref sig .tc := ⟨.hbm, 15, rfl⟩
abbrev main_call3_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== Out.lean ====
abbrev S8208x1024 : Shape := ⟨2, ![8208, 1024]⟩
abbrev S1024x1024 : Shape := ⟨2, ![1024, 1024]⟩
abbrev S1x1024 : Shape := ⟨2, ![1, 1024]⟩
abbrev S_ : Shape := ⟨0, ![]⟩
abbrev S8448x1024 : Shape := ⟨2, ![8448, 1024]⟩
abbrev S768x1024 : Shape := ⟨2, ![768, 1024]⟩
abbrev S768 : Shape := ⟨1, ![768]⟩
abbrev S768x1 : Shape := ⟨2, ![768, 1]⟩

abbrev nBuf : Space → Nat
  | .hbm => 14
  | .vmem => 10
  | .smem => 0
  | _ => 0

abbrev bufTy : (tb : Table) → Fin (tcTables nBuf tb) → BufTy
  | .hbm, ⟨0, _⟩ => ⟨S8208x1024, .f32⟩
  | .hbm, ⟨1, _⟩ => ⟨S1024x1024, .f32⟩
  | .hbm, ⟨2, _⟩ => ⟨S8208x1024, .f32⟩
  | .hbm, ⟨3, _⟩ => ⟨S1x1024, .f32⟩
  | .hbm, ⟨4, _⟩ => ⟨S_, .i32⟩
  | .hbm, ⟨5, _⟩ => ⟨S_, .f32⟩
  | .hbm, ⟨6, _⟩ => ⟨S8448x1024, .f32⟩
  | .hbm, ⟨7, _⟩ => ⟨S8448x1024, .bf16⟩
  | .hbm, ⟨8, _⟩ => ⟨S1024x1024, .bf16⟩
  | .hbm, ⟨9, _⟩ => ⟨S_, .i32⟩
  | .hbm, ⟨10, _⟩ => ⟨S_, .f32⟩
  | .hbm, ⟨11, _⟩ => ⟨S8448x1024, .f32⟩
  | .hbm, ⟨12, _⟩ => ⟨S8448x1024, .f32⟩
  | .hbm, ⟨13, _⟩ => ⟨S8448x1024, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | .local _ .vmem, ⟨5, _⟩ => ⟨S1x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .bf16⟩
  | .local _ .vmem, ⟨9, _⟩ => ⟨S768x1024, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutRefIdeal.lean ====
abbrev S8208x1024 : Shape := ⟨2, ![8208, 1024]⟩
abbrev S1024x1024 : Shape := ⟨2, ![1024, 1024]⟩
abbrev S1x1024 : Shape := ⟨2, ![1, 1024]⟩
abbrev S_ : Shape := ⟨0, ![]⟩
abbrev S8448x1024 : Shape := ⟨2, ![8448, 1024]⟩
abbrev S8448 : Shape := ⟨1, ![8448]⟩
abbrev S8448x1 : Shape := ⟨2, ![8448, 1]⟩

abbrev nBuf : Space → Nat
  | .hbm => 28
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024x1024, .f32⟩
  | .hbm, ⟨2, _⟩ => ⟨S8208x1024, .f32⟩
  | .hbm, ⟨3, _⟩ => ⟨S1x1024, .f32⟩
  | .hbm, ⟨4, _⟩ => ⟨S_, .i32⟩
  | .hbm, ⟨5, _⟩ => ⟨S_, .f32⟩
  | .hbm, ⟨6, _⟩ => ⟨S8448x1024, .f32⟩
  | .hbm, ⟨7, _⟩ => ⟨S_, .i32⟩
  | .hbm, ⟨8, _⟩ => ⟨S_, .f32⟩
  | .hbm, ⟨9, _⟩ => ⟨S8448x1024, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S_, .f32⟩
  | .hbm, ⟨14, _⟩ => ⟨S8448, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S_, .f32⟩
  | .hbm, ⟨20, _⟩ => ⟨S8448x1, .f32⟩
  | .hbm, ⟨21, _⟩ => ⟨S8448x1, .f32⟩
  | .hbm, ⟨22, _⟩ => ⟨S8448x1, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S8448x1024, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Dxn.lean ====
abbrev S8208x2816 : Shape := ⟨2, ![8208, 2816]⟩
abbrev S1024x5632 : Shape := ⟨2, ![1024, 5632]⟩
abbrev S_ : Shape := ⟨0, ![]⟩
abbrev S8448x2816 : Shape := ⟨2, ![8448, 2816]⟩
abbrev S5632x1024 : Shape := ⟨2, ![5632, 1024]⟩
abbrev S2816x1024 : Shape := ⟨2, ![2816, 1024]⟩
abbrev S8448x1024 : Shape := ⟨2, ![8448, 1024]⟩
abbrev S768x2816 : Shape := ⟨2, ![768, 2816]⟩
abbrev S2816x512 : Shape := ⟨2, ![2816, 512]⟩
abbrev S768x512 : Shape := ⟨2, ![768, 512]⟩

abbrev nBuf : Space → Nat
  | .hbm => 16
  | .vmem => 10
  | .smem => 0
  | _ => 0

abbrev bufTy : (tb : Table) → Fin (tcTables nBuf tb) → BufTy
  | .hbm, ⟨0, _⟩ => ⟨S8208x2816, .f32⟩
  | .hbm, ⟨1, _⟩ => ⟨S8208x2816, .f32⟩
  | .hbm, ⟨2, _⟩ => ⟨S1024x5632, .f32⟩
  | .hbm, ⟨3, _⟩ => ⟨S_, .i32⟩
  | .hbm, ⟨4, _⟩ => ⟨S_, .f32⟩
  | .hbm, ⟨5, _⟩ => ⟨S8448x2816, .f32⟩
  | .hbm, ⟨6, _⟩ => ⟨S8448x2816, .bf16⟩
  | .hbm, ⟨7, _⟩ => ⟨S_, .i32⟩
  | .hbm, ⟨8, _⟩ => ⟨S_, .f32⟩
  | .hbm, ⟨9, _⟩ => ⟨S8448x2816, .f32⟩
  | .hbm, ⟨10, _⟩ => ⟨S8448x2816, .bf16⟩
  | .hbm, ⟨11, _⟩ => ⟨S5632x1024, .f32⟩
  | .hbm, ⟨12, _⟩ => ⟨S5632x1024, .bf16⟩
  | .hbm, ⟨13, _⟩ => ⟨S2816x1024, .bf16⟩
  | .hbm, ⟨14, _⟩ => ⟨S2816x1024, .bf16⟩
  | .hbm, ⟨15, _⟩ => ⟨S8448x1024, .f32⟩
  | .local _ .vmem, ⟨0, _⟩ => ⟨S768x2816, .bf16⟩
  | .local _ .vmem, ⟨1, _⟩ => ⟨S768x2816, .bf16⟩
  | .local _ .vmem, ⟨2, _⟩ => ⟨S768x2816, .bf16⟩
  | .local _ .vmem, ⟨3, _⟩ => ⟨S768x2816, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .bf16⟩
  | .local _ .vmem, ⟨7, _⟩ => ⟨S2816x512, .bf16⟩
  | .local _ .vmem, ⟨8, _⟩ => ⟨S768x512, .f32⟩
  | .local _ .vmem, ⟨9, _⟩ => ⟨S768x512, .f32⟩
  | _, _ => ⟨S8208x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DxnRefIdeal.lean ====
abbrev S8208x2816 : Shape := ⟨2, ![8208, 2816]⟩
abbrev S1024x5632 : Shape := ⟨2, ![1024, 5632]⟩
abbrev S_ : Shape := ⟨0, ![]⟩
abbrev S8208x1024 : Shape := ⟨2, ![8208, 1024]⟩
abbrev S8208x5632 : Shape := ⟨2, ![8208, 5632]⟩
abbrev S8448x1024 : Shape := ⟨2, ![8448, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8208x2816, .f32⟩
  | .hbm, ⟨1, _⟩ => ⟨S8208x2816, .f32⟩
  | .hbm, ⟨2, _⟩ => ⟨S1024x5632, .f32⟩
  | .hbm, ⟨3, _⟩ => ⟨S_, .f32⟩
  | .hbm, ⟨4, _⟩ => ⟨S8208x1024, .f32⟩
  | .hbm, ⟨5, _⟩ => ⟨S8208x5632, .f32⟩
  | .hbm, ⟨6, _⟩ => ⟨S8208x2816, .f32⟩
  | .hbm, ⟨7, _⟩ => ⟨S8208x2816, .f32⟩
  | .hbm, ⟨8, _⟩ => ⟨S8208x5632, .f32⟩
  | .hbm, ⟨9, _⟩ => ⟨S8208x1024, .f32⟩
  | .hbm, ⟨10, _⟩ => ⟨S_, .i32⟩
  | .hbm, ⟨11, _⟩ => ⟨S_, .f32⟩
  | .hbm, ⟨12, _⟩ => ⟨S8448x1024, .f32⟩
  | _, _ => ⟨S8208x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Sum.lean ====
abbrev S8x272x128 : Shape := ⟨3, ![8, 272, 128]⟩
abbrev S272x128 : Shape := ⟨2, ![272, 128]⟩
abbrev S1x272x128 : Shape := ⟨3, ![1, 272, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x272x128, .f32⟩
  | .hbm, ⟨1, _⟩ => ⟨S272x128, .f32⟩
  | .local _ .vmem, ⟨0, _⟩ => ⟨S8x272x128, .f32⟩
  | .local _ .vmem, ⟨1, _⟩ => ⟨S272x128, .f32⟩
  | _, _ => ⟨S8x272x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x272x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S272x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumRefIdeal.lean ====
abbrev S8x272x128 : Shape := ⟨3, ![8, 272, 128]⟩
abbrev S_ : Shape := ⟨0, ![]⟩
abbrev S272x128 : Shape := ⟨2, ![272, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x272x128, .f32⟩
  | .hbm, ⟨1, _⟩ => ⟨S_, .f32⟩
  | .hbm, ⟨2, _⟩ => ⟨S272x128, .f32⟩
  | _, _ => ⟨S8x272x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Adam.lean ====
abbrev S8x4x384x96 : Shape := ⟨4, ![8, 4, 384, 96]⟩
abbrev S4x384x96 : Shape := ⟨3, ![4, 384, 96]⟩
abbrev S8x1x192x96 : Shape := ⟨4, ![8, 1, 192, 96]⟩
abbrev S1x192x96 : Shape := ⟨3, ![1, 192, 96]⟩
abbrev S1x1x192x96 : Shape := ⟨4, ![1, 1, 192, 96]⟩

abbrev nBuf : Space → Nat
  | .hbm => 9
  | .vmem => 16
  | .smem => 0
  | _ => 0

abbrev bufTy : (tb : Table) → Fin (tcTables nBuf tb) → BufTy
  | .hbm, ⟨0, _⟩ => ⟨S8x4x384x96, .f32⟩
  | .hbm, ⟨1, _⟩ => ⟨S4x384x96, .f32⟩
  | .hbm, ⟨2, _⟩ => ⟨S4x384x96, .f32⟩
  | .hbm, ⟨3, _⟩ => ⟨S4x384x96, .f32⟩
  | .hbm, ⟨4, _⟩ => ⟨S8x4x384x96, .bf16⟩
  | .hbm, ⟨5, _⟩ => ⟨S4x384x96, .f32⟩
  | .hbm, ⟨6, _⟩ => ⟨S4x384x96, .f32⟩
  | .hbm, ⟨7, _⟩ => ⟨S4x384x96, .f32⟩
  | .hbm, ⟨8, _⟩ => ⟨S4x384x96, .f32⟩
  | .local _ .vmem, ⟨0, _⟩ => ⟨S8x1x192x96, .bf16⟩
  | .local _ .vmem, ⟨1, _⟩ => ⟨S8x1x192x96, .bf16⟩
  | .local _ .vmem, ⟨2, _⟩ => ⟨S1x192x96, .f32⟩
  | .local _ .vmem, ⟨3, _⟩ => ⟨S1x192x96, .f32⟩
  | .local _ .vmem, ⟨4, _⟩ => ⟨S1x192x96, .f32⟩
  | .local _ .vmem, ⟨5, _⟩ => ⟨S1x192x96, .f32⟩
  | .local _ .vmem, ⟨6, _⟩ => ⟨S1x192x96, .f32⟩
  | .local _ .vmem, ⟨7, _⟩ => ⟨S1x192x96, .f32⟩
  | .local _ .vmem, ⟨8, _⟩ => ⟨S1x192x96, .f32⟩
  | .local _ .vmem, ⟨9, _⟩ => ⟨S1x192x96, .f32⟩
  | .local _ .vmem, ⟨10, _⟩ => ⟨S1x192x96, .f32⟩
  | .local _ .vmem, ⟨11, _⟩ => ⟨S1x192x96, .f32⟩
  | .local _ .vmem, ⟨12, _⟩ => ⟨S1x192x96, .f32⟩
  | .local _ .vmem, ⟨13, _⟩ => ⟨S1x192x96, .f32⟩
  | .local _ .vmem, ⟨14, _⟩ => ⟨S1x192x96, .f32⟩
  | .local _ .vmem, ⟨15, _⟩ => ⟨S1x192x96, .f32⟩
  | _, _ => ⟨S8x4x384x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x192x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x192x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x192x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x192x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x192x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x192x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRefIdeal.lean ====
abbrev S8x4x384x96 : Shape := ⟨4, ![8, 4, 384, 96]⟩
abbrev S4x384x96 : Shape := ⟨3, ![4, 384, 96]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x384x96, .f32⟩
  | .hbm, ⟨1, _⟩ => ⟨S4x384x96, .f32⟩
  | .hbm, ⟨2, _⟩ => ⟨S4x384x96, .f32⟩
  | .hbm, ⟨3, _⟩ => ⟨S4x384x96, .f32⟩
  | .hbm, ⟨4, _⟩ => ⟨S_, .f32⟩
  | .hbm, ⟨5, _⟩ => ⟨S4x384x96, .f32⟩
  | .hbm, ⟨6, _⟩ => ⟨S_, .f32⟩
  | .hbm, ⟨7, _⟩ => ⟨S4x384x96, .f32⟩
  | .hbm, ⟨8, _⟩ => ⟨S4x384x96, .f32⟩
  | .hbm, ⟨9, _⟩ => ⟨S_, .f32⟩
  | .hbm, ⟨10, _⟩ => ⟨S4x384x96, .f32⟩
  | .hbm, ⟨11, _⟩ => ⟨S4x384x96, .f32⟩
  | .hbm, ⟨12, _⟩ => ⟨S4x384x96, .f32⟩
  | .hbm, ⟨13, _⟩ => ⟨S_, .f32⟩
  | .hbm, ⟨14, _⟩ => ⟨S4x384x96, .f32⟩
  | .hbm, ⟨15, _⟩ => ⟨S4x384x96, .f32⟩
  | .hbm, ⟨16, _⟩ => ⟨S4x384x96, .f32⟩
  | .hbm, ⟨17, _⟩ => ⟨S_, .f32⟩
  | .hbm, ⟨18, _⟩ => ⟨S4x384x96, .f32⟩
  | .hbm, ⟨19, _⟩ => ⟨S4x384x96, .f32⟩
  | .hbm, ⟨20, _⟩ => ⟨S4x384x96, .f32⟩
  | .hbm, ⟨21, _⟩ => ⟨S_, .f32⟩
  | .hbm, ⟨22, _⟩ => ⟨S4x384x96, .f32⟩
  | .hbm, ⟨23, _⟩ => ⟨S4x384x96, .f32⟩
  | .hbm, ⟨24, _⟩ => ⟨S_, .f32⟩
  | .hbm, ⟨25, _⟩ => ⟨S4x384x96, .f32⟩
  | .hbm, ⟨26, _⟩ => ⟨S4x384x96, .f32⟩
  | .hbm, ⟨27, _⟩ => ⟨S4x384x96, .f32⟩
  | .hbm, ⟨28, _⟩ => ⟨S_, .f32⟩
  | .hbm, ⟨29, _⟩ => ⟨S4x384x96, .f32⟩
  | .hbm, ⟨30, _⟩ => ⟨S4x384x96, .f32⟩
  | .hbm, ⟨31, _⟩ => ⟨S4x384x96, .f32⟩
  | .hbm, ⟨32, _⟩ => ⟨S_, .f32⟩
  | .hbm, ⟨33, _⟩ => ⟨S4x384x96, .f32⟩
  | .hbm, ⟨34, _⟩ => ⟨S4x384x96, .f32⟩
  | .hbm, ⟨35, _⟩ => ⟨S4x384x96, .f32⟩
  | .hbm, ⟨36, _⟩ => ⟨S_, .f32⟩
  | .hbm, ⟨37, _⟩ => ⟨S4x384x96, .f32⟩
  | .hbm, ⟨38, _⟩ => ⟨S4x384x96, .f32⟩
  | _, _ => ⟨S8x4x384x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Asmall.lean ====
abbrev S144x128 : Shape := ⟨2, ![144, 128]⟩

abbrev nBuf : Space → Nat
  | .hbm => 7
  | .vmem => 7
  | .smem => 0
  | _ => 0

abbrev bufTy : (tb : Table) → Fin (tcTables nBuf tb) → BufTy
  | .hbm, ⟨0, _⟩ => ⟨S144x128, .f32⟩
  | .hbm, ⟨1, _⟩ => ⟨S144x128, .f32⟩
  | .hbm, ⟨2, _⟩ => ⟨S144x128, .f32⟩
  | .hbm, ⟨3, _⟩ => ⟨S144x128, .f32⟩
  | .hbm, ⟨4, _⟩ => ⟨S144x128, .f32⟩
  | .hbm, ⟨5, _⟩ => ⟨S144x128, .f32⟩
  | .hbm, ⟨6, _⟩ => ⟨S144x128, .f32⟩
  | .local _ .vmem, ⟨0, _⟩ => ⟨S144x128, .f32⟩
  | .local _ .vmem, ⟨1, _⟩ => ⟨S144x128, .f32⟩
  | .local _ .vmem, ⟨2, _⟩ => ⟨S144x128, .f32⟩
  | .local _ .vmem, ⟨3, _⟩ => ⟨S144x128, .f32⟩
  | .local _ .vmem, ⟨4, _⟩ => ⟨S144x128, .f32⟩
  | .local _ .vmem, ⟨5, _⟩ => ⟨S144x128, .f32⟩
  | .local _ .vmem, ⟨6, _⟩ => ⟨S144x128, .f32⟩
  | _, _ => ⟨S144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S144x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S144x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AsmallRefIdeal.lean ====
abbrev S144x128 : Shape := ⟨2, ![144, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S144x128, .f32⟩
  | .hbm, ⟨1, _⟩ => ⟨S144x128, .f32⟩
  | .hbm, ⟨2, _⟩ => ⟨S144x128, .f32⟩
  | .hbm, ⟨3, _⟩ => ⟨S144x128, .f32⟩
  | .hbm, ⟨4, _⟩ => ⟨S_, .f32⟩
  | .hbm, ⟨5, _⟩ => ⟨S144x128, .f32⟩
  | .hbm, ⟨6, _⟩ => ⟨S144x128, .f32⟩
  | .hbm, ⟨7, _⟩ => ⟨S_, .f32⟩
  | .hbm, ⟨8, _⟩ => ⟨S144x128, .f32⟩
  | .hbm, ⟨9, _⟩ => ⟨S144x128, .f32⟩
  | .hbm, ⟨10, _⟩ => ⟨S144x128, .f32⟩
  | .hbm, ⟨11, _⟩ => ⟨S_, .f32⟩
  | .hbm, ⟨12, _⟩ => ⟨S144x128, .f32⟩
  | .hbm, ⟨13, _⟩ => ⟨S144x128, .f32⟩
  | .hbm, ⟨14, _⟩ => ⟨S144x128, .f32⟩
  | .hbm, ⟨15, _⟩ => ⟨S_, .f32⟩
  | .hbm, ⟨16, _⟩ => ⟨S144x128, .f32⟩
  | .hbm, ⟨17, _⟩ => ⟨S144x128, .f32⟩
  | .hbm, ⟨18, _⟩ => ⟨S144x128, .f32⟩
  | .hbm, ⟨19, _⟩ => ⟨S_, .f32⟩
  | .hbm, ⟨20, _⟩ => ⟨S144x128, .f32⟩
  | .hbm, ⟨21, _⟩ => ⟨S144x128, .f32⟩
  | .hbm, ⟨22, _⟩ => ⟨S_, .f32⟩
  | .hbm, ⟨23, _⟩ => ⟨S144x128, .f32⟩
  | .hbm, ⟨24, _⟩ => ⟨S144x128, .f32⟩
  | .hbm, ⟨25, _⟩ => ⟨S144x128, .f32⟩
  | .hbm, ⟨26, _⟩ => ⟨S_, .f32⟩
  | .hbm, ⟨27, _⟩ => ⟨S144x128, .f32⟩
  | .hbm, ⟨28, _⟩ => ⟨S144x128, .f32⟩
  | .hbm, ⟨29, _⟩ => ⟨S144x128, .f32⟩
  | .hbm, ⟨30, _⟩ => ⟨S_, .f32⟩
  | .hbm, ⟨31, _⟩ => ⟨S144x128, .f32⟩
  | .hbm, ⟨32, _⟩ => ⟨S144x128, .f32⟩
  | .hbm, ⟨33, _⟩ => ⟨S144x128, .f32⟩
  | .hbm, ⟨34, _⟩ => ⟨S_, .f32⟩
  | .hbm, ⟨35, _⟩ => ⟨S144x128, .f32⟩
  | .hbm, ⟨36, _⟩ => ⟨S144x128, .f32⟩
  | _, _ => ⟨S144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Front.lean ====
abbrev S8208x384 : Shape := ⟨2, ![8208, 384]⟩
abbrev S8208x256 : Shape := ⟨2, ![8208, 256]⟩
abbrev S8208x32 : Shape := ⟨2, ![8208, 32]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S_ : Shape := ⟨0, ![]⟩
abbrev S8208x64 : Shape := ⟨2, ![8208, 64]⟩
abbrev S8208x16 : Shape := ⟨2, ![8208, 16]⟩
abbrev S8208x128 : Shape := ⟨2, ![8208, 128]⟩
abbrev S8208x1024 : Shape := ⟨2, ![8208, 1024]⟩
abbrev S8448x1024 : Shape := ⟨2, ![8448, 1024]⟩
abbrev S1x384 : Shape := ⟨2, ![1, 384]⟩
abbrev S1x256 : Shape := ⟨2, ![1, 256]⟩
abbrev S16 : Shape := ⟨1, ![16]⟩
abbrev S8448 : Shape := ⟨1, ![8448]⟩
abbrev S8448x1 : Shape := ⟨2, ![8448, 1]⟩
abbrev S1x16 : Shape := ⟨2, ![1, 16]⟩
abbrev S8448x16 : Shape := ⟨2, ![8448, 16]⟩
abbrev S8448x64 : Shape := ⟨2, ![8448, 64]⟩
abbrev S8448x32 : Shape := ⟨2, ![8448, 32]⟩
abbrev S8448x128 : Shape := ⟨2, ![8448, 128]⟩
abbrev S384x8x96 : Shape := ⟨3, ![384, 8, 96]⟩
abbrev S384x8x64 : Shape := ⟨3, ![384, 8, 64]⟩
abbrev S384x8x32 : Shape := ⟨3, ![384, 8, 32]⟩
abbrev S384x8x128 : Shape := ⟨3, ![384, 8, 128]⟩
abbrev S384x1024 : Shape := ⟨2, ![384, 1024]⟩
abbrev S384x8x16 : Shape := ⟨3, ![384, 8, 16]⟩
abbrev S384x2048 : Shape := ⟨2, ![384, 2048]⟩
abbrev S256x8x128 : Shape := ⟨3, ![256, 8, 128]⟩
abbrev S256x8x64 : Shape := ⟨3, ![256, 8, 64]⟩
abbrev S256x8x256 : Shape := ⟨3, ![256, 8, 256]⟩
abbrev S256x2048 : Shape := ⟨2, ![256, 2048]⟩
abbrev S8448x384 : Shape := ⟨2, ![8448, 384]⟩
abbrev S8448x256 : Shape := ⟨2, ![8448, 256]⟩
abbrev S8448x2048 : Shape := ⟨2, ![8448, 2048]⟩
abbrev S8x11x128x768 : Shape := ⟨4, ![8, 11, 128, 768]⟩
abbrev S768x1024 : Shape := ⟨2, ![768, 1024]⟩
abbrev S768x128 : Shape := ⟨2, ![768, 128]⟩
abbrev S768x384 : Shape := ⟨2, ![768, 384]⟩
abbrev S768x256 : Shape := ⟨2, ![768, 256]⟩
abbrev S768x2048 : Shape := ⟨2, ![768, 2048]⟩
abbrev S8x1x128x768 : Shape := ⟨4, ![8, 1, 128, 768]⟩
abbrev S768 : Shape := ⟨1, ![768]⟩
abbrev S768x1 : Shape := ⟨2, ![768, 1]⟩
abbrev S128x768 : Shape := ⟨2, ![128, 768]⟩
abbrev S1x1x128x768 : Shape := ⟨4, ![1, 1, 128, 768]⟩

abbrev nBuf : Space → Nat
  | .hbm => 83
  | .vmem => 22
  | .smem => 0
  | _ => 0

abbrev bufTy : (tb : Table) → Fin (tcTables nBuf tb) → BufTy
  | .hbm, ⟨0, _⟩ => ⟨S8208x384, .f32⟩
  | .hbm, ⟨1, _⟩ => ⟨S8208x256, .f32⟩
  | .hbm, ⟨2, _⟩ => ⟨S8208x32, .f32⟩
  | .hbm, ⟨3, _⟩ => ⟨S384, .f32⟩
  | .hbm, ⟨4, _⟩ => ⟨S256, .f32⟩
  | .hbm, ⟨5, _⟩ => ⟨S384x768, .f32⟩
  | .hbm, ⟨6, _⟩ => ⟨S256x1024, .f32⟩
  | .hbm, ⟨7, _⟩ => ⟨S_, .f32⟩
  | .hbm, ⟨8, _⟩ => ⟨S8208x64, .f32⟩
  | .hbm, ⟨9, _⟩ => ⟨S_, .f32⟩
  | .hbm, ⟨10, _⟩ => ⟨S8208x32, .f32⟩
  | .hbm, ⟨11, _⟩ => ⟨S_, .f32⟩
  | .hbm, ⟨12, _⟩ => ⟨S8208x64, .f32⟩
  | .hbm, ⟨13, _⟩ => ⟨S8208x16, .f32⟩
  | .hbm, ⟨14, _⟩ => ⟨S8208x16, .f32⟩
  | .hbm, ⟨15, _⟩ => ⟨S8208x32, .f32⟩
  | .hbm, ⟨16, _⟩ => ⟨S_, .f32⟩
  | .hbm, ⟨17, _⟩ => ⟨S8208x32, .f32⟩
  | .hbm, ⟨18, _⟩ => ⟨S_, .f32⟩
  | .hbm, ⟨19, _⟩ => ⟨S8208x128, .f32⟩
  | .hbm, ⟨20, _⟩ => ⟨S8208x1024, .f32⟩
  | .hbm, ⟨21, _⟩ => ⟨S_, .i32⟩
  | .hbm, ⟨22, _⟩ => ⟨S_, .f32⟩
  | .hbm, ⟨23, _⟩ => ⟨S8448x1024, .f32⟩
  | .hbm, ⟨24, _⟩ => ⟨S1x384, .f32⟩
  | .hbm, ⟨25, _⟩ => ⟨S1x256, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S8448, .f32⟩
  | .hbm, ⟨35, _⟩ => ⟨S8448x1, .f32⟩
  | .hbm, ⟨36, _⟩ => ⟨S1x16, .f32⟩
  | .hbm, ⟨37, _⟩ => ⟨S8448x16, .f32⟩
  | .hbm, ⟨38, _⟩ => ⟨S8448x16, .f32⟩
  | .hbm, ⟨39, _⟩ => ⟨S8448x16, .f32⟩
  | .hbm, ⟨40, _⟩ => ⟨S8448x16, .f32⟩
  | .hbm, ⟨41, _⟩ => ⟨S8448x16, .f32⟩
  | .hbm, ⟨42, _⟩ => ⟨S_, .f32⟩
  | .hbm, ⟨43, _⟩ => ⟨S8448x64, .f32⟩
  | .hbm, ⟨44, _⟩ => ⟨S_, .f32⟩
  | .hbm, ⟨45, _⟩ => ⟨S8448x64, .f32⟩
  | .hbm, ⟨46, _⟩ => ⟨S_, .f32⟩
  | .hbm, ⟨47, _⟩ => ⟨S8448x32, .f32⟩
  | .hbm, ⟨48, _⟩ => ⟨S8448x128, .f32⟩
  | .hbm, ⟨49, _⟩ => ⟨S8448x128, .f32⟩
  | .hbm, ⟨50, _⟩ => ⟨S8448x16, .f32⟩
  | .hbm, ⟨51, _⟩ => ⟨S8448x128, .f32⟩
  | .hbm, ⟨52, _⟩ => ⟨S384x768, .bf16⟩
  | .hbm, ⟨53, _⟩ => ⟨S384x8x96, .bf16⟩
  | .hbm, ⟨54, _⟩ => ⟨S384x8x64, .bf16⟩
  | .hbm, ⟨55, _⟩ => ⟨S384x8x32, .bf16⟩
  | .hbm, ⟨56, _⟩ => ⟨S_, .bf16⟩
  | .hbm, ⟨57, _⟩ => ⟨S384x8x32, .bf16⟩
  | .hbm, ⟨58, _⟩ => ⟨S384x8x128, .bf16⟩
  | .hbm, ⟨59, _⟩ => ⟨S384x1024, .bf16⟩
  | .hbm, ⟨60, _⟩ => ⟨S_, .bf16⟩
  | .hbm, ⟨61, _⟩ => ⟨S384x8x64, .bf16⟩
  | .hbm, ⟨62, _⟩ => ⟨S384x8x16, .bf16⟩
  | .hbm, ⟨63, _⟩ => ⟨S384x8x16, .bf16⟩
  | .hbm, ⟨64, _⟩ => ⟨S384x8x32, .bf16⟩
  | .hbm, ⟨65, _⟩ => ⟨S_, .bf16⟩
  | .hbm, ⟨66, _⟩ => ⟨S384x8x32, .bf16⟩
  | .hbm, ⟨67, _⟩ => ⟨S384x8x128, .bf16⟩
  | .hbm, ⟨68, _⟩ => ⟨S384x1024, .bf16⟩
  | .hbm, ⟨69, _⟩ => ⟨S384x2048, .bf16⟩
  | .hbm, ⟨70, _⟩ => ⟨S256x1024, .bf16⟩
  | .hbm, ⟨71, _⟩ => ⟨S256x8x128, .bf16⟩
  | .hbm, ⟨72, _⟩ => ⟨S256x8x64, .bf16⟩
  | .hbm, ⟨73, _⟩ => ⟨S256x8x64, .bf16⟩
  | .hbm, ⟨74, _⟩ => ⟨S_, .bf16⟩
  | .hbm, ⟨75, _⟩ => ⟨S256x8x64, .bf16⟩
  | .hbm, ⟨76, _⟩ => ⟨S256x8x256, .bf16⟩
  | .hbm, ⟨77, _⟩ => ⟨S256x2048, .bf16⟩
  | .hbm, ⟨78, _⟩ => ⟨S8448x384, .bf16⟩
  | .hbm, ⟨79, _⟩ => ⟨S8448x256, .bf16⟩
  | .hbm, ⟨80, _⟩ => ⟨S8448x1024, .bf16⟩
  | .hbm, ⟨81, _⟩ => ⟨S8448x2048, .bf16⟩
  | .hbm, ⟨82, _⟩ => ⟨S8x11x128x768, .bf16⟩
  | .local _ .vmem, ⟨0, _⟩ => ⟨S768x1024, .f32⟩
  | .local _ .vmem, ⟨1, _⟩ => ⟨S768x1024, .f32⟩
  | .local _ .vmem, ⟨2, _⟩ => ⟨S1x384, .f32⟩
  | .local _ .vmem, ⟨3, _⟩ => ⟨S1x256, .f32⟩
  | .local _ .vmem, ⟨4, _⟩ => ⟨S768x128, .f32⟩
  | .local _ .vmem, ⟨5, _⟩ => ⟨S768x128, .f32⟩
  | .local _ .vmem, ⟨6, _⟩ => ⟨S768x128, .f32⟩
  | .local _ .vmem, ⟨7, _⟩ => ⟨S768x128, .f32⟩
  | .local _ .vmem, ⟨8, _⟩ => ⟨S768x128, .f32⟩
  | .local _ .vmem, ⟨9, _⟩ => ⟨S768x128, .f32⟩
  | .local _ .vmem, ⟨10, _⟩ => ⟨S384x2048, .bf16⟩
  | .local _ .vmem, ⟨11, _⟩ => ⟨S256x2048, .bf16⟩
  | .local _ .vmem, ⟨12, _⟩ => ⟨S768x384, .bf16⟩
  | .local _ .vmem, ⟨13, _⟩ => ⟨S768x384, .bf16⟩
  | .local _ .vmem, ⟨14, _⟩ => ⟨S768x256, .bf16⟩
  | .local _ .vmem, ⟨15, _⟩ => ⟨S768x256, .bf16⟩
  | .local _ .vmem, ⟨16, _⟩ => ⟨S768x1024, .bf16⟩
  | .local _ .vmem, ⟨17, _⟩ => ⟨S768x1024, .bf16⟩
  | .local _ .vmem, ⟨18, _⟩ => ⟨S768x2048, .bf16⟩
  | .local _ .vmem, ⟨19, _⟩ => ⟨S768x2048, .bf16⟩
  | .local _ .vmem, ⟨20, _⟩ => ⟨S8x1x128x768, .bf16⟩
  | .local _ .vmem, ⟨21, _⟩ => ⟨S8x1x128x768, .bf16⟩
  | _, _ => ⟨S8208x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_call0_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55_0 : Ref sig .tc := ⟨.hbm, 78, rfl⟩
abbrev main_v55_1 : Ref sig .tc := ⟨.hbm, 79, rfl⟩
abbrev main_v55_2 : Ref sig .tc := ⟨.hbm, 80, rfl⟩
abbrev main_v55_3 : Ref sig .tc := ⟨.hbm, 81, rfl⟩
abbrev main_v55_4 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S768x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S768x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S768x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1x128x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FrontRefIdeal.lean ====
abbrev S8208x384 : Shape := ⟨2, ![8208, 384]⟩
abbrev S8208x256 : Shape := ⟨2, ![8208, 256]⟩
abbrev S8208x32 : Shape := ⟨2, ![8208, 32]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S_ : Shape := ⟨0, ![]⟩
abbrev S8448x384 : Shape := ⟨2, ![8448, 384]⟩
abbrev S8448x256 : Shape := ⟨2, ![8448, 256]⟩
abbrev S8448x32 : Shape := ⟨2, ![8448, 32]⟩
abbrev S8448 : Shape := ⟨1, ![8448]⟩
abbrev S8448x1 : Shape := ⟨2, ![8448, 1]⟩
abbrev S1x384 : Shape := ⟨2, ![1, 384]⟩
abbrev S1x256 : Shape := ⟨2, ![1, 256]⟩
abbrev S8448x768 : Shape := ⟨2, ![8448, 768]⟩
abbrev S8448x8x96 : Shape := ⟨3, ![8448, 8, 96]⟩
abbrev S8448x8x64 : Shape := ⟨3, ![8448, 8, 64]⟩
abbrev S8448x8x32 : Shape := ⟨3, ![8448, 8, 32]⟩
abbrev S16 : Shape := ⟨1, ![16]⟩
abbrev S1x16 : Shape := ⟨2, ![1, 16]⟩
abbrev S8448x16 : Shape := ⟨2, ![8448, 16]⟩
abbrev S8448x1x16 : Shape := ⟨3, ![8448, 1, 16]⟩
abbrev S8448x8x16 : Shape := ⟨3, ![8448, 8, 16]⟩
abbrev S8448x1024 : Shape := ⟨2, ![8448, 1024]⟩
abbrev S8448x8x128 : Shape := ⟨3, ![8448, 8, 128]⟩
abbrev S8448x1x32 : Shape := ⟨3, ![8448, 1, 32]⟩
abbrev S8x128x8448 : Shape := ⟨3, ![8, 128, 8448]⟩
abbrev S8x128x11x768 : Shape := ⟨4, ![8, 128, 11, 768]⟩
abbrev S8x11x128x768 : Shape := ⟨4, ![8, 11, 128, 768]⟩
abbrev S8448x8x256 : Shape := ⟨3, ![8448, 8, 256]⟩
abbrev S8448x2048 : Shape := ⟨2, ![8448, 2048]⟩

abbrev nBuf : Space → Nat
  | .hbm => 139
  | .vmem => 0
  | .smem => 0
  | _ => 0

abbrev hbmTy0_0 (i : Nat) : BufTy := match i % 128 with
  | 0 => ⟨S8208x384, .f32⟩
  | 1 => ⟨S8208x256, .f32⟩
  | 2 => ⟨S8208x32, .f32⟩
  | 3 => ⟨S384, .f32⟩
  | 4 => ⟨S256, .f32⟩
  | 5 => ⟨S384x768, .f32⟩
  | 6 => ⟨S256x1024, .f32⟩
  | 7 => ⟨S_, .i32⟩
  | 8 => ⟨S_, .f32⟩
  | 9 => ⟨S8448x384, .f32⟩
  | 10 => ⟨S_, .i32⟩
  | 11 => ⟨S_, .f32⟩
  | 12 => ⟨S8448x256, .f32⟩
  | 13 => ⟨S_, .i32⟩
  | 14 => ⟨S_, .f32⟩
  | 15 => ⟨S8448x32, .f32⟩
  | 16 => ⟨S8448, .i32⟩
  | 17 => ⟨S8448x384, .f32⟩
  | 18 => ⟨S_, .f32⟩
  | 19 => ⟨S8448, .f32⟩
  | 20 => ⟨S8448x1, .f32⟩
  | 21 => ⟨S_, .f32⟩
  | 22 => ⟨S8448x1, .f32⟩
  | 23 => ⟨S8448x1, .f32⟩
  | 24 => ⟨S_, .f32⟩
  | 25 => ⟨S8448x1, .f32⟩
  | 26 => ⟨S8448x1, .f32⟩
  | 27 => ⟨S8448x1, .f32⟩
  | 28 => ⟨S8448x384, .f32⟩
  | 29 => ⟨S8448x384, .f32⟩
  | 30 => ⟨S1x384, .f32⟩
  | 31 => ⟨S8448x384, .f32⟩
  | 32 => ⟨S8448x384, .f32⟩
  | 33 => ⟨S8448x256, .f32⟩
  | 34 => ⟨S_, .f32⟩
  | 35 => ⟨S8448, .f32⟩
  | 36 => ⟨S8448x1, .f32⟩
  | 37 => ⟨S_, .f32⟩
  | 38 => ⟨S8448x1, .f32⟩
  | 39 => ⟨S8448x1, .f32⟩
  | 40 => ⟨S_, .f32⟩
  | 41 => ⟨S8448x1, .f32⟩
  | 42 => ⟨S8448x1, .f32⟩
  | 43 => ⟨S8448x1, .f32⟩
  | 44 => ⟨S8448x256, .f32⟩
  | 45 => ⟨S8448x256, .f32⟩
  | 46 => ⟨S1x256, .f32⟩
  | 47 => ⟨S8448x256, .f32⟩
  | 48 => ⟨S8448x256, .f32⟩
  | 49 => ⟨S8448x768, .f32⟩
  | 50 => ⟨S8448x8x96, .f32⟩
  | 51 => ⟨S8448x8x64, .f32⟩
  | 52 => ⟨S8448x8x32, .f32⟩
  | 53 => ⟨S16, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S8448, .f32⟩
  | 62 => ⟨S8448x1, .f32⟩
  | 63 => ⟨S1x16, .f32⟩
  | 64 => ⟨S8448x16, .f32⟩
  | 65 => ⟨S8448x16, .f32⟩
  | 66 => ⟨S8448x16, .f32⟩
  | 67 => ⟨S8448x16, .f32⟩
  | 68 => ⟨S8448x1x16, .f32⟩
  | 69 => ⟨S8448x16, .f32⟩
  | 70 => ⟨S8448x1x16, .f32⟩
  | 71 => ⟨S8448x8x16, .f32⟩
  | 72 => ⟨S8448x8x16, .f32⟩
  | 73 => ⟨S8448x8x16, .f32⟩
  | 74 => ⟨S8448x8x16, .f32⟩
  | 75 => ⟨S8448x8x16, .f32⟩
  | 76 => ⟨S8448x8x16, .f32⟩
  | 77 => ⟨S8448x8x16, .f32⟩
  | 78 => ⟨S8448x8x16, .f32⟩
  | 79 => ⟨S8448x8x16, .f32⟩
  | 80 => ⟨S8448x8x16, .f32⟩
  | 81 => ⟨S8448x8x16, .f32⟩
  | 82 => ⟨S8448x8x16, .f32⟩
  | 83 => ⟨S8448x8x32, .f32⟩
  | 84 => ⟨S8448x8x96, .f32⟩
  | 85 => ⟨S8448x1024, .f32⟩
  | 86 => ⟨S8448x8x128, .f32⟩
  | 87 => ⟨S8448x8x64, .f32⟩
  | 88 => ⟨S8448x1x32, .f32⟩
  | 89 => ⟨S16, .f32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S8448, .f32⟩
  | 98 => ⟨S8448x1, .f32⟩
  | 99 => ⟨S1x16, .f32⟩
  | 100 => ⟨S8448x16, .f32⟩
  | 101 => ⟨S8448x16, .f32⟩
  | 102 => ⟨S8448x16, .f32⟩
  | 103 => ⟨S8448x16, .f32⟩
  | 104 => ⟨S8448x1x16, .f32⟩
  | 105 => ⟨S8448x16, .f32⟩
  | 106 => ⟨S8448x1x16, .f32⟩
  | 107 => ⟨S8448x1x16, .f32⟩
  | 108 => ⟨S8448x1x16, .f32⟩
  | 109 => ⟨S8448x1x16, .f32⟩
  | 110 => ⟨S8448x1x16, .f32⟩
  | 111 => ⟨S8448x1x16, .f32⟩
  | 112 => ⟨S8448x1x16, .f32⟩
  | 113 => ⟨S8448x1x16, .f32⟩
  | 114 => ⟨S8448x1x16, .f32⟩
  | 115 => ⟨S8448x1x32, .f32⟩
  | 116 => ⟨S8448x8x64, .f32⟩
  | 117 => ⟨S8448x8x32, .f32⟩
  | 118 => ⟨S8448x8x96, .f32⟩
  | 119 => ⟨S_, .i32⟩
  | 120 => ⟨S_, .f32⟩
  | 121 => ⟨S8448x8x128, .f32⟩
  | 122 => ⟨S_, .i32⟩
  | 123 => ⟨S_, .f32⟩
  | 124 => ⟨S8448x8x128, .f32⟩
  | 125 => ⟨S_, .i32⟩
  | 126 => ⟨S_, .f32⟩
  | 127 => ⟨S8448x8x128, .f32⟩
  | _ => ⟨S8208x384, .f32⟩

abbrev hbmTy0_1 (i : Nat) : BufTy := match i % 128 with
  | 0 => ⟨S8x128x8448, .f32⟩
  | 1 => ⟨S8x128x11x768, .f32⟩
  | 2 => ⟨S8x11x128x768, .f32⟩
  | 3 => ⟨S8448x1024, .f32⟩
  | 4 => ⟨S8448x8x256, .f32⟩
  | 5 => ⟨S8448x2048, .f32⟩
  | 6 => ⟨S8448x384, .bf16⟩
  | 7 => ⟨S8448x256, .bf16⟩
  | 8 => ⟨S8448x1024, .bf16⟩
  | 9 => ⟨S8448x2048, .bf16⟩
  | 10 => ⟨S8x11x128x768, .bf16⟩
  | _ => ⟨S8208x384, .f32⟩

abbrev hbmTy (i : Nat) : BufTy := match i / 128 with
  | 0 => hbmTy0_0 i
  | 1 => hbmTy0_1 i
  | _ => ⟨S8208x384, .f32⟩

abbrev bufTy : (tb : Table) → Fin (tcTables nBuf tb) → BufTy
  | .hbm, ⟨i, _⟩ => hbmTy i
  | _, _ => ⟨S8208x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_call2_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_9 : Ref sig .tc := ⟨.hbm, 91, rfl⟩
abbrev main_v70 : Ref sig .tc := ⟨.hbm, 92, rfl⟩
abbrev main_v71 : Ref sig .tc := ⟨.hbm, 93, rfl⟩
abbrev main_cst_10 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_c_11 : Ref sig .tc := ⟨.hbm, 119, rfl⟩
abbrev main_call3_v0 : Ref sig .tc := ⟨.hbm, 120, rfl⟩
abbrev main_v96 : Ref sig .tc := ⟨.hbm, 121, rfl⟩
abbrev main_c_12 : Ref sig .tc := ⟨.hbm, 122, rfl⟩
abbrev main_call4_v0 : Ref sig .tc := ⟨.hbm, 123, rfl⟩
abbrev main_v97 : Ref sig .tc := ⟨.hbm, 124, rfl⟩
abbrev main_c_13 : Ref sig .tc := ⟨.hbm, 125, rfl⟩
abbrev main_call5_v0 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩

abbrev nD : Nat := 1
abbrev τ : Topo := Topo.v7x

variable {F : FTy → Type} [FloatOps F]
-- ==== Proof.Reals.lean ====
/-
  Extended reals that are real numbers: the literals, the operations and the sums of the ideal instance read at them.
-/
module

public import Idealize.ShloMosaic.Lib.Pipeline.Value
public import Idealize.ShloMosaic.PureOps.Ideal.Laws
public import Idealize.ShloMosaic.Lib.ValueIdx
public import Idealize.ShloMosaic.Lib.Pointwise

@[expose] public section

set_option maxRecDepth 16384

noncomputable section

namespace Cert.Reals

open Idealize.ShloMosaic Idealize.ShloMosaic.ValueIdx

/-- An extended real whose absolute value is below `⊤` is a real number. -/
theorem of_abs_lt_top {x : EReal} (h : Ideal.cmp .olt (max x (-x)) ⊤ = 1#1) : ∃ r : ℝ, x = (r : EReal) := by
  have h' : max x (-x) < ⊤ := by
    by_contra hn
    simp [Ideal.cmp, hn] at h
  induction x with
  | bot => simp at h'
  | top => simp at h'
  | coe r => exact ⟨r, rfl⟩

/-- Both bits of a conjunction that is one are one. -/
theorem and_one {x y : BitVec 1} (h : IntOp.andi x y = 1#1) : x = 1#1 ∧ y = 1#1 := by
  revert x y; decide

theorem inf_f32 : Ideal.ofBits .f32 0x7F800000#32 = ⊤ := by simp [Ideal.ofBits, Ideal.ieee]
theorem neg_inf_f32 : Ideal.ofBits .f32 0xFF800000#32 = ⊥ := by simp [Ideal.ofBits, Ideal.ieee]
theorem zero_f32 : Ideal.ofBits .f32 0x00000000#32 = ((0 : ℝ) : EReal) := by simp [Ideal.ofBits, Ideal.ieee]
theorem one_f32 : Ideal.ofBits .f32 0x3F800000#32 = ((1 : ℝ) : EReal) := by
  simp [Ideal.ofBits, Ideal.ieee, -EReal.coe_mul]; norm_num

/-- A quotient of reals by a real that is not zero. -/
theorem div_coe_coe {x y : ℝ} (h : y ≠ 0) : Ideal.div (x : EReal) (y : EReal) = ((x / y : ℝ) : EReal) := by
  rw [Ideal.div_coe h, ← EReal.coe_mul]; congr 1; ring

/-- A finite sum of reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of reals over a finite set that is not empty, from `⊥`, is a real. -/
theorem fold_max_coe {ι : Type*} (s : Finset ι) (hs : s.Nonempty) (f : ι → ℝ) :
    ∃ M : ℝ, s.fold max (⊥ : EReal) (fun i => ((f i : ℝ) : EReal)) = (M : EReal) := by
  classical
  induction hs using Finset.Nonempty.cons_induction with
  | singleton a => exact ⟨f a, by simp⟩
  | cons a s ha hs ih =>
    obtain ⟨M, hM⟩ := ih
    refine ⟨max (f a) M, ?_⟩
    rw [Finset.fold_cons, hM]
    exact (EReal.coe_strictMono.monotone.map_max).symm

/-- A table of reals as an array of extended reals. -/
def lift1 {n : Nat} (a : Fin n → ℝ) : (⟨1, ![n]⟩ : Shape).Idx → EReal := fun i => ((a (i 0) : ℝ) : EReal)
def lift2 {n m : Nat} (a : Fin n → Fin m → ℝ) : (⟨2, ![n, m]⟩ : Shape).Idx → EReal := fun i => ((a (i 0) (i 1) : ℝ) : EReal)
def lift3 {n m k : Nat} (a : Fin n → Fin m → Fin k → ℝ) : (⟨3, ![n, m, k]⟩ : Shape).Idx → EReal :=
  fun i => ((a (i 0) (i 1) (i 2) : ℝ) : EReal)

theorem lift1_apply {n : Nat} (a : Fin n → ℝ) (r : Fin n) : lift1 a (Idealize.ShloMosaic.ix1 r) = ((a r : ℝ) : EReal) := rfl
theorem lift2_apply {n m : Nat} (a : Fin n → Fin m → ℝ) (r : Fin n) (c : Fin m) :
    lift2 a (Idealize.ShloMosaic.ix2 r c) = ((a r c : ℝ) : EReal) := rfl
theorem lift3_apply {n m k : Nat} (a : Fin n → Fin m → Fin k → ℝ) (r : Fin n) (c : Fin m) (d : Fin k) :
    lift3 a (Idealize.ShloMosaic.ix3 r c d) = ((a r c d : ℝ) : EReal) := rfl

theorem exists_ix1 {n : Nat} (i : (⟨1, ![n]⟩ : Shape).Idx) : ∃ r, i = Idealize.ShloMosaic.ix1 r :=
  ⟨i 0, by funext d; match d with | ⟨0, _⟩ => rfl⟩
theorem exists_ix2 {n m : Nat} (i : (⟨2, ![n, m]⟩ : Shape).Idx) : ∃ r c, i = Idealize.ShloMosaic.ix2 r c :=
  ⟨i 0, i 1, by funext d; match d with | ⟨0, _⟩ => rfl | ⟨1, _⟩ => rfl⟩
theorem exists_ix3 {n m k : Nat} (i : (⟨3, ![n, m, k]⟩ : Shape).Idx) : ∃ r c d, i = Idealize.ShloMosaic.ix3 r c d :=
  ⟨i 0, i 1, i 2, by funext d; match d with | ⟨0, _⟩ => rfl | ⟨1, _⟩ => rfl | ⟨2, _⟩ => rfl⟩

/-- An array whose every entry is a real is a table of reals. -/
theorem eq_lift1 {n : Nat} (x : (⟨1, ![n]⟩ : Shape).Idx → EReal) (h : ∀ i, ∃ r : ℝ, x i = (r : EReal)) : ∃ a, x = lift1 a := by
  choose f hf using h
  refine ⟨fun r => f (Idealize.ShloMosaic.ix1 r), funext fun i => ?_⟩
  obtain ⟨r, rfl⟩ := exists_ix1 i
  exact hf _
theorem eq_lift2 {n m : Nat} (x : (⟨2, ![n, m]⟩ : Shape).Idx → EReal) (h : ∀ i, ∃ r : ℝ, x i = (r : EReal)) : ∃ a, x = lift2 a := by
  choose f hf using h
  refine ⟨fun r c => f (Idealize.ShloMosaic.ix2 r c), funext fun i => ?_⟩
  obtain ⟨r, c, rfl⟩ := exists_ix2 i
  exact hf _
theorem eq_lift3 {n m k : Nat} (x : (⟨3, ![n, m, k]⟩ : Shape).Idx → EReal) (h : ∀ i, ∃ r : ℝ, x i = (r : EReal)) :
    ∃ a, x = lift3 a := by
  choose f hf using h
  refine ⟨fun r c d => f (Idealize.ShloMosaic.ix3 r c d), funext fun i => ?_⟩
  obtain ⟨r, c, d, rfl⟩ := exists_ix3 i
  exact hf _

/-- One over 2^10, the norm's small constant and minus a half, as the literals hold them. -/
theorem f32_1024 : Ideal.ofBits .f32 0x44800000#32 = ((1024 : ℝ) : EReal) := by
  simp [Ideal.ofBits, Ideal.ieee, -EReal.coe_mul]; norm_num
theorem half_neg_f32 : Ideal.ofBits .f32 0xBF000000#32 = ((-(1 / 2) : ℝ) : EReal) := by
  simp [Ideal.ofBits, Ideal.ieee, -EReal.coe_mul, -EReal.coe_neg]; norm_num
def eps : ℝ := 8796093 / 8796093022208
theorem eps_pos : 0 < eps := by norm_num [eps]
theorem eps_f32 : Ideal.ofBits .f32 0x358637BD#32 = ((eps : ℝ) : EReal) := by
  simp [Ideal.ofBits, Ideal.ieee, -EReal.coe_mul, eps]; norm_num

theorem rsqrt_pos {x : ℝ} (h : 0 < x) : Ideal.rsqrt (x : EReal) = (((√x)⁻¹ : ℝ) : EReal) := by
  rw [Ideal.rsqrt_coe, if_neg (not_lt.mpr h.le), if_neg h.ne']

/-- A table continued by zeros below its last row. -/
def ext {n m : Nat} (a : Fin n → Fin m → ℝ) (r : Nat) : Fin m → ℝ := fun j => if h : r < n then a ⟨r, h⟩ j else 0
theorem ext_lt {n m : Nat} (a : Fin n → Fin m → ℝ) {r : Nat} (h : r < n) : ext a r = a ⟨r, h⟩ := funext fun _ => dif_pos h
theorem ext_fin {n m : Nat} (a : Fin n → Fin m → ℝ) (r : Fin n) : ext a r.val = a r := ext_lt a r.isLt
theorem ext_ge {n m : Nat} (a : Fin n → Fin m → ℝ) {r : Nat} (h : ¬r < n) : ext a r = fun _ => 0 := funext fun _ => dif_neg h

/-- The sum over the tiles of the sums over a tile's rows is the sum over all rows. -/
theorem sum_tiles (b T : Nat) (f : Nat → ℝ) : ∑ t ∈ Finset.range T, ∑ r : Fin b, f (b * t + r.val) = ∑ n ∈ Finset.range (b * T), f n := by
  induction T with
  | zero => simp
  | succ T ih => rw [Finset.sum_range_succ, ih, Nat.mul_succ, Finset.sum_range_add, Finset.sum_range (fun x => f (b * T + x))]

/-- Rows that add nothing may be left out of a sum. -/
theorem sum_rows {n k : Nat} (h : n ≤ k) (f : Nat → ℝ) (hf : ∀ r, n ≤ r → f r = 0) : ∑ r ∈ Finset.range k, f r = ∑ r : Fin n, f r.val := by
  rw [← Finset.sum_range]
  symm
  refine Finset.sum_subset (Finset.range_mono h) fun r _ hr => hf r ?_
  simpa using hr

theorem sitofp_zero : FloatOps.sitofp (F := Ideal) .f32 0#32 = (0 : EReal) := by
  show (((0#32 : BitVec 32).toInt : ℝ) : EReal) = 0
  simp

/-- An array continued by zeros below its last row. -/
def grown {n k m : Nat} (x : (⟨2, ![n, m]⟩ : Shape).Idx → EReal) : (⟨2, ![k, m]⟩ : Shape).Idx → EReal :=
  fun i => if h : (i 0).val < n then x (Idealize.ShloMosaic.ix2 ⟨(i 0).val, h⟩ (i 1)) else 0
theorem grown_lt {n k m : Nat} (x : (⟨2, ![n, m]⟩ : Shape).Idx → EReal) (r : Fin k) (j : Fin m) (h : r.val < n) :
    grown x (Idealize.ShloMosaic.ix2 r j) = x (Idealize.ShloMosaic.ix2 ⟨r.val, h⟩ j) := dif_pos h
theorem grown_ge {n k m : Nat} (x : (⟨2, ![n, m]⟩ : Shape).Idx → EReal) (r : Fin k) (j : Fin m) (h : ¬r.val < n) :
    grown x (Idealize.ShloMosaic.ix2 r j) = 0 := dif_neg h
theorem grown_lift {n k m : Nat} (a : Fin n → Fin m → ℝ) : grown (k := k) (lift2 a) = lift2 fun r : Fin k => ext a r.val := by
  funext i
  obtain ⟨r, j, rfl⟩ := exists_ix2 i
  by_cases h : r.val < n
  · rw [grown_lt _ _ _ h, lift2_apply, lift2_apply, ext_lt a h]
  · rw [grown_ge _ _ _ h, lift2_apply, ext_ge a h]; rfl

/-! ### The norm of a row -/

/-- The mean square of a row with the small constant added, and one over its root. -/
def ms (x : Fin 1024 → ℝ) : ℝ := (∑ k, x k * x k) / 1024 + eps
def rs (x : Fin 1024 → ℝ) : ℝ := (√(ms x))⁻¹

theorem ms_pos (x : Fin 1024 → ℝ) : 0 < ms x :=
  add_pos_of_nonneg_of_pos (div_nonneg (Finset.sum_nonneg fun k _ => mul_self_nonneg (x k)) (by norm_num)) eps_pos

theorem rs_sq (x : Fin 1024 → ℝ) : rs x * rs x = (ms x)⁻¹ := by
  rw [rs, ← mul_inv, Real.mul_self_sqrt (ms_pos x).le]

/-- What a row of the norm's gradient adds, and what it gives the weights. -/
def dx (x w g : Fin 1024 → ℝ) (j : Fin 1024) : ℝ :=
  rs x * (g j * w j - x j * rs x * ((∑ k, g k * w k * (x k * rs x)) / 1024))
def dw (x g : Fin 1024 → ℝ) (j : Fin 1024) : ℝ := g j * (x j * rs x)

end Cert.Reals

end
-- ==== Proof.Lb.lean ====
/-
  The gradient of the forget gate's lower bounds: the kernel and the derivative give one function of real arguments.
-/
module

public import proofs.«01_k».proof.Proof.Gen.LbIdeal.Value
public import proofs.«01_k».proof.Proof.Gen.LbRefIdeal.Read
public import proofs.«01_k».proof.Proof.Gen.Pre_lb_finite
public import proofs.«01_k».proof.Proof.Reals

@[expose] public section

set_option maxRecDepth 16384

noncomputable section

namespace Cert.LbTie

open Idealize.ShloMosaic Idealize.SL.Sem Cert.Reals
open Cert.LbIdeal Cert.LbIdeal.Gen Cert.LbIdeal.Value

/-- The largest of a column. -/
def top (a : Fin 4 → Fin 512 → ℝ) (c : Fin 512) : ℝ :=
  (fold_max_coe Finset.univ Finset.univ_nonempty fun r => a r c).choose

theorem top_eq (a : Fin 4 → Fin 512 → ℝ) (c : Fin 512) :
    (Finset.univ : Finset (Fin 4)).fold max (⊥ : EReal) (fun r => ((a r c : ℝ) : EReal)) = (top a c : EReal) :=
  (fold_max_coe Finset.univ Finset.univ_nonempty fun r => a r c).choose_spec

/-- The shifted exponential of an entry. -/
def ex (a : Fin 4 → Fin 512 → ℝ) (r : Fin 4) (c : Fin 512) : ℝ := Real.exp (a r c - top a c)

theorem ex_eq (a : Fin 4 → Fin 512 → ℝ) (r : Fin 4) (c : Fin 512) :
    Ideal.exp (((a r c : ℝ) : EReal) - (top a c : EReal)) = ((ex a r c : ℝ) : EReal) := by
  rw [← EReal.coe_sub, Ideal.exp_coe]; rfl

theorem sum_ex_ne (a : Fin 4 → Fin 512 → ℝ) (c : Fin 512) : (∑ r, ex a r c) ≠ 0 :=
  (Finset.sum_pos (fun _ _ => Real.exp_pos _) Finset.univ_nonempty).ne'

/-- The softmax of a column. -/
def soft (a : Fin 4 → Fin 512 → ℝ) (r : Fin 4) (c : Fin 512) : ℝ := ex a r c / ∑ r, ex a r c

/-- The cotangent of the softmax: row 0 gets nothing, a later row the rows at or after it. -/
def dsoft (b : Fin 4 → Fin 512 → ℝ) : Fin 4 → Fin 512 → ℝ :=
  ![fun _ => 0, fun c => b 1 c + b 2 c + b 3 c, fun c => b 2 c + b 3 c, fun c => b 3 c]

/-- The gradient. -/
def grad (a b : Fin 4 → Fin 512 → ℝ) (r : Fin 4) (c : Fin 512) : ℝ :=
  soft a r c * (dsoft b r c - ∑ k, dsoft b k c * soft a k c)

variable (a b : Fin 4 → Fin 512 → ℝ)

/-! ### The kernel -/

theorem pay2 : k0_pay2 (F := Ideal) (lift2 a) = lift2 (soft a) := by
  funext i
  obtain ⟨r, c, rfl⟩ := exists_ix2 i
  unfold_payloads
  pointwise [neg_inf_f32, lift2_apply, top_eq, ex_eq, sum_coe, div_coe_coe (sum_ex_ne a _)]
  rfl

theorem pay7 (c : Fin 512) : k0_pay7 (F := Ideal) (lift2 a) (lift2 b) (ix2 0 c) = ((∑ k, dsoft b k c * soft a k c : ℝ) : EReal) := by
  unfold k0_pay7 k0_pay6 k0_pay5 k0_pay4 k0_pay3
  rw [pay2]
  pointwise [lift2_apply]
  rw [Fin.sum_univ_four]
  simp only [dsoft, Matrix.cons_val, ← EReal.coe_add, ← EReal.coe_mul, zero_mul, zero_add]

theorem kernel : G2 (F := Ideal) (lift2 a) (lift2 b) = lift2 (grad a b) := by
  funext y
  refine View.canon_apply_of_pieces (Val := Elt Ideal) (e := .f32) (lift2 (grad a b)) _ ?_ y (cover0_2 _ _ _ _ y)
  intro p hp x
  simp only [List.mem_cons, List.not_mem_nil, or_false] at hp
  rcases hp with rfl | rfl | rfl | rfl <;> obtain ⟨z, c, rfl⟩ := exists_ix2 (n := 1) (m := 512) x <;> obtain rfl : z = 0 := Subsingleton.elim _ _
  · refine Eq.trans (b := (grad a b 3 c : EReal)) ?_ (by rw [← lift2_apply]; congr 1; idx_ext)
    unfold k0_pay1 k0_pay6
    rw [pay2]
    pointwise [lift2_apply, pay7]
    simp only [grad, dsoft, Matrix.cons_val, ← EReal.coe_sub, ← EReal.coe_mul]
  · refine Eq.trans (b := (grad a b 2 c : EReal)) ?_ (by rw [← lift2_apply]; congr 1; idx_ext)
    unfold k0_pay10 k0_pay5
    rw [pay2]
    pointwise [lift2_apply, pay7]
    simp only [grad, dsoft, Matrix.cons_val, ← EReal.coe_sub, ← EReal.coe_mul, ← EReal.coe_add]
  · refine Eq.trans (b := (grad a b 1 c : EReal)) ?_ (by rw [← lift2_apply]; congr 1; idx_ext)
    unfold k0_pay9 k0_pay4
    rw [pay2]
    pointwise [lift2_apply, pay7]
    simp only [grad, dsoft, Matrix.cons_val, ← EReal.coe_sub, ← EReal.coe_mul, ← EReal.coe_add]
  · refine Eq.trans (b := (grad a b 0 c : EReal)) ?_ (by rw [← lift2_apply]; congr 1; idx_ext)
    unfold k0_pay8 k0_pay3
    rw [pay2]
    pointwise [lift2_apply, pay7]
    simp only [grad, dsoft, Matrix.cons_val, ← EReal.coe_zero, ← EReal.coe_sub, ← EReal.coe_mul, ← EReal.coe_add]

/-! ### The derivative -/

theorem ref20 (r : Fin 4) (c : Fin 512) : LbRefIdeal.Read.val_main_v20 (F := Ideal) (lift2 a) (ix2 r c) = ((ex a r c : ℝ) : EReal) := by
  unfold LbRefIdeal.Read.val_main_v20 LbRefIdeal.Read.val_main_v19 LbRefIdeal.Read.val_main_v18 LbRefIdeal.Read.val_main_v17 LbRefIdeal.Read.val_main_v7 LbRefIdeal.Read.val_main_v6 LbRefIdeal.Read.val_main_v0 LbRefIdeal.Read.val_main_cst_1 LbRefIdeal.Read.val_main_cst
  pointwise [neg_inf_f32, lift2_apply, top_eq, max_eq_right bot_le, ex_eq]

theorem ref22 (c : Fin 512) : LbRefIdeal.Read.val_main_v22 (F := Ideal) (lift2 a) (ix2 0 c) = ((∑ r, ex a r c : ℝ) : EReal) := by
  unfold LbRefIdeal.Read.val_main_v22 LbRefIdeal.Read.val_main_v21 LbRefIdeal.Read.val_main_cst_7
  pointwise [ref20, sum_coe]

/-- The row-major positions of a window of four rows. -/
theorem window_pos : ∀ n : Fin (Shape.numel ⟨2, ![4, 1]⟩),
    ((Shape.rowMajor ⟨2, ![4, 1]⟩).symm n 0).val = n.val ∧ ((Shape.rowMajor ⟨2, ![4, 1]⟩).symm n 1).val = 0 := by decide +kernel

/-- The sum over the window: the rows at or after the row. -/
theorem window (r : Fin 4) (c : Fin 512) :
    Ideal.hostReduceWindowAdd ![4, 1] ![1, 1] ![0, 0] ![3, 0] LbRefIdeal.Gen.reduceWindows_S4x512_S4x512_w4s1p0_3_w1s1p0_0 (lift2 b) 0 (ix2 r c)
      = (![((b 0 c + b 1 c + b 2 c + b 3 c : ℝ) : EReal), ((b 1 c + b 2 c + b 3 c : ℝ) : EReal), ((b 2 c + b 3 c : ℝ) : EReal), ((b 3 c : ℝ) : EReal)] : Fin 4 → EReal) r := by
  have key : ∀ n : Fin (Shape.numel ⟨2, ![4, 1]⟩), ∀ p : Fin 2 → Nat, ∀ inst : Decidable (∀ a : Fin 2, (![0, 0] : Fin 2 → Nat) a ≤ p a ∧ p a - (![0, 0] : Fin 2 → Nat) a < S4x512.size a),
      (∀ a, p a = ((ix2 r c : S4x512.Idx) a).val * ![1, 1] a + ((Shape.rowMajor ⟨2, ![4, 1]⟩).symm n a).val) →
      @dite EReal (∀ a : Fin 2, (![0, 0] : Fin 2 → Nat) a ≤ p a ∧ p a - (![0, 0] : Fin 2 → Nat) a < S4x512.size a) inst
        (fun hin => lift2 b (fun a => ⟨p a - (![0, 0] : Fin 2 → Nat) a, (hin a).2⟩)) (fun _ => (0 : EReal))
      = if h : r.val + n.val < 4 then ((b ⟨r.val + n.val, h⟩ c : ℝ) : EReal) else 0 := by
    intro n p inst hp
    have h0 : p 0 = r.val + n.val := (hp 0).trans (by rw [(window_pos n).1]; simp)
    have h1 : p 1 = c.val := (hp 1).trans (by rw [(window_pos n).2]; simp)
    by_cases h : r.val + n.val < 4
    · rw [dif_pos h, dif_pos (fun a => by fin_cases a <;> simp [h0, h1] <;> omega), ← lift2_apply]
      congr 1
      funext a; apply Fin.ext
      fin_cases a
      · simp [h0]
      · simp [h1]
    · rw [dif_neg h, dif_neg]
      intro hin
      have := (hin 0).2
      simp [h0] at this
      omega
  unfold Ideal.hostReduceWindowAdd Host.reduceWindow
  refine (List.foldl_ext _ (fun acc n => acc + if h : r.val + n.val < 4 then ((b ⟨r.val + n.val, h⟩ c : ℝ) : EReal) else 0) _ fun acc n _ => ?_).trans ?_
  · exact congrArg (acc + ·) (key n _ _ fun a => rfl)
  show List.foldl (fun (acc : EReal) (n : Fin 4) => acc + if h : r.val + n.val < 4 then ((b ⟨r.val + n.val, h⟩ c : ℝ) : EReal) else 0) 0 (List.finRange 4) = _
  fin_cases r <;> simp [List.finRange_succ]

theorem cum (r : Fin 4) (c : Fin 512) : LbRefIdeal.Read.val_main_v38 (F := Ideal) (lift2 b) (ix2 r c) = ((dsoft b r c : ℝ) : EReal) := by
  unfold LbRefIdeal.Read.val_main_v38 LbRefIdeal.Read.val_main_v37 LbRefIdeal.Read.val_main_v36
  unfold LbRefIdeal.Read.val_main_v35 LbRefIdeal.Read.val_main_v34 LbRefIdeal.Read.val_main_v33 LbRefIdeal.Read.val_main_v32
    LbRefIdeal.Read.val_main_cst_9 LbRefIdeal.Read.val_main_cst_10 LbRefIdeal.Read.val_main_call1_call0_v0 LbRefIdeal.Read.val_main_call1_call0_cst
  pointwise [Host.reduceWindowAdd, lift2_apply]
  rw [Ideal.hostReduceWindowAdd_def, window]
  fin_cases r <;> simp [dsoft, Fin.sum_univ_four, ← EReal.coe_neg, ← EReal.coe_add]
  ring

theorem ref : LbRefIdeal.Read.val_main_v50 (F := Ideal) (lift2 a) (lift2 b) = lift2 (grad a b) := by
  funext i
  obtain ⟨r, c, rfl⟩ := exists_ix2 i
  unfold LbRefIdeal.Read.val_main_v50 LbRefIdeal.Read.val_main_v49 LbRefIdeal.Read.val_main_v48 LbRefIdeal.Read.val_main_v47 LbRefIdeal.Read.val_main_v46 LbRefIdeal.Read.val_main_v45
    LbRefIdeal.Read.val_main_v44 LbRefIdeal.Read.val_main_v43 LbRefIdeal.Read.val_main_v42 LbRefIdeal.Read.val_main_v41 LbRefIdeal.Read.val_main_v40 LbRefIdeal.Read.val_main_v39 LbRefIdeal.Read.val_main_v27
    LbRefIdeal.Read.val_main_v26 LbRefIdeal.Read.val_main_v25 LbRefIdeal.Read.val_main_cst_8 LbRefIdeal.Read.val_main_cst_11 LbRefIdeal.Read.val_main_cst_12
  have hs := sum_ex_ne a c
  pointwise [ref20, ref22, cum, lift2_apply, one_f32]
  simp only [← EReal.coe_mul, div_coe_coe hs, div_coe_coe (mul_ne_zero hs hs), sum_coe, ← EReal.coe_neg, Fin.sum_univ_one, ← EReal.coe_add]
  congr 1
  have hd : ∑ k, dsoft b k c * (1 / ((∑ r, ex a r c) * ∑ r, ex a r c)) * ex a k c
      = (∑ k, dsoft b k c * soft a k c) / ∑ r, ex a r c := by
    rw [Finset.sum_div]
    refine Finset.sum_congr rfl fun k _ => ?_
    unfold soft
    field_simp
  rw [hd, grad, soft]
  field_simp
  ring

theorem pre_real (x y : Vec Ideal S4x512 .f32) (h : Pre_lb_finite.fn (F := Ideal) x y = fun _ => 1#1) :
    (∃ a, x = lift2 a) ∧ ∃ b, y = lift2 b := by
  have h' := fun i => congrFun h i
  unfold Pre_lb_finite.fn at h'
  have h2 : ∀ i, Ideal.cmp .olt (max (x i) (-(x i))) ⊤ = 1#1 ∧ Ideal.cmp .olt (max (y i) (-(y i))) ⊤ = 1#1 := fun i => by
    have := h' i
    rw [← inf_f32]
    exact and_one this
  exact ⟨eq_lift2 x fun i => of_abs_lt_top (h2 i).1, eq_lift2 y fun i => of_abs_lt_top (h2 i).2⟩

end Cert.LbTie

end
-- ==== Proof.Norm.lean ====
/-
  The gradient of a norm over its rows: the kernel and the derivative give one function of real arguments.
-/
module

public import proofs.«01_k».proof.Proof.Gen.NormIdeal.Value
public import proofs.«01_k».proof.Proof.Gen.NormRefIdeal.Read
public import proofs.«01_k».proof.Proof.Gen.Pre_norm_finite
public import proofs.«01_k».proof.Proof.Reals
public import Idealize.ShloMosaic.Lib.StableHlo.ReadAt
public import Idealize.ShloMosaic.Lib.Pipeline.ValueKit

@[expose] public section

set_option maxRecDepth 16384

noncomputable section

namespace Cert.NormTie

open Idealize.ShloMosaic Idealize.SL.Sem Cert.Reals
open Cert.NormIdeal Cert.NormIdeal.Gen Cert.NormIdeal.Value

/-! ### One block -/

section block
variable (a g : Fin 768 → Fin 1024 → ℝ) (w : Fin 1 → Fin 1024 → ℝ)

theorem pay4 (r : Fin 768) (z : Fin 1) : k0_pay4 (F := Ideal) (lift2 a) (ix2 r z) = ((rs (a r) : ℝ) : EReal) := by
  obtain rfl : z = 0 := Subsingleton.elim _ _
  unfold_payloads
  pointwise [lift2_apply, f32_1024, eps_f32, zero_f32]
  simp only [← EReal.coe_mul, sum_coe, ← EReal.coe_add, div_coe_coe (by norm_num : (1024 : ℝ) ≠ 0), zero_add]
  exact rsqrt_pos (ms_pos (a r))

theorem pay5 (r : Fin 768) (j : Fin 1024) : k0_pay5 (F := Ideal) (lift2 a) (ix2 r j) = ((a r j * rs (a r) : ℝ) : EReal) := by
  unfold k0_pay5 k0_pay2
  pointwise [lift2_apply, pay4]
  rw [EReal.coe_mul]

theorem pay6 (z : Fin 1) (j : Fin 1024) : k0_pay6 (F := Ideal) (lift2 a) (lift2 g) (ix2 z j) = ((∑ r, dw (a r) (g r) j : ℝ) : EReal) := by
  obtain rfl : z = 0 := Subsingleton.elim _ _
  unfold k0_pay6 k0_pay3
  pointwise [lift2_apply, pay5, zero_f32]
  simp only [← EReal.coe_mul, sum_coe, ← EReal.coe_add, zero_add, dw]

theorem pay7 (x : Vec Ideal S768x1024 .f32) (r : Fin 768) (j : Fin 1024) :
    k0_pay7 (F := Ideal) (lift2 a) (lift2 w) (lift2 g) x (ix2 r j) = x (ix2 r j) + ((dx (a r) (w 0) (g r) j : ℝ) : EReal) := by
  unfold k0_pay7 k0_pay3
  pointwise [lift2_apply, pay4, pay5, f32_1024, zero_f32]
  simp only [← EReal.coe_mul, sum_coe, ← EReal.coe_add, ← EReal.coe_sub, div_coe_coe (by norm_num : (1024 : ℝ) ≠ 0), zero_add, dx]

end block

/-! ### The arrays that the kernel finds -/

variable (m : (ℓ : Loc nD τ sig) → Buf (Elt Ideal) ℓ) (c : Dev nD)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![t.val, 0] := by decide +kernel
theorem index5 : ∀ t : Fin cfg0.N, win0_5.index t = ![0, 0] := by decide +kernel

theorem V0 : (V m c main_v0 : S8448x1024.Idx → EReal) = grown (m ((c.tc : Thread nD τ).loc main_arg0)) := by
  funext i
  obtain ⟨r, j, rfl⟩ := exists_ix2 i
  unfold V
  after_reads_at
  rw [sitofp_zero]
  rfl
theorem V1 : (V m c main_v1 : S8448x1024.Idx → EReal) = grown (m ((c.tc : Thread nD τ).loc main_arg2)) := by
  funext i
  obtain ⟨r, j, rfl⟩ := exists_ix2 i
  unfold V
  after_reads_at
  rw [sitofp_zero]
  rfl
theorem V2 : (V m c main_v2 : S8448x1024.Idx → EReal) = grown (m ((c.tc : Thread nD τ).loc main_arg3)) := by
  funext i
  obtain ⟨r, j, rfl⟩ := exists_ix2 i
  unfold V
  after_reads_at
  rw [sitofp_zero]
  rfl

theorem out4 (t : Fin cfg0.N) : (outsAt0 m c t.val t.isLt).1 = k0_pay7 (iblk m c 0 t) (iblk m c 1 t) (iblk m c 2 t) (iblk m c 3 t) := by
  by_cases h0 : t.val % 11 = 0
  · rw [outsAt0_A m c t h0]
    frame_out
  · rw [outsAt0_B m c t h0]
    frame_out

theorem out5_A (t : Fin cfg0.N) (h0 : t.val % 11 = 0) :
    (outsAt0 m c t.val t.isLt).2 = k0_pay1 (F := Ideal) (k0_pay6 (iblk m c 0 t) (iblk m c 2 t)) (k0_pay8 (F := Ideal)) := by
  rw [outsAt0_A m c t h0]
  frame_out

theorem out5_B (t : Fin cfg0.N) (h0 : ¬t.val % 11 = 0) : (outsAt0 m c t.val t.isLt).2
    = k0_pay1 (F := Ideal) (k0_pay6 (iblk m c 0 t) (iblk m c 2 t)) (outsAt0 m c (t.val - 1) (Nat.lt_of_le_of_lt (Nat.sub_le _ _) t.isLt)).2 := by
  rw [outsAt0_B m c t h0]
  frame_out

/-! ### The kernel -/

variable (a g : Fin 8208 → Fin 1024 → ℝ) (w : Fin 1 → Fin 1024 → ℝ)

/-- The rows of a tile. -/
def tile (t : Nat) (r : Fin 768) : Fin 1024 → ℝ := ext a (768 * t + r.val)

theorem points (t : Fin cfg0.N) : t.val < 11 := lt_of_lt_of_eq t.isLt N_0

/-- Row `r` of tile `t`. -/
def row (t : Fin cfg0.N) (r : Fin 768) : Fin 8448 := ⟨768 * t.val + r.val, by have := points t; omega⟩

theorem emb0 (t : Fin cfg0.N) (r : Fin 768) (j : Fin 1024) : (win0_0.blk t).view.emb (ix2 r j) = (ix2 (row t r) j : S8448x1024.Idx) := by
  funext d
  apply Fin.ext
  match d with
  | ⟨0, _⟩ => blk_simp [index0]; exact congrArg (· + r.val) (mul_comm _ _)
  | ⟨1, _⟩ => blk_simp [index0]
theorem emb2 (t : Fin cfg0.N) (r : Fin 768) (j : Fin 1024) : (win0_2.blk t).view.emb (ix2 r j) = (ix2 (row t r) j : S8448x1024.Idx) := emb0 t r j
theorem emb3 (t : Fin cfg0.N) (r : Fin 768) (j : Fin 1024) : (win0_3.blk t).view.emb (ix2 r j) = (ix2 (row t r) j : S8448x1024.Idx) := emb0 t r j
theorem emb4 (t : Fin cfg0.N) (r : Fin 768) (j : Fin 1024) : (win0_4.blk t).view.emb (ix2 r j) = (ix2 (row t r) j : S8448x1024.Idx) := emb0 t r j
theorem emb1 (t : Fin cfg0.N) (r : Fin 1) (j : Fin 1024) : (win0_1.blk t).view.emb (ix2 r j) = (ix2 r j : S1x1024.Idx) := by
  funext d
  apply Fin.ext
  match d with
  | ⟨0, _⟩ => blk_simp [index1]
  | ⟨1, _⟩ => blk_simp [index1]

theorem blk0 (h : m ((c.tc : Thread nD τ).loc main_arg0) = lift2 a) (t : Fin cfg0.N) :
    (iblk m c 0 t : S768x1024.Idx → EReal) = lift2 (tile a t.val) := by
  funext y
  obtain ⟨r, j, rfl⟩ := exists_ix2 y
  show (V m c main_v0 : S8448x1024.Idx → EReal) ((win0_0.blk t).view.emb (ix2 r j)) = _
  rw [V0, h, grown_lift, emb0]
  rfl
theorem blk1 (h : m ((c.tc : Thread nD τ).loc main_arg1) = lift2 w) (t : Fin cfg0.N) : (iblk m c 1 t : S1x1024.Idx → EReal) = lift2 w := by
  funext y
  obtain ⟨r, j, rfl⟩ := exists_ix2 y
  show (V m c main_arg1 : S1x1024.Idx → EReal) ((win0_1.blk t).view.emb (ix2 r j)) = _
  rw [V_main_arg1, h, emb1]
theorem blk2 (h : m ((c.tc : Thread nD τ).loc main_arg2) = lift2 g) (t : Fin cfg0.N) :
    (iblk m c 2 t : S768x1024.Idx → EReal) = lift2 (tile g t.val) := by
  funext y
  obtain ⟨r, j, rfl⟩ := exists_ix2 y
  show (V m c main_v1 : S8448x1024.Idx → EReal) ((win0_2.blk t).view.emb (ix2 r j)) = _
  rw [V1, h, grown_lift, emb2]
  rfl
theorem blk3 (t : Fin cfg0.N) (r : Fin 768) (j : Fin 1024) :
    (iblk m c 3 t : S768x1024.Idx → EReal) (ix2 r j) = grown (m ((c.tc : Thread nD τ).loc main_arg3)) (ix2 (row t r) j : S8448x1024.Idx) := by
  show (V m c main_v2 : S8448x1024.Idx → EReal) ((win0_3.blk t).view.emb (ix2 r j)) = _
  rw [V2, emb3]

theorem pay1 (f : Fin 1 → Fin 1024 → ℝ) (i : S1x1024.Idx) (t : Nat) : k0_pay1 (F := Ideal) (k0_pay6 (lift2 (tile a t)) (lift2 (tile g t))) (lift2 f) i
    = ((f (i 0) (i 1) + ∑ r, dw (tile a t r) (tile g t r) (i 1) : ℝ) : EReal) := by
  obtain ⟨z, j, rfl⟩ := exists_ix2 i
  unfold k0_pay1
  pointwise [pay6, lift2_apply]
  rw [EReal.coe_add]

theorem outs5 (h0 : m ((c.tc : Thread nD τ).loc main_arg0) = lift2 a) (h2 : m ((c.tc : Thread nD τ).loc main_arg2) = lift2 g) :
    ∀ (n : Nat) (hn : n < cfg0.N), (outsAt0 m c n hn).2 = lift2 fun (_ : Fin 1) j => ∑ t ∈ Finset.range (n + 1), ∑ r, dw (tile a t r) (tile g t r) j := by
  intro n
  induction n with
  | zero =>
    intro hn
    have hz : k0_pay8 (F := Ideal) = lift2 fun _ _ => 0 := by
      funext i
      exact zero_f32
    rw [out5_A m c ⟨0, hn⟩ rfl, blk0 m c a h0, blk2 m c g h2, hz]
    funext i
    rw [pay1]
    simp only [zero_add, Finset.sum_range_one]
    rfl
  | succ n ih =>
    intro hn
    rw [out5_B m c ⟨n + 1, hn⟩ (by have := points ⟨n + 1, hn⟩; dsimp only at *; omega), blk0 m c a h0, blk2 m c g h2]
    show k0_pay1 (F := Ideal) _ (outsAt0 m c n _).2 = _
    rw [ih]
    funext i
    rw [pay1, ← Finset.sum_range_succ (fun t => ∑ r, dw (tile a t r) (tile g t r) (i 1))]
    rfl

theorem arr4 (h0 : m ((c.tc : Thread nD τ).loc main_arg0) = lift2 a) (h1 : m ((c.tc : Thread nD τ).loc main_arg1) = lift2 w)
    (h2 : m ((c.tc : Thread nD τ).loc main_arg2) = lift2 g) : (dats m 0 c).arrAt 4 cfg0.N
    = fun i : S8448x1024.Idx => grown (m ((c.tc : Thread nD τ).loc main_arg3)) i + lift2 (fun r : Fin 8448 => dx (ext a r.val) (w 0) (ext g r.val)) i := by
  refine (dats m 0 c).arrAt_eq_of_covers 4 _ (by decide +kernel) fun t hf y => ?_
  blk_simp
  rw [after0_4, out4, blk0 m c a h0, blk1 m c w h1, blk2 m c g h2]
  obtain ⟨r, j, rfl⟩ := exists_ix2 y
  rw [emb4]
  exact (pay7 _ _ _ _ r j).trans (by rw [blk3]; rfl)

theorem arr5 (h0 : m ((c.tc : Thread nD τ).loc main_arg0) = lift2 a) (h2 : m ((c.tc : Thread nD τ).loc main_arg2) = lift2 g) :
    (dats m 0 c).arrAt 5 cfg0.N = (lift2 fun _ j => ∑ r, dw (a r) (g r) j : S1x1024.Idx → EReal) := by
  refine (dats m 0 c).arrAt_eq_of_after_last 5 t0_10 (by decide +kernel) _ fun j => ?_
  blk_simp
  rw [after0_5, outs5 m c a g h0 h2]
  refine congrArg (fun r : ℝ => (r : EReal)) ?_
  have := sum_tiles 768 11 fun n => dw (ext a n) (ext g n) (j 1)
  refine this.trans ((sum_rows (n := 8208) (by norm_num) _ fun r hr => ?_).trans ?_)
  · exact (congrFun (congrArg (dw _) (ext_ge g (by omega))) _).trans (zero_mul _)
  · exact Finset.sum_congr rfl fun r _ => by rw [ext_fin, ext_fin]

/-! ### The derivative -/

theorem ref7 (r : Fin 8208) (z : Fin 1) : NormRefIdeal.Read.val_main_v7 (F := Ideal) (lift2 a) (ix2 r z) = ((rs (a r) : ℝ) : EReal) := by
  obtain rfl : z = 0 := Subsingleton.elim _ _
  open NormRefIdeal.Read in
  unfold val_main_v7 val_main_v6 val_main_v5 val_main_v4 val_main_v3 val_main_v2 val_main_v1 val_main_v0 val_main_cst val_main_cst_0 val_main_cst_1
  pointwise [lift2_apply, f32_1024, eps_f32, zero_f32]
  simp only [← EReal.coe_mul, sum_coe, ← EReal.coe_add, div_coe_coe (by norm_num : (1024 : ℝ) ≠ 0), zero_add]
  exact rsqrt_pos (ms_pos (a r))

theorem ref6 (r : Fin 8208) (z : Fin 1) : NormRefIdeal.Read.val_main_v6 (F := Ideal) (lift2 a) (ix2 r z) = ((ms (a r) : ℝ) : EReal) := by
  obtain rfl : z = 0 := Subsingleton.elim _ _
  open NormRefIdeal.Read in
  unfold val_main_v6 val_main_v5 val_main_v4 val_main_v3 val_main_v2 val_main_v1 val_main_v0 val_main_cst val_main_cst_0 val_main_cst_1
  pointwise [lift2_apply, f32_1024, eps_f32, zero_f32]
  simp only [← EReal.coe_mul, sum_coe, ← EReal.coe_add, div_coe_coe (by norm_num : (1024 : ℝ) ≠ 0), zero_add, ms]

theorem refw : NormRefIdeal.Read.val_main_v17 (F := Ideal) (lift2 a) (lift2 g) = lift2 fun _ j => ∑ r, dw (a r) (g r) j := by
  funext i
  obtain ⟨z, j, rfl⟩ := exists_ix2 i
  obtain rfl : z = 0 := Subsingleton.elim _ _
  open NormRefIdeal.Read in
  unfold val_main_v17 val_main_v16 val_main_v15 val_main_v12 val_main_v11 val_main_cst_3
  pointwise [lift2_apply, ref7, zero_f32]
  simp only [← EReal.coe_mul, sum_coe, ← EReal.coe_add, zero_add, dw]
  congr 1
  exact Finset.sum_congr rfl fun r _ => by ring

theorem ref34 (x : S8208x1024.Idx → EReal) (r : Fin 8208) (j : Fin 1024) : NormRefIdeal.Read.val_main_v34 (F := Ideal) (lift2 a) (lift2 w) (lift2 g) x (ix2 r j)
    = x (ix2 r j) + ((dx (a r) (w 0) (g r) j : ℝ) : EReal) := by
  open NormRefIdeal.Read in
  unfold val_main_v34 val_main_v33 val_main_v32 val_main_v31 val_main_v30 val_main_v29 val_main_v28 val_main_v27 val_main_v26 val_main_v25 val_main_v24 val_main_v23 val_main_v22 val_main_v21 val_main_v20 val_main_v19 val_main_v18 val_main_v10 val_main_v9 val_main_v8 val_main_cst_2 val_main_cst_4 val_main_cst_5 val_main_cst_6
  pointwise [lift2_apply, ref7, ref6, zero_f32, half_neg_f32, f32_1024]
  have hms := (ms_pos (a r)).ne'
  simp only [← EReal.coe_mul, sum_coe, ← EReal.coe_add, zero_add, div_coe_coe (by norm_num : (1024 : ℝ) ≠ 0), div_coe_coe hms]
  rw [add_assoc, add_assoc]
  simp only [← EReal.coe_add]
  congr 2
  rw [Fin.sum_univ_one, dx]
  have hr := rs_sq (a r)
  have hs : ∑ k, g r k * w 0 k * (a r k * rs (a r)) = rs (a r) * ∑ k, a r k * (g r k * w 0 k) := by
    rw [Finset.mul_sum]
    exact Finset.sum_congr rfl fun k _ => by ring
  rw [hs, div_eq_mul_inv (rs (a r)) (ms (a r)), ← hr]
  ring

theorem refx (x : S8208x1024.Idx → EReal) : NormRefIdeal.Read.val_main_v35 (F := Ideal) (lift2 a) (lift2 w) (lift2 g) x
   = fun i => grown x i + lift2 (fun r : Fin 8448 => dx (ext a r.val) (w 0) (ext g r.val)) i := by
  funext i
  obtain ⟨r, j, rfl⟩ := exists_ix2 i
  open NormRefIdeal.Read in
  unfold val_main_v35 val_main_call0_v0 val_main_c
  pointwise [ref34]
  rw [lift2_apply]
  by_cases h : r.val < 8208
  · rw [dif_pos h, ext_lt a h, ext_lt g h]
    rw [grown_lt x r j h]
  · rw [dif_neg h, ext_ge a h, ext_ge g h, grown_ge x r j h, sitofp_zero]
    simp [dx]

theorem pre_real (x : Vec Ideal S8208x1024 .f32) (y : Vec Ideal S1x1024 .f32) (z u : Vec Ideal S8208x1024 .f32)
    (h : (Pre_norm_finite.fn (F := Ideal) x y z u).1 = (fun _ => 1#1) ∧ (Pre_norm_finite.fn (F := Ideal) x y z u).2.1 = (fun _ => 1#1)
      ∧ (Pre_norm_finite.fn (F := Ideal) x y z u).2.2 = (fun _ => 1#1)) :
    (∃ a, x = lift2 a) ∧ (∃ w, y = lift2 w) ∧ ∃ g, z = lift2 g := by
  have hx : ∀ i, Ideal.cmp .olt (max (x i) (-(x i))) ⊤ = 1#1 := fun i => by
    rw [← inf_f32]; exact congrFun h.1 i
  have hy : ∀ i, Ideal.cmp .olt (max (y i) (-(y i))) ⊤ = 1#1 := fun i => by
    rw [← inf_f32]; exact congrFun h.2.1 i
  have hz : ∀ i, Ideal.cmp .olt (max (z i) (-(z i))) ⊤ = 1#1 := fun i => by
    rw [← inf_f32]; exact congrFun h.2.2 i
  exact ⟨eq_lift2 x fun i => of_abs_lt_top (hx i), eq_lift2 y fun i => of_abs_lt_top (hy i), eq_lift2 z fun i => of_abs_lt_top (hz i)⟩

end Cert.NormTie

end
-- ==== Proof.Loss.lean ====
/-
  The loss and its gradient through the last norm: the kernel and the derivative give one function of real arguments.
-/
module

public import proofs.«01_k».proof.Proof.Gen.LossIdeal.Value
public import proofs.«01_k».proof.Proof.Gen.LossRefIdeal.Read
public import proofs.«01_k».proof.Proof.Gen.Pre_loss_finite
public import proofs.«01_k».proof.Proof.Reals
public import Idealize.ShloMosaic.Lib.StableHlo.ReadAt
public import Idealize.ShloMosaic.Lib.Pipeline.ValueKit

@[expose] public section

set_option maxRecDepth 16384

noncomputable section

namespace Cert.LossTie

open Idealize.ShloMosaic Idealize.SL.Sem Cert.Reals
open Cert.LossIdeal Cert.LossIdeal.Gen Cert.LossIdeal.Value

theorem f32_2 : Ideal.ofBits .f32 0x40000000#32 = ((2 : ℝ) : EReal) := by
  simp [Ideal.ofBits, Ideal.ieee, -EReal.coe_mul]; norm_num
theorem half_f32 : Ideal.ofBits .f32 0x3F000000#32 = ((1 / 2 : ℝ) : EReal) := by
  simp [Ideal.ofBits, Ideal.ieee, -EReal.coe_mul]; norm_num
theorem f32_m10 : Ideal.ofBits .f32 0x3A800000#32 = ((1 / 1024 : ℝ) : EReal) := by
  simp [Ideal.ofBits, Ideal.ieee, -EReal.coe_mul]; norm_num
theorem f32_m11 : Ideal.ofBits .f32 0x3A000000#32 = ((1 / 2048 : ℝ) : EReal) := by
  simp [Ideal.ofBits, Ideal.ieee, -EReal.coe_mul]; norm_num

/-- The rows that the loss reads: all but the first sixteen and the padding. -/
abbrev scored (n : Nat) : Prop := 16 ≤ n ∧ n < 8208

/-- The error of row `n`, and the cotangent that its norm gets. -/
def er (n : Nat) (x w t : Fin 1024 → ℝ) (j : Fin 1024) : ℝ := if scored n then x j * rs x * w j - t j else 0
def gr (n : Nat) (x w t : Fin 1024 → ℝ) (j : Fin 1024) : ℝ := er n x w t j * (1 / 1024)

theorem mask : ∀ (n : Fin 11) (r : Fin 768), (IntOp.andi
        (IntOp.cmpi CmpIPredicate.sge (IntOp.addi (Scalar.muli (BitVec.ofNat 32 n.val) 768#32) (BitVec.ofNat 32 r.val)) 16#32)
        (IntOp.cmpi CmpIPredicate.slt (IntOp.addi (Scalar.muli (BitVec.ofNat 32 n.val) 768#32) (BitVec.ofNat 32 r.val)) 8208#32))
    = if scored (768 * n.val + r.val) then 1#1 else 0#1 := by decide +kernel

/-! ### One block -/

section block
variable (a t : Fin 768 → Fin 1024 → ℝ) (w : Fin 1 → Fin 1024 → ℝ) (i : grid0.Coords)

theorem pay11 (r : Fin 768) (z : Fin 1) : k0_pay11 (F := Ideal) (lift2 a) (ix2 r z) = ((rs (a r) : ℝ) : EReal) := by
  obtain rfl : z = 0 := Subsingleton.elim _ _
  unfold k0_pay11 k0_pay7
  pointwise [lift2_apply, f32_1024, eps_f32, zero_f32]
  simp only [← EReal.coe_mul, sum_coe, ← EReal.coe_add, div_coe_coe (by norm_num : (1024 : ℝ) ≠ 0), zero_add]
  exact rsqrt_pos (ms_pos (a r))

theorem pay9 (r : Fin 768) (j : Fin 1024) :
    k0_pay9 (F := Ideal) i (lift2 a) (lift2 w) (lift2 t) (ix2 r j) = ((er (768 * (i 0).val + r.val) (a r) (w 0) (t r) j : ℝ) : EReal) := by
  unfold k0_pay9 k0_pay7 k0_pay8
  pointwise [lift2_apply, f32_1024, eps_f32, zero_f32]
  simp only [← EReal.coe_mul, sum_coe, ← EReal.coe_add, div_coe_coe (by norm_num : (1024 : ℝ) ≠ 0), zero_add]
  rw [mask (i 0) r, show ((∑ k, a r k * a r k) / 1024 + eps) = ms (a r) from rfl, rsqrt_pos (ms_pos (a r)), er]
  by_cases hs : scored (768 * (i 0).val + r.val)
  · rw [if_pos hs, if_pos hs]
    simp only [← EReal.coe_mul, ← EReal.coe_sub]
    rfl
  · rw [if_neg hs, if_neg hs]
    rfl

theorem pay10 (r : Fin 768) (j : Fin 1024) :
    k0_pay10 (F := Ideal) i (lift2 a) (lift2 w) (lift2 t) (ix2 r j) = ((gr (768 * (i 0).val + r.val) (a r) (w 0) (t r) j : ℝ) : EReal) := by
  unfold k0_pay10
  pointwise [pay9, f32_m10]
  rw [← EReal.coe_mul, gr]

theorem pay1 (r : Fin 768) (j : Fin 1024) :
    k0_pay1 (F := Ideal) (k0_pay7 (lift2 a)) (k0_pay11 (lift2 a)) (ix2 r j) = ((a r j * rs (a r) : ℝ) : EReal) := by
  unfold k0_pay1 k0_pay7
  pointwise [lift2_apply, pay11]
  rw [EReal.coe_mul]

theorem pay2 (r : Fin 768) (j : Fin 1024) :
    k0_pay2 (F := Ideal) (k0_pay7 (lift2 a)) (k0_pay8 (lift2 w)) (k0_pay10 i (lift2 a) (lift2 w) (lift2 t)) (k0_pay11 (lift2 a)) (ix2 r j)
    = ((dx (a r) (w 0) (gr (768 * (i 0).val + r.val) (a r) (w 0) (t r)) j : ℝ) : EReal) := by
  unfold k0_pay2 k0_pay8
  pointwise [lift2_apply, pay1, pay10, pay11, f32_1024, zero_f32]
  simp only [← EReal.coe_mul, sum_coe, ← EReal.coe_add, ← EReal.coe_sub, div_coe_coe (by norm_num : (1024 : ℝ) ≠ 0), zero_add, dx]

theorem pay5 (f : Fin 1 → Fin 1024 → ℝ) (z : Fin 1) (j : Fin 1024) :
    k0_pay5 (F := Ideal) (k0_pay7 (lift2 a)) (k0_pay10 i (lift2 a) (lift2 w) (lift2 t)) (k0_pay11 (lift2 a)) (lift2 f) (ix2 z j)
    = ((f z j + ∑ r : Fin 768, dw (a r) (gr (768 * (i 0).val + r.val) (a r) (w 0) (t r)) j : ℝ) : EReal) := by
  obtain rfl : z = 0 := Subsingleton.elim _ _
  unfold k0_pay5
  pointwise [lift2_apply, pay1, pay10, zero_f32]
  simp only [← EReal.coe_mul, sum_coe, ← EReal.coe_add, zero_add, dw]

theorem pay6 (f : Fin 1 → Fin 1 → ℝ) (z y : Fin 1) :
    k0_pay6 (F := Ideal) (k0_pay9 i (lift2 a) (lift2 w) (lift2 t)) (lift2 f) (ix2 z y)
    = ((f z y + 1 / 2048 * ∑ r : Fin 768, ∑ k, er (768 * (i 0).val + r.val) (a r) (w 0) (t r) k * er (768 * (i 0).val + r.val) (a r) (w 0) (t r) k : ℝ) : EReal) := by
  obtain rfl : z = 0 := Subsingleton.elim _ _
  obtain rfl : y = 0 := Subsingleton.elim _ _
  unfold k0_pay6
  pointwise [lift2_apply, pay9, zero_f32, f32_m11]
  simp only [← EReal.coe_mul, sum_coe, ← EReal.coe_add, zero_add]

end block

/-! ### The arrays that the kernel finds -/

variable (m : (ℓ : Loc nD τ sig) → Buf (Elt Ideal) ℓ) (c : Dev nD)

/-- The targets, moved to the rows that have one; zero elsewhere. -/
def shifted (x : S8192x1024.Idx → EReal) : S8448x1024.Idx → EReal :=
  fun i => if h : scored (i 0).val then x (ix2 ⟨(i 0).val - 16, by omega⟩ (i 1)) else 0
def text (t : Fin 8192 → Fin 1024 → ℝ) (n : Nat) : Fin 1024 → ℝ := if h : scored n then t ⟨n - 16, by omega⟩ else fun _ => 0

theorem shifted_lift (t : Fin 8192 → Fin 1024 → ℝ) : shifted (lift2 t) = lift2 fun r : Fin 8448 => text t r.val := by
  funext i
  obtain ⟨r, j, rfl⟩ := exists_ix2 i
  rw [lift2_apply]
  show (if h : scored r.val then lift2 t (ix2 ⟨r.val - 16, by omega⟩ j) else 0) = ((text t r.val j : ℝ) : EReal)
  unfold text
  by_cases h : scored r.val
  · rw [dif_pos h, dif_pos h]; rfl
  · rw [dif_neg h, dif_neg h]; rfl

theorem V3 : (V m c main_v3 : S8448x1024.Idx → EReal) = grown (m ((c.tc : Thread nD τ).loc main_arg0)) := by
  funext i
  obtain ⟨r, j, rfl⟩ := exists_ix2 i
  unfold V
  after_reads_at
  rfl
theorem V2 : (V m c main_v2 : S8448x1024.Idx → EReal) = shifted (m ((c.tc : Thread nD τ).loc main_arg2)) := by
  funext i
  obtain ⟨r, j, rfl⟩ := exists_ix2 i
  unfold V
  after_reads_at
  show _ = if h : scored r.val then (m ((c.tc : Thread nD τ).loc main_arg2) : S8192x1024.Idx → EReal) (ix2 ⟨r.val - 16, by omega⟩ j) else (0 : EReal)
  by_cases h1 : r.val < 16
  · rw [dif_pos h1, dif_neg (by omega)]
    after_reads_simp
    exact zero_f32
  · rw [dif_neg h1]
    by_cases h2 : r.val - 16 < 8192
    · rw [dif_pos h2, dif_pos (by omega)]
    · rw [dif_neg h2, dif_neg (by omega)]
      after_reads_simp
      exact zero_f32
theorem V4 (z : Fin 1) (j : Fin 1024) : (V m c main_v4 : S1x1024.Idx → EReal) (ix2 z j) = (m ((c.tc : Thread nD τ).loc main_arg1) : S1024.Idx → EReal) (ix1 j) := by
  obtain rfl : z = 0 := Subsingleton.elim _ _
  unfold V
  after_reads_at
  try rfl

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![t.val, 0] := by decide +kernel
theorem coord : ∀ t : Fin cfg0.N, ((grid0.coords t) 0).val = t.val := by decide +kernel

theorem out3 (t : Fin cfg0.N) : (outsAt0 m c t.val t.isLt).1
    = k0_pay2 (k0_pay7 (iblk m c 0 t)) (k0_pay8 (iblk m c 1 t)) (k0_pay10 (grid0.coords t) (iblk m c 0 t) (iblk m c 1 t) (iblk m c 2 t)) (k0_pay11 (iblk m c 0 t)) := by
  by_cases h0 : t.val % 11 = 0
  · rw [outsAt0_A m c t h0]
    frame_out
  · rw [outsAt0_B m c t h0]
    frame_out

theorem out4_A (t : Fin cfg0.N) (h0 : t.val % 11 = 0) : (outsAt0 m c t.val t.isLt).2.1
    = k0_pay5 (k0_pay7 (iblk m c 0 t)) (k0_pay10 (grid0.coords t) (iblk m c 0 t) (iblk m c 1 t) (iblk m c 2 t)) (k0_pay11 (iblk m c 0 t)) (k0_pay3 (F := Ideal)) := by
  rw [outsAt0_A m c t h0]
  frame_out

theorem out4_B (t : Fin cfg0.N) (h0 : ¬t.val % 11 = 0) : (outsAt0 m c t.val t.isLt).2.1
    = k0_pay5 (k0_pay7 (iblk m c 0 t)) (k0_pay10 (grid0.coords t) (iblk m c 0 t) (iblk m c 1 t) (iblk m c 2 t)) (k0_pay11 (iblk m c 0 t))
      (outsAt0 m c (t.val - 1) (Nat.lt_of_le_of_lt (Nat.sub_le _ _) t.isLt)).2.1 := by
  rw [outsAt0_B m c t h0]
  frame_out

theorem out5_A (t : Fin cfg0.N) (h0 : t.val % 11 = 0) : (outsAt0 m c t.val t.isLt).2.2
    = k0_pay6 (k0_pay9 (grid0.coords t) (iblk m c 0 t) (iblk m c 1 t) (iblk m c 2 t)) (k0_pay4 (F := Ideal)) := by
  rw [outsAt0_A m c t h0]
  frame_out

theorem out5_B (t : Fin cfg0.N) (h0 : ¬t.val % 11 = 0) : (outsAt0 m c t.val t.isLt).2.2
    = k0_pay6 (k0_pay9 (grid0.coords t) (iblk m c 0 t) (iblk m c 1 t) (iblk m c 2 t))
      (outsAt0 m c (t.val - 1) (Nat.lt_of_le_of_lt (Nat.sub_le _ _) t.isLt)).2.2 := by
  rw [outsAt0_B m c t h0]
  frame_out

/-! ### The kernel -/

variable (a : Fin 8208 → Fin 1024 → ℝ) (w : Fin 1024 → ℝ) (g : Fin 8192 → Fin 1024 → ℝ)

theorem points (t : Fin cfg0.N) : t.val < 11 := lt_of_lt_of_eq t.isLt N_0

/-- Row `r` of tile `t`. -/
def row (t : Fin cfg0.N) (r : Fin 768) : Fin 8448 := ⟨768 * t.val + r.val, by have := points t; omega⟩

theorem emb0 (t : Fin cfg0.N) (r : Fin 768) (j : Fin 1024) : (win0_0.blk t).view.emb (ix2 r j) = (ix2 (row t r) j : S8448x1024.Idx) := by
  funext d
  apply Fin.ext
  match d with
  | ⟨0, _⟩ => blk_simp [index0]; exact congrArg (· + r.val) (mul_comm _ _)
  | ⟨1, _⟩ => blk_simp [index0]
theorem emb1 (t : Fin cfg0.N) (r : Fin 1) (j : Fin 1024) : (win0_1.blk t).view.emb (ix2 r j) = (ix2 r j : S1x1024.Idx) := by
  funext d
  apply Fin.ext
  match d with
  | ⟨0, _⟩ => blk_simp [index1]
  | ⟨1, _⟩ => blk_simp [index1]

theorem blk0 (h : m ((c.tc : Thread nD τ).loc main_arg0) = lift2 a) (t : Fin cfg0.N) :
    (iblk m c 0 t : S768x1024.Idx → EReal) = lift2 fun r => ext a (768 * t.val + r.val) := by
  funext y
  obtain ⟨r, j, rfl⟩ := exists_ix2 y
  show (V m c main_v3 : S8448x1024.Idx → EReal) ((win0_0.blk t).view.emb (ix2 r j)) = _
  rw [V3, h, grown_lift, emb0]
  rfl
theorem blk1 (h : m ((c.tc : Thread nD τ).loc main_arg1) = lift1 w) (t : Fin cfg0.N) : (iblk m c 1 t : S1x1024.Idx → EReal) = lift2 fun _ => w := by
  funext y
  obtain ⟨r, j, rfl⟩ := exists_ix2 y
  show (V m c main_v4 : S1x1024.Idx → EReal) ((win0_1.blk t).view.emb (ix2 r j)) = _
  rw [emb1, V4, h]
  rfl
theorem blk2 (h : m ((c.tc : Thread nD τ).loc main_arg2) = lift2 g) (t : Fin cfg0.N) :
    (iblk m c 2 t : S768x1024.Idx → EReal) = lift2 fun r => text g (768 * t.val + r.val) := by
  funext y
  obtain ⟨r, j, rfl⟩ := exists_ix2 y
  show (V m c main_v2 : S8448x1024.Idx → EReal) ((win0_0.blk t).view.emb (ix2 r j)) = _
  rw [V2, h, shifted_lift, emb0]
  rfl

/-- What row `n` gives: the cotangent of its norm, a part of the weights' gradient, a part of the loss. -/
def rowg (n : Nat) : Fin 1024 → ℝ := gr n (ext a n) w (text g n)
def part (n : Nat) (j : Fin 1024) : ℝ := dw (ext a n) (rowg a w g n) j
def err (n : Nat) : ℝ := ∑ k, er n (ext a n) w (text g n) k * er n (ext a n) w (text g n) k

variable (h0 : m ((c.tc : Thread nD τ).loc main_arg0) = lift2 a) (h1 : m ((c.tc : Thread nD τ).loc main_arg1) = lift1 w)
  (h2 : m ((c.tc : Thread nD τ).loc main_arg2) = lift2 g)
include h0 h1 h2

theorem outs4 : ∀ (n : Nat) (hn : n < cfg0.N),
    (outsAt0 m c n hn).2.1 = lift2 fun (_ : Fin 1) j => ∑ t ∈ Finset.range (n + 1), ∑ r : Fin 768, part a w g (768 * t + r.val) j := by
  intro n
  induction n with
  | zero =>
    intro hn
    have hz : k0_pay3 (F := Ideal) = lift2 fun _ _ => 0 := by
      funext i
      exact zero_f32
    rw [out4_A m c ⟨0, hn⟩ rfl, blk0 m c a h0, blk1 m c w h1, blk2 m c g h2, hz]
    funext i
    obtain ⟨z, j, rfl⟩ := exists_ix2 i
    rw [pay5, lift2_apply, coord]
    simp only [zero_add, Finset.sum_range_one]
    rfl
  | succ n ih =>
    intro hn
    rw [out4_B m c ⟨n + 1, hn⟩ (by have := points ⟨n + 1, hn⟩; dsimp only at *; omega), blk0 m c a h0, blk1 m c w h1, blk2 m c g h2]
    show k0_pay5 (F := Ideal) _ _ _ (outsAt0 m c n _).2.1 = _
    rw [ih]
    funext i
    obtain ⟨z, j, rfl⟩ := exists_ix2 i
    rw [pay5, lift2_apply, coord, Finset.sum_range_succ (fun t => ∑ r : Fin 768, part a w g (768 * t + r.val) j) (n + 1)]
    rfl

theorem outs5 : ∀ (n : Nat) (hn : n < cfg0.N),
    (outsAt0 m c n hn).2.2 = lift2 fun (_ _ : Fin 1) => ∑ t ∈ Finset.range (n + 1), 1 / 2048 * ∑ r : Fin 768, err a w g (768 * t + r.val) := by
  intro n
  induction n with
  | zero =>
    intro hn
    have hz : k0_pay4 (F := Ideal) = lift2 fun _ _ => 0 := by
      funext i
      exact zero_f32
    rw [out5_A m c ⟨0, hn⟩ rfl, blk0 m c a h0, blk1 m c w h1, blk2 m c g h2, hz]
    funext i
    obtain ⟨z, j, rfl⟩ := exists_ix2 i
    rw [pay6, lift2_apply, coord]
    simp only [zero_add, Finset.sum_range_one]
    rfl
  | succ n ih =>
    intro hn
    rw [out5_B m c ⟨n + 1, hn⟩ (by have := points ⟨n + 1, hn⟩; dsimp only at *; omega), blk0 m c a h0, blk1 m c w h1, blk2 m c g h2]
    show k0_pay6 (F := Ideal) _ (outsAt0 m c n _).2.2 = _
    rw [ih]
    funext i
    obtain ⟨z, j, rfl⟩ := exists_ix2 i
    rw [pay6, lift2_apply, coord, Finset.sum_range_succ (fun t => 1 / 2048 * ∑ r : Fin 768, err a w g (768 * t + r.val)) (n + 1)]
    rfl

theorem arr3 : (dats m 0 c).arrAt 3 cfg0.N = (lift2 (fun r : Fin 8448 => dx (ext a r.val) w (rowg a w g r.val)) : S8448x1024.Idx → EReal) := by
  refine (dats m 0 c).arrAt_eq_of_covers 3 _ (by decide +kernel) fun t hf y => ?_
  blk_simp
  rw [after0_3, out3, blk0 m c a h0, blk1 m c w h1, blk2 m c g h2]
  obtain ⟨r, j, rfl⟩ := exists_ix2 y
  rw [show (win0_3.blk t).view.emb (ix2 r j) = (ix2 (row t r) j : S8448x1024.Idx) from emb0 t r j]
  exact (pay2 _ _ _ _ r j).trans (by rw [coord]; rfl)

/-- A row that the loss does not read gives nothing. -/
theorem rowg_eq_zero (n : Nat) (hn : ¬scored n) : rowg a w g n = fun _ => 0 := by
  funext j
  rw [rowg, gr, er, if_neg hn, zero_mul]

theorem arr4 : (dats m 0 c).arrAt 4 cfg0.N = (lift2 (fun _ j => ∑ r : Fin 8208, part a w g r.val j) : S1x1024.Idx → EReal) := by
  refine (dats m 0 c).arrAt_eq_of_after_last 4 t0_10 (by decide +kernel) _ fun j => ?_
  blk_simp
  rw [after0_4, outs4 m c a w g h0 h1 h2]
  refine congrArg (fun r : ℝ => (r : EReal)) ?_
  refine (sum_tiles 768 11 fun n => part a w g n (j 1)).trans (sum_rows (n := 8208) (by norm_num) _ fun r hr => ?_)
  show dw (ext a r) (rowg a w g r) _ = 0
  rw [rowg_eq_zero m c a w g h0 h1 h2 r (by omega)]
  exact zero_mul _

theorem arr5 : (dats m 0 c).arrAt 5 cfg0.N = (lift2 (fun _ _ => 1 / 2048 * ∑ r : Fin 8208, err a w g r.val) : S1x1.Idx → EReal) := by
  refine (dats m 0 c).arrAt_eq_of_after_last 5 t0_10 (by decide +kernel) _ fun j => ?_
  blk_simp
  rw [after0_5, outs5 m c a w g h0 h1 h2]
  refine congrArg (fun r : ℝ => (r : EReal)) ?_
  show ∑ t ∈ Finset.range 11, 1 / 2048 * ∑ r : Fin 768, err a w g (768 * t + r.val) = _
  rw [← Finset.mul_sum]
  refine congrArg _ ((sum_tiles 768 11 fun n => err a w g n).trans (sum_rows (n := 8208) (by norm_num) _ fun r hr => ?_))
  rw [err]
  exact Finset.sum_eq_zero fun k _ => by rw [er, if_neg (by omega), zero_mul]

omit h0 h1 h2

/-! ### The derivative -/

open LossRefIdeal.Read

theorem ref6 (r : Fin 8208) (z : Fin 1) : val_main_v6 (F := Ideal) (lift2 a) (ix2 r z) = ((ms (a r) : ℝ) : EReal) := by
  obtain rfl : z = 0 := Subsingleton.elim _ _
  unfold val_main_v6 val_main_v5 val_main_v4 val_main_v3 val_main_v2 val_main_v1 val_main_v0 val_main_cst val_main_cst_0 val_main_cst_1
  pointwise [lift2_apply, f32_1024, eps_f32, zero_f32]
  simp only [← EReal.coe_mul, sum_coe, ← EReal.coe_add, div_coe_coe (by norm_num : (1024 : ℝ) ≠ 0), zero_add, ms]

theorem ref7 (r : Fin 8208) (z : Fin 1) : val_main_v7 (F := Ideal) (lift2 a) (ix2 r z) = ((rs (a r) : ℝ) : EReal) := by
  unfold val_main_v7
  pointwise [ref6]
  exact rsqrt_pos (ms_pos (a r))

theorem ref17 (r : Fin 8192) (j : Fin 1024) : val_main_v17 (F := Ideal) (lift2 a) (lift1 w) (lift2 g) (ix2 r j)
    = ((er (16 + r.val) (ext a (16 + r.val)) w (text g (16 + r.val)) j : ℝ) : EReal) := by
  unfold val_main_v17 val_main_v16 val_main_v15 val_main_v14 val_main_v13 val_main_v12 val_main_v11
  pointwise [lift2_apply, lift1_apply, ref7]
  simp only [← EReal.coe_mul, ← EReal.coe_sub]
  rw [er, if_pos (by omega), ext_lt a (by omega), text, dif_pos (by omega)]
  simp only [Nat.add_sub_cancel_left]

theorem ref32 (r : Fin 8208) (j : Fin 1024) : val_main_v32 (F := Ideal) (lift2 a) (lift1 w) (lift2 g) (ix2 r j)
    = ((rowg a w g r.val j : ℝ) : EReal) := by
  unfold val_main_v32 val_main_v31 val_main_v30 val_main_v29 val_main_v28 val_main_v27 val_main_v26 val_main_v20 val_main_v19 val_main_cst_3 val_main_cst_8 val_main_cst_9 val_main_cst_10 val_main_cst_11
  pointwise [ref17, half_f32, f32_2, f32_1024, one_f32, zero_f32]
  by_cases h : 16 ≤ r.val
  · rw [dif_pos ⟨h, by omega⟩, Nat.add_sub_cancel' h, ← EReal.coe_mul, div_coe_coe (by norm_num : (1024 : ℝ) ≠ 0)]
    simp only [← EReal.coe_mul]
    refine congrArg (fun r : ℝ => (r : EReal)) ?_
    rw [rowg, gr]
    ring
  · rw [dif_neg (by omega), rowg, gr, er, if_neg (by omega), zero_mul]

/-- The first sixteen rows have no error. -/
theorem sum_err : ∑ r : Fin 8208, err a w g r.val = ∑ r : Fin 8192, err a w g (16 + r.val) := by
  refine (Fin.sum_univ_add (a := 16) (b := 8192) fun r => err a w g r.val).trans ?_
  rw [Finset.sum_eq_zero fun r _ => ?_, zero_add]
  · rfl
  · show err a w g r.val = 0
    exact Finset.sum_eq_zero fun k _ => by rw [er, if_neg (by have := r.isLt; omega), zero_mul]

theorem refl' : val_main_v55 (F := Ideal) (lift2 a) (lift1 w) (lift2 g) = (lift2 (fun _ _ => 1 / 2048 * ∑ r : Fin 8208, err a w g r.val) : S1x1.Idx → EReal) := by
  funext i
  obtain ⟨z, y, rfl⟩ := exists_ix2 i
  obtain rfl : z = 0 := Subsingleton.elim _ _
  obtain rfl : y = 0 := Subsingleton.elim _ _
  unfold val_main_v55 val_main_v25 val_main_v24 val_main_v23 val_main_v22 val_main_v21 val_main_v18 val_main_cst_4 val_main_cst_5 val_main_cst_6 val_main_cst_7
  pointwise [lift2_apply, ref17, half_f32, f32_1024, zero_f32]
  simp only [← EReal.coe_mul, sum_coe, ← EReal.coe_add, zero_add, div_coe_coe (by norm_num : (1024 : ℝ) ≠ 0)]
  refine congrArg (fun r : ℝ => (r : EReal)) ?_
  rw [sum_err, ← Finset.sum_div]
  show 1 / 2 * ((∑ r : Fin 8192, err a w g (16 + r.val)) / 1024) = _
  ring

theorem refw : val_main_v54 (F := Ideal) (lift2 a) (lift1 w) (lift2 g) = (lift2 (fun _ j => ∑ r : Fin 8208, part a w g r.val j) : S1x1024.Idx → EReal) := by
  funext i
  obtain ⟨z, j, rfl⟩ := exists_ix2 i
  obtain rfl : z = 0 := Subsingleton.elim _ _
  unfold val_main_v54 val_main_v38 val_main_v35 val_main_v34 val_main_v33 val_main_v12 val_main_v11 val_main_cst_12 val_main_cst_13
  pointwise [lift2_apply, ref7, ref32, zero_f32]
  simp only [← EReal.coe_mul, sum_coe, ← EReal.coe_add, zero_add, Fin.sum_univ_one]
  refine congrArg (fun r : ℝ => (r : EReal)) (Finset.sum_congr rfl fun r _ => ?_)
  show _ = rowg a w g r.val j * (ext a r.val j * rs (ext a r.val))
  rw [ext_lt a r.isLt]
  ring

theorem ref52 (r : Fin 8208) (j : Fin 1024) : val_main_v52 (F := Ideal) (lift2 a) (lift1 w) (lift2 g) (ix2 r j)
    = ((dx (a r) w (rowg a w g r.val) j : ℝ) : EReal) := by
  unfold val_main_v52 val_main_v51 val_main_v50 val_main_v49 val_main_v48 val_main_v47 val_main_v46 val_main_v45 val_main_v44 val_main_v43 val_main_v42 val_main_v41 val_main_v40 val_main_v39 val_main_v37 val_main_v36 val_main_v13 val_main_v10 val_main_v9 val_main_v8 val_main_cst_2 val_main_cst_14 val_main_cst_15 val_main_cst_16
  pointwise [lift2_apply, lift1_apply, ref7, ref6, ref32, zero_f32, half_neg_f32, f32_1024]
  have hms := (ms_pos (a r)).ne'
  simp only [← EReal.coe_mul, sum_coe, ← EReal.coe_add, zero_add, div_coe_coe (by norm_num : (1024 : ℝ) ≠ 0), div_coe_coe hms]
  congr 1
  rw [Fin.sum_univ_one, dx]
  have hr := rs_sq (a r)
  have hs : ∑ k, rowg a w g r.val k * w k * (a r k * rs (a r)) = rs (a r) * ∑ k, a r k * (rowg a w g r.val k * w k) := by
    rw [Finset.mul_sum]
    exact Finset.sum_congr rfl fun k _ => by ring
  rw [hs, div_eq_mul_inv (rs (a r)) (ms (a r)), ← hr]
  ring

theorem refh : val_main_v53 (F := Ideal) (lift2 a) (lift1 w) (lift2 g) = (lift2 (fun r : Fin 8448 => dx (ext a r.val) w (rowg a w g r.val)) : S8448x1024.Idx → EReal) := by
  funext i
  obtain ⟨r, j, rfl⟩ := exists_ix2 i
  unfold val_main_v53 val_main_call0_v0 val_main_c
  pointwise [ref52]
  rw [lift2_apply]
  by_cases h : r.val < 8208
  · rw [dif_pos h, ext_lt a h]
  · rw [dif_neg h, ext_ge a h, sitofp_zero, dx]
    rw [show rowg a w g r.val = fun _ => 0 from funext fun k => by rw [rowg, gr, er, if_neg (by omega), zero_mul]]
    simp

theorem pre_real (x : Vec Ideal S8208x1024 .f32) (y : Vec Ideal S1024 .f32) (z : Vec Ideal S8192x1024 .f32)
    (h : (Pre_loss_finite.fn (F := Ideal) x y z).1 = (fun _ => 1#1) ∧ (Pre_loss_finite.fn (F := Ideal) x y z).2.1 = (fun _ => 1#1)
      ∧ (Pre_loss_finite.fn (F := Ideal) x y z).2.2 = (fun _ => 1#1)) :
    (∃ a, x = lift2 a) ∧ (∃ w, y = lift1 w) ∧ ∃ g, z = lift2 g := by
  have hx : ∀ i, Ideal.cmp .olt (max (x i) (-(x i))) ⊤ = 1#1 := fun i => by
    rw [← inf_f32]; exact congrFun h.1 i
  have hy : ∀ i, Ideal.cmp .olt (max (y i) (-(y i))) ⊤ = 1#1 := fun i => by
    rw [← inf_f32]; exact congrFun h.2.1 i
  have hz : ∀ i, Ideal.cmp .olt (max (z i) (-(z i))) ⊤ = 1#1 := fun i => by
    rw [← inf_f32]; exact congrFun h.2.2 i
  exact ⟨eq_lift2 x fun i => of_abs_lt_top (hx i), eq_lift1 y fun i => of_abs_lt_top (hy i), eq_lift2 z fun i => of_abs_lt_top (hz i)⟩

end Cert.LossTie

end
-- ==== Proof.Dact.lean ====
/-
  The gradient of the gated product of the feed-forward layer: the kernel and the derivative give one function of real arguments.
-/
module

public import proofs.«01_k».proof.Proof.Gen.DactIdeal.Value
public import proofs.«01_k».proof.Proof.Gen.DactRefIdeal.Read
public import proofs.«01_k».proof.Proof.Gen.Pre_dact_finite
public import proofs.«01_k».proof.Proof.Reals
public import Idealize.ShloMosaic.Lib.StableHlo.ReadAt
public import Idealize.ShloMosaic.Lib.Pipeline.ValueKit

@[expose] public section

set_option maxRecDepth 16384

noncomputable section

namespace Cert.DactTie

open Idealize.ShloMosaic Idealize.SL.Sem Cert.Reals
open Cert.DactIdeal Cert.DactIdeal.Gen Cert.DactIdeal.Value

/-- The logistic function. -/
def sg (x : ℝ) : ℝ := 1 / (1 + Real.exp (-x))

theorem one_add_exp_ne (x : ℝ) : 1 + Real.exp (-x) ≠ 0 := (by positivity : (0 : ℝ) < 1 + Real.exp (-x)).ne'

theorem half_f32 : Ideal.ofBits .f32 0x3F000000#32 = ((1 / 2 : ℝ) : EReal) := by
  simp [Ideal.ofBits, Ideal.ieee, -EReal.coe_mul]; norm_num

/-- The cotangent of the gated product, and what the two factors get of it. -/
def da (h w : Fin 1024 → ℝ) : ℝ := 1 / 2 * ∑ k, h k * w k
def dgate (h w : Fin 1024 → ℝ) (g u : ℝ) : ℝ := da h w * u * (sg g * (1 + g * (1 - sg g)))
def dup (h w : Fin 1024 → ℝ) (g : ℝ) : ℝ := da h w * (g * sg g)

/-! ### One block -/

section block
variable (h : Fin 768 → Fin 1024 → ℝ) (w : Fin 1024 → Fin 1408 → ℝ) (g u : Fin 768 → Fin 1408 → ℝ) (r : Fin 768) (j : Fin 1408)

theorem pay1 : k0_pay1 (F := Ideal) (lift2 g) (ix2 r j) = ((g r j : ℝ) : EReal) := by
  unfold_payloads
  pointwise [lift2_apply]
theorem pay2 : k0_pay2 (F := Ideal) (lift2 h) (lift2 w) (ix2 r j) = ((da (h r) (fun k => w k j) : ℝ) : EReal) := by
  unfold_payloads
  pointwise [lift2_apply, half_f32, zero_f32]
  simp only [← EReal.coe_mul, sum_coe, ← EReal.coe_add, zero_add]
  rfl
theorem pay3 : k0_pay3 (F := Ideal) (lift2 g) (ix2 r j) = ((sg (g r j) : ℝ) : EReal) := by
  unfold k0_pay3
  pointwise [pay1, one_f32, zero_f32]
  rw [← EReal.coe_sub, zero_sub, Ideal.exp_coe, ← EReal.coe_add, div_coe_coe (one_add_exp_ne _)]
  rfl
theorem pay4 : k0_pay4 (F := Ideal) (lift2 h) (lift2 w) (lift2 g) (lift2 u) (ix2 r j) = ((dgate (h r) (fun k => w k j) (g r j) (u r j) : ℝ) : EReal) := by
  unfold k0_pay4
  pointwise [pay1, pay2, pay3, one_f32, lift2_apply]
  simp only [← EReal.coe_mul, ← EReal.coe_add, ← EReal.coe_sub]
  rfl
theorem pay5 : k0_pay5 (F := Ideal) (lift2 h) (lift2 w) (lift2 g) (ix2 r j) = ((dup (h r) (fun k => w k j) (g r j) : ℝ) : EReal) := by
  unfold k0_pay5
  pointwise [pay1, pay2, pay3]
  simp only [← EReal.coe_mul]
  rfl

end block

/-! ### The arrays that the kernel finds -/

variable (m : (ℓ : Loc nD τ sig) → Buf (Elt Ideal) ℓ) (c : Dev nD)

theorem index0 : ∀ t : Fin cfg0.N, win0_0.index t = ![t.val % 11, 0] := by decide +kernel
theorem index1 : ∀ t : Fin cfg0.N, win0_1.index t = ![0, t.val / 11] := by decide +kernel
theorem index2 : ∀ t : Fin cfg0.N, win0_2.index t = ![t.val % 11, t.val / 11] := by decide +kernel
theorem index3 : ∀ t : Fin cfg0.N, win0_3.index t = ![t.val % 11, t.val / 11] := by decide +kernel
theorem index4 : ∀ t : Fin cfg0.N, win0_4.index t = ![t.val % 11, t.val / 11] := by decide +kernel
theorem index5 : ∀ t : Fin cfg0.N, win0_5.index t = ![t.val % 11, t.val / 11] := by decide +kernel

theorem V0 : (V m c main_v0 : S8448x1024.Idx → EReal) = grown (m ((c.tc : Thread nD τ).loc main_arg3)) := by
  funext i
  obtain ⟨r, j, rfl⟩ := exists_ix2 i
  unfold V
  after_reads_at
  rw [sitofp_zero]
  rfl
theorem V2 : (V m c main_v2 : S8448x2816.Idx → EReal) = grown (m ((c.tc : Thread nD τ).loc main_arg0)) := by
  funext i
  obtain ⟨r, j, rfl⟩ := exists_ix2 i
  unfold V
  after_reads_at
  rw [sitofp_zero]
  rfl
theorem V4 : (V m c main_v4 : S8448x2816.Idx → EReal) = grown (m ((c.tc : Thread nD τ).loc main_arg1)) := by
  funext i
  obtain ⟨r, j, rfl⟩ := exists_ix2 i
  unfold V
  after_reads_at
  rw [sitofp_zero]
  rfl
theorem V6 (k : Fin 1024) (j : Fin 2816) : (V m c main_v6 : S1024x2816.Idx → EReal) (ix2 k j) = (m ((c.tc : Thread nD τ).loc main_arg2) : S2816x1024.Idx → EReal) (ix2 j k) := by
  unfold V
  after_reads_at
  try rfl

theorem points (t : Fin cfg0.N) : t.val < 22 := lt_of_lt_of_eq t.isLt N_0

/-- Row `r` and column `j` of the block of point `t`. -/
def row (t : Fin cfg0.N) (r : Fin 768) : Fin 8448 := ⟨768 * (t.val % 11) + r.val, by omega⟩
def col (t : Fin cfg0.N) (j : Fin 1408) : Fin 2816 := ⟨1408 * (t.val / 11) + j.val, by have := points t; omega⟩

theorem emb0 (t : Fin cfg0.N) (r : Fin 768) (j : Fin 1024) : (win0_0.blk t).view.emb (ix2 r j) = (ix2 (row t r) j : S8448x1024.Idx) := by
  funext d
  apply Fin.ext
  match d with
  | ⟨0, _⟩ => blk_simp [index0]; exact congrArg (· + r.val) (mul_comm _ _)
  | ⟨1, _⟩ => blk_simp [index0]
theorem emb1 (t : Fin cfg0.N) (k : Fin 1024) (j : Fin 1408) : (win0_1.blk t).view.emb (ix2 k j) = (ix2 k (col t j) : S1024x2816.Idx) := by
  funext d
  apply Fin.ext
  match d with
  | ⟨0, _⟩ => blk_simp [index1]
  | ⟨1, _⟩ => blk_simp [index1]; exact congrArg (· + j.val) (mul_comm _ _)
theorem emb2 (t : Fin cfg0.N) (r : Fin 768) (j : Fin 1408) : (win0_2.blk t).view.emb (ix2 r j) = (ix2 (row t r) (col t j) : S8448x2816.Idx) := by
  funext d
  apply Fin.ext
  match d with
  | ⟨0, _⟩ => blk_simp [index2]; exact congrArg (· + r.val) (mul_comm _ _)
  | ⟨1, _⟩ => blk_simp [index2]; exact congrArg (· + j.val) (mul_comm _ _)

/-! ### The kernel -/

variable (h : Fin 8208 → Fin 1024 → ℝ) (w : Fin 2816 → Fin 1024 → ℝ) (g u : Fin 8208 → Fin 2816 → ℝ)

theorem blk0 (e : m ((c.tc : Thread nD τ).loc main_arg3) = lift2 h) (t : Fin cfg0.N) :
    (iblk m c 0 t : S768x1024.Idx → EReal) = lift2 fun r => ext h (row t r).val := by
  funext y
  obtain ⟨r, j, rfl⟩ := exists_ix2 y
  show (V m c main_v0 : S8448x1024.Idx → EReal) ((win0_0.blk t).view.emb (ix2 r j)) = _
  rw [V0, e, grown_lift, emb0]
  rfl
theorem blk1 (e : m ((c.tc : Thread nD τ).loc main_arg2) = lift2 w) (t : Fin cfg0.N) :
    (iblk m c 1 t : S1024x1408.Idx → EReal) = lift2 fun k j => w (col t j) k := by
  funext y
  obtain ⟨r, j, rfl⟩ := exists_ix2 y
  show (V m c main_v6 : S1024x2816.Idx → EReal) ((win0_1.blk t).view.emb (ix2 r j)) = _
  rw [emb1, V6, e]
  rfl
theorem blk2 (e : m ((c.tc : Thread nD τ).loc main_arg0) = lift2 g) (t : Fin cfg0.N) :
    (iblk m c 2 t : S768x1408.Idx → EReal) = lift2 fun r j => ext g (row t r).val (col t j) := by
  funext y
  obtain ⟨r, j, rfl⟩ := exists_ix2 y
  show (V m c main_v2 : S8448x2816.Idx → EReal) ((win0_2.blk t).view.emb (ix2 r j)) = _
  rw [V2, e, grown_lift, emb2]
  rfl
theorem blk3 (e : m ((c.tc : Thread nD τ).loc main_arg1) = lift2 u) (t : Fin cfg0.N) :
    (iblk m c 3 t : S768x1408.Idx → EReal) = lift2 fun r j => ext u (row t r).val (col t j) := by
  funext y
  obtain ⟨r, j, rfl⟩ := exists_ix2 y
  show (V m c main_v4 : S8448x2816.Idx → EReal) ((win0_2.blk t).view.emb (ix2 r j)) = _
  rw [V4, e, grown_lift, emb2]
  rfl

theorem arr4 (e0 : m ((c.tc : Thread nD τ).loc main_arg0) = lift2 g) (e1 : m ((c.tc : Thread nD τ).loc main_arg1) = lift2 u)
    (e2 : m ((c.tc : Thread nD τ).loc main_arg2) = lift2 w) (e3 : m ((c.tc : Thread nD τ).loc main_arg3) = lift2 h) : (dats m 0 c).arrAt 4 cfg0.N
    = (lift2 (fun (r : Fin 8448) j => dgate (ext h r.val) (w j) (ext g r.val j) (ext u r.val j)) : S8448x2816.Idx → EReal) := by
  refine (dats m 0 c).arrAt_eq_of_covers 4 _ (by decide +kernel) fun t hf y => ?_
  blk_simp
  rw [after0_4]
  frame_out
  obtain ⟨r, j, rfl⟩ := exists_ix2 y
  rw [show (win0_4.blk t).view.emb (ix2 r j) = (ix2 (row t r) (col t j) : S8448x2816.Idx) from emb2 t r j,
    blk0 m c h e3, blk1 m c w e2, blk2 m c g e0, blk3 m c u e1]
  exact pay4 _ _ _ _ r j

theorem arr5 (e0 : m ((c.tc : Thread nD τ).loc main_arg0) = lift2 g) (e2 : m ((c.tc : Thread nD τ).loc main_arg2) = lift2 w)
    (e3 : m ((c.tc : Thread nD τ).loc main_arg3) = lift2 h) : (dats m 0 c).arrAt 5 cfg0.N
    = (lift2 (fun (r : Fin 8448) j => dup (ext h r.val) (w j) (ext g r.val j)) : S8448x2816.Idx → EReal) := by
  refine (dats m 0 c).arrAt_eq_of_covers 5 _ (by decide +kernel) fun t hf y => ?_
  blk_simp
  rw [after0_5]
  frame_out
  obtain ⟨r, j, rfl⟩ := exists_ix2 y
  rw [show (win0_5.blk t).view.emb (ix2 r j) = (ix2 (row t r) (col t j) : S8448x2816.Idx) from emb2 t r j,
    blk0 m c h e3, blk1 m c w e2, blk2 m c g e0]
  exact pay5 _ _ _ r j

/-! ### The derivative -/

theorem refs (r : Fin 8208) (j : Fin 2816) : DactRefIdeal.Read.val_main_v0_2 (F := Ideal) (lift2 g) (ix2 r j) = ((sg (g r j) : ℝ) : EReal) := by
  open DactRefIdeal.Read in
  unfold val_main_v0_2 val_main_call0_v4 val_main_call0_v3 val_main_call0_v2 val_main_call0_v1 val_main_call0_v0 val_main_call0_cst val_main_call0_cst_0
  pointwise [one_f32, lift2_apply]
  rw [← EReal.coe_neg, Ideal.exp_coe, ← EReal.coe_add, div_coe_coe (one_add_exp_ne _)]
  rfl

theorem refa (r : Fin 8208) (j : Fin 2816) : DactRefIdeal.Read.val_main_v7 (F := Ideal) (lift2 w) (lift2 h) (ix2 r j) = ((da (h r) (w j) : ℝ) : EReal) := by
  open DactRefIdeal.Read in
  unfold val_main_v7 val_main_v6 val_main_v5 val_main_cst_0
  pointwise [half_f32, lift2_apply]
  simp only [← EReal.coe_mul, sum_coe]
  rw [da, Finset.mul_sum]
  congr 1
  exact Finset.sum_congr rfl fun k _ => mul_assoc _ _ _

theorem ref10 (r : Fin 8208) (j : Fin 2816) : DactRefIdeal.Read.val_main_v10 (F := Ideal) (lift2 g) (lift2 u) (lift2 w) (lift2 h) (ix2 r j)
    = ((dgate (h r) (w j) (g r j) (u r j) : ℝ) : EReal) := by
  open DactRefIdeal.Read in
  unfold val_main_v10 val_main_call1_v2 val_main_call1_v1 val_main_call1_v0 val_main_v9 val_main_v0_1 val_main_call0_v7 val_main_call0_v6 val_main_call0_cst_1
  pointwise [one_f32, lift2_apply, refs, refa]
  simp only [← EReal.coe_mul, ← EReal.coe_add, ← EReal.coe_sub]
  congr 1
  rw [dgate]
  ring

theorem ref8 (r : Fin 8208) (j : Fin 2816) : DactRefIdeal.Read.val_main_v8 (F := Ideal) (lift2 g) (lift2 w) (lift2 h) (ix2 r j)
    = ((dup (h r) (w j) (g r j) : ℝ) : EReal) := by
  open DactRefIdeal.Read in
  unfold val_main_v8 val_main_v0_0
  pointwise [lift2_apply, refs, refa]
  simp only [← EReal.coe_mul]
  congr 1
  rw [dup]
  ring

theorem ref12 : DactRefIdeal.Read.val_main_v12 (F := Ideal) (lift2 g) (lift2 u) (lift2 w) (lift2 h)
    = (lift2 (fun (r : Fin 8448) j => dgate (ext h r.val) (w j) (ext g r.val j) (ext u r.val j)) : S8448x2816.Idx → EReal) := by
  funext i
  obtain ⟨r, j, rfl⟩ := exists_ix2 i
  open DactRefIdeal.Read in
  unfold val_main_v12 val_main_v11 val_main_call2_v0 val_main_c
  pointwise [ref10]
  rw [lift2_apply]
  by_cases hr : r.val < 8208
  · rw [dif_pos hr, ext_lt h hr, ext_lt g hr, ext_lt u hr]
  · rw [dif_neg hr, ext_ge u hr, sitofp_zero]
    simp [dgate]

theorem ref14 : DactRefIdeal.Read.val_main_v14 (F := Ideal) (lift2 g) (lift2 w) (lift2 h)
    = (lift2 (fun (r : Fin 8448) j => dup (ext h r.val) (w j) (ext g r.val j)) : S8448x2816.Idx → EReal) := by
  funext i
  obtain ⟨r, j, rfl⟩ := exists_ix2 i
  open DactRefIdeal.Read in
  unfold val_main_v14 val_main_v13 val_main_call3_v0 val_main_c_1
  pointwise [ref8]
  rw [lift2_apply]
  by_cases hr : r.val < 8208
  · rw [dif_pos hr, ext_lt h hr, ext_lt g hr]
  · rw [dif_neg hr, ext_ge g hr, sitofp_zero]
    simp [dup]

theorem pre_real (x y : Vec Ideal S8208x2816 .f32) (z : Vec Ideal S2816x1024 .f32) (v : Vec Ideal S8208x1024 .f32)
    (p : (Pre_dact_finite.fn (F := Ideal) x y z v).1 = (fun _ => 1#1) ∧ (Pre_dact_finite.fn (F := Ideal) x y z v).2.1 = (fun _ => 1#1)
      ∧ (Pre_dact_finite.fn (F := Ideal) x y z v).2.2.1 = (fun _ => 1#1) ∧ (Pre_dact_finite.fn (F := Ideal) x y z v).2.2.2 = (fun _ => 1#1)) :
    (∃ g, x = lift2 g) ∧ (∃ u, y = lift2 u) ∧ (∃ w, z = lift2 w) ∧ ∃ h, v = lift2 h := by
  have hx : ∀ i, Ideal.cmp .olt (max (x i) (-(x i))) ⊤ = 1#1 := fun i => by rw [← inf_f32]; exact congrFun p.1 i
  have hy : ∀ i, Ideal.cmp .olt (max (y i) (-(y i))) ⊤ = 1#1 := fun i => by rw [← inf_f32]; exact congrFun p.2.1 i
  have hz : ∀ i, Ideal.cmp .olt (max (z i) (-(z i))) ⊤ = 1#1 := fun i => by rw [← inf_f32]; exact congrFun p.2.2.1 i
  have hv : ∀ i, Ideal.cmp .olt (max (v i) (-(v i))) ⊤ = 1#1 := fun i => by rw [← inf_f32]; exact congrFun p.2.2.2 i
  exact ⟨eq_lift2 x fun i => of_abs_lt_top (hx i), eq_lift2 y fun i => of_abs_lt_top (hy i), eq_lift2 z fun i => of_abs_lt_top (hz i),
    eq_lift2 v fun i => of_abs_lt_top (hv i)⟩

end Cert.DactTie

end
-- ==== Proof.Dmerge.lean ====
/-
  The gradient of the two gates that merge the branches: the kernel and the derivative give one function.
-/
module

public import proofs.«01_k».proof.Proof.Gen.DmergeIdeal.Value
public import proofs.«01_k».proof.Proof.Gen.DmergeRefIdeal.Read
public import proofs.«01_k».proof.Proof.Reals
public import Idealize.ShloMosaic.Lib.StableHlo.ReadAt
public import Idealize.ShloMosaic.Lib.Pipeline.ValueKit

@[expose] public section

set_option maxRecDepth 16384

noncomputable section

namespace Cert.DmergeTie

open Idealize.ShloMosaic Idealize.SL.Sem Cert.Reals
open Cert.DmergeIdeal Cert.DmergeIdeal.Gen Cert.DmergeIdeal.Value

/-- The logistic function, and one entry of the product with the transposed weights. -/
def sg (x : EReal) : EReal := Ideal.div 1 (1 + Ideal.exp (-x))
def dm {n m : Nat} (h : (⟨2, ![n, 1024]⟩ : Shape).Idx → EReal) (w : (⟨2, ![m, 1024]⟩ : Shape).Idx → EReal) (r : Fin n) (j : Fin m) : EReal :=
  ∑ k : Fin 1024, h (ix2 r k) * w (ix2 j k)

/-- The gradient of a branch, and of its gate. -/
def dy (h : S8208x1024.Idx → EReal) (w : S1024x1024.Idx → EReal) (g : S8208x1024.Idx → EReal) : S8208x1024.Idx → EReal :=
  fun i => dm h w (i 0) (i 1) * sg (g i)
def dg (h : S8208x1024.Idx → EReal) (w : S1024x1024.Idx → EReal) (g y : S8208x1024.Idx → EReal) : S8208x1024.Idx → EReal :=
  fun i => dm h w (i 0) (i 1) * y i * (sg (g i) * (1 - sg (g i)))

theorem one_f32' : Ideal.ofBits .f32 0x3F800000#32 = (1 : EReal) := by rw [one_f32]; rfl
theorem zero_f32' : Ideal.ofBits .f32 0x00000000#32 = (0 : EReal) := by rw [zero_f32]; rfl

/-! ### One block -/

section block
variable (h : S768x1024.Idx → EReal) (w : S1024x512.Idx → EReal) (g y : S768x512.Idx → EReal) (r : Fin 768) (j : Fin 512)

theorem pay5 : k0_pay5 (F := Ideal) h w (ix2 r j) = ∑ k : Fin 1024, h (ix2 r k) * w (ix2 k j) := by
  unfold_payloads
  pointwise [zero_f32', zero_add]
theorem pay7 : k0_pay7 (F := Ideal) g (ix2 r j) = sg (g (ix2 r j)) := by
  unfold_payloads
  pointwise [zero_f32', one_f32']
  rw [sub_eq_add_neg, zero_add]; rfl
theorem pay8 : k0_pay8 (F := Ideal) g (ix2 r j) = sg (g (ix2 r j)) := by
  unfold_payloads
  pointwise [zero_f32', one_f32']
  rw [sub_eq_add_neg, zero_add]; rfl

end block

variable (m : (ℓ : Loc nD τ sig) → Buf (Elt Ideal) ℓ) (c : Dev nD)

theorem index0 : ∀ t : Fin cfg0.N, win0_0.index t = ![t.val % 11, 0] := by decide +kernel
theorem index1 : ∀ t : Fin cfg0.N, win0_1.index t = ![0, t.val / 11] := by decide +kernel
theorem index2 : ∀ t : Fin cfg0.N, win0_2.index t = ![t.val % 11, t.val / 11] := by decide +kernel
theorem index3 : ∀ t : Fin cfg0.N, win0_3.index t = ![t.val % 11, t.val / 11] := by decide +kernel
theorem index4 : ∀ t : Fin cfg0.N, win0_4.index t = ![t.val % 11, t.val / 11] := by decide +kernel
theorem index5 : ∀ t : Fin cfg0.N, win0_5.index t = ![t.val % 11, 2 + t.val / 11] := by decide +kernel
theorem index6 : ∀ t : Fin cfg0.N, win0_6.index t = ![t.val % 11, t.val / 11] := by decide +kernel
theorem index7 : ∀ t : Fin cfg0.N, win0_7.index t = ![t.val % 11, t.val / 11] := by decide +kernel
theorem index8 : ∀ t : Fin cfg0.N, win0_8.index t = ![t.val % 11, t.val / 11] := by decide +kernel
theorem index9 : ∀ t : Fin cfg0.N, win0_9.index t = ![t.val % 11, t.val / 11] := by decide +kernel

theorem V0 : (V m c main_v0 : S8448x1024.Idx → EReal) = grown (m ((c.tc : Thread nD τ).loc main_arg5)) := by
  funext i
  obtain ⟨r, j, rfl⟩ := exists_ix2 i
  unfold V
  after_reads_at
  rw [sitofp_zero]
  rfl
theorem V2 : (V m c main_v2 : S8448x1024.Idx → EReal) = grown (m ((c.tc : Thread nD τ).loc main_arg0)) := by
  funext i
  obtain ⟨r, j, rfl⟩ := exists_ix2 i
  unfold V
  after_reads_at
  rw [sitofp_zero]
  rfl
theorem V4 : (V m c main_v4 : S8448x1024.Idx → EReal) = grown (m ((c.tc : Thread nD τ).loc main_arg1)) := by
  funext i
  obtain ⟨r, j, rfl⟩ := exists_ix2 i
  unfold V
  after_reads_at
  rw [sitofp_zero]
  rfl
theorem V9 (k j : Fin 1024) : (V m c main_v9 : S1024x1024.Idx → EReal) (ix2 k j) = (m ((c.tc : Thread nD τ).loc main_arg4) : S1024x1024.Idx → EReal) (ix2 j k) := by
  unfold V
  after_reads_at
  try rfl
theorem V7 (r : Fin 8448) (j : Fin 2048) : (V m c main_v7 : S8448x2048.Idx → EReal) (ix2 r j) =
   if h : j.val < 1024 then (grown (m ((c.tc : Thread nD τ).loc main_arg2) : S8208x1024.Idx → EReal) : S8448x1024.Idx → EReal) (ix2 r ⟨j.val, h⟩)
    else (grown (m ((c.tc : Thread nD τ).loc main_arg3) : S8208x1024.Idx → EReal) : S8448x1024.Idx → EReal) (ix2 r ⟨j.val - 1024, by omega⟩) := by
  unfold V
  after_reads_at
  after_reads_simp
  rw [sitofp_zero]
  by_cases hr : r.val < 8208
  · rw [dif_pos hr]
    split <;> rw [grown_lt _ _ _ hr] <;> rfl
  · rw [dif_neg hr]
    split <;> rw [grown_ge _ _ _ hr]

theorem points (t : Fin cfg0.N) : t.val < 22 := lt_of_lt_of_eq t.isLt N_0

/-- Row `r` and column `j` of the block of point `t`. -/
def row (t : Fin cfg0.N) (r : Fin 768) : Fin 8448 := ⟨768 * (t.val % 11) + r.val, by omega⟩
def col (t : Fin cfg0.N) (j : Fin 512) : Fin 1024 := ⟨512 * (t.val / 11) + j.val, by have := points t; omega⟩

theorem emb0 (t : Fin cfg0.N) (r : Fin 768) (j : Fin 1024) : (win0_0.blk t).view.emb (ix2 r j) = (ix2 (row t r) j : S8448x1024.Idx) := by
  funext d
  apply Fin.ext
  match d with
  | ⟨0, _⟩ => blk_simp [index0]; exact congrArg (· + r.val) (mul_comm _ _)
  | ⟨1, _⟩ => blk_simp [index0]
theorem emb1 (t : Fin cfg0.N) (k : Fin 1024) (j : Fin 512) : (win0_1.blk t).view.emb (ix2 k j) = (ix2 k (col t j) : S1024x1024.Idx) := by
  funext d
  apply Fin.ext
  match d with
  | ⟨0, _⟩ => blk_simp [index1]
  | ⟨1, _⟩ => blk_simp [index1]; exact congrArg (· + j.val) (mul_comm _ _)
theorem emb2 (t : Fin cfg0.N) (r : Fin 768) (j : Fin 512) : (win0_2.blk t).view.emb (ix2 r j) = (ix2 (row t r) (col t j) : S8448x1024.Idx) := by
  funext d
  apply Fin.ext
  match d with
  | ⟨0, _⟩ => blk_simp [index2]; exact congrArg (· + r.val) (mul_comm _ _)
  | ⟨1, _⟩ => blk_simp [index2]; exact congrArg (· + j.val) (mul_comm _ _)
theorem emb4 (t : Fin cfg0.N) (r : Fin 768) (j : Fin 512) :
    (win0_4.blk t).view.emb (ix2 r j) = (ix2 (row t r) ⟨(col t j).val, by have := (col t j).isLt; omega⟩ : S8448x2048.Idx) := by
  funext d
  apply Fin.ext
  match d with
  | ⟨0, _⟩ => blk_simp [index4]; exact congrArg (· + r.val) (mul_comm _ _)
  | ⟨1, _⟩ => blk_simp [index4]; exact congrArg (· + j.val) (mul_comm _ _)
theorem emb5 (t : Fin cfg0.N) (r : Fin 768) (j : Fin 512) :
    (win0_5.blk t).view.emb (ix2 r j) = (ix2 (row t r) ⟨1024 + (col t j).val, by have := (col t j).isLt; omega⟩ : S8448x2048.Idx) := by
  funext d
  apply Fin.ext
  match d with
  | ⟨0, _⟩ => blk_simp [index5]; exact congrArg (· + r.val) (mul_comm _ _)
  | ⟨1, _⟩ => blk_simp [index5]; show (2 + t.val / 11) * 512 + j.val = 1024 + (512 * (t.val / 11) + j.val); omega

/-! ### The kernel -/

section kernel
variable (t : Fin cfg0.N) (r : Fin 768) (j : Fin 512)

theorem blk5 : k0_pay5 (F := Ideal) (iblk m c 0 t) (iblk m c 1 t) (ix2 r j)
    = dm (grown (m ((c.tc : Thread nD τ).loc main_arg5) : S8208x1024.Idx → EReal)) (m ((c.tc : Thread nD τ).loc main_arg4) : S1024x1024.Idx → EReal) (row t r) (col t j) := by
  refine (pay5 _ _ r j).trans (Finset.sum_congr rfl fun k _ => congrArg₂ (· * ·) ?_ ?_)
  · show (V m c main_v0 : S8448x1024.Idx → EReal) ((win0_0.blk t).view.emb (ix2 r k)) = _
    rw [V0, emb0]
  · show (V m c main_v9 : S1024x1024.Idx → EReal) ((win0_1.blk t).view.emb (ix2 k j)) = _
    rw [emb1, V9]
theorem blk2 : (iblk m c 2 t : S768x512.Idx → EReal) (ix2 r j) = grown (m ((c.tc : Thread nD τ).loc main_arg0) : S8208x1024.Idx → EReal) (ix2 (row t r) (col t j)) := by
  show (V m c main_v2 : S8448x1024.Idx → EReal) ((win0_2.blk t).view.emb (ix2 r j)) = _
  rw [V2, emb2]
theorem blk3 : (iblk m c 3 t : S768x512.Idx → EReal) (ix2 r j) = grown (m ((c.tc : Thread nD τ).loc main_arg1) : S8208x1024.Idx → EReal) (ix2 (row t r) (col t j)) := by
  show (V m c main_v4 : S8448x1024.Idx → EReal) ((win0_2.blk t).view.emb (ix2 r j)) = _
  rw [V4, emb2]
theorem blk4 : (iblk m c 4 t : S768x512.Idx → EReal) (ix2 r j) = grown (m ((c.tc : Thread nD τ).loc main_arg2) : S8208x1024.Idx → EReal) (ix2 (row t r) (col t j)) := by
  show (V m c main_v7 : S8448x2048.Idx → EReal) ((win0_4.blk t).view.emb (ix2 r j)) = _
  rw [emb4, V7, dif_pos (col t j).isLt]
theorem blk6 : (iblk m c 5 t : S768x512.Idx → EReal) (ix2 r j) = grown (m ((c.tc : Thread nD τ).loc main_arg3) : S8208x1024.Idx → EReal) (ix2 (row t r) (col t j)) := by
  show (V m c main_v7 : S8448x2048.Idx → EReal) ((win0_5.blk t).view.emb (ix2 r j)) = _
  rw [emb5, V7, dif_neg (by simp)]
  simp only [Nat.add_sub_cancel_left]

end kernel

theorem dm_lt (h : S8208x1024.Idx → EReal) (w : S1024x1024.Idx → EReal) (r : Fin 8448) (j : Fin 1024) (hr : r.val < 8208) :
    dm (grown h : S8448x1024.Idx → EReal) w r j = dm h w ⟨r.val, hr⟩ j :=
  Finset.sum_congr rfl fun k _ => by rw [grown_lt _ _ _ hr]
/-- A row below the last one has no gradient. -/
theorem dm_ge (h : S8208x1024.Idx → EReal) (w : S1024x1024.Idx → EReal) (r : Fin 8448) (j : Fin 1024) (hr : ¬r.val < 8208) :
    dm (grown h : S8448x1024.Idx → EReal) w r j = 0 :=
  Finset.sum_eq_zero fun k _ => by rw [grown_ge _ _ _ hr, zero_mul]

theorem dy_grown (h : S8208x1024.Idx → EReal) (w : S1024x1024.Idx → EReal) (g : S8208x1024.Idx → EReal) (r : Fin 8448) (j : Fin 1024) :
    dm (grown h : S8448x1024.Idx → EReal) w r j * sg (grown g (ix2 r j)) = grown (dy h w g) (ix2 r j) := by
  by_cases hr : r.val < 8208
  · rw [grown_lt _ _ _ hr, grown_lt _ _ _ hr, dm_lt _ _ _ _ hr]; rfl
  · rw [grown_ge (dy h w g) _ _ hr, dm_ge _ _ _ _ hr, zero_mul]
theorem dg_grown (h : S8208x1024.Idx → EReal) (w : S1024x1024.Idx → EReal) (g y : S8208x1024.Idx → EReal) (r : Fin 8448) (j : Fin 1024) :
    dm (grown h : S8448x1024.Idx → EReal) w r j * grown y (ix2 r j) * sg (grown g (ix2 r j)) * (1 - sg (grown g (ix2 r j))) = grown (dg h w g y) (ix2 r j) := by
  by_cases hr : r.val < 8208
  · rw [grown_lt _ _ _ hr, grown_lt _ _ _ hr, grown_lt _ _ _ hr, dm_lt _ _ _ _ hr, mul_assoc (_ * _)]; rfl
  · rw [grown_ge (dg h w g y) _ _ hr, dm_ge _ _ _ _ hr, zero_mul, zero_mul, zero_mul]

theorem arr6 : (dats m 0 c).arrAt 6 cfg0.N = (grown (dy (m ((c.tc : Thread nD τ).loc main_arg5)) (m ((c.tc : Thread nD τ).loc main_arg4))
    (m ((c.tc : Thread nD τ).loc main_arg2))) : S8448x1024.Idx → EReal) := by
  refine (dats m 0 c).arrAt_eq_of_covers 6 _ (by decide +kernel) fun t hf y => ?_
  blk_simp
  rw [after0_6]
  frame_out
  obtain ⟨r, j, rfl⟩ := exists_ix2 y
  rw [show (win0_6.blk t).view.emb (ix2 r j) = (ix2 (row t r) (col t j) : S8448x1024.Idx) from emb2 t r j]
  unfold k0_pay1 k0_pay9
  pointwise [blk5, pay7, blk4]
  exact dy_grown _ _ _ _ _

theorem arr7 : (dats m 0 c).arrAt 7 cfg0.N = (grown (dy (m ((c.tc : Thread nD τ).loc main_arg5)) (m ((c.tc : Thread nD τ).loc main_arg4))
    (m ((c.tc : Thread nD τ).loc main_arg3))) : S8448x1024.Idx → EReal) := by
  refine (dats m 0 c).arrAt_eq_of_covers 7 _ (by decide +kernel) fun t hf y => ?_
  blk_simp
  rw [after0_7]
  frame_out
  obtain ⟨r, j, rfl⟩ := exists_ix2 y
  rw [show (win0_7.blk t).view.emb (ix2 r j) = (ix2 (row t r) (col t j) : S8448x1024.Idx) from emb2 t r j]
  unfold k0_pay2 k0_pay10
  pointwise [blk5, pay8, blk6]
  exact dy_grown _ _ _ _ _

theorem arr8 : (dats m 0 c).arrAt 8 cfg0.N = (grown (dg (m ((c.tc : Thread nD τ).loc main_arg5)) (m ((c.tc : Thread nD τ).loc main_arg4))
    (m ((c.tc : Thread nD τ).loc main_arg2)) (m ((c.tc : Thread nD τ).loc main_arg0))) : S8448x1024.Idx → EReal) := by
  refine (dats m 0 c).arrAt_eq_of_covers 8 _ (by decide +kernel) fun t hf y => ?_
  blk_simp
  rw [after0_8]
  frame_out
  obtain ⟨r, j, rfl⟩ := exists_ix2 y
  rw [show (win0_8.blk t).view.emb (ix2 r j) = (ix2 (row t r) (col t j) : S8448x1024.Idx) from emb2 t r j]
  unfold k0_pay3 k0_pay11 k0_pay12
  pointwise [blk5, pay7, blk4, blk2, one_f32']
  exact dg_grown _ _ _ _ _ _

theorem arr9 : (dats m 0 c).arrAt 9 cfg0.N = (grown (dg (m ((c.tc : Thread nD τ).loc main_arg5)) (m ((c.tc : Thread nD τ).loc main_arg4))
    (m ((c.tc : Thread nD τ).loc main_arg3)) (m ((c.tc : Thread nD τ).loc main_arg1))) : S8448x1024.Idx → EReal) := by
  refine (dats m 0 c).arrAt_eq_of_covers 9 _ (by decide +kernel) fun t hf y => ?_
  blk_simp
  rw [after0_9]
  frame_out
  obtain ⟨r, j, rfl⟩ := exists_ix2 y
  rw [show (win0_9.blk t).view.emb (ix2 r j) = (ix2 (row t r) (col t j) : S8448x1024.Idx) from emb2 t r j]
  unfold k0_pay4 k0_pay6
  pointwise [blk5, pay8, blk6, blk3, one_f32']
  exact dg_grown _ _ _ _ _ _

/-! ### The derivative -/

section derivative
variable (y : S8208x1024.Idx → EReal) (w : S1024x1024.Idx → EReal) (g h : S8208x1024.Idx → EReal)

theorem ref26 (r : Fin 8208) (j : Fin 1024) : DmergeRefIdeal.Read.val_main_v26 (F := Ideal) g w h (ix2 r j) = dy h w g (ix2 r j) := by
  open DmergeRefIdeal.Read in
  unfold val_main_v26 val_main_v22 val_main_v5 val_main_v4 val_main_v3 val_main_v2 val_main_v1 val_main_v0 val_main_cst val_main_cst_0
  pointwise [one_f32']
  exact mul_comm _ _
theorem ref23 (r : Fin 8208) (j : Fin 1024) : DmergeRefIdeal.Read.val_main_v23 (F := Ideal) g w h (ix2 r j) = dy h w g (ix2 r j) := ref26 w g h r j
theorem ref28 (r : Fin 8208) (j : Fin 1024) : DmergeRefIdeal.Read.val_main_v28 (F := Ideal) y g w h (ix2 r j) = dg h w g y (ix2 r j) := by
  open DmergeRefIdeal.Read in
  unfold val_main_v28 val_main_v27 val_main_v22 val_main_v8 val_main_v7 val_main_v6 val_main_v5 val_main_v4 val_main_v3 val_main_v2 val_main_v1 val_main_v0 val_main_cst val_main_cst_0 val_main_cst_1
  pointwise [one_f32']
  rfl
theorem ref25 (r : Fin 8208) (j : Fin 1024) : DmergeRefIdeal.Read.val_main_v25 (F := Ideal) y g w h (ix2 r j) = dg h w g y (ix2 r j) := ref28 y w g h r j

/-- The zero rows below the last one. -/
theorem grow (x : S8208x1024.Idx → EReal) (z : FVec Ideal S8208x1024 .f32) (hx : ∀ r j, z (ix2 r j) = x (ix2 r j)) :
    (truncf .bf16 (pad S8448x1024 ![0, 0] ![240, 0] ![0, 0] z
    (sitofp .f32 (constantI S_ 32 0#32)) DmergeRefIdeal.Gen.pads_S8208x1024_S8448x1024_02400_000 DmergeRefIdeal.Gen.h_S_) DmergeRefIdeal.Gen.bitsLt_bf16_f32 : FVec Ideal S8448x1024 .bf16) = fun i => (grown x : S8448x1024.Idx → EReal) i := by
  funext i
  obtain ⟨r, j, rfl⟩ := exists_ix2 i
  pointwise [hx]
  rw [sitofp_zero]
  rfl

theorem ref30 : DmergeRefIdeal.Read.val_main_v30 (F := Ideal) g w h = (grown (dy h w g) : S8448x1024.Idx → EReal) := grow _ _ (ref26 w g h)
theorem ref32 : DmergeRefIdeal.Read.val_main_v32 (F := Ideal) g w h = (grown (dy h w g) : S8448x1024.Idx → EReal) := grow _ _ (ref23 w g h)
theorem ref34 : DmergeRefIdeal.Read.val_main_v34 (F := Ideal) y g w h = (grown (dg h w g y) : S8448x1024.Idx → EReal) := grow _ _ (ref28 y w g h)
theorem ref36 : DmergeRefIdeal.Read.val_main_v36 (F := Ideal) y g w h = (grown (dg h w g y) : S8448x1024.Idx → EReal) := grow _ _ (ref25 y w g h)

end derivative

end Cert.DmergeTie

end
-- ==== Proof.Nfwd.lean ====
/-
  A norm over its rows: the kernel and the plain lines give one function.
-/
module

public import proofs.«01_k».proof.Proof.Gen.NfwdIdeal.Value
public import proofs.«01_k».proof.Proof.Gen.NfwdRefIdeal.Read
public import proofs.«01_k».proof.Proof.Dmerge
public import Idealize.ShloMosaic.Lib.StableHlo.ReadAt
public import Idealize.ShloMosaic.Lib.Pipeline.ValueKit

@[expose] public section

set_option maxRecDepth 16384

noncomputable section

namespace Cert.NfwdTie

open Idealize.ShloMosaic Idealize.SL.Sem Cert.Reals
open Cert.NfwdIdeal Cert.NfwdIdeal.Gen Cert.NfwdIdeal.Value
open Cert.DmergeTie (zero_f32')

/-- A row over the root of its mean square, times the weights. -/
def nrm (x w : Fin 1024 → EReal) (j : Fin 1024) : EReal :=
  x j * Ideal.rsqrt (Ideal.div (∑ k, x k * x k) (Ideal.ofBits .f32 0x44800000#32) + Ideal.ofBits .f32 0x358637BD#32) * w j

theorem pay1 (x : S768x1024.Idx → EReal) (w : S1x1024.Idx → EReal) (r : Fin 768) (j : Fin 1024) :
    k0_pay1 (F := Ideal) x w (ix2 r j) = nrm (fun k => x (ix2 r k)) (fun k => w (ix2 0 k)) j := by
  unfold_payloads
  pointwise [zero_f32', zero_add]
  rfl

variable (m : (ℓ : Loc nD τ sig) → Buf (Elt Ideal) ℓ) (c : Dev nD)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

theorem V0 : (V m c main_v0 : S8448x1024.Idx → EReal) = grown (m ((c.tc : Thread nD τ).loc main_arg0)) := by
  funext i
  obtain ⟨r, j, rfl⟩ := exists_ix2 i
  unfold V
  after_reads_at
  rw [sitofp_zero]
  rfl

theorem points (t : Fin cfg0.N) : t.val < 11 := lt_of_lt_of_eq t.isLt N_0

/-- Row `r` of the block of point `t`. -/
def row (t : Fin cfg0.N) (r : Fin 768) : Fin 8448 := ⟨768 * t.val + r.val, by have := points t; omega⟩

theorem emb0 (t : Fin cfg0.N) (r : Fin 768) (j : Fin 1024) : (win0_0.blk t).view.emb (ix2 r j) = (ix2 (row t r) j : S8448x1024.Idx) := by
  funext d
  apply Fin.ext
  match d with
  | ⟨0, _⟩ => blk_simp [index0]; exact congrArg (· + r.val) (mul_comm _ _)
  | ⟨1, _⟩ => blk_simp [index0]
theorem emb1 (t : Fin cfg0.N) (z : Fin 1) (j : Fin 1024) : (win0_1.blk t).view.emb (ix2 z j) = (ix2 z j : S1x1024.Idx) := by
  funext d
  apply Fin.ext
  match d with
  | ⟨0, _⟩ => blk_simp [index1]
  | ⟨1, _⟩ => blk_simp [index1]

theorem blk0 (t : Fin cfg0.N) (r : Fin 768) (j : Fin 1024) : (iblk m c 0 t : S768x1024.Idx → EReal) (ix2 r j)
    = grown (m ((c.tc : Thread nD τ).loc main_arg0) : S8208x1024.Idx → EReal) (ix2 (row t r) j) := by
  show (V m c main_v0 : S8448x1024.Idx → EReal) ((win0_0.blk t).view.emb (ix2 r j)) = _
  rw [V0, emb0]
theorem blk1 (t : Fin cfg0.N) (z : Fin 1) (j : Fin 1024) : (iblk m c 1 t : S1x1024.Idx → EReal) (ix2 z j)
    = (m ((c.tc : Thread nD τ).loc main_arg1) : S1x1024.Idx → EReal) (ix2 z j) := by
  show (V m c main_arg1 : S1x1024.Idx → EReal) ((win0_1.blk t).view.emb (ix2 z j)) = _
  rw [emb1, V_main_arg1]

/-- The normed rows. -/
def normed (x : S8208x1024.Idx → EReal) (w : S1x1024.Idx → EReal) : S8448x1024.Idx → EReal :=
  fun i => nrm (fun k => grown x (ix2 (i 0) k)) (fun k => w (ix2 0 k)) (i 1)

theorem arr2 : (dats m 0 c).arrAt 2 cfg0.N
    = normed (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨r, j, rfl⟩ := exists_ix2 y
  rw [show (win0_2.blk t).view.emb (ix2 r j) = (ix2 (row t r) j : S8448x1024.Idx) from emb0 t r j]
  refine (pay1 _ _ r j).trans ?_
  simp only [blk0, blk1]
  rfl

/-! ### The plain lines -/

theorem ref0 (x : S8208x1024.Idx → EReal) : NfwdRefIdeal.Read.val_main_v0 (F := Ideal) x = grown x := by
  funext i
  obtain ⟨r, j, rfl⟩ := exists_ix2 i
  open NfwdRefIdeal.Read in
  unfold val_main_v0 val_main_call0_v0 val_main_c
  pointwise [sitofp_zero]
  rfl

theorem ref13 (x : S8208x1024.Idx → EReal) (w : S1x1024.Idx → EReal) : NfwdRefIdeal.Read.val_main_v13 (F := Ideal) x w = normed x w := by
  funext i
  obtain ⟨r, j, rfl⟩ := exists_ix2 i
  open NfwdRefIdeal.Read in
  unfold val_main_v13 val_main_v12 val_main_v11 val_main_v10 val_main_v9 val_main_v8 val_main_v7 val_main_v6 val_main_v5 val_main_v4
    val_main_v3 val_main_v2 val_main_v1 val_main_cst val_main_cst_0 val_main_cst_1
  rw [ref0]
  pointwise [zero_f32', zero_add]
  rfl

end Cert.NfwdTie

end
-- ==== Proof.Out.lean ====
/-
  The mixing layer's output added to the residual, and the norm of it: the kernel and the plain lines give one function.
-/
module

public import proofs.«01_k».proof.Proof.Gen.OutIdeal.Value
public import proofs.«01_k».proof.Proof.Gen.OutRefIdeal.Read
public import proofs.«01_k».proof.Proof.Nfwd
public import Idealize.ShloMosaic.Lib.StableHlo.ReadAt
public import Idealize.ShloMosaic.Lib.Pipeline.ValueKit

@[expose] public section

set_option maxRecDepth 16384

noncomputable section

namespace Cert.OutTie

open Idealize.ShloMosaic Idealize.SL.Sem Cert.Reals
open Cert.OutIdeal Cert.OutIdeal.Gen Cert.OutIdeal.Value
open Cert.DmergeTie (zero_f32' one_f32')
open Cert.NfwdTie (nrm)

/-- A row of the residual plus its product with the weights. -/
def added (h : EReal) (x w : Fin 1024 → EReal) : EReal := h + ∑ k, x k * w k

/-! ### One block -/

section block
variable (x : S768x1024.Idx → EReal) (w : S1024x1024.Idx → EReal) (h : S768x1024.Idx → EReal) (g : S1x1024.Idx → EReal) (r : Fin 768) (j : Fin 1024)

theorem pay1 : k0_pay1 (F := Ideal) x w h (ix2 r j) = added (h (ix2 r j)) (fun k => x (ix2 r k)) fun k => w (ix2 k j) := by
  unfold_payloads
  pointwise [zero_f32', one_f32', one_mul, zero_add]
  rfl
theorem pay2 : k0_pay2 (F := Ideal) x w h g (ix2 r j)
    = nrm (fun k => added (h (ix2 r k)) (fun l => x (ix2 r l)) fun l => w (ix2 l k)) (fun k => g (ix2 0 k)) j := by
  unfold k0_pay2
  pointwise [pay1, zero_f32', zero_add]
  rfl

end block

/-! ### The kernel -/

variable (m : (ℓ : Loc nD τ sig) → Buf (Elt Ideal) ℓ) (c : Dev nD)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![t.val, 0] := by decide +kernel
theorem index5 : ∀ t : Fin cfg0.N, win0_5.index t = ![t.val, 0] := by decide +kernel

theorem V1 : (V m c main_v1 : S8448x1024.Idx → EReal) = grown (m ((c.tc : Thread nD τ).loc main_arg0)) := by
  funext i
  obtain ⟨r, j, rfl⟩ := exists_ix2 i
  unfold V
  after_reads_at
  rw [sitofp_zero]
  rfl
theorem V2 (k : Fin 1024) (j : Fin 1024) : (V m c main_v2 : S1024x1024.Idx → EReal) (ix2 k j) = (m ((c.tc : Thread nD τ).loc main_arg1) : S1024x1024.Idx → EReal) (ix2 k j) := by
  unfold V
  after_reads_at
  try rfl
theorem V3 : (V m c main_v3 : S8448x1024.Idx → EReal) = grown (m ((c.tc : Thread nD τ).loc main_arg2)) := by
  funext i
  obtain ⟨r, j, rfl⟩ := exists_ix2 i
  unfold V
  after_reads_at
  rw [sitofp_zero]
  rfl

theorem points (t : Fin cfg0.N) : t.val < 11 := lt_of_lt_of_eq t.isLt N_0

/-- Row `r` of the block of point `t`. -/
def row (t : Fin cfg0.N) (r : Fin 768) : Fin 8448 := ⟨768 * t.val + r.val, by have := points t; omega⟩

theorem emb0 (t : Fin cfg0.N) (r : Fin 768) (j : Fin 1024) : (win0_0.blk t).view.emb (ix2 r j) = (ix2 (row t r) j : S8448x1024.Idx) := by
  funext d
  apply Fin.ext
  match d with
  | ⟨0, _⟩ => blk_simp [index0]; exact congrArg (· + r.val) (mul_comm _ _)
  | ⟨1, _⟩ => blk_simp [index0]
theorem emb1 (t : Fin cfg0.N) (k : Fin 1024) (j : Fin 1024) : (win0_1.blk t).view.emb (ix2 k j) = (ix2 k j : S1024x1024.Idx) := by
  funext d
  apply Fin.ext
  match d with
  | ⟨0, _⟩ => blk_simp [index1]
  | ⟨1, _⟩ => blk_simp [index1]
theorem emb2 (t : Fin cfg0.N) (r : Fin 768) (j : Fin 1024) : (win0_2.blk t).view.emb (ix2 r j) = (ix2 (row t r) j : S8448x1024.Idx) := by
  funext d
  apply Fin.ext
  match d with
  | ⟨0, _⟩ => blk_simp [index2]; exact congrArg (· + r.val) (mul_comm _ _)
  | ⟨1, _⟩ => blk_simp [index2]
theorem emb3 (t : Fin cfg0.N) (z : Fin 1) (j : Fin 1024) : (win0_3.blk t).view.emb (ix2 z j) = (ix2 z j : S1x1024.Idx) := by
  funext d
  apply Fin.ext
  match d with
  | ⟨0, _⟩ => blk_simp [index3]
  | ⟨1, _⟩ => blk_simp [index3]

section points
variable (t : Fin cfg0.N) (r : Fin 768) (j : Fin 1024)

theorem blk0 (k : Fin 1024) : (iblk m c 0 t : S768x1024.Idx → EReal) (ix2 r k)
    = grown (m ((c.tc : Thread nD τ).loc main_arg0) : S8208x1024.Idx → EReal) (ix2 (row t r) k) := by
  show (V m c main_v1 : S8448x1024.Idx → EReal) ((win0_0.blk t).view.emb (ix2 r k)) = _
  rw [V1, emb0]
theorem blk1 (k : Fin 1024) : (iblk m c 1 t : S1024x1024.Idx → EReal) (ix2 k j)
    = (m ((c.tc : Thread nD τ).loc main_arg1) : S1024x1024.Idx → EReal) (ix2 k j) := by
  show (V m c main_v2 : S1024x1024.Idx → EReal) ((win0_1.blk t).view.emb (ix2 k j)) = _
  rw [emb1, V2]
theorem blk2 : (iblk m c 2 t : S768x1024.Idx → EReal) (ix2 r j)
    = grown (m ((c.tc : Thread nD τ).loc main_arg2) : S8208x1024.Idx → EReal) (ix2 (row t r) j) := by
  show (V m c main_v3 : S8448x1024.Idx → EReal) ((win0_2.blk t).view.emb (ix2 r j)) = _
  rw [V3, emb2]
theorem blk3 (z : Fin 1) : (iblk m c 3 t : S1x1024.Idx → EReal) (ix2 z j) = (m ((c.tc : Thread nD τ).loc main_arg3) : S1x1024.Idx → EReal) (ix2 z j) := by
  show (V m c main_arg3 : S1x1024.Idx → EReal) ((win0_3.blk t).view.emb (ix2 z j)) = _
  rw [emb3, V_main_arg3]

end points

/-- The new residual, and the norm of it. -/
def next (x : S8208x1024.Idx → EReal) (w : S1024x1024.Idx → EReal) (h : S8208x1024.Idx → EReal) (r : Fin 8448) (j : Fin 1024) : EReal :=
  added (grown h (ix2 r j)) (fun k => grown x (ix2 r k)) fun k => w (ix2 k j)
def residual (x : S8208x1024.Idx → EReal) (w : S1024x1024.Idx → EReal) (h : S8208x1024.Idx → EReal) : S8448x1024.Idx → EReal :=
  fun i => next x w h (i 0) (i 1)
def normed (x : S8208x1024.Idx → EReal) (w : S1024x1024.Idx → EReal) (h : S8208x1024.Idx → EReal) (g : S1x1024.Idx → EReal) : S8448x1024.Idx → EReal :=
  fun i => nrm (next x w h (i 0)) (fun k => g (ix2 0 k)) (i 1)

theorem arr4 : (dats m 0 c).arrAt 4 cfg0.N
    = residual (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  frame_out
  obtain ⟨r, j, rfl⟩ := exists_ix2 y
  rw [show (win0_4.blk t).view.emb (ix2 r j) = (ix2 (row t r) j : S8448x1024.Idx) from emb2 t r j]
  refine (pay1 _ _ _ r j).trans ?_
  simp only [blk0, blk1, blk2]
  rfl
theorem arr5 : (dats m 0 c).arrAt 5 cfg0.N = normed (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 5 _ (by decide +kernel) fun t hf y => ?_
  blk_simp
  rw [after0_5]
  frame_out
  obtain ⟨r, j, rfl⟩ := exists_ix2 y
  rw [show (win0_5.blk t).view.emb (ix2 r j) = (ix2 (row t r) j : S8448x1024.Idx) from emb2 t r j]
  refine (pay2 _ _ _ _ r j).trans ?_
  simp only [blk0, blk1, blk2, blk3]
  rfl

/-! ### The plain lines -/

section lines
variable (x : S8208x1024.Idx → EReal) (w : S1024x1024.Idx → EReal) (h : S8208x1024.Idx → EReal) (g : S1x1024.Idx → EReal)

theorem ref0 : OutRefIdeal.Read.val_main_v0 (F := Ideal) h = grown h := by
  funext i
  obtain ⟨r, j, rfl⟩ := exists_ix2 i
  open OutRefIdeal.Read in
  unfold val_main_v0 val_main_call0_v0 val_main_c
  pointwise [sitofp_zero]
  rfl
theorem ref1 : OutRefIdeal.Read.val_main_v1 (F := Ideal) x = grown x := by
  funext i
  obtain ⟨r, j, rfl⟩ := exists_ix2 i
  open OutRefIdeal.Read in
  unfold val_main_v1 val_main_call1_v0 val_main_c_0
  pointwise [sitofp_zero]
  rfl
theorem ref3 : OutRefIdeal.Read.val_main_v3 (F := Ideal) x w h = residual x w h := by
  funext i
  obtain ⟨r, j, rfl⟩ := exists_ix2 i
  open OutRefIdeal.Read in
  unfold val_main_v3 val_main_v2
  rw [ref0, ref1]
  pointwise []
  rfl
theorem ref16 : OutRefIdeal.Read.val_main_v16 (F := Ideal) x w h g = normed x w h g := by
  funext i
  obtain ⟨r, j, rfl⟩ := exists_ix2 i
  open OutRefIdeal.Read in
  unfold val_main_v16 val_main_v15 val_main_v14 val_main_v13 val_main_v12 val_main_v11 val_main_v10 val_main_v9
    val_main_v8 val_main_v7 val_main_v6 val_main_v5 val_main_v4 val_main_cst val_main_cst_1 val_main_cst_2
  rw [ref3]
  pointwise [zero_f32', zero_add]
  rfl

end lines

end Cert.OutTie

end
-- ==== Proof.Dxn.lean ====
/-
  The gradient of the feed-forward layer's normed input: a product over both halves of the weights' columns.
-/
module

public import proofs.«01_k».proof.Proof.Gen.DxnIdeal.Value
public import proofs.«01_k».proof.Proof.Gen.DxnRefIdeal.Read
public import proofs.«01_k».proof.Proof.Dmerge
public import proofs.«01_k».proof.Proof.Reals
public import Idealize.ShloMosaic.Lib.StableHlo.ReadAt
public import Idealize.ShloMosaic.Lib.Pipeline.ValueKit

@[expose] public section

set_option maxRecDepth 16384

noncomputable section

namespace Cert.DxnTie

open Idealize.ShloMosaic Idealize.SL.Sem Cert.Reals
open Cert.DxnIdeal Cert.DxnIdeal.Gen Cert.DxnIdeal.Value
open Cert.DmergeTie (zero_f32')

/-! ### One block -/

theorem pay1 (a b : S768x2816.Idx → EReal) (u w : S2816x512.Idx → EReal) (r : Fin 768) (j : Fin 512) :
    k0_pay1 (F := Ideal) a b u w (ix2 r j) = ∑ k : Fin 2816, a (ix2 r k) * u (ix2 k j) + ∑ k : Fin 2816, b (ix2 r k) * w (ix2 k j) := by
  unfold_payloads
  pointwise [zero_f32', zero_add]

/-- A column of the weights' first half, and one of the second. -/
def lo (k : Fin 2816) : Fin 5632 := ⟨k.val, by omega⟩
def hi (k : Fin 2816) : Fin 5632 := ⟨2816 + k.val, by omega⟩

/-! ### The kernel -/

variable (m : (ℓ : Loc nD τ sig) → Buf (Elt Ideal) ℓ) (c : Dev nD)

theorem index0 : ∀ t : Fin cfg0.N, win0_0.index t = ![t.val % 11, 0] := by decide +kernel
theorem index1 : ∀ t : Fin cfg0.N, win0_1.index t = ![t.val % 11, 0] := by decide +kernel
theorem index2 : ∀ t : Fin cfg0.N, win0_2.index t = ![0, t.val / 11] := by decide +kernel
theorem index3 : ∀ t : Fin cfg0.N, win0_3.index t = ![0, t.val / 11] := by decide +kernel
theorem index4 : ∀ t : Fin cfg0.N, win0_4.index t = ![t.val % 11, t.val / 11] := by decide +kernel

abbrev A0 : S8208x2816.Idx → EReal := m ((c.tc : Thread nD τ).loc main_arg0)
abbrev A1 : S8208x2816.Idx → EReal := m ((c.tc : Thread nD τ).loc main_arg1)
abbrev A2 : S1024x5632.Idx → EReal := m ((c.tc : Thread nD τ).loc main_arg2)

theorem V1 : (V m c main_v1 : S8448x2816.Idx → EReal) = grown (A0 m c) := by
  funext i
  obtain ⟨r, j, rfl⟩ := exists_ix2 i
  unfold V
  after_reads_at
  rw [sitofp_zero]
  rfl
theorem V3 : (V m c main_v3 : S8448x2816.Idx → EReal) = grown (A1 m c) := by
  funext i
  obtain ⟨r, j, rfl⟩ := exists_ix2 i
  unfold V
  after_reads_at
  rw [sitofp_zero]
  rfl
theorem V6 (k : Fin 2816) (j : Fin 1024) : (V m c main_v6 : S2816x1024.Idx → EReal) (ix2 k j) = A2 m c (ix2 j (lo k)) := by
  unfold V
  after_reads_at
  try rfl
theorem V7 (k : Fin 2816) (j : Fin 1024) : (V m c main_v7 : S2816x1024.Idx → EReal) (ix2 k j) = A2 m c (ix2 j (hi k)) := by
  unfold V
  after_reads_at
  try rfl

theorem points (t : Fin cfg0.N) : t.val < 22 := lt_of_lt_of_eq t.isLt N_0

/-- Row `r` and column `j` of the block of point `t`. -/
def row (t : Fin cfg0.N) (r : Fin 768) : Fin 8448 := ⟨768 * (t.val % 11) + r.val, by omega⟩
def col (t : Fin cfg0.N) (j : Fin 512) : Fin 1024 := ⟨512 * (t.val / 11) + j.val, by have := points t; omega⟩

theorem emb0 (t : Fin cfg0.N) (r : Fin 768) (k : Fin 2816) : (win0_0.blk t).view.emb (ix2 r k) = (ix2 (row t r) k : S8448x2816.Idx) := by
  funext d
  apply Fin.ext
  match d with
  | ⟨0, _⟩ => blk_simp [index0]; exact congrArg (· + r.val) (mul_comm _ _)
  | ⟨1, _⟩ => blk_simp [index0]
theorem emb1 (t : Fin cfg0.N) (r : Fin 768) (k : Fin 2816) : (win0_1.blk t).view.emb (ix2 r k) = (ix2 (row t r) k : S8448x2816.Idx) := by
  funext d
  apply Fin.ext
  match d with
  | ⟨0, _⟩ => blk_simp [index1]; exact congrArg (· + r.val) (mul_comm _ _)
  | ⟨1, _⟩ => blk_simp [index1]
theorem emb2 (t : Fin cfg0.N) (k : Fin 2816) (j : Fin 512) : (win0_2.blk t).view.emb (ix2 k j) = (ix2 k (col t j) : S2816x1024.Idx) := by
  funext d
  apply Fin.ext
  match d with
  | ⟨0, _⟩ => blk_simp [index2]
  | ⟨1, _⟩ => blk_simp [index2]; exact congrArg (· + j.val) (mul_comm _ _)
theorem emb3 (t : Fin cfg0.N) (k : Fin 2816) (j : Fin 512) : (win0_3.blk t).view.emb (ix2 k j) = (ix2 k (col t j) : S2816x1024.Idx) := by
  funext d
  apply Fin.ext
  match d with
  | ⟨0, _⟩ => blk_simp [index3]
  | ⟨1, _⟩ => blk_simp [index3]; exact congrArg (· + j.val) (mul_comm _ _)
theorem emb4 (t : Fin cfg0.N) (r : Fin 768) (j : Fin 512) : (win0_4.blk t).view.emb (ix2 r j) = (ix2 (row t r) (col t j) : S8448x1024.Idx) := by
  funext d
  apply Fin.ext
  match d with
  | ⟨0, _⟩ => blk_simp [index4]; exact congrArg (· + r.val) (mul_comm _ _)
  | ⟨1, _⟩ => blk_simp [index4]; exact congrArg (· + j.val) (mul_comm _ _)

section points
variable (t : Fin cfg0.N) (r : Fin 768) (j : Fin 512) (k : Fin 2816)

theorem blk0 : (iblk m c 0 t : S768x2816.Idx → EReal) (ix2 r k) = grown (A0 m c) (ix2 (row t r) k) := by
  show (V m c main_v1 : S8448x2816.Idx → EReal) ((win0_0.blk t).view.emb (ix2 r k)) = _
  rw [V1, emb0]
theorem blk1 : (iblk m c 1 t : S768x2816.Idx → EReal) (ix2 r k) = grown (A1 m c) (ix2 (row t r) k) := by
  show (V m c main_v3 : S8448x2816.Idx → EReal) ((win0_1.blk t).view.emb (ix2 r k)) = _
  rw [V3, emb1]
theorem blk2 : (iblk m c 2 t : S2816x512.Idx → EReal) (ix2 k j) = A2 m c (ix2 (col t j) (lo k)) := by
  show (V m c main_v6 : S2816x1024.Idx → EReal) ((win0_2.blk t).view.emb (ix2 k j)) = _
  rw [emb2, V6]
theorem blk3 : (iblk m c 3 t : S2816x512.Idx → EReal) (ix2 k j) = A2 m c (ix2 (col t j) (hi k)) := by
  show (V m c main_v7 : S2816x1024.Idx → EReal) ((win0_3.blk t).view.emb (ix2 k j)) = _
  rw [emb3, V7]

end points

/-- Both halves' products, added. -/
def both (a b : S8208x2816.Idx → EReal) (w : S1024x5632.Idx → EReal) : S8448x1024.Idx → EReal := fun i =>
  ∑ k : Fin 2816, grown (k := 8448) a (ix2 (i 0) k) * w (ix2 (i 1) (lo k))
    + ∑ k : Fin 2816, grown (k := 8448) b (ix2 (i 0) k) * w (ix2 (i 1) (hi k))

theorem arr4 : (dats m 0 c).arrAt 4 cfg0.N = both (A0 m c) (A1 m c) (A2 m c) := by
  refine (dats m 0 c).arrAt_eq_of_covers 4 _ (by decide +kernel) fun t hf y => ?_
  blk_simp
  rw [after0_4]
  frame_out
  obtain ⟨r, j, rfl⟩ := exists_ix2 y
  rw [emb4]
  refine (pay1 _ _ _ _ r j).trans ?_
  simp only [blk0, blk1, blk2, blk3]
  rfl

/-! ### The plain lines -/

section lines
variable (a b : S8208x2816.Idx → EReal) (w : S1024x5632.Idx → EReal)

theorem ref5 (r : Fin 8208) (j : Fin 1024) : DxnRefIdeal.Read.val_main_v5 (F := Ideal) a b w (ix2 r j)
    = ∑ k : Fin 2816, a (ix2 r k) * w (ix2 j (lo k)) + ∑ k : Fin 2816, b (ix2 r k) * w (ix2 j (hi k)) := by
  open DxnRefIdeal.Read in
  unfold val_main_v5 val_main_v4
  pointwise []
  rfl
theorem ref6 : DxnRefIdeal.Read.val_main_v6 (F := Ideal) a b w = both a b w := by
  funext i
  obtain ⟨r, j, rfl⟩ := exists_ix2 i
  have e : DxnRefIdeal.Read.val_main_v6 (F := Ideal) a b w (ix2 r j) = grown (DxnRefIdeal.Read.val_main_v5 (F := Ideal) a b w) (ix2 r j) := by
    open DxnRefIdeal.Read in
    unfold val_main_v6 val_main_call0_v0 val_main_c
    generalize DxnRefIdeal.Read.val_main_v5 (F := Ideal) a b w = y
    pointwise [sitofp_zero]
    rfl
  rw [e]
  show _ = ∑ k : Fin 2816, grown (k := 8448) a (ix2 r k) * w (ix2 j (lo k)) + ∑ k : Fin 2816, grown (k := 8448) b (ix2 r k) * w (ix2 j (hi k))
  by_cases h : r.val < 8208
  · rw [grown_lt _ r j h, ref5]
    simp only [grown_lt _ r _ h]
  · rw [grown_ge _ r j h]
    have z (x : S8208x2816.Idx → EReal) (k : Fin 2816) : grown x (ix2 r k) = 0 := grown_ge x r k h
    simp [z]

end lines

end Cert.DxnTie

end
-- ==== Proof.Sum.lean ====
/-
  The sum over the devices' slots, term by term in the kernel and at once in the plain lines.
-/
module

public import proofs.«01_k».proof.Proof.Gen.SumIdeal.Value
public import proofs.«01_k».proof.Proof.Gen.SumRefIdeal.Read
public import proofs.«01_k».proof.Proof.Dmerge
public import proofs.«01_k».proof.Proof.Reals
public import Idealize.ShloMosaic.Lib.StableHlo.ReadAt
public import Idealize.ShloMosaic.Lib.Pipeline.ValueKit

@[expose] public section

set_option maxRecDepth 16384

noncomputable section

namespace Cert.SumTie

open Idealize.ShloMosaic Idealize.SL.Sem Cert.Reals
open Cert.SumIdeal Cert.SumIdeal.Gen Cert.SumIdeal.Value
open Cert.DmergeTie (zero_f32')

/-- The eight slots, added in their order. -/
def eight (f : Fin 8 → EReal) : EReal := f 0 + f 1 + f 2 + f 3 + f 4 + f 5 + f 6 + f 7
theorem sum_eight (f : Fin 8 → EReal) : ∑ s, f s = eight f := Fin.sum_univ_eight f

/-! ### The kernel -/

theorem pay1 (x : S8x272x128.Idx → EReal) (r : Fin 272) (j : Fin 128) :
    k0_pay1 (F := Ideal) (View.ld x r0_0) (View.ld x r0_1) (View.ld x r0_2) (View.ld x r0_3) (View.ld x r0_4) (View.ld x r0_5) (View.ld x r0_6)
      (View.ld x r0_7) (ix2 r j) = eight fun s => x (ix3 s r j) := by
  unfold_payloads
  pointwise []
  rfl

variable (m : (ℓ : Loc nD τ sig) → Buf (Elt Ideal) ℓ) (c : Dev nD)

abbrev A0 : S8x272x128.Idx → EReal := m ((c.tc : Thread nD τ).loc main_arg0)

theorem index0 : ∀ t : Fin cfg0.N, win0_0.index t = ![0, 0, 0] := by decide +kernel
theorem index1 : ∀ t : Fin cfg0.N, win0_1.index t = ![0, 0] := by decide +kernel

/-- The slots' sum, entry by entry. -/
def summed (x : S8x272x128.Idx → EReal) : S272x128.Idx → EReal := fun i => eight fun s => x (ix3 s (i 0) (i 1))

theorem blk0 (t : Fin cfg0.N) : (iblk m c 0 t : S8x272x128.Idx → EReal) = A0 m c := by
  funext i
  obtain ⟨s, r, j, rfl⟩ := exists_ix3 i
  show (V m c main_arg0 : S8x272x128.Idx → EReal) ((win0_0.blk t).view.emb (ix3 s r j)) = _
  rw [V_main_arg0]
  refine congrArg (A0 m c) ?_
  funext d
  apply Fin.ext
  match d with
  | ⟨0, _⟩ => blk_simp [index0]
  | ⟨1, _⟩ => blk_simp [index0]
  | ⟨2, _⟩ => blk_simp [index0]
theorem emb1 (t : Fin cfg0.N) (r : Fin 272) (j : Fin 128) : (win0_1.blk t).view.emb (ix2 r j) = (ix2 r j : S272x128.Idx) := by
  funext d
  apply Fin.ext
  match d with
  | ⟨0, _⟩ => blk_simp [index1]
  | ⟨1, _⟩ => blk_simp [index1]

theorem arr1 : (dats m 0 c).arrAt 1 cfg0.N = summed (A0 m c) := by
  refine (dats m 0 c).arrAt_eq_of_covers 1 _ (by decide +kernel) fun t hf y => ?_
  blk_simp
  rw [after0_1]
  frame_out
  obtain ⟨r, j, rfl⟩ := exists_ix2 y
  rw [emb1]
  refine (pay1 _ r j).trans ?_
  rw [blk0]
  rfl

/-! ### The plain lines -/

theorem ref0 (x : S8x272x128.Idx → EReal) : SumRefIdeal.Read.val_main_v0 (F := Ideal) x = summed x := by
  funext i
  obtain ⟨r, j, rfl⟩ := exists_ix2 i
  open SumRefIdeal.Read in
  unfold val_main_v0 val_main_cst
  pointwise [zero_f32', zero_add]
  exact sum_eight fun s => x (ix3 s r j)

end Cert.SumTie

end
-- ==== Proof.Adam.lean ====
/-
  The optimiser's step behind the sum over the devices' slots: the kernel and the plain lines give one function.
-/
module

public import proofs.«01_k».proof.Proof.Gen.AdamIdeal.Value
public import proofs.«01_k».proof.Proof.Gen.AdamRefIdeal.Read
public import proofs.«01_k».proof.Proof.Sum
public import proofs.«01_k».proof.Proof.Reals
public import Idealize.ShloMosaic.Lib.StableHlo.ReadAt
public import Idealize.ShloMosaic.Lib.Pipeline.ValueKit

@[expose] public section

set_option maxRecDepth 16384

noncomputable section

namespace Cert.AdamTie

open Idealize.ShloMosaic Idealize.SL.Sem Cert.Reals
open Cert.AdamIdeal Cert.AdamIdeal.Gen Cert.AdamIdeal.Value
open Cert.DmergeTie (zero_f32')
open Cert.SumTie (eight sum_eight)

/-! ### One entry of the step -/

/-- The two running means, and the step, of a gradient `g`. -/
def mean (g m : EReal) : EReal := Ideal.ofBits .f32 0x3F666666#32 * m + Ideal.ofBits .f32 0x3DCCCCCD#32 * g
def square (g v : EReal) : EReal := Ideal.ofBits .f32 0x3F7FBE77#32 * v + Ideal.ofBits .f32 0x3A83126F#32 * (g * g)
def step (g w m v : EReal) : EReal :=
  Ideal.ofBits .f32 0xBA83126F#32 * (Ideal.div (Ideal.div (mean g m) (Ideal.ofBits .f32 0x3F26BD02#32))
    (Ideal.sqrt (Ideal.div (square g v) (Ideal.ofBits .f32 0x3C231ACC#32)) + Ideal.ofBits .f32 0x322BCC77#32)
    + Ideal.ofBits .f32 0x3C23D70A#32 * w)

section block
variable (x : S8x1x192x96.Idx → EReal) (w m v : S1x192x96.Idx → EReal) (r : Fin 192) (j : Fin 96)

theorem pay2 : k0_pay2 (F := Ideal) (k0_pay6 x w m v) (View.ld x r0_7) (ix3 0 r j) = eight fun s => x (ix4 s 0 r j) := by
  unfold k0_pay2 k0_pay6 k0_pay1
  pointwise []
  rfl
theorem pay3 : k0_pay3 (F := Ideal) (k0_pay6 x w m v) (View.ld x r0_7) m (ix3 0 r j)
    = mean (eight fun s => x (ix4 s 0 r j)) (m (ix3 0 r j)) := by
  unfold k0_pay3
  pointwise [pay2]
  rfl
theorem pay4 : k0_pay4 (F := Ideal) (k0_pay6 x w m v) (View.ld x r0_7) v (ix3 0 r j)
    = square (eight fun s => x (ix4 s 0 r j)) (v (ix3 0 r j)) := by
  unfold k0_pay4
  pointwise [pay2]
  rfl
theorem pay5 : k0_pay5 (F := Ideal) (k0_pay6 x w m v) (View.ld x r0_7) w m v (ix3 0 r j)
    = step (eight fun s => x (ix4 s 0 r j)) (w (ix3 0 r j)) (m (ix3 0 r j)) (v (ix3 0 r j)) := by
  unfold k0_pay5
  pointwise [pay3, pay4]
  rfl

end block

/-! ### The kernel -/

variable (m : (ℓ : Loc nD τ sig) → Buf (Elt Ideal) ℓ) (c : Dev nD)

abbrev A0 : S8x4x384x96.Idx → EReal := m ((c.tc : Thread nD τ).loc main_arg0)
abbrev A1 : S4x384x96.Idx → EReal := m ((c.tc : Thread nD τ).loc main_arg1)
abbrev A2 : S4x384x96.Idx → EReal := m ((c.tc : Thread nD τ).loc main_arg2)
abbrev A3 : S4x384x96.Idx → EReal := m ((c.tc : Thread nD τ).loc main_arg3)

theorem V0 : (V m c main_v0 : S8x4x384x96.Idx → EReal) = A0 m c := by
  unfold V
  after_reads_simp
  try rfl

theorem points (t : Fin cfg0.N) : t.val < 8 := lt_of_lt_of_eq t.isLt N_0

theorem index0 : ∀ t : Fin cfg0.N, win0_0.index t = ![0, t.val / 2, t.val % 2, 0] := by decide +kernel
theorem index1 : ∀ t : Fin cfg0.N, win0_1.index t = ![t.val / 2, t.val % 2, 0] := by decide +kernel
theorem index2 : ∀ t : Fin cfg0.N, win0_2.index t = ![t.val / 2, t.val % 2, 0] := by decide +kernel
theorem index3 : ∀ t : Fin cfg0.N, win0_3.index t = ![t.val / 2, t.val % 2, 0] := by decide +kernel
theorem index4 : ∀ t : Fin cfg0.N, win0_4.index t = ![t.val / 2, t.val % 2, 0] := by decide +kernel

/-- The layer of the block of point `t`, and its row `r`. -/
def lay (t : Fin cfg0.N) : Fin 4 := ⟨t.val / 2, by have := points t; omega⟩
def row (t : Fin cfg0.N) (r : Fin 192) : Fin 384 := ⟨192 * (t.val % 2) + r.val, by omega⟩

section points
variable (t : Fin cfg0.N) (z : Fin 1) (r : Fin 192) (j : Fin 96)

theorem emb0 (s : Fin 8) : (win0_0.blk t).view.emb (ix4 s z r j) = (ix4 s (lay t) (row t r) j : S8x4x384x96.Idx) := by
  funext d
  apply Fin.ext
  have := z.isLt
  match d with
  | ⟨0, _⟩ => blk_simp [index0]
  | ⟨1, _⟩ => blk_simp [index0]; show _ = t.val / 2; omega
  | ⟨2, _⟩ => blk_simp [index0]; exact congrArg (· + r.val) (mul_comm _ _)
  | ⟨3, _⟩ => blk_simp [index0]
theorem emb1 : (win0_1.blk t).view.emb (ix3 z r j) = (ix3 (lay t) (row t r) j : S4x384x96.Idx) := by
  funext d
  apply Fin.ext
  have := z.isLt
  match d with
  | ⟨0, _⟩ => blk_simp [index1]; show _ = t.val / 2; omega
  | ⟨1, _⟩ => blk_simp [index1]; exact congrArg (· + r.val) (mul_comm _ _)
  | ⟨2, _⟩ => blk_simp [index1]
theorem emb2 : (win0_2.blk t).view.emb (ix3 z r j) = (ix3 (lay t) (row t r) j : S4x384x96.Idx) := emb1 t z r j
theorem emb3 : (win0_3.blk t).view.emb (ix3 z r j) = (ix3 (lay t) (row t r) j : S4x384x96.Idx) := emb1 t z r j
theorem emb4 : (win0_4.blk t).view.emb (ix3 z r j) = (ix3 (lay t) (row t r) j : S4x384x96.Idx) := emb1 t z r j
theorem emb5 : (win0_5.blk t).view.emb (ix3 z r j) = (ix3 (lay t) (row t r) j : S4x384x96.Idx) := emb1 t z r j
theorem emb6 : (win0_6.blk t).view.emb (ix3 z r j) = (ix3 (lay t) (row t r) j : S4x384x96.Idx) := emb1 t z r j
theorem emb7 : (win0_7.blk t).view.emb (ix3 z r j) = (ix3 (lay t) (row t r) j : S4x384x96.Idx) := emb1 t z r j

theorem blk0 (s : Fin 8) : (iblk m c 0 t : S8x1x192x96.Idx → EReal) (ix4 s z r j) = A0 m c (ix4 s (lay t) (row t r) j) := by
  show (V m c main_v0 : S8x4x384x96.Idx → EReal) ((win0_0.blk t).view.emb (ix4 s z r j)) = _
  rw [V0, emb0]
theorem blk1 : (iblk m c 1 t : S1x192x96.Idx → EReal) (ix3 z r j) = A1 m c (ix3 (lay t) (row t r) j) := by
  show (V m c main_arg1 : S4x384x96.Idx → EReal) ((win0_1.blk t).view.emb (ix3 z r j)) = _
  rw [V_main_arg1, emb1]
theorem blk2 : (iblk m c 2 t : S1x192x96.Idx → EReal) (ix3 z r j) = A2 m c (ix3 (lay t) (row t r) j) := by
  show (V m c main_arg2 : S4x384x96.Idx → EReal) ((win0_2.blk t).view.emb (ix3 z r j)) = _
  rw [V_main_arg2, emb2]
theorem blk3 : (iblk m c 3 t : S1x192x96.Idx → EReal) (ix3 z r j) = A3 m c (ix3 (lay t) (row t r) j) := by
  show (V m c main_arg3 : S4x384x96.Idx → EReal) ((win0_3.blk t).view.emb (ix3 z r j)) = _
  rw [V_main_arg3, emb3]

end points

/-- The results: the gradient, the step, and the two running means. -/
def grad (x : S8x4x384x96.Idx → EReal) : S4x384x96.Idx → EReal := fun i => eight fun s => x (ix4 s (i 0) (i 1) (i 2))
def stepped (x : S8x4x384x96.Idx → EReal) (w p q : S4x384x96.Idx → EReal) : S4x384x96.Idx → EReal := fun i => step (grad x i) (w i) (p i) (q i)
def means (x : S8x4x384x96.Idx → EReal) (p : S4x384x96.Idx → EReal) : S4x384x96.Idx → EReal := fun i => mean (grad x i) (p i)
def squares (x : S8x4x384x96.Idx → EReal) (q : S4x384x96.Idx → EReal) : S4x384x96.Idx → EReal := fun i => square (grad x i) (q i)

theorem arr4 : (dats m 0 c).arrAt 4 cfg0.N = grad (A0 m c) := by
  refine (dats m 0 c).arrAt_eq_of_covers 4 _ (by decide +kernel) fun t hf y => ?_
  blk_simp
  rw [after0_4]
  frame_out
  obtain ⟨z, r, j, rfl⟩ := exists_ix3 y
  obtain rfl : z = 0 := Subsingleton.elim z 0
  rw [emb4]
  refine (pay2 _ _ _ _ r j).trans ?_
  simp only [blk0]
  rfl
theorem arr5 : (dats m 0 c).arrAt 5 cfg0.N = stepped (A0 m c) (A1 m c) (A2 m c) (A3 m c) := by
  refine (dats m 0 c).arrAt_eq_of_covers 5 _ (by decide +kernel) fun t hf y => ?_
  blk_simp
  rw [after0_5]
  frame_out
  obtain ⟨z, r, j, rfl⟩ := exists_ix3 y
  obtain rfl : z = 0 := Subsingleton.elim z 0
  rw [emb5]
  refine (pay5 _ _ _ _ r j).trans ?_
  simp only [blk0, blk1, blk2, blk3]
  rfl
theorem arr6 : (dats m 0 c).arrAt 6 cfg0.N = means (A0 m c) (A2 m c) := by
  refine (dats m 0 c).arrAt_eq_of_covers 6 _ (by decide +kernel) fun t hf y => ?_
  blk_simp
  rw [after0_6]
  frame_out
  obtain ⟨z, r, j, rfl⟩ := exists_ix3 y
  obtain rfl : z = 0 := Subsingleton.elim z 0
  rw [emb6]
  refine (pay3 _ _ _ _ r j).trans ?_
  simp only [blk0, blk2]
  rfl
theorem arr7 : (dats m 0 c).arrAt 7 cfg0.N = squares (A0 m c) (A3 m c) := by
  refine (dats m 0 c).arrAt_eq_of_covers 7 _ (by decide +kernel) fun t hf y => ?_
  blk_simp
  rw [after0_7]
  frame_out
  obtain ⟨z, r, j, rfl⟩ := exists_ix3 y
  obtain rfl : z = 0 := Subsingleton.elim z 0
  rw [emb7]
  refine (pay4 _ _ _ _ r j).trans ?_
  simp only [blk0, blk3]
  rfl

/-! ### The plain lines -/

section lines
variable (x : S8x4x384x96.Idx → EReal) (w p q : S4x384x96.Idx → EReal)

theorem ref0 : AdamRefIdeal.Read.val_main_v0 (F := Ideal) x = grad x := by
  funext i
  obtain ⟨l, r, j, rfl⟩ := exists_ix3 i
  open AdamRefIdeal.Read in
  unfold val_main_v0 val_main_cst
  pointwise [zero_f32', zero_add]
  exact sum_eight fun s => x (ix4 s l r j)
theorem ref5 : AdamRefIdeal.Read.val_main_v5 (F := Ideal) x p = means x p := by
  funext i
  obtain ⟨l, r, j, rfl⟩ := exists_ix3 i
  open AdamRefIdeal.Read in
  unfold val_main_v5 val_main_v4 val_main_v3 val_main_v2 val_main_v1 val_main_cst_0 val_main_cst_1
  rw [ref0]
  pointwise []
  rfl
theorem ref11 : AdamRefIdeal.Read.val_main_v11 (F := Ideal) x q = squares x q := by
  funext i
  obtain ⟨l, r, j, rfl⟩ := exists_ix3 i
  open AdamRefIdeal.Read in
  unfold val_main_v11 val_main_v10 val_main_v9 val_main_v8 val_main_v7 val_main_v6 val_main_cst_2 val_main_cst_3
  rw [ref0]
  pointwise []
  rfl
theorem ref24 : AdamRefIdeal.Read.val_main_v24 (F := Ideal) x w p q = stepped x w p q := by
  funext i
  obtain ⟨l, r, j, rfl⟩ := exists_ix3 i
  open AdamRefIdeal.Read in
  unfold val_main_v24 val_main_v23 val_main_v22 val_main_v21 val_main_v20 val_main_v19 val_main_v18 val_main_v17 val_main_v16 val_main_v15
    val_main_v14 val_main_v13 val_main_v12 val_main_cst_4 val_main_cst_5 val_main_cst_6 val_main_cst_7 val_main_cst_8
  rw [ref5, ref11]
  pointwise []
  rfl

end lines

end Cert.AdamTie

end
-- ==== Proof.Asmall.lean ====
/-
  The optimiser's step on the packed small weights: the kernel and the plain lines give one function.
-/
module

public import proofs.«01_k».proof.Proof.Gen.AsmallIdeal.Value
public import proofs.«01_k».proof.Proof.Gen.AsmallRefIdeal.Read
public import proofs.«01_k».proof.Proof.Adam
public import proofs.«01_k».proof.Proof.Reals
public import Idealize.ShloMosaic.Lib.StableHlo.ReadAt
public import Idealize.ShloMosaic.Lib.Pipeline.ValueKit

@[expose] public section

set_option maxRecDepth 16384

noncomputable section

namespace Cert.AsmallTie

open Idealize.ShloMosaic Idealize.SL.Sem Cert.Reals
open Cert.AsmallIdeal Cert.AsmallIdeal.Gen Cert.AsmallIdeal.Value
open Cert.AdamTie (mean square step)

section block
variable (g w m v : S144x128.Idx → EReal) (r : Fin 144) (j : Fin 128)

theorem pay1 : k0_pay1 (F := Ideal) g m (ix2 r j) = mean (g (ix2 r j)) (m (ix2 r j)) := by
  unfold k0_pay1
  pointwise []
  rfl
theorem pay2 : k0_pay2 (F := Ideal) g v (ix2 r j) = square (g (ix2 r j)) (v (ix2 r j)) := by
  unfold k0_pay2
  pointwise []
  rfl
theorem pay3 : k0_pay3 (F := Ideal) g w m v (ix2 r j) = step (g (ix2 r j)) (w (ix2 r j)) (m (ix2 r j)) (v (ix2 r j)) := by
  unfold k0_pay3
  pointwise [pay1, pay2]
  rfl

end block

/-! ### The kernel -/

variable (m : (ℓ : Loc nD τ sig) → Buf (Elt Ideal) ℓ) (c : Dev nD)

abbrev A0 : S144x128.Idx → EReal := m ((c.tc : Thread nD τ).loc main_arg0)
abbrev A1 : S144x128.Idx → EReal := m ((c.tc : Thread nD τ).loc main_arg1)
abbrev A2 : S144x128.Idx → EReal := m ((c.tc : Thread nD τ).loc main_arg2)
abbrev A3 : S144x128.Idx → EReal := m ((c.tc : Thread nD τ).loc main_arg3)

theorem index0 : ∀ t : Fin cfg0.N, win0_0.index t = ![0, 0] := by decide +kernel

theorem emb0 (t : Fin cfg0.N) (i : S144x128.Idx) : (win0_0.blk t).view.emb i = i := by
  funext d
  apply Fin.ext
  match d with
  | ⟨0, _⟩ => blk_simp [index0]
  | ⟨1, _⟩ => blk_simp [index0]

theorem blk0 (t : Fin cfg0.N) : (iblk m c 0 t : S144x128.Idx → EReal) = A0 m c := by
  funext i
  show (V m c main_arg0 : S144x128.Idx → EReal) ((win0_0.blk t).view.emb i) = _
  rw [emb0, V_main_arg0]
theorem blk1 (t : Fin cfg0.N) : (iblk m c 1 t : S144x128.Idx → EReal) = A1 m c := by
  funext i
  show (V m c main_arg1 : S144x128.Idx → EReal) ((win0_0.blk t).view.emb i) = _
  rw [emb0, V_main_arg1]
theorem blk2 (t : Fin cfg0.N) : (iblk m c 2 t : S144x128.Idx → EReal) = A2 m c := by
  funext i
  show (V m c main_arg2 : S144x128.Idx → EReal) ((win0_0.blk t).view.emb i) = _
  rw [emb0, V_main_arg2]
theorem blk3 (t : Fin cfg0.N) : (iblk m c 3 t : S144x128.Idx → EReal) = A3 m c := by
  funext i
  show (V m c main_arg3 : S144x128.Idx → EReal) ((win0_0.blk t).view.emb i) = _
  rw [emb0, V_main_arg3]

/-- The results: the step and the two running means. -/
def stepped (g w p q : S144x128.Idx → EReal) : S144x128.Idx → EReal := fun i => step (g i) (w i) (p i) (q i)
def means (g p : S144x128.Idx → EReal) : S144x128.Idx → EReal := fun i => mean (g i) (p i)
def squares (g q : S144x128.Idx → EReal) : S144x128.Idx → EReal := fun i => square (g i) (q i)

theorem arr4 : (dats m 0 c).arrAt 4 cfg0.N = stepped (A0 m c) (A1 m c) (A2 m c) (A3 m c) := by
  refine (dats m 0 c).arrAt_eq_of_covers 4 _ (by decide +kernel) fun t hf y => ?_
  blk_simp
  rw [after0_4]
  frame_out
  obtain ⟨r, j, rfl⟩ := exists_ix2 y
  rw [show (win0_4.blk t).view.emb (ix2 r j) = (ix2 r j : S144x128.Idx) from emb0 t _]
  refine (pay3 _ _ _ _ r j).trans ?_
  simp only [blk0, blk1, blk2, blk3]
  rfl
theorem arr5 : (dats m 0 c).arrAt 5 cfg0.N = means (A0 m c) (A2 m c) := by
  refine (dats m 0 c).arrAt_eq_of_covers 5 _ (by decide +kernel) fun t hf y => ?_
  blk_simp
  rw [after0_5]
  frame_out
  obtain ⟨r, j, rfl⟩ := exists_ix2 y
  rw [show (win0_5.blk t).view.emb (ix2 r j) = (ix2 r j : S144x128.Idx) from emb0 t _]
  refine (pay1 _ _ r j).trans ?_
  simp only [blk0, blk1, blk2, blk3]
  rfl
theorem arr6 : (dats m 0 c).arrAt 6 cfg0.N = squares (A0 m c) (A3 m c) := by
  refine (dats m 0 c).arrAt_eq_of_covers 6 _ (by decide +kernel) fun t hf y => ?_
  blk_simp
  rw [after0_6]
  frame_out
  obtain ⟨r, j, rfl⟩ := exists_ix2 y
  rw [show (win0_6.blk t).view.emb (ix2 r j) = (ix2 r j : S144x128.Idx) from emb0 t _]
  refine (pay2 _ _ r j).trans ?_
  simp only [blk0, blk1, blk2, blk3]
  rfl

/-! ### The plain lines -/

section lines
variable (x w p q : S144x128.Idx → EReal)

theorem ref4 : AsmallRefIdeal.Read.val_main_v4 (F := Ideal) x p = means x p := by
  funext i
  obtain ⟨r, j, rfl⟩ := exists_ix2 i
  open AsmallRefIdeal.Read in
  unfold val_main_v4 val_main_v3 val_main_v2 val_main_v1 val_main_v0 val_main_cst val_main_cst_0
  pointwise []
  rfl
theorem ref10 : AsmallRefIdeal.Read.val_main_v10 (F := Ideal) x q = squares x q := by
  funext i
  obtain ⟨r, j, rfl⟩ := exists_ix2 i
  open AsmallRefIdeal.Read in
  unfold val_main_v10 val_main_v9 val_main_v8 val_main_v7 val_main_v6 val_main_v5 val_main_cst_1 val_main_cst_2
  pointwise []
  rfl
theorem ref23 : AsmallRefIdeal.Read.val_main_v23 (F := Ideal) x w p q = stepped x w p q := by
  funext i
  obtain ⟨r, j, rfl⟩ := exists_ix2 i
  open AsmallRefIdeal.Read in
  unfold val_main_v23 val_main_v22 val_main_v21 val_main_v20 val_main_v19 val_main_v18 val_main_v17 val_main_v16 val_main_v15 val_main_v14
    val_main_v13 val_main_v12 val_main_v11 val_main_cst_3 val_main_cst_4 val_main_cst_5 val_main_cst_6 val_main_cst_7
  rw [ref4, ref10]
  pointwise []
  rfl

end lines

end Cert.AsmallTie

end
-- ==== Proof.Merge.lean ====
/-
  The two branches' products and their gated sum: the kernel and the plain lines give one function.
-/
module

public import proofs.«01_k».proof.Proof.Gen.MergeIdeal.Value
public import proofs.«01_k».proof.Proof.Gen.MergeRefIdeal.Read
public import proofs.«01_k».proof.Proof.Dmerge
public import Idealize.ShloMosaic.Lib.StableHlo.ReadAt
public import Idealize.ShloMosaic.Lib.Pipeline.ValueKit

@[expose] public section

set_option maxRecDepth 16384

noncomputable section

namespace Cert.MergeTie

open Idealize.ShloMosaic Idealize.SL.Sem Cert.Reals
open Cert.MergeIdeal Cert.MergeIdeal.Gen Cert.MergeIdeal.Value
open Cert.DmergeTie (sg zero_f32' one_f32')

/-- Where lane `k` of the eight heads lies among the padded lanes. -/
def spread (k : Fin 512) : Fin 1024 := ⟨128 * (k.val / 64) + k.val % 64, by omega⟩

theorem sum_spread (f : Fin 1024 → EReal) (hf : ∀ q : Fin 1024, 64 ≤ q.val % 128 → f q = 0) : ∑ q, f q = ∑ k, f (spread k) := by
  have inj : Function.Injective spread := fun x y h => by
    have := congrArg Fin.val h
    simp only [spread] at this
    exact Fin.ext (by omega)
  have e := Finset.sum_map Finset.univ ⟨spread, inj⟩ f
  refine Eq.trans ?_ e
  refine (Finset.sum_subset (Finset.subset_univ _) fun q _ hq => hf q ?_).symm
  by_contra hl
  refine hq (Finset.mem_map.mpr ⟨⟨64 * (q.val / 128) + q.val % 128, by omega⟩, Finset.mem_univ _, Fin.ext ?_⟩)
  show 128 * ((64 * (q.val / 128) + q.val % 128) / 64) + (64 * (q.val / 128) + q.val % 128) % 64 = q.val
  omega

/-- One entry of a product with a branch's weights. -/
def dot (x w : Fin 512 → EReal) : EReal := ∑ k, x k * w k

/-! ### One block -/

section block
variable (x : S768x1024.Idx → EReal) (y : S768x512.Idx → EReal) (w : S1024x512.Idx → EReal) (v : S512x512.Idx → EReal) (p q : S768x512.Idx → EReal)
  (r : Fin 768) (j : Fin 512)

theorem pay3 : k0_pay3 (F := Ideal) x w (ix2 r j) = ∑ k : Fin 1024, x (ix2 r k) * w (ix2 k j) := by
  unfold_payloads
  pointwise [zero_f32', zero_add]
theorem pay4 : k0_pay4 (F := Ideal) y v (ix2 r j) = dot (fun k => y (ix2 r k)) fun k => v (ix2 k j) := by
  unfold_payloads
  pointwise [zero_f32', zero_add]
  rfl
theorem pay5 : k0_pay5 (F := Ideal) x y w v p q (ix2 r j) = sg (p (ix2 r j)) * (∑ k : Fin 1024, x (ix2 r k) * w (ix2 k j))
    + sg (q (ix2 r j)) * dot (fun k => y (ix2 r k)) fun k => v (ix2 k j) := by
  unfold k0_pay5
  pointwise [pay3, pay4, zero_f32', one_f32', sub_eq_add_neg, zero_add]
  rfl

end block

/-! ### The kernel -/

variable (m : (ℓ : Loc nD τ sig) → Buf (Elt Ideal) ℓ) (c : Dev nD)

theorem index0 : ∀ t : Fin cfg0.N, win0_0.index t = ![t.val % 11, 0] := by decide +kernel
theorem index1 : ∀ t : Fin cfg0.N, win0_1.index t = ![t.val % 11, 0] := by decide +kernel
theorem index2 : ∀ t : Fin cfg0.N, win0_2.index t = ![0, t.val / 11] := by decide +kernel
theorem index3 : ∀ t : Fin cfg0.N, win0_3.index t = ![0, t.val / 11] := by decide +kernel
theorem index4 : ∀ t : Fin cfg0.N, win0_4.index t = ![t.val % 11, t.val / 11] := by decide +kernel
theorem index5 : ∀ t : Fin cfg0.N, win0_5.index t = ![t.val % 11, 2 + t.val / 11] := by decide +kernel
theorem index6 : ∀ t : Fin cfg0.N, win0_6.index t = ![t.val % 11, t.val / 11] := by decide +kernel
theorem index7 : ∀ t : Fin cfg0.N, win0_7.index t = ![t.val % 11, t.val / 11] := by decide +kernel
theorem index8 : ∀ t : Fin cfg0.N, win0_8.index t = ![t.val % 11, t.val / 11] := by decide +kernel

abbrev A0 : FVec Ideal S8208x512 .f32 := m ((c.tc : Thread nD τ).loc main_arg0)
abbrev A4 : FVec Ideal S512x1024 .f32 := m ((c.tc : Thread nD τ).loc main_arg4)
abbrev X3 : FVec Ideal S8448x1024 .bf16 := V m c main_v3
abbrev X13 : FVec Ideal S1024x1024 .bf16 := V m c main_v13

theorem line3 : X3 m c = truncf .bf16 (shapeCast S8448x1024 (pad S8448x8x128 ![0, 0, 0] ![240, 0, 64] ![0, 0, 0] (shapeCast S8208x8x64 (A0 m c)
    shapeCasts_S8208x512_S8208x8x64) (sitofp .f32 (constantI S_ 32 (0#32))) pads_S8208x8x64_S8448x8x128_02400_000_0640 h_S_)
    shapeCasts_S8448x8x128_S8448x1024) bitsLt_bf16_f32 := by
  unfold X3 A0 V; after_reads_simp
  try rfl
theorem line13 : X13 m c = shapeCast S1024x1024 (concatenate S8x128x1024 1 [⟨S8x64x1024, shapeCast S8x64x1024 (truncf .bf16 (A4 m c) bitsLt_bf16_f32)
    shapeCasts_S512x1024_S8x64x1024⟩, ⟨S8x64x1024, broadcastInDim S8x64x1024 ![] bcast_S_S8x64x1024 (constant S_ .bf16 0x0000#16)⟩]
    concatenates_S8x64x1024_S8x64x1024_S8x128x1024_d1) shapeCasts_S8x128x1024_S1024x1024 := by
  unfold X13 A4 V; after_reads_simp
  try rfl

/-- The rows and lanes of the first branch among the padded ones. -/
theorem lanes3 (r : Fin 8448) (q : Fin 1024) : X3 m c (ix2 r q)
    = if h : q.val % 128 < 64 then grown (A0 m c) (ix2 r (⟨q.val / 128 * 64 + q.val % 128, by omega⟩ : Fin 512)) else 0 := by
  rw [line3]
  generalize A0 m c = y
  pointwise []
  rw [sitofp_zero]
  by_cases hq : q.val % 128 < 64
  · rw [dif_pos hq]
    by_cases hr : r.val < 8208
    · rw [dif_pos ⟨hr, by omega, hq⟩, grown_lt _ _ _ hr]
    · rw [dif_neg (fun h => hr h.1), grown_ge _ _ _ hr]
  · rw [dif_neg hq, dif_neg (fun h => hq h.2.2)]
theorem lanes13 (q j : Fin 1024) (h : q.val % 128 < 64) : X13 m c (ix2 q j) = A4 m c (ix2 (⟨q.val / 128 * 64 + q.val % 128, by omega⟩ : Fin 512) j) := by
  rw [line13]
  generalize A4 m c = y
  pointwise []
  rw [dif_pos h]
theorem low (k : Fin 512) : (spread k).val % 128 < 64 := by
  show (128 * (k.val / 64) + k.val % 64) % 128 < 64
  omega
theorem back (k : Fin 512) (h) : (⟨(spread k).val / 128 * 64 + (spread k).val % 128, h⟩ : Fin 512) = k := by
  apply Fin.ext
  show (128 * (k.val / 64) + k.val % 64) / 128 * 64 + (128 * (k.val / 64) + k.val % 64) % 128 = k.val
  omega
theorem V5 : (V m c main_v5 : S8448x512.Idx → EReal) = grown (m ((c.tc : Thread nD τ).loc main_arg1)) := by
  funext i
  obtain ⟨r, j, rfl⟩ := exists_ix2 i
  unfold V
  after_reads_at
  rw [sitofp_zero]
  rfl
theorem V8 (r : Fin 8448) (j : Fin 2048) : (V m c main_v8 : S8448x2048.Idx → EReal) (ix2 r j) =
   if h : j.val < 1024 then (grown (m ((c.tc : Thread nD τ).loc main_arg2) : S8208x1024.Idx → EReal) : S8448x1024.Idx → EReal) (ix2 r ⟨j.val, h⟩)
    else (grown (m ((c.tc : Thread nD τ).loc main_arg3) : S8208x1024.Idx → EReal) : S8448x1024.Idx → EReal) (ix2 r ⟨j.val - 1024, by omega⟩) := by
  unfold V
  after_reads_at
  after_reads_simp
  rw [sitofp_zero]
  by_cases hr : r.val < 8208
  · rw [dif_pos hr]
    split <;> rw [grown_lt _ _ _ hr] <;> rfl
  · rw [dif_neg hr]
    split <;> rw [grown_ge _ _ _ hr]
theorem V14 (k : Fin 512) (j : Fin 1024) : (V m c main_v14 : S512x1024.Idx → EReal) (ix2 k j) = (m ((c.tc : Thread nD τ).loc main_arg5) : S512x1024.Idx → EReal) (ix2 k j) := by
  unfold V
  after_reads_at
  try rfl

theorem points (t : Fin cfg0.N) : t.val < 22 := lt_of_lt_of_eq t.isLt N_0

/-- Row `r` and column `j` of the block of point `t`. -/
def row (t : Fin cfg0.N) (r : Fin 768) : Fin 8448 := ⟨768 * (t.val % 11) + r.val, by omega⟩
def col (t : Fin cfg0.N) (j : Fin 512) : Fin 1024 := ⟨512 * (t.val / 11) + j.val, by have := points t; omega⟩

theorem emb0 (t : Fin cfg0.N) (r : Fin 768) (j : Fin 1024) : (win0_0.blk t).view.emb (ix2 r j) = (ix2 (row t r) j : S8448x1024.Idx) := by
  funext d
  apply Fin.ext
  match d with
  | ⟨0, _⟩ => blk_simp [index0]; exact congrArg (· + r.val) (mul_comm _ _)
  | ⟨1, _⟩ => blk_simp [index0]
theorem emb1 (t : Fin cfg0.N) (r : Fin 768) (j : Fin 512) : (win0_1.blk t).view.emb (ix2 r j) = (ix2 (row t r) j : S8448x512.Idx) := by
  funext d
  apply Fin.ext
  match d with
  | ⟨0, _⟩ => blk_simp [index1]; exact congrArg (· + r.val) (mul_comm _ _)
  | ⟨1, _⟩ => blk_simp [index1]
theorem emb2 (t : Fin cfg0.N) (k : Fin 1024) (j : Fin 512) : (win0_2.blk t).view.emb (ix2 k j) = (ix2 k (col t j) : S1024x1024.Idx) := by
  funext d
  apply Fin.ext
  match d with
  | ⟨0, _⟩ => blk_simp [index2]
  | ⟨1, _⟩ => blk_simp [index2]; exact congrArg (· + j.val) (mul_comm _ _)
theorem emb3 (t : Fin cfg0.N) (k : Fin 512) (j : Fin 512) : (win0_3.blk t).view.emb (ix2 k j) = (ix2 k (col t j) : S512x1024.Idx) := by
  funext d
  apply Fin.ext
  match d with
  | ⟨0, _⟩ => blk_simp [index3]
  | ⟨1, _⟩ => blk_simp [index3]; exact congrArg (· + j.val) (mul_comm _ _)
theorem emb4 (t : Fin cfg0.N) (r : Fin 768) (j : Fin 512) :
    (win0_4.blk t).view.emb (ix2 r j) = (ix2 (row t r) ⟨(col t j).val, by have := (col t j).isLt; omega⟩ : S8448x2048.Idx) := by
  funext d
  apply Fin.ext
  match d with
  | ⟨0, _⟩ => blk_simp [index4]; exact congrArg (· + r.val) (mul_comm _ _)
  | ⟨1, _⟩ => blk_simp [index4]; exact congrArg (· + j.val) (mul_comm _ _)
theorem emb5 (t : Fin cfg0.N) (r : Fin 768) (j : Fin 512) :
    (win0_5.blk t).view.emb (ix2 r j) = (ix2 (row t r) ⟨1024 + (col t j).val, by have := (col t j).isLt; omega⟩ : S8448x2048.Idx) := by
  funext d
  apply Fin.ext
  match d with
  | ⟨0, _⟩ => blk_simp [index5]; exact congrArg (· + r.val) (mul_comm _ _)
  | ⟨1, _⟩ => blk_simp [index5]; show (2 + t.val / 11) * 512 + j.val = 1024 + (512 * (t.val / 11) + j.val); omega
theorem emb6 (t : Fin cfg0.N) (r : Fin 768) (j : Fin 512) : (win0_6.blk t).view.emb (ix2 r j) = (ix2 (row t r) (col t j) : S8448x1024.Idx) := by
  funext d
  apply Fin.ext
  match d with
  | ⟨0, _⟩ => blk_simp [index6]; exact congrArg (· + r.val) (mul_comm _ _)
  | ⟨1, _⟩ => blk_simp [index6]; exact congrArg (· + j.val) (mul_comm _ _)

/-- A branch's product, and the gated sum of the two. -/
def branch (x : S8208x512.Idx → EReal) (w : S512x1024.Idx → EReal) : S8448x1024.Idx → EReal :=
  fun i => dot (fun k => grown x (ix2 (n0 := 8448) (i 0) k)) fun k => w (ix2 k (i 1))
def merged (x y : S8208x512.Idx → EReal) (p q : S8208x1024.Idx → EReal) (w v : S512x1024.Idx → EReal) : S8448x1024.Idx → EReal :=
  fun i => sg (grown p i) * branch x w i + sg (grown q i) * branch y v i

section points
variable (t : Fin cfg0.N) (r : Fin 768) (j : Fin 512)

theorem blk0 (x : S768x1024.Idx → EReal) (w : S1024x512.Idx → EReal) (hx : x = iblk m c 0 t) (hw : w = iblk m c 2 t) :
    (∑ k : Fin 1024, x (ix2 r k) * w (ix2 k j))
      = branch (m ((c.tc : Thread nD τ).loc main_arg0)) (m ((c.tc : Thread nD τ).loc main_arg4)) (ix2 (row t r) (col t j)) := by
  have e0 : ∀ q : Fin 1024, x (ix2 r q) = X3 m c (ix2 (row t r) q) := fun q => by rw [hx]; exact congrArg (X3 m c) (emb0 t r q)
  have e2 : ∀ q : Fin 1024, w (ix2 q j) = X13 m c (ix2 q (col t j)) := fun q => by rw [hw]; exact congrArg (X13 m c) (emb2 t q j)
  simp only [e0, e2]
  refine (sum_spread (fun q => X3 m c (ix2 (row t r) q) * X13 m c (ix2 q (col t j))) fun q hq => ?_).trans ?_
  · show X3 m c (ix2 (row t r) q) * _ = 0
    rw [lanes3, dif_neg (by omega), zero_mul]
  unfold branch dot
  refine Finset.sum_congr rfl fun k _ => ?_
  rw [lanes3, dif_pos (low k), lanes13 m c _ _ (low k), back]
  rfl
theorem blk1 (k : Fin 512) : (iblk m c 1 t : S768x512.Idx → EReal) (ix2 r k)
    = grown (m ((c.tc : Thread nD τ).loc main_arg1) : S8208x512.Idx → EReal) (ix2 (row t r) k) := by
  show (V m c main_v5 : S8448x512.Idx → EReal) ((win0_1.blk t).view.emb (ix2 r k)) = _
  rw [V5, emb1]
theorem blk3 (k : Fin 512) : (iblk m c 3 t : S512x512.Idx → EReal) (ix2 k j)
    = (m ((c.tc : Thread nD τ).loc main_arg5) : S512x1024.Idx → EReal) (ix2 k (col t j)) := by
  show (V m c main_v14 : S512x1024.Idx → EReal) ((win0_3.blk t).view.emb (ix2 k j)) = _
  rw [emb3, V14]
theorem blk4 : (iblk m c 4 t : S768x512.Idx → EReal) (ix2 r j) = grown (m ((c.tc : Thread nD τ).loc main_arg2) : S8208x1024.Idx → EReal) (ix2 (row t r) (col t j)) := by
  show (V m c main_v8 : S8448x2048.Idx → EReal) ((win0_4.blk t).view.emb (ix2 r j)) = _
  rw [emb4, V8, dif_pos (col t j).isLt]
theorem blk5 : (iblk m c 5 t : S768x512.Idx → EReal) (ix2 r j) = grown (m ((c.tc : Thread nD τ).loc main_arg3) : S8208x1024.Idx → EReal) (ix2 (row t r) (col t j)) := by
  show (V m c main_v8 : S8448x2048.Idx → EReal) ((win0_5.blk t).view.emb (ix2 r j)) = _
  rw [emb5, V8, dif_neg (by simp)]
  simp only [Nat.add_sub_cancel_left]

end points

theorem arr6 : (dats m 0 c).arrAt 6 cfg0.N = branch (m ((c.tc : Thread nD τ).loc main_arg0)) (m ((c.tc : Thread nD τ).loc main_arg4)) := by
  refine (dats m 0 c).arrAt_eq_of_covers 6 _ (by decide +kernel) fun t hf y => ?_
  blk_simp
  rw [after0_6]
  frame_out
  obtain ⟨r, j, rfl⟩ := exists_ix2 y
  rw [emb6 t r j]
  exact (pay3 _ _ r j).trans (blk0 m c t r j _ _ rfl rfl)
theorem arr7 : (dats m 0 c).arrAt 7 cfg0.N = branch (m ((c.tc : Thread nD τ).loc main_arg1)) (m ((c.tc : Thread nD τ).loc main_arg5)) := by
  refine (dats m 0 c).arrAt_eq_of_covers 7 _ (by decide +kernel) fun t hf y => ?_
  blk_simp
  rw [after0_7]
  frame_out
  obtain ⟨r, j, rfl⟩ := exists_ix2 y
  rw [show (win0_7.blk t).view.emb (ix2 r j) = (ix2 (row t r) (col t j) : S8448x1024.Idx) from emb6 t r j]
  refine (pay4 _ _ r j).trans ?_
  simp only [blk1, blk3]
  rfl
theorem arr8 : (dats m 0 c).arrAt 8 cfg0.N = merged (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 8 _ (by decide +kernel) fun t hf y => ?_
  blk_simp
  rw [after0_8]
  frame_out
  obtain ⟨r, j, rfl⟩ := exists_ix2 y
  rw [show (win0_8.blk t).view.emb (ix2 r j) = (ix2 (row t r) (col t j) : S8448x1024.Idx) from emb6 t r j]
  refine (pay5 _ _ _ _ _ _ r j).trans ?_
  rw [blk0 m c t r j _ _ rfl rfl]
  simp only [blk1, blk3, blk4, blk5]
  rfl

/-! ### The plain lines -/

section lines
variable (x y : S8208x512.Idx → EReal) (p q : S8208x1024.Idx → EReal) (w v : S512x1024.Idx → EReal)

theorem ref0 : MergeRefIdeal.Read.val_main_v0 (F := Ideal) x = grown x := by
  funext i
  obtain ⟨r, j, rfl⟩ := exists_ix2 i
  open MergeRefIdeal.Read in
  unfold val_main_v0 val_main_call0_v0 val_main_c
  pointwise [sitofp_zero]
  rfl
theorem ref1 : MergeRefIdeal.Read.val_main_v1 (F := Ideal) x = grown x := ref0 x
theorem ref2 : MergeRefIdeal.Read.val_main_v2 (F := Ideal) p = grown p := by
  funext i
  obtain ⟨r, j, rfl⟩ := exists_ix2 i
  open MergeRefIdeal.Read in
  unfold val_main_v2 val_main_call2_v0 val_main_c_1
  pointwise [sitofp_zero]
  rfl
theorem ref3 : MergeRefIdeal.Read.val_main_v3 (F := Ideal) p = grown p := ref2 p
theorem ref4 : MergeRefIdeal.Read.val_main_v4 (F := Ideal) x w = branch x w := by
  funext i
  obtain ⟨r, j, rfl⟩ := exists_ix2 i
  open MergeRefIdeal.Read in
  unfold val_main_v4
  rw [ref0]
  pointwise []
  rfl
theorem ref5 : MergeRefIdeal.Read.val_main_v5 (F := Ideal) x w = branch x w := ref4 x w
theorem ref21 : MergeRefIdeal.Read.val_main_v21 (F := Ideal) x w = branch x w := ref4 x w
theorem ref22 : MergeRefIdeal.Read.val_main_v22 (F := Ideal) x w = branch x w := ref4 x w
theorem ref23 : MergeRefIdeal.Read.val_main_v23 (F := Ideal) x y p q w v = merged x y p q w v := by
  funext i
  obtain ⟨r, j, rfl⟩ := exists_ix2 i
  open MergeRefIdeal.Read in
  unfold val_main_v23 val_main_v20 val_main_v19 val_main_v18 val_main_v17 val_main_v16 val_main_v15 val_main_v14 val_main_v13 val_main_v12 val_main_v11
    val_main_v10 val_main_v9 val_main_v8 val_main_v7 val_main_v6 val_main_cst val_main_cst_3 val_main_cst_4 val_main_cst_5
  rw [ref2, ref3, ref4, ref5]
  pointwise [one_f32']
  rfl

end lines

end Cert.MergeTie

end
-- ==== Proof.Lbf.lean ====
/-
  The forget gate's lower bounds: the kernel and the plain lines give one function of real arguments.
-/
module

public import proofs.«01_k».proof.Proof.Gen.LbfIdeal.Value
public import proofs.«01_k».proof.Proof.Gen.LbfRefIdeal.Read
public import proofs.«01_k».proof.Proof.Gen.Pre_lbf_finite
public import proofs.«01_k».proof.Proof.Lb

@[expose] public section

set_option maxRecDepth 16384

noncomputable section

namespace Cert.LbfTie

open Idealize.ShloMosaic Idealize.SL.Sem Cert.Reals
open Cert.LbfIdeal Cert.LbfIdeal.Gen Cert.LbfIdeal.Value
open Cert.LbTie (top top_eq ex ex_eq sum_ex_ne soft window_pos)

/-- The lower bounds: the rows of the softmax up to the row, without row 0. -/
def bounds (a : Fin 4 → Fin 512 → ℝ) : Fin 4 → Fin 512 → ℝ :=
  ![fun _ => 0, fun c => soft a 1 c, fun c => soft a 1 c + soft a 2 c, fun c => soft a 1 c + soft a 2 c + soft a 3 c]

variable (a : Fin 4 → Fin 512 → ℝ)

/-! ### The kernel -/

theorem pay1 : k0_pay1 (F := Ideal) (lift2 a) = lift2 (soft a) := by
  funext i
  obtain ⟨r, c, rfl⟩ := exists_ix2 i
  unfold_payloads
  pointwise [neg_inf_f32, lift2_apply, top_eq, ex_eq, sum_coe, div_coe_coe (sum_ex_ne a _)]
  rfl

theorem pay3 (c : Fin 512) : k0_pay3 (F := Ideal) (lift2 a) (ix2 0 c) = ((soft a 1 c : ℝ) : EReal) := by
  unfold k0_pay3 k0_pay2
  rw [pay1]
  pointwise [lift2_apply, zero_f32, ← EReal.coe_add, zero_add]
theorem pay4 (c : Fin 512) : k0_pay4 (F := Ideal) (lift2 a) (ix2 0 c) = ((soft a 1 c + soft a 2 c : ℝ) : EReal) := by
  unfold k0_pay4
  rw [pay1]
  pointwise [lift2_apply, pay3, ← EReal.coe_add]
theorem pay5 (c : Fin 512) : k0_pay5 (F := Ideal) (lift2 a) (ix2 0 c) = ((soft a 1 c + soft a 2 c + soft a 3 c : ℝ) : EReal) := by
  unfold k0_pay5
  rw [pay1]
  pointwise [lift2_apply, pay4, ← EReal.coe_add]

theorem kernel : G1 (F := Ideal) (lift2 a) = lift2 (bounds a) := by
  funext y
  refine View.canon_apply_of_pieces (Val := Elt Ideal) (e := .f32) (lift2 (bounds a)) _ ?_ y (cover0_1 _ _ _ _ y)
  intro p hp x
  simp only [List.mem_cons, List.not_mem_nil, or_false] at hp
  rcases hp with rfl | rfl | rfl | rfl <;> obtain ⟨z, c, rfl⟩ := exists_ix2 (n := 1) (m := 512) x <;> obtain rfl : z = 0 := Subsingleton.elim _ _
  · exact (pay5 a c).trans (Eq.trans (b := (bounds a 3 c : EReal)) rfl (by rw [← lift2_apply]; congr 1; idx_ext))
  · exact (pay4 a c).trans (Eq.trans (b := (bounds a 2 c : EReal)) rfl (by rw [← lift2_apply]; congr 1; idx_ext))
  · exact (pay3 a c).trans (Eq.trans (b := (bounds a 1 c : EReal)) rfl (by rw [← lift2_apply]; congr 1; idx_ext))
  · refine Eq.trans (b := (bounds a 0 c : EReal)) ?_ (by rw [← lift2_apply]; congr 1; idx_ext)
    unfold k0_pay2
    pointwise [zero_f32]
    rfl

/-! ### The plain lines -/

theorem ref6 (r : Fin 4) (c : Fin 512) : LbfRefIdeal.Read.val_main_v6 (F := Ideal) (lift2 a) (ix2 r c) = ((ex a r c : ℝ) : EReal) := by
  open LbfRefIdeal.Read in
  unfold val_main_v6 val_main_v5 val_main_v4 val_main_v3 val_main_v2 val_main_v1 val_main_v0 val_main_cst val_main_cst_0
  pointwise [neg_inf_f32, lift2_apply, top_eq, max_eq_right bot_le, ex_eq]

theorem ref10 : LbfRefIdeal.Read.val_main_v10 (F := Ideal) (lift2 a) = lift2 (soft a) := by
  funext i
  obtain ⟨r, c, rfl⟩ := exists_ix2 i
  open LbfRefIdeal.Read in
  unfold val_main_v10 val_main_v9 val_main_v8 val_main_v7 val_main_cst_1
  pointwise [ref6, sum_coe, div_coe_coe (sum_ex_ne a _), lift2_apply]
  rfl

/-- The sum over the window: the rows up to the row. -/
theorem window (b : Fin 4 → Fin 512 → ℝ) (r : Fin 4) (c : Fin 512) :
    Ideal.hostReduceWindowAdd ![4, 1] ![1, 1] ![3, 0] ![0, 0] LbfRefIdeal.Gen.reduceWindows_S4x512_S4x512_w4s1p3_0_w1s1p0_0 (lift2 b) 0 (ix2 r c)
      = (![((b 0 c : ℝ) : EReal), ((b 0 c + b 1 c : ℝ) : EReal), ((b 0 c + b 1 c + b 2 c : ℝ) : EReal), ((b 0 c + b 1 c + b 2 c + b 3 c : ℝ) : EReal)] : Fin 4 → EReal) r := by
  have key : ∀ n : Fin (Shape.numel ⟨2, ![4, 1]⟩), ∀ p : Fin 2 → Nat, ∀ inst : Decidable (∀ a : Fin 2, (![3, 0] : Fin 2 → Nat) a ≤ p a ∧ p a - (![3, 0] : Fin 2 → Nat) a < S4x512.size a),
      (∀ a, p a = ((ix2 r c : S4x512.Idx) a).val * ![1, 1] a + ((Shape.rowMajor ⟨2, ![4, 1]⟩).symm n a).val) →
      @dite EReal (∀ a : Fin 2, (![3, 0] : Fin 2 → Nat) a ≤ p a ∧ p a - (![3, 0] : Fin 2 → Nat) a < S4x512.size a) inst
        (fun hin => lift2 b (fun a => ⟨p a - (![3, 0] : Fin 2 → Nat) a, (hin a).2⟩)) (fun _ => (0 : EReal))
      = if h : 3 ≤ r.val + n.val ∧ r.val + n.val - 3 < 4 then ((b ⟨r.val + n.val - 3, h.2⟩ c : ℝ) : EReal) else 0 := by
    intro n p inst hp
    have h0 : p 0 = r.val + n.val := (hp 0).trans (by rw [(window_pos n).1]; simp)
    have h1 : p 1 = c.val := (hp 1).trans (by rw [(window_pos n).2]; simp)
    by_cases h : 3 ≤ r.val + n.val ∧ r.val + n.val - 3 < 4
    · rw [dif_pos h, dif_pos (fun a => by fin_cases a <;> simp [h0, h1] <;> omega), ← lift2_apply]
      congr 1
      funext a; apply Fin.ext
      fin_cases a
      · simp [h0]
      · simp [h1]
    · rw [dif_neg h, dif_neg]
      intro hin
      have := hin 0
      simp [h0] at this
      omega
  unfold Ideal.hostReduceWindowAdd Host.reduceWindow
  refine (List.foldl_ext _ (fun acc n => acc + if h : 3 ≤ r.val + n.val ∧ r.val + n.val - 3 < 4 then ((b ⟨r.val + n.val - 3, h.2⟩ c : ℝ) : EReal) else 0) _ fun acc n _ => ?_).trans ?_
  · exact congrArg (acc + ·) (key n _ _ fun a => rfl)
  show List.foldl (fun (acc : EReal) (n : Fin 4) => acc + if h : 3 ≤ r.val + n.val ∧ r.val + n.val - 3 < 4 then ((b ⟨r.val + n.val - 3, h.2⟩ c : ℝ) : EReal) else 0) 0 (List.finRange 4) = _
  fin_cases r <;> simp [List.finRange_succ]

theorem ref : LbfRefIdeal.Read.val_main_v14 (F := Ideal) (lift2 a) = lift2 (bounds a) := by
  funext i
  obtain ⟨r, c, rfl⟩ := exists_ix2 i
  open LbfRefIdeal.Read in
  unfold val_main_v14 val_main_v13 val_main_v12 val_main_v11 val_main_call0_call0_v0 val_main_call0_call0_cst
  rw [ref10]
  pointwise [Host.reduceWindowAdd, lift2_apply]
  rw [Ideal.hostReduceWindowAdd_def, window]
  fin_cases r <;> simp [bounds, ← EReal.coe_sub, -EReal.coe_add] <;> ring

theorem pre_real (x : Vec Ideal S4x512 .f32) (h : Pre_lbf_finite.fn (F := Ideal) x = fun _ => 1#1) : ∃ a, x = lift2 a := by
  have h' := fun i => congrFun h i
  unfold Pre_lbf_finite.fn at h'
  exact eq_lift2 x fun i => of_abs_lt_top (by rw [← inf_f32]; exact h' i)

end Cert.LbfTie

end
-- ==== Proof.Down.lean ====
/-
  The residual's sum and the norm of it: the kernel and the plain lines give one function.
-/
module

public import proofs.«01_k».proof.Proof.Gen.DownIdeal.Value
public import proofs.«01_k».proof.Proof.Gen.DownRefIdeal.Read
public import proofs.«01_k».proof.Proof.Nfwd
public import Idealize.ShloMosaic.Lib.StableHlo.ReadAt
public import Idealize.ShloMosaic.Lib.Pipeline.ValueKit

@[expose] public section

set_option maxRecDepth 16384

noncomputable section

namespace Cert.DownTie

open Idealize.ShloMosaic Idealize.SL.Sem Cert.Reals
open Cert.DownIdeal Cert.DownIdeal.Gen Cert.DownIdeal.Value
open Cert.DmergeTie (zero_f32')
open Cert.NfwdTie (nrm)

/-- A row of the residual plus half its product with the weights. -/
def added (h : EReal) (x w : Fin 2816 → EReal) : EReal := h + Ideal.ofBits .f32 0x3F000000#32 * ∑ k, x k * w k

/-! ### One block -/

section block
variable (x : S768x2816.Idx → EReal) (w : S2816x1024.Idx → EReal) (h : S768x1024.Idx → EReal) (g : S1x1024.Idx → EReal) (r : Fin 768) (j : Fin 1024)

theorem pay1 : k0_pay1 (F := Ideal) x w h (ix2 r j) = added (h (ix2 r j)) (fun k => x (ix2 r k)) fun k => w (ix2 k j) := by
  unfold_payloads
  pointwise [zero_f32', zero_add]
  rfl
theorem pay2 : k0_pay2 (F := Ideal) x w h g (ix2 r j)
    = nrm (fun k => added (h (ix2 r k)) (fun l => x (ix2 r l)) fun l => w (ix2 l k)) (fun k => g (ix2 0 k)) j := by
  unfold k0_pay2
  pointwise [pay1, zero_f32', zero_add]
  rfl

end block

/-! ### The kernel -/

variable (m : (ℓ : Loc nD τ sig) → Buf (Elt Ideal) ℓ) (c : Dev nD)

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![t.val, 0] := by decide +kernel
theorem index5 : ∀ t : Fin cfg0.N, win0_5.index t = ![t.val, 0] := by decide +kernel

theorem V1 : (V m c main_v1 : S8448x2816.Idx → EReal) = grown (m ((c.tc : Thread nD τ).loc main_arg0)) := by
  funext i
  obtain ⟨r, j, rfl⟩ := exists_ix2 i
  unfold V
  after_reads_at
  rw [sitofp_zero]
  rfl
theorem V2 (k : Fin 2816) (j : Fin 1024) : (V m c main_v2 : S2816x1024.Idx → EReal) (ix2 k j) = (m ((c.tc : Thread nD τ).loc main_arg1) : S2816x1024.Idx → EReal) (ix2 k j) := by
  unfold V
  after_reads_at
  try rfl
theorem V3 : (V m c main_v3 : S8448x1024.Idx → EReal) = grown (m ((c.tc : Thread nD τ).loc main_arg2)) := by
  funext i
  obtain ⟨r, j, rfl⟩ := exists_ix2 i
  unfold V
  after_reads_at
  rw [sitofp_zero]
  rfl

theorem points (t : Fin cfg0.N) : t.val < 11 := lt_of_lt_of_eq t.isLt N_0

/-- Row `r` of the block of point `t`. -/
def row (t : Fin cfg0.N) (r : Fin 768) : Fin 8448 := ⟨768 * t.val + r.val, by have := points t; omega⟩

theorem emb0 (t : Fin cfg0.N) (r : Fin 768) (j : Fin 2816) : (win0_0.blk t).view.emb (ix2 r j) = (ix2 (row t r) j : S8448x2816.Idx) := by
  funext d
  apply Fin.ext
  match d with
  | ⟨0, _⟩ => blk_simp [index0]; exact congrArg (· + r.val) (mul_comm _ _)
  | ⟨1, _⟩ => blk_simp [index0]
theorem emb1 (t : Fin cfg0.N) (k : Fin 2816) (j : Fin 1024) : (win0_1.blk t).view.emb (ix2 k j) = (ix2 k j : S2816x1024.Idx) := by
  funext d
  apply Fin.ext
  match d with
  | ⟨0, _⟩ => blk_simp [index1]
  | ⟨1, _⟩ => blk_simp [index1]
theorem emb2 (t : Fin cfg0.N) (r : Fin 768) (j : Fin 1024) : (win0_2.blk t).view.emb (ix2 r j) = (ix2 (row t r) j : S8448x1024.Idx) := by
  funext d
  apply Fin.ext
  match d with
  | ⟨0, _⟩ => blk_simp [index2]; exact congrArg (· + r.val) (mul_comm _ _)
  | ⟨1, _⟩ => blk_simp [index2]
theorem emb3 (t : Fin cfg0.N) (z : Fin 1) (j : Fin 1024) : (win0_3.blk t).view.emb (ix2 z j) = (ix2 z j : S1x1024.Idx) := by
  funext d
  apply Fin.ext
  match d with
  | ⟨0, _⟩ => blk_simp [index3]
  | ⟨1, _⟩ => blk_simp [index3]

section points
variable (t : Fin cfg0.N) (r : Fin 768) (j : Fin 1024)

theorem blk0 (k : Fin 2816) : (iblk m c 0 t : S768x2816.Idx → EReal) (ix2 r k)
    = grown (m ((c.tc : Thread nD τ).loc main_arg0) : S8208x2816.Idx → EReal) (ix2 (row t r) k) := by
  show (V m c main_v1 : S8448x2816.Idx → EReal) ((win0_0.blk t).view.emb (ix2 r k)) = _
  rw [V1, emb0]
theorem blk1 (k : Fin 2816) : (iblk m c 1 t : S2816x1024.Idx → EReal) (ix2 k j)
    = (m ((c.tc : Thread nD τ).loc main_arg1) : S2816x1024.Idx → EReal) (ix2 k j) := by
  show (V m c main_v2 : S2816x1024.Idx → EReal) ((win0_1.blk t).view.emb (ix2 k j)) = _
  rw [emb1, V2]
theorem blk2 : (iblk m c 2 t : S768x1024.Idx → EReal) (ix2 r j)
    = grown (m ((c.tc : Thread nD τ).loc main_arg2) : S8208x1024.Idx → EReal) (ix2 (row t r) j) := by
  show (V m c main_v3 : S8448x1024.Idx → EReal) ((win0_2.blk t).view.emb (ix2 r j)) = _
  rw [V3, emb2]
theorem blk3 (z : Fin 1) : (iblk m c 3 t : S1x1024.Idx → EReal) (ix2 z j) = (m ((c.tc : Thread nD τ).loc main_arg3) : S1x1024.Idx → EReal) (ix2 z j) := by
  show (V m c main_arg3 : S1x1024.Idx → EReal) ((win0_3.blk t).view.emb (ix2 z j)) = _
  rw [emb3, V_main_arg3]

end points

/-- The new residual, and the norm of it. -/
def next (x : S8208x2816.Idx → EReal) (w : S2816x1024.Idx → EReal) (h : S8208x1024.Idx → EReal) (r : Fin 8448) (j : Fin 1024) : EReal :=
  added (grown h (ix2 r j)) (fun k => grown x (ix2 r k)) fun k => w (ix2 k j)
def residual (x : S8208x2816.Idx → EReal) (w : S2816x1024.Idx → EReal) (h : S8208x1024.Idx → EReal) : S8448x1024.Idx → EReal :=
  fun i => next x w h (i 0) (i 1)
def normed (x : S8208x2816.Idx → EReal) (w : S2816x1024.Idx → EReal) (h : S8208x1024.Idx → EReal) (g : S1x1024.Idx → EReal) : S8448x1024.Idx → EReal :=
  fun i => nrm (next x w h (i 0)) (fun k => g (ix2 0 k)) (i 1)

theorem arr4 : (dats m 0 c).arrAt 4 cfg0.N
    = residual (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  frame_out
  obtain ⟨r, j, rfl⟩ := exists_ix2 y
  rw [show (win0_4.blk t).view.emb (ix2 r j) = (ix2 (row t r) j : S8448x1024.Idx) from emb2 t r j]
  refine (pay1 _ _ _ r j).trans ?_
  simp only [blk0, blk1, blk2]
  rfl
theorem arr5 : (dats m 0 c).arrAt 5 cfg0.N = normed (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 5 _ (by decide +kernel) fun t hf y => ?_
  blk_simp
  rw [after0_5]
  frame_out
  obtain ⟨r, j, rfl⟩ := exists_ix2 y
  rw [show (win0_5.blk t).view.emb (ix2 r j) = (ix2 (row t r) j : S8448x1024.Idx) from emb2 t r j]
  refine (pay2 _ _ _ _ r j).trans ?_
  simp only [blk0, blk1, blk2, blk3]
  rfl

/-! ### The plain lines -/

section lines
variable (x : S8208x2816.Idx → EReal) (w : S2816x1024.Idx → EReal) (h : S8208x1024.Idx → EReal) (g : S1x1024.Idx → EReal)

theorem ref0 : DownRefIdeal.Read.val_main_v0 (F := Ideal) h = grown h := by
  funext i
  obtain ⟨r, j, rfl⟩ := exists_ix2 i
  open DownRefIdeal.Read in
  unfold val_main_v0 val_main_call0_v0 val_main_c
  pointwise [sitofp_zero]
  rfl
theorem ref1 : DownRefIdeal.Read.val_main_v1 (F := Ideal) x = grown x := by
  funext i
  obtain ⟨r, j, rfl⟩ := exists_ix2 i
  open DownRefIdeal.Read in
  unfold val_main_v1 val_main_call1_v0 val_main_c_0
  pointwise [sitofp_zero]
  rfl
theorem ref5 : DownRefIdeal.Read.val_main_v5 (F := Ideal) x w h = residual x w h := by
  funext i
  obtain ⟨r, j, rfl⟩ := exists_ix2 i
  open DownRefIdeal.Read in
  unfold val_main_v5 val_main_v4 val_main_v3 val_main_v2 val_main_cst
  rw [ref0, ref1]
  pointwise []
  rfl
theorem ref18 : DownRefIdeal.Read.val_main_v18 (F := Ideal) x w h g = normed x w h g := by
  funext i
  obtain ⟨r, j, rfl⟩ := exists_ix2 i
  open DownRefIdeal.Read in
  unfold val_main_v18 val_main_v17 val_main_v16 val_main_v15 val_main_v14 val_main_v13 val_main_v12 val_main_v11 val_main_v10 val_main_v9
    val_main_v8 val_main_v7 val_main_v6 val_main_cst_1 val_main_cst_2 val_main_cst_3
  rw [ref5]
  pointwise [zero_f32', zero_add]
  rfl

end lines

end Cert.DownTie

end
-- ==== Proof.Act.lean ====
/-
  The gated product of the feed-forward layer: the kernel and the plain lines give one function.
-/
module

public import proofs.«01_k».proof.Proof.Gen.ActIdeal.Value
public import proofs.«01_k».proof.Proof.Gen.ActRefIdeal.Read
public import proofs.«01_k».proof.Proof.Dmerge
public import Idealize.ShloMosaic.Lib.StableHlo.ReadAt
public import Idealize.ShloMosaic.Lib.Pipeline.ValueKit

@[expose] public section

set_option maxRecDepth 16384

noncomputable section

namespace Cert.ActTie

open Idealize.ShloMosaic Idealize.SL.Sem Cert.Reals
open Cert.ActIdeal Cert.ActIdeal.Gen Cert.ActIdeal.Value
open Cert.DmergeTie (sg zero_f32' one_f32')

/-! ### One block -/

section block
variable (x : S768x1024.Idx → EReal) (w v : S1024x1408.Idx → EReal) (r : Fin 768) (j : Fin 1408)

/-- One entry of a product. -/
def dot (x w : Fin 1024 → EReal) : EReal := ∑ k, x k * w k

theorem pay2 : k0_pay2 (F := Ideal) x w (ix2 r j) = dot (fun k => x (ix2 r k)) fun k => w (ix2 k j) := by
  unfold_payloads
  pointwise [zero_f32', zero_add]
  rfl
theorem pay3 : k0_pay3 (F := Ideal) x v (ix2 r j) = dot (fun k => x (ix2 r k)) fun k => v (ix2 k j) := pay2 x v r j
theorem pay6 : k0_pay6 (F := Ideal) x w v (ix2 r j) = dot (fun k => x (ix2 r k)) (fun k => w (ix2 k j))
    * sg (dot (fun k => x (ix2 r k)) fun k => w (ix2 k j)) * dot (fun k => x (ix2 r k)) fun k => v (ix2 k j) := by
  unfold k0_pay6
  pointwise [pay2, pay3, zero_f32', one_f32']
  rw [sub_eq_add_neg, zero_add]
  rfl

end block

/-! ### The kernel -/

variable (m : (ℓ : Loc nD τ sig) → Buf (Elt Ideal) ℓ) (c : Dev nD)

theorem index0 : ∀ t : Fin cfg0.N, win0_0.index t = ![t.val % 11, 0] := by decide +kernel
theorem index1 : ∀ t : Fin cfg0.N, win0_1.index t = ![0, t.val / 11] := by decide +kernel
theorem index2 : ∀ t : Fin cfg0.N, win0_2.index t = ![0, 2 + t.val / 11] := by decide +kernel
theorem index3 : ∀ t : Fin cfg0.N, win0_3.index t = ![t.val % 11, t.val / 11] := by decide +kernel
theorem index4 : ∀ t : Fin cfg0.N, win0_4.index t = ![t.val % 11, t.val / 11] := by decide +kernel
theorem index5 : ∀ t : Fin cfg0.N, win0_5.index t = ![t.val % 11, t.val / 11] := by decide +kernel

theorem V1 : (V m c main_v1 : S8448x1024.Idx → EReal) = grown (m ((c.tc : Thread nD τ).loc main_arg0)) := by
  funext i
  obtain ⟨r, j, rfl⟩ := exists_ix2 i
  unfold V
  after_reads_at
  rw [sitofp_zero]
  rfl
theorem V2 (k : Fin 1024) (j : Fin 5632) : (V m c main_v2 : S1024x5632.Idx → EReal) (ix2 k j) = (m ((c.tc : Thread nD τ).loc main_arg1) : S1024x5632.Idx → EReal) (ix2 k j) := by
  unfold V
  after_reads_at
  try rfl

theorem points (t : Fin cfg0.N) : t.val < 22 := lt_of_lt_of_eq t.isLt N_0

/-- Row `r` and column `j` of the block of point `t`. -/
def row (t : Fin cfg0.N) (r : Fin 768) : Fin 8448 := ⟨768 * (t.val % 11) + r.val, by omega⟩
def col (t : Fin cfg0.N) (j : Fin 1408) : Fin 2816 := ⟨1408 * (t.val / 11) + j.val, by have := points t; omega⟩
/-- The column of the left half of the weights, and of the right half. -/
def left (j : Fin 2816) : Fin 5632 := ⟨j.val, by omega⟩
def right (j : Fin 2816) : Fin 5632 := ⟨2816 + j.val, by omega⟩

theorem emb0 (t : Fin cfg0.N) (r : Fin 768) (j : Fin 1024) : (win0_0.blk t).view.emb (ix2 r j) = (ix2 (row t r) j : S8448x1024.Idx) := by
  funext d
  apply Fin.ext
  match d with
  | ⟨0, _⟩ => blk_simp [index0]; exact congrArg (· + r.val) (mul_comm _ _)
  | ⟨1, _⟩ => blk_simp [index0]
theorem emb1 (t : Fin cfg0.N) (k : Fin 1024) (j : Fin 1408) : (win0_1.blk t).view.emb (ix2 k j) = (ix2 k (left (col t j)) : S1024x5632.Idx) := by
  funext d
  apply Fin.ext
  match d with
  | ⟨0, _⟩ => blk_simp [index1]
  | ⟨1, _⟩ => blk_simp [index1]; exact congrArg (· + j.val) (mul_comm _ _)
theorem emb2 (t : Fin cfg0.N) (k : Fin 1024) (j : Fin 1408) : (win0_2.blk t).view.emb (ix2 k j) = (ix2 k (right (col t j)) : S1024x5632.Idx) := by
  funext d
  apply Fin.ext
  match d with
  | ⟨0, _⟩ => blk_simp [index2]
  | ⟨1, _⟩ => blk_simp [index2]; show (2 + t.val / 11) * 1408 + j.val = 2816 + (1408 * (t.val / 11) + j.val); omega
theorem emb3 (t : Fin cfg0.N) (r : Fin 768) (j : Fin 1408) : (win0_3.blk t).view.emb (ix2 r j) = (ix2 (row t r) (col t j) : S8448x2816.Idx) := by
  funext d
  apply Fin.ext
  match d with
  | ⟨0, _⟩ => blk_simp [index3]; exact congrArg (· + r.val) (mul_comm _ _)
  | ⟨1, _⟩ => blk_simp [index3]; exact congrArg (· + j.val) (mul_comm _ _)

/-- The gate, the other factor and the gated product. -/
def gate (x : S8208x1024.Idx → EReal) (w : S1024x5632.Idx → EReal) : S8448x2816.Idx → EReal :=
  fun i => dot (fun k => grown x (ix2 (n0 := 8448) (i 0) k)) fun k => w (ix2 k (left (i 1)))
def up (x : S8208x1024.Idx → EReal) (w : S1024x5632.Idx → EReal) : S8448x2816.Idx → EReal :=
  fun i => dot (fun k => grown x (ix2 (n0 := 8448) (i 0) k)) fun k => w (ix2 k (right (i 1)))
def prod (x : S8208x1024.Idx → EReal) (w : S1024x5632.Idx → EReal) : S8448x2816.Idx → EReal :=
  fun i => gate x w i * sg (gate x w i) * up x w i

section points
variable (t : Fin cfg0.N) (r : Fin 768) (j : Fin 1408)

theorem blk0 (k : Fin 1024) : (iblk m c 0 t : S768x1024.Idx → EReal) (ix2 r k)
    = grown (m ((c.tc : Thread nD τ).loc main_arg0) : S8208x1024.Idx → EReal) (ix2 (row t r) k) := by
  show (V m c main_v1 : S8448x1024.Idx → EReal) ((win0_0.blk t).view.emb (ix2 r k)) = _
  rw [V1, emb0]
theorem blk1 (k : Fin 1024) : (iblk m c 1 t : S1024x1408.Idx → EReal) (ix2 k j)
    = (m ((c.tc : Thread nD τ).loc main_arg1) : S1024x5632.Idx → EReal) (ix2 k (left (col t j))) := by
  show (V m c main_v2 : S1024x5632.Idx → EReal) ((win0_1.blk t).view.emb (ix2 k j)) = _
  rw [emb1, V2]
theorem blk2 (k : Fin 1024) : (iblk m c 2 t : S1024x1408.Idx → EReal) (ix2 k j)
    = (m ((c.tc : Thread nD τ).loc main_arg1) : S1024x5632.Idx → EReal) (ix2 k (right (col t j))) := by
  show (V m c main_v2 : S1024x5632.Idx → EReal) ((win0_2.blk t).view.emb (ix2 k j)) = _
  rw [emb2, V2]

end points

theorem arr3 : (dats m 0 c).arrAt 3 cfg0.N = gate (m ((c.tc : Thread nD τ).loc main_arg0)) (m ((c.tc : Thread nD τ).loc main_arg1)) := by
  refine (dats m 0 c).arrAt_eq_of_covers 3 _ (by decide +kernel) fun t hf y => ?_
  blk_simp
  rw [after0_3]
  frame_out
  obtain ⟨r, j, rfl⟩ := exists_ix2 y
  rw [emb3 t r j]
  refine (pay2 _ _ r j).trans ?_
  simp only [blk0, blk1]
  rfl
theorem arr4 : (dats m 0 c).arrAt 4 cfg0.N = up (m ((c.tc : Thread nD τ).loc main_arg0)) (m ((c.tc : Thread nD τ).loc main_arg1)) := by
  refine (dats m 0 c).arrAt_eq_of_covers 4 _ (by decide +kernel) fun t hf y => ?_
  blk_simp
  rw [after0_4]
  frame_out
  obtain ⟨r, j, rfl⟩ := exists_ix2 y
  rw [show (win0_4.blk t).view.emb (ix2 r j) = (ix2 (row t r) (col t j) : S8448x2816.Idx) from emb3 t r j]
  refine (pay3 _ _ r j).trans ?_
  simp only [blk0, blk2]
  rfl
theorem arr5 : (dats m 0 c).arrAt 5 cfg0.N = prod (m ((c.tc : Thread nD τ).loc main_arg0)) (m ((c.tc : Thread nD τ).loc main_arg1)) := by
  refine (dats m 0 c).arrAt_eq_of_covers 5 _ (by decide +kernel) fun t hf y => ?_
  blk_simp
  rw [after0_5]
  frame_out
  obtain ⟨r, j, rfl⟩ := exists_ix2 y
  rw [show (win0_5.blk t).view.emb (ix2 r j) = (ix2 (row t r) (col t j) : S8448x2816.Idx) from emb3 t r j]
  refine (pay6 _ _ _ r j).trans ?_
  simp only [blk0, blk1, blk2]
  rfl

/-! ### The plain lines -/

section lines
variable (x : S8208x1024.Idx → EReal) (w : S1024x5632.Idx → EReal)

theorem ref0 : ActRefIdeal.Read.val_main_v0 (F := Ideal) x = grown x := by
  funext i
  obtain ⟨r, j, rfl⟩ := exists_ix2 i
  open ActRefIdeal.Read in
  unfold val_main_v0 val_main_call0_v0 val_main_c
  pointwise [sitofp_zero]
  rfl
theorem ref2 : ActRefIdeal.Read.val_main_v2 (F := Ideal) x w = gate x w := by
  funext i
  obtain ⟨r, j, rfl⟩ := exists_ix2 i
  open ActRefIdeal.Read in
  unfold val_main_v2 val_main_v1
  rw [ref0]
  pointwise []
  rfl
theorem ref3 : ActRefIdeal.Read.val_main_v3 (F := Ideal) x w = up x w := by
  funext i
  obtain ⟨r, j, rfl⟩ := exists_ix2 i
  open ActRefIdeal.Read in
  unfold val_main_v3 val_main_v1
  rw [ref0]
  pointwise []
  rfl
theorem ref4 : ActRefIdeal.Read.val_main_v4 (F := Ideal) x w = gate x w := ref2 x w
theorem ref5 : ActRefIdeal.Read.val_main_v5 (F := Ideal) x w = up x w := ref3 x w
theorem ref8 : ActRefIdeal.Read.val_main_v8 (F := Ideal) x w = prod x w := by
  funext i
  obtain ⟨r, j, rfl⟩ := exists_ix2 i
  open ActRefIdeal.Read in
  unfold val_main_v8 val_main_v7 val_main_v6 val_main_call1_v5 val_main_call1_v4 val_main_call1_v3 val_main_call1_v2 val_main_call1_v1 val_main_call1_v0
    val_main_call1_cst val_main_call1_cst_0
  rw [ref2, ref3]
  pointwise [one_f32']
  rfl

end lines

end Cert.ActTie

end
-- ==== Proof.AfwdStep.lean ====
module

public import proofs.«01_k».proof.Proof.Gen.AfwdIdeal.Value
public import proofs.«01_k».proof.Proof.Gen.AfwdIdeal.Loops
public import Idealize.ShloMosaic.Lib.WritesUnit
public import Idealize.ShloMosaic.Lib.VecWindow
public import Idealize.ShloMosaic.Lib.Pipeline.ValueKit

/-!
# What one point of the attention computes, as functions of its blocks

`trip`: one block of keys before the queries' own. `loopAt`: the largest score, the sum of the weights and the weighted
values after the first `n` of them. `pointO`, `pointL`: what a point leaves in the output and in the rows' log-sums.
-/

@[expose] public section

set_option maxRecDepth 16384

noncomputable section

namespace Cert.AfwdTie

open Idealize.ShloMosaic Idealize.ShloMosaic.TcCoe Idealize.SL.Sem
open Cert.AfwdIdeal Cert.AfwdIdeal.Gen

variable {F : FTy → Type} [FloatOps F] [Named F]

/-- What a row of query blocks carries. -/
abbrev Carry (F : FTy → Type) : Type := FVec F S1x768 .f32 × FVec F S1x768 .f32 × FVec F S128x768 .f32

/-- 768 rows of the keys, and one block of the transposed values. -/
abbrev keysAt (x : Vec F S8448x128 .bf16) (off : Fin 2 → ℕ) (inb : ∀ a, off a + S768x128.size a ≤ S8448x128.size a) : Vec F S768x128 .bf16 :=
  View.ld x (Rect.unit (s := S8448x128) off S768x128.size inb)
abbrev valsAt (x : Vec F S1x11x128x768 .bf16) (off : Fin 4 → ℕ) (inb : ∀ a, off a + S1x1x128x768.size a ≤ S1x11x128x768.size a) : Vec F S1x1x128x768 .bf16 :=
  View.ld x (Rect.unit (s := S1x11x128x768) off S1x1x128x768.size inb)
abbrev queries (x : Vec F S768x128 .bf16) : Vec F S768x128 .bf16 :=
  View.ld x (Rect.unit (s := S768x128) ![0, 0] S768x128.size inb_S768x128_S768x128_0_0)

def trip (i : grid0.Coords) (v : Vec F S768x128 .bf16) (x1 : Vec F S8448x128 .bf16) (x2 : Vec F S1x11x128x768 .bf16) (k : Fin (k0_t1_loop i).trips) (s : Carry F) : Carry F :=
  (k0_pay10 v s.1 (keysAt x1 (k0_off1 i k) (k0_off1_inb i k)), k0_pay13 v s.1 s.2.1 (keysAt x1 (k0_off1 i k) (k0_off1_inb i k)),
    k0_pay14 v s.1 s.2.2 (keysAt x1 (k0_off1 i k) (k0_off1_inb i k)) (valsAt x2 (k0_off2 i k) (k0_off2_inb i k)))

def loopAt (i : grid0.Coords) (v : Vec F S768x128 .bf16) (x1 : Vec F S8448x128 .bf16) (x2 : Vec F S1x11x128x768 .bf16) : ℕ → Carry F
  | 0 => (k0_pay6, k0_pay7, k0_pay8)
  | n + 1 => if h : n < (k0_t1_loop i).trips then trip i v x1 x2 ⟨n, h⟩ (loopAt i v x1 x2 n) else loopAt i v x1 x2 n

/-- A point after its last block, that of its own rows. -/
def pointO (i : grid0.Coords) (v : Vec F S768x128 .bf16) (x1 : Vec F S8448x128 .bf16) (x2 : Vec F S1x11x128x768 .bf16) (s : Carry F) : FVec F S768x128 .bf16 :=
  k0_pay3 s.2.1 s.2.2 (k0_pay23 i v s.1 (keysAt x1 (k0_off5 i) (k0_off5_inb i))) (k0_pay24 i v s.1 (keysAt x1 (k0_off5 i) (k0_off5_inb i)))
    (Named.named κ "c2" 0x3E16C740#32) (valsAt x2 (k0_off6 i) (k0_off6_inb i))
def pointL (i : grid0.Coords) (v : Vec F S768x128 .bf16) (x1 : Vec F S8448x128 .bf16) (s : Carry F) : FVec F S1x1x1x768 .f32 :=
  k0_pay4 s.2.1 (k0_pay22 i v s.1 (keysAt x1 (k0_off5 i) (k0_off5_inb i))) (k0_pay23 i v s.1 (keysAt x1 (k0_off5 i) (k0_off5_inb i)))
    (k0_pay24 i v s.1 (keysAt x1 (k0_off5 i) (k0_off5_inb i))) (Named.named κ "c2" 0x3E16C740#32)

theorem trips2 (i : grid0.Coords) : (k0_t2_loop i).trips = 0 := by
  have h := (i 1).isLt
  unfold k0_t2_loop
  dsimp only
  generalize (i 1).val = j at h ⊢
  change j < 11 at h
  interval_cases j <;> decide

theorem trips1 (i : grid0.Coords) : (k0_t1_loop i).trips = (i 1).val := by
  have h := (i 1).isLt
  unfold k0_t1_loop
  dsimp only
  generalize (i 1).val = j at h ⊢
  change j < 11 at h
  interval_cases j <;> decide

section run
variable (c : Dev nD) (i : grid0.Coords) (arg2 : Memref sig .tc .vmem S768x128 .bf16) (harg2 : arg2.IsWhole) (arg3 : Memref sig .tc .vmem S8448x128 .bf16) (harg3 : arg3.IsWhole) (arg4 : Memref sig .tc .vmem S1x11x128x768 .bf16) (harg4 : arg4.IsWhole) (arg5 : Memref sig .tc .vmem S768x128 .bf16) (harg5 : arg5.IsWhole) (arg6 : Memref sig .tc .vmem S1x1x1x768 .f32) (harg6 : arg6.IsWhole)
variable (x0 : Vec F S768x128 .bf16) (x1 : Vec F S8448x128 .bf16) (x2 : Vec F S1x11x128x768 .bf16)

/-- The trip of the run's loop is `trip`. -/
theorem tripR_eq (v : Vec F S768x128 .bf16) (k : Fin (k0_t1_loop i).trips) (s : Carry F) :
    tripR_k0_t1 (F := F) Variants.none c none i arg2 harg2 arg3 harg3 arg4 harg4 arg5 harg5 arg6 harg6 v (harg3.unread x1) (harg4.unread x2) k s = trip i v x1 x2 k s := by
  unfold tripR_k0_t1 trip_k0_t1 trip
  simp only [View.readAt_eq_ld, harg3.read_unread, harg4.read_unread]

theorem st_eq (v : Vec F S768x128 .bf16) (n : ℕ) (hn : n ≤ (k0_t1_loop i).trips) :
    st_k0_t1 (F := F) Variants.none c none i arg2 harg2 arg3 harg3 arg4 harg4 arg5 harg5 arg6 harg6 v (harg3.unread x1) (harg4.unread x2) (k0_pay6, k0_pay7, k0_pay8) n = loopAt i v x1 x2 n := by
  induction n with
  | zero => rfl
  | succ n ih =>
    have hn' : n < (k0_t1_loop i).trips := hn
    have e := st_k0_t1_succ (F := F) Variants.none c none i arg2 harg2 arg3 harg3 arg4 harg4 arg5 harg5 arg6 harg6 v (harg3.unread x1) (harg4.unread x2) (k0_pay6, k0_pay7, k0_pay8) ⟨n, hn'⟩
    dsimp only at e
    rw [e, ih (by omega), tripR_eq, loopAt, dif_pos hn']

theorem st2_eq (v : Vec F S768x128 .bf16) (s : Carry F) :
    st_k0_t2 (F := F) Variants.none c none i arg2 harg2 arg3 harg3 arg4 harg4 arg5 harg5 arg6 harg6 v (harg3.unread x1) (harg4.unread x2) s (k0_t2_loop i).trips = s := by
  rw [trips2]; rfl

/-- What the run of the kernel carries to its last block. -/
def carryR (v : Vec F S768x128 .bf16) : Carry F :=
  st_k0_t2 (F := F) Variants.none c none i arg2 harg2 arg3 harg3 arg4 harg4 arg5 harg5 arg6 harg6 v (harg3.unread x1) (harg4.unread x2)
    (st_k0_t1 (F := F) Variants.none c none i arg2 harg2 arg3 harg3 arg4 harg4 arg5 harg5 arg6 harg6 v (harg3.unread x1) (harg4.unread x2) (k0_pay6, k0_pay7, k0_pay8) (k0_t1_loop i).trips)
    (k0_t2_loop i).trips

theorem carryR_eq (v : Vec F S768x128 .bf16) : carryR c i arg2 harg2 arg3 harg3 arg4 harg4 arg5 harg5 arg6 harg6 x1 x2 v = loopAt i v x1 x2 (i 1).val := by
  unfold carryR
  rw [st2_eq, st_eq (hn := le_rfl), trips1]

theorem load_queries : View.readAt (Elt F) arg2.view (Rect.unit (s := S768x128) ![0, 0] S768x128.size inb_S768x128_S768x128_0_0).toLoadRect (harg2.unread x0) = queries x0 := by
  rw [View.readAt_eq_ld, harg2.read_unread]

theorem load_keys : View.readAt (Elt F) arg3.view (Rect.unit (s := S8448x128) (k0_off5 i) S768x128.size (k0_off5_inb i)).toLoadRect (harg3.unread x1) = keysAt x1 (k0_off5 i) (k0_off5_inb i) := by
  rw [View.readAt_eq_ld, harg3.read_unread]

theorem load_vals : View.readAt (Elt F) arg4.view (Rect.unit (s := S1x11x128x768) (k0_off6 i) S1x1x128x768.size (k0_off6_inb i)).toLoadRect (harg4.unread x2) = valsAt x2 (k0_off6 i) (k0_off6_inb i) := by
  rw [View.readAt_eq_ld, harg4.read_unread]

/-- The pieces the run writes to the output and to the rows' log-sums. -/
theorem run_fst : (kernelRun0_A c i arg2 harg2 arg3 harg3 arg4 harg4 arg5 harg5 arg6 harg6 x0 x1 x2).1
    = [⟨Rect.unit (s := S768x128) ![0, 0] S768x128.size inb_S768x128_S768x128_0_0,
        pointO i (queries x0) x1 x2 (loopAt i (queries x0) x1 x2 (i 1).val)⟩] := by
  rw [← carryR_eq c i arg2 harg2 arg3 harg3 arg4 harg4 arg5 harg5 arg6 harg6]
  unfold pointO
  rw [← load_keys i arg3 harg3, ← load_vals i arg4 harg4, ← load_queries arg2 harg2]
  unfold kernelRun0_A
  rfl

theorem run_snd : (kernelRun0_A c i arg2 harg2 arg3 harg3 arg4 harg4 arg5 harg5 arg6 harg6 x0 x1 x2).2.1
    = [⟨Rect.unit (s := S1x1x1x768) ![0, 0, 0, 0] S1x1x1x768.size inb_S1x1x1x768_S1x1x1x768_0_0_0_0,
        pointL i (queries x0) x1 (loopAt i (queries x0) x1 x2 (i 1).val)⟩] := by
  rw [← carryR_eq c i arg2 harg2 arg3 harg3 arg4 harg4 arg5 harg5 arg6 harg6]
  unfold pointL
  rw [← load_keys i arg3 harg3, ← load_queries arg2 harg2]
  unfold kernelRun0_A
  rfl

/-- The blocks a point leaves. -/
theorem out3_eq : out0_A_3 c i arg2 harg2 arg3 harg3 arg4 harg4 arg5 harg5 arg6 harg6 x0 x1 x2 = pointO i (queries x0) x1 x2 (loopAt i (queries x0) x1 x2 (i 1).val) := by
  unfold out0_A_3
  rw [run_fst]
  exact View.read_writes_full (s := S768x128) VO0_3 _ inb_S768x128_S768x128_0_0 _ []

theorem out4_eq : out0_A_4 c i arg2 harg2 arg3 harg3 arg4 harg4 arg5 harg5 arg6 harg6 x0 x1 x2 = pointL i (queries x0) x1 (loopAt i (queries x0) x1 x2 (i 1).val) := by
  unfold out0_A_4
  rw [run_snd]
  exact View.read_writes_full (s := S1x1x1x768) VO0_4 _ inb_S1x1x1x768_S1x1x1x768_0_0_0_0 _ []
end run
end Cert.AfwdTie

end
-- ==== Proof.AfwdPay.lean ====
module

public import proofs.«01_k».proof.Proof.AfwdStep
public import proofs.«01_k».proof.Proof.Reals

/-!
# One point of the attention, over the reals

A column of a block of scores is one query. It carries the largest score so far `m`, the sum of the weights `l` and the
weighted values `acc`, both taken relative to `m`. `Run` says so: with `m` the real `t`, they are `2^(-t c2)` times the
sums `L` and `A` of `2^(s c2)` over the keys read, which do not depend on `t`. Before the first block `m` is −∞ and the
rest is 0.
-/

@[expose] public section

set_option maxRecDepth 16384

noncomputable section

namespace Cert.AfwdTie

open Idealize.ShloMosaic Idealize.SL.Sem Cert.Reals
open Cert.AfwdIdeal Cert.AfwdIdeal.Gen

/-- The scale of the scores times the logarithm of e to the base two. -/
def c2 : ℝ := (√96)⁻¹ * (Real.log 2)⁻¹

theorem c2_pos : 0 < c2 := mul_pos (inv_pos.mpr (Real.sqrt_pos.mpr (by norm_num))) (inv_pos.mpr (Real.log_pos (by norm_num)))

theorem named_c2 : Named.named (F := Ideal) κ "c2" (φ := .f32) 0x3E16C740#32 = ((c2 : ℝ) : EReal) := rfl
theorem named_log2e : Named.named (F := Ideal) κ "log2e" (φ := .f32) 0x3FB8AA3B#32 = (((Real.log 2)⁻¹ : ℝ) : EReal) := rfl
theorem named_mask : Named.named (F := Ideal) κ "mask" (φ := .f32) 0xF149F2CA#32 = (⊥ : EReal) := rfl

/-! ### One query -/

/-- The weight of a score before it is taken relative to anything. -/
def pw (x : ℝ) : ℝ := (2 : ℝ) ^ (x * c2)

theorem pw_pos (x : ℝ) : 0 < pw x := Real.rpow_pos_of_pos (by norm_num) _
theorem pw_add (x y : ℝ) : pw (x + y) = pw x * pw y := by
  unfold pw; rw [add_mul, Real.rpow_add (by norm_num)]

theorem exp2_real (x y : ℝ) : FloatOps.exp2 (F := Ideal) (φ := .f32) (((x : EReal) - (y : EReal)) * ((c2 : ℝ) : EReal)) = ((pw x * pw (-y) : ℝ) : EReal) := by
  rw [← pw_add, ← sub_eq_add_neg, ← EReal.coe_sub, ← EReal.coe_mul]
  rfl

theorem exp2_bot (y : ℝ) : FloatOps.exp2 (F := Ideal) (φ := .f32) (((⊥ : EReal) - (y : EReal)) * ((c2 : ℝ) : EReal)) = ((0 : ℝ) : EReal) := by
  rw [EReal.bot_sub, EReal.bot_mul_coe_of_pos c2_pos]
  rfl

def Run (m l : EReal) (acc : Fin 128 → EReal) (L : ℝ) (A : Fin 128 → ℝ) : Prop :=
  (m = ⊥ ∧ l = ((0 : ℝ) : EReal) ∧ (∀ d, acc d = ((0 : ℝ) : EReal)) ∧ L = 0 ∧ ∀ d, A d = 0)
    ∨ ∃ t : ℝ, m = (t : EReal) ∧ l = ((pw (-t) * L : ℝ) : EReal) ∧ ∀ d, acc d = ((pw (-t) * A d : ℝ) : EReal)

section column
variable {m l : EReal} {acc : Fin 128 → EReal} {L : ℝ} {A : Fin 128 → ℝ} (S : Fin 768 → EReal) (s : Fin 768 → ℝ) (on : Fin 768 → Prop) [DecidablePred on]

/-- The largest score after a block that has a key for the query is a real. -/
theorem top_real (h : Run m l acc L A) (hS : ∀ b, S b = if on b then ((s b : ℝ) : EReal) else ⊥) (hon : ∃ b, on b) :
    ∃ t : ℝ, max m (Finset.univ.fold max ⊥ S) = (t : EReal) := by
  obtain ⟨b, hb⟩ := hon
  refine ⟨_, (EReal.coe_toReal ?_ ?_).symm⟩
  · refine ne_of_lt (max_lt ?_ ((Finset.fold_max_lt _).mpr ⟨bot_lt_top, fun x _ => ?_⟩))
    · rcases h with h | ⟨t, h, _⟩
      · rw [h.1]; exact bot_lt_top
      · rw [h]; exact EReal.coe_lt_top _
    · rw [hS]; split
      · exact EReal.coe_lt_top _
      · exact bot_lt_top
  · refine ne_of_gt (lt_max_of_lt_right ((Finset.lt_fold_max _).mpr (Or.inr ⟨b, Finset.mem_univ _, ?_⟩)))
    rw [hS, if_pos hb]
    exact EReal.bot_lt_coe _

/-- The weight of a key relative to the new largest score. -/
theorem weight_real (hS : ∀ b, S b = if on b then ((s b : ℝ) : EReal) else ⊥) (t : ℝ) (b : Fin 768) :
    FloatOps.exp2 (F := Ideal) (φ := .f32) ((S b - (t : EReal)) * ((c2 : ℝ) : EReal)) = ((pw (-t) * (if on b then pw (s b) else 0) : ℝ) : EReal) := by
  rw [hS]
  split
  · rw [exp2_real, mul_comm]
  · rw [exp2_bot, mul_zero]

/-- One block. -/
theorem run_block (h : Run m l acc L A) (hS : ∀ b, S b = if on b then ((s b : ℝ) : EReal) else ⊥) (hon : ∃ b, on b) (v : Fin 128 → Fin 768 → ℝ) :
    Run (max m (Finset.univ.fold max ⊥ S))
      (FloatOps.exp2 (F := Ideal) (φ := .f32) ((m - max m (Finset.univ.fold max ⊥ S)) * ((c2 : ℝ) : EReal)) * l
        + ∑ b, FloatOps.exp2 (F := Ideal) (φ := .f32) ((S b - max m (Finset.univ.fold max ⊥ S)) * ((c2 : ℝ) : EReal)))
      (fun d => FloatOps.exp2 (F := Ideal) (φ := .f32) ((m - max m (Finset.univ.fold max ⊥ S)) * ((c2 : ℝ) : EReal)) * acc d
        + (((0 : ℝ) : EReal) + ∑ b, ((v d b : ℝ) : EReal) * FloatOps.exp2 (F := Ideal) (φ := .f32) ((S b - max m (Finset.univ.fold max ⊥ S)) * ((c2 : ℝ) : EReal))))
      (L + ∑ b, if on b then pw (s b) else 0) (fun d => A d + ∑ b, v d b * if on b then pw (s b) else 0) := by
  obtain ⟨t, ht⟩ := top_real S s on h hS hon
  rw [ht]
  have ha : FloatOps.exp2 (F := Ideal) (φ := .f32) ((m - (t : EReal)) * ((c2 : ℝ) : EReal)) * l = ((pw (-t) * L : ℝ) : EReal)
      ∧ ∀ d, FloatOps.exp2 (F := Ideal) (φ := .f32) ((m - (t : EReal)) * ((c2 : ℝ) : EReal)) * acc d = ((pw (-t) * A d : ℝ) : EReal) := by
    rcases h with ⟨hm, hl, hacc, hL, hA⟩ | ⟨u, hm, hl, hacc⟩
    · refine ⟨?_, fun d => ?_⟩
      · rw [hm, exp2_bot, hl, hL, ← EReal.coe_mul]; simp
      · rw [hm, exp2_bot, hacc, hA, ← EReal.coe_mul]; simp
    · have e : pw u * pw (-u) = 1 := by rw [← pw_add, add_neg_cancel]; simp [pw]
      refine ⟨?_, fun d => ?_⟩
      · rw [hm, exp2_real, hl, ← EReal.coe_mul]; congr 1; linear_combination (pw (-t) * L) * e
      · rw [hm, exp2_real, hacc, ← EReal.coe_mul]; congr 1; linear_combination (pw (-t) * A d) * e
  obtain ⟨hl, hacc⟩ := ha
  refine Or.inr ⟨t, rfl, ?_, fun d => ?_⟩
  · rw [hl]
    simp only [weight_real S s on hS, sum_coe, ← EReal.coe_add]
    rw [mul_add, Finset.mul_sum]
  · dsimp only
    rw [hacc]
    simp only [weight_real S s on hS, ← EReal.coe_mul, sum_coe, ← EReal.coe_add, zero_add]
    rw [mul_add, Finset.mul_sum]
    congr 2
    exact Finset.sum_congr rfl fun b _ => by ring

/-- What a query's output and log-sum are from what it carries at the end. -/
theorem run_out (h : Run m l acc L A) (hL : 0 < L) (d : Fin 128) : Ideal.div (acc d) l = ((A d / L : ℝ) : EReal) := by
  rcases h with h | ⟨t, hm, hl, hacc⟩
  · exact absurd h.2.2.2.1 hL.ne'
  · rw [hacc, hl, div_coe_coe (mul_pos (pw_pos _) hL).ne', mul_div_mul_left _ _ (pw_pos _).ne']

theorem run_lsum (h : Run m l acc L A) (hL : 0 < L) :
    m * ((c2 : ℝ) : EReal) + Ideal.log l * (((Real.log 2)⁻¹ : ℝ) : EReal) = ((Real.log L / Real.log 2 : ℝ) : EReal) := by
  have h2 : Real.log 2 ≠ 0 := (Real.log_pos (by norm_num)).ne'
  rcases h with h | ⟨t, hm, hl, hacc⟩
  · exact absurd h.2.2.2.1 hL.ne'
  · rw [hm, hl, Ideal.log_coe, if_neg (not_le.mpr (mul_pos (pw_pos _) hL)), Real.log_mul (pw_pos _).ne' hL.ne',
      ← EReal.coe_mul, ← EReal.coe_mul, ← EReal.coe_add]
    have e : Real.log (pw (-t)) = -t * c2 * Real.log 2 := by unfold pw; rw [Real.log_rpow (by norm_num)]
    rw [e]
    congr 1
    field_simp
    ring
end column

/-! ### The payloads -/

section block
variable (k q : Fin 768 → Fin 128 → ℝ)

/-- A score. -/
def dotp (b n : Fin 768) : ℝ := ∑ d, k b d * q n d

theorem pay5 : k0_pay5 (F := Ideal) (lift2 q) = lift2 q := by
  funext i; obtain ⟨b, n, rfl⟩ := exists_ix2 i
  unfold k0_pay5
  pointwise []

theorem pay6 (n : Fin 768) : k0_pay6 (F := Ideal) (ix2 0 n) = (⊥ : EReal) := by
  unfold k0_pay6; pointwise []; exact named_mask
theorem pay7 (n : Fin 768) : k0_pay7 (F := Ideal) (ix2 0 n) = ((0 : ℝ) : EReal) := by
  unfold k0_pay7; pointwise [zero_f32]
theorem pay8 (d : Fin 128) (n : Fin 768) : k0_pay8 (F := Ideal) (ix2 d n) = ((0 : ℝ) : EReal) := by
  unfold k0_pay8; pointwise [zero_f32]

theorem pay9 : k0_pay9 (F := Ideal) (lift2 q) (lift2 k) = lift2 (dotp k q) := by
  funext i; obtain ⟨b, n, rfl⟩ := exists_ix2 i
  unfold k0_pay9
  rw [pay5]
  pointwise [lift2_apply, zero_f32]
  simp only [← EReal.coe_mul, sum_coe, ← EReal.coe_add, zero_add]
  rfl

theorem pay10 (m : FVec Ideal S1x768 .f32) (n : Fin 768) :
    k0_pay10 (F := Ideal) (lift2 q) m (lift2 k) (ix2 0 n) = max (m (ix2 0 n)) (Finset.univ.fold max ⊥ fun b => ((dotp k q b n : ℝ) : EReal)) := by
  unfold k0_pay10
  rw [pay9]
  pointwise [lift2_apply, neg_inf_f32]

/-- The mask of the diagonal block. -/
theorem later (j : ℕ) (hj : j < 11) (b n : Fin 768) :
    IntOp.cmpi CmpIPredicate.sle (IntOp.addi (Scalar.muli (BitVec.ofNat 32 j) 768#32) (BitVec.ofNat 32 b.val))
      (IntOp.addi (Scalar.muli (BitVec.ofNat 32 j) 768#32) (BitVec.ofNat 32 n.val)) = if b.val ≤ n.val then 1#1 else 0#1 := by
  have e : ∀ a : Fin 768, (IntOp.addi (Scalar.muli (BitVec.ofNat 32 j) 768#32) (BitVec.ofNat 32 a.val) : BitVec 32).toInt = ((768 * j + a.val : ℕ) : ℤ) := by
    intro a
    have ha := a.isLt
    have ht : (IntOp.addi (Scalar.muli (BitVec.ofNat 32 j) 768#32) (BitVec.ofNat 32 a.val) : BitVec 32).toNat = 768 * j + a.val := by
      simp only [IntOp.addi, Scalar.muli, IntOp.muli, BitVec.toNat_add, BitVec.toNat_mul, BitVec.toNat_ofNat]
      omega
    rw [BitVec.toInt_eq_toNat_of_lt (by rw [ht]; omega), ht]
  simp only [IntOp.cmpi, BitVec.sle, e]
  by_cases h : b.val ≤ n.val
  · rw [if_pos h, decide_eq_true (by omega)]; rfl
  · rw [if_neg h, decide_eq_false (by omega)]; rfl

theorem pay21 (i : grid0.Coords) (b n : Fin 768) :
    k0_pay21 (F := Ideal) i (lift2 q) (lift2 k) (ix2 b n) = if b.val ≤ n.val then ((dotp k q b n : ℝ) : EReal) else ⊥ := by
  have hj : (i 1).val < 11 := (i 1).isLt
  unfold k0_pay21
  rw [pay5]
  generalize (i 1).val = j at hj ⊢
  pointwise [lift2_apply, zero_f32, later j hj, named_mask]
  simp only [← EReal.coe_mul, sum_coe, ← EReal.coe_add, zero_add]
  split_ifs <;> rfl

/-- What the queries of a block carry. -/
def Runs (s : Carry Ideal) (L : Fin 768 → ℝ) (A : Fin 768 → Fin 128 → ℝ) : Prop :=
  ∀ n, Run (s.1 (ix2 0 n)) (s.2.1 (ix2 0 n)) (fun d => s.2.2 (ix2 d n)) (L n) (A n)

theorem runs_init : Runs ((k0_pay6 (F := Ideal)), (k0_pay7 (F := Ideal)), (k0_pay8 (F := Ideal))) (fun _ => 0) fun _ _ => 0 :=
  fun n => Or.inl ⟨pay6 n, pay7 n, fun d => pay8 d n, rfl, fun _ => rfl⟩

variable {s : Carry Ideal} {L : Fin 768 → ℝ} {A : Fin 768 → Fin 128 → ℝ} (v : Fin 768 → Fin 128 → ℝ) (x : Vec Ideal S1x1x128x768 .bf16)

/-- A block before the queries' own. -/
theorem runs_block (h : Runs s L A) (hx : ∀ b d, x (ix4 0 0 d b) = ((v b d : ℝ) : EReal)) :
    Runs (k0_pay10 (lift2 q) s.1 (lift2 k), k0_pay13 (lift2 q) s.1 s.2.1 (lift2 k), k0_pay14 (lift2 q) s.1 s.2.2 (lift2 k) x)
      (fun n => L n + ∑ b, pw (dotp k q b n)) (fun n d => A n d + ∑ b, v b d * pw (dotp k q b n)) := by
  intro n
  have r := run_block (fun b => ((dotp k q b n : ℝ) : EReal)) (fun b => dotp k q b n) (fun _ => True) (h n) (fun b => (if_pos trivial).symm) ⟨n, trivial⟩ (fun d b => v b d)
  simp only [if_true] at r
  convert r using 1
  · exact pay10 k q _ n
  · unfold k0_pay13 k0_pay12 k0_pay11
    rw [pay9]
    pointwise [lift2_apply, zero_f32, pay10, named_c2]
  · funext d
    unfold k0_pay14 k0_pay12 k0_pay11
    rw [pay9]
    pointwise [lift2_apply, zero_f32, pay10, named_c2, hx]

/-- The queries' own block. -/
theorem pay22 (i : grid0.Coords) (m : FVec Ideal S1x768 .f32) (n : Fin 768) :
    k0_pay22 (F := Ideal) i (lift2 q) m (lift2 k) (ix2 0 n)
      = max (m (ix2 0 n)) (Finset.univ.fold max ⊥ fun b : Fin 768 => if b.val ≤ n.val then ((dotp k q b n : ℝ) : EReal) else ⊥) := by
  unfold k0_pay22
  pointwise [pay21, neg_inf_f32]

theorem runs_last (i : grid0.Coords) (h : Runs s L A) (hx : ∀ b d, x (ix4 0 0 d b) = ((v b d : ℝ) : EReal)) (n : Fin 768) :
    Run (k0_pay22 i (lift2 q) s.1 (lift2 k) (ix2 0 n))
      (k0_pay2 s.2.1 (k0_pay23 i (lift2 q) s.1 (lift2 k)) (k0_pay24 i (lift2 q) s.1 (lift2 k)) (Named.named κ "c2" 0x3E16C740#32) (ix2 0 n))
      (fun d => FloatOps.exp2 (F := Ideal) (φ := .f32) ((s.1 (ix2 0 n) - k0_pay22 i (lift2 q) s.1 (lift2 k) (ix2 0 n)) * ((c2 : ℝ) : EReal)) * s.2.2 (ix2 d n)
        + (((0 : ℝ) : EReal) + ∑ b, ((v b d : ℝ) : EReal) * k0_pay23 i (lift2 q) s.1 (lift2 k) (ix2 b n)))
      (L n + ∑ b : Fin 768, if b.val ≤ n.val then pw (dotp k q b n) else 0) (fun d => A n d + ∑ b : Fin 768, v b d * if b.val ≤ n.val then pw (dotp k q b n) else 0) := by
  have r := run_block (fun b : Fin 768 => if b.val ≤ n.val then ((dotp k q b n : ℝ) : EReal) else ⊥) (fun b => dotp k q b n) (fun b => b.val ≤ n.val) (h n) (fun b => rfl) ⟨n, le_rfl⟩ (fun d b => v b d)
  convert r using 1
  · exact pay22 k q i _ n
  · unfold k0_pay2 k0_pay1 k0_pay23 k0_pay24
    pointwise [zero_f32, pay22, pay21, named_c2]
  · funext d
    unfold k0_pay23
    pointwise [pay22, pay21, named_c2]

theorem last_pos (h : ∀ n, 0 ≤ L n) (n : Fin 768) : 0 < L n + ∑ b : Fin 768, if b.val ≤ n.val then pw (dotp k q b n) else 0 := by
  refine add_pos_of_nonneg_of_pos (h n) (Finset.sum_pos' (fun b _ => ?_) ⟨n, Finset.mem_univ _, ?_⟩)
  · split
    · exact (pw_pos _).le
    · exact le_rfl
  · rw [if_pos le_rfl]; exact pw_pos _

theorem last_out (i : grid0.Coords) (h : Runs s L A) (hL : ∀ n, 0 ≤ L n) (hx : ∀ b d, x (ix4 0 0 d b) = ((v b d : ℝ) : EReal)) (n : Fin 768) (d : Fin 128) :
    k0_pay3 s.2.1 s.2.2 (k0_pay23 i (lift2 q) s.1 (lift2 k)) (k0_pay24 i (lift2 q) s.1 (lift2 k)) (Named.named κ "c2" 0x3E16C740#32) x (ix2 n d)
      = (((A n d + ∑ b : Fin 768, v b d * if b.val ≤ n.val then pw (dotp k q b n) else 0) / (L n + ∑ b : Fin 768, if b.val ≤ n.val then pw (dotp k q b n) else 0) : ℝ) : EReal) := by
  rw [← run_out (runs_last k q v x i h hx n) (last_pos k q hL n) d]
  unfold k0_pay3 k0_pay1 k0_pay24
  pointwise [zero_f32, named_c2, hx]

theorem last_lsum (i : grid0.Coords) (h : Runs s L A) (hL : ∀ n, 0 ≤ L n) (hx : ∀ b d, x (ix4 0 0 d b) = ((v b d : ℝ) : EReal)) (n : Fin 768) :
    k0_pay4 s.2.1 (k0_pay22 i (lift2 q) s.1 (lift2 k)) (k0_pay23 i (lift2 q) s.1 (lift2 k)) (k0_pay24 i (lift2 q) s.1 (lift2 k)) (Named.named κ "c2" 0x3E16C740#32) (ix4 0 0 0 n)
      = ((Real.log (L n + ∑ b : Fin 768, if b.val ≤ n.val then pw (dotp k q b n) else 0) / Real.log 2 : ℝ) : EReal) := by
  rw [← run_lsum (runs_last k q v x i h hx n) (last_pos k q hL n)]
  unfold k0_pay4
  pointwise [named_c2, named_log2e]
end block

end Cert.AfwdTie

end
-- ==== Proof.AttnRun.lean ====
module

public import proofs.«01_k».proof.Proof.Gen.AttnIdeal.Loops
public import proofs.«01_k».proof.Proof.Gen.AttnIdeal.Frame
public import Idealize.ShloMosaic.Lib.VecWindow

/-!
# The body of the attention backward kernel, run once

The body at key block `j = 0` of a head first clears the gradient of the queries and fills the scratch with
the row sums `Σ o·do`; at the later key blocks it finds both as the block before left them. After that its text
is the same at every point, so it is run once, from the contents these two buffers have there.
-/

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F] [Named F]

local notation "𝕄" => MT nD τ sig Unit (Elt F) ℕ (UR sig nD τ) ℕ

/-- The point is the first of its head: the word the body branches on. -/
abbrev firstBlock (i : grid0.Coords) : Prop :=
  (Scalar.cmpi .ne (Scalar.extui (Scalar.cmpi .eq (BitVec.ofNat 32 (i 1).val) 0#32)) 0#32) = 1#1

/-- What the body does at the first key block of a head. -/
def firstPart (i : grid0.Coords) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S768x128 .bf16) (harg5 : arg5.IsWhole) (arg6 : Memref sig .tc .vmem S768x128 .bf16) (harg6 : arg6.IsWhole) (arg7 : Memref sig .tc .vmem S1x11x1x768 .f32) (harg7 : arg7.IsWhole) (arg8 : Memref sig .tc .vmem S8448x128 .f32) (harg8 : arg8.IsWhole) (arg9 : Memref sig .tc .vmem S768x256 .bf16) (harg9 : arg9.IsWhole) (arg10 : Memref sig .tc .vmem S11x1x768 .f32) (harg10 : arg10.IsWhole) :
    Prog (TpuEff nD τ sig (Elt F) Λ₀ .tc) PUnit := do
  let v107 : FVec F S768x128 .bf16 ← k0_part1 i arg2 harg2 arg3 harg3 arg4 harg4 arg5 harg5 arg6 harg6 arg7 harg7 arg8 harg8 arg9 harg9 arg10 harg10
  let v146 : FVec F S768x1 .f32 ← k0_part2 i arg2 harg2 arg3 harg3 arg4 harg4 arg5 harg5 arg6 harg6 arg7 harg7 arg8 harg8 arg9 harg9 arg10 harg10 v107
  let v185 : FVec F S1x1x768 .f32 ← k0_part3 i arg2 harg2 arg3 harg3 arg4 harg4 arg5 harg5 arg6 harg6 arg7 harg7 arg8 harg8 arg9 harg9 arg10 harg10 v146
  let ⟨v220, v222⟩ : Σ' (v220 : FVec F S768x128 .f32), FVec F S768x128 .bf16 ← k0_part4 i arg2 harg2 arg3 harg3 arg4 harg4 arg5 harg5 arg6 harg6 arg7 harg7 arg8 harg8 arg9 harg9 arg10 harg10 v185
  let v231 : Vec F S1x1x768 .f32 ← Prog.lift (.load arg10 (Rect.unit (s := S11x1x768) ![9, 0, 0] S1x1x768.size inb_S11x1x768_S1x1x768_9_0_0).toLoadRect (View.loadsAt_vmem h_S1x1x768))
  Prog.lift (.store arg10 (Rect.unit (s := S11x1x768) ![9, 0, 0] S1x1x768.size inb_S11x1x768_S1x1x768_9_0_0) (k0_pay35 v220 v222) Finset.univ (View.stores_vmem_bits_univ h_S1x1x768 rfl) (.inl rfl))
  let v234 : Vec F S768x128 .bf16 ← Prog.lift (.load arg3 (Rect.unit (s := S8448x128) ![7680, 0] S768x128.size inb_S8448x128_S768x128_7680_0).toLoadRect (View.loadsAt_vmem h_S768x128))
  let v237 : Vec F S768x128 .bf16 ← Prog.lift (.load arg4 (Rect.unit (s := S8448x128) ![7680, 0] S768x128.size inb_S8448x128_S768x128_7680_0).toLoadRect (View.loadsAt_vmem h_S768x128))
  let v247 : Vec F S1x1x768 .f32 ← Prog.lift (.load arg10 (Rect.unit (s := S11x1x768) ![10, 0, 0] S1x1x768.size inb_S11x1x768_S1x1x768_10_0_0).toLoadRect (View.loadsAt_vmem h_S1x1x768))
  Prog.lift (.store arg10 (Rect.unit (s := S11x1x768) ![10, 0, 0] S1x1x768.size inb_S11x1x768_S1x1x768_10_0_0) (k0_pay36 v234 v237) Finset.univ (View.stores_vmem_bits_univ h_S1x1x768 rfl) (.inl rfl))
  pure ⟨⟩

/-- What the body does next at every key block: the loads of its own key block and of the diagonal query block. -/
def loadPart (i : grid0.Coords) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S768x128 .bf16) (harg5 : arg5.IsWhole) (arg6 : Memref sig .tc .vmem S768x128 .bf16) (harg6 : arg6.IsWhole) (arg7 : Memref sig .tc .vmem S1x11x1x768 .f32) (harg7 : arg7.IsWhole) (arg8 : Memref sig .tc .vmem S8448x128 .f32) (harg8 : arg8.IsWhole) (arg9 : Memref sig .tc .vmem S768x256 .bf16) (harg9 : arg9.IsWhole) (arg10 : Memref sig .tc .vmem S11x1x768 .f32) (harg10 : arg10.IsWhole) :
    Prog (TpuEff nD τ sig (Elt F) Λ₀ .tc) (Σ' (arg1 : BitVec 32) (v4 : FVec F S768x128 .bf16) (v6 : FVec F S768x128 .bf16) (v11 : FVec F S768x128 .f32) (v12 : FVec F S768x128 .f32) (v14 : BitVec 32) (v17 : FVec F S768x128 .bf16) (v20 : FVec F S768x128 .bf16) (v29 : FVec F S768x768 .f32) (v36 : IVec S768x768 1), FVec F S768x768 .f32) := do
  let arg1 : BitVec 32 := BitVec.ofNat 32 (i 1).val
  let v3 : Vec F S768x128 .bf16 ← Prog.lift (.load arg5 (Rect.unit (s := S768x128) ![0, 0] S768x128.size inb_S768x128_S768x128_0_0).toLoadRect (View.loadsAt_vmem h_S768x128))
  let v5 : Vec F S768x128 .bf16 ← Prog.lift (.load arg6 (Rect.unit (s := S768x128) ![0, 0] S768x128.size inb_S768x128_S768x128_0_0).toLoadRect (View.loadsAt_vmem h_S768x128))
  let v13 : BitVec 32 := Scalar.muli arg1 768#32
  let v14 : BitVec 32 := v13
  let v16 : Vec F S768x128 .bf16 ← Prog.lift (.load arg2 (Rect.unit (s := S8448x128) (k0_off1 i) S768x128.size (k0_off1_inb i)).toLoadRect (View.loadsAt_vmem h_S768x128))
  let v19 : Vec F S768x128 .bf16 ← Prog.lift (.load arg4 (Rect.unit (s := S8448x128) (k0_off1 i) S768x128.size (k0_off1_inb i)).toLoadRect (View.loadsAt_vmem h_S768x128))
  let v25 : Vec F S1x1x1x768 .f32 ← Prog.lift (.load arg7 (Rect.unit (s := S1x11x1x768) (k0_off2 i) S1x1x1x768.size (k0_off2_inb i)).toLoadRect (View.loadsAt_vmem h_S1x1x1x768))
  pure ⟨arg1, k0_pay37 v3, k0_pay38 v5, k0_pay39 (F := F), k0_pay40 (F := F), v14, k0_pay41 v16, k0_pay42 v19, k0_pay43 v3 v16 v25, k0_pay44 i, k0_pay45 (F := F)⟩

/-- The head of the body: the branch, then the loads. -/
theorem head_eq (i : grid0.Coords) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S768x128 .bf16) (harg5 : arg5.IsWhole) (arg6 : Memref sig .tc .vmem S768x128 .bf16) (harg6 : arg6.IsWhole) (arg7 : Memref sig .tc .vmem S1x11x1x768 .f32) (harg7 : arg7.IsWhole) (arg8 : Memref sig .tc .vmem S8448x128 .f32) (harg8 : arg8.IsWhole) (arg9 : Memref sig .tc .vmem S768x256 .bf16) (harg9 : arg9.IsWhole) (arg10 : Memref sig .tc .vmem S11x1x768 .f32) (harg10 : arg10.IsWhole) :
    k0_part5 (F := F) i arg2 harg2 arg3 harg3 arg4 harg4 arg5 harg5 arg6 harg6 arg7 harg7 arg8 harg8 arg9 harg9 arg10 harg10 = (if _h : firstBlock i then firstPart i arg2 harg2 arg3 harg3 arg4 harg4 arg5 harg5 arg6 harg6 arg7 harg7 arg8 harg8 arg9 harg9 arg10 harg10 else pure ⟨⟩) >>= fun _ => loadPart i arg2 harg2 arg3 harg3 arg4 harg4 arg5 harg5 arg6 harg6 arg7 harg7 arg8 harg8 arg9 harg9 arg10 harg10 := by
  rw [k0_part5_eq_skeleton]
  unfold k0_part5_skel
  by_cases h : firstBlock i
  · simp only [dif_pos h]
    unfold firstPart loadPart
    simp only [bind_assoc]
    rfl
  · simp only [dif_neg h]
    rfl

set_option maxHeartbeats 1000000 in
/-- The first key block's part runs to the gradient of the queries cleared and the scratch filled piece by
    piece: the pieces are the first component. -/
def firstRun (c : Dev nD) (i : grid0.Coords) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S768x128 .bf16) (harg5 : arg5.IsWhole) (arg6 : Memref sig .tc .vmem S768x128 .bf16) (harg6 : arg6.IsWhole) (arg7 : Memref sig .tc .vmem S1x11x1x768 .f32) (harg7 : arg7.IsWhole) (arg8 : Memref sig .tc .vmem S8448x128 .f32) (harg8 : arg8.IsWhole) (arg9 : Memref sig .tc .vmem S768x256 .bf16) (harg9 : arg9.IsWhole) (arg10 : Memref sig .tc .vmem S11x1x768 .f32) (harg10 : arg10.IsWhole)
    (x1 : Vec F S8448x128 .bf16) (x2 : Vec F S8448x128 .bf16) :
    { LS : List (View.Piece (Elt F) S11x1x768 .f32) //
      ∀ (E : Set ℕ) (K : PUnit → sProp 𝕄),
        iprop(owns (c : Thread nD τ) arg3 fullShare x1 ∗ owns (c : Thread nD τ) arg4 fullShare x2
            ∗ (∃ d, owns (c : Thread nD τ) arg8 fullShare d) ∗ (∃ d, owns (c : Thread nD τ) arg10 fullShare d)
            ∗ (iprop(owns (c : Thread nD τ) arg3 fullShare x1 ∗ owns (c : Thread nD τ) arg4 fullShare x2
              ∗ (∃ f, arg8.view.loc (c : Thread nD τ) ↦[arg8.view.set]{fullShare} arg8.view.writes (Elt F) f [⟨Rect.unit ![0, 0] S8448x128.size inb_S8448x128_S8448x128_0_0, k0_pay21 (F := F)⟩])
              ∗ (∃ f, arg10.view.loc (c : Thread nD τ) ↦[arg10.view.set]{fullShare} arg10.view.writes (Elt F) f LS)) -∗ K ⟨⟩))
          ⊢ wp frame (wpE (defs₀ (F := F)) Variants.none c none) E (firstPart i arg2 harg2 arg3 harg3 arg4 harg4 arg5 harg5 arg6 harg6 arg7 harg7 arg8 harg8 arg9 harg9 arg10 harg10) K } := by
  refine ⟨?_, fun E K => ?run⟩
  case run =>
    unfold firstPart
    simp only [k0_part1_eq_skeleton, k0_part2_eq_skeleton, k0_part3_eq_skeleton, k0_part4_eq_skeleton]
    unfold owns
    iintro ⟨⟨%f1, %hf1, H1⟩, ⟨%f2, %hf2, H2⟩, ⟨%d6, %f6, -, H6⟩, ⟨%ds0, %fs0, -, HS0⟩, Hk⟩
    obtain rfl := harg3.eq_unread hf1; obtain rfl := harg4.eq_unread hf2
    sl_exec
    sl_step
    iapply Hk
    isplitl [H1]
    · iexists _; isplitr; · ipureintro; exact harg3.read_unread _
      iexact H1
    isplitl [H2]
    · iexists _; isplitr; · ipureintro; exact harg4.read_unread _
      iexact H2
    isplitl [H6]
    · iexists _; iexact H6
    iexists _; iexact HS0

/-- The branch at the head of the body: at a first key block the two carried buffers are set up, elsewhere they stay. -/
theorem firstEither (c : Dev nD) (i : grid0.Coords) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S768x128 .bf16) (harg5 : arg5.IsWhole) (arg6 : Memref sig .tc .vmem S768x128 .bf16) (harg6 : arg6.IsWhole) (arg7 : Memref sig .tc .vmem S1x11x1x768 .f32) (harg7 : arg7.IsWhole) (arg8 : Memref sig .tc .vmem S8448x128 .f32) (harg8 : arg8.IsWhole) (arg9 : Memref sig .tc .vmem S768x256 .bf16) (harg9 : arg9.IsWhole) (arg10 : Memref sig .tc .vmem S11x1x768 .f32) (harg10 : arg10.IsWhole)
    (x1 : Vec F S8448x128 .bf16) (x2 : Vec F S8448x128 .bf16) (x6 : Vec F S8448x128 .f32) (xs : Vec F S11x1x768 .f32)
    (d6 : Vec F S8448x128 .f32) (ds : Vec F S11x1x768 .f32)
    (h6A : firstBlock i → x6 = k0_pay21) (h6B : ¬ firstBlock i → d6 = x6)
    (hsA : firstBlock i → ∀ f, arg10.view.read (Elt F) (arg10.view.writes (Elt F) f (firstRun c i arg2 harg2 arg3 harg3 arg4 harg4 arg5 harg5 arg6 harg6 arg7 harg7 arg8 harg8 arg9 harg9 arg10 harg10 x1 x2).1) = xs)
    (hsB : ¬ firstBlock i → ds = xs)
    (E : Set ℕ) (K : PUnit → sProp 𝕄) :
    iprop(owns (c : Thread nD τ) arg3 fullShare x1 ∗ owns (c : Thread nD τ) arg4 fullShare x2
        ∗ owns (c : Thread nD τ) arg8 fullShare d6 ∗ owns (c : Thread nD τ) arg10 fullShare ds
        ∗ (iprop(owns (c : Thread nD τ) arg3 fullShare x1 ∗ owns (c : Thread nD τ) arg4 fullShare x2
          ∗ owns (c : Thread nD τ) arg8 fullShare x6 ∗ owns (c : Thread nD τ) arg10 fullShare xs) -∗ K ⟨⟩))
      ⊢ wp frame (wpE (defs₀ (F := F)) Variants.none c none) E
          (if _h : firstBlock i then firstPart i arg2 harg2 arg3 harg3 arg4 harg4 arg5 harg5 arg6 harg6 arg7 harg7 arg8 harg8 arg9 harg9 arg10 harg10 else pure ⟨⟩) K := by
  by_cases hc : firstBlock i
  · rw [dif_pos hc]
    iintro ⟨H1, H2, H6, HS, Hk⟩
    iapply ((firstRun c i arg2 harg2 arg3 harg3 arg4 harg4 arg5 harg5 arg6 harg6 arg7 harg7 arg8 harg8 arg9 harg9 arg10 harg10 x1 x2).2 E K)
    isplitl [H1]; · iexact H1
    isplitl [H2]; · iexact H2
    isplitl [H6]; · iexists _; iexact H6
    isplitl [HS]; · iexists _; iexact HS
    iintro ⟨H1, H2, ⟨%f6, H6⟩, ⟨%fs, HS⟩⟩
    iapply Hk
    isplitl [H1]; · iexact H1
    isplitl [H2]; · iexact H2
    isplitl [H6]
    · unfold owns
      iexists _; isplitr; swap; · iexact H6
      ipureintro
      rw [h6A hc]
      exact View.read_writes_full (s := S8448x128) arg8.view f6 inb_S8448x128_S8448x128_0_0 _ []
    · unfold owns
      iexists _; isplitr; swap; · iexact HS
      ipureintro
      exact hsA hc _
  · rw [dif_neg hc, h6B hc, hsB hc]
    iintro ⟨H1, H2, H6, HS, Hk⟩
    sl_step
    iapply Hk
    isplitl [H1]; · iexact H1
    isplitl [H2]; · iexact H2
    isplitl [H6]; · iexact H6
    iexact HS

set_option maxHeartbeats 1000000 in
/-- The body from the contents `x6`, `xs` that the two carried buffers have once the first part is over: the pieces
    written to the gradient of the queries and to the gradient of the keys and values. -/
def bodyRun (c : Dev nD) (i : grid0.Coords) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S768x128 .bf16) (harg5 : arg5.IsWhole) (arg6 : Memref sig .tc .vmem S768x128 .bf16) (harg6 : arg6.IsWhole) (arg7 : Memref sig .tc .vmem S1x11x1x768 .f32) (harg7 : arg7.IsWhole) (arg8 : Memref sig .tc .vmem S8448x128 .f32) (harg8 : arg8.IsWhole) (arg9 : Memref sig .tc .vmem S768x256 .bf16) (harg9 : arg9.IsWhole) (arg10 : Memref sig .tc .vmem S11x1x768 .f32) (harg10 : arg10.IsWhole)
    (x0 : Vec F S8448x128 .bf16) (x1 : Vec F S8448x128 .bf16) (x2 : Vec F S8448x128 .bf16) (x3 : Vec F S768x128 .bf16) (x4 : Vec F S768x128 .bf16) (x5 : Vec F S1x11x1x768 .f32) (x6 : Vec F S8448x128 .f32) (xs : Vec F S11x1x768 .f32) :
    Σ' (L6 : List (View.Piece (Elt F) S8448x128 .f32)), { L7 : List (View.Piece (Elt F) S768x256 .bf16) //
      ∀ (d6 : Vec F S8448x128 .f32) (ds : Vec F S11x1x768 .f32)
        (_ : firstBlock i → x6 = k0_pay21) (_ : ¬ firstBlock i → d6 = x6)
        (_ : firstBlock i → ∀ f, arg10.view.read (Elt F) (arg10.view.writes (Elt F) f (firstRun c i arg2 harg2 arg3 harg3 arg4 harg4 arg5 harg5 arg6 harg6 arg7 harg7 arg8 harg8 arg9 harg9 arg10 harg10 x1 x2).1) = xs)
        (_ : ¬ firstBlock i → ds = xs)
        (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ (∃ d, owns (c : Thread nD τ) arg9 fullShare d) ∗ owns (c : Thread nD τ) arg10 fullShare ds
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ (arg8.view.loc (c : Thread nD τ) ↦[arg8.view.set]{fullShare} arg8.view.writes (Elt F) (harg8.unread x6) L6)
              ∗ (∃ f, arg9.view.loc (c : Thread nD τ) ↦[arg9.view.set]{fullShare} arg9.view.writes (Elt F) f L7)
              ∗ owns (c : Thread nD τ) arg10 fullShare xs) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K } := by
  refine ⟨?_, ?_, fun d6 ds h6A h6B hsA hsB E K => ?run⟩
  case run =>
    simp only [cc0_attn_bwd_eq_skeleton]; unfold cc0_attn_bwd_skel
    rw [head_eq, wp_bind, wp_bind]
    iintro ⟨H0, H1, H2, H3, H4, H5, H6, H7, HS, Hk⟩
    iapply (firstEither c i arg2 harg2 arg3 harg3 arg4 harg4 arg5 harg5 arg6 harg6 arg7 harg7 arg8 harg8 arg9 harg9 arg10 harg10 x1 x2 x6 xs d6 ds h6A h6B hsA hsB E _)
    isplitl [H1]; · iexact H1
    isplitl [H2]; · iexact H2
    isplitl [H6]; · iexact H6
    isplitl [HS]; · iexact HS
    iintro ⟨H1, H2, H6, HS⟩
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H5 with ⟨%f5, %hf5, H5⟩
    icases H6 with ⟨%f6, %hf6, H6⟩
    icases H7 with ⟨%d7, %f7, -, H7⟩
    icases HS with ⟨%fs, %hfs, HS⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    rw [← wp_bind]; unfold loadPart
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexact H6
    isplitl [H7]
    · iexists _; iexact H7
    iexists _; isplitr; · ipureintro; exact harg10.read_unread _
    iexact HS

end Cert.AttnIdeal.Body
end
-- ==== Proof.AttnStep.lean ====
module

public import proofs.«01_k».proof.Proof.AttnRun
public import Idealize.ShloMosaic.Lib.WritesUnit
public import Idealize.ShloMosaic.Lib.Pipeline.ValueKit

/-!
# What one point of the attention backward computes, as functions of the blocks

`delta`: the row sums the first key block of a head leaves in the scratch. `trip`: one query block of the loop.
`stepDq`, `stepDkv`: what a point leaves in the gradient of the queries and in the gradient of its keys and values. The run
of the body (`bodyRun`) ends in these.
-/

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.AttnIdeal.Gen

variable {F : FTy → Type} [FloatOps F] [Named F]

local notation "𝕄" => MT nD τ sig Unit (Elt F) ℕ (UR sig nD τ) ℕ

/-- The 768 rows of an array that start at `off 0`. -/
abbrev rowsAt {e : EltTy} (x : Vec F S8448x128 e) (off : Fin 2 → ℕ) (inb : ∀ a, off a + S768x128.size a ≤ S8448x128.size a) : Vec F S768x128 e :=
  View.ld x (Rect.unit (s := S8448x128) off S768x128.size inb)

theorem inbRows (k : Fin 11) : ∀ a, (![768 * k.val, 0] : Fin 2 → ℕ) a + S768x128.size a ≤ S8448x128.size a := by
  revert k; decide

/-- An array with 768 of its rows replaced. -/
def setRows {e : EltTy} (g : Vec F S8448x128 e) (off : Fin 2 → ℕ) (w : Vec F S768x128 e) : Vec F S8448x128 e :=
  fun y => if h : ∀ a, off a ≤ (y a).val ∧ (y a).val < off a + S768x128.size a then
    w (Rect.unitLocal (s := S8448x128) (off := off) (size := S768x128.size) y h) else g y

/-- One query block of the loop: the two sums it carries, and the gradient of the queries. -/
def trip (i : grid0.Coords) (v4 v6 : FVec F S768x128 .bf16) (x0 x2 : Vec F S8448x128 .bf16) (x5 : Vec F S1x11x1x768 .f32) (xs : Vec F S11x1x768 .f32)
    (k : Fin (k0_t1_loop i).trips) (s : (FVec F S768x128 .f32 × FVec F S768x128 .f32) × Vec F S8448x128 .f32) :
    (FVec F S768x128 .f32 × FVec F S768x128 .f32) × Vec F S8448x128 .f32 :=
  ((k0_pay11 v4 v6 s.1.1 (rowsAt x0 (k0_off4 i k) (k0_off4_inb i k)) (rowsAt x2 (k0_off4 i k) (k0_off4_inb i k))
      (View.ld x5 (Rect.unit (s := S1x11x1x768) (k0_off5 i k) S1x1x1x768.size (k0_off5_inb i k)))
      (View.ld xs (Rect.unit (s := S11x1x768) (k0_off6 i k) S1x1x768.size (k0_off6_inb i k))),
    k0_pay9 v4 s.1.2 (rowsAt x0 (k0_off4 i k) (k0_off4_inb i k)) (rowsAt x2 (k0_off4 i k) (k0_off4_inb i k))
      (View.ld x5 (Rect.unit (s := S1x11x1x768) (k0_off5 i k) S1x1x1x768.size (k0_off5_inb i k)))),
   setRows s.2 (k0_off4 i k)
    (k0_pay12 v4 v6 (rowsAt x0 (k0_off4 i k) (k0_off4_inb i k)) (rowsAt x2 (k0_off4 i k) (k0_off4_inb i k))
      (View.ld x5 (Rect.unit (s := S1x11x1x768) (k0_off5 i k) S1x1x1x768.size (k0_off5_inb i k)))
      (View.ld xs (Rect.unit (s := S11x1x768) (k0_off6 i k) S1x1x768.size (k0_off6_inb i k)))
      (rowsAt s.2 (k0_off4 i k) (k0_off4_inb i k))))

/-- The loop after its first `n` query blocks. -/
def loopAt (i : grid0.Coords) (v4 v6 : FVec F S768x128 .bf16) (x0 x2 : Vec F S8448x128 .bf16) (x5 : Vec F S1x11x1x768 .f32) (xs : Vec F S11x1x768 .f32)
    (s : (FVec F S768x128 .f32 × FVec F S768x128 .f32) × Vec F S8448x128 .f32) : ℕ → (FVec F S768x128 .f32 × FVec F S768x128 .f32) × Vec F S8448x128 .f32
  | 0 => s
  | n + 1 => if h : n < (k0_t1_loop i).trips then trip i v4 v6 x0 x2 x5 xs ⟨n, h⟩ (loopAt i v4 v6 x0 x2 x5 xs s n) else loopAt i v4 v6 x0 x2 x5 xs s n

/-- The trip of the run's loop is `trip`: what it carries. -/
theorem tripR_eq (𝒱 : Variants) (c : Dev nD) (bd : Option 𝒱.V) (i : grid0.Coords) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S768x128 .bf16) (harg5 : arg5.IsWhole) (arg6 : Memref sig .tc .vmem S768x128 .bf16) (harg6 : arg6.IsWhole) (arg7 : Memref sig .tc .vmem S1x11x1x768 .f32) (harg7 : arg7.IsWhole) (arg8 : Memref sig .tc .vmem S8448x128 .f32) (harg8 : arg8.IsWhole) (arg9 : Memref sig .tc .vmem S768x256 .bf16) (harg9 : arg9.IsWhole) (arg10 : Memref sig .tc .vmem S11x1x768 .f32) (harg10 : arg10.IsWhole) (v4 v6 : FVec F S768x128 .bf16)
    (x0 x2 : Vec F S8448x128 .bf16) (x5 : Vec F S1x11x1x768 .f32) (xs : Vec F S11x1x768 .f32)
    (k : Fin (k0_t1_loop i).trips) (acc : FVec F S768x128 .f32 × FVec F S768x128 .f32) (f : BufTy.Contents (Elt F) arg8.view.ty) :
    tripR_k0_t1 (F := F) 𝒱 c bd i arg2 harg2 arg3 harg3 arg4 harg4 arg5 harg5 arg6 harg6 arg7 harg7 arg8 harg8 arg9 harg9 arg10 harg10 v4 v6 (harg2.unread x0) (harg4.unread x2) (harg7.unread x5) (harg10.unread xs) k acc f
      = (trip i v4 v6 x0 x2 x5 xs k (acc, arg8.view.read (Elt F) f)).1 := by
  unfold tripR_k0_t1 trip_k0_t1 trip
  simp only [View.readAt_eq_ld, harg2.read_unread, harg4.read_unread, harg7.read_unread, harg10.read_unread]

/-- The trip of the run's loop is `trip`: what it writes. -/
theorem tripL_eq (𝒱 : Variants) (c : Dev nD) (bd : Option 𝒱.V) (i : grid0.Coords) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S768x128 .bf16) (harg5 : arg5.IsWhole) (arg6 : Memref sig .tc .vmem S768x128 .bf16) (harg6 : arg6.IsWhole) (arg7 : Memref sig .tc .vmem S1x11x1x768 .f32) (harg7 : arg7.IsWhole) (arg8 : Memref sig .tc .vmem S8448x128 .f32) (harg8 : arg8.IsWhole) (arg9 : Memref sig .tc .vmem S768x256 .bf16) (harg9 : arg9.IsWhole) (arg10 : Memref sig .tc .vmem S11x1x768 .f32) (harg10 : arg10.IsWhole) (v4 v6 : FVec F S768x128 .bf16)
    (x0 x2 : Vec F S8448x128 .bf16) (x5 : Vec F S1x11x1x768 .f32) (xs : Vec F S11x1x768 .f32)
    (k : Fin (k0_t1_loop i).trips) (acc : FVec F S768x128 .f32 × FVec F S768x128 .f32) (g : BufTy.Contents (Elt F) arg8.view.ty) (L : List (View.Piece (Elt F) S8448x128 .f32)) :
    arg8.view.read (Elt F) (arg8.view.writes (Elt F) g (tripL_k0_t1 (F := F) 𝒱 c bd i arg2 harg2 arg3 harg3 arg4 harg4 arg5 harg5 arg6 harg6 arg7 harg7 arg8 harg8 arg9 harg9 arg10 harg10 v4 v6 (harg2.unread x0) (harg4.unread x2) (harg7.unread x5) (harg10.unread xs) k acc (arg8.view.writes (Elt F) g L) ++ L))
      = (trip i v4 v6 x0 x2 x5 xs k (acc, arg8.view.read (Elt F) (arg8.view.writes (Elt F) g L))).2 := by
  funext y
  unfold tripL_k0_t1 trip_k0_t1 trip setRows
  simp only [View.readAt_eq_ld, harg2.read_unread, harg4.read_unread, harg7.read_unread, harg10.read_unread]
  exact View.read_writes_cons_unit (s := S8448x128) arg8.view g (k0_off4_inb i k) _ L y rfl

/-- The run's loop after `n` trips is `loopAt`. -/
theorem st_eq (𝒱 : Variants) (c : Dev nD) (bd : Option 𝒱.V) (i : grid0.Coords) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S768x128 .bf16) (harg5 : arg5.IsWhole) (arg6 : Memref sig .tc .vmem S768x128 .bf16) (harg6 : arg6.IsWhole) (arg7 : Memref sig .tc .vmem S1x11x1x768 .f32) (harg7 : arg7.IsWhole) (arg8 : Memref sig .tc .vmem S8448x128 .f32) (harg8 : arg8.IsWhole) (arg9 : Memref sig .tc .vmem S768x256 .bf16) (harg9 : arg9.IsWhole) (arg10 : Memref sig .tc .vmem S11x1x768 .f32) (harg10 : arg10.IsWhole) (v4 v6 : FVec F S768x128 .bf16)
    (x0 x2 : Vec F S8448x128 .bf16) (x5 : Vec F S1x11x1x768 .f32) (xs : Vec F S11x1x768 .f32)
    (init : FVec F S768x128 .f32 × FVec F S768x128 .f32) (g : BufTy.Contents (Elt F) arg8.view.ty) (n : ℕ) (hn : n ≤ (k0_t1_loop i).trips) :
    (st_k0_t1 (F := F) 𝒱 c bd i arg2 harg2 arg3 harg3 arg4 harg4 arg5 harg5 arg6 harg6 arg7 harg7 arg8 harg8 arg9 harg9 arg10 harg10 v4 v6 (harg2.unread x0) (harg4.unread x2) (harg7.unread x5) (harg10.unread xs) g init n).1
        = (loopAt i v4 v6 x0 x2 x5 xs (init, arg8.view.read (Elt F) g) n).1
      ∧ arg8.view.read (Elt F) (arg8.view.writes (Elt F) g (st_k0_t1 (F := F) 𝒱 c bd i arg2 harg2 arg3 harg3 arg4 harg4 arg5 harg5 arg6 harg6 arg7 harg7 arg8 harg8 arg9 harg9 arg10 harg10 v4 v6 (harg2.unread x0) (harg4.unread x2) (harg7.unread x5) (harg10.unread xs) g init n).2)
        = (loopAt i v4 v6 x0 x2 x5 xs (init, arg8.view.read (Elt F) g) n).2 := by
  induction n with
  | zero => rw [st_k0_t1_zero]; exact ⟨rfl, rfl⟩
  | succ n ih =>
    obtain ⟨ih1, ih2⟩ := ih (by omega)
    have hn' : n < (k0_t1_loop i).trips := hn
    have e := st_k0_t1_succ (F := F) 𝒱 c bd i arg2 harg2 arg3 harg3 arg4 harg4 arg5 harg5 arg6 harg6 arg7 harg7 arg8 harg8 arg9 harg9 arg10 harg10 v4 v6 (harg2.unread x0) (harg4.unread x2) (harg7.unread x5) (harg10.unread xs) g init ⟨n, hn'⟩
    dsimp only at e
    rw [e]
    constructor
    · dsimp only
      rw [tripR_eq, ih1, ih2, loopAt, dif_pos hn']
    · dsimp only
      rw [tripL_eq, ih1, ih2, loopAt, dif_pos hn']

/-- The row sums the first key block of a head leaves in the scratch: those of the 768 rows of block `y 0`. -/
def delta (x1 x2 : Vec F S8448x128 .bf16) : Vec F S11x1x768 .f32 :=
  fun y => k0_pay22 (rowsAt x1 ![768 * (y 0).val, 0] (inbRows (y 0))) (rowsAt x2 ![768 * (y 0).val, 0] (inbRows (y 0))) (ix3 (0 : Fin 1) (0 : Fin 1) (⟨(y 2).val, (y 2).isLt⟩ : Fin 768))

theorem delta_at (x1 x2 : Vec F S8448x128 .bf16) (y : S11x1x768.Idx) (k : Fin 11) (h : (y 0).val = k.val) :
    delta x1 x2 y = k0_pay22 (rowsAt x1 ![768 * k.val, 0] (inbRows k)) (rowsAt x2 ![768 * k.val, 0] (inbRows k)) (ix3 (0 : Fin 1) (0 : Fin 1) (⟨(y 2).val, (y 2).isLt⟩ : Fin 768)) := by
  obtain rfl : k = y 0 := Fin.ext h.symm
  rfl

/-- A piece of the scratch: its last index is the row. -/
theorem at_row (v : View sig .tc .vmem S11x1x768 .f32) (f : v.ty.Contents (Elt F)) (y : S11x1x768.Idx) (k : ℕ) (inb) (w : Vec F S1x1x768 .f32) (L : List (View.Piece (Elt F) S11x1x768 .f32)) :
    v.read (Elt F) (v.writes (Elt F) f (⟨Rect.unit (s := S11x1x768) ![k, 0, 0] S1x1x768.size inb, w⟩ :: L)) y
      = if (y 0).val = k then w (ix3 (0 : Fin 1) (0 : Fin 1) (⟨(y 2).val, (y 2).isLt⟩ : Fin 768)) else v.read (Elt F) (v.writes (Elt F) f L) y := by
  have h1 : (y 1).val < 1 := (y 1).isLt
  by_cases h : (y 0).val = k
  · rw [if_pos h]
    refine View.read_writes_cons_unit_of_mem (s := S11x1x768) v f inb w L y _ rfl ?_
    rintro ⟨a, ha⟩
    obtain rfl | rfl | rfl : a = 0 ∨ a = 1 ∨ a = 2 := by (have : a < 3 := ha); omega
    · exact h
    · exact Nat.lt_one_iff.mp h1
    · exact (Nat.zero_add _).symm
  · rw [if_neg h]
    refine View.read_writes_cons_unit_of_not_mem (s := S11x1x768) v f inb w L y rfl 0 ?_
    show (y 0).val < k ∨ k + 1 ≤ (y 0).val
    omega

theorem apply_ite_eq {α : Type*} {p : Prop} [Decidable p] {a b r : α} (h : p → a = r) (h' : ¬ p → b = r) : (if p then a else b) = r := by
  split_ifs with hp
  · exact h hp
  · exact h' hp

set_option maxHeartbeats 1000000 in
/-- The pieces the first part writes leave `delta`, whatever the scratch held. -/
theorem delta_eq (c : Dev nD) (i : grid0.Coords) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S768x128 .bf16) (harg5 : arg5.IsWhole) (arg6 : Memref sig .tc .vmem S768x128 .bf16) (harg6 : arg6.IsWhole) (arg7 : Memref sig .tc .vmem S1x11x1x768 .f32) (harg7 : arg7.IsWhole) (arg8 : Memref sig .tc .vmem S8448x128 .f32) (harg8 : arg8.IsWhole) (arg9 : Memref sig .tc .vmem S768x256 .bf16) (harg9 : arg9.IsWhole) (arg10 : Memref sig .tc .vmem S11x1x768 .f32) (harg10 : arg10.IsWhole) (x1 x2 : Vec F S8448x128 .bf16) (f : BufTy.Contents (Elt F) arg10.view.ty) :
    arg10.view.read (Elt F) (arg10.view.writes (Elt F) f (firstRun c i arg2 harg2 arg3 harg3 arg4 harg4 arg5 harg5 arg6 harg6 arg7 harg7 arg8 harg8 arg9 harg9 arg10 harg10 x1 x2).1) = delta x1 x2 := by
  funext y
  have h0 : (y 0).val < 11 := (y 0).isLt
  unfold firstRun
  sl_unfold_words
  simp only [View.readAt_eq_ld, harg3.read_unread, harg4.read_unread]
  refine (at_row arg10.view f y _ _ _ _).trans ((apply_ite_eq (fun h => (delta_at x1 x2 y 10 h).symm) (fun h10 => ?_)))
  refine (at_row arg10.view f y _ _ _ _).trans ((apply_ite_eq (fun h => (delta_at x1 x2 y 9 h).symm) (fun h9 => ?_)))
  refine (at_row arg10.view f y _ _ _ _).trans ((apply_ite_eq (fun h => (delta_at x1 x2 y 8 h).symm) (fun h8 => ?_)))
  refine (at_row arg10.view f y _ _ _ _).trans ((apply_ite_eq (fun h => (delta_at x1 x2 y 7 h).symm) (fun h7 => ?_)))
  refine (at_row arg10.view f y _ _ _ _).trans ((apply_ite_eq (fun h => (delta_at x1 x2 y 6 h).symm) (fun h6 => ?_)))
  refine (at_row arg10.view f y _ _ _ _).trans ((apply_ite_eq (fun h => (delta_at x1 x2 y 5 h).symm) (fun h5 => ?_)))
  refine (at_row arg10.view f y _ _ _ _).trans ((apply_ite_eq (fun h => (delta_at x1 x2 y 4 h).symm) (fun h4 => ?_)))
  refine (at_row arg10.view f y _ _ _ _).trans ((apply_ite_eq (fun h => (delta_at x1 x2 y 3 h).symm) (fun h3 => ?_)))
  refine (at_row arg10.view f y _ _ _ _).trans ((apply_ite_eq (fun h => (delta_at x1 x2 y 2 h).symm) (fun h2 => ?_)))
  refine (at_row arg10.view f y _ _ _ _).trans ((apply_ite_eq (fun h => (delta_at x1 x2 y 1 h).symm) (fun h1 => ?_)))
  refine (at_row arg10.view f y _ _ _ _).trans ((apply_ite_eq (fun h => (delta_at x1 x2 y 0 h).symm) (fun h0 => ?_)))
  omega

theorem trips2 (i : grid0.Coords) : (k0_t2_loop i).trips = 0 := by
  have h := (i 1).isLt
  unfold k0_t2_loop
  dsimp only
  generalize (i 1).val = j at h ⊢
  change j < 11 at h
  interval_cases j <;> decide

theorem trips1 (i : grid0.Coords) : (k0_t1_loop i).trips = 10 - (i 1).val := by
  have h := (i 1).isLt
  unfold k0_t1_loop
  dsimp only
  generalize (i 1).val = j at h ⊢
  change j < 11 at h
  interval_cases j <;> decide

/-- What a point leaves before its loop: the sums of the diagonal query block, and its rows of the gradient of the
    queries. -/
def diag (i : grid0.Coords) (x0 x2 : Vec F S8448x128 .bf16) (x3 x4 : Vec F S768x128 .bf16) (x5 : Vec F S1x11x1x768 .f32)
    (x6 : Vec F S8448x128 .f32) (xs : Vec F S11x1x768 .f32) : (FVec F S768x128 .f32 × FVec F S768x128 .f32) × Vec F S8448x128 .f32 :=
  let v4 := k0_pay37 x3
  let v6 := k0_pay38 x4
  let v16 := rowsAt x0 (k0_off1 i) (k0_off1_inb i)
  let v19 := rowsAt x2 (k0_off1 i) (k0_off1_inb i)
  let v25 := View.ld x5 (Rect.unit (s := S1x11x1x768) (k0_off2 i) S1x1x1x768.size (k0_off2_inb i))
  let v44 := View.ld xs (Rect.unit (s := S11x1x768) (k0_off3 i) S1x1x768.size (k0_off3_inb i))
  let v29 := k0_pay43 x3 v16 v25
  ((k0_pay4 v6 k0_pay39 (k0_pay41 v16) (k0_pay42 v19) v29 (k0_pay44 i) k0_pay45 v44, k0_pay2 k0_pay40 (k0_pay42 v19) v29 (k0_pay44 i) k0_pay45),
   setRows x6 (k0_off1 i) (k0_pay5 v4 v6 (k0_pay42 v19) v29 (k0_pay44 i) k0_pay45 v44 (rowsAt x6 (k0_off1 i) (k0_off1_inb i))))

/-- What a point leaves: the sums over its query blocks, and the gradient of the queries. -/
def point (i : grid0.Coords) (x0 x2 : Vec F S8448x128 .bf16) (x3 x4 : Vec F S768x128 .bf16) (x5 : Vec F S1x11x1x768 .f32)
    (x6 : Vec F S8448x128 .f32) (xs : Vec F S11x1x768 .f32) : (FVec F S768x128 .f32 × FVec F S768x128 .f32) × Vec F S8448x128 .f32 :=
  loopAt i (k0_pay37 x3) (k0_pay38 x4) x0 x2 x5 xs (diag i x0 x2 x3 x4 x5 x6 xs) (k0_t1_loop i).trips

/-- The run's store of the diagonal query block. -/
def diagPiece (c : Dev nD) (i : grid0.Coords) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S768x128 .bf16) (harg5 : arg5.IsWhole) (arg6 : Memref sig .tc .vmem S768x128 .bf16) (harg6 : arg6.IsWhole) (arg7 : Memref sig .tc .vmem S1x11x1x768 .f32) (harg7 : arg7.IsWhole) (arg8 : Memref sig .tc .vmem S8448x128 .f32) (harg8 : arg8.IsWhole) (arg9 : Memref sig .tc .vmem S768x256 .bf16) (harg9 : arg9.IsWhole) (arg10 : Memref sig .tc .vmem S11x1x768 .f32) (harg10 : arg10.IsWhole)
    (x0 : Vec F S8448x128 .bf16) (x1 : Vec F S8448x128 .bf16) (x2 : Vec F S8448x128 .bf16) (x3 : Vec F S768x128 .bf16) (x4 : Vec F S768x128 .bf16) (x5 : Vec F S1x11x1x768 .f32) (x6 : Vec F S8448x128 .f32) (xs : Vec F S11x1x768 .f32) : View.Piece (Elt F) S8448x128 .f32 :=
  ⟨Rect.unit (s := S8448x128) (k0_off1 i) S768x128.size (k0_off1_inb i),
    k0_pay5 (k0_pay37 (View.readAt (Elt F) arg5.view (Rect.unit (s := S768x128) (![0, 0]) S768x128.size (inb_S768x128_S768x128_0_0)).toLoadRect (harg5.unread x3))) (k0_pay38 (View.readAt (Elt F) arg6.view (Rect.unit (s := S768x128) (![0, 0]) S768x128.size (inb_S768x128_S768x128_0_0)).toLoadRect (harg6.unread x4))) (k0_pay42 (View.readAt (Elt F) arg4.view (Rect.unit (s := S8448x128) (k0_off1 i) S768x128.size (k0_off1_inb i)).toLoadRect (harg4.unread x2)))
      (k0_pay43 (View.readAt (Elt F) arg5.view (Rect.unit (s := S768x128) (![0, 0]) S768x128.size (inb_S768x128_S768x128_0_0)).toLoadRect (harg5.unread x3)) (View.readAt (Elt F) arg2.view (Rect.unit (s := S8448x128) (k0_off1 i) S768x128.size (k0_off1_inb i)).toLoadRect (harg2.unread x0)) (View.readAt (Elt F) arg7.view (Rect.unit (s := S1x11x1x768) (k0_off2 i) S1x1x1x768.size (k0_off2_inb i)).toLoadRect (harg7.unread x5)))
      (k0_pay44 i) k0_pay45 (View.readAt (Elt F) arg10.view (Rect.unit (s := S11x1x768) (k0_off3 i) S1x1x768.size (k0_off3_inb i)).toLoadRect (harg10.unread xs)) (View.readAt (Elt F) arg8.view (Rect.unit (s := S8448x128) (k0_off1 i) S768x128.size (k0_off1_inb i)).toLoadRect (harg8.unread x6))⟩

/-- What the run hands its loop. -/
def diagInit (c : Dev nD) (i : grid0.Coords) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S768x128 .bf16) (harg5 : arg5.IsWhole) (arg6 : Memref sig .tc .vmem S768x128 .bf16) (harg6 : arg6.IsWhole) (arg7 : Memref sig .tc .vmem S1x11x1x768 .f32) (harg7 : arg7.IsWhole) (arg8 : Memref sig .tc .vmem S8448x128 .f32) (harg8 : arg8.IsWhole) (arg9 : Memref sig .tc .vmem S768x256 .bf16) (harg9 : arg9.IsWhole) (arg10 : Memref sig .tc .vmem S11x1x768 .f32) (harg10 : arg10.IsWhole)
    (x0 : Vec F S8448x128 .bf16) (x1 : Vec F S8448x128 .bf16) (x2 : Vec F S8448x128 .bf16) (x3 : Vec F S768x128 .bf16) (x4 : Vec F S768x128 .bf16) (x5 : Vec F S1x11x1x768 .f32) (x6 : Vec F S8448x128 .f32) (xs : Vec F S11x1x768 .f32) : FVec F S768x128 .f32 × FVec F S768x128 .f32 :=
  (k0_pay4 (k0_pay38 (View.readAt (Elt F) arg6.view (Rect.unit (s := S768x128) (![0, 0]) S768x128.size (inb_S768x128_S768x128_0_0)).toLoadRect (harg6.unread x4))) k0_pay39 (k0_pay41 (View.readAt (Elt F) arg2.view (Rect.unit (s := S8448x128) (k0_off1 i) S768x128.size (k0_off1_inb i)).toLoadRect (harg2.unread x0))) (k0_pay42 (View.readAt (Elt F) arg4.view (Rect.unit (s := S8448x128) (k0_off1 i) S768x128.size (k0_off1_inb i)).toLoadRect (harg4.unread x2)))
      (k0_pay43 (View.readAt (Elt F) arg5.view (Rect.unit (s := S768x128) (![0, 0]) S768x128.size (inb_S768x128_S768x128_0_0)).toLoadRect (harg5.unread x3)) (View.readAt (Elt F) arg2.view (Rect.unit (s := S8448x128) (k0_off1 i) S768x128.size (k0_off1_inb i)).toLoadRect (harg2.unread x0)) (View.readAt (Elt F) arg7.view (Rect.unit (s := S1x11x1x768) (k0_off2 i) S1x1x1x768.size (k0_off2_inb i)).toLoadRect (harg7.unread x5))) (k0_pay44 i) k0_pay45 (View.readAt (Elt F) arg10.view (Rect.unit (s := S11x1x768) (k0_off3 i) S1x1x768.size (k0_off3_inb i)).toLoadRect (harg10.unread xs)),
   k0_pay2 k0_pay40 (k0_pay42 (View.readAt (Elt F) arg4.view (Rect.unit (s := S8448x128) (k0_off1 i) S768x128.size (k0_off1_inb i)).toLoadRect (harg4.unread x2))) (k0_pay43 (View.readAt (Elt F) arg5.view (Rect.unit (s := S768x128) (![0, 0]) S768x128.size (inb_S768x128_S768x128_0_0)).toLoadRect (harg5.unread x3)) (View.readAt (Elt F) arg2.view (Rect.unit (s := S8448x128) (k0_off1 i) S768x128.size (k0_off1_inb i)).toLoadRect (harg2.unread x0)) (View.readAt (Elt F) arg7.view (Rect.unit (s := S1x11x1x768) (k0_off2 i) S1x1x1x768.size (k0_off2_inb i)).toLoadRect (harg7.unread x5))) (k0_pay44 i) k0_pay45)

/-- The run's loop at its end. -/
def runLoop (c : Dev nD) (i : grid0.Coords) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S768x128 .bf16) (harg5 : arg5.IsWhole) (arg6 : Memref sig .tc .vmem S768x128 .bf16) (harg6 : arg6.IsWhole) (arg7 : Memref sig .tc .vmem S1x11x1x768 .f32) (harg7 : arg7.IsWhole) (arg8 : Memref sig .tc .vmem S8448x128 .f32) (harg8 : arg8.IsWhole) (arg9 : Memref sig .tc .vmem S768x256 .bf16) (harg9 : arg9.IsWhole) (arg10 : Memref sig .tc .vmem S11x1x768 .f32) (harg10 : arg10.IsWhole)
    (x0 : Vec F S8448x128 .bf16) (x1 : Vec F S8448x128 .bf16) (x2 : Vec F S8448x128 .bf16) (x3 : Vec F S768x128 .bf16) (x4 : Vec F S768x128 .bf16) (x5 : Vec F S1x11x1x768 .f32) (x6 : Vec F S8448x128 .f32) (xs : Vec F S11x1x768 .f32) : (FVec F S768x128 .f32 × FVec F S768x128 .f32) × List (View.Piece (Elt F) S8448x128 .f32) :=
  st_k0_t1 (F := F) Variants.none c none i arg2 harg2 arg3 harg3 arg4 harg4 arg5 harg5 arg6 harg6 arg7 harg7 arg8 harg8 arg9 harg9 arg10 harg10 (k0_pay37 (View.readAt (Elt F) arg5.view (Rect.unit (s := S768x128) (![0, 0]) S768x128.size (inb_S768x128_S768x128_0_0)).toLoadRect (harg5.unread x3))) (k0_pay38 (View.readAt (Elt F) arg6.view (Rect.unit (s := S768x128) (![0, 0]) S768x128.size (inb_S768x128_S768x128_0_0)).toLoadRect (harg6.unread x4))) (harg2.unread x0) (harg4.unread x2) (harg7.unread x5) (harg10.unread xs)
    (arg8.view.writes (Elt F) (harg8.unread x6) [diagPiece c i arg2 harg2 arg3 harg3 arg4 harg4 arg5 harg5 arg6 harg6 arg7 harg7 arg8 harg8 arg9 harg9 arg10 harg10 x0 x1 x2 x3 x4 x5 x6 xs]) (diagInit c i arg2 harg2 arg3 harg3 arg4 harg4 arg5 harg5 arg6 harg6 arg7 harg7 arg8 harg8 arg9 harg9 arg10 harg10 x0 x1 x2 x3 x4 x5 x6 xs) (k0_t1_loop i).trips

/-- The empty loop after it. -/
def runTail (c : Dev nD) (i : grid0.Coords) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S768x128 .bf16) (harg5 : arg5.IsWhole) (arg6 : Memref sig .tc .vmem S768x128 .bf16) (harg6 : arg6.IsWhole) (arg7 : Memref sig .tc .vmem S1x11x1x768 .f32) (harg7 : arg7.IsWhole) (arg8 : Memref sig .tc .vmem S8448x128 .f32) (harg8 : arg8.IsWhole) (arg9 : Memref sig .tc .vmem S768x256 .bf16) (harg9 : arg9.IsWhole) (arg10 : Memref sig .tc .vmem S11x1x768 .f32) (harg10 : arg10.IsWhole)
    (x0 : Vec F S8448x128 .bf16) (x1 : Vec F S8448x128 .bf16) (x2 : Vec F S8448x128 .bf16) (x3 : Vec F S768x128 .bf16) (x4 : Vec F S768x128 .bf16) (x5 : Vec F S1x11x1x768 .f32) (x6 : Vec F S8448x128 .f32) (xs : Vec F S11x1x768 .f32) : (FVec F S768x128 .f32 × FVec F S768x128 .f32) × List (View.Piece (Elt F) S8448x128 .f32) :=
  st_k0_t2 (F := F) Variants.none c none i arg2 harg2 arg3 harg3 arg4 harg4 arg5 harg5 arg6 harg6 arg7 harg7 arg8 harg8 arg9 harg9 arg10 harg10 (k0_pay37 (View.readAt (Elt F) arg5.view (Rect.unit (s := S768x128) (![0, 0]) S768x128.size (inb_S768x128_S768x128_0_0)).toLoadRect (harg5.unread x3))) (k0_pay38 (View.readAt (Elt F) arg6.view (Rect.unit (s := S768x128) (![0, 0]) S768x128.size (inb_S768x128_S768x128_0_0)).toLoadRect (harg6.unread x4))) (harg2.unread x0) (harg4.unread x2) (harg7.unread x5) (harg10.unread xs)
    (arg8.view.writes (Elt F) (harg8.unread x6) ((runLoop c i arg2 harg2 arg3 harg3 arg4 harg4 arg5 harg5 arg6 harg6 arg7 harg7 arg8 harg8 arg9 harg9 arg10 harg10 x0 x1 x2 x3 x4 x5 x6 xs).2 ++ [diagPiece c i arg2 harg2 arg3 harg3 arg4 harg4 arg5 harg5 arg6 harg6 arg7 harg7 arg8 harg8 arg9 harg9 arg10 harg10 x0 x1 x2 x3 x4 x5 x6 xs])) (runLoop c i arg2 harg2 arg3 harg3 arg4 harg4 arg5 harg5 arg6 harg6 arg7 harg7 arg8 harg8 arg9 harg9 arg10 harg10 x0 x1 x2 x3 x4 x5 x6 xs).1 (k0_t2_loop i).trips

/-- The pieces the run writes to the gradient of the queries. -/
theorem bodyRun_fst (c : Dev nD) (i : grid0.Coords) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S768x128 .bf16) (harg5 : arg5.IsWhole) (arg6 : Memref sig .tc .vmem S768x128 .bf16) (harg6 : arg6.IsWhole) (arg7 : Memref sig .tc .vmem S1x11x1x768 .f32) (harg7 : arg7.IsWhole) (arg8 : Memref sig .tc .vmem S8448x128 .f32) (harg8 : arg8.IsWhole) (arg9 : Memref sig .tc .vmem S768x256 .bf16) (harg9 : arg9.IsWhole) (arg10 : Memref sig .tc .vmem S11x1x768 .f32) (harg10 : arg10.IsWhole)
    (x0 : Vec F S8448x128 .bf16) (x1 : Vec F S8448x128 .bf16) (x2 : Vec F S8448x128 .bf16) (x3 : Vec F S768x128 .bf16) (x4 : Vec F S768x128 .bf16) (x5 : Vec F S1x11x1x768 .f32) (x6 : Vec F S8448x128 .f32) (xs : Vec F S11x1x768 .f32) :
    (bodyRun c i arg2 harg2 arg3 harg3 arg4 harg4 arg5 harg5 arg6 harg6 arg7 harg7 arg8 harg8 arg9 harg9 arg10 harg10 x0 x1 x2 x3 x4 x5 x6 xs).1 = (runTail c i arg2 harg2 arg3 harg3 arg4 harg4 arg5 harg5 arg6 harg6 arg7 harg7 arg8 harg8 arg9 harg9 arg10 harg10 x0 x1 x2 x3 x4 x5 x6 xs).2 ++ ((runLoop c i arg2 harg2 arg3 harg3 arg4 harg4 arg5 harg5 arg6 harg6 arg7 harg7 arg8 harg8 arg9 harg9 arg10 harg10 x0 x1 x2 x3 x4 x5 x6 xs).2 ++ [diagPiece c i arg2 harg2 arg3 harg3 arg4 harg4 arg5 harg5 arg6 harg6 arg7 harg7 arg8 harg8 arg9 harg9 arg10 harg10 x0 x1 x2 x3 x4 x5 x6 xs]) := by
  unfold bodyRun runTail runLoop diagPiece diagInit
  rfl

/-- The piece the run writes to the gradient of the keys and values. -/
theorem bodyRun_snd (c : Dev nD) (i : grid0.Coords) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S768x128 .bf16) (harg5 : arg5.IsWhole) (arg6 : Memref sig .tc .vmem S768x128 .bf16) (harg6 : arg6.IsWhole) (arg7 : Memref sig .tc .vmem S1x11x1x768 .f32) (harg7 : arg7.IsWhole) (arg8 : Memref sig .tc .vmem S8448x128 .f32) (harg8 : arg8.IsWhole) (arg9 : Memref sig .tc .vmem S768x256 .bf16) (harg9 : arg9.IsWhole) (arg10 : Memref sig .tc .vmem S11x1x768 .f32) (harg10 : arg10.IsWhole)
    (x0 : Vec F S8448x128 .bf16) (x1 : Vec F S8448x128 .bf16) (x2 : Vec F S8448x128 .bf16) (x3 : Vec F S768x128 .bf16) (x4 : Vec F S768x128 .bf16) (x5 : Vec F S1x11x1x768 .f32) (x6 : Vec F S8448x128 .f32) (xs : Vec F S11x1x768 .f32) :
    (bodyRun c i arg2 harg2 arg3 harg3 arg4 harg4 arg5 harg5 arg6 harg6 arg7 harg7 arg8 harg8 arg9 harg9 arg10 harg10 x0 x1 x2 x3 x4 x5 x6 xs).2.1 = [⟨Rect.unit (s := S768x256) ![0, 0] S768x256.size inb_S768x256_S768x256_0_0, k0_pay20 (runTail c i arg2 harg2 arg3 harg3 arg4 harg4 arg5 harg5 arg6 harg6 arg7 harg7 arg8 harg8 arg9 harg9 arg10 harg10 x0 x1 x2 x3 x4 x5 x6 xs).1.1 (runTail c i arg2 harg2 arg3 harg3 arg4 harg4 arg5 harg5 arg6 harg6 arg7 harg7 arg8 harg8 arg9 harg9 arg10 harg10 x0 x1 x2 x3 x4 x5 x6 xs).1.2⟩] := by
  unfold bodyRun runTail runLoop diagPiece diagInit
  rfl

theorem runTail_eq (c : Dev nD) (i : grid0.Coords) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S768x128 .bf16) (harg5 : arg5.IsWhole) (arg6 : Memref sig .tc .vmem S768x128 .bf16) (harg6 : arg6.IsWhole) (arg7 : Memref sig .tc .vmem S1x11x1x768 .f32) (harg7 : arg7.IsWhole) (arg8 : Memref sig .tc .vmem S8448x128 .f32) (harg8 : arg8.IsWhole) (arg9 : Memref sig .tc .vmem S768x256 .bf16) (harg9 : arg9.IsWhole) (arg10 : Memref sig .tc .vmem S11x1x768 .f32) (harg10 : arg10.IsWhole)
    (x0 : Vec F S8448x128 .bf16) (x1 : Vec F S8448x128 .bf16) (x2 : Vec F S8448x128 .bf16) (x3 : Vec F S768x128 .bf16) (x4 : Vec F S768x128 .bf16) (x5 : Vec F S1x11x1x768 .f32) (x6 : Vec F S8448x128 .f32) (xs : Vec F S11x1x768 .f32) : runTail c i arg2 harg2 arg3 harg3 arg4 harg4 arg5 harg5 arg6 harg6 arg7 harg7 arg8 harg8 arg9 harg9 arg10 harg10 x0 x1 x2 x3 x4 x5 x6 xs = ((runLoop c i arg2 harg2 arg3 harg3 arg4 harg4 arg5 harg5 arg6 harg6 arg7 harg7 arg8 harg8 arg9 harg9 arg10 harg10 x0 x1 x2 x3 x4 x5 x6 xs).1, []) := by
  unfold runTail
  rw [trips2]
  rfl

/-- The run's loop ends in `point`. -/
theorem runLoop_eq (c : Dev nD) (i : grid0.Coords) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S768x128 .bf16) (harg5 : arg5.IsWhole) (arg6 : Memref sig .tc .vmem S768x128 .bf16) (harg6 : arg6.IsWhole) (arg7 : Memref sig .tc .vmem S1x11x1x768 .f32) (harg7 : arg7.IsWhole) (arg8 : Memref sig .tc .vmem S8448x128 .f32) (harg8 : arg8.IsWhole) (arg9 : Memref sig .tc .vmem S768x256 .bf16) (harg9 : arg9.IsWhole) (arg10 : Memref sig .tc .vmem S11x1x768 .f32) (harg10 : arg10.IsWhole)
    (x0 : Vec F S8448x128 .bf16) (x1 : Vec F S8448x128 .bf16) (x2 : Vec F S8448x128 .bf16) (x3 : Vec F S768x128 .bf16) (x4 : Vec F S768x128 .bf16) (x5 : Vec F S1x11x1x768 .f32) (x6 : Vec F S8448x128 .f32) (xs : Vec F S11x1x768 .f32) :
    (runLoop c i arg2 harg2 arg3 harg3 arg4 harg4 arg5 harg5 arg6 harg6 arg7 harg7 arg8 harg8 arg9 harg9 arg10 harg10 x0 x1 x2 x3 x4 x5 x6 xs).1 = (point i x0 x2 x3 x4 x5 x6 xs).1
    ∧ arg8.view.read (Elt F) (arg8.view.writes (Elt F) (harg8.unread x6) ((runLoop c i arg2 harg2 arg3 harg3 arg4 harg4 arg5 harg5 arg6 harg6 arg7 harg7 arg8 harg8 arg9 harg9 arg10 harg10 x0 x1 x2 x3 x4 x5 x6 xs).2 ++ [diagPiece c i arg2 harg2 arg3 harg3 arg4 harg4 arg5 harg5 arg6 harg6 arg7 harg7 arg8 harg8 arg9 harg9 arg10 harg10 x0 x1 x2 x3 x4 x5 x6 xs])) = (point i x0 x2 x3 x4 x5 x6 xs).2 := by
  have hd : ∀ w, arg8.view.read (Elt F) (arg8.view.writes (Elt F) (harg8.unread x6) [⟨Rect.unit (s := S8448x128) (k0_off1 i) S768x128.size (k0_off1_inb i), w⟩]) = setRows x6 (k0_off1 i) w := by
    intro w
    funext y
    rw [View.read_writes_cons_unit (s := S8448x128) arg8.view (harg8.unread x6) (k0_off1_inb i) w [] y rfl, View.writes_nil, harg8.read_unread]
    rfl
  have e := st_eq (F := F) Variants.none c none i arg2 harg2 arg3 harg3 arg4 harg4 arg5 harg5 arg6 harg6 arg7 harg7 arg8 harg8 arg9 harg9 arg10 harg10 (k0_pay37 (View.readAt (Elt F) arg5.view (Rect.unit (s := S768x128) (![0, 0]) S768x128.size (inb_S768x128_S768x128_0_0)).toLoadRect (harg5.unread x3))) (k0_pay38 (View.readAt (Elt F) arg6.view (Rect.unit (s := S768x128) (![0, 0]) S768x128.size (inb_S768x128_S768x128_0_0)).toLoadRect (harg6.unread x4))) x0 x2 x5 xs (diagInit c i arg2 harg2 arg3 harg3 arg4 harg4 arg5 harg5 arg6 harg6 arg7 harg7 arg8 harg8 arg9 harg9 arg10 harg10 x0 x1 x2 x3 x4 x5 x6 xs)
    (arg8.view.writes (Elt F) (harg8.unread x6) [diagPiece c i arg2 harg2 arg3 harg3 arg4 harg4 arg5 harg5 arg6 harg6 arg7 harg7 arg8 harg8 arg9 harg9 arg10 harg10 x0 x1 x2 x3 x4 x5 x6 xs]) (k0_t1_loop i).trips le_rfl
  rw [View.writes_append]
  unfold runLoop
  refine ⟨e.1.trans ?_, e.2.trans ?_⟩
  all_goals
    unfold diagPiece diagInit point diag
    rw [hd]
    simp only [View.readAt_eq_ld, harg2.read_unread, harg4.read_unread, harg5.read_unread,
      harg6.read_unread, harg7.read_unread, harg8.read_unread, harg10.read_unread, View.ld_unit_lit (S := S768x128) inb_S768x128_S768x128_0_0 _ (by decide)]

/-- The run of the body leaves `point`. -/
theorem bodyRun_eq (c : Dev nD) (i : grid0.Coords) (arg2 : Memref sig .tc .vmem S8448x128 .bf16) (harg2 : arg2.IsWhole) (arg3 : Memref sig .tc .vmem S8448x128 .bf16) (harg3 : arg3.IsWhole) (arg4 : Memref sig .tc .vmem S8448x128 .bf16) (harg4 : arg4.IsWhole) (arg5 : Memref sig .tc .vmem S768x128 .bf16) (harg5 : arg5.IsWhole) (arg6 : Memref sig .tc .vmem S768x128 .bf16) (harg6 : arg6.IsWhole) (arg7 : Memref sig .tc .vmem S1x11x1x768 .f32) (harg7 : arg7.IsWhole) (arg8 : Memref sig .tc .vmem S8448x128 .f32) (harg8 : arg8.IsWhole) (arg9 : Memref sig .tc .vmem S768x256 .bf16) (harg9 : arg9.IsWhole) (arg10 : Memref sig .tc .vmem S11x1x768 .f32) (harg10 : arg10.IsWhole)
    (x0 : Vec F S8448x128 .bf16) (x1 : Vec F S8448x128 .bf16) (x2 : Vec F S8448x128 .bf16) (x3 : Vec F S768x128 .bf16) (x4 : Vec F S768x128 .bf16) (x5 : Vec F S1x11x1x768 .f32) (x6 : Vec F S8448x128 .f32) (xs : Vec F S11x1x768 .f32) :
    arg8.view.read (Elt F) (arg8.view.writes (Elt F) (harg8.unread x6) (bodyRun c i arg2 harg2 arg3 harg3 arg4 harg4 arg5 harg5 arg6 harg6 arg7 harg7 arg8 harg8 arg9 harg9 arg10 harg10 x0 x1 x2 x3 x4 x5 x6 xs).1) = (point i x0 x2 x3 x4 x5 x6 xs).2
    ∧ ∀ f, arg9.view.read (Elt F) (arg9.view.writes (Elt F) f (bodyRun c i arg2 harg2 arg3 harg3 arg4 harg4 arg5 harg5 arg6 harg6 arg7 harg7 arg8 harg8 arg9 harg9 arg10 harg10 x0 x1 x2 x3 x4 x5 x6 xs).2.1)
      = k0_pay20 (point i x0 x2 x3 x4 x5 x6 xs).1.1 (point i x0 x2 x3 x4 x5 x6 xs).1.2 := by
  refine ⟨?_, fun f => ?_⟩
  · rw [bodyRun_fst, runTail_eq, List.nil_append, (runLoop_eq c i arg2 harg2 arg3 harg3 arg4 harg4 arg5 harg5 arg6 harg6 arg7 harg7 arg8 harg8 arg9 harg9 arg10 harg10 x0 x1 x2 x3 x4 x5 x6 xs).2]
  · rw [bodyRun_snd, runTail_eq, (runLoop_eq c i arg2 harg2 arg3 harg3 arg4 harg4 arg5 harg5 arg6 harg6 arg7 harg7 arg8 harg8 arg9 harg9 arg10 harg10 x0 x1 x2 x3 x4 x5 x6 xs).1]
    exact View.read_writes_full (s := S768x256) arg9.view f inb_S768x256_S768x256_0_0 _ []

end Cert.AttnIdeal.Body
end
-- ==== Proof.AttnFrame.lean ====
module

public import proofs.«01_k».proof.Proof.AttnStep

/-!
# The attention backward kernel over its grid

What the carried buffers hold after each point, the pipeline's proof data over that, and the run of the whole program: the
frame, and every array of the pipeline at its end.
-/

@[expose] public section

set_option maxRecDepth 16384

noncomputable section

namespace Cert.AttnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem firstBlock_iff (t : Fin grid0.N) : firstBlock (grid0.coords t) ↔ t.val % 11 = 0 := by
  have ht : t.val < 88 := Nat.lt_of_lt_of_eq t.isLt N_0
  have e1 : (grid0.coords t 1).val = t.val / 1 % 11 := Pipeline.Grid.coords_val t 1 (by decide) rfl
  simp only [firstBlock, e1]
  word_cmp

/-- The scratch. -/
abbrev scr : Memref sig .tc .vmem S11x1x768 .f32 := Memref.whole cc0_scratch0

theorem ΦA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The staging memrefs at a point, and that each is a whole buffer. -/
abbrev ms0 (t : Fin cfg0.N) : Memref sig .tc .vmem S8448x128 .bf16 := win0_0.stage (cfg0.slots t 0)
theorem hs0 (t : Fin cfg0.N) : (ms0 t).IsWhole := hstage0_0 ((cfg0.slots t 0).cast nbuf0_0)
abbrev ms1 (t : Fin cfg0.N) : Memref sig .tc .vmem S8448x128 .bf16 := win0_1.stage (cfg0.slots t 1)
theorem hs1 (t : Fin cfg0.N) : (ms1 t).IsWhole := hstage0_1 ((cfg0.slots t 1).cast nbuf0_1)
abbrev ms2 (t : Fin cfg0.N) : Memref sig .tc .vmem S8448x128 .bf16 := win0_2.stage (cfg0.slots t 2)
theorem hs2 (t : Fin cfg0.N) : (ms2 t).IsWhole := hstage0_2 ((cfg0.slots t 2).cast nbuf0_2)
abbrev ms3 (t : Fin cfg0.N) : Memref sig .tc .vmem S768x128 .bf16 := win0_3.stage (cfg0.slots t 3)
theorem hs3 (t : Fin cfg0.N) : (ms3 t).IsWhole := hstage0_3 ((cfg0.slots t 3).cast nbuf0_3)
abbrev ms4 (t : Fin cfg0.N) : Memref sig .tc .vmem S768x128 .bf16 := win0_4.stage (cfg0.slots t 4)
theorem hs4 (t : Fin cfg0.N) : (ms4 t).IsWhole := hstage0_4 ((cfg0.slots t 4).cast nbuf0_4)
abbrev ms5 (t : Fin cfg0.N) : Memref sig .tc .vmem S1x11x1x768 .f32 := win0_5.stage (cfg0.slots t 5)
theorem hs5 (t : Fin cfg0.N) : (ms5 t).IsWhole := hstage0_5 ((cfg0.slots t 5).cast nbuf0_5)
abbrev ms6 (t : Fin cfg0.N) : Memref sig .tc .vmem S8448x128 .f32 := win0_6.stage (cfg0.slots t 6)
theorem hs6 (t : Fin cfg0.N) : (ms6 t).IsWhole := hstage0_6 ((cfg0.slots t 6).cast nbuf0_6)
abbrev ms7 (t : Fin cfg0.N) : Memref sig .tc .vmem S768x256 .bf16 := win0_7.stage (cfg0.slots t 7)
theorem hs7 (t : Fin cfg0.N) : (ms7 t).IsWhole := hstage0_7 ((cfg0.slots t 7).cast nbuf0_7)

/-- A point's step from the contents `e` the two carried buffers have after its first part: those it leaves, with the sums
    it carries out of its loop. -/
def stepAt (c : Dev nD) (t : Fin cfg0.N) (e : Vec F S8448x128 .f32 × Vec F S11x1x768 .f32) :
    ((FVec F S768x128 .f32 × FVec F S768x128 .f32) × Vec F S8448x128 .f32) × Vec F S11x1x768 .f32 :=
  (point (grid0.coords t) (iblk m c 0 t) (iblk m c 2 t) (iblk m c 3 t) (iblk m c 4 t) (iblk m c 5 t) e.1 e.2, e.2)

/-- The contents at the first key block of a head. -/
def firstAt (c : Dev nD) (t : Fin cfg0.N) : Vec F S8448x128 .f32 × Vec F S11x1x768 .f32 :=
  (k0_pay21, delta (iblk m c 1 t) (iblk m c 2 t))

/-- What the points leave. -/
def stateAt (c : Dev nD) : (n : ℕ) → n < cfg0.N → ((FVec F S768x128 .f32 × FVec F S768x128 .f32) × Vec F S8448x128 .f32) × Vec F S11x1x768 .f32
  | 0, h => stepAt m c ⟨0, h⟩ (firstAt m c ⟨0, h⟩)
  | n + 1, h => stepAt m c ⟨n + 1, h⟩ (if (n + 1) % 11 = 0 then firstAt m c ⟨n + 1, h⟩
      else ((stateAt c n (Nat.lt_of_succ_lt h)).1.2, (stateAt c n (Nat.lt_of_succ_lt h)).2))

/-- The contents of the two carried buffers at a point after its first part. -/
def entryAt (c : Dev nD) (t : Fin cfg0.N) : Vec F S8448x128 .f32 × Vec F S11x1x768 .f32 :=
  if t.val % 11 = 0 then firstAt m c t
  else ((stateAt m c (t.val - 1) (Nat.lt_of_le_of_lt (Nat.sub_le _ _) t.isLt)).1.2, (stateAt m c (t.val - 1) (Nat.lt_of_le_of_lt (Nat.sub_le _ _) t.isLt)).2)

theorem stateAt_eq (c : Dev nD) (t : Fin cfg0.N) : stateAt m c t.val t.isLt = stepAt m c t (entryAt m c t) := by
  obtain ⟨n, hn⟩ := t
  cases n with
  | zero => rfl
  | succ n => rfl

/-- The invariant before a point: the scratch as the point before left it. -/
def PhiS (c : Dev nD) : (n : ℕ) → n ≤ cfg0.N → sProp 𝕄
  | 0, _ => Pipeline.ΦA spec0 c
  | n + 1, hn => iprop(iprop(owns (c : Thread nD τ) scr fullShare (stateAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scr fullShare (stateAt m c (n - 1) (by omega)).2) ∗ (∃ r, prngReg c r)) := by
  cases n with
  | zero => exact absurd rfl hz
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stateAt m c t.val t.isLt).1.2
    | ⟨7, _⟩ => k0_pay20 (stateAt m c t.val t.isLt).1.1.1 (stateAt m c t.val t.isLt).1.1.2
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_start (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (stateAt m c t.val t.isLt).1.2 := by dsimp only [dats]
theorem after_7 (c : Dev nD) (t : Fin cfg0.N) : (dats m 0 c).after 7 t = k0_pay20 (stateAt m c t.val t.isLt).1.1.1 (stateAt m c t.val t.isLt).1.1.2 := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

/-- At a key block that is not its head's first, the gradient of the queries is as the point before left it. -/
theorem before_6 (c : Dev nD) (t : Fin cfg0.N) (h0 : ¬ t.val % 11 = 0) (d) :
    (dats m 0 c).before 6 t d = (stateAt m c (t.val - 1) (Nat.lt_of_le_of_lt (Nat.sub_le _ _) t.isLt)).1.2 := by
  have hN : t.val < 88 := lt_of_lt_of_eq t.isLt (show cfg0.N = 88 from N_0)
  rw [Dat.before_out_kept _ 6 rfl t (by omega) (Bool.eq_false_iff.mpr fun h => by have := (flush0_6 _).mp h; dsimp only at this; omega)
    (fun _ => rfl) (fun _ _ => rfl)]
  dsimp only [dats]

/-- The body in the contents `ds` of the scratch: what `bodyRun` says at a point, in the blocks of that point. -/
theorem body_at (c : Dev nD) (t : Fin cfg0.N) (d6 : Vec F S8448x128 .f32) (ds : Vec F S11x1x768 .f32)
    (h6 : ¬ t.val % 11 = 0 → d6 = (entryAt m c t).1) (hs : ¬ t.val % 11 = 0 → ds = (entryAt m c t).2) (K : PUnit → sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare d6 ∗ (∃ d, owns (c : Thread nD τ) (ms7 t) fullShare d) ∗ owns (c : Thread nD τ) scr fullShare ds
        ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (stateAt m c t.val t.isLt).1.2
          ∗ owns (c : Thread nD τ) (ms7 t) fullShare (k0_pay20 (stateAt m c t.val t.isLt).1.1.1 (stateAt m c t.val t.isLt).1.1.2)
          ∗ owns (c : Thread nD τ) scr fullShare (stateAt m c t.val t.isLt).2) -∗ K ⟨⟩))
      ⊢ wp frame (wpE (defs₀ (F := F)) Variants.none c none) Set.univ (bodyAt0 t) K := by
  unfold bodyAt0
  rw [stateAt_eq]
  have hA : firstBlock (grid0.coords t) → t.val % 11 = 0 := (firstBlock_iff t).mp
  have hB : ¬ firstBlock (grid0.coords t) → ¬ t.val % 11 = 0 := fun h => mt (firstBlock_iff t).mpr h
  iintro ⟨H0, H1, H2, H3, H4, H5, H6, H7, HS, Hk⟩
  iapply ((bodyRun c (grid0.coords t) (ms0 t) (hs0 t) (ms1 t) (hs1 t) (ms2 t) (hs2 t) (ms3 t) (hs3 t) (ms4 t) (hs4 t) (ms5 t) (hs5 t) (ms6 t) (hs6 t) (ms7 t) (hs7 t) scr (Memref.isWhole_whole _) (iblk m c 0 t) (iblk m c 1 t) (iblk m c 2 t) (iblk m c 3 t) (iblk m c 4 t) (iblk m c 5 t)
    (entryAt m c t).1 (entryAt m c t).2).2.2 d6 ds
    (fun h => by rw [entryAt, if_pos (hA h)]; rfl) (fun h => h6 (hB h))
    (fun h f => by rw [delta_eq, entryAt, if_pos (hA h)]; rfl) (fun h => hs (hB h)) Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, ⟨%f7, H7⟩, HS⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (bodyRun_eq _ _ _ _ _ _ _ _ _ _ _ _ _ _ _ _ _ _ _ _ _ _ _ _ _ _ _ _).1
  isplitl [H7]
  · unfold owns; iexists _; isplitr
    swap; · iexact H7
    ipureintro; exact (bodyRun_eq _ _ _ _ _ _ _ _ _ _ _ _ _ _ _ _ _ _ _ _ _ _ _ _ _ _ _ _).2 _
  iexact HS

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5]
  rw [show (dats m 0 c).owesAt () t.succ = (dats m 0 c).owesAt () t.castSucc from rfl,
    after_0, after_1, after_2, after_3, after_4, after_5, after_6, after_7]
  rw [show (dats m 0 c).Φ t.succ = iprop(iprop(owns (c : Thread nD τ) scr fullShare (stateAt m c t.val t.isLt).2) ∗ (∃ r, prngReg c r)) from rfl]
  have key : ∀ ds : Vec F S11x1x768 .f32, (¬ t.val % 11 = 0 → ds = (entryAt m c t).2) →
      iprop(iprop(owns (c : Thread nD τ) scr fullShare ds ∗ (∃ r, prngReg c r)) ∗ (dats m 0 c).owesAt () t.castSucc ∗ (∃ _d : Vec F S8448x128 .bf16, owns (c : Thread nD τ) (ms0 t) fullShare (iblk m c 0 t)) ∗ (∃ _d : Vec F S8448x128 .bf16, owns (c : Thread nD τ) (ms1 t) fullShare (iblk m c 1 t)) ∗ (∃ _d : Vec F S8448x128 .bf16, owns (c : Thread nD τ) (ms2 t) fullShare (iblk m c 2 t)) ∗ (∃ _d : Vec F S768x128 .bf16, owns (c : Thread nD τ) (ms3 t) fullShare (iblk m c 3 t)) ∗ (∃ _d : Vec F S768x128 .bf16, owns (c : Thread nD τ) (ms4 t) fullShare (iblk m c 4 t)) ∗ (∃ _d : Vec F S1x11x1x768 .f32, owns (c : Thread nD τ) (ms5 t) fullShare (iblk m c 5 t)) ∗ (∃ d, owns (c : Thread nD τ) (ms6 t) fullShare ((dats m 0 c).before 6 t d)) ∗ (∃ d, owns (c : Thread nD τ) (ms7 t) fullShare ((dats m 0 c).before 7 t d)))
      ⊢ wp frame (wpE (defs₀ (F := F)) Variants.none c none) Set.univ (bodyAt0 t) (fun _ =>
        iprop(iprop(iprop(owns (c : Thread nD τ) scr fullShare (stateAt m c t.val t.isLt).2) ∗ (∃ r, prngReg c r)) ∗ (dats m 0 c).owesAt () t.castSucc ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (stateAt m c t.val t.isLt).1.2 ∗ owns (c : Thread nD τ) (ms7 t) fullShare (k0_pay20 (stateAt m c t.val t.isLt).1.1.1 (stateAt m c t.val t.isLt).1.1.2))) := by
    intro ds hs
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_at m c t ((dats m 0 c).before 6 t d6) ds (fun h => by rw [before_6 m c t h, entryAt, if_neg h]) hs _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  by_cases hz : t.val = 0
  · rw [Phi_start m c t, PhiS_zero m c _ _ hz, ΦA_eq]
    iintro ⟨⟨⟨%ds, HS⟩, Hg⟩, Hr⟩
    iapply (key ds (fun h => absurd (by rw [hz]) h))
    isplitl [HS Hg]
    · isplitl [HS]
      · iexact HS
      iexact Hg
    iexact Hr
  · rw [Phi_start m c t, PhiS_pos m c _ _ hz]
    exact key _ (fun h => by rw [entryAt, if_neg h])

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem enters (c : Dev nD) : Pipeline.ΦA spec0 c ⊢ (dats m 0 c).Φ 0 := by
  rw [show (dats m 0 c).Φ 0 = PhiS m c 0 (Nat.zero_le _) from rfl, PhiS_zero m c 0 _ rfl]

theorem leaves (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 88 := N_0; omega), ΦA_eq]
  iintro ⟨HS, Hg⟩
  isplitl [HS]
  · iexists _; iexact HS
  iexact Hg

set_option backward.isDefEq.respectTransparency.types false in
/-- The run of the program: every array of the pipeline at its last contents, every semaphore at zero. -/
theorem runs : θ_run defs (onTc (τ := τ) (main (F := F))) (s₀ m ρ) (fun r => Pipeline.FramePost cfgs (dats m) (0 : Fin 1) (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enters m) (hout := leaves m)

theorem run_frame : θ_run defs (onTc (τ := τ) (main (F := F))) (s₀ m ρ) (Pipeline.FramePost cfgs (dats m) (0 : Fin 1) (V m)) :=
  (θ_run defs _ _).mono (fun _ h => h.1) (runs m ρ)

/-- The frame: the arguments end as launched, every semaphore at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_frame m ρ)) ((θ_run defs _ _).mono (fun _ h => h.2) (runs m ρ))

end Cert.AttnIdeal.Body
end
-- ==== Proof.AttnPay.lean ====
module

public import proofs.«01_k».proof.Proof.AttnStep
public import proofs.«01_k».proof.Proof.Reals

/-!
# One point of the attention backward, over the reals
-/

@[expose] public section

set_option maxRecDepth 16384

noncomputable section

namespace Cert.AttnTie

open Idealize.ShloMosaic Idealize.SL.Sem Cert.Reals
open Cert.AttnIdeal Cert.AttnIdeal.Gen Cert.AttnIdeal.Body

/-- The scale of the scores, and that times the logarithm of e to the base two. -/
def sc : ℝ := (√96)⁻¹
def c2 : ℝ := (√96)⁻¹ * (Real.log 2)⁻¹

theorem named_c2 : Named.named (F := Ideal) κ "c2" (φ := .f32) 0x3E16C740#32 = ((c2 : ℝ) : EReal) := rfl
theorem named_sc : Named.named (F := Ideal) κ "scale" (φ := .f32) 0x3DD105EC#32 = ((sc : ℝ) : EReal) := rfl

/-! ### The payloads at blocks of reals -/

section block
variable (k v q o dk dv g : Fin 768 → Fin 128 → ℝ) (ls dl : Fin 768 → ℝ)

/-- A weight of the attention from its score and its row's log-sum, and the gradient of a score. -/
def wt (b n : Fin 768) : ℝ := Real.rpow 2 ((∑ d, k b d * q n d) * c2 - ls n)
def gr (b n : Fin 768) : ℝ := wt k q ls b n * ((∑ d, v b d * o n d) - dl n)

theorem pay37 : k0_pay37 (F := Ideal) (lift2 k) = lift2 k := by
  funext i; obtain ⟨r, d, rfl⟩ := exists_ix2 i; unfold k0_pay37; pointwise []
theorem pay38 : k0_pay38 (F := Ideal) (lift2 k) = lift2 k := by
  funext i; obtain ⟨r, d, rfl⟩ := exists_ix2 i; unfold k0_pay38; pointwise []
theorem pay41 : k0_pay41 (F := Ideal) (lift2 k) = lift2 k := by
  funext i; obtain ⟨r, d, rfl⟩ := exists_ix2 i; unfold k0_pay41; pointwise []
theorem pay42 : k0_pay42 (F := Ideal) (lift2 k) = lift2 k := by
  funext i; obtain ⟨r, d, rfl⟩ := exists_ix2 i; unfold k0_pay42; pointwise []
theorem pay6 : k0_pay6 (F := Ideal) (lift2 k) = lift2 k := by
  funext i; obtain ⟨r, d, rfl⟩ := exists_ix2 i; unfold k0_pay6; pointwise []
theorem pay7 : k0_pay7 (F := Ideal) (lift2 k) = lift2 k := by
  funext i; obtain ⟨r, d, rfl⟩ := exists_ix2 i; unfold k0_pay7; pointwise []
theorem pay39 : k0_pay39 (F := Ideal) = lift2 fun _ _ => 0 := by
  funext i; obtain ⟨r, d, rfl⟩ := exists_ix2 i; unfold k0_pay39; pointwise [zero_f32, lift2_apply]
theorem pay40 : k0_pay40 (F := Ideal) = lift2 fun _ _ => 0 := by
  funext i; obtain ⟨r, d, rfl⟩ := exists_ix2 i; unfold k0_pay40; pointwise [zero_f32, lift2_apply]
theorem pay21 : k0_pay21 (F := Ideal) = lift2 fun _ _ => 0 := by
  funext i; obtain ⟨r, d, rfl⟩ := exists_ix2 i; unfold k0_pay21; pointwise [zero_f32, lift2_apply]

theorem pay8 (x : Vec Ideal S1x1x1x768 .f32) (hx : ∀ n, x (ix4 0 0 0 n) = ((ls n : ℝ) : EReal)) :
    k0_pay8 (F := Ideal) (lift2 k) (lift2 q) x = lift2 (wt k q ls) := by
  funext i; obtain ⟨b, n, rfl⟩ := exists_ix2 i
  unfold k0_pay8
  rw [pay6, named_c2]
  pointwise [lift2_apply, zero_f32, hx]
  simp only [← EReal.coe_mul, sum_coe, ← EReal.coe_add, ← EReal.coe_sub, zero_add]
  rfl

theorem pay43 (x : Vec Ideal S1x1x1x768 .f32) (hx : ∀ n, x (ix4 0 0 0 n) = ((ls n : ℝ) : EReal)) :
    k0_pay43 (F := Ideal) (lift2 k) (lift2 q) x = lift2 (wt k q ls) := by
  funext i; obtain ⟨b, n, rfl⟩ := exists_ix2 i
  unfold k0_pay43
  rw [pay37, pay41, named_c2]
  pointwise [lift2_apply, zero_f32, hx]
  simp only [← EReal.coe_mul, sum_coe, ← EReal.coe_add, ← EReal.coe_sub, zero_add]
  rfl

theorem pay9 (x : Vec Ideal S1x1x1x768 .f32) (hx : ∀ n, x (ix4 0 0 0 n) = ((ls n : ℝ) : EReal)) :
    k0_pay9 (F := Ideal) (lift2 k) (lift2 dv) (lift2 q) (lift2 o) x = lift2 fun b d => dv b d + ∑ n, wt k q ls b n * o n d := by
  funext i; obtain ⟨b, d, rfl⟩ := exists_ix2 i
  unfold k0_pay9
  rw [pay7, pay8 k q ls x hx]
  pointwise [lift2_apply, zero_f32]
  simp only [← EReal.coe_mul, sum_coe, ← EReal.coe_add, zero_add]

theorem pay10 (x : Vec Ideal S1x1x1x768 .f32) (hx : ∀ n, x (ix4 0 0 0 n) = ((ls n : ℝ) : EReal))
    (z : Vec Ideal S1x1x768 .f32) (hz : ∀ n, z (ix3 0 0 n) = ((dl n : ℝ) : EReal)) :
    k0_pay10 (F := Ideal) (lift2 k) (lift2 v) (lift2 q) (lift2 o) x z = lift2 (gr k v q o ls dl) := by
  funext i; obtain ⟨b, n, rfl⟩ := exists_ix2 i
  unfold k0_pay10
  rw [pay7, pay8 k q ls x hx]
  pointwise [lift2_apply, zero_f32, hz]
  simp only [← EReal.coe_mul, sum_coe, ← EReal.coe_add, ← EReal.coe_sub, zero_add]
  rfl

theorem pay11 (x : Vec Ideal S1x1x1x768 .f32) (hx : ∀ n, x (ix4 0 0 0 n) = ((ls n : ℝ) : EReal))
    (z : Vec Ideal S1x1x768 .f32) (hz : ∀ n, z (ix3 0 0 n) = ((dl n : ℝ) : EReal)) :
    k0_pay11 (F := Ideal) (lift2 k) (lift2 v) (lift2 dk) (lift2 q) (lift2 o) x z
      = lift2 fun b d => dk b d + ∑ n, gr k v q o ls dl b n * q n d := by
  funext i; obtain ⟨b, d, rfl⟩ := exists_ix2 i
  unfold k0_pay11
  rw [pay6, pay10 k v q o ls dl x hx z hz]
  pointwise [lift2_apply, zero_f32]
  simp only [← EReal.coe_mul, sum_coe, ← EReal.coe_add, zero_add]

theorem pay12 (x : Vec Ideal S1x1x1x768 .f32) (hx : ∀ n, x (ix4 0 0 0 n) = ((ls n : ℝ) : EReal))
    (z : Vec Ideal S1x1x768 .f32) (hz : ∀ n, z (ix3 0 0 n) = ((dl n : ℝ) : EReal)) :
    k0_pay12 (F := Ideal) (lift2 k) (lift2 v) (lift2 q) (lift2 o) x z (lift2 g)
      = lift2 fun n d => g n d + ∑ b, gr k v q o ls dl b n * k b d := by
  funext i; obtain ⟨n, d, rfl⟩ := exists_ix2 i
  unfold k0_pay12
  rw [pay10 k v q o ls dl x hx z hz]
  pointwise [lift2_apply, zero_f32]
  simp only [← EReal.coe_mul, sum_coe, ← EReal.coe_add, zero_add]

/-! The diagonal block: the same with the weights of later keys zero. -/

/-- The mask of the diagonal block. -/
theorem pay44 (i : grid0.Coords) (b n : Fin 768) : k0_pay44 i (ix2 b n) = if b.val ≤ n.val then 1#1 else 0#1 := by
  have hj : (i 1).val < 11 := (i 1).isLt
  unfold k0_pay44
  generalize (i 1).val = j at hj ⊢
  pointwise []
  have e : ∀ a : Fin 768, (IntOp.addi (Scalar.muli (BitVec.ofNat 32 j) 768#32) (BitVec.ofNat 32 a.val) : BitVec 32).toInt = ((768 * j + a.val : ℕ) : ℤ) := by
    intro a
    have ha := a.isLt
    have ht : (IntOp.addi (Scalar.muli (BitVec.ofNat 32 j) 768#32) (BitVec.ofNat 32 a.val) : BitVec 32).toNat = 768 * j + a.val := by
      simp only [IntOp.addi, Scalar.muli, IntOp.muli, BitVec.toNat_add, BitVec.toNat_mul, BitVec.toNat_ofNat]
      omega
    rw [BitVec.toInt_eq_toNat_of_lt (by rw [ht]; omega), ht]
  simp only [IntOp.cmpi, BitVec.sle, e]
  by_cases h : b.val ≤ n.val
  · rw [if_pos h, decide_eq_true (by omega)]; rfl
  · rw [if_neg h, decide_eq_false (by omega)]; rfl

theorem pay1 (w : Fin 768 → Fin 768 → ℝ) (i : grid0.Coords) :
    k0_pay1 (F := Ideal) (lift2 w) (k0_pay44 i) k0_pay45 = lift2 fun b n => if b.val ≤ n.val then w b n else 0 := by
  funext y; obtain ⟨b, n, rfl⟩ := exists_ix2 y
  unfold k0_pay1 k0_pay45
  pointwise [lift2_apply, zero_f32, pay44]
  split_ifs <;> rfl

theorem pay2 (w : Fin 768 → Fin 768 → ℝ) (i : grid0.Coords) :
    k0_pay2 (F := Ideal) (lift2 dv) (lift2 o) (lift2 w) (k0_pay44 i) k0_pay45
      = lift2 fun b d => dv b d + ∑ n, (if b.val ≤ n.val then w b n else 0) * o n d := by
  funext y; obtain ⟨b, d, rfl⟩ := exists_ix2 y
  unfold k0_pay2
  rw [pay1]
  pointwise [lift2_apply, zero_f32]
  simp only [← EReal.coe_mul, sum_coe, ← EReal.coe_add, zero_add]

theorem pay3 (w : Fin 768 → Fin 768 → ℝ) (i : grid0.Coords) (z : Vec Ideal S1x1x768 .f32) (hz : ∀ n, z (ix3 0 0 n) = ((dl n : ℝ) : EReal)) :
    k0_pay3 (F := Ideal) (lift2 v) (lift2 o) (lift2 w) (k0_pay44 i) k0_pay45 z
      = lift2 fun b n => (if b.val ≤ n.val then w b n else 0) * ((∑ d, v b d * o n d) - dl n) := by
  funext y; obtain ⟨b, n, rfl⟩ := exists_ix2 y
  unfold k0_pay3
  rw [pay1]
  pointwise [lift2_apply, zero_f32, hz]
  simp only [← EReal.coe_mul, sum_coe, ← EReal.coe_add, ← EReal.coe_sub, zero_add]

theorem pay4 (w : Fin 768 → Fin 768 → ℝ) (i : grid0.Coords) (z : Vec Ideal S1x1x768 .f32) (hz : ∀ n, z (ix3 0 0 n) = ((dl n : ℝ) : EReal)) :
    k0_pay4 (F := Ideal) (lift2 v) (lift2 dk) (lift2 q) (lift2 o) (lift2 w) (k0_pay44 i) k0_pay45 z
      = lift2 fun b d => dk b d + ∑ n, (if b.val ≤ n.val then w b n else 0) * ((∑ d, v b d * o n d) - dl n) * q n d := by
  funext y; obtain ⟨b, d, rfl⟩ := exists_ix2 y
  unfold k0_pay4
  rw [pay3 v o dl w i z hz]
  pointwise [lift2_apply, zero_f32]
  simp only [← EReal.coe_mul, sum_coe, ← EReal.coe_add, zero_add]

theorem pay5 (w : Fin 768 → Fin 768 → ℝ) (i : grid0.Coords) (z : Vec Ideal S1x1x768 .f32) (hz : ∀ n, z (ix3 0 0 n) = ((dl n : ℝ) : EReal)) :
    k0_pay5 (F := Ideal) (lift2 k) (lift2 v) (lift2 o) (lift2 w) (k0_pay44 i) k0_pay45 z (lift2 g)
      = lift2 fun n d => g n d + ∑ b, (if b.val ≤ n.val then w b n else 0) * ((∑ d, v b d * o n d) - dl n) * k b d := by
  funext y; obtain ⟨n, d, rfl⟩ := exists_ix2 y
  unfold k0_pay5
  rw [pay3 v o dl w i z hz]
  pointwise [lift2_apply, zero_f32]
  simp only [← EReal.coe_mul, sum_coe, ← EReal.coe_add, zero_add]

theorem pay20_k (b : Fin 768) (d : Fin 128) : k0_pay20 (F := Ideal) (lift2 dk) (lift2 dv) (ix2 b ⟨d.val, by omega⟩) = ((dk b d * sc : ℝ) : EReal) := by
  unfold k0_pay20
  rw [named_sc]
  pointwise [lift2_apply]
  rw [← EReal.coe_mul]
theorem pay20_v (b : Fin 768) (d : Fin 128) : k0_pay20 (F := Ideal) (lift2 dk) (lift2 dv) (ix2 b ⟨128 + d.val, by omega⟩) = ((dv b d : ℝ) : EReal) := by
  unfold k0_pay20
  rw [named_sc]
  pointwise [lift2_apply]

theorem pay22 (n : Fin 768) : k0_pay22 (F := Ideal) (lift2 q) (lift2 o) (ix3 0 0 n) = ((∑ d, q n d * o n d : ℝ) : EReal) := by
  unfold k0_pay22
  pointwise [lift2_apply, zero_f32]
  simp only [← EReal.coe_mul, sum_coe, ← EReal.coe_add, zero_add]

end block
end Cert.AttnTie
end
-- ==== Proof.AttnPoint.lean ====
module

public import proofs.«01_k».proof.Proof.AttnPay

/-!
# The loop of one point, over the reals
-/

@[expose] public section

set_option maxRecDepth 16384

noncomputable section

namespace Cert.AttnTie

open Idealize.ShloMosaic Idealize.SL.Sem Cert.Reals
open Cert.AttnIdeal Cert.AttnIdeal.Gen Cert.AttnIdeal.Body

/-! ### Offsets -/

theorem off1 (i : grid0.Coords) : k0_off1 i = ![768 * (i 1).val, 0] := by
  have hj : (i 1).val < 11 := (i 1).isLt
  have e : (Scalar.indexCast (Scalar.muli (BitVec.ofNat 32 (i 1).val) 768#32) : BitVec 32).toNat = 768 * (i 1).val := by
    simp only [Scalar.indexCast, Scalar.muli, IntOp.muli, BitVec.toNat_mul, BitVec.toNat_ofNat]
    omega
  unfold k0_off1; rw [← e]
theorem off2 (i : grid0.Coords) : k0_off2 i = ![0, (i 1).val, 0, 0] := by
  have hj : (i 1).val < 11 := (i 1).isLt
  have e : (Scalar.indexCast (BitVec.ofNat 32 (i 1).val) : BitVec 32).toNat = (i 1).val := by
    simp only [Scalar.indexCast, BitVec.toNat_ofNat]
    omega
  unfold k0_off2; dsimp only; rw [e]
theorem off3 (i : grid0.Coords) : k0_off3 i = ![(i 1).val, 0, 0] := by
  have hj : (i 1).val < 11 := (i 1).isLt
  have e : (Scalar.indexCast (BitVec.ofNat 32 (i 1).val) : BitVec 32).toNat = (i 1).val := by
    simp only [Scalar.indexCast, BitVec.toNat_ofNat]
    omega
  unfold k0_off3; dsimp only; rw [e]
theorem trip_word (i : grid0.Coords) (k : Fin (k0_t1_loop i).trips) :
    (Scf.iv (Scalar.addi (BitVec.ofNat 32 (i 1).val) 1#32) 1#32 k.val : BitVec 32).toNat = (i 1).val + 1 + k.val := by
  have hj : (i 1).val < 11 := (i 1).isLt
  have hk : k.val < 10 - (i 1).val := lt_of_lt_of_eq k.isLt (trips1 i)
  simp only [Scf.iv, Scalar.addi, IntOp.addi, BitVec.toNat_add, BitVec.toNat_mul, BitVec.toNat_ofNat]
  omega
theorem off4 (i : grid0.Coords) (k : Fin (k0_t1_loop i).trips) : k0_off4 i k = ![768 * ((i 1).val + 1 + k.val), 0] := by
  have hj : (i 1).val < 11 := (i 1).isLt
  have hk : k.val < 10 - (i 1).val := lt_of_lt_of_eq k.isLt (trips1 i)
  have e : (Scalar.indexCast (Scalar.muli (Scf.iv (Scalar.addi (BitVec.ofNat 32 (i 1).val) 1#32) 1#32 k.val) 768#32) : BitVec 32).toNat = 768 * ((i 1).val + 1 + k.val) := by
    simp only [Scalar.indexCast, Scalar.muli, IntOp.muli, BitVec.toNat_mul, BitVec.toNat_ofNat, trip_word]
    omega
  unfold k0_off4; rw [← e]
theorem off5 (i : grid0.Coords) (k : Fin (k0_t1_loop i).trips) : k0_off5 i k = ![0, (i 1).val + 1 + k.val, 0, 0] := by
  rw [← trip_word i k]; rfl
theorem off6 (i : grid0.Coords) (k : Fin (k0_t1_loop i).trips) : k0_off6 i k = ![(i 1).val + 1 + k.val, 0, 0] := by
  rw [← trip_word i k]; rfl

/-! ### Blocks of rows -/

/-- An array of rows from a table, and an array of row sums. -/
def rows {n : ℕ} (q : ℕ → Fin 128 → ℝ) : (⟨2, ![n, 128]⟩ : Shape).Idx → EReal := lift2 fun r : Fin n => q r.val
def sums4 (l : ℕ → ℝ) : S1x11x1x768.Idx → EReal := fun y => ((l (768 * (y 1).val + (y 3).val) : ℝ) : EReal)
def sums3 (l : ℕ → ℝ) : S11x1x768.Idx → EReal := fun y => ((l (768 * (y 0).val + (y 2).val) : ℝ) : EReal)

theorem rowsAt_f32 (q : ℕ → Fin 128 → ℝ) (off : Fin 2 → ℕ) (inb) (r : ℕ) (h : off = ![768 * r, 0]) :
    rowsAt (F := Ideal) (e := .f32) (rows q) off inb = lift2 fun n : Fin 768 => q (768 * r + n.val) := by
  subst h
  funext y; obtain ⟨n, d, rfl⟩ := exists_ix2 y
  have hr : 768 * r + 768 ≤ 8448 := inb 0
  refine (View.ld_unit_apply_of _ _ _ inb _ (ix2 (⟨768 * r + n.val, by omega⟩ : Fin 8448) d) ?_).trans rfl
  rintro ⟨a, ha⟩
  obtain rfl | rfl : a = 0 ∨ a = 1 := by (have : a < 2 := ha); omega
  · rfl
  · exact (Nat.zero_add _).symm

theorem rowsAt_bf16 (q : ℕ → Fin 128 → ℝ) (off : Fin 2 → ℕ) (inb) (r : ℕ) (h : off = ![768 * r, 0]) :
    rowsAt (F := Ideal) (e := .bf16) (rows q) off inb = lift2 fun n : Fin 768 => q (768 * r + n.val) := rowsAt_f32 q off inb r h

theorem ld_sums4 (l : ℕ → ℝ) (off : Fin 4 → ℕ) (inb) (r : ℕ) (h : off = ![0, r, 0, 0]) (n : Fin 768) :
    View.ld (Val := Elt Ideal) (e' := .f32) (sums4 l) (Rect.unit (s := S1x11x1x768) off S1x1x1x768.size inb) (ix4 0 0 0 n) = ((l (768 * r + n.val) : ℝ) : EReal) := by
  subst h
  have hr : r + 1 ≤ 11 := inb 1
  refine (View.ld_unit_apply_of _ _ _ inb _ (ix4 (0 : Fin 1) (⟨r, by omega⟩ : Fin 11) (0 : Fin 1) n) ?_).trans rfl
  rintro ⟨a, ha⟩
  obtain rfl | rfl | rfl | rfl : a = 0 ∨ a = 1 ∨ a = 2 ∨ a = 3 := by (have : a < 4 := ha); omega
  · rfl
  · rfl
  · rfl
  · exact (Nat.zero_add _).symm

theorem ld_sums3 (l : ℕ → ℝ) (off : Fin 3 → ℕ) (inb) (r : ℕ) (h : off = ![r, 0, 0]) (n : Fin 768) :
    View.ld (Val := Elt Ideal) (e' := .f32) (sums3 l) (Rect.unit (s := S11x1x768) off S1x1x768.size inb) (ix3 0 0 n) = ((l (768 * r + n.val) : ℝ) : EReal) := by
  subst h
  have hr : r + 1 ≤ 11 := inb 0
  refine (View.ld_unit_apply_of _ _ _ inb _ (ix3 (⟨r, by omega⟩ : Fin 11) (0 : Fin 1) n) ?_).trans rfl
  rintro ⟨a, ha⟩
  obtain rfl | rfl | rfl : a = 0 ∨ a = 1 ∨ a = 2 := by (have : a < 3 := ha); omega
  · rfl
  · rfl
  · exact (Nat.zero_add _).symm

theorem setRows_rows (g : ℕ → Fin 128 → ℝ) (w : Fin 768 → Fin 128 → ℝ) (off : Fin 2 → ℕ) (r : ℕ) (h : off = ![768 * r, 0]) :
    setRows (F := Ideal) (e := .f32) (rows g) off (lift2 w)
      = rows fun n d => if h : 768 * r ≤ n ∧ n < 768 * r + 768 then w ⟨n - 768 * r, by omega⟩ d else g n d := by
  subst h
  funext y; obtain ⟨n, d, rfl⟩ := exists_ix2 y
  unfold setRows
  by_cases hn : 768 * r ≤ n.val ∧ n.val < 768 * r + 768
  · rw [dif_pos (show ∀ a : Fin 2, (![768 * r, 0] : Fin 2 → ℕ) a ≤ ((ix2 n d : (⟨2, ![8448, 128]⟩ : Shape).Idx) a).val ∧ ((ix2 n d : (⟨2, ![8448, 128]⟩ : Shape).Idx) a).val < (![768 * r, 0] : Fin 2 → ℕ) a + S768x128.size a from ?_)]
    · unfold rows lift2
      dsimp only
      rw [dif_pos (show 768 * r ≤ ((ix2 n d : (⟨2, ![8448, 128]⟩ : Shape).Idx) 0).val ∧ ((ix2 n d : (⟨2, ![8448, 128]⟩ : Shape).Idx) 0).val < 768 * r + 768 from hn)]
      rfl
    · rintro ⟨a, ha⟩
      obtain rfl | rfl : a = 0 ∨ a = 1 := by (have : a < 2 := ha); omega
      · exact hn
      · exact ⟨Nat.zero_le _, by show d.val < 0 + 128; omega⟩
  · rw [dif_neg (fun hh => hn (hh 0))]
    unfold rows lift2
    dsimp only
    rw [dif_neg (show ¬ (768 * r ≤ ((ix2 n d : (⟨2, ![8448, 128]⟩ : Shape).Idx) 0).val ∧ ((ix2 n d : (⟨2, ![8448, 128]⟩ : Shape).Idx) 0).val < 768 * r + 768) from hn)]

/-! ### The loop -/

section loop
variable (k v : Fin 768 → Fin 128 → ℝ) (q o : ℕ → Fin 128 → ℝ) (ls dl : ℕ → ℝ)

/-- A weight and the gradient of a score, at a row of the queries. -/
def W (b : Fin 768) (r : ℕ) : ℝ := Real.rpow 2 ((∑ d, k b d * q r d) * c2 - ls r)
def G (b : Fin 768) (r : ℕ) : ℝ := W k q ls b r * ((∑ d, v b d * o r d) - dl r)

theorem trip_eq (i : grid0.Coords) (t : Fin (k0_t1_loop i).trips) (dk dv : Fin 768 → Fin 128 → ℝ) (g : ℕ → Fin 128 → ℝ) (r : ℕ) (hr : r = (i 1).val + 1 + t.val) :
    trip (F := Ideal) i (lift2 k) (lift2 v) (rows q) (rows o) (sums4 ls) (sums3 dl) t ((lift2 dk, lift2 dv), rows g)
      = ((lift2 fun b d => dk b d + ∑ n : Fin 768, G k v q o ls dl b (768 * r + n.val) * q (768 * r + n.val) d,
          lift2 fun b d => dv b d + ∑ n : Fin 768, W k q ls b (768 * r + n.val) * o (768 * r + n.val) d),
         rows fun n d => if 768 * r ≤ n ∧ n < 768 * r + 768 then g n d + ∑ b, G k v q o ls dl b n * k b d else g n d) := by
  subst hr
  unfold trip
  dsimp only
  rw [rowsAt_bf16 q _ _ _ (off4 i t), rowsAt_bf16 o _ _ _ (off4 i t), rowsAt_f32 g _ _ _ (off4 i t)]
  rw [pay11 k v _ _ dk _ _ _ (ld_sums4 ls _ _ _ (off5 i t)) _ (ld_sums3 dl _ _ _ (off6 i t)),
    pay9 k _ _ dv _ _ (ld_sums4 ls _ _ _ (off5 i t)),
    pay12 k v _ _ _ _ _ _ (ld_sums4 ls _ _ _ (off5 i t)) _ (ld_sums3 dl _ _ _ (off6 i t)),
    setRows_rows g _ _ _ (off4 i t)]
  refine congrArg _ ?_
  refine congrArg rows (funext fun n => funext fun d => ?_)
  split_ifs with h
  · have e : 768 * ((i 1).val + 1 + t.val) + (n - 768 * ((i 1).val + 1 + t.val)) = n := by omega
    simp only [gr, wt, G, W, e]
  · rfl

theorem loop_eq (i : grid0.Coords) (dk dv : Fin 768 → Fin 128 → ℝ) (g : ℕ → Fin 128 → ℝ) (n : ℕ) (hn : n ≤ 10 - (i 1).val) :
    loopAt (F := Ideal) i (lift2 k) (lift2 v) (rows q) (rows o) (sums4 ls) (sums3 dl) ((lift2 dk, lift2 dv), rows g) n
      = ((lift2 fun b d => dk b d + ∑ t ∈ Finset.range n, ∑ n : Fin 768, G k v q o ls dl b (768 * ((i 1).val + 1 + t) + n.val) * q (768 * ((i 1).val + 1 + t) + n.val) d,
          lift2 fun b d => dv b d + ∑ t ∈ Finset.range n, ∑ n : Fin 768, W k q ls b (768 * ((i 1).val + 1 + t) + n.val) * o (768 * ((i 1).val + 1 + t) + n.val) d),
         rows fun r d => if 768 * ((i 1).val + 1) ≤ r ∧ r < 768 * ((i 1).val + 1 + n) then g r d + ∑ b, G k v q o ls dl b r * k b d else g r d) := by
  induction n with
  | zero =>
    simp only [loopAt, Finset.range_zero, Finset.sum_empty, add_zero]
    refine congrArg _ ?_
    refine congrArg rows (funext fun r => funext fun d => ?_)
    rw [if_neg (by omega)]
  | succ n ih =>
    have ht : n < (k0_t1_loop i).trips := by rw [trips1]; omega
    rw [loopAt, dif_pos ht, ih (by omega), trip_eq k v q o ls dl i ⟨n, ht⟩ _ _ _ _ rfl]
    simp only [Finset.sum_range_succ, add_assoc]
    refine congrArg _ ?_
    refine congrArg rows (funext fun r => funext fun d => ?_)
    split_ifs <;> first | rfl | omega

/-! ### The diagonal block, and the whole point -/

/-- The same with the weights of later keys zero: key `b` of block `j`. -/
def mW (j : ℕ) (b : Fin 768) (r : ℕ) : ℝ := if 768 * j + b.val ≤ r then W k q ls b r else 0
def mG (j : ℕ) (b : Fin 768) (r : ℕ) : ℝ := mW k q ls j b r * ((∑ d, v b d * o r d) - dl r)

theorem mW_diag (j : ℕ) (b n : Fin 768) :
    (if b.val ≤ n.val then wt k (fun n : Fin 768 => q (768 * j + n.val)) (fun n : Fin 768 => ls (768 * j + n.val)) b n else 0) = mW k q ls j b (768 * j + n.val) := by
  unfold mW
  by_cases h : b.val ≤ n.val
  · rw [if_pos h, if_pos (by omega)]; rfl
  · rw [if_neg h, if_neg (by omega)]

theorem mW_le (j t : ℕ) (ht : t < j) (b n : Fin 768) : mW k q ls j b (768 * t + n.val) = 0 := by
  unfold mW; rw [if_neg]; have := n.isLt; have : 768 * t + 768 ≤ 768 * j := by omega
  omega
theorem mW_gt (j r : ℕ) (hr : 768 * (j + 1) ≤ r) (b : Fin 768) : mW k q ls j b r = W k q ls b r := by
  unfold mW; rw [if_pos]; have := b.isLt; omega

theorem diag_eq (i : grid0.Coords) (g : ℕ → Fin 128 → ℝ) :
    diag (F := Ideal) i (rows q) (rows o) (lift2 k) (lift2 v) (sums4 ls) (rows g) (sums3 dl)
      = ((lift2 fun b d => ∑ n : Fin 768, mG k v q o ls dl (i 1).val b (768 * (i 1).val + n.val) * q (768 * (i 1).val + n.val) d,
          lift2 fun b d => ∑ n : Fin 768, mW k q ls (i 1).val b (768 * (i 1).val + n.val) * o (768 * (i 1).val + n.val) d),
         rows fun r d => if 768 * (i 1).val ≤ r ∧ r < 768 * (i 1).val + 768 then g r d + ∑ b, mG k v q o ls dl (i 1).val b r * k b d else g r d) := by
  unfold diag
  dsimp only
  rw [rowsAt_bf16 q _ _ _ (off1 i), rowsAt_bf16 o _ _ _ (off1 i), rowsAt_f32 g _ _ _ (off1 i), pay37, pay38, pay41, pay42, pay39, pay40]
  rw [pay43 k _ _ _ (ld_sums4 ls _ _ _ (off2 i)),
    pay4 v _ _ _ _ _ i _ (ld_sums3 dl _ _ _ (off3 i)), pay2,
    pay5 k v _ _ _ _ i _ (ld_sums3 dl _ _ _ (off3 i)),
    setRows_rows g _ _ _ (off1 i)]
  simp only [zero_add, mW_diag]
  refine congrArg _ ?_
  refine congrArg rows (funext fun n => funext fun d => ?_)
  split_ifs with h
  · have e : 768 * (i 1).val + (n - 768 * (i 1).val) = n := by omega
    simp only [mG, e]
    refine congrArg _ (Finset.sum_congr rfl fun b _ => ?_)
    have hb := mW_diag k q ls (i 1).val b ⟨n - 768 * (i 1).val, by omega⟩
    simp only [e] at hb
    rw [hb]
  · rfl

/-- The sum over the blocks of rows from block `j` on is the sum over all rows, where the rows before add nothing. -/
theorem sum_from (j : ℕ) (hj : j < 11) (f : ℕ → ℝ) (h : ∀ t < j, ∀ n : Fin 768, f (768 * t + n.val) = 0) :
    (∑ n : Fin 768, f (768 * j + n.val)) + ∑ t ∈ Finset.range (10 - j), ∑ n : Fin 768, f (768 * (j + 1 + t) + n.val) = ∑ r ∈ Finset.range 8448, f r := by
  rw [show 8448 = 768 * 11 from rfl, ← sum_tiles, show 11 = j + (1 + (10 - j)) by omega, Finset.sum_range_add,
    Finset.sum_eq_zero (fun t ht => Finset.sum_eq_zero fun n _ => h t (Finset.mem_range.mp ht) n), zero_add,
    Finset.sum_range_add, Finset.sum_range_one, add_zero]
  simp only [add_assoc]

theorem point_eq (i : grid0.Coords) (g : ℕ → Fin 128 → ℝ) :
    point (F := Ideal) i (rows q) (rows o) (lift2 k) (lift2 v) (sums4 ls) (rows g) (sums3 dl)
      = ((lift2 fun b d => ∑ r ∈ Finset.range 8448, mG k v q o ls dl (i 1).val b r * q r d,
          lift2 fun b d => ∑ r ∈ Finset.range 8448, mW k q ls (i 1).val b r * o r d),
         rows fun r d => g r d + ∑ b, mG k v q o ls dl (i 1).val b r * k b d) := by
  have hj : (i 1).val < 11 := (i 1).isLt
  unfold point
  rw [diag_eq, pay37, pay38, loop_eq _ _ _ _ _ _ _ _ _ _ _ (trips1 i).le, trips1]
  generalize (i 1).val = j at hj ⊢
  refine congrArg₂ Prod.mk (congrArg₂ Prod.mk ?_ ?_) ?_
  · refine congrArg lift2 (funext fun b => funext fun d => ?_)
    rw [← sum_from j hj (fun r => mG k v q o ls dl j b r * q r d) (fun t ht n => by rw [mG, mW_le k q ls j t ht, zero_mul, zero_mul])]
    refine congrArg _ (Finset.sum_congr rfl fun t _ => Finset.sum_congr rfl fun n _ => ?_)
    rw [mG, mW_gt k q ls j _ (by nlinarith [n.isLt])]; rfl
  · refine congrArg lift2 (funext fun b => funext fun d => ?_)
    rw [← sum_from j hj (fun r => mW k q ls j b r * o r d) (fun t ht n => by rw [mW_le k q ls j t ht, zero_mul])]
    refine congrArg _ (Finset.sum_congr rfl fun t _ => Finset.sum_congr rfl fun n _ => ?_)
    rw [mW_gt k q ls j _ (by nlinarith [n.isLt])]
  · funext y; obtain ⟨r, d, rfl⟩ := exists_ix2 y
    have hr := r.isLt
    unfold rows lift2
    refine congrArg (fun r : ℝ => (r : EReal)) ?_
    show (if 768 * (j + 1) ≤ r.val ∧ r.val < 768 * (j + 1 + (10 - j)) then (if 768 * j ≤ r.val ∧ r.val < 768 * j + 768 then g r.val d + _ else g r.val d) + ∑ b, G k v q o ls dl b r.val * k b d
      else if 768 * j ≤ r.val ∧ r.val < 768 * j + 768 then g r.val d + ∑ b, mG k v q o ls dl j b r.val * k b d else g r.val d) = g r.val d + ∑ b, mG k v q o ls dl j b r.val * k b d
    by_cases h1 : 768 * (j + 1) ≤ r.val
    · rw [if_pos ⟨h1, by omega⟩, if_neg (by omega)]
      refine congrArg _ (Finset.sum_congr rfl fun b _ => ?_)
      rw [mG, mW_gt k q ls j _ h1]; rfl
    · rw [if_neg (by omega)]
      by_cases h2 : 768 * j ≤ r.val
      · rw [if_pos ⟨h2, by omega⟩]
      · rw [if_neg (by omega)]
        symm
        rw [Finset.sum_eq_zero, add_zero]
        intro b _
        rw [mG, mW, if_neg (by omega), zero_mul, zero_mul]

theorem delta_rows : delta (F := Ideal) (rows q) (rows o) = sums3 fun r => ∑ d, q r d * o r d := by
  funext y
  unfold delta
  rw [rowsAt_bf16 q _ _ (y 0).val rfl, rowsAt_bf16 o _ _ (y 0).val rfl, pay22]
  rfl

end loop

end Cert.AttnTie
end
-- ==== Proof.AttnGrid.lean ====
module

public import proofs.«01_k».proof.Proof.AttnFrame
public import proofs.«01_k».proof.Proof.AttnPoint
public import Idealize.ShloMosaic.Lib.StableHlo.ReadAt
public import Idealize.ShloMosaic.Lib.Pipeline.ValueKit

/-!
# The arrays the attention's gradient leaves, from tables of reals
-/

@[expose] public section

set_option maxRecDepth 16384

noncomputable section

namespace Cert.AttnTie

open Idealize.ShloMosaic Idealize.SL.Sem Cert.Reals
open Cert.AttnIdeal Cert.AttnIdeal.Gen Cert.AttnIdeal.Body

/-- The six arguments by head and row: the queries, the outputs, their cotangent, the keys, the values, the log-sums. -/
structure Tables where
  q : ℕ → ℕ → Fin 128 → ℝ
  o : ℕ → ℕ → Fin 128 → ℝ
  g : ℕ → ℕ → Fin 128 → ℝ
  k : ℕ → ℕ → Fin 128 → ℝ
  v : ℕ → ℕ → Fin 128 → ℝ
  l : ℕ → ℕ → ℝ

variable (T : Tables)

/-- The weight of key `b` in row `r`; a row's sum of its output times its cotangent; the gradient of a score. -/
def P (h b r : ℕ) : ℝ := if b ≤ r then Real.rpow 2 ((∑ d, T.k h b d * T.q h r d) * c2 - T.l h r) else 0
def D (h r : ℕ) : ℝ := ∑ d, T.o h r d * T.g h r d
def S (h b r : ℕ) : ℝ := P T h b r * ((∑ d, T.v h b d * T.g h r d) - D T h r)

/-- The three gradients. -/
def dQ (h r : ℕ) (d : Fin 128) : ℝ := ∑ b ∈ Finset.range 8448, S T h b r * T.k h b d
def dK (h b : ℕ) (d : Fin 128) : ℝ := ∑ r ∈ Finset.range 8448, S T h b r * T.q h r d
def dV (h b : ℕ) (d : Fin 128) : ℝ := ∑ r ∈ Finset.range 8448, P T h b r * T.g h r d

variable (m : (ℓ : Loc nD τ sig) → Buf (Elt Ideal) ℓ) (c : Dev nD)

/-- The blocks of every point are those of the tables. -/
structure Holds : Prop where
  b0 : ∀ t : Fin cfg0.N, (iblk m c 0 t : S8448x128.Idx → EReal) = rows (T.q (t.val / 11))
  b1 : ∀ t : Fin cfg0.N, (iblk m c 1 t : S8448x128.Idx → EReal) = rows (T.o (t.val / 11))
  b2 : ∀ t : Fin cfg0.N, (iblk m c 2 t : S8448x128.Idx → EReal) = rows (T.g (t.val / 11))
  b3 : ∀ t : Fin cfg0.N, (iblk m c 3 t : S768x128.Idx → EReal) = lift2 fun b : Fin 768 => T.k (t.val / 11) (768 * (t.val % 11) + b.val)
  b4 : ∀ t : Fin cfg0.N, (iblk m c 4 t : S768x128.Idx → EReal) = lift2 fun b : Fin 768 => T.v (t.val / 11) (768 * (t.val % 11) + b.val)
  b5 : ∀ t : Fin cfg0.N, (iblk m c 5 t : S1x11x1x768.Idx → EReal) = sums4 (T.l (t.val / 11))

/-- What a point leaves. -/
def stR (h j : ℕ) : ((FVec Ideal S768x128 .f32 × FVec Ideal S768x128 .f32) × Vec Ideal S8448x128 .f32) × Vec Ideal S11x1x768 .f32 :=
  (((lift2 fun (b : Fin 768) d => dK T h (768 * j + b.val) d, lift2 fun (b : Fin 768) d => dV T h (768 * j + b.val) d),
    rows fun r d => ∑ b ∈ Finset.range (768 * (j + 1)), S T h b r * T.k h b d), sums3 (D T h))

variable {T m c}

theorem coord1 (t : Fin cfg0.N) : (grid0.coords t 1).val = t.val % 11 := by
  have e1 : (grid0.coords t 1).val = t.val / 1 % 11 := Pipeline.Grid.coords_val t 1 (by decide) rfl
  simpa using e1

theorem step_eq (H : Holds T m c) (t : Fin cfg0.N) :
    stepAt m c t (rows fun r d => ∑ b ∈ Finset.range (768 * (t.val % 11)), S T (t.val / 11) b r * T.k (t.val / 11) b d, sums3 (D T (t.val / 11)))
      = stR T (t.val / 11) (t.val % 11) := by
  unfold stepAt
  dsimp only
  rw [H.b0, H.b2, H.b3, H.b4, H.b5, point_eq, coord1]
  unfold stR
  refine congrArg₂ Prod.mk (congrArg₂ Prod.mk rfl ?_) rfl
  refine congrArg rows (funext fun r => funext fun d => ?_)
  rw [Nat.mul_add, Finset.sum_range_add, Finset.sum_range (fun x => S T (t.val / 11) (768 * (t.val % 11) + x) r * T.k (t.val / 11) (768 * (t.val % 11) + x) d)]
  rfl

theorem first_eq (H : Holds T m c) (t : Fin cfg0.N) (h0 : t.val % 11 = 0) :
    firstAt m c t = (rows fun r d => ∑ b ∈ Finset.range (768 * (t.val % 11)), S T (t.val / 11) b r * T.k (t.val / 11) b d, sums3 (D T (t.val / 11))) := by
  unfold firstAt
  rw [H.b1, H.b2, delta_rows, pay21, h0]
  rfl

theorem state_eq (H : Holds T m c) : ∀ (n : ℕ) (hn : n < cfg0.N), stateAt m c n hn = stR T (n / 11) (n % 11)
  | 0, hn => by
    refine (stateAt_eq m c ⟨0, hn⟩).trans ?_
    unfold entryAt
    rw [if_pos (show (⟨0, hn⟩ : Fin cfg0.N).val % 11 = 0 from rfl), first_eq H ⟨0, hn⟩ rfl]
    exact step_eq H ⟨0, hn⟩
  | n + 1, hn => by
    refine (stateAt_eq m c ⟨n + 1, hn⟩).trans ?_
    unfold entryAt
    by_cases h0 : (n + 1) % 11 = 0
    · rw [if_pos (show (⟨n + 1, hn⟩ : Fin cfg0.N).val % 11 = 0 from h0), first_eq H ⟨n + 1, hn⟩ h0]
      exact step_eq H ⟨n + 1, hn⟩
    · rw [if_neg (show ¬(⟨n + 1, hn⟩ : Fin cfg0.N).val % 11 = 0 from h0)]
      refine Eq.trans ?_ (step_eq H ⟨n + 1, hn⟩)
      refine congrArg (stepAt m c ⟨n + 1, hn⟩) ?_
      refine (congrArg (fun s => (s.1.2, s.2)) (state_eq H n (Nat.lt_of_succ_lt hn))).trans ?_
      rw [show (n + 1) / 11 = n / 11 by omega, show (n + 1) % 11 = n % 11 + 1 by omega]
      rfl

/-! ### The arrays -/

theorem index0 : ∀ t : Fin cfg0.N, win0_0.index t = ![0, t.val / 11] := by decide +kernel
theorem index1 : ∀ t : Fin cfg0.N, win0_1.index t = ![0, t.val / 11] := by decide +kernel
theorem index2 : ∀ t : Fin cfg0.N, win0_2.index t = ![0, t.val / 11] := by decide +kernel
theorem index3 : ∀ t : Fin cfg0.N, win0_3.index t = ![t.val % 11, 2 * (t.val / 11)] := by decide +kernel
theorem index4 : ∀ t : Fin cfg0.N, win0_4.index t = ![t.val % 11, 2 * (t.val / 11) + 1] := by decide +kernel
theorem index5 : ∀ t : Fin cfg0.N, win0_5.index t = ![t.val / 11, 0, 0, 0] := by decide +kernel
theorem index6 : ∀ t : Fin cfg0.N, win0_6.index t = ![0, t.val / 11] := by decide +kernel
theorem index7 : ∀ t : Fin cfg0.N, win0_7.index t = ![t.val % 11, t.val / 11] := by decide +kernel

theorem points (t : Fin cfg0.N) : t.val < 88 := lt_of_lt_of_eq t.isLt N_0

/-- The row of a key block's line, and the column of a head's lane, in the packed arrays. -/
def row (t : Fin cfg0.N) (r : Fin 768) : Fin 8448 := ⟨768 * (t.val % 11) + r.val, by omega⟩
def col (t : Fin cfg0.N) (d : Fin 128) : Fin 1024 := ⟨128 * (t.val / 11) + d.val, by have := points t; omega⟩
def colK (t : Fin cfg0.N) (d : Fin 128) : Fin 2048 := ⟨256 * (t.val / 11) + d.val, by have := points t; omega⟩
def colV (t : Fin cfg0.N) (d : Fin 128) : Fin 2048 := ⟨256 * (t.val / 11) + 128 + d.val, by have := points t; omega⟩
def colKV (t : Fin cfg0.N) (d : Fin 256) : Fin 2048 := ⟨256 * (t.val / 11) + d.val, by have := points t; omega⟩

theorem emb0 (t : Fin cfg0.N) (r : Fin 8448) (j : Fin 128) : (win0_0.blk t).view.emb (ix2 r j) = (ix2 r (col t j) : S8448x1024.Idx) := by
  funext d
  apply Fin.ext
  match d with
  | ⟨0, _⟩ => blk_simp [index0]
  | ⟨1, _⟩ => blk_simp [index0]; exact congrArg (· + j.val) (mul_comm _ _)
theorem emb3 (t : Fin cfg0.N) (r : Fin 768) (j : Fin 128) : (win0_3.blk t).view.emb (ix2 r j) = (ix2 (row t r) (colK t j) : S8448x2048.Idx) := by
  funext d
  apply Fin.ext
  match d with
  | ⟨0, _⟩ => blk_simp [index3]; exact congrArg (· + r.val) (mul_comm _ _)
  | ⟨1, _⟩ => blk_simp [index3]; show 2 * (t.val / 11) * 128 + j.val = 256 * (t.val / 11) + j.val; omega
theorem emb4 (t : Fin cfg0.N) (r : Fin 768) (j : Fin 128) : (win0_4.blk t).view.emb (ix2 r j) = (ix2 (row t r) (colV t j) : S8448x2048.Idx) := by
  funext d
  apply Fin.ext
  match d with
  | ⟨0, _⟩ => blk_simp [index4]; exact congrArg (· + r.val) (mul_comm _ _)
  | ⟨1, _⟩ => blk_simp [index4]; show (2 * (t.val / 11) + 1) * 128 + j.val = 256 * (t.val / 11) + 128 + j.val; omega
theorem emb5 (t : Fin cfg0.N) (i : Fin 1) (r : Fin 11) (z : Fin 1) (j : Fin 768) :
    (win0_5.blk t).view.emb (ix4 i r z j) = (ix4 ⟨t.val / 11, by have := points t; omega⟩ r 0 j : S8x11x1x768.Idx) := by
  funext d
  apply Fin.ext
  match d with
  | ⟨0, _⟩ => blk_simp [index5]
  | ⟨1, _⟩ => blk_simp [index5]
  | ⟨2, _⟩ => blk_simp [index5]; rfl
  | ⟨3, _⟩ => blk_simp [index5]
theorem emb6 (t : Fin cfg0.N) (r : Fin 8448) (j : Fin 128) : (win0_6.blk t).view.emb (ix2 r j) = (ix2 r (col t j) : S8448x1024.Idx) := by
  funext d
  apply Fin.ext
  match d with
  | ⟨0, _⟩ => blk_simp [index6]
  | ⟨1, _⟩ => blk_simp [index6]; exact congrArg (· + j.val) (mul_comm _ _)
theorem emb7 (t : Fin cfg0.N) (r : Fin 768) (j : Fin 256) : (win0_7.blk t).view.emb (ix2 r j) = (ix2 (row t r) (colKV t j) : S8448x2048.Idx) := by
  funext d
  apply Fin.ext
  match d with
  | ⟨0, _⟩ => blk_simp [index7]; exact congrArg (· + r.val) (mul_comm _ _)
  | ⟨1, _⟩ => blk_simp [index7]; exact congrArg (· + j.val) (mul_comm _ _)

/-- The lane of a column. -/
def lane (n : ℕ) : Fin 128 := ⟨n % 128, Nat.mod_lt _ (by norm_num)⟩

theorem lane_eq (n : ℕ) (d : Fin 128) (h : n % 128 = d.val) : lane n = d := Fin.ext h

/-- The two packed results. -/
def outQ (T : Tables) : S8448x1024.Idx → EReal :=
  fun i => ((dQ T ((i 1).val / 128) (i 0).val (lane (i 1).val) : ℝ) : EReal)
def outKV (T : Tables) : S8448x2048.Idx → EReal :=
  fun i => ((if (i 1).val % 256 < 128 then dK T ((i 1).val / 256) (i 0).val (lane (i 1).val) * sc
    else dV T ((i 1).val / 256) (i 0).val (lane (i 1).val) : ℝ) : EReal)

theorem arr6 (H : Holds T m c) : (dats m 0 c).arrAt 6 cfg0.N = outQ T := by
  refine (dats m 0 c).arrAt_eq_of_covers 6 _ (by decide +kernel) fun t hf y => ?_
  have h10 : t.val % 11 = 10 := (flush0_6 t).mp hf
  blk_simp
  rw [after_6, state_eq H]
  frame_out
  obtain ⟨r, j, rfl⟩ := exists_ix2 y
  rw [emb6]
  show _ = ((dQ T ((col t j).val / 128) r.val (lane (col t j).val) : ℝ) : EReal)
  rw [show (col t j).val / 128 = t.val / 11 by unfold col; dsimp only; omega,
    lane_eq (col t j).val j (by unfold col; dsimp only; omega)]
  unfold rows dQ
  rw [lift2_apply, h10]

theorem arr7 (H : Holds T m c) : (dats m 0 c).arrAt 7 cfg0.N = outKV T := by
  refine (dats m 0 c).arrAt_eq_of_covers 7 _ (by decide +kernel) fun t hf y => ?_
  blk_simp
  rw [after_7, state_eq H]
  frame_out
  obtain ⟨r, j, rfl⟩ := exists_ix2 y
  rw [emb7]
  show _ = ((if (colKV t j).val % 256 < 128 then dK T ((colKV t j).val / 256) (row t r).val (lane (colKV t j).val) * sc
    else dV T ((colKV t j).val / 256) (row t r).val (lane (colKV t j).val) : ℝ) : EReal)
  rw [show (colKV t j).val / 256 = t.val / 11 by unfold colKV; dsimp only; omega,
    show (colKV t j).val % 256 = j.val by unfold colKV; dsimp only; omega]
  by_cases hj : j.val < 128
  · rw [if_pos hj, lane_eq (colKV t j).val ⟨j.val, hj⟩ (by unfold colKV; dsimp only; omega)]
    exact pay20_k _ _ r ⟨j.val, hj⟩
  · have hj2 : j.val - 128 < 128 := by omega
    rw [if_neg hj, lane_eq (colKV t j).val ⟨j.val - 128, hj2⟩ (by unfold colKV; dsimp only; omega)]
    refine Eq.trans (congrArg _ (congrArg (ix2 r) (Fin.ext ?_))) (pay20_v _ _ r ⟨j.val - 128, hj2⟩)
    dsimp only; omega

end Cert.AttnTie
-- ==== Proof.AttnReal.lean ====
module

public import proofs.«01_k».proof.Proof.AttnGrid

/-!
# Attention over the reals: its forward lines, and its gradient in both forms
-/

@[expose] public section

set_option maxRecDepth 16384

noncomputable section

namespace Cert.AttnTie

open Idealize.ShloMosaic Idealize.SL.Sem Cert.Reals

/-! ### Words and literals -/

theorem toInt_row {n : ℕ} (hn : n ≤ 8448) (q : Fin n) : (BitVec.ofNat 32 q.val).toInt = (q.val : ℤ) := by
  have hq := q.isLt
  have e : (BitVec.ofNat 32 q.val).toNat = q.val := by rw [BitVec.toNat_ofNat]; omega
  rw [BitVec.toInt_eq_toNat_of_lt (by rw [e]; omega), e]
theorem sel {n : ℕ} (hn : n ≤ 8448) (q b : Fin n) (x y : EReal) :
    Scalar.select (IntOp.cmpi .sle (BitVec.ofNat 32 b.val) (BitVec.ofNat 32 q.val)) x y = if b.val ≤ q.val then x else y := by
  simp only [IntOp.cmpi, BitVec.sle, toInt_row hn]
  by_cases h : b.val ≤ q.val
  · rw [if_pos h, decide_eq_true (by omega)]; rfl
  · rw [if_neg h, decide_eq_false (by omega)]; rfl
theorem f32_96 : Ideal.ofBits .f32 0x42C00000#32 = ((96 : ℝ) : EReal) := by
  simp [Ideal.ofBits, Ideal.ieee, -EReal.coe_mul]; norm_num
theorem f32_2 : Ideal.ofBits .f32 0x40000000#32 = ((2 : ℝ) : EReal) := by
  simp [Ideal.ofBits, Ideal.ieee, -EReal.coe_mul]; norm_num
theorem scale_eq : Ideal.div 1 (Ideal.sqrt (Ideal.ofBits .f32 0x42C00000#32)) = ((sc : ℝ) : EReal) := by
  have h : (√96 : ℝ) ≠ 0 := by positivity
  rw [f32_96]
  have e : Ideal.sqrt ((96 : ℝ) : EReal) = ((√96 : ℝ) : EReal) := by
    rw [Ideal.sqrt_coe, if_neg (by norm_num)]
  rw [e, ← EReal.coe_one, div_coe_coe h]
  unfold sc
  rw [one_div]
theorem log2_eq : Ideal.log (Ideal.ofBits .f32 0x40000000#32) = ((Real.log 2 : ℝ) : EReal) := by
  rw [f32_2]; rw [Ideal.log_coe, if_neg (by norm_num)]

/-! ### The forward lines -/

section forward
variable {n : ℕ} (a0 a1 : Fin n → Fin 8 → Fin 96 → ℝ) (a2 a3 : Fin n → Fin 8 → Fin 64 → ℝ) (h : Fin 8) (q b : Fin n)

/-- The scores, with those of later keys at `⊥`; a row's largest; the exponentials, their sum and the weights. -/
def score : ℝ := ∑ x, a0 q h x * sc * a1 b h x
def masked : EReal := if b.val ≤ q.val then ((score a0 a1 h q b : ℝ) : EReal) else ⊥
def top : ℝ := (Finset.univ.fold max (⊥ : EReal) fun b => masked a0 a1 h q b).toReal
def ex : ℝ := if b.val ≤ q.val then Real.exp (score a0 a1 h q b - top a0 a1 h q) else 0
def total : ℝ := ∑ b, ex a0 a1 h q b
def prob : ℝ := ex a0 a1 h q b / total a0 a1 h q
/-- The output and the row's log-sum, to the base two. -/
def out (d : Fin 64) : ℝ := ∑ b, a2 b h d * prob a0 a1 h q b
def lsum : ℝ := (top a0 a1 h q + Real.log (total a0 a1 h q)) / Real.log 2

theorem masked_def : masked a0 a1 h q b = if b.val ≤ q.val then ((∑ x, a0 q h x * sc * a1 b h x : ℝ) : EReal) else ⊥ := rfl

theorem fold_masked : (Finset.univ.fold max (⊥ : EReal) fun b => masked a0 a1 h q b) = ((top a0 a1 h q : ℝ) : EReal) := by
  refine (EReal.coe_toReal ?_ ?_).symm
  · refine ne_of_lt ((Finset.fold_max_lt _).mpr ⟨bot_lt_top, fun b _ => ?_⟩)
    unfold masked
    split
    · exact EReal.coe_lt_top _
    · exact bot_lt_top
  · refine ne_of_gt ((Finset.lt_fold_max _).mpr (Or.inr ⟨q, Finset.mem_univ _, ?_⟩))
    unfold masked
    rw [if_pos le_rfl]
    exact EReal.bot_lt_coe _

theorem exp_masked : Ideal.exp (masked a0 a1 h q b - ((top a0 a1 h q : ℝ) : EReal)) = ((ex a0 a1 h q b : ℝ) : EReal) := by
  unfold masked ex
  split
  · rw [← EReal.coe_sub]; exact Ideal.exp_coe _
  · rw [EReal.bot_sub]; rfl

theorem ex_nonneg : 0 ≤ ex a0 a1 h q b := by
  unfold ex; split
  · exact (Real.exp_pos _).le
  · exact le_rfl
theorem total_pos : 0 < total a0 a1 h q := by
  refine Finset.sum_pos' (fun b _ => ex_nonneg a0 a1 h q b) ⟨q, Finset.mem_univ _, ?_⟩
  unfold ex
  rw [if_pos le_rfl]
  exact Real.exp_pos _
theorem total_ne : total a0 a1 h q ≠ 0 := (total_pos a0 a1 h q).ne'
theorem total_def : ∑ b, ex a0 a1 h q b = total a0 a1 h q := rfl
theorem div_total (x : ℝ) : Ideal.div (x : EReal) ((total a0 a1 h q : ℝ) : EReal) = ((x / total a0 a1 h q : ℝ) : EReal) := div_coe_coe (total_ne a0 a1 h q)
theorem prob_def : ex a0 a1 h q b / total a0 a1 h q = prob a0 a1 h q b := rfl
theorem log_total : Ideal.log ((total a0 a1 h q : ℝ) : EReal) = ((Real.log (total a0 a1 h q) : ℝ) : EReal) := by
  rw [Ideal.log_coe, if_neg (not_le.mpr (total_pos a0 a1 h q))]

theorem prob_later (hb : ¬b.val ≤ q.val) : prob a0 a1 h q b = 0 := by
  unfold prob ex; rw [if_neg hb, zero_div]

/-- The weight from the row's log-sum. -/
theorem prob_rpow (hb : b.val ≤ q.val) : Real.rpow 2 ((∑ x, a1 b h x * a0 q h x) * c2 - lsum a0 a1 h q) = prob a0 a1 h q b := by
  have h2 : Real.log 2 ≠ 0 := (Real.log_pos (by norm_num)).ne'
  have e : Real.log 2 * ((∑ x, a1 b h x * a0 q h x) * c2 - lsum a0 a1 h q) = score a0 a1 h q b - top a0 a1 h q - Real.log (total a0 a1 h q) := by
    have es : score a0 a1 h q b = (∑ x, a1 b h x * a0 q h x) * sc := by
      unfold score; rw [Finset.sum_mul]; exact Finset.sum_congr rfl fun x _ => by ring
    rw [es]; unfold lsum c2 sc; field_simp; ring
  show (2 : ℝ) ^ ((∑ x, a1 b h x * a0 q h x) * c2 - lsum a0 a1 h q) = _
  rw [Real.rpow_def_of_pos (by norm_num), e, Real.exp_sub, Real.exp_log (total_pos a0 a1 h q)]
  unfold prob ex
  rw [if_pos hb]

end forward

end Cert.AttnTie
-- ==== Proof.AttnLines.lean ====
module

public import proofs.«01_k».proof.Proof.AttnReal

/-!
# The arguments the host code hands to the attention's gradient
-/

@[expose] public section

set_option maxRecDepth 16384

noncomputable section

namespace Cert.AttnTie

open Idealize.ShloMosaic Idealize.SL.Sem Cert.Reals
open Cert.AttnIdeal Cert.AttnIdeal.Gen Cert.AttnIdeal.Body

/-- A table by row, head and lane, continued by zeros. -/
def tab {n : ℕ} (a : Fin 8208 → Fin 8 → Fin n → ℝ) (h r : ℕ) (d : Fin 128) : ℝ :=
  if hh : r < 8208 ∧ h < 8 ∧ d.val < n then a ⟨r, hh.1⟩ ⟨h, hh.2.1⟩ ⟨d.val, hh.2.2⟩ else 0

/-- A row's log-sum by head and row, continued by zeros. -/
def ltab (l : Fin 8 → Fin 8208 → ℝ) (h r : ℕ) : ℝ := if hh : h < 8 ∧ r < 8208 then l ⟨h, hh.1⟩ ⟨r, hh.2⟩ else 0

/-- The six arguments from reference.py's own four. -/
def tables (a0 a1 : Fin 8208 → Fin 8 → Fin 96 → ℝ) (a2 a3 : Fin 8208 → Fin 8 → Fin 64 → ℝ) : Tables where
  q := tab a0
  o := tab fun q h d => out a0 a1 a2 h q d
  g := tab a3
  k := tab a1
  v := tab a2
  l := ltab (lsum a0 a1)

theorem fill (s : Shape) (i : s.Idx) : id (constant (F := Ideal) s .f32 0xFF800000#32) i = ⊥ := neg_inf_f32
theorem nil_zero : FloatOps.sitofp (F := Ideal) .f32 (0#32) = ((0 : ℝ) : EReal) := by rw [sitofp_zero]; rfl

section
variable (m : (ℓ : Loc nD τ sig) → Buf (Elt Ideal) ℓ) (c : Dev nD)
variable (a0 a1 : Fin 8208 → Fin 8 → Fin 96 → ℝ) (a2 a3 : Fin 8208 → Fin 8 → Fin 64 → ℝ)
variable (h0 : (m (c, Proc.tc.devRef main_arg0) : S8208x8x96.Idx → EReal) = lift3 a0) (h1 : (m (c, Proc.tc.devRef main_arg1) : S8208x8x96.Idx → EReal) = lift3 a1)
variable (h2 : (m (c, Proc.tc.devRef main_arg2) : S8208x8x64.Idx → EReal) = lift3 a2) (h3 : (m (c, Proc.tc.devRef main_arg3) : S8208x8x64.Idx → EReal) = lift3 a3)

include h0 in
theorem V30 (r : Fin 8448) (j : Fin 1024) : (V m c main_v30 : S8448x1024.Idx → EReal) (ix2 r j) = ((tab a0 (j.val / 128) r.val (lane j.val) : ℝ) : EReal) := by
  unfold V
  after_reads_at
  rw [h0]
  simp only [lift3_apply, nil_zero]
  exact (apply_dite (fun x : ℝ => (x : EReal)) _ _ _).symm
include h3 in
theorem V41 (r : Fin 8448) (j : Fin 1024) : (V m c main_v41 : S8448x1024.Idx → EReal) (ix2 r j) = ((tab a3 (j.val / 128) r.val (lane j.val) : ℝ) : EReal) := by
  unfold V
  after_reads_at
  rw [h3]
  simp only [lift3_apply, nil_zero]
  exact (apply_dite (fun x : ℝ => (x : EReal)) _ _ _).symm
/-! The forward lines, a line or two at a time. -/

abbrev X11 : FVec Ideal S8x8208x8208 .f32 := V m c main_v11
abbrev X12 : FVec Ideal S8x8208 .f32 := V m c main_v12
abbrev X16 : FVec Ideal S8x8208x8208 .f32 := V m c main_v16
abbrev X17 : FVec Ideal S8x8208 .f32 := V m c main_v17
abbrev X20 : FVec Ideal S8x8208x8208 .f32 := V m c main_v20
abbrev X21 : FVec Ideal S8x64x8208 .f32 := V m c main_v21
abbrev X22 : FVec Ideal S8208x8x64 .f32 := V m c main_v22
abbrev X35 : FVec Ideal S8448x2048 .bf16 := V m c main_v35
abbrev X31 : FVec Ideal S8448x8x128 .f32 := V m c main_v31
abbrev X32 : FVec Ideal S8448x8x128 .f32 := V m c main_v32
abbrev X38 : FVec Ideal S8448x1024 .bf16 := V m c main_v38
abbrev X43 : FVec Ideal S8x11x1x768 .f32 := V m c main_v43
abbrev X27 : FVec Ideal S8x8208 .f32 := V m c main_v27

theorem line12 : X12 m c = Host.reduce (FloatOps.maximumf (F := Ideal) (φ := .f32)) (X11 m c) (constant S_ .f32 0xFF800000#32) reducesTo_S8x8208x8208_S8x8208_d2 h_S_ := by
  unfold X12 X11 V; after_reads_simp
theorem line16 : X16 m c = Host.exp (subf (X11 m c) (broadcastInDim S8x8208x8208 ![0, 1, 2] bcast_S8x8208x1_S8x8208x8208_0_1_2
    (broadcastInDim S8x8208x1 ![0, 1] bcast_S8x8208_S8x8208x1_0_1 (X12 m c)))) := by
  unfold X16 X12 X11 V; after_reads_simp
theorem line17 : X17 m c = Host.reduceAdd (X16 m c) (constant S_ .f32 0x00000000#32) reducesTo_S8x8208x8208_S8x8208_d2 h_S_ := by
  unfold X17 X16 V; after_reads_simp
theorem line20 : X20 m c = Host.divf (X16 m c) (broadcastInDim S8x8208x8208 ![0, 1, 2] bcast_S8x8208x1_S8x8208x8208_0_1_2
    (broadcastInDim S8x8208x1 ![0, 1] bcast_S8x8208_S8x8208x1_0_1 (X17 m c))) := by
  unfold X20 X17 X16 V; after_reads_simp
theorem line21 : X21 m c = Host.dotGeneral (φ₁ := .f32) (φ₂ := .f32) dot_S8208x8x64_S8x8208x8208_S8x64x8208_0_2_2_1_1_0 none
    (m (c, Proc.tc.devRef main_arg2) : FVec Ideal S8208x8x64 .f32) (X20 m c) := by
  unfold X21 X20 V; after_reads_simp
theorem line22 : X22 m c = transpose S8208x8x64 [2, 0, 1] (X21 m c) transposes_S8x64x8208_S8208x8x64_2_0_1 := by
  unfold X22 X21 V; after_reads_simp
theorem line27 : X27 m c = Host.divf (addf (X12 m c) (Host.log (X17 m c)))
    (broadcastInDim S8x8208 ![] bcast_S_S8x8208 (Host.log (constant S_ .f32 0x40000000#32))) := by
  unfold X27 X12 X17 V; after_reads_simp
theorem line38 : X38 m c = truncf .bf16 (shapeCast S8448x1024 (pad S8448x8x128 ![0, 0, 0] ![240, 0, 64] ![0, 0, 0] (X22 m c)
    (sitofp .f32 (constantI S_ 32 (0#32))) pads_S8208x8x64_S8448x8x128_02400_000_0640 h_S_) shapeCasts_S8448x8x128_S8448x1024) bitsLt_bf16_f32 := by
  unfold X38 X22 V; after_reads_simp
  generalize transpose S8208x8x64 [2, 0, 1] _ transposes_S8x64x8208_S8208x8x64_2_0_1 = y
  simp -implicitDefEqProofs only [StableHlo.TRef.toBuf, StableHlo.TRef.ofBuf, cast_cast, cast_eq]
  try rfl
theorem line43 : X43 m c = shapeCast S8x11x1x768 (pad S8x8448 ![0, 0] ![0, 240] ![0, 0] (X27 m c)
    (sitofp .f32 (constantI S_ 32 (0#32))) pads_S8x8208_S8x8448_000_02400 h_S_) shapeCasts_S8x8448_S8x11x1x768 := by
  unfold X43 X27 V; after_reads_simp
  generalize Host.divf (F := Ideal) (s := S8x8208) (φ := .f32) _ _ = y
  simp -implicitDefEqProofs only [StableHlo.TRef.toBuf, StableHlo.TRef.ofBuf, cast_cast, cast_eq]
  try rfl
theorem line35 : X35 m c = truncf .bf16 (shapeCast S8448x2048 (concatenate S8448x8x256 2 [⟨S8448x8x128, X31 m c⟩, ⟨S8448x8x128, X32 m c⟩]
    concatenates_S8448x8x128_S8448x8x128_S8448x8x256_d2) shapeCasts_S8448x8x256_S8448x2048) bitsLt_bf16_f32 := by
  unfold X35 X31 X32 V; after_reads_simp
  try rfl

/-! Their values over tables of reals. -/

include h0 h1 in
theorem val11 (h : Fin 8) (q b : Fin 8208) : X11 m c (ix3 h q b) = masked a0 a1 h q b := by
  unfold X11 V
  after_reads_at
  rw [h0, h1]
  simp only [lift3_apply, scale_eq, fill, sel (n := 8208) (by norm_num), ← EReal.coe_mul, sum_coe]
  rfl
end

end Cert.AttnTie
-- ==== Proof.AttnHost.lean ====
module

public import proofs.«01_k».proof.Proof.AttnLines

/-!
# The arguments the host code hands to the attention's gradient
-/

@[expose] public section

set_option maxRecDepth 16384

noncomputable section

namespace Cert.AttnTie

open Idealize.ShloMosaic Idealize.SL.Sem Cert.Reals
open Cert.AttnIdeal Cert.AttnIdeal.Gen Cert.AttnIdeal.Body

theorem colHead (t : Fin cfg0.N) (d : Fin 128) : (col t d).val / 128 = t.val / 11 := by unfold col; dsimp only; omega
theorem colLane (t : Fin cfg0.N) (d : Fin 128) : lane (col t d).val = d := lane_eq _ d (by unfold col; dsimp only; omega)

theorem exists_ix4 {n m k l : Nat} (i : (⟨4, ![n, m, k, l]⟩ : Shape).Idx) : ∃ r c d e, i = ix4 r c d e :=
  ⟨i 0, i 1, i 2, i 3, by funext d; match d with | ⟨0, _⟩ => rfl | ⟨1, _⟩ => rfl | ⟨2, _⟩ => rfl | ⟨3, _⟩ => rfl⟩

section
variable (m : (ℓ : Loc nD τ sig) → Buf (Elt Ideal) ℓ) (c : Dev nD)
variable (a0 a1 : Fin 8208 → Fin 8 → Fin 96 → ℝ) (a2 a3 : Fin 8208 → Fin 8 → Fin 64 → ℝ)
variable (h0 : (m (c, Proc.tc.devRef main_arg0) : S8208x8x96.Idx → EReal) = lift3 a0) (h1 : (m (c, Proc.tc.devRef main_arg1) : S8208x8x96.Idx → EReal) = lift3 a1)
variable (h2 : (m (c, Proc.tc.devRef main_arg2) : S8208x8x64.Idx → EReal) = lift3 a2) (h3 : (m (c, Proc.tc.devRef main_arg3) : S8208x8x64.Idx → EReal) = lift3 a3)

include h0 h1 in
theorem val12 (h : Fin 8) (q : Fin 8208) : X12 m c (ix2 h q) = ((top a0 a1 h q : ℝ) : EReal) := by
  rw [line12]
  have e := val11 m c a0 a1 h0 h1
  generalize X11 m c = y at e ⊢
  pointwise [e, neg_inf_f32]
  exact fold_masked a0 a1 h q
include h0 h1 in
theorem val16 (h : Fin 8) (q b : Fin 8208) : X16 m c (ix3 h q b) = ((ex a0 a1 h q b : ℝ) : EReal) := by
  rw [line16]
  have e := val11 m c a0 a1 h0 h1
  have e' := val12 m c a0 a1 h0 h1
  generalize X11 m c = y at e ⊢
  generalize X12 m c = z at e' ⊢
  pointwise [e, e']
  exact exp_masked a0 a1 h q b
include h0 h1 in
theorem val17 (h : Fin 8) (q : Fin 8208) : X17 m c (ix2 h q) = ((total a0 a1 h q : ℝ) : EReal) := by
  rw [line17]
  have e := val16 m c a0 a1 h0 h1
  generalize X16 m c = y at e ⊢
  pointwise [e, zero_f32]
  simp only [sum_coe]
  try simp only [← EReal.coe_add, zero_add]
  rfl
include h0 h1 in
theorem val20 (h : Fin 8) (q b : Fin 8208) : X20 m c (ix3 h q b) = ((prob a0 a1 h q b : ℝ) : EReal) := by
  rw [line20]
  have e := val16 m c a0 a1 h0 h1
  have e' := val17 m c a0 a1 h0 h1
  generalize X16 m c = y at e ⊢
  generalize X17 m c = z at e' ⊢
  pointwise [e, e']
  exact div_total a0 a1 h q _
include h0 h1 h2 in
theorem val22 (q : Fin 8208) (h : Fin 8) (d : Fin 64) : X22 m c (ix3 q h d) = ((out a0 a1 a2 h q d : ℝ) : EReal) := by
  rw [line22, line21]
  have e := val20 m c a0 a1 h0 h1
  generalize X20 m c = y at e ⊢
  rw [h2]
  pointwise [e, lift3_apply]
  simp only [← EReal.coe_mul, sum_coe]
  rfl
theorem lse_at (y z : FVec Ideal S8x8208 .f32) (w : FVec Ideal S_ .f32) (h : Fin 8) (q : Fin 8208) :
    Host.divf (addf y (Host.log z)) (broadcastInDim S8x8208 ![] bcast_S_S8x8208 w) (ix2 h q) = Ideal.div (y (ix2 h q) + Ideal.log (z (ix2 h q))) (w ix0) := by
  pointwise []

include h0 h1 in
theorem val27 (h : Fin 8) (q : Fin 8208) : X27 m c (ix2 h q) = ((lsum a0 a1 h q : ℝ) : EReal) := by
  rw [line27]
  refine (lse_at _ _ _ h q).trans ?_
  have e2 := (congrArg₂ (· + ·) (val12 m c a0 a1 h0 h1 h q) ((congrArg Ideal.log (val17 m c a0 a1 h0 h1 h q)).trans (log_total a0 a1 h q))).trans (EReal.coe_add _ _).symm
  exact (congrArg₂ Ideal.div e2 log2_eq).trans (div_coe_coe (Real.log_pos (by norm_num)).ne')
include h0 h1 h2 in
theorem V38 (r : Fin 8448) (j : Fin 1024) : X38 m c (ix2 r j) = ((tab (fun q h d => out a0 a1 a2 h q d) (j.val / 128) r.val (lane j.val) : ℝ) : EReal) := by
  rw [line38]
  have e := val22 m c a0 a1 a2 h0 h1 h2
  generalize X22 m c = y at e ⊢
  pointwise [e]
  simp only [nil_zero]
  exact (apply_dite (fun x : ℝ => (x : EReal)) _ _ _).symm
include h0 h1 in
theorem V43 (h : Fin 8) (t : Fin 11) (z : Fin 1) (j : Fin 768) : X43 m c (ix4 h t z j) = ((ltab (lsum a0 a1) h.val (768 * t.val + j.val) : ℝ) : EReal) := by
  rw [line43]
  have e := val27 m c a0 a1 h0 h1
  generalize X27 m c = y at e ⊢
  pointwise [e]
  simp only [nil_zero]
  unfold ltab
  by_cases hr : 768 * t.val + j.val < 8208
  · rw [dif_pos (by omega), dif_pos ⟨h.isLt, hr⟩]
    simp only [mul_comm t.val 768]
  · rw [dif_neg (by omega), dif_neg (fun hh => hr hh.2)]
include h1 in
theorem val31 (r : Fin 8448) (h : Fin 8) (d : Fin 128) : X31 m c (ix3 r h d) = ((tab a1 h.val r.val d : ℝ) : EReal) := by
  unfold X31 V
  after_reads_at
  rw [h1]
  simp only [lift3_apply, nil_zero]
  unfold tab
  by_cases hr : r.val < 8208 ∧ d.val < 96
  · rw [dif_pos hr, dif_pos ⟨hr.1, h.isLt, hr.2⟩]
  · rw [dif_neg hr, dif_neg (fun hh => hr ⟨hh.1, hh.2.2⟩)]
include h2 in
theorem val32 (r : Fin 8448) (h : Fin 8) (d : Fin 128) : X32 m c (ix3 r h d) = ((tab a2 h.val r.val d : ℝ) : EReal) := by
  unfold X32 V
  after_reads_at
  rw [h2]
  simp only [lift3_apply, nil_zero]
  unfold tab
  by_cases hr : r.val < 8208 ∧ d.val < 64
  · rw [dif_pos hr, dif_pos ⟨hr.1, h.isLt, hr.2⟩]
  · rw [dif_neg hr, dif_neg (fun hh => hr ⟨hh.1, hh.2.2⟩)]
include h1 h2 in
theorem V35 (r : Fin 8448) (j : Fin 2048) :
    X35 m c (ix2 r j) = ((if j.val % 256 < 128 then tab a1 (j.val / 256) r.val (lane j.val) else tab a2 (j.val / 256) r.val (lane j.val) : ℝ) : EReal) := by
  rw [line35]
  have e := val31 m c a1 h1
  have e' := val32 m c a2 h2
  generalize X31 m c = y at e ⊢
  generalize X32 m c = z at e' ⊢
  pointwise [e, e']
  by_cases hj : j.val % 256 < 128
  · rw [dif_pos hj, if_pos hj, lane_eq j.val ⟨j.val % 256, hj⟩ (by dsimp only; omega)]
  · rw [dif_neg hj, if_neg hj, lane_eq j.val ⟨j.val % 256 - 128, by omega⟩ (by dsimp only; omega)]

/-! The blocks of every point. -/

include h0 in
theorem blk0 (t : Fin cfg0.N) : (iblk m c 0 t : S8448x128.Idx → EReal) = rows (tab a0 (t.val / 11)) := by
  funext y; obtain ⟨r, d, rfl⟩ := exists_ix2 y
  show (V m c main_v30 : S8448x1024.Idx → EReal) ((win0_0.blk t).view.emb (ix2 r d)) = _
  rw [emb0]
  refine (V30 m c a0 h0 r (col t d)).trans ?_
  rw [colHead, colLane]
  rfl
include h0 h1 h2 in
theorem blk1 (t : Fin cfg0.N) : (iblk m c 1 t : S8448x128.Idx → EReal) = rows (tab (fun q h d => out a0 a1 a2 h q d) (t.val / 11)) := by
  funext y; obtain ⟨r, d, rfl⟩ := exists_ix2 y
  show (V m c main_v38 : S8448x1024.Idx → EReal) ((win0_0.blk t).view.emb (ix2 r d)) = _
  rw [emb0]
  refine (V38 m c a0 a1 a2 h0 h1 h2 r (col t d)).trans ?_
  rw [colHead, colLane]
  rfl
include h3 in
theorem blk2 (t : Fin cfg0.N) : (iblk m c 2 t : S8448x128.Idx → EReal) = rows (tab a3 (t.val / 11)) := by
  funext y; obtain ⟨r, d, rfl⟩ := exists_ix2 y
  show (V m c main_v41 : S8448x1024.Idx → EReal) ((win0_0.blk t).view.emb (ix2 r d)) = _
  rw [emb0]
  refine (V41 m c a3 h3 r (col t d)).trans ?_
  rw [colHead, colLane]
  rfl
include h1 h2 in
theorem blk3 (t : Fin cfg0.N) : (iblk m c 3 t : S768x128.Idx → EReal) = lift2 fun b : Fin 768 => tab a1 (t.val / 11) (768 * (t.val % 11) + b.val) := by
  funext y; obtain ⟨r, d, rfl⟩ := exists_ix2 y
  show (V m c main_v35 : S8448x2048.Idx → EReal) ((win0_3.blk t).view.emb (ix2 r d)) = _
  rw [emb3]
  refine (V35 m c a1 a2 h1 h2 (row t r) (colK t d)).trans ?_
  have hd := d.isLt
  rw [if_pos (by unfold colK; dsimp only; omega), lane_eq (colK t d).val d (by unfold colK; dsimp only; omega),
    show (colK t d).val / 256 = t.val / 11 by unfold colK; dsimp only; omega]
  rfl
include h1 h2 in
theorem blk4 (t : Fin cfg0.N) : (iblk m c 4 t : S768x128.Idx → EReal) = lift2 fun b : Fin 768 => tab a2 (t.val / 11) (768 * (t.val % 11) + b.val) := by
  funext y; obtain ⟨r, d, rfl⟩ := exists_ix2 y
  show (V m c main_v35 : S8448x2048.Idx → EReal) ((win0_4.blk t).view.emb (ix2 r d)) = _
  rw [emb4]
  refine (V35 m c a1 a2 h1 h2 (row t r) (colV t d)).trans ?_
  have hd := d.isLt
  rw [if_neg (by unfold colV; dsimp only; omega), lane_eq (colV t d).val d (by unfold colV; dsimp only; omega),
    show (colV t d).val / 256 = t.val / 11 by unfold colV; dsimp only; omega]
  rfl
include h0 h1 in
theorem blk5 (t : Fin cfg0.N) : (iblk m c 5 t : S1x11x1x768.Idx → EReal) = sums4 (ltab (lsum a0 a1) (t.val / 11)) := by
  funext y; obtain ⟨i, r, z, j, rfl⟩ := exists_ix4 y
  show (V m c main_v43 : S8x11x1x768.Idx → EReal) ((win0_5.blk t).view.emb (ix4 i r z j)) = _
  rw [emb5]
  exact V43 m c a0 a1 h0 h1 ⟨t.val / 11, by have := points t; omega⟩ r 0 j

include h0 h1 h2 h3 in
theorem holds : Holds (tables a0 a1 a2 a3) m c :=
  ⟨blk0 m c a0 h0, blk1 m c a0 a1 a2 h0 h1 h2, blk2 m c a3 h3, blk3 m c a1 a2 h1 h2, blk4 m c a1 a2 h1 h2, blk5 m c a0 a1 h0 h1⟩

end

end Cert.AttnTie
-- ==== Proof.AttnRef.lean ====
module

public import proofs.«01_k».proof.Proof.AttnHost
public import proofs.«01_k».proof.Proof.Gen.AttnRefIdeal.Read

/-!
# The derivative of attention, read at its entries
-/

@[expose] public section

set_option maxRecDepth 16384

noncomputable section

namespace Cert.AttnTie

open Idealize.ShloMosaic Idealize.SL.Sem Cert.Reals
open Cert.AttnRefIdeal.Read

variable (a0 a1 : Fin 8208 → Fin 8 → Fin 96 → ℝ) (a2 a3 : Fin 8208 → Fin 8 → Fin 64 → ℝ) (h : Fin 8) (q b : Fin 8208)

/-- The gradient of a weight and of a score, as the derivative of the softmax's lines writes them. -/
def dprob : ℝ := ∑ d, a3 q h d * a2 b h d
def dscore : ℝ := if b.val ≤ q.val then
    (dprob a2 a3 h q b / total a0 a1 h q
      + -∑ b, dprob a2 a3 h q b * (1 / (total a0 a1 h q * total a0 a1 h q)) * ex a0 a1 h q b) * ex a0 a1 h q b else 0

/-- The three gradients. -/
def dqs (d : Fin 96) : ℝ := ∑ b, dscore a0 a1 a2 a3 h q b * a1 b h d
def dks (d : Fin 96) : ℝ := ∑ q, dscore a0 a1 a2 a3 h q b * (a0 q h d * sc)
def dvs (d : Fin 64) : ℝ := ∑ q, a3 q h d * prob a0 a1 h q b

theorem ref3 (d : Fin 96) : val_main_v3 (F := Ideal) (lift3 a0) (ix3 q h d) = ((a0 q h d * sc : ℝ) : EReal) := by
  unfold val_main_v3 val_main_v2 val_main_v1 val_main_v0 val_main_cst val_main_cst_0
  pointwise [lift3_apply]
  rw [scale_eq, ← EReal.coe_mul]
theorem ref11 : val_main_v11_0 (F := Ideal) (lift3 a0) (lift3 a1) (ix3 h q b) = masked a0 a1 h q b := by
  unfold val_main_v11_0 val_main_v11_1 val_main_v10 val_main_v9 val_main_v8 val_main_v7 val_main_v6 val_main_v4 val_main_v5 val_main_call0_v2 val_main_call0_v0 val_main_cst_1
  pointwise [lift3_apply, ref3]
  simp only [fill, sel (n := 8208) (by norm_num), ← EReal.coe_mul, sum_coe]
  rfl
theorem ref12 : val_main_v12 (F := Ideal) (lift3 a0) (lift3 a1) (ix2 h q) = ((top a0 a1 h q : ℝ) : EReal) := by
  unfold val_main_v12 val_main_cst_2
  pointwise [ref11, neg_inf_f32]
  exact fold_masked a0 a1 h q
theorem ref18 : val_main_v18 (F := Ideal) (ix2 h q) = ⊥ := by
  unfold val_main_v18 val_main_cst_4
  pointwise [neg_inf_f32]
theorem ref19 : val_main_v19 (F := Ideal) (lift3 a0) (lift3 a1) (ix2 h q) = ((top a0 a1 h q : ℝ) : EReal) := by
  rw [val_main_v19_apply, ref18, ref12]
  exact max_eq_right (bot_le (a := ((top a0 a1 h q : ℝ) : EReal)))
theorem ref32 : val_main_v32 (F := Ideal) (lift3 a0) (lift3 a1) (ix3 h q b) = ((ex a0 a1 h q b : ℝ) : EReal) := by
  unfold val_main_v32 val_main_v31 val_main_v30 val_main_v29
  pointwise [ref11, ref19]
  exact exp_masked a0 a1 h q b
theorem ref34 (z : Fin 1) : val_main_v34 (F := Ideal) (lift3 a0) (lift3 a1) (ix3 h q z) = ((total a0 a1 h q : ℝ) : EReal) := by
  unfold val_main_v34 val_main_v33 val_main_cst_10
  pointwise [ref32, zero_f32]
  simp only [sum_coe]
  try simp only [← EReal.coe_add, zero_add]
  rfl
theorem ref36 : val_main_v36 (F := Ideal) (lift3 a0) (lift3 a1) (ix3 h q b) = ((prob a0 a1 h q b : ℝ) : EReal) := by
  unfold val_main_v36 val_main_v35
  pointwise [ref32, ref34]
  exact div_total a0 a1 h q _
theorem ref39 (z : Fin 1) : val_main_v39 (F := Ideal) (lift3 a0) (lift3 a1) (ix3 h q z) = ((1 / (total a0 a1 h q * total a0 a1 h q) : ℝ) : EReal) := by
  unfold val_main_v39 val_main_v38 val_main_v37 val_main_cst_11
  pointwise [ref34]
  rw [← EReal.coe_mul, ← EReal.coe_one]
  exact div_coe_coe (mul_ne_zero (total_ne a0 a1 h q) (total_ne a0 a1 h q))
theorem ref43 : val_main_v43 (F := Ideal) (lift3 a2) (lift3 a3) (ix3 h q b) = ((dprob a2 a3 h q b : ℝ) : EReal) := by
  unfold val_main_v43 val_main_v42
  pointwise [lift3_apply]
  simp only [← EReal.coe_mul, sum_coe]
  rfl
theorem ref45 (d : Fin 64) : val_main_v45 (F := Ideal) (lift3 a0) (lift3 a1) (lift3 a3) (ix3 b h d) = ((dvs a0 a1 a3 h b d : ℝ) : EReal) := by
  unfold val_main_v45 val_main_v44 val_main_v42
  pointwise [lift3_apply, ref36]
  simp only [← EReal.coe_mul, sum_coe]
  rfl
theorem ref48 : val_main_v48 (F := Ideal) (lift3 a0) (lift3 a1) (lift3 a2) (lift3 a3) (ix3 h q b)
    = ((dprob a2 a3 h q b * (1 / (total a0 a1 h q * total a0 a1 h q)) * ex a0 a1 h q b : ℝ) : EReal) := by
  unfold val_main_v48 val_main_v47 val_main_v46
  pointwise [ref43, ref39, ref32]
  simp only [← EReal.coe_mul]
theorem ref54 : val_main_v54 (F := Ideal) (lift3 a0) (lift3 a1) (lift3 a2) (lift3 a3) (ix2 h q)
    = ((-∑ b, dprob a2 a3 h q b * (1 / (total a0 a1 h q * total a0 a1 h q)) * ex a0 a1 h q b : ℝ) : EReal) := by
  unfold val_main_v54 val_main_v51 val_main_v50 val_main_v49 val_main_cst_12 val_main_cst_13
  pointwise [ref48, zero_f32]
  try simp only [sum_coe, Finset.univ_unique, Finset.sum_singleton, ← EReal.coe_neg, ← EReal.coe_add, zero_add]
theorem ref58 : val_main_v58 (F := Ideal) (lift3 a0) (lift3 a1) (lift3 a2) (lift3 a3) (ix3 h q b) = ((dscore a0 a1 a2 a3 h q b : ℝ) : EReal) := by
  unfold val_main_v58 val_main_v57 val_main_v56 val_main_v55 val_main_v53 val_main_v52 val_main_call1_v0 val_main_call1_cst
    val_main_v11_1 val_main_v10 val_main_v9 val_main_v8 val_main_v7 val_main_v6 val_main_v4
  pointwise [ref43, ref34, ref54, ref32, zero_f32]
  simp only [div_total a0 a1, sel (n := 8208) (by norm_num), ← EReal.coe_add, ← EReal.coe_mul]
  unfold dscore
  split
  · rfl
  · first | rfl | exact EReal.coe_zero.symm
theorem ref62 (d : Fin 96) : val_main_v62 (F := Ideal) (lift3 a0) (lift3 a1) (lift3 a2) (lift3 a3) (ix3 q h d) = ((dqs a0 a1 a2 a3 h q d : ℝ) : EReal) := by
  unfold val_main_v62 val_main_v61
  pointwise [lift3_apply, ref58]
  simp only [← EReal.coe_mul, sum_coe]
  rfl
theorem ref60 (d : Fin 96) : val_main_v60 (F := Ideal) (lift3 a0) (lift3 a1) (lift3 a2) (lift3 a3) (ix3 b h d) = ((dks a0 a1 a2 a3 h b d : ℝ) : EReal) := by
  unfold val_main_v60 val_main_v59
  pointwise [ref3, ref58]
  simp only [← EReal.coe_mul, sum_coe]
  rfl

theorem ref64 (r : Fin 8448) (j : Fin 1024) : val_main_v64 (F := Ideal) (lift3 a0) (lift3 a1) (lift3 a2) (lift3 a3) (ix2 r j)
    = ((tab (fun q h d => dqs a0 a1 a2 a3 h q d) (j.val / 128) r.val (lane j.val) : ℝ) : EReal) := by
  unfold val_main_v64 val_main_v63 val_main_call2_v0 val_main_c
  pointwise [ref62]
  simp only [nil_zero]
  exact (apply_dite (fun x : ℝ => (x : EReal)) _ _ _).symm
theorem ref65 (r : Fin 8448) (h : Fin 8) (d : Fin 128) : val_main_v65 (F := Ideal) (lift3 a0) (lift3 a1) (lift3 a2) (lift3 a3) (ix3 r h d)
    = ((tab (fun q h d => dks a0 a1 a2 a3 h q d) h.val r.val d : ℝ) : EReal) := by
  unfold val_main_v65 val_main_call3_v0 val_main_c_14
  pointwise [ref60]
  simp only [nil_zero]
  unfold tab
  by_cases hr : r.val < 8208 ∧ d.val < 96
  · rw [dif_pos hr, dif_pos ⟨hr.1, h.isLt, hr.2⟩]
  · rw [dif_neg hr, dif_neg (fun hh => hr ⟨hh.1, hh.2.2⟩)]
theorem ref66 (r : Fin 8448) (h : Fin 8) (d : Fin 128) : val_main_v66 (F := Ideal) (lift3 a0) (lift3 a1) (lift3 a3) (ix3 r h d)
    = ((tab (fun q h d => dvs a0 a1 a3 h q d) h.val r.val d : ℝ) : EReal) := by
  unfold val_main_v66 val_main_call4_v0 val_main_c_15
  pointwise [ref45]
  simp only [nil_zero]
  unfold tab
  by_cases hr : r.val < 8208 ∧ d.val < 64
  · rw [dif_pos hr, dif_pos ⟨hr.1, h.isLt, hr.2⟩]
  · rw [dif_neg hr, dif_neg (fun hh => hr ⟨hh.1, hh.2.2⟩)]
theorem ref69 (r : Fin 8448) (j : Fin 2048) : val_main_v69 (F := Ideal) (lift3 a0) (lift3 a1) (lift3 a2) (lift3 a3) (ix2 r j)
    = ((if j.val % 256 < 128 then tab (fun q h d => dks a0 a1 a2 a3 h q d) (j.val / 256) r.val (lane j.val)
        else tab (fun q h d => dvs a0 a1 a3 h q d) (j.val / 256) r.val (lane j.val) : ℝ) : EReal) := by
  unfold val_main_v69 val_main_v68 val_main_v67
  pointwise [ref65, ref66]
  by_cases hj : j.val % 256 < 128
  · rw [dif_pos hj, if_pos hj, lane_eq j.val ⟨j.val % 256, hj⟩ (by dsimp only; omega)]
  · rw [dif_neg hj, if_neg hj, lane_eq j.val ⟨j.val % 256 - 128, by omega⟩ (by dsimp only; omega)]

end Cert.AttnTie
-- ==== Proof.AttnTie.lean ====
module

public import proofs.«01_k».proof.Proof.AttnRef
public import proofs.«01_k».proof.Proof.Gen.Pre_attn_finite

/-!
# The attention's three gradients as real numbers: by the kernel's sums and by the derivative
-/

@[expose] public section

set_option maxRecDepth 16384

noncomputable section

namespace Cert.AttnTie

open Idealize.ShloMosaic Idealize.SL.Sem Cert.Reals Cert.AttnIdeal

/-- Lanes beyond the feature's width add nothing. -/
theorem sum_lanes {n : ℕ} (hn : n ≤ 128) (f : Fin 128 → ℝ) (hf : ∀ d, n ≤ d.val → f d = 0) : ∑ d, f d = ∑ x : Fin n, f (Fin.castLE hn x) := by
  have e := Finset.sum_map Finset.univ (Fin.castLEEmb hn) f
  rw [show (∑ x : Fin n, f (Fin.castLE hn x)) = ∑ x ∈ Finset.univ.map (Fin.castLEEmb hn), f x from e.symm]
  refine (Finset.sum_subset (Finset.subset_univ _) fun d _ hd => hf d ?_).symm
  by_contra hl
  exact hd (Finset.mem_map.mpr ⟨⟨d.val, by omega⟩, Finset.mem_univ _, rfl⟩)

/-- Rows beyond the batch's add nothing. -/
theorem sum_batch (f : ℕ → ℝ) (hf : ∀ r, 8208 ≤ r → f r = 0) : ∑ r ∈ Finset.range 8448, f r = ∑ r : Fin 8208, f r.val := by
  rw [← Finset.sum_range]
  exact (Finset.sum_subset (Finset.range_mono (by omega)) fun r _ hr => hf r (by simpa using hr)).symm

theorem tab_in {n : ℕ} (hn : n ≤ 128) (a : Fin 8208 → Fin 8 → Fin n → ℝ) (h : Fin 8) (r : Fin 8208) (x : Fin n) : tab a h.val r.val (Fin.castLE hn x) = a r h x :=
  dif_pos ⟨r.isLt, h.isLt, x.isLt⟩
theorem tab_lane {n : ℕ} (a : Fin 8208 → Fin 8 → Fin n → ℝ) (h r : ℕ) (d : Fin 128) (hd : n ≤ d.val) : tab a h r d = 0 :=
  dif_neg fun hh => by omega
theorem tab_row {n : ℕ} (a : Fin 8208 → Fin 8 → Fin n → ℝ) (h r : ℕ) (d : Fin 128) (hr : 8208 ≤ r) : tab a h r d = 0 :=
  dif_neg fun hh => by omega

theorem sum_tab {n : ℕ} (hn : n ≤ 128) (a b : Fin 8208 → Fin 8 → Fin n → ℝ) (h : Fin 8) (r s : Fin 8208) :
    ∑ d, tab a h.val r.val d * tab b h.val s.val d = ∑ x, a r h x * b s h x := by
  rw [sum_lanes hn _ fun d hd => by rw [tab_lane a _ _ d hd, zero_mul]]
  exact Finset.sum_congr rfl fun x _ => by rw [tab_in, tab_in]

variable (a0 a1 : Fin 8208 → Fin 8 → Fin 96 → ℝ) (a2 a3 : Fin 8208 → Fin 8 → Fin 64 → ℝ) (h : Fin 8) (q b : Fin 8208)

theorem P_eq : P (tables a0 a1 a2 a3) h.val b.val q.val = prob a0 a1 h q b := by
  unfold P
  by_cases hb : b.val ≤ q.val
  · rw [if_pos hb, ← prob_rpow a0 a1 h q b hb]
    show Real.rpow 2 ((∑ d, tab a1 h.val b.val d * tab a0 h.val q.val d) * c2 - ltab (lsum a0 a1) h.val q.val) = _
    rw [sum_tab (by omega), ltab, dif_pos ⟨h.isLt, q.isLt⟩]
  · rw [if_neg hb, prob_later a0 a1 h q b hb]

theorem P_later (r s : ℕ) (hs : ¬s ≤ r) : P (tables a0 a1 a2 a3) h.val s r = 0 := if_neg hs

theorem D_eq : D (tables a0 a1 a2 a3) h.val q.val = ∑ b, prob a0 a1 h q b * dprob a2 a3 h q b := by
  show ∑ d, tab (fun q h d => out a0 a1 a2 h q d) h.val q.val d * tab a3 h.val q.val d = _
  rw [sum_tab (by omega)]
  simp only [out, dprob, Finset.sum_mul, Finset.mul_sum]
  rw [Finset.sum_comm]
  exact Finset.sum_congr rfl fun b _ => Finset.sum_congr rfl fun d _ => by ring

theorem S_eq : S (tables a0 a1 a2 a3) h.val b.val q.val = dscore a0 a1 a2 a3 h q b := by
  unfold S
  rw [P_eq, D_eq]
  show prob a0 a1 h q b * (∑ d, tab a2 h.val b.val d * tab a3 h.val q.val d - _) = _
  rw [sum_tab (by omega), show ∑ x, a2 b h x * a3 q h x = dprob a2 a3 h q b from Finset.sum_congr rfl fun x _ => mul_comm _ _, dscore]
  by_cases hb : b.val ≤ q.val
  · rw [if_pos hb]
    have ht := total_ne a0 a1 h q
    have e : ∑ b, dprob a2 a3 h q b * (1 / (total a0 a1 h q * total a0 a1 h q)) * ex a0 a1 h q b
        = (∑ b, prob a0 a1 h q b * dprob a2 a3 h q b) / total a0 a1 h q := by
      rw [Finset.sum_div]
      refine Finset.sum_congr rfl fun b _ => ?_
      rw [← prob_def]
      field_simp
    rw [e, ← prob_def]
    field_simp
    ring
  · rw [if_neg hb, prob_later a0 a1 h q b hb, zero_mul]

theorem S_row (s r : ℕ) (hr : 8208 ≤ r) : S (tables a0 a1 a2 a3) h.val s r = 0 := by
  have e : ∑ d, tab a2 h.val s d * tab a3 h.val r d = 0 := Finset.sum_eq_zero fun d _ => by rw [tab_row a3 _ _ d hr, mul_zero]
  have f : D (tables a0 a1 a2 a3) h.val r = 0 := Finset.sum_eq_zero fun d _ => by
    show _ * tab a3 h.val r d = 0
    rw [tab_row a3 _ _ d hr, mul_zero]
  unfold S
  rw [f]
  show _ * (∑ d, tab a2 h.val s d * tab a3 h.val r d - 0) = 0
  rw [e, sub_zero, mul_zero]

theorem S_col (s r : ℕ) (hs : 8208 ≤ s) : S (tables a0 a1 a2 a3) h.val s r = 0 := by
  by_cases hr : 8208 ≤ r
  · exact S_row a0 a1 a2 a3 h s r hr
  · rw [S, P_later a0 a1 a2 a3 h r s (by omega), zero_mul]

/-- A table whose entries are given where it is one. -/
theorem eq_tab {n : ℕ} (hn : n ≤ 128) (a : Fin 8208 → Fin 8 → Fin n → ℝ) (r : ℕ) (d : Fin 128) (y : ℝ) (hy : ∀ (q : Fin 8208) (x : Fin n), r = q.val → d = Fin.castLE hn x → y = a q h x)
    (hr : 8208 ≤ r → y = 0) (hd : n ≤ d.val → y = 0) : y = tab a h.val r d := by
  by_cases h1 : 8208 ≤ r
  · rw [hr h1, tab_row a _ _ d h1]
  by_cases h2 : n ≤ d.val
  · rw [hd h2, tab_lane a _ _ d h2]
  rw [hy ⟨r, by omega⟩ ⟨d.val, by omega⟩ rfl rfl]
  have hh : r < 8208 ∧ h.val < 8 ∧ d.val < n := ⟨by omega, h.isLt, by omega⟩
  rw [tab, dif_pos hh]

theorem dQ_eq (r : ℕ) (d : Fin 128) : dQ (tables a0 a1 a2 a3) h.val r d = tab (fun q h d => dqs a0 a1 a2 a3 h q d) h.val r d := by
  refine eq_tab h (by omega) _ r d _ (fun q x hr hx => ?_) (fun hr => ?_) fun hd => ?_
  · subst hr hx
    rw [dQ, sum_batch _ fun s hs => by rw [S_col _ _ _ _ _ _ _ hs, zero_mul]]
    refine Finset.sum_congr rfl fun b _ => ?_
    rw [S_eq]
    exact congrArg (_ * ·) (tab_in (by omega) a1 h b x)
  · exact Finset.sum_eq_zero fun s _ => by rw [S_row _ _ _ _ _ _ _ hr, zero_mul]
  · exact Finset.sum_eq_zero fun s _ => by
      show _ * tab a1 h.val s d = 0
      rw [tab_lane a1 _ _ d hd, mul_zero]

theorem dK_eq (r : ℕ) (d : Fin 128) : dK (tables a0 a1 a2 a3) h.val r d * sc = tab (fun q h d => dks a0 a1 a2 a3 h q d) h.val r d := by
  refine eq_tab h (by omega) _ r d _ (fun q x hr hx => ?_) (fun hr => ?_) fun hd => ?_
  · subst hr hx
    rw [dK, sum_batch _ fun s hs => by rw [S_row _ _ _ _ _ _ _ hs, zero_mul], Finset.sum_mul]
    refine Finset.sum_congr rfl fun b _ => ?_
    rw [S_eq, show (tables a0 a1 a2 a3).q h.val b.val (Fin.castLE _ x) = a0 b h x from tab_in (by omega) a0 h b x]
    ring
  · rw [dK, Finset.sum_eq_zero fun s _ => by rw [S_col _ _ _ _ _ _ _ hr, zero_mul], zero_mul]
  · rw [dK, Finset.sum_eq_zero fun s _ => by
      show _ * tab a0 h.val s d = 0
      rw [tab_lane a0 _ _ d hd, mul_zero], zero_mul]

theorem dV_eq (r : ℕ) (d : Fin 128) : dV (tables a0 a1 a2 a3) h.val r d = tab (fun q h d => dvs a0 a1 a3 h q d) h.val r d := by
  refine eq_tab h (by omega) _ r d _ (fun q x hr hx => ?_) (fun hr => ?_) fun hd => ?_
  · subst hr hx
    rw [dV, sum_batch _ fun s hs => by
      show _ * tab a3 h.val s _ = 0
      rw [tab_row a3 _ _ _ hs, mul_zero]]
    refine Finset.sum_congr rfl fun b _ => ?_
    rw [P_eq, show (tables a0 a1 a2 a3).g h.val b.val (Fin.castLE _ x) = a3 b h x from tab_in (by omega) a3 h b x]
    ring
  · refine Finset.sum_eq_zero fun s _ => ?_
    by_cases hs : 8208 ≤ s
    · show _ * tab a3 h.val s d = 0
      rw [tab_row a3 _ _ _ hs, mul_zero]
    · rw [P_later _ _ _ _ _ _ _ (by omega), zero_mul]
  · exact Finset.sum_eq_zero fun s _ => by
      show _ * tab a3 h.val s d = 0
      rw [tab_lane a3 _ _ d hd, mul_zero]

theorem out_q (i : S8448x1024.Idx) : outQ (tables a0 a1 a2 a3) i = AttnRefIdeal.Read.val_main_v64 (F := Ideal) (lift3 a0) (lift3 a1) (lift3 a2) (lift3 a3) i := by
  obtain ⟨r, j, rfl⟩ := exists_ix2 i
  rw [ref64]
  exact congrArg (fun x : ℝ => (x : EReal)) (dQ_eq a0 a1 a2 a3 ⟨j.val / 128, by omega⟩ r.val (lane j.val))

theorem out_kv (i : S8448x2048.Idx) : outKV (tables a0 a1 a2 a3) i = AttnRefIdeal.Read.val_main_v69 (F := Ideal) (lift3 a0) (lift3 a1) (lift3 a2) (lift3 a3) i := by
  obtain ⟨r, j, rfl⟩ := exists_ix2 i
  rw [ref69]
  refine congrArg (fun x : ℝ => (x : EReal)) ?_
  rw [← dK_eq a0 a1 a2 a3 ⟨j.val / 256, by omega⟩ r.val (lane j.val), ← dV_eq a0 a1 a2 a3 ⟨j.val / 256, by omega⟩ r.val (lane j.val)]
  rfl

theorem pre_real (x y : Vec Ideal S8208x8x96 .f32) (z v : Vec Ideal S8208x8x64 .f32)
    (p : (Pre_attn_finite.fn (F := Ideal) x y z v).1 = (fun _ => 1#1) ∧ (Pre_attn_finite.fn (F := Ideal) x y z v).2.1 = (fun _ => 1#1)
      ∧ (Pre_attn_finite.fn (F := Ideal) x y z v).2.2.1 = (fun _ => 1#1) ∧ (Pre_attn_finite.fn (F := Ideal) x y z v).2.2.2 = (fun _ => 1#1)) :
    (∃ a, x = lift3 a) ∧ (∃ a, y = lift3 a) ∧ (∃ a, z = lift3 a) ∧ ∃ a, v = lift3 a := by
  have real {s : Shape} (w : Vec Ideal s .f32) (hw : ∀ i, Ideal.cmp .olt (max (w i) (-(w i))) ⊤ = 1#1) (i : s.Idx) : ∃ a : ℝ, w i = (a : EReal) := of_abs_lt_top (hw i)
  exact ⟨eq_lift3 x (real x fun i => by rw [← inf_f32]; exact congrFun p.1 i), eq_lift3 y (real y fun i => by rw [← inf_f32]; exact congrFun p.2.1 i),
    eq_lift3 z (real z fun i => by rw [← inf_f32]; exact congrFun p.2.2.1 i), eq_lift3 v (real v fun i => by rw [← inf_f32]; exact congrFun p.2.2.2 i)⟩

end Cert.AttnTie

end
-- ==== Proof.AfwdGrid.lean ====
module

public import proofs.«01_k».proof.Proof.AfwdPay
public import proofs.«01_k».proof.Proof.AttnTie

/-!
# The attention over the whole grid: every point's blocks and the two arrays
-/

@[expose] public section

set_option maxRecDepth 16384

noncomputable section

namespace Cert.AfwdTie

open Idealize.ShloMosaic Idealize.SL.Sem Cert.Reals
open Cert.AfwdIdeal Cert.AfwdIdeal.Gen
open Cert.AttnTie (tab lane lane_eq rows exists_ix4 nil_zero)

/-! ### Offsets and loads -/

theorem trip_word (i : grid0.Coords) (k : Fin (k0_t1_loop i).trips) : (Scf.iv 0#32 1#32 k.val : BitVec 32).toNat = k.val := by
  have hj : (i 1).val < 11 := (i 1).isLt
  have hk : k.val < (i 1).val := lt_of_lt_of_eq k.isLt (trips1 i)
  simp only [Scf.iv, BitVec.toNat_add, BitVec.toNat_mul, BitVec.toNat_ofNat]
  omega
theorem off1 (i : grid0.Coords) (k : Fin (k0_t1_loop i).trips) : k0_off1 i k = ![768 * k.val, 0] := by
  have hj : (i 1).val < 11 := (i 1).isLt
  have hk : k.val < (i 1).val := lt_of_lt_of_eq k.isLt (trips1 i)
  have e : (Scalar.indexCast (Scalar.muli (Scf.iv 0#32 1#32 k.val) 768#32) : BitVec 32).toNat = 768 * k.val := by
    simp only [Scalar.indexCast, Scalar.muli, IntOp.muli, BitVec.toNat_mul, BitVec.toNat_ofNat, trip_word]
    omega
  unfold k0_off1; rw [← e]
theorem off2 (i : grid0.Coords) (k : Fin (k0_t1_loop i).trips) : k0_off2 i k = ![0, k.val, 0, 0] := by
  conv_rhs => rw [← trip_word i k]
  rfl
theorem off5 (i : grid0.Coords) : k0_off5 i = ![768 * (i 1).val, 0] := by
  have hj : (i 1).val < 11 := (i 1).isLt
  have e : (Scalar.indexCast (Scalar.muli (BitVec.ofNat 32 (i 1).val) 768#32) : BitVec 32).toNat = 768 * (i 1).val := by
    simp only [Scalar.indexCast, Scalar.muli, IntOp.muli, BitVec.toNat_mul, BitVec.toNat_ofNat]
    omega
  unfold k0_off5; rw [← e]
theorem off6 (i : grid0.Coords) : k0_off6 i = ![0, (i 1).val, 0, 0] := by
  have hj : (i 1).val < 11 := (i 1).isLt
  have e : (Scalar.indexCast (BitVec.ofNat 32 (i 1).val) : BitVec 32).toNat = (i 1).val := by
    simp only [Scalar.indexCast, BitVec.toNat_ofNat]
    omega
  unfold k0_off6; dsimp only; rw [e]

/-- A head's values with their rows along the lanes, 768 to a block. -/
def cols (v : ℕ → Fin 128 → ℝ) : S1x11x128x768.Idx → EReal := fun y => ((v (768 * (y 1).val + (y 3).val) (y 2) : ℝ) : EReal)

theorem keysAt_rows (k : ℕ → Fin 128 → ℝ) (off : Fin 2 → ℕ) (inb) (r : ℕ) (h : off = ![768 * r, 0]) :
    keysAt (F := Ideal) (rows k) off inb = lift2 fun n : Fin 768 => k (768 * r + n.val) := by
  subst h
  funext y; obtain ⟨n, d, rfl⟩ := exists_ix2 y
  have hr : 768 * r + 768 ≤ 8448 := inb 0
  refine (View.ld_unit_apply_of _ _ _ inb _ (ix2 (⟨768 * r + n.val, by omega⟩ : Fin 8448) d) ?_).trans rfl
  rintro ⟨a, ha⟩
  obtain rfl | rfl : a = 0 ∨ a = 1 := by (have : a < 2 := ha); omega
  · rfl
  · exact (Nat.zero_add _).symm

theorem valsAt_cols (v : ℕ → Fin 128 → ℝ) (off : Fin 4 → ℕ) (inb) (r : ℕ) (h : off = ![0, r, 0, 0]) (b : Fin 768) (d : Fin 128) :
    valsAt (F := Ideal) (cols v) off inb (ix4 0 0 d b) = ((v (768 * r + b.val) d : ℝ) : EReal) := by
  subst h
  have hr : r + 1 ≤ 11 := inb 1
  refine (View.ld_unit_apply_of _ _ _ inb _ (ix4 (0 : Fin 1) (⟨r, by omega⟩ : Fin 11) d b) ?_).trans rfl
  rintro ⟨a, ha⟩
  obtain rfl | rfl | rfl | rfl : a = 0 ∨ a = 1 ∨ a = 2 ∨ a = 3 := by (have : a < 4 := ha); omega
  · rfl
  · rfl
  · exact (Nat.zero_add _).symm
  · exact (Nat.zero_add _).symm

theorem queries_lift (q : Fin 768 → Fin 128 → ℝ) : queries (F := Ideal) (lift2 q) = lift2 q := by
  funext y; obtain ⟨n, d, rfl⟩ := exists_ix2 y
  refine View.ld_unit_apply_of _ _ _ inb_S768x128_S768x128_0_0 _ (ix2 n d) ?_
  rintro ⟨a, ha⟩
  obtain rfl | rfl : a = 0 ∨ a = 1 := by (have : a < 2 := ha); omega
  · exact (Nat.zero_add _).symm
  · exact (Nat.zero_add _).symm

/-! ### One point -/

section point
variable (q k v : ℕ → Fin 128 → ℝ)

/-- A key's weight for a row before it is taken relative to anything, and its sums over the keys not later than the row. -/
def wgt (r b : ℕ) : ℝ := pw (∑ d, k b d * q r d)
def den (r : ℕ) : ℝ := ∑ b ∈ Finset.range 8448, if b ≤ r then wgt q k r b else 0
def num (r : ℕ) (d : Fin 128) : ℝ := ∑ b ∈ Finset.range 8448, v b d * if b ≤ r then wgt q k r b else 0

/-- The rows of block `j`. -/
abbrev block (j : ℕ) : Fin 768 → Fin 128 → ℝ := fun n => q (768 * j + n.val)

theorem loop_runs (i : grid0.Coords) : ∀ n ≤ (i 1).val, Runs (loopAt (F := Ideal) i (lift2 (block q (i 1).val)) (rows k) (cols v) n)
    (fun r => ∑ j ∈ Finset.range n, ∑ b : Fin 768, wgt q k (768 * (i 1).val + r.val) (768 * j + b.val))
    (fun r d => ∑ j ∈ Finset.range n, ∑ b : Fin 768, v (768 * j + b.val) d * wgt q k (768 * (i 1).val + r.val) (768 * j + b.val))
  | 0, _ => by
    simp only [Finset.range_zero, Finset.sum_empty]
    exact runs_init
  | n + 1, hn => by
    have ht : n < (k0_t1_loop i).trips := lt_of_lt_of_eq hn (trips1 i).symm
    rw [loopAt, dif_pos ht]
    unfold trip
    rw [keysAt_rows k _ _ n (off1 i ⟨n, ht⟩)]
    simp only [Finset.sum_range_succ]
    exact runs_block _ _ (block v n) _ (loop_runs i n (by omega)) (fun b d => valsAt_cols v _ _ n (off2 i ⟨n, ht⟩) b d)

theorem wgt_pos (r b : ℕ) : 0 < wgt q k r b := pw_pos _

/-- The blocks before a row's own and the part of its own up to it are the keys up to it. -/
theorem sum_upto (j : ℕ) (hj : j < 11) (r : Fin 768) (f : ℕ → ℝ) :
    (∑ t ∈ Finset.range j, ∑ b : Fin 768, f (768 * t + b.val)) + ∑ b : Fin 768, (if b.val ≤ r.val then f (768 * j + b.val) else 0)
      = ∑ b ∈ Finset.range 8448, if b ≤ 768 * j + r.val then f b else 0 := by
  have hr := r.isLt
  have e1 : ∑ b : Fin 768, (if b.val ≤ r.val then f (768 * j + b.val) else 0) = ∑ b : Fin 768, if 768 * j + b.val ≤ 768 * j + r.val then f (768 * j + b.val) else 0 :=
    Finset.sum_congr rfl fun b _ => by simp only [Nat.add_le_add_iff_left]
  have e2 : ∑ t ∈ Finset.range j, ∑ b : Fin 768, f (768 * t + b.val) = ∑ t ∈ Finset.range j, ∑ b : Fin 768, if 768 * t + b.val ≤ 768 * j + r.val then f (768 * t + b.val) else 0 := by
    refine Finset.sum_congr rfl fun t ht => Finset.sum_congr rfl fun b _ => ?_
    have := Finset.mem_range.mp ht
    rw [if_pos (by omega)]
  rw [e1, e2, ← Finset.sum_range_succ (fun t => ∑ b : Fin 768, if 768 * t + b.val ≤ 768 * j + r.val then f (768 * t + b.val) else 0),
    sum_tiles 768 (j + 1) fun b => if b ≤ 768 * j + r.val then f b else 0]
  refine Finset.sum_subset (Finset.range_mono (by omega)) fun b _ hb => if_neg ?_
  have : ¬b < 768 * (j + 1) := fun h => hb (Finset.mem_range.mpr h)
  omega

theorem den_eq (i : grid0.Coords) (r : Fin 768) :
    (∑ j ∈ Finset.range (i 1).val, ∑ b : Fin 768, wgt q k (768 * (i 1).val + r.val) (768 * j + b.val))
      + ∑ b : Fin 768, (if b.val ≤ r.val then pw (dotp (block k (i 1).val) (block q (i 1).val) b r) else 0) = den q k (768 * (i 1).val + r.val) :=
  sum_upto (i 1).val (i 1).isLt r (wgt q k (768 * (i 1).val + r.val))

theorem num_eq (i : grid0.Coords) (r : Fin 768) (d : Fin 128) :
    (∑ j ∈ Finset.range (i 1).val, ∑ b : Fin 768, v (768 * j + b.val) d * wgt q k (768 * (i 1).val + r.val) (768 * j + b.val))
      + ∑ b : Fin 768, block v (i 1).val b d * (if b.val ≤ r.val then pw (dotp (block k (i 1).val) (block q (i 1).val) b r) else 0)
      = num q k v (768 * (i 1).val + r.val) d := by
  unfold num
  simp only [mul_ite, mul_zero]
  exact sum_upto (i 1).val (i 1).isLt r (fun b => v b d * wgt q k (768 * (i 1).val + r.val) b)

theorem sums_nonneg (i : grid0.Coords) (r : Fin 768) : 0 ≤ ∑ j ∈ Finset.range (i 1).val, ∑ b : Fin 768, wgt q k (768 * (i 1).val + r.val) (768 * j + b.val) :=
  Finset.sum_nonneg fun _ _ => Finset.sum_nonneg fun _ _ => (pw_pos _).le

theorem pointO_eq (i : grid0.Coords) : pointO (F := Ideal) i (lift2 (block q (i 1).val)) (rows k) (cols v) (loopAt i (lift2 (block q (i 1).val)) (rows k) (cols v) (i 1).val)
    = lift2 fun (r : Fin 768) d => num q k v (768 * (i 1).val + r.val) d / den q k (768 * (i 1).val + r.val) := by
  funext y; obtain ⟨r, d, rfl⟩ := exists_ix2 y
  unfold pointO
  rw [keysAt_rows k _ _ _ (off5 i), lift2_apply, ← den_eq, ← num_eq]
  exact last_out _ _ _ _ i (loop_runs q k v i _ le_rfl) (sums_nonneg q k i) (fun b d => valsAt_cols v _ _ _ (off6 i) b d) r d

theorem pointL_eq (i : grid0.Coords) (r : Fin 768) : pointL (F := Ideal) i (lift2 (block q (i 1).val)) (rows k) (loopAt i (lift2 (block q (i 1).val)) (rows k) (cols v) (i 1).val) (ix4 0 0 0 r)
    = ((Real.log (den q k (768 * (i 1).val + r.val)) / Real.log 2 : ℝ) : EReal) := by
  unfold pointL
  rw [keysAt_rows k _ _ _ (off5 i), ← den_eq]
  exact last_lsum _ _ (block v (i 1).val) _ i (loop_runs q k v i _ le_rfl) (sums_nonneg q k i) (fun b d => valsAt_cols v _ (k0_off6_inb i) _ (off6 i) b d) r
end point

end Cert.AfwdTie

end
-- ==== Proof.AfwdHost.lean ====
module

public import proofs.«01_k».proof.Proof.AfwdGrid

/-!
# The attention's three packed arguments and its two arrays
-/

@[expose] public section

set_option maxRecDepth 16384

noncomputable section

namespace Cert.AfwdTie

open Idealize.ShloMosaic Idealize.SL.Sem Cert.Reals
open Cert.AfwdIdeal Cert.AfwdIdeal.Gen
open Cert.AttnTie (tab lane lane_eq rows exists_ix4 nil_zero)

theorem points (t : Fin cfg0.N) : t.val < 88 := lt_of_lt_of_eq t.isLt N_0
theorem coord1 (t : Fin cfg0.N) : (grid0.coords t 1).val = t.val % 11 := by
  have e1 : (grid0.coords t 1).val = t.val / 1 % 11 := Pipeline.Grid.coords_val t 1 (by decide) rfl
  simpa using e1

theorem index0 : ∀ t : Fin cfg0.N, win0_0.index t = ![t.val % 11, t.val / 11] := by decide +kernel
theorem index1 : ∀ t : Fin cfg0.N, win0_1.index t = ![0, 2 * (t.val / 11)] := by decide +kernel
theorem index2 : ∀ t : Fin cfg0.N, win0_2.index t = ![t.val / 11, 0, 0, 0] := by decide +kernel
theorem index3 : ∀ t : Fin cfg0.N, win0_3.index t = ![t.val % 11, t.val / 11] := by decide +kernel
theorem index4 : ∀ t : Fin cfg0.N, win0_4.index t = ![t.val / 11, t.val % 11, 0, 0] := by decide +kernel

/-- A point's rows, its head's columns among the queries', and among the keys'. -/
def row (t : Fin cfg0.N) (r : Fin 768) : Fin 8448 := ⟨768 * (t.val % 11) + r.val, by omega⟩
def col (t : Fin cfg0.N) (d : Fin 128) : Fin 1024 := ⟨128 * (t.val / 11) + d.val, by have := points t; omega⟩
def colK (t : Fin cfg0.N) (d : Fin 128) : Fin 2048 := ⟨256 * (t.val / 11) + d.val, by have := points t; omega⟩
def head (t : Fin cfg0.N) : Fin 8 := ⟨t.val / 11, by have := points t; omega⟩

theorem emb0 (t : Fin cfg0.N) (r : Fin 768) (j : Fin 128) : (win0_0.blk t).view.emb (ix2 r j) = (ix2 (row t r) (col t j) : S8448x1024.Idx) := by
  funext d
  apply Fin.ext
  match d with
  | ⟨0, _⟩ => blk_simp [index0]; exact congrArg (· + r.val) (mul_comm _ _)
  | ⟨1, _⟩ => blk_simp [index0]; exact congrArg (· + j.val) (mul_comm _ _)
theorem emb3 (t : Fin cfg0.N) (r : Fin 768) (j : Fin 128) : (win0_3.blk t).view.emb (ix2 r j) = (ix2 (row t r) (col t j) : S8448x1024.Idx) := by
  funext d
  apply Fin.ext
  match d with
  | ⟨0, _⟩ => blk_simp [index3]; exact congrArg (· + r.val) (mul_comm _ _)
  | ⟨1, _⟩ => blk_simp [index3]; exact congrArg (· + j.val) (mul_comm _ _)
theorem emb1 (t : Fin cfg0.N) (r : Fin 8448) (j : Fin 128) : (win0_1.blk t).view.emb (ix2 r j) = (ix2 r (colK t j) : S8448x2048.Idx) := by
  funext d
  apply Fin.ext
  match d with
  | ⟨0, _⟩ => blk_simp [index1]
  | ⟨1, _⟩ => blk_simp [index1]; show 2 * (t.val / 11) * 128 + j.val = 256 * (t.val / 11) + j.val; omega
theorem emb2 (t : Fin cfg0.N) (i : Fin 1) (j : Fin 11) (d : Fin 128) (b : Fin 768) :
    (win0_2.blk t).view.emb (ix4 i j d b) = (ix4 (head t) j d b : S8x11x128x768.Idx) := by
  funext a
  apply Fin.ext
  match a with
  | ⟨0, _⟩ => blk_simp [index2]; rfl
  | ⟨1, _⟩ => blk_simp [index2]
  | ⟨2, _⟩ => blk_simp [index2]
  | ⟨3, _⟩ => blk_simp [index2]
theorem emb4 (t : Fin cfg0.N) (i j z : Fin 1) (b : Fin 768) :
    (win0_4.blk t).view.emb (ix4 i j z b) = (ix4 (head t) ⟨t.val % 11, by omega⟩ 0 b : S8x11x1x768.Idx) := by
  funext a
  apply Fin.ext
  match a with
  | ⟨0, _⟩ => blk_simp [index4]; rfl
  | ⟨1, _⟩ => blk_simp [index4]
  | ⟨2, _⟩ => blk_simp [index4]; rfl
  | ⟨3, _⟩ => blk_simp [index4]

section
variable (m : (ℓ : Loc nD τ sig) → Buf (Elt Ideal) ℓ) (c : Dev nD)
variable (a0 a1 : Fin 8208 → Fin 8 → Fin 96 → ℝ) (a2 : Fin 8208 → Fin 8 → Fin 64 → ℝ)
variable (h0 : (m (c, Proc.tc.devRef main_arg0) : S8208x8x96.Idx → EReal) = lift3 a0) (h1 : (m (c, Proc.tc.devRef main_arg1) : S8208x8x96.Idx → EReal) = lift3 a1)
variable (h2 : (m (c, Proc.tc.devRef main_arg2) : S8208x8x64.Idx → EReal) = lift3 a2)

/-! The packed arguments. -/

include h0 in
theorem V2 (r : Fin 8448) (j : Fin 1024) : (V m c main_v2 : S8448x1024.Idx → EReal) (ix2 r j) = ((tab a0 (j.val / 128) r.val (lane j.val) : ℝ) : EReal) := by
  unfold V
  after_reads_at
  rw [h0]
  simp only [lift3_apply, nil_zero]
  exact (apply_dite (fun x : ℝ => (x : EReal)) _ _ _).symm

abbrev X3 : FVec Ideal S8448x8x128 .f32 := V m c main_v3
abbrev X4 : FVec Ideal S8448x8x128 .f32 := V m c main_v4
abbrev X7 : FVec Ideal S8448x2048 .bf16 := V m c main_v7
abbrev X8 : FVec Ideal S8448x8x128 .f32 := V m c main_v8
abbrev X11 : FVec Ideal S8x11x128x768 .bf16 := V m c main_v11

theorem line7 : X7 m c = truncf .bf16 (shapeCast S8448x2048 (concatenate S8448x8x256 2 [⟨S8448x8x128, X3 m c⟩, ⟨S8448x8x128, X4 m c⟩]
    concatenates_S8448x8x128_S8448x8x128_S8448x8x256_d2) shapeCasts_S8448x8x256_S8448x2048) bitsLt_bf16_f32 := by
  unfold X7 X3 X4 V; after_reads_simp
  try rfl
theorem line11 : X11 m c = transpose S8x11x128x768 [2, 0, 3, 1] (shapeCast S11x768x8x128 (truncf .bf16 (X8 m c) bitsLt_bf16_f32)
    shapeCasts_S8448x8x128_S11x768x8x128) transposes_S11x768x8x128_S8x11x128x768_2_0_3_1 := by
  unfold X11 X8 V; after_reads_simp
  try rfl

include h1 in
theorem val3 (r : Fin 8448) (h : Fin 8) (d : Fin 128) : X3 m c (ix3 r h d) = ((tab a1 h.val r.val d : ℝ) : EReal) := by
  unfold X3 V
  after_reads_at
  rw [h1]
  simp only [lift3_apply, nil_zero]
  unfold tab
  by_cases hr : r.val < 8208 ∧ d.val < 96
  · rw [dif_pos hr, dif_pos ⟨hr.1, h.isLt, hr.2⟩]
  · rw [dif_neg hr, dif_neg (fun hh => hr ⟨hh.1, hh.2.2⟩)]
include h2 in
theorem val8 (r : Fin 8448) (h : Fin 8) (d : Fin 128) : X8 m c (ix3 r h d) = ((tab a2 h.val r.val d : ℝ) : EReal) := by
  unfold X8 V
  after_reads_at
  rw [h2]
  simp only [lift3_apply, nil_zero]
  unfold tab
  by_cases hr : r.val < 8208 ∧ d.val < 64
  · rw [dif_pos hr, dif_pos ⟨hr.1, h.isLt, hr.2⟩]
  · rw [dif_neg hr, dif_neg (fun hh => hr ⟨hh.1, hh.2.2⟩)]

include h1 in
theorem V7 (r : Fin 8448) (j : Fin 2048) (hj : j.val % 256 < 128) :
    X7 m c (ix2 r j) = ((tab a1 (j.val / 256) r.val (lane j.val) : ℝ) : EReal) := by
  rw [line7]
  have e := val3 m c a1 h1
  generalize X3 m c = y at e ⊢
  generalize X4 m c = z
  pointwise [e]
  rw [dif_pos hj, lane_eq j.val ⟨j.val % 256, hj⟩ (by dsimp only; omega)]

include h2 in
theorem V11 (h : Fin 8) (j : Fin 11) (d : Fin 128) (b : Fin 768) :
    X11 m c (ix4 h j d b) = ((tab a2 h.val (768 * j.val + b.val) d : ℝ) : EReal) := by
  rw [line11]
  have e := val8 m c a2 h2
  generalize X8 m c = y at e ⊢
  pointwise [e]
  try simp only [mul_comm j.val 768]

/-! The blocks of every point. -/

include h0 in
theorem blk0 (t : Fin cfg0.N) : (iblk m c 0 t : S768x128.Idx → EReal) = lift2 (block (tab a0 (t.val / 11)) (t.val % 11)) := by
  funext y; obtain ⟨r, d, rfl⟩ := exists_ix2 y
  show (V m c main_v2 : S8448x1024.Idx → EReal) ((win0_0.blk t).view.emb (ix2 r d)) = _
  rw [emb0]
  refine (V2 m c a0 h0 (row t r) (col t d)).trans ?_
  rw [lane_eq (col t d).val d (by unfold col; dsimp only; omega), show (col t d).val / 128 = t.val / 11 by unfold col; dsimp only; omega]
  rfl
include h1 in
theorem blk1 (t : Fin cfg0.N) : (iblk m c 1 t : S8448x128.Idx → EReal) = rows (tab a1 (t.val / 11)) := by
  funext y; obtain ⟨r, d, rfl⟩ := exists_ix2 y
  show (V m c main_v7 : S8448x2048.Idx → EReal) ((win0_1.blk t).view.emb (ix2 r d)) = _
  rw [emb1]
  have hd := d.isLt
  refine (V7 m c a1 h1 r (colK t d) (by unfold colK; dsimp only; omega)).trans ?_
  rw [lane_eq (colK t d).val d (by unfold colK; dsimp only; omega), show (colK t d).val / 256 = t.val / 11 by unfold colK; dsimp only; omega]
  rfl
include h2 in
theorem blk2 (t : Fin cfg0.N) : (iblk m c 2 t : S1x11x128x768.Idx → EReal) = cols (tab a2 (t.val / 11)) := by
  funext y; obtain ⟨i, j, d, b, rfl⟩ := exists_ix4 y
  show (V m c main_v11 : S8x11x128x768.Idx → EReal) ((win0_2.blk t).view.emb (ix4 i j d b)) = _
  rw [emb2]
  exact V11 m c a2 h2 (head t) j d b

/-! The two arrays. -/

def outO : S8448x1024.Idx → EReal := fun i =>
  ((num (tab a0 ((i 1).val / 128)) (tab a1 ((i 1).val / 128)) (tab a2 ((i 1).val / 128)) (i 0).val (lane (i 1).val)
    / den (tab a0 ((i 1).val / 128)) (tab a1 ((i 1).val / 128)) (i 0).val : ℝ) : EReal)
def outL : S8x11x1x768.Idx → EReal := fun i =>
  ((Real.log (den (tab a0 (i 0).val) (tab a1 (i 0).val) (768 * (i 1).val + (i 3).val)) / Real.log 2 : ℝ) : EReal)

include h0 h1 h2 in
theorem arr3 : (dats m 0 c).arrAt 3 cfg0.N = outO a0 a1 a2 := by
  refine (dats m 0 c).arrAt_eq_of_covers 3 _ (by decide +kernel) fun t hf y => ?_
  blk_simp
  rw [after0_3]
  unfold outsAt0
  dsimp only
  rw [out3_eq, blk0 m c a0 h0, blk1 m c a1 h1, blk2 m c a2 h2, queries_lift, ← coord1, pointO_eq]
  obtain ⟨r, j, rfl⟩ := exists_ix2 y
  rw [emb3, lift2_apply, coord1]
  show _ = outO a0 a1 a2 (ix2 (row t r) (col t j))
  unfold outO
  show _ = ((num (tab a0 ((col t j).val / 128)) (tab a1 ((col t j).val / 128)) (tab a2 ((col t j).val / 128)) (row t r).val (lane (col t j).val)
    / den (tab a0 ((col t j).val / 128)) (tab a1 ((col t j).val / 128)) (row t r).val : ℝ) : EReal)
  rw [lane_eq (col t j).val j (by unfold col; dsimp only; omega), show (col t j).val / 128 = t.val / 11 by unfold col; dsimp only; omega]
  rfl

include h0 h1 h2 in
theorem arr4 : (dats m 0 c).arrAt 4 cfg0.N = outL a0 a1 := by
  refine (dats m 0 c).arrAt_eq_of_covers 4 _ (by decide +kernel) fun t hf y => ?_
  blk_simp
  rw [after0_4]
  unfold outsAt0
  dsimp only
  rw [out4_eq, blk0 m c a0 h0, blk1 m c a1 h1, blk2 m c a2 h2, queries_lift, ← coord1]
  obtain ⟨i, j, z, b, rfl⟩ := exists_ix4 y
  obtain rfl : i = 0 := Subsingleton.elim _ _
  obtain rfl : j = 0 := Subsingleton.elim _ _
  obtain rfl : z = 0 := Subsingleton.elim _ _
  rw [emb4]
  refine (pointL_eq _ _ _ _ b).trans ?_
  rw [coord1]
  show _ = ((Real.log (den (tab a0 (t.val / 11)) (tab a1 (t.val / 11)) (768 * (t.val % 11) + b.val)) / Real.log 2 : ℝ) : EReal)
  rfl
end

end Cert.AfwdTie

end
-- ==== Proof.AfwdRef.lean ====
module

public import proofs.«01_k».proof.Proof.AttnTie
public import proofs.«01_k».proof.Proof.Gen.AfwdRefIdeal.Run
public import proofs.«01_k».proof.Proof.Gen.AfwdRefIdeal.Read

/-!
# The attention as reference.py writes it, over the reals
-/

@[expose] public section

set_option maxRecDepth 16384

noncomputable section

namespace Cert.AfwdTie

open Idealize.ShloMosaic Idealize.SL.Sem Cert.Reals
open Cert.AfwdRefIdeal Cert.AfwdRefIdeal.Read
open Cert.AttnTie (tab lane lane_eq exists_ix4 nil_zero fill sel scale_eq log2_eq score masked top ex total prob out lsum fold_masked exp_masked div_total log_total sc)

/-- The sequence followed by rows of zeros. -/
def more {n : ℕ} (a : Fin 8208 → Fin 8 → Fin n → ℝ) (r : Fin 8448) (h : Fin 8) (x : Fin n) : ℝ :=
  if hr : r.val < 8208 then a ⟨r.val, hr⟩ h x else 0

variable (a0 a1 : Fin 8208 → Fin 8 → Fin 96 → ℝ) (a2 : Fin 8208 → Fin 8 → Fin 64 → ℝ) (h : Fin 8) (q b : Fin 8448)

theorem ref0 (x : Fin 96) : val_main_v0 (F := Ideal) (lift3 a0) (ix3 q h x) = ((more a0 q h x : ℝ) : EReal) := by
  unfold val_main_v0 val_main_call0_v0 val_main_c
  pointwise [lift3_apply]
  simp only [nil_zero]
  exact (apply_dite (fun x : ℝ => (x : EReal)) _ _ _).symm
theorem ref1 (x : Fin 96) : val_main_v1 (F := Ideal) (lift3 a1) (ix3 b h x) = ((more a1 b h x : ℝ) : EReal) := by
  unfold val_main_v1 val_main_call1_v0 val_main_c_0
  pointwise [lift3_apply]
  simp only [nil_zero]
  exact (apply_dite (fun x : ℝ => (x : EReal)) _ _ _).symm
theorem ref2 (x : Fin 64) : val_main_v2 (F := Ideal) (lift3 a2) (ix3 b h x) = ((more a2 b h x : ℝ) : EReal) := by
  unfold val_main_v2 val_main_call2_v0 val_main_c_1
  pointwise [lift3_apply]
  simp only [nil_zero]
  exact (apply_dite (fun x : ℝ => (x : EReal)) _ _ _).symm
theorem ref6 (x : Fin 96) : val_main_v6 (F := Ideal) (lift3 a0) (ix3 q h x) = ((more a0 q h x * sc : ℝ) : EReal) := by
  unfold val_main_v6 val_main_v5 val_main_v4 val_main_v3 val_main_cst val_main_cst_2
  pointwise [ref0]
  rw [scale_eq, ← EReal.coe_mul]
theorem ref14 : val_main_v14 (F := Ideal) (lift3 a0) (lift3 a1) (ix3 h q b) = masked (more a0) (more a1) h q b := by
  unfold val_main_v14 val_main_call3_v1 val_main_v13 val_main_v12 val_main_v11 val_main_v10 val_main_v9 val_main_v8 val_main_v7 val_main_call3_v2 val_main_call3_v0 val_main_cst_3
  pointwise [ref1, ref6]
  simp only [fill, sel (n := 8448) (by norm_num), ← EReal.coe_mul, sum_coe]
  rfl
theorem ref15 : val_main_v15 (F := Ideal) (lift3 a0) (lift3 a1) (ix2 h q) = ((top (more a0) (more a1) h q : ℝ) : EReal) := by
  unfold val_main_v15 val_main_cst_4
  pointwise [ref14, neg_inf_f32]
  exact fold_masked (more a0) (more a1) h q
theorem ref16 : val_main_v16 (F := Ideal) (ix2 h q) = ⊥ := by
  unfold val_main_v16 val_main_cst_5
  pointwise [neg_inf_f32]
theorem ref17 : val_main_v17 (F := Ideal) (lift3 a0) (lift3 a1) (ix2 h q) = ((top (more a0) (more a1) h q : ℝ) : EReal) := by
  rw [val_main_v17_apply, ref16, ref15]
  exact max_eq_right (bot_le (a := ((top (more a0) (more a1) h q : ℝ) : EReal)))
theorem ref21 : val_main_v21 (F := Ideal) (lift3 a0) (lift3 a1) (ix3 h q b) = ((ex (more a0) (more a1) h q b : ℝ) : EReal) := by
  unfold val_main_v21 val_main_v20 val_main_v19 val_main_v18
  pointwise [ref14, ref17]
  exact exp_masked (more a0) (more a1) h q b
theorem ref22 : val_main_v22 (F := Ideal) (lift3 a0) (lift3 a1) (ix2 h q) = ((total (more a0) (more a1) h q : ℝ) : EReal) := by
  unfold val_main_v22 val_main_cst_6
  pointwise [ref21, zero_f32]
  simp only [sum_coe]
  try simp only [← EReal.coe_add, zero_add]
  rfl
theorem ref25 : val_main_v25 (F := Ideal) (lift3 a0) (lift3 a1) (ix3 h q b) = ((prob (more a0) (more a1) h q b : ℝ) : EReal) := by
  unfold val_main_v25 val_main_v24 val_main_v23
  pointwise [ref21, ref22]
  exact div_total (more a0) (more a1) h q _
theorem ref27 (d : Fin 64) : val_main_v27 (F := Ideal) (lift3 a0) (lift3 a1) (lift3 a2) (ix3 q h d) = ((out (more a0) (more a1) (more a2) h q d : ℝ) : EReal) := by
  unfold val_main_v27 val_main_v26
  pointwise [ref2, ref25]
  simp only [← EReal.coe_mul, sum_coe]
  rfl

/-! The log-sum's own lines are the same up to the sum. -/

theorem twin39 (x0 x1 : FVec Ideal S8208x8x96 .f32) : val_main_v39 (F := Ideal) x0 x1 = val_main_v14 x0 x1 := rfl
theorem twin40 (x0 x1 : FVec Ideal S8208x8x96 .f32) : val_main_v40 (F := Ideal) x0 x1 = val_main_v15 x0 x1 := by
  unfold val_main_v40 val_main_v15; rw [twin39]; rfl
theorem ref44 : val_main_v44 (F := Ideal) (lift3 a0) (lift3 a1) (ix3 h q b) = ((ex (more a0) (more a1) h q b : ℝ) : EReal) := by
  unfold val_main_v44 val_main_v43 val_main_v42 val_main_v41
  rw [twin39, twin40]
  pointwise [ref14, ref15]
  exact exp_masked (more a0) (more a1) h q b
theorem ref45 : val_main_v45 (F := Ideal) (lift3 a0) (lift3 a1) (ix2 h q) = ((total (more a0) (more a1) h q : ℝ) : EReal) := by
  unfold val_main_v45 val_main_cst_11
  pointwise [ref44, zero_f32]
  simp only [sum_coe]
  try simp only [← EReal.coe_add, zero_add]
  rfl
theorem ref46 : val_main_v46 (F := Ideal) (lift3 a0) (lift3 a1) (ix2 h q) = ((Real.log (total (more a0) (more a1) h q) : ℝ) : EReal) := by
  rw [val_main_v46_apply, ref45]
  exact log_total (more a0) (more a1) h q
theorem ref47 : val_main_v47 (F := Ideal) (lift3 a0) (lift3 a1) (ix2 h q) = ((top (more a0) (more a1) h q + Real.log (total (more a0) (more a1) h q) : ℝ) : EReal) := by
  rw [val_main_v47_apply, ref46, twin40, ref15]
  exact (EReal.coe_add _ _).symm
theorem ref49 : val_main_v49 (F := Ideal) (ix2 h q) = ((Real.log 2 : ℝ) : EReal) := by
  unfold val_main_v49 val_main_v48 val_main_cst_12
  pointwise []
  exact log2_eq
theorem ref50 : val_main_v50 (F := Ideal) (lift3 a0) (lift3 a1) (ix2 h q) = ((lsum (more a0) (more a1) h q : ℝ) : EReal) := by
  rw [val_main_v50_apply, ref47, ref49]
  exact div_coe_coe (Real.log_pos (by norm_num)).ne'
theorem ref54 (t : Fin 11) (z : Fin 1) (j : Fin 768) :
    val_main_v54 (F := Ideal) (lift3 a0) (lift3 a1) (ix4 h t z j) = ((lsum (more a0) (more a1) h ⟨768 * t.val + j.val, by omega⟩ : ℝ) : EReal) := by
  unfold val_main_v54
  pointwise [ref50]
  try simp only [mul_comm t.val 768]
theorem ref53 (j : Fin 1024) : val_main_v53 (F := Ideal) (lift3 a0) (lift3 a1) (lift3 a2) (ix2 q j)
    = ((if hd : (lane j.val).val < 64 then out (more a0) (more a1) (more a2) ⟨j.val / 128, by omega⟩ q ⟨(lane j.val).val, hd⟩ else 0 : ℝ) : EReal) := by
  unfold val_main_v53 val_main_v52 val_main_v51 val_main_call5_v0 val_main_c_13
  pointwise [ref27]
  simp only [nil_zero]
  by_cases hd : j.val % 128 < 64
  · rw [dif_pos ⟨by omega, hd⟩]; exact congrArg (fun x : ℝ => (x : EReal)) (by rw [dif_pos (show (lane j.val).val < 64 from hd)]; rfl)
  · rw [dif_neg fun hh => hd hh.2]; exact congrArg (fun x : ℝ => (x : EReal)) (by rw [dif_neg (show ¬ (lane j.val).val < 64 from hd)])

end Cert.AfwdTie

end
-- ==== Proof.AfwdTie.lean ====
module

public import proofs.«01_k».proof.Proof.AfwdHost
public import proofs.«01_k».proof.Proof.AfwdRef
public import proofs.«01_k».proof.Proof.Gen.Pre_afwd_finite

/-!
# The attention's two results as real numbers: by the kernel's sums and by the softmax
-/

@[expose] public section

set_option maxRecDepth 16384

noncomputable section

namespace Cert.AfwdTie

open Idealize.ShloMosaic Idealize.SL.Sem Cert.Reals
open Cert.AfwdIdeal
open Cert.AttnTie (tab lane lane_eq exists_ix4 score top ex total prob out lsum sc total_pos sum_lanes tab_lane)

theorem tab_more {n : ℕ} (a : Fin 8208 → Fin 8 → Fin n → ℝ) (h : Fin 8) (r : Fin 8448) (d : Fin 128) (hd : d.val < n) :
    tab a h.val r.val d = more a r h ⟨d.val, hd⟩ := by
  unfold tab more
  by_cases hr : r.val < 8208
  · rw [dif_pos ⟨hr, h.isLt, hd⟩, dif_pos hr]
  · rw [dif_neg (fun hh => hr hh.1), dif_neg hr]

variable (a0 a1 : Fin 8208 → Fin 8 → Fin 96 → ℝ) (a2 : Fin 8208 → Fin 8 → Fin 64 → ℝ) (h : Fin 8) (q b : Fin 8448)

/-- The kernel's weights are the exponentials of the scores. -/
theorem wgt_eq : wgt (tab a0 h.val) (tab a1 h.val) q.val b.val = Real.exp (score (more a0) (more a1) h q b) := by
  have e : ∑ d, tab a1 h.val b.val d * tab a0 h.val q.val d = ∑ x, more a1 b h x * more a0 q h x := by
    rw [sum_lanes (n := 96) (by omega) _ fun d hd => by rw [tab_lane a0 _ _ d hd, mul_zero]]
    exact Finset.sum_congr rfl fun x _ => by
      rw [tab_more a1 h b _ (show (Fin.castLE _ x).val < 96 from x.isLt), tab_more a0 h q _ (show (Fin.castLE _ x).val < 96 from x.isLt)]; rfl
  have h2 : Real.log 2 ≠ 0 := (Real.log_pos (by norm_num)).ne'
  have es : score (more a0) (more a1) h q b = (∑ x, more a1 b h x * more a0 q h x) * sc := by
    unfold score; rw [Finset.sum_mul]; exact Finset.sum_congr rfl fun x _ => by ring
  unfold wgt pw
  rw [e, es, Real.rpow_def_of_pos (by norm_num)]
  congr 1
  unfold c2 sc
  field_simp

theorem ex_eq : ex (more a0) (more a1) h q b
    = Real.exp (-top (more a0) (more a1) h q) * if b.val ≤ q.val then wgt (tab a0 h.val) (tab a1 h.val) q.val b.val else 0 := by
  unfold ex
  by_cases hb : b.val ≤ q.val
  · rw [if_pos hb, if_pos hb, wgt_eq, ← Real.exp_add]; congr 1; ring
  · rw [if_neg hb, if_neg hb, mul_zero]

theorem total_eq : total (more a0) (more a1) h q = Real.exp (-top (more a0) (more a1) h q) * den (tab a0 h.val) (tab a1 h.val) q.val := by
  unfold total den
  rw [Finset.sum_range, Finset.mul_sum]
  exact Finset.sum_congr rfl fun b _ => ex_eq a0 a1 h q b

theorem den_pos : 0 < den (tab a0 h.val) (tab a1 h.val) q.val := by
  have ht := total_pos (more a0) (more a1) h q
  rw [total_eq] at ht
  exact (mul_pos_iff_of_pos_left (Real.exp_pos _)).mp ht

theorem lsum_eq : lsum (more a0) (more a1) h q = Real.log (den (tab a0 h.val) (tab a1 h.val) q.val) / Real.log 2 := by
  unfold lsum
  rw [total_eq, Real.log_mul (Real.exp_pos _).ne' (den_pos a0 a1 h q).ne', Real.log_exp]
  congr 1
  ring

theorem prob_eq : prob (more a0) (more a1) h q b
    = (if b.val ≤ q.val then wgt (tab a0 h.val) (tab a1 h.val) q.val b.val else 0) / den (tab a0 h.val) (tab a1 h.val) q.val := by
  unfold prob
  rw [ex_eq, total_eq, mul_div_mul_left _ _ (Real.exp_pos _).ne']

theorem out_eq (d : Fin 128) : num (tab a0 h.val) (tab a1 h.val) (tab a2 h.val) q.val d / den (tab a0 h.val) (tab a1 h.val) q.val
    = if hd : d.val < 64 then out (more a0) (more a1) (more a2) h q ⟨d.val, hd⟩ else 0 := by
  by_cases hd : d.val < 64
  · rw [dif_pos hd]
    unfold num out
    rw [Finset.sum_range, Finset.sum_div]
    refine Finset.sum_congr rfl fun b _ => ?_
    rw [prob_eq, tab_more a2 h b d hd, mul_div_assoc]
  · rw [dif_neg hd]
    unfold num
    rw [Finset.sum_eq_zero fun b _ => by rw [tab_lane a2 _ _ d (by omega), zero_mul], zero_div]

theorem outO_eq (i : S8448x1024.Idx) : outO a0 a1 a2 i = AfwdRefIdeal.Read.val_main_v53 (F := Ideal) (lift3 a0) (lift3 a1) (lift3 a2) i := by
  obtain ⟨r, j, rfl⟩ := exists_ix2 i
  rw [ref53]
  exact congrArg (fun x : ℝ => (x : EReal)) (out_eq a0 a1 a2 ⟨j.val / 128, by omega⟩ r (lane j.val))

theorem outL_eq (i : S8x11x1x768.Idx) : outL a0 a1 i = AfwdRefIdeal.Read.val_main_v54 (F := Ideal) (lift3 a0) (lift3 a1) i := by
  obtain ⟨h, t, z, j, rfl⟩ := exists_ix4 i
  rw [ref54, lsum_eq]
  rfl

theorem pre_real (x y : Vec Ideal S8208x8x96 .f32) (z : Vec Ideal S8208x8x64 .f32)
    (p : (Pre_afwd_finite.fn (F := Ideal) x y z).1 = (fun _ => 1#1) ∧ (Pre_afwd_finite.fn (F := Ideal) x y z).2.1 = (fun _ => 1#1)
      ∧ (Pre_afwd_finite.fn (F := Ideal) x y z).2.2 = (fun _ => 1#1)) :
    (∃ a, x = lift3 a) ∧ (∃ a, y = lift3 a) ∧ ∃ a, z = lift3 a := by
  have real {s : Shape} (w : Vec Ideal s .f32) (hw : ∀ i, Ideal.cmp .olt (max (w i) (-(w i))) ⊤ = 1#1) (i : s.Idx) : ∃ a : ℝ, w i = (a : EReal) := of_abs_lt_top (hw i)
  exact ⟨eq_lift3 x (real x fun i => by rw [← inf_f32]; exact congrFun p.1 i), eq_lift3 y (real y fun i => by rw [← inf_f32]; exact congrFun p.2.1 i),
    eq_lift3 z (real z fun i => by rw [← inf_f32]; exact congrFun p.2.2 i)⟩

end Cert.AfwdTie

end
-- ==== Proof.AttnBits.lean ====
module

public import proofs.«01_k».proof.Defs
public import proofs.«01_k».proof.Proof.Gen.Attn.Frame
public import proofs.«01_k».proof.Proof.AttnFrame

/-!
# The frame of the attention backward program as it is

The ideal program with every named constant read as its literal is the program itself.
-/

@[expose] public section

set_option maxRecDepth 16384

noncomputable section

namespace Cert.AttnIdeal.Body

open Idealize.ShloMosaic Idealize.ShloMosaic.TcCoe Idealize.ShloMosaic.Tactic
open Idealize.SL.Sem

/-- Every named constant its literal. -/
local instance literal : Named Bits where
  named _ _ {φ} b := FloatOps.ofBits φ b

theorem defs_bits : Cert.Attn.defs (F := Bits) = Cert.AttnIdeal.defs (F := Bits) := by
  sl_kernel_rfl

theorem main_bits : Cert.Attn.main (F := Bits) = Cert.AttnIdeal.main (F := Bits) := by
  sl_kernel_rfl

theorem bits_frame : quiescent_Attn := fun m ρ _ => by
  have h := kernel_frame (F := Bits) m ρ
  rw [← defs_bits, ← main_bits] at h
  exact h

end Cert.AttnIdeal.Body
end
-- ==== Proof.lean ====
/-
  The certificate: each program's frame, each idealization, and each pair's results as one function of the arguments.
-/
module

public import proofs.«01_k».proof.Proof.Gen.Pre_norm_finite
public import proofs.«01_k».proof.Proof.Gen.Pre_loss_finite
public import proofs.«01_k».proof.Proof.Gen.Pre_dact_finite
public import proofs.«01_k».proof.Defs
public import proofs.«01_k».proof.Proof.Gen.NormRefIdeal.Run
public import proofs.«01_k».proof.Proof.Gen.NormRefIdeal.Read
public import proofs.«01_k».proof.Proof.Gen.NormIdeal.Value
public import proofs.«01_k».proof.Proof.Gen.Norm.Frame
public import proofs.«01_k».proof.Proof.Gen.LossRefIdeal.Run
public import proofs.«01_k».proof.Proof.Gen.LossRefIdeal.Read
public import proofs.«01_k».proof.Proof.Gen.LossIdeal.Value
public import proofs.«01_k».proof.Proof.Gen.Loss.Frame
public import proofs.«01_k».proof.Proof.Gen.DactRefIdeal.Run
public import proofs.«01_k».proof.Proof.Gen.DactRefIdeal.Read
public import proofs.«01_k».proof.Proof.Gen.DactIdeal.Value
public import proofs.«01_k».proof.Proof.Gen.Dact.Frame
public import proofs.«01_k».proof.Proof.Gen.DmergeRefIdeal.Run
public import proofs.«01_k».proof.Proof.Gen.DmergeRefIdeal.Read
public import proofs.«01_k».proof.Proof.Gen.DmergeIdeal.Value
public import proofs.«01_k».proof.Proof.Gen.Dmerge.Frame
public import proofs.«01_k».proof.Proof.Gen.LbRefIdeal.Run
public import proofs.«01_k».proof.Proof.Gen.LbRefIdeal.Read
public import proofs.«01_k».proof.Proof.Gen.LbIdeal.Value
public import proofs.«01_k».proof.Proof.Gen.Lb.Frame
public import proofs.«01_k».proof.Proof.Gen.Pre_attn_finite
public import proofs.«01_k».proof.Proof.Gen.AttnRefIdeal.Run
public import proofs.«01_k».proof.Proof.Gen.AttnRefIdeal.Read
public import proofs.«01_k».proof.Proof.Gen.AttnIdeal.Frame
public import proofs.«01_k».proof.Proof.Gen.AttnIdeal.Loops
public import proofs.«01_k».proof.Proof.Gen.Attn.Frame
public import proofs.«01_k».proof.Proof.Gen.Pre_afwd_finite
public import proofs.«01_k».proof.Proof.Gen.AfwdRefIdeal.Run
public import proofs.«01_k».proof.Proof.Gen.AfwdRefIdeal.Read
public import proofs.«01_k».proof.Proof.Gen.AfwdIdeal.Value
public import proofs.«01_k».proof.Proof.Gen.AfwdIdeal.Loops
public import proofs.«01_k».proof.Proof.Gen.Afwd.Frame
public import proofs.«01_k».proof.Proof.Gen.Mla.Frame
public import proofs.«01_k».proof.Proof.Gen.MlaIdeal.Frame
public import proofs.«01_k».proof.Proof.Gen.MlaRefIdeal.Run
public import proofs.«01_k».proof.Proof.Gen.Hg.Frame
public import proofs.«01_k».proof.Proof.Gen.HgIdeal.Frame
public import proofs.«01_k».proof.Proof.Gen.HgRefIdeal.Run
public import proofs.«01_k».proof.Proof.Gen.Nfwd.Frame
public import proofs.«01_k».proof.Proof.Gen.NfwdIdeal.Value
public import proofs.«01_k».proof.Proof.Gen.NfwdRefIdeal.Run
public import proofs.«01_k».proof.Proof.Gen.NfwdRefIdeal.Read
public import proofs.«01_k».proof.Proof.Gen.Act.Frame
public import proofs.«01_k».proof.Proof.Gen.ActIdeal.Value
public import proofs.«01_k».proof.Proof.Gen.ActRefIdeal.Run
public import proofs.«01_k».proof.Proof.Gen.ActRefIdeal.Read
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import proofs.«01_k».proof.Proof.Gen.Lbf.Frame
public import proofs.«01_k».proof.Proof.Gen.LbfIdeal.Value
public import proofs.«01_k».proof.Proof.Gen.LbfRefIdeal.Run
public import proofs.«01_k».proof.Proof.Gen.LbfRefIdeal.Read
public import proofs.«01_k».proof.Proof.Gen.Merge.Frame
public import proofs.«01_k».proof.Proof.Gen.MergeIdeal.Value
public import proofs.«01_k».proof.Proof.Gen.MergeRefIdeal.Run
public import proofs.«01_k».proof.Proof.Gen.Asmall.Frame
public import proofs.«01_k».proof.Proof.Gen.AsmallIdeal.Frame
public import proofs.«01_k».proof.Proof.Gen.AsmallIdeal.Value
public import proofs.«01_k».proof.Proof.Gen.AsmallRefIdeal.Run
public import proofs.«01_k».proof.Proof.Gen.AsmallRefIdeal.Read
public import proofs.«01_k».proof.Proof.Gen.Front.Frame
public import proofs.«01_k».proof.Proof.Gen.FrontIdeal.Frame
public import proofs.«01_k».proof.Proof.Gen.FrontIdeal.Value
public import proofs.«01_k».proof.Proof.Gen.FrontRefIdeal.Run
public import proofs.«01_k».proof.Proof.Gen.FrontRefIdeal.Read
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.Dxn.Frame
public import proofs.«01_k».proof.Proof.Gen.DxnIdeal.Frame
public import proofs.«01_k».proof.Proof.Gen.DxnIdeal.Value
public import proofs.«01_k».proof.Proof.Gen.DxnRefIdeal.Run
public import proofs.«01_k».proof.Proof.Gen.DxnRefIdeal.Read
public import proofs.«01_k».proof.Proof.Gen.Sum.Frame
public import proofs.«01_k».proof.Proof.Gen.SumIdeal.Frame
public import proofs.«01_k».proof.Proof.Gen.SumIdeal.Value
public import proofs.«01_k».proof.Proof.Gen.SumRefIdeal.Run
public import proofs.«01_k».proof.Proof.Gen.SumRefIdeal.Read
public import proofs.«01_k».proof.Proof.Gen.Adam.Frame
public import proofs.«01_k».proof.Proof.Gen.AdamIdeal.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.Gen.MergeRefIdeal.Read
public import proofs.«01_k».proof.Proof.Gen.Pre_lbf_finite
public import proofs.«01_k».proof.Proof.Lb
public import proofs.«01_k».proof.Proof.Norm
public import proofs.«01_k».proof.Proof.Loss
public import proofs.«01_k».proof.Proof.Dact
public import proofs.«01_k».proof.Proof.Dmerge
public import proofs.«01_k».proof.Proof.Out
public import proofs.«01_k».proof.Proof.Dxn
public import proofs.«01_k».proof.Proof.Sum
public import proofs.«01_k».proof.Proof.Asmall
public import proofs.«01_k».proof.Proof.Adam
public import proofs.«01_k».proof.Proof.Merge
public import proofs.«01_k».proof.Proof.Lbf
public import proofs.«01_k».proof.Proof.Down
public import proofs.«01_k».proof.Proof.Act
public import proofs.«01_k».proof.Proof.Nfwd
public import proofs.«01_k».proof.Proof.AfwdTie
import proofs.«01_k».proof.Proof.AttnBits
public import proofs.«01_k».proof.Proof.AttnTie
public import Idealize.ShloMosaic.Adequacy
public import Idealize.ShloMosaic.Init
public import Idealize.ShloMosaic.Lib.Quiescent

@[expose] public section

noncomputable section

namespace Cert.Proof

open Idealize.ShloMosaic Idealize.SL.Sem

/-! ### The lower bounds' gradient -/

theorem lb_ref_frame : quiescent_LbRefIdeal := fun m ρ _ =>
  (θ_run Cert.LbRefIdeal.defs _ _).mono (fun r h => ⟨fun c => (h c).2, sem_eq_zero_of_no_sems (by decide) r.2⟩)
    (Cert.LbRefIdeal.Value.run (F := Ideal) m ρ)

theorem lb_value : algebraic_LbIdeal_LbRefIdeal_pre_lb_finite := by
  intro m ρ m' ρ' hpre hagree
  refine ⟨_, Cert.LbIdeal.Value.run (F := Ideal) m ρ, ?_⟩
  refine (θ_run Cert.LbRefIdeal.defs _ _).mono (fun _ h c => ⟨?_, (h c).2⟩) (Cert.LbRefIdeal.Value.run (F := Ideal) m' ρ')
  rw [(h c).1, Cert.LbRefIdeal.Read.val_main_v50_eq]
  simp only [hagree c]
  obtain ⟨⟨a, ha⟩, b, hb⟩ := Cert.LbTie.pre_real _ _ (hpre c)
  rw [ha, hb, Cert.LbTie.ref, Cert.LbTie.kernel]

/-! ### A norm's gradient -/

theorem norm_ref_frame : quiescent_NormRefIdeal := fun m ρ _ =>
  (θ_run Cert.NormRefIdeal.defs _ _).mono (fun r h => ⟨fun c => (h c).2.2, sem_eq_zero_of_no_sems (by decide) r.2⟩)
    (Cert.NormRefIdeal.Value.run (F := Ideal) m ρ)

theorem norm_value : algebraic_NormIdeal_NormRefIdeal_pre_norm_finite := by
  intro m ρ m' ρ' hpre hagree
  refine ⟨_, _, Cert.NormIdeal.Value.run_blocks (F := Ideal) m ρ, ?_⟩
  refine (θ_run Cert.NormRefIdeal.defs _ _).mono (fun _ h c => ⟨?_, ?_, (h c).2.2⟩) (Cert.NormRefIdeal.Value.run (F := Ideal) m' ρ')
  all_goals obtain ⟨⟨a, ha⟩, ⟨w, hw⟩, g, hg⟩ := Cert.NormTie.pre_real _ _ _ _ (hpre c)
  · rw [(h c).1, Cert.NormRefIdeal.Read.val_main_v35_eq, Cert.NormTie.arr4 m c a g w ha hw hg]
    simp only [hagree c]
    rw [ha, hw, hg, Cert.NormTie.refx]
  · rw [(h c).2.1, Cert.NormRefIdeal.Read.val_main_v17_eq, Cert.NormTie.arr5 m c a g ha hg]
    simp only [hagree c]
    rw [ha, hg, Cert.NormTie.refw]

/-! ### The loss -/

theorem loss_ref_frame : quiescent_LossRefIdeal := fun m ρ _ =>
  (θ_run Cert.LossRefIdeal.defs _ _).mono (fun r h => ⟨fun c => (h c).2.2.2, sem_eq_zero_of_no_sems (by decide) r.2⟩)
    (Cert.LossRefIdeal.Value.run (F := Ideal) m ρ)

theorem loss_value : algebraic_LossIdeal_LossRefIdeal_pre_loss_finite := by
  intro m ρ m' ρ' hpre hagree
  refine ⟨_, _, _, Cert.LossIdeal.Value.run_blocks (F := Ideal) m ρ, ?_⟩
  refine (θ_run Cert.LossRefIdeal.defs _ _).mono (fun _ h c => ⟨?_, ?_, ?_, (h c).2.2.2⟩) (Cert.LossRefIdeal.Value.run (F := Ideal) m' ρ')
  all_goals obtain ⟨⟨a, ha⟩, ⟨w, hw⟩, g, hg⟩ := Cert.LossTie.pre_real _ _ _ (hpre c)
  · rw [(h c).1, Cert.LossRefIdeal.Read.val_main_v53_eq, Cert.LossTie.arr3 m c a w g ha hw hg]
    simp only [hagree c]
    rw [ha, hw, hg, Cert.LossTie.refh]
  · rw [(h c).2.1, Cert.LossRefIdeal.Read.val_main_v54_eq, Cert.LossTie.arr4 m c a w g ha hw hg]
    simp only [hagree c]
    rw [ha, hw, hg, Cert.LossTie.refw]
  · rw [(h c).2.2.1, Cert.LossRefIdeal.Read.val_main_v55_eq, Cert.LossTie.arr5 m c a w g ha hw hg]
    simp only [hagree c]
    rw [ha, hw, hg, Cert.LossTie.refl']

/-! ### The gated product's gradient -/

theorem dact_ref_frame : quiescent_DactRefIdeal := fun m ρ _ =>
  (θ_run Cert.DactRefIdeal.defs _ _).mono (fun r h => ⟨fun c => (h c).2.2, sem_eq_zero_of_no_sems (by decide) r.2⟩)
    (Cert.DactRefIdeal.Value.run (F := Ideal) m ρ)

theorem dact_value : algebraic_DactIdeal_DactRefIdeal_pre_dact_finite := by
  intro m ρ m' ρ' hpre hagree
  refine ⟨_, _, Cert.DactIdeal.Value.run_blocks (F := Ideal) m ρ, ?_⟩
  refine (θ_run Cert.DactRefIdeal.defs _ _).mono (fun _ h c => ⟨?_, ?_, (h c).2.2⟩) (Cert.DactRefIdeal.Value.run (F := Ideal) m' ρ')
  all_goals obtain ⟨⟨g, hg⟩, ⟨u, hu⟩, ⟨w, hw⟩, a, ha⟩ := Cert.DactTie.pre_real _ _ _ _ (hpre c)
  · rw [(h c).1, Cert.DactRefIdeal.Read.val_main_v12_eq, Cert.DactTie.arr4 m c a w g u hg hu hw ha]
    simp only [hagree c]
    rw [ha, hw, hg, hu, Cert.DactTie.ref12]
  · rw [(h c).2.1, Cert.DactRefIdeal.Read.val_main_v14_eq, Cert.DactTie.arr5 m c a w g hg hw ha]
    simp only [hagree c]
    rw [ha, hw, hg, Cert.DactTie.ref14]

/-! ### The merge's gradient -/

theorem dmerge_ref_frame : quiescent_DmergeRefIdeal := fun m ρ _ =>
  (θ_run Cert.DmergeRefIdeal.defs _ _).mono (fun r h => ⟨fun c => (h c).2.2.2.2, sem_eq_zero_of_no_sems (by decide) r.2⟩)
    (Cert.DmergeRefIdeal.Value.run (F := Ideal) m ρ)

theorem dmerge_value : algebraic_DmergeIdeal_DmergeRefIdeal := by
  intro m ρ m' ρ' _ hagree
  refine ⟨_, _, _, _, Cert.DmergeIdeal.Value.run_blocks (F := Ideal) m ρ, ?_⟩
  refine (θ_run Cert.DmergeRefIdeal.defs _ _).mono (fun _ h c => ⟨?_, ?_, ?_, ?_, (h c).2.2.2.2⟩) (Cert.DmergeRefIdeal.Value.run (F := Ideal) m' ρ')
  · rw [(h c).1, Cert.DmergeRefIdeal.Read.val_main_v30_eq, Cert.DmergeTie.ref30, Cert.DmergeTie.arr6]
    simp only [hagree c]
  · rw [(h c).2.1, Cert.DmergeRefIdeal.Read.val_main_v32_eq, Cert.DmergeTie.ref32, Cert.DmergeTie.arr7]
    simp only [hagree c]
  · rw [(h c).2.2.1, Cert.DmergeRefIdeal.Read.val_main_v34_eq, Cert.DmergeTie.ref34, Cert.DmergeTie.arr8]
    simp only [hagree c]
  · rw [(h c).2.2.2.1, Cert.DmergeRefIdeal.Read.val_main_v36_eq, Cert.DmergeTie.ref36, Cert.DmergeTie.arr9]
    simp only [hagree c]

/-! ### The attention's gradient -/

theorem attn_ref_frame : quiescent_AttnRefIdeal := fun m ρ _ =>
  (θ_run Cert.AttnRefIdeal.defs _ _).mono (fun r h => ⟨fun c => (h c).2.2, sem_eq_zero_of_no_sems (by decide) r.2⟩)
    (Cert.AttnRefIdeal.Value.run (F := Ideal) m ρ)

theorem attn_value : algebraic_AttnIdeal_AttnRefIdeal_pre_attn_finite := by
  intro m ρ m' ρ' hpre hagree
  refine ⟨_, _, (θ_run Cert.AttnIdeal.defs _ _).mono (fun r h c => ⟨(h.1.1 c).1 6, (h.1.1 c).1 7, h.2.1 c⟩)
    (θ_run_and (Cert.AttnIdeal.Body.runs (F := Ideal) m ρ) (Cert.AttnIdeal.Body.kernel_frame m ρ)), ?_⟩
  refine (θ_run Cert.AttnRefIdeal.defs _ _).mono (fun _ h c => ⟨?_, ?_, (h c).2.2⟩) (Cert.AttnRefIdeal.Value.run (F := Ideal) m' ρ')
  all_goals obtain ⟨⟨a0, h0⟩, ⟨a1, h1⟩, ⟨a2, h2⟩, a3, h3⟩ := Cert.AttnTie.pre_real _ _ _ _ (hpre c)
  · rw [(h c).1, Cert.AttnRefIdeal.Read.val_main_v64_eq, Cert.AttnTie.arr6 (Cert.AttnTie.holds m c a0 a1 a2 a3 h0 h1 h2 h3)]
    simp only [hagree c]
    rw [h0, h1, h2, h3]
    exact (funext (Cert.AttnTie.out_q a0 a1 a2 a3)).symm
  · rw [(h c).2.1, Cert.AttnRefIdeal.Read.val_main_v69_eq, Cert.AttnTie.arr7 (Cert.AttnTie.holds m c a0 a1 a2 a3 h0 h1 h2 h3)]
    simp only [hagree c]
    rw [h0, h1, h2, h3]
    exact (funext (Cert.AttnTie.out_kv a0 a1 a2 a3)).symm

/-- The attention forward's reference runs to the end and leaves its arguments. -/
theorem afwd_ref_frame : quiescent_AfwdRefIdeal := fun m ρ _ =>
  (θ_run Cert.AfwdRefIdeal.defs _ _).mono
    (fun r h => ⟨fun c => (h c).2.2, sem_eq_zero_of_no_sems (by decide) r.2⟩) (Cert.AfwdRefIdeal.Value.run (F := Ideal) m ρ)

/-- The attention's output and its rows' log-sums, for finite queries, keys and values. -/
theorem afwd_value : algebraic_AfwdIdeal_AfwdRefIdeal_pre_afwd_finite := by
  intro m ρ m' ρ' hpre hagree
  refine ⟨_, _, Cert.AfwdIdeal.Value.run_blocks (F := Ideal) m ρ, ?_⟩
  refine (θ_run Cert.AfwdRefIdeal.defs _ _).mono (fun _ h c => ⟨?_, ?_, (h c).2.2⟩)
    (Cert.AfwdRefIdeal.Value.run (F := Ideal) m' ρ')
  all_goals obtain ⟨⟨a0, h0⟩, ⟨a1, h1⟩, a2, h2⟩ := Cert.AfwdTie.pre_real _ _ _ (hpre c)
  · rw [(h c).1, Cert.AfwdRefIdeal.Read.val_main_v53_eq, Cert.AfwdTie.arr3 m c a0 a1 a2 h0 h1 h2]
    simp only [hagree c]
    rw [h0, h1, h2]
    exact (funext (Cert.AfwdTie.outO_eq a0 a1 a2)).symm
  · rw [(h c).2.1, Cert.AfwdRefIdeal.Read.val_main_v54_eq, Cert.AfwdTie.arr4 m c a0 a1 a2 h0 h1 h2]
    simp only [hagree c]
    rw [h0, h1]
    exact (funext (Cert.AfwdTie.outL_eq a0 a1)).symm

/-- The latent projections' reference runs to the end and leaves its arguments. -/
theorem mla_ref_frame : quiescent_MlaRefIdeal := fun m ρ _ =>
  (θ_run Cert.MlaRefIdeal.defs _ _).mono
    (fun r h => ⟨fun c => (h c).2.2.2.2.2.2.2, sem_eq_zero_of_no_sems (by decide) r.2⟩) (Cert.MlaRefIdeal.Value.run (F := Ideal) m ρ)

/-- The recurrence's reference runs to the end and leaves its arguments. -/
theorem hg_ref_frame : quiescent_HgRefIdeal := fun m ρ _ =>
  (θ_run Cert.HgRefIdeal.defs _ _).mono
    (fun r h => ⟨fun c => (h c).2.2.2.2.2.2, sem_eq_zero_of_no_sems (by decide) r.2⟩) (Cert.HgRefIdeal.Value.run (F := Ideal) m ρ)

/-! ### The smaller forward calls -/

theorem nfwd_ref_frame : quiescent_NfwdRefIdeal := fun m ρ _ =>
  (θ_run Cert.NfwdRefIdeal.defs _ _).mono (fun r h => ⟨fun c => (h c).2, sem_eq_zero_of_no_sems (by decide) r.2⟩)
    (Cert.NfwdRefIdeal.Value.run (F := Ideal) m ρ)

theorem nfwd_value : algebraic_NfwdIdeal_NfwdRefIdeal := by
  intro m ρ m' ρ' _ hagree
  refine ⟨_, Cert.NfwdIdeal.Value.run_blocks (F := Ideal) m ρ, ?_⟩
  refine (θ_run Cert.NfwdRefIdeal.defs _ _).mono (fun _ h c => ⟨?_, (h c).2⟩) (Cert.NfwdRefIdeal.Value.run (F := Ideal) m' ρ')
  · rw [(h c).1, Cert.NfwdRefIdeal.Read.val_main_v13_eq, Cert.NfwdTie.ref13, Cert.NfwdTie.arr2]
    simp only [hagree c]

theorem act_ref_frame : quiescent_ActRefIdeal := fun m ρ _ =>
  (θ_run Cert.ActRefIdeal.defs _ _).mono (fun r h => ⟨fun c => (h c).2.2.2, sem_eq_zero_of_no_sems (by decide) r.2⟩)
    (Cert.ActRefIdeal.Value.run (F := Ideal) m ρ)

theorem act_value : algebraic_ActIdeal_ActRefIdeal := by
  intro m ρ m' ρ' _ hagree
  refine ⟨_, _, _, Cert.ActIdeal.Value.run_blocks (F := Ideal) m ρ, ?_⟩
  refine (θ_run Cert.ActRefIdeal.defs _ _).mono (fun _ h c => ⟨?_, ?_, ?_, (h c).2.2.2⟩) (Cert.ActRefIdeal.Value.run (F := Ideal) m' ρ')
  · rw [(h c).1, Cert.ActRefIdeal.Read.val_main_v4_eq, Cert.ActTie.ref4, Cert.ActTie.arr3]
    simp only [hagree c]
  · rw [(h c).2.1, Cert.ActRefIdeal.Read.val_main_v5_eq, Cert.ActTie.ref5, Cert.ActTie.arr4]
    simp only [hagree c]
  · rw [(h c).2.2.1, Cert.ActRefIdeal.Read.val_main_v8_eq, Cert.ActTie.ref8, Cert.ActTie.arr5]
    simp only [hagree c]

theorem down_ref_frame : quiescent_DownRefIdeal := fun m ρ _ =>
  (θ_run Cert.DownRefIdeal.defs _ _).mono (fun r h => ⟨fun c => (h c).2.2, sem_eq_zero_of_no_sems (by decide) r.2⟩)
    (Cert.DownRefIdeal.Value.run (F := Ideal) m ρ)

theorem down_value : algebraic_DownIdeal_DownRefIdeal := by
  intro m ρ m' ρ' _ hagree
  refine ⟨_, _, Cert.DownIdeal.Value.run_blocks (F := Ideal) m ρ, ?_⟩
  refine (θ_run Cert.DownRefIdeal.defs _ _).mono (fun _ h c => ⟨?_, ?_, (h c).2.2⟩) (Cert.DownRefIdeal.Value.run (F := Ideal) m' ρ')
  · rw [(h c).1, Cert.DownRefIdeal.Read.val_main_v5_eq, Cert.DownTie.ref5, Cert.DownTie.arr4]
    simp only [hagree c]
  · rw [(h c).2.1, Cert.DownRefIdeal.Read.val_main_v18_eq, Cert.DownTie.ref18, Cert.DownTie.arr5]
    simp only [hagree c]

theorem lbf_ref_frame : quiescent_LbfRefIdeal := fun m ρ _ =>
  (θ_run Cert.LbfRefIdeal.defs _ _).mono (fun r h => ⟨fun c => (h c).2, sem_eq_zero_of_no_sems (by decide) r.2⟩)
    (Cert.LbfRefIdeal.Value.run (F := Ideal) m ρ)

theorem lbf_value : algebraic_LbfIdeal_LbfRefIdeal_pre_lbf_finite := by
  intro m ρ m' ρ' hpre hagree
  refine ⟨_, Cert.LbfIdeal.Value.run (F := Ideal) m ρ, ?_⟩
  refine (θ_run Cert.LbfRefIdeal.defs _ _).mono (fun _ h c => ⟨?_, (h c).2⟩) (Cert.LbfRefIdeal.Value.run (F := Ideal) m' ρ')
  obtain ⟨a, ha⟩ := Cert.LbfTie.pre_real _ (hpre c)
  rw [(h c).1, Cert.LbfRefIdeal.Read.val_main_v14_eq]
  simp only [hagree c]
  rw [ha, Cert.LbfTie.kernel, Cert.LbfTie.ref]

theorem merge_ref_frame : quiescent_MergeRefIdeal := fun m ρ _ =>
  (θ_run Cert.MergeRefIdeal.defs _ _).mono (fun r h => ⟨fun c => (h c).2.2.2, sem_eq_zero_of_no_sems (by decide) r.2⟩)
    (Cert.MergeRefIdeal.Value.run (F := Ideal) m ρ)

theorem merge_value : algebraic_MergeIdeal_MergeRefIdeal := by
  intro m ρ m' ρ' _ hagree
  refine ⟨_, _, _, Cert.MergeIdeal.Value.run_blocks (F := Ideal) m ρ, ?_⟩
  refine (θ_run Cert.MergeRefIdeal.defs _ _).mono (fun _ h c => ⟨?_, ?_, ?_, (h c).2.2.2⟩) (Cert.MergeRefIdeal.Value.run (F := Ideal) m' ρ')
  · rw [(h c).1, Cert.MergeRefIdeal.Read.val_main_v21_eq, Cert.MergeTie.ref21, Cert.MergeTie.arr6]
    simp only [hagree c]
  · rw [(h c).2.1, Cert.MergeRefIdeal.Read.val_main_v22_eq, Cert.MergeTie.ref22, Cert.MergeTie.arr7]
    simp only [hagree c]
  · rw [(h c).2.2.1, Cert.MergeRefIdeal.Read.val_main_v23_eq, Cert.MergeTie.ref23, Cert.MergeTie.arr8]
    simp only [hagree c]

theorem out_ref_frame : quiescent_OutRefIdeal := fun m ρ _ =>
  (θ_run Cert.OutRefIdeal.defs _ _).mono (fun r h => ⟨fun c => (h c).2.2, sem_eq_zero_of_no_sems (by decide) r.2⟩)
    (Cert.OutRefIdeal.Value.run (F := Ideal) m ρ)

theorem out_value : algebraic_OutIdeal_OutRefIdeal := by
  intro m ρ m' ρ' _ hagree
  refine ⟨_, _, Cert.OutIdeal.Value.run_blocks (F := Ideal) m ρ, ?_⟩
  refine (θ_run Cert.OutRefIdeal.defs _ _).mono (fun _ h c => ⟨?_, ?_, (h c).2.2⟩) (Cert.OutRefIdeal.Value.run (F := Ideal) m' ρ')
  · rw [(h c).1, Cert.OutRefIdeal.Read.val_main_v3_eq, Cert.OutTie.ref3, Cert.OutTie.arr4]
    simp only [hagree c]
  · rw [(h c).2.1, Cert.OutRefIdeal.Read.val_main_v16_eq, Cert.OutTie.ref16, Cert.OutTie.arr5]
    simp only [hagree c]

theorem dxn_ref_frame : quiescent_DxnRefIdeal := fun m ρ _ =>
  (θ_run Cert.DxnRefIdeal.defs _ _).mono (fun r h => ⟨fun c => (h c).2, sem_eq_zero_of_no_sems (by decide) r.2⟩)
    (Cert.DxnRefIdeal.Value.run (F := Ideal) m ρ)

theorem dxn_value : algebraic_DxnIdeal_DxnRefIdeal := by
  intro m ρ m' ρ' _ hagree
  refine ⟨_, Cert.DxnIdeal.Value.run_blocks (F := Ideal) m ρ, ?_⟩
  refine (θ_run Cert.DxnRefIdeal.defs _ _).mono (fun _ h c => ⟨?_, (h c).2⟩) (Cert.DxnRefIdeal.Value.run (F := Ideal) m' ρ')
  · rw [(h c).1, Cert.DxnRefIdeal.Read.val_main_v6_eq, Cert.DxnTie.ref6, Cert.DxnTie.arr4]
    simp only [hagree c]

theorem sum_ref_frame : quiescent_SumRefIdeal := fun m ρ _ =>
  (θ_run Cert.SumRefIdeal.defs _ _).mono (fun r h => ⟨fun c => (h c).2, sem_eq_zero_of_no_sems (by decide) r.2⟩)
    (Cert.SumRefIdeal.Value.run (F := Ideal) m ρ)

theorem sum_value : algebraic_SumIdeal_SumRefIdeal := by
  intro m ρ m' ρ' _ hagree
  refine ⟨_, Cert.SumIdeal.Value.run_blocks (F := Ideal) m ρ, ?_⟩
  refine (θ_run Cert.SumRefIdeal.defs _ _).mono (fun _ h c => ⟨?_, (h c).2⟩) (Cert.SumRefIdeal.Value.run (F := Ideal) m' ρ')
  · rw [(h c).1, Cert.SumRefIdeal.Read.val_main_v0_eq, Cert.SumTie.ref0, Cert.SumTie.arr1]
    simp only [hagree c]

theorem adam_ref_frame : quiescent_AdamRefIdeal := fun m ρ _ =>
  (θ_run Cert.AdamRefIdeal.defs _ _).mono (fun r h => ⟨fun c => (h c).2.2.2.2, sem_eq_zero_of_no_sems (by decide) r.2⟩)
    (Cert.AdamRefIdeal.Value.run (F := Ideal) m ρ)

theorem adam_value : algebraic_AdamIdeal_AdamRefIdeal := by
  intro m ρ m' ρ' _ hagree
  refine ⟨_, _, _, _, Cert.AdamIdeal.Value.run_blocks (F := Ideal) m ρ, ?_⟩
  refine (θ_run Cert.AdamRefIdeal.defs _ _).mono (fun _ h c => ⟨?_, ?_, ?_, ?_, (h c).2.2.2.2⟩) (Cert.AdamRefIdeal.Value.run (F := Ideal) m' ρ')
  · rw [(h c).1, Cert.AdamRefIdeal.Read.val_main_v0_eq, Cert.AdamTie.ref0, Cert.AdamTie.arr4]
    simp only [hagree c]
  · rw [(h c).2.1, Cert.AdamRefIdeal.Read.val_main_v24_eq, Cert.AdamTie.ref24, Cert.AdamTie.arr5]
    simp only [hagree c]
  · rw [(h c).2.2.1, Cert.AdamRefIdeal.Read.val_main_v5_eq, Cert.AdamTie.ref5, Cert.AdamTie.arr6]
    simp only [hagree c]
  · rw [(h c).2.2.2.1, Cert.AdamRefIdeal.Read.val_main_v11_eq, Cert.AdamTie.ref11, Cert.AdamTie.arr7]
    simp only [hagree c]

theorem asmall_ref_frame : quiescent_AsmallRefIdeal := fun m ρ _ =>
  (θ_run Cert.AsmallRefIdeal.defs _ _).mono (fun r h => ⟨fun c => (h c).2.2.2, sem_eq_zero_of_no_sems (by decide) r.2⟩)
    (Cert.AsmallRefIdeal.Value.run (F := Ideal) m ρ)

theorem asmall_value : algebraic_AsmallIdeal_AsmallRefIdeal := by
  intro m ρ m' ρ' _ hagree
  refine ⟨_, _, _, Cert.AsmallIdeal.Value.run_blocks (F := Ideal) m ρ, ?_⟩
  refine (θ_run Cert.AsmallRefIdeal.defs _ _).mono (fun _ h c => ⟨?_, ?_, ?_, (h c).2.2.2⟩) (Cert.AsmallRefIdeal.Value.run (F := Ideal) m' ρ')
  · rw [(h c).1, Cert.AsmallRefIdeal.Read.val_main_v23_eq, Cert.AsmallTie.ref23, Cert.AsmallTie.arr4]
    simp only [hagree c]
  · rw [(h c).2.1, Cert.AsmallRefIdeal.Read.val_main_v4_eq, Cert.AsmallTie.ref4, Cert.AsmallTie.arr5]
    simp only [hagree c]
  · rw [(h c).2.2.1, Cert.AsmallRefIdeal.Read.val_main_v10_eq, Cert.AsmallTie.ref10, Cert.AsmallTie.arr6]
    simp only [hagree c]

theorem front_ref_frame : quiescent_FrontRefIdeal := fun m ρ _ =>
  (θ_run Cert.FrontRefIdeal.defs _ _).mono (fun r h => ⟨fun c => (h c).2.2.2.2.2, sem_eq_zero_of_no_sems (by decide) r.2⟩)
    (Cert.FrontRefIdeal.Value.run (F := Ideal) m ρ)

theorem claim : Cert.Claim := ⟨Cert.Lb.Gen.facts, Cert.LbIdeal.Gen.facts, Cert.LbRefIdeal.Gen.facts, Cert.Norm.Gen.facts, Cert.NormIdeal.Gen.facts,
  Cert.NormRefIdeal.Gen.facts, Cert.Loss.Gen.facts, Cert.LossIdeal.Gen.facts, Cert.LossRefIdeal.Gen.facts, Cert.Dact.Gen.facts,
  Cert.DactIdeal.Gen.facts, Cert.DactRefIdeal.Gen.facts, Cert.Dmerge.Gen.facts, Cert.DmergeIdeal.Gen.facts, Cert.DmergeRefIdeal.Gen.facts,
  Cert.Attn.Gen.facts, Cert.AttnIdeal.Gen.facts, Cert.AttnRefIdeal.Gen.facts,
  Cert.Afwd.Gen.facts, Cert.AfwdIdeal.Gen.facts, Cert.AfwdRefIdeal.Gen.facts,
  Cert.Mla.Gen.facts, Cert.MlaIdeal.Gen.facts, Cert.MlaRefIdeal.Gen.facts, Cert.Hg.Gen.facts, Cert.HgIdeal.Gen.facts, Cert.HgRefIdeal.Gen.facts,
  Cert.Nfwd.Gen.facts, Cert.NfwdIdeal.Gen.facts, Cert.NfwdRefIdeal.Gen.facts,
  Cert.Act.Gen.facts, Cert.ActIdeal.Gen.facts, Cert.ActRefIdeal.Gen.facts,
  Cert.Down.Gen.facts, Cert.DownIdeal.Gen.facts, Cert.DownRefIdeal.Gen.facts,
  Cert.Lbf.Gen.facts, Cert.LbfIdeal.Gen.facts, Cert.LbfRefIdeal.Gen.facts,
  Cert.Merge.Gen.facts, Cert.MergeIdeal.Gen.facts, Cert.MergeRefIdeal.Gen.facts,
  Cert.Out.Gen.facts, Cert.OutIdeal.Gen.facts, Cert.OutRefIdeal.Gen.facts,
  Cert.Dxn.Gen.facts, Cert.DxnIdeal.Gen.facts, Cert.DxnRefIdeal.Gen.facts,
  Cert.Sum.Gen.facts, Cert.SumIdeal.Gen.facts, Cert.SumRefIdeal.Gen.facts,
  Cert.Adam.Gen.facts, Cert.AdamIdeal.Gen.facts, Cert.AdamRefIdeal.Gen.facts,
  Cert.Asmall.Gen.facts, Cert.AsmallIdeal.Gen.facts, Cert.AsmallRefIdeal.Gen.facts,
  Cert.Front.Gen.facts, Cert.FrontIdeal.Gen.facts, Cert.FrontRefIdeal.Gen.facts,
  Cert.Pre_lb_finite.Gen.facts, Cert.Pre_norm_finite.Gen.facts, Cert.Pre_loss_finite.Gen.facts, Cert.Pre_dact_finite.Gen.facts, Cert.Pre_attn_finite.Gen.facts, Cert.Pre_afwd_finite.Gen.facts, Cert.Pre_lbf_finite.Gen.facts,
  fun m ρ _ => Cert.Lb.Gen.frame m ρ, fun m ρ _ => Cert.LbIdeal.Gen.frame m ρ, fun m ρ _ => Cert.LbIdeal.Gen.frame m ρ, lb_ref_frame, fun m ρ _ => lb_ref_frame m ρ trivial,
  fun m ρ _ => Cert.Norm.Gen.frame m ρ, fun m ρ _ => Cert.NormIdeal.Gen.frame m ρ, fun m ρ _ => Cert.NormIdeal.Gen.frame m ρ, norm_ref_frame, fun m ρ _ => norm_ref_frame m ρ trivial,
  fun m ρ _ => Cert.Loss.Gen.frame m ρ, fun m ρ _ => Cert.LossIdeal.Gen.frame m ρ, fun m ρ _ => Cert.LossIdeal.Gen.frame m ρ, loss_ref_frame, fun m ρ _ => loss_ref_frame m ρ trivial,
  fun m ρ _ => Cert.Dact.Gen.frame m ρ, fun m ρ _ => Cert.DactIdeal.Gen.frame m ρ, fun m ρ _ => Cert.DactIdeal.Gen.frame m ρ, dact_ref_frame, fun m ρ _ => dact_ref_frame m ρ trivial,
  fun m ρ _ => Cert.Dmerge.Gen.frame m ρ, fun m ρ _ => Cert.DmergeIdeal.Gen.frame m ρ, dmerge_ref_frame,
  Cert.AttnIdeal.Body.bits_frame, fun m ρ _ => Cert.AttnIdeal.Body.kernel_frame m ρ, fun m ρ _ => Cert.AttnIdeal.Body.kernel_frame m ρ, attn_ref_frame, fun m ρ _ => attn_ref_frame m ρ trivial,
  fun m ρ _ => Cert.Afwd.Gen.frame m ρ, fun m ρ _ => Cert.AfwdIdeal.Gen.frame m ρ, fun m ρ _ => Cert.AfwdIdeal.Gen.frame m ρ, afwd_ref_frame, fun m ρ _ => afwd_ref_frame m ρ trivial,
  fun m ρ _ => Cert.Mla.Gen.frame m ρ, fun m ρ _ => Cert.MlaIdeal.Gen.frame m ρ, mla_ref_frame,
  fun m ρ _ => Cert.Hg.Gen.frame m ρ, fun m ρ _ => Cert.HgIdeal.Gen.frame m ρ, hg_ref_frame,
  fun m ρ _ => Cert.Nfwd.Gen.frame m ρ, fun m ρ _ => Cert.NfwdIdeal.Gen.frame m ρ, nfwd_ref_frame,
  fun m ρ _ => Cert.Act.Gen.frame m ρ, fun m ρ _ => Cert.ActIdeal.Gen.frame m ρ, act_ref_frame,
  fun m ρ _ => Cert.Down.Gen.frame m ρ, fun m ρ _ => Cert.DownIdeal.Gen.frame m ρ, down_ref_frame,
  fun m ρ _ => Cert.Lbf.Gen.frame m ρ, fun m ρ _ => Cert.LbfIdeal.Gen.frame m ρ, fun m ρ _ => Cert.LbfIdeal.Gen.frame m ρ, lbf_ref_frame, fun m ρ _ => lbf_ref_frame m ρ trivial,
  fun m ρ _ => Cert.Merge.Gen.frame m ρ, fun m ρ _ => Cert.MergeIdeal.Gen.frame m ρ, merge_ref_frame,
  fun m ρ _ => Cert.Out.Gen.frame m ρ, fun m ρ _ => Cert.OutIdeal.Gen.frame m ρ, out_ref_frame,
  fun m ρ _ => Cert.Dxn.Gen.frame m ρ, fun m ρ _ => Cert.DxnIdeal.Gen.frame m ρ, dxn_ref_frame,
  fun m ρ _ => Cert.Sum.Gen.frame m ρ, fun m ρ _ => Cert.SumIdeal.Gen.frame m ρ, sum_ref_frame,
  fun m ρ _ => Cert.Adam.Gen.frame m ρ, fun m ρ _ => Cert.AdamIdeal.Gen.frame m ρ, adam_ref_frame,
  fun m ρ _ => Cert.Asmall.Gen.frame m ρ, fun m ρ _ => Cert.AsmallIdeal.Gen.frame m ρ, asmall_ref_frame,
  fun m ρ _ => Cert.Front.Gen.frame m ρ, fun m ρ _ => Cert.FrontIdeal.Gen.frame m ρ, front_ref_frame,
  (trivial : preserves_Lb_LbIdeal), lb_value,
  (trivial : preserves_Norm_NormIdeal), norm_value,
  (trivial : preserves_Loss_LossIdeal), loss_value,
  (trivial : preserves_Dact_DactIdeal), dact_value,
  (trivial : preserves_Dmerge_DmergeIdeal), dmerge_value,
  ⟨⟨rfl, fun _ => rfl, rfl⟩, ⟨rfl, fun _ => rfl, rfl⟩⟩, attn_value,
  ⟨⟨rfl, fun _ => rfl, rfl⟩, ⟨rfl, fun _ => rfl, rfl⟩, ⟨rfl, fun _ => rfl, rfl⟩⟩, afwd_value,
  ⟨rfl, fun _ => rfl, rfl⟩, ⟨rfl, fun _ => rfl, rfl⟩,
  (trivial : preserves_Nfwd_NfwdIdeal), nfwd_value,
  (trivial : preserves_Act_ActIdeal), act_value,
  (trivial : preserves_Down_DownIdeal), down_value,
  (trivial : preserves_Lbf_LbfIdeal), lbf_value,
  (trivial : preserves_Merge_MergeIdeal), merge_value,
  (trivial : preserves_Out_OutIdeal), out_value,
  (trivial : preserves_Dxn_DxnIdeal), dxn_value,
  (trivial : preserves_Sum_SumIdeal), sum_value,
  (trivial : preserves_Adam_AdamIdeal), adam_value,
  (trivial : preserves_Asmall_AsmallIdeal), asmall_value,
  (trivial : preserves_Front_FrontIdeal)⟩

end Cert.Proof

end
